-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32 : Shape := ⟨1, ![32]⟩
abbrev S32768x512 : Shape := ⟨2, ![32768, 512]⟩
abbrev S16x4 : Shape := ⟨2, ![16, 4]⟩
abbrev S1 : Shape := ⟨1, ![1]⟩
abbrev S_ : Shape := ⟨0, ![]⟩
abbrev S1x1 : Shape := ⟨2, ![1, 1]⟩
abbrev S256x512 : Shape := ⟨2, ![256, 512]⟩

abbrev nBuf : Space → Nat
  | .hbm => 4
  | .vmem => 2
  | .smem => 2
  | _ => 0

abbrev bufTy : (tb : Table) → Fin (tcTables nBuf tb) → BufTy
  | .hbm, ⟨0, _⟩ => ⟨S1024x512, .bf16⟩
  | .hbm, ⟨1, _⟩ => ⟨S32, .i32⟩
  | .hbm, ⟨2, _⟩ => ⟨S32, .i32⟩
  | .hbm, ⟨3, _⟩ => ⟨S32768x512, .bf16⟩
  | .local _ .vmem, ⟨0, _⟩ => ⟨S1024x512, .bf16⟩
  | .local _ .vmem, ⟨1, _⟩ => ⟨S32768x512, .bf16⟩
  | .local _ .smem, ⟨0, _⟩ => ⟨S32, .i32⟩
  | .local _ .smem, ⟨1, _⟩ => ⟨S32, .i32⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev cc0_stg2_0 : Ref sig .tc := ⟨.vmem, 0, rfl⟩
abbrev cc0_stg3_0 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c32_i32_2 : BitVec 32 := 32#32
  let v9 : BitVec 32 := Scalar.addi v4 c32_i32_2
  let c1_i32_3 : BitVec 32 := 1#32
  let v10 : BitVec 32 := Scalar.subi v9 c1_i32_3
  let c32_i32_4 : BitVec 32 := 32#32
  let v11 : BitVec 32 := Scalar.remsi v10 c32_i32_4
  let v12 : Index := Scalar.indexCast v11
  ![v12.toNat]
def k0_dev1 (v13 : BitVec 32) : Nat :=
  let c0_i32 : BitVec 32 := 0#32
  let c1_i32_6 : BitVec 32 := 1#32
  let v15 : BitVec 32 := Scalar.muli v13 c1_i32_6
  let v16 : BitVec 32 := Scalar.addi c0_i32 v15
  v16.toNat

def k0_dev2 (v8 : BitVec 32) : Nat :=
  let c0_i32_9 : BitVec 32 := 0#32
  let c1_i32_8 : BitVec 32 := 1#32
  let v17 : BitVec 32 := Scalar.muli v8 c1_i32_8
  let v18 : BitVec 32 := Scalar.addi c0_i32_9 v17
  v18.toNat

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32 : BitVec 32 := 1024#32
  let v21 : BitVec 32 := Scalar.muli v2 c1024_i32
  let v22 : Index := Scalar.indexCast v21
  let c0_11 : Index := 0#32
  ![v22.toNat, 0]
def k0_off5 (v4 : BitVec 32) : Fin 1 → Nat :=
  let c0_i32_12 : BitVec 32 := 0#32
  let v24 : BitVec 32 := Scalar.subi v4 c0_i32_12
  let c32_i32_13 : BitVec 32 := 32#32
  let v25 : BitVec 32 := Scalar.addi v24 c32_i32_13
  let c32_i32_14 : BitVec 32 := 32#32
  let v26 : BitVec 32 := Scalar.remsi v25 c32_i32_14
  let v27 : Index := Scalar.indexCast v26
  ![v27.toNat]
def k0_off6 (v28 : BitVec 32) : Fin 2 → Nat :=
  let c1024_i32_15 : BitVec 32 := 1024#32
  let v29 : BitVec 32 := Scalar.muli v28 c1024_i32_15
  let c0_i32_16 : BitVec 32 := 0#32
  let v30 : BitVec 32 := Scalar.addi v29 c0_i32_16
  let c0_i32_23 : BitVec 32 := 0#32
  ![v30.toNat, 0]

def k0_chk4 (v28 : BitVec 32) : Prop :=
  (∀ a, (k0_off6 v28) a + S256x512.size a ≤ S32768x512.size a) ∧
  (∀ (hinb : ∀ a, (k0_off6 v28) a + S256x512.size a ≤ S32768x512.size a), (Rect.unit (s := S32768x512) (k0_off6 v28) S256x512.size hinb).WholeWords (EltTy.packing .bf16))
theorem k0_off6_inb : ∀ (v28 : BitVec 32) (k0_hw4 : k0_chk4 v28), ∀ a, (k0_off6 v28) a + S256x512.size a ≤ S32768x512.size a := fun v28 k0_hw4 => k0_hw4.1
theorem k0_off6_wordsbf16 : ∀ (v28 : BitVec 32) (k0_hw4 : k0_chk4 v28), (Rect.unit (s := S32768x512) (k0_off6 v28) S256x512.size (k0_off6_inb v28 k0_hw4)).WholeWords (EltTy.packing .bf16) := fun v28 k0_hw4 => k0_hw4.2 (k0_off6_inb v28 k0_hw4)

def k0_dev3 (v8 : BitVec 32) : Nat :=
  let c0_i32_22 : BitVec 32 := 0#32
  let c1_i32_21 : BitVec 32 := 1#32
  let v31 : BitVec 32 := Scalar.muli v8 c1_i32_21
  let v32 : BitVec 32 := Scalar.addi c0_i32_22 v31
  v32.toNat
def k0_off7 (v4 : BitVec 32) : Fin 1 → Nat :=
  let c0_i32_25 : BitVec 32 := 0#32
  let v39 : BitVec 32 := Scalar.subi v4 c0_i32_25
  let c32_i32_26 : BitVec 32 := 32#32
  let v40 : BitVec 32 := Scalar.addi v39 c32_i32_26
  let c32_i32_27 : BitVec 32 := 32#32
  let v41 : BitVec 32 := Scalar.remsi v40 c32_i32_27
  let v42 : Index := Scalar.indexCast v41
  ![v42.toNat]
def k0_off8 (v43 : BitVec 32) : Fin 2 → Nat :=
  let c1024_i32_28 : BitVec 32 := 1024#32
  let v44 : BitVec 32 := Scalar.muli v43 c1024_i32_28
  let c256_i32 : BitVec 32 := 256#32
  let v45 : BitVec 32 := Scalar.addi v44 c256_i32
  let c0_i32_35 : BitVec 32 := 0#32
  ![v45.toNat, 0]

def k0_chk5 (v43 : BitVec 32) : Prop :=
  (∀ a, (k0_off8 v43) a + S256x512.size a ≤ S32768x512.size a) ∧
  (∀ (hinb : ∀ a, (k0_off8 v43) a + S256x512.size a ≤ S32768x512.size a), (Rect.unit (s := S32768x512) (k0_off8 v43) S256x512.size hinb).WholeWords (EltTy.packing .bf16))
theorem k0_off8_inb : ∀ (v43 : BitVec 32) (k0_hw5 : k0_chk5 v43), ∀ a, (k0_off8 v43) a + S256x512.size a ≤ S32768x512.size a := fun v43 k0_hw5 => k0_hw5.1
theorem k0_off8_wordsbf16 : ∀ (v43 : BitVec 32) (k0_hw5 : k0_chk5 v43), (Rect.unit (s := S32768x512) (k0_off8 v43) S256x512.size (k0_off8_inb v43 k0_hw5)).WholeWords (EltTy.packing .bf16) := fun v43 k0_hw5 => k0_hw5.2 (k0_off8_inb v43 k0_hw5)

def k0_dev4 (v8 : BitVec 32) : Nat :=
  let c0_i32_34 : BitVec 32 := 0#32
  let c1_i32_33 : BitVec 32 := 1#32
  let v46 : BitVec 32 := Scalar.muli v8 c1_i32_33
  let v47 : BitVec 32 := Scalar.addi c0_i32_34 v46
  v47.toNat
def k0_off9 (v4 : BitVec 32) : Fin 1 → Nat :=
  let c0_i32_37 : BitVec 32 := 0#32
  let v54 : BitVec 32 := Scalar.subi v4 c0_i32_37
  let c32_i32_38 : BitVec 32 := 32#32
  let v55 : BitVec 32 := Scalar.addi v54 c32_i32_38
  let c32_i32_39 : BitVec 32 := 32#32
  let v56 : BitVec 32 := Scalar.remsi v55 c32_i32_39
  let v57 : Index := Scalar.indexCast v56
  ![v57.toNat]
def k0_off10 (v58 : BitVec 32) : Fin 2 → Nat :=
  let c1024_i32_40 : BitVec 32 := 1024#32
  let v59 : BitVec 32 := Scalar.muli v58 c1024_i32_40
  let c512_i32 : BitVec 32 := 512#32
  let v60 : BitVec 32 := Scalar.addi v59 c512_i32
  let c0_i32_47 : BitVec 32 := 0#32
  ![v60.toNat, 0]

def k0_chk6 (v58 : BitVec 32) : Prop :=
  (∀ a, (k0_off10 v58) a + S256x512.size a ≤ S32768x512.size a) ∧
  (∀ (hinb : ∀ a, (k0_off10 v58) a + S256x512.size a ≤ S32768x512.size a), (Rect.unit (s := S32768x512) (k0_off10 v58) S256x512.size hinb).WholeWords (EltTy.packing .bf16))
theorem k0_off10_inb : ∀ (v58 : BitVec 32) (k0_hw6 : k0_chk6 v58), ∀ a, (k0_off10 v58) a + S256x512.size a ≤ S32768x512.size a := fun v58 k0_hw6 => k0_hw6.1
theorem k0_off10_wordsbf16 : ∀ (v58 : BitVec 32) (k0_hw6 : k0_chk6 v58), (Rect.unit (s := S32768x512) (k0_off10 v58) S256x512.size (k0_off10_inb v58 k0_hw6)).WholeWords (EltTy.packing .bf16) := fun v58 k0_hw6 => k0_hw6.2 (k0_off10_inb v58 k0_hw6)

def k0_dev5 (v8 : BitVec 32) : Nat :=
  let c0_i32_46 : BitVec 32 := 0#32
  let c1_i32_45 : BitVec 32 := 1#32
  let v61 : BitVec 32 := Scalar.muli v8 c1_i32_45
  let v62 : BitVec 32 := Scalar.addi c0_i32_46 v61
  v62.toNat
def k0_off11 (v4 : BitVec 32) : Fin 1 → Nat :=
  let c0_i32_49 : BitVec 32 := 0#32
  let v69 : BitVec 32 := Scalar.subi v4 c0_i32_49
  let c32_i32_50 : BitVec 32 := 32#32
  let v70 : BitVec 32 := Scalar.addi v69 c32_i32_50
  let c32_i32_51 : BitVec 32 := 32#32
  let v71 : BitVec 32 := Scalar.remsi v70 c32_i32_51
  let v72 : Index := Scalar.indexCast v71
  ![v72.toNat]
def k0_off12 (v73 : BitVec 32) : Fin 2 → Nat :=
  let c1024_i32_52 : BitVec 32 := 1024#32
  let v74 : BitVec 32 := Scalar.muli v73 c1024_i32_52
  let c768_i32 : BitVec 32 := 768#32
  let v75 : BitVec 32 := Scalar.addi v74 c768_i32
  let c0_i32_58 : BitVec 32 := 0#32
  ![v75.toNat, 0]

def k0_chk7 (v73 : BitVec 32) : Prop :=
  (∀ a, (k0_off12 v73) a + S256x512.size a ≤ S32768x512.size a) ∧
  (∀ (hinb : ∀ a, (k0_off12 v73) a + S256x512.size a ≤ S32768x512.size a), (Rect.unit (s := S32768x512) (k0_off12 v73) S256x512.size hinb).WholeWords (EltTy.packing .bf16))
theorem k0_off12_inb : ∀ (v73 : BitVec 32) (k0_hw7 : k0_chk7 v73), ∀ a, (k0_off12 v73) a + S256x512.size a ≤ S32768x512.size a := fun v73 k0_hw7 => k0_hw7.1
theorem k0_off12_wordsbf16 : ∀ (v73 : BitVec 32) (k0_hw7 : k0_chk7 v73), (Rect.unit (s := S32768x512) (k0_off12 v73) S256x512.size (k0_off12_inb v73 k0_hw7)).WholeWords (EltTy.packing .bf16) := fun v73 k0_hw7 => k0_hw7.2 (k0_off12_inb v73 k0_hw7)

def k0_dev6 (v8 : BitVec 32) : Nat :=
  let c0_i32_57 : BitVec 32 := 0#32
  let c1_i32_56 : BitVec 32 := 1#32
  let v76 : BitVec 32 := Scalar.muli v8 c1_i32_56
  let v77 : BitVec 32 := Scalar.addi c0_i32_57 v76
  v77.toNat
def k0_off13 (v4 : BitVec 32) : Fin 1 → Nat :=
  let c0_i32_60 : BitVec 32 := 0#32
  let v84 : BitVec 32 := Scalar.addi v4 c0_i32_60
  let c32_i32_61 : BitVec 32 := 32#32
  let v85 : BitVec 32 := Scalar.remsi v84 c32_i32_61
  let v86 : Index := Scalar.indexCast v85
  ![v86.toNat]
def k0_off14 (v87 : BitVec 32) : Fin 2 → Nat :=
  let c1024_i32_62 : BitVec 32 := 1024#32
  let v88 : BitVec 32 := Scalar.muli v87 c1024_i32_62
  let c0_i32_63 : BitVec 32 := 0#32
  let v89 : BitVec 32 := Scalar.addi v88 c0_i32_63
  let c0_i32_70 : BitVec 32 := 0#32
  ![v89.toNat, 0]

def k0_chk8 (v87 : BitVec 32) : Prop :=
  (∀ a, (k0_off14 v87) a + S256x512.size a ≤ S32768x512.size a) ∧
  (∀ (hinb : ∀ a, (k0_off14 v87) a + S256x512.size a ≤ S32768x512.size a), (Rect.unit (s := S32768x512) (k0_off14 v87) S256x512.size hinb).WholeWords (EltTy.packing .bf16))
theorem k0_off14_inb : ∀ (v87 : BitVec 32) (k0_hw8 : k0_chk8 v87), ∀ a, (k0_off14 v87) a + S256x512.size a ≤ S32768x512.size a := fun v87 k0_hw8 => k0_hw8.1
theorem k0_off14_wordsbf16 : ∀ (v87 : BitVec 32) (k0_hw8 : k0_chk8 v87), (Rect.unit (s := S32768x512) (k0_off14 v87) S256x512.size (k0_off14_inb v87 k0_hw8)).WholeWords (EltTy.packing .bf16) := fun v87 k0_hw8 => k0_hw8.2 (k0_off14_inb v87 k0_hw8)

def k0_dev7 (v13 : BitVec 32) : Nat :=
  let c0_i32_69 : BitVec 32 := 0#32
  let c1_i32_68 : BitVec 32 := 1#32
  let v90 : BitVec 32 := Scalar.muli v13 c1_i32_68
  let v91 : BitVec 32 := Scalar.addi c0_i32_69 v90
  v91.toNat
def k0_off15 (v4 : BitVec 32) : Fin 1 → Nat :=
  let c0_i32_72 : BitVec 32 := 0#32
  let v98 : BitVec 32 := Scalar.addi v4 c0_i32_72
  let c32_i32_73 : BitVec 32 := 32#32
  let v99 : BitVec 32 := Scalar.remsi v98 c32_i32_73
  let v100 : Index := Scalar.indexCast v99
  ![v100.toNat]
def k0_off16 (v101 : BitVec 32) : Fin 2 → Nat :=
  let c1024_i32_74 : BitVec 32 := 1024#32
  let v102 : BitVec 32 := Scalar.muli v101 c1024_i32_74
  let c256_i32_75 : BitVec 32 := 256#32
  let v103 : BitVec 32 := Scalar.addi v102 c256_i32_75
  let c0_i32_82 : BitVec 32 := 0#32
  ![v103.toNat, 0]

def k0_chk9 (v101 : BitVec 32) : Prop :=
  (∀ a, (k0_off16 v101) a + S256x512.size a ≤ S32768x512.size a) ∧
  (∀ (hinb : ∀ a, (k0_off16 v101) a + S256x512.size a ≤ S32768x512.size a), (Rect.unit (s := S32768x512) (k0_off16 v101) S256x512.size hinb).WholeWords (EltTy.packing .bf16))
theorem k0_off16_inb : ∀ (v101 : BitVec 32) (k0_hw9 : k0_chk9 v101), ∀ a, (k0_off16 v101) a + S256x512.size a ≤ S32768x512.size a := fun v101 k0_hw9 => k0_hw9.1
theorem k0_off16_wordsbf16 : ∀ (v101 : BitVec 32) (k0_hw9 : k0_chk9 v101), (Rect.unit (s := S32768x512) (k0_off16 v101) S256x512.size (k0_off16_inb v101 k0_hw9)).WholeWords (EltTy.packing .bf16) := fun v101 k0_hw9 => k0_hw9.2 (k0_off16_inb v101 k0_hw9)

def k0_dev8 (v13 : BitVec 32) : Nat :=
  let c0_i32_81 : BitVec 32 := 0#32
  let c1_i32_80 : BitVec 32 := 1#32
  let v104 : BitVec 32 := Scalar.muli v13 c1_i32_80
  let v105 : BitVec 32 := Scalar.addi c0_i32_81 v104
  v105.toNat
def k0_off17 (v4 : BitVec 32) : Fin 1 → Nat :=
  let c0_i32_84 : BitVec 32 := 0#32
  let v112 : BitVec 32 := Scalar.addi v4 c0_i32_84
  let c32_i32_85 : BitVec 32 := 32#32
  let v113 : BitVec 32 := Scalar.remsi v112 c32_i32_85
  let v114 : Index := Scalar.indexCast v113
  ![v114.toNat]
def k0_off18 (v115 : BitVec 32) : Fin 2 → Nat :=
  let c1024_i32_86 : BitVec 32 := 1024#32
  let v116 : BitVec 32 := Scalar.muli v115 c1024_i32_86
  let c512_i32_87 : BitVec 32 := 512#32
  let v117 : BitVec 32 := Scalar.addi v116 c512_i32_87
  let c0_i32_94 : BitVec 32 := 0#32
  ![v117.toNat, 0]

def k0_chk10 (v115 : BitVec 32) : Prop :=
  (∀ a, (k0_off18 v115) a + S256x512.size a ≤ S32768x512.size a) ∧
  (∀ (hinb : ∀ a, (k0_off18 v115) a + S256x512.size a ≤ S32768x512.size a), (Rect.unit (s := S32768x512) (k0_off18 v115) S256x512.size hinb).WholeWords (EltTy.packing .bf16))
theorem k0_off18_inb : ∀ (v115 : BitVec 32) (k0_hw10 : k0_chk10 v115), ∀ a, (k0_off18 v115) a + S256x512.size a ≤ S32768x512.size a := fun v115 k0_hw10 => k0_hw10.1
theorem k0_off18_wordsbf16 : ∀ (v115 : BitVec 32) (k0_hw10 : k0_chk10 v115), (Rect.unit (s := S32768x512) (k0_off18 v115) S256x512.size (k0_off18_inb v115 k0_hw10)).WholeWords (EltTy.packing .bf16) := fun v115 k0_hw10 => k0_hw10.2 (k0_off18_inb v115 k0_hw10)

def k0_dev9 (v13 : BitVec 32) : Nat :=
  let c0_i32_93 : BitVec 32 := 0#32
  let c1_i32_92 : BitVec 32 := 1#32
  let v118 : BitVec 32 := Scalar.muli v13 c1_i32_92
  let v119 : BitVec 32 := Scalar.addi c0_i32_93 v118
  v119.toNat
def k0_off19 (v4 : BitVec 32) : Fin 1 → Nat :=
  let c0_i32_96 : BitVec 32 := 0#32
  let v126 : BitVec 32 := Scalar.addi v4 c0_i32_96
  let c32_i32_97 : BitVec 32 := 32#32
  let v127 : BitVec 32 := Scalar.remsi v126 c32_i32_97
  let v128 : Index := Scalar.indexCast v127
  ![v128.toNat]
def k0_off20 (v129 : BitVec 32) : Fin 2 → Nat :=
  let c1024_i32_98 : BitVec 32 := 1024#32
  let v130 : BitVec 32 := Scalar.muli v129 c1024_i32_98
  let c768_i32_99 : BitVec 32 := 768#32
  let v131 : BitVec 32 := Scalar.addi v130 c768_i32_99
  let c0_i32_106 : BitVec 32 := 0#32
  ![v131.toNat, 0]

def k0_chk11 (v129 : BitVec 32) : Prop :=
  (∀ a, (k0_off20 v129) a + S256x512.size a ≤ S32768x512.size a) ∧
  (∀ (hinb : ∀ a, (k0_off20 v129) a + S256x512.size a ≤ S32768x512.size a), (Rect.unit (s := S32768x512) (k0_off20 v129) S256x512.size hinb).WholeWords (EltTy.packing .bf16))
theorem k0_off20_inb : ∀ (v129 : BitVec 32) (k0_hw11 : k0_chk11 v129), ∀ a, (k0_off20 v129) a + S256x512.size a ≤ S32768x512.size a := fun v129 k0_hw11 => k0_hw11.1
theorem k0_off20_wordsbf16 : ∀ (v129 : BitVec 32) (k0_hw11 : k0_chk11 v129), (Rect.unit (s := S32768x512) (k0_off20 v129) S256x512.size (k0_off20_inb v129 k0_hw11)).WholeWords (EltTy.packing .bf16) := fun v129 k0_hw11 => k0_hw11.2 (k0_off20_inb v129 k0_hw11)

def k0_dev10 (v13 : BitVec 32) : Nat :=
  let c0_i32_105 : BitVec 32 := 0#32
  let c1_i32_104 : BitVec 32 := 1#32
  let v132 : BitVec 32 := Scalar.muli v13 c1_i32_104
  let v133 : BitVec 32 := Scalar.addi c0_i32_105 v132
  v133.toNat
def k0_off21 (v4 : BitVec 32) : Fin 1 → Nat :=
  let c0_i32_108 : BitVec 32 := 0#32
  let v140 : BitVec 32 := Scalar.subi v4 c0_i32_108
  let c32_i32_109 : BitVec 32 := 32#32
  let v141 : BitVec 32 := Scalar.addi v140 c32_i32_109
  let c32_i32_110 : BitVec 32 := 32#32
  let v142 : BitVec 32 := Scalar.remsi v141 c32_i32_110
  let v143 : Index := Scalar.indexCast v142
  ![v143.toNat]
def k0_off22 (v144 : BitVec 32) : Fin 2 → Nat :=
  let c1024_i32_111 : BitVec 32 := 1024#32
  let v145 : BitVec 32 := Scalar.muli v144 c1024_i32_111
  let c0_i32_112 : BitVec 32 := 0#32
  let v146 : BitVec 32 := Scalar.addi v145 c0_i32_112
  let c0_i32_119 : BitVec 32 := 0#32
  ![v146.toNat, 0]

def k0_chk12 (v144 : BitVec 32) : Prop :=
  (∀ a, (k0_off22 v144) a + S256x512.size a ≤ S32768x512.size a) ∧
  (∀ (hinb : ∀ a, (k0_off22 v144) a + S256x512.size a ≤ S32768x512.size a), (Rect.unit (s := S32768x512) (k0_off22 v144) S256x512.size hinb).WholeWords (EltTy.packing .bf16))
theorem k0_off22_inb : ∀ (v144 : BitVec 32) (k0_hw12 : k0_chk12 v144), ∀ a, (k0_off22 v144) a + S256x512.size a ≤ S32768x512.size a := fun v144 k0_hw12 => k0_hw12.1
theorem k0_off22_wordsbf16 : ∀ (v144 : BitVec 32) (k0_hw12 : k0_chk12 v144), (Rect.unit (s := S32768x512) (k0_off22 v144) S256x512.size (k0_off22_inb v144 k0_hw12)).WholeWords (EltTy.packing .bf16) := fun v144 k0_hw12 => k0_hw12.2 (k0_off22_inb v144 k0_hw12)

def k0_off23 (v4 : BitVec 32) : Fin 1 → Nat :=
  let c1_i32_121 : BitVec 32 := 1#32
  let v153 : BitVec 32 := Scalar.subi v4 c1_i32_121
  let c32_i32_122 : BitVec 32 := 32#32
  let v154 : BitVec 32 := Scalar.addi v153 c32_i32_122
  let c32_i32_123 : BitVec 32 := 32#32
  let v155 : BitVec 32 := Scalar.remsi v154 c32_i32_123
  let v156 : Index := Scalar.indexCast v155
  ![v156.toNat]
def k0_off24 (v157 : BitVec 32) : Fin 2 → Nat :=
  let c1024_i32_124 : BitVec 32 := 1024#32
  let v158 : BitVec 32 := Scalar.muli v157 c1024_i32_124
  let c0_i32_125 : BitVec 32 := 0#32
  let v159 : BitVec 32 := Scalar.addi v158 c0_i32_125
  let c0_i32_132 : BitVec 32 := 0#32
  ![v159.toNat, 0]

def k0_chk13 (v157 : BitVec 32) : Prop :=
  (∀ a, (k0_off24 v157) a + S256x512.size a ≤ S32768x512.size a) ∧
  (∀ (hinb : ∀ a, (k0_off24 v157) a + S256x512.size a ≤ S32768x512.size a), (Rect.unit (s := S32768x512) (k0_off24 v157) S256x512.size hinb).WholeWords (EltTy.packing .bf16))
theorem k0_off24_inb : ∀ (v157 : BitVec 32) (k0_hw13 : k0_chk13 v157), ∀ a, (k0_off24 v157) a + S256x512.size a ≤ S32768x512.size a := fun v157 k0_hw13 => k0_hw13.1
theorem k0_off24_wordsbf16 : ∀ (v157 : BitVec 32) (k0_hw13 : k0_chk13 v157), (Rect.unit (s := S32768x512) (k0_off24 v157) S256x512.size (k0_off24_inb v157 k0_hw13)).WholeWords (EltTy.packing .bf16) := fun v157 k0_hw13 => k0_hw13.2 (k0_off24_inb v157 k0_hw13)

def k0_dev11 (v8 : BitVec 32) : Nat :=
  let c0_i32_131 : BitVec 32 := 0#32
  let c1_i32_130 : BitVec 32 := 1#32
  let v160 : BitVec 32 := Scalar.muli v8 c1_i32_130
  let v161 : BitVec 32 := Scalar.addi c0_i32_131 v160
  v161.toNat
def k0_off25 (v4 : BitVec 32) : Fin 1 → Nat :=
  let c0_i32_134 : BitVec 32 := 0#32
  let v168 : BitVec 32 := Scalar.addi v4 c0_i32_134
  let c32_i32_135 : BitVec 32 := 32#32
  let v169 : BitVec 32 := Scalar.remsi v168 c32_i32_135
  let v170 : Index := Scalar.indexCast v169
  ![v170.toNat]
def k0_off26 (v171 : BitVec 32) : Fin 2 → Nat :=
  let c1024_i32_136 : BitVec 32 := 1024#32
  let v172 : BitVec 32 := Scalar.muli v171 c1024_i32_136
  let c0_i32_137 : BitVec 32 := 0#32
  let v173 : BitVec 32 := Scalar.addi v172 c0_i32_137
  let c0_i32_144 : BitVec 32 := 0#32
  ![v173.toNat, 0]

def k0_chk14 (v171 : BitVec 32) : Prop :=
  (∀ a, (k0_off26 v171) a + S256x512.size a ≤ S32768x512.size a) ∧
  (∀ (hinb : ∀ a, (k0_off26 v171) a + S256x512.size a ≤ S32768x512.size a), (Rect.unit (s := S32768x512) (k0_off26 v171) S256x512.size hinb).WholeWords (EltTy.packing .bf16))
theorem k0_off26_inb : ∀ (v171 : BitVec 32) (k0_hw14 : k0_chk14 v171), ∀ a, (k0_off26 v171) a + S256x512.size a ≤ S32768x512.size a := fun v171 k0_hw14 => k0_hw14.1
theorem k0_off26_wordsbf16 : ∀ (v171 : BitVec 32) (k0_hw14 : k0_chk14 v171), (Rect.unit (s := S32768x512) (k0_off26 v171) S256x512.size (k0_off26_inb v171 k0_hw14)).WholeWords (EltTy.packing .bf16) := fun v171 k0_hw14 => k0_hw14.2 (k0_off26_inb v171 k0_hw14)

def k0_off27 (v4 : BitVec 32) : Fin 1 → Nat :=
  let c1_i32_146 : BitVec 32 := 1#32
  let v180 : BitVec 32 := Scalar.addi v4 c1_i32_146
  let c32_i32_147 : BitVec 32 := 32#32
  let v181 : BitVec 32 := Scalar.remsi v180 c32_i32_147
  let v182 : Index := Scalar.indexCast v181
  ![v182.toNat]
def k0_off28 (v183 : BitVec 32) : Fin 2 → Nat :=
  let c1024_i32_148 : BitVec 32 := 1024#32
  let v184 : BitVec 32 := Scalar.muli v183 c1024_i32_148
  let c0_i32_149 : BitVec 32 := 0#32
  let v185 : BitVec 32 := Scalar.addi v184 c0_i32_149
  let c0_i32_156 : BitVec 32 := 0#32
  ![v185.toNat, 0]

def k0_chk15 (v183 : BitVec 32) : Prop :=
  (∀ a, (k0_off28 v183) a + S256x512.size a ≤ S32768x512.size a) ∧
  (∀ (hinb : ∀ a, (k0_off28 v183) a + S256x512.size a ≤ S32768x512.size a), (Rect.unit (s := S32768x512) (k0_off28 v183) S256x512.size hinb).WholeWords (EltTy.packing .bf16))
theorem k0_off28_inb : ∀ (v183 : BitVec 32) (k0_hw15 : k0_chk15 v183), ∀ a, (k0_off28 v183) a + S256x512.size a ≤ S32768x512.size a := fun v183 k0_hw15 => k0_hw15.1
theorem k0_off28_wordsbf16 : ∀ (v183 : BitVec 32) (k0_hw15 : k0_chk15 v183), (Rect.unit (s := S32768x512) (k0_off28 v183) S256x512.size (k0_off28_inb v183 k0_hw15)).WholeWords (EltTy.packing .bf16) := fun v183 k0_hw15 => k0_hw15.2 (k0_off28_inb v183 k0_hw15)

def k0_dev12 (v13 : BitVec 32) : Nat :=
  let c0_i32_155 : BitVec 32 := 0#32
  let c1_i32_154 : BitVec 32 := 1#32
  let v186 : BitVec 32 := Scalar.muli v13 c1_i32_154
  let v187 : BitVec 32 := Scalar.addi c0_i32_155 v186
  v187.toNat
def k0_off29 (v4 : BitVec 32) : Fin 1 → Nat :=
  let c0_i32_158 : BitVec 32 := 0#32
  let v194 : BitVec 32 := Scalar.subi v4 c0_i32_158
  let c32_i32_159 : BitVec 32 := 32#32
  let v195 : BitVec 32 := Scalar.addi v194 c32_i32_159
  let c32_i32_160 : BitVec 32 := 32#32
  let v196 : BitVec 32 := Scalar.remsi v195 c32_i32_160
  let v197 : Index := Scalar.indexCast v196
  ![v197.toNat]
def k0_off30 (v198 : BitVec 32) : Fin 2 → Nat :=
  let c1024_i32_161 : BitVec 32 := 1024#32
  let v199 : BitVec 32 := Scalar.muli v198 c1024_i32_161
  let c256_i32_162 : BitVec 32 := 256#32
  let v200 : BitVec 32 := Scalar.addi v199 c256_i32_162
  let c0_i32_169 : BitVec 32 := 0#32
  ![v200.toNat, 0]

def k0_chk16 (v198 : BitVec 32) : Prop :=
  (∀ a, (k0_off30 v198) a + S256x512.size a ≤ S32768x512.size a) ∧
  (∀ (hinb : ∀ a, (k0_off30 v198) a + S256x512.size a ≤ S32768x512.size a), (Rect.unit (s := S32768x512) (k0_off30 v198) S256x512.size hinb).WholeWords (EltTy.packing .bf16))
theorem k0_off30_inb : ∀ (v198 : BitVec 32) (k0_hw16 : k0_chk16 v198), ∀ a, (k0_off30 v198) a + S256x512.size a ≤ S32768x512.size a := fun v198 k0_hw16 => k0_hw16.1
theorem k0_off30_wordsbf16 : ∀ (v198 : BitVec 32) (k0_hw16 : k0_chk16 v198), (Rect.unit (s := S32768x512) (k0_off30 v198) S256x512.size (k0_off30_inb v198 k0_hw16)).WholeWords (EltTy.packing .bf16) := fun v198 k0_hw16 => k0_hw16.2 (k0_off30_inb v198 k0_hw16)

def k0_off31 (v4 : BitVec 32) : Fin 1 → Nat :=
  let c1_i32_171 : BitVec 32 := 1#32
  let v207 : BitVec 32 := Scalar.subi v4 c1_i32_171
  let c32_i32_172 : BitVec 32 := 32#32
  let v208 : BitVec 32 := Scalar.addi v207 c32_i32_172
  let c32_i32_173 : BitVec 32 := 32#32
  let v209 : BitVec 32 := Scalar.remsi v208 c32_i32_173
  let v210 : Index := Scalar.indexCast v209
  ![v210.toNat]
def k0_off32 (v211 : BitVec 32) : Fin 2 → Nat :=
  let c1024_i32_174 : BitVec 32 := 1024#32
  let v212 : BitVec 32 := Scalar.muli v211 c1024_i32_174
  let c256_i32_175 : BitVec 32 := 256#32
  let v213 : BitVec 32 := Scalar.addi v212 c256_i32_175
  let c0_i32_182 : BitVec 32 := 0#32
  ![v213.toNat, 0]

def k0_chk17 (v211 : BitVec 32) : Prop :=
  (∀ a, (k0_off32 v211) a + S256x512.size a ≤ S32768x512.size a) ∧
  (∀ (hinb : ∀ a, (k0_off32 v211) a + S256x512.size a ≤ S32768x512.size a), (Rect.unit (s := S32768x512) (k0_off32 v211) S256x512.size hinb).WholeWords (EltTy.packing .bf16))
theorem k0_off32_inb : ∀ (v211 : BitVec 32) (k0_hw17 : k0_chk17 v211), ∀ a, (k0_off32 v211) a + S256x512.size a ≤ S32768x512.size a := fun v211 k0_hw17 => k0_hw17.1
theorem k0_off32_wordsbf16 : ∀ (v211 : BitVec 32) (k0_hw17 : k0_chk17 v211), (Rect.unit (s := S32768x512) (k0_off32 v211) S256x512.size (k0_off32_inb v211 k0_hw17)).WholeWords (EltTy.packing .bf16) := fun v211 k0_hw17 => k0_hw17.2 (k0_off32_inb v211 k0_hw17)

def k0_dev13 (v8 : BitVec 32) : Nat :=
  let c0_i32_181 : BitVec 32 := 0#32
  let c1_i32_180 : BitVec 32 := 1#32
  let v214 : BitVec 32 := Scalar.muli v8 c1_i32_180
  let v215 : BitVec 32 := Scalar.addi c0_i32_181 v214
  v215.toNat
def k0_off33 (v4 : BitVec 32) : Fin 1 → Nat :=
  let c0_i32_184 : BitVec 32 := 0#32
  let v222 : BitVec 32 := Scalar.addi v4 c0_i32_184
  let c32_i32_185 : BitVec 32 := 32#32
  let v223 : BitVec 32 := Scalar.remsi v222 c32_i32_185
  let v224 : Index := Scalar.indexCast v223
  ![v224.toNat]
def k0_off34 (v225 : BitVec 32) : Fin 2 → Nat :=
  let c1024_i32_186 : BitVec 32 := 1024#32
  let v226 : BitVec 32 := Scalar.muli v225 c1024_i32_186
  let c256_i32_187 : BitVec 32 := 256#32
  let v227 : BitVec 32 := Scalar.addi v226 c256_i32_187
  let c0_i32_194 : BitVec 32 := 0#32
  ![v227.toNat, 0]

def k0_chk18 (v225 : BitVec 32) : Prop :=
  (∀ a, (k0_off34 v225) a + S256x512.size a ≤ S32768x512.size a) ∧
  (∀ (hinb : ∀ a, (k0_off34 v225) a + S256x512.size a ≤ S32768x512.size a), (Rect.unit (s := S32768x512) (k0_off34 v225) S256x512.size hinb).WholeWords (EltTy.packing .bf16))
theorem k0_off34_inb : ∀ (v225 : BitVec 32) (k0_hw18 : k0_chk18 v225), ∀ a, (k0_off34 v225) a + S256x512.size a ≤ S32768x512.size a := fun v225 k0_hw18 => k0_hw18.1
theorem k0_off34_wordsbf16 : ∀ (v225 : BitVec 32) (k0_hw18 : k0_chk18 v225), (Rect.unit (s := S32768x512) (k0_off34 v225) S256x512.size (k0_off34_inb v225 k0_hw18)).WholeWords (EltTy.packing .bf16) := fun v225 k0_hw18 => k0_hw18.2 (k0_off34_inb v225 k0_hw18)

def k0_off35 (v4 : BitVec 32) : Fin 1 → Nat :=
  let c1_i32_196 : BitVec 32 := 1#32
  let v234 : BitVec 32 := Scalar.addi v4 c1_i32_196
  let c32_i32_197 : BitVec 32 := 32#32
  let v235 : BitVec 32 := Scalar.remsi v234 c32_i32_197
  let v236 : Index := Scalar.indexCast v235
  ![v236.toNat]
def k0_off36 (v237 : BitVec 32) : Fin 2 → Nat :=
  let c1024_i32_198 : BitVec 32 := 1024#32
  let v238 : BitVec 32 := Scalar.muli v237 c1024_i32_198
  let c256_i32_199 : BitVec 32 := 256#32
  let v239 : BitVec 32 := Scalar.addi v238 c256_i32_199
  let c0_i32_206 : BitVec 32 := 0#32
  ![v239.toNat, 0]

def k0_chk19 (v237 : BitVec 32) : Prop :=
  (∀ a, (k0_off36 v237) a + S256x512.size a ≤ S32768x512.size a) ∧
  (∀ (hinb : ∀ a, (k0_off36 v237) a + S256x512.size a ≤ S32768x512.size a), (Rect.unit (s := S32768x512) (k0_off36 v237) S256x512.size hinb).WholeWords (EltTy.packing .bf16))
theorem k0_off36_inb : ∀ (v237 : BitVec 32) (k0_hw19 : k0_chk19 v237), ∀ a, (k0_off36 v237) a + S256x512.size a ≤ S32768x512.size a := fun v237 k0_hw19 => k0_hw19.1
theorem k0_off36_wordsbf16 : ∀ (v237 : BitVec 32) (k0_hw19 : k0_chk19 v237), (Rect.unit (s := S32768x512) (k0_off36 v237) S256x512.size (k0_off36_inb v237 k0_hw19)).WholeWords (EltTy.packing .bf16) := fun v237 k0_hw19 => k0_hw19.2 (k0_off36_inb v237 k0_hw19)

def k0_dev14 (v13 : BitVec 32) : Nat :=
  let c0_i32_205 : BitVec 32 := 0#32
  let c1_i32_204 : BitVec 32 := 1#32
  let v240 : BitVec 32 := Scalar.muli v13 c1_i32_204
  let v241 : BitVec 32 := Scalar.addi c0_i32_205 v240
  v241.toNat
def k0_off37 (v4 : BitVec 32) : Fin 1 → Nat :=
  let c0_i32_208 : BitVec 32 := 0#32
  let v248 : BitVec 32 := Scalar.subi v4 c0_i32_208
  let c32_i32_209 : BitVec 32 := 32#32
  let v249 : BitVec 32 := Scalar.addi v248 c32_i32_209
  let c32_i32_210 : BitVec 32 := 32#32
  let v250 : BitVec 32 := Scalar.remsi v249 c32_i32_210
  let v251 : Index := Scalar.indexCast v250
  ![v251.toNat]
def k0_off38 (v252 : BitVec 32) : Fin 2 → Nat :=
  let c1024_i32_211 : BitVec 32 := 1024#32
  let v253 : BitVec 32 := Scalar.muli v252 c1024_i32_211
  let c512_i32_212 : BitVec 32 := 512#32
  let v254 : BitVec 32 := Scalar.addi v253 c512_i32_212
  let c0_i32_219 : BitVec 32 := 0#32
  ![v254.toNat, 0]

def k0_chk20 (v252 : BitVec 32) : Prop :=
  (∀ a, (k0_off38 v252) a + S256x512.size a ≤ S32768x512.size a) ∧
  (∀ (hinb : ∀ a, (k0_off38 v252) a + S256x512.size a ≤ S32768x512.size a), (Rect.unit (s := S32768x512) (k0_off38 v252) S256x512.size hinb).WholeWords (EltTy.packing .bf16))
theorem k0_off38_inb : ∀ (v252 : BitVec 32) (k0_hw20 : k0_chk20 v252), ∀ a, (k0_off38 v252) a + S256x512.size a ≤ S32768x512.size a := fun v252 k0_hw20 => k0_hw20.1
theorem k0_off38_wordsbf16 : ∀ (v252 : BitVec 32) (k0_hw20 : k0_chk20 v252), (Rect.unit (s := S32768x512) (k0_off38 v252) S256x512.size (k0_off38_inb v252 k0_hw20)).WholeWords (EltTy.packing .bf16) := fun v252 k0_hw20 => k0_hw20.2 (k0_off38_inb v252 k0_hw20)

def k0_off39 (v4 : BitVec 32) : Fin 1 → Nat :=
  let c1_i32_221 : BitVec 32 := 1#32
  let v261 : BitVec 32 := Scalar.subi v4 c1_i32_221
  let c32_i32_222 : BitVec 32 := 32#32
  let v262 : BitVec 32 := Scalar.addi v261 c32_i32_222
  let c32_i32_223 : BitVec 32 := 32#32
  let v263 : BitVec 32 := Scalar.remsi v262 c32_i32_223
  let v264 : Index := Scalar.indexCast v263
  ![v264.toNat]
def k0_off40 (v265 : BitVec 32) : Fin 2 → Nat :=
  let c1024_i32_224 : BitVec 32 := 1024#32
  let v266 : BitVec 32 := Scalar.muli v265 c1024_i32_224
  let c512_i32_225 : BitVec 32 := 512#32
  let v267 : BitVec 32 := Scalar.addi v266 c512_i32_225
  let c0_i32_232 : BitVec 32 := 0#32
  ![v267.toNat, 0]

def k0_chk21 (v265 : BitVec 32) : Prop :=
  (∀ a, (k0_off40 v265) a + S256x512.size a ≤ S32768x512.size a) ∧
  (∀ (hinb : ∀ a, (k0_off40 v265) a + S256x512.size a ≤ S32768x512.size a), (Rect.unit (s := S32768x512) (k0_off40 v265) S256x512.size hinb).WholeWords (EltTy.packing .bf16))
theorem k0_off40_inb : ∀ (v265 : BitVec 32) (k0_hw21 : k0_chk21 v265), ∀ a, (k0_off40 v265) a + S256x512.size a ≤ S32768x512.size a := fun v265 k0_hw21 => k0_hw21.1
theorem k0_off40_wordsbf16 : ∀ (v265 : BitVec 32) (k0_hw21 : k0_chk21 v265), (Rect.unit (s := S32768x512) (k0_off40 v265) S256x512.size (k0_off40_inb v265 k0_hw21)).WholeWords (EltTy.packing .bf16) := fun v265 k0_hw21 => k0_hw21.2 (k0_off40_inb v265 k0_hw21)

def k0_dev15 (v8 : BitVec 32) : Nat :=
  let c0_i32_231 : BitVec 32 := 0#32
  let c1_i32_230 : BitVec 32 := 1#32
  let v268 : BitVec 32 := Scalar.muli v8 c1_i32_230
  let v269 : BitVec 32 := Scalar.addi c0_i32_231 v268
  v269.toNat
def k0_off41 (v4 : BitVec 32) : Fin 1 → Nat :=
  let c0_i32_234 : BitVec 32 := 0#32
  let v276 : BitVec 32 := Scalar.addi v4 c0_i32_234
  let c32_i32_235 : BitVec 32 := 32#32
  let v277 : BitVec 32 := Scalar.remsi v276 c32_i32_235
  let v278 : Index := Scalar.indexCast v277
  ![v278.toNat]
def k0_off42 (v279 : BitVec 32) : Fin 2 → Nat :=
  let c1024_i32_236 : BitVec 32 := 1024#32
  let v280 : BitVec 32 := Scalar.muli v279 c1024_i32_236
  let c512_i32_237 : BitVec 32 := 512#32
  let v281 : BitVec 32 := Scalar.addi v280 c512_i32_237
  let c0_i32_244 : BitVec 32 := 0#32
  ![v281.toNat, 0]

def k0_chk22 (v279 : BitVec 32) : Prop :=
  (∀ a, (k0_off42 v279) a + S256x512.size a ≤ S32768x512.size a) ∧
  (∀ (hinb : ∀ a, (k0_off42 v279) a + S256x512.size a ≤ S32768x512.size a), (Rect.unit (s := S32768x512) (k0_off42 v279) S256x512.size hinb).WholeWords (EltTy.packing .bf16))
theorem k0_off42_inb : ∀ (v279 : BitVec 32) (k0_hw22 : k0_chk22 v279), ∀ a, (k0_off42 v279) a + S256x512.size a ≤ S32768x512.size a := fun v279 k0_hw22 => k0_hw22.1
theorem k0_off42_wordsbf16 : ∀ (v279 : BitVec 32) (k0_hw22 : k0_chk22 v279), (Rect.unit (s := S32768x512) (k0_off42 v279) S256x512.size (k0_off42_inb v279 k0_hw22)).WholeWords (EltTy.packing .bf16) := fun v279 k0_hw22 => k0_hw22.2 (k0_off42_inb v279 k0_hw22)

def k0_off43 (v4 : BitVec 32) : Fin 1 → Nat :=
  let c1_i32_246 : BitVec 32 := 1#32
  let v288 : BitVec 32 := Scalar.addi v4 c1_i32_246
  let c32_i32_247 : BitVec 32 := 32#32
  let v289 : BitVec 32 := Scalar.remsi v288 c32_i32_247
  let v290 : Index := Scalar.indexCast v289
  ![v290.toNat]
def k0_off44 (v291 : BitVec 32) : Fin 2 → Nat :=
  let c1024_i32_248 : BitVec 32 := 1024#32
  let v292 : BitVec 32 := Scalar.muli v291 c1024_i32_248
  let c512_i32_249 : BitVec 32 := 512#32
  let v293 : BitVec 32 := Scalar.addi v292 c512_i32_249
  let c0_i32_256 : BitVec 32 := 0#32
  ![v293.toNat, 0]

def k0_chk23 (v291 : BitVec 32) : Prop :=
  (∀ a, (k0_off44 v291) a + S256x512.size a ≤ S32768x512.size a) ∧
  (∀ (hinb : ∀ a, (k0_off44 v291) a + S256x512.size a ≤ S32768x512.size a), (Rect.unit (s := S32768x512) (k0_off44 v291) S256x512.size hinb).WholeWords (EltTy.packing .bf16))
theorem k0_off44_inb : ∀ (v291 : BitVec 32) (k0_hw23 : k0_chk23 v291), ∀ a, (k0_off44 v291) a + S256x512.size a ≤ S32768x512.size a := fun v291 k0_hw23 => k0_hw23.1
theorem k0_off44_wordsbf16 : ∀ (v291 : BitVec 32) (k0_hw23 : k0_chk23 v291), (Rect.unit (s := S32768x512) (k0_off44 v291) S256x512.size (k0_off44_inb v291 k0_hw23)).WholeWords (EltTy.packing .bf16) := fun v291 k0_hw23 => k0_hw23.2 (k0_off44_inb v291 k0_hw23)

def k0_dev16 (v13 : BitVec 32) : Nat :=
  let c0_i32_255 : BitVec 32 := 0#32
  let c1_i32_254 : BitVec 32 := 1#32
  let v294 : BitVec 32 := Scalar.muli v13 c1_i32_254
  let v295 : BitVec 32 := Scalar.addi c0_i32_255 v294
  v295.toNat
def k0_off45 (v4 : BitVec 32) : Fin 1 → Nat :=
  let c0_i32_258 : BitVec 32 := 0#32
  let v302 : BitVec 32 := Scalar.subi v4 c0_i32_258
  let c32_i32_259 : BitVec 32 := 32#32
  let v303 : BitVec 32 := Scalar.addi v302 c32_i32_259
  let c32_i32_260 : BitVec 32 := 32#32
  let v304 : BitVec 32 := Scalar.remsi v303 c32_i32_260
  let v305 : Index := Scalar.indexCast v304
  ![v305.toNat]
def k0_off46 (v306 : BitVec 32) : Fin 2 → Nat :=
  let c1024_i32_261 : BitVec 32 := 1024#32
  let v307 : BitVec 32 := Scalar.muli v306 c1024_i32_261
  let c768_i32_262 : BitVec 32 := 768#32
  let v308 : BitVec 32 := Scalar.addi v307 c768_i32_262
  let c0_i32_269 : BitVec 32 := 0#32
  ![v308.toNat, 0]

def k0_chk24 (v306 : BitVec 32) : Prop :=
  (∀ a, (k0_off46 v306) a + S256x512.size a ≤ S32768x512.size a) ∧
  (∀ (hinb : ∀ a, (k0_off46 v306) a + S256x512.size a ≤ S32768x512.size a), (Rect.unit (s := S32768x512) (k0_off46 v306) S256x512.size hinb).WholeWords (EltTy.packing .bf16))
theorem k0_off46_inb : ∀ (v306 : BitVec 32) (k0_hw24 : k0_chk24 v306), ∀ a, (k0_off46 v306) a + S256x512.size a ≤ S32768x512.size a := fun v306 k0_hw24 => k0_hw24.1
theorem k0_off46_wordsbf16 : ∀ (v306 : BitVec 32) (k0_hw24 : k0_chk24 v306), (Rect.unit (s := S32768x512) (k0_off46 v306) S256x512.size (k0_off46_inb v306 k0_hw24)).WholeWords (EltTy.packing .bf16) := fun v306 k0_hw24 => k0_hw24.2 (k0_off46_inb v306 k0_hw24)

def k0_off47 (v4 : BitVec 32) : Fin 1 → Nat :=
  let c1_i32_271 : BitVec 32 := 1#32
  let v315 : BitVec 32 := Scalar.subi v4 c1_i32_271
  let c32_i32_272 : BitVec 32 := 32#32
  let v316 : BitVec 32 := Scalar.addi v315 c32_i32_272
  let c32_i32_273 : BitVec 32 := 32#32
  let v317 : BitVec 32 := Scalar.remsi v316 c32_i32_273
  let v318 : Index := Scalar.indexCast v317
  ![v318.toNat]
def k0_off48 (v319 : BitVec 32) : Fin 2 → Nat :=
  let c1024_i32_274 : BitVec 32 := 1024#32
  let v320 : BitVec 32 := Scalar.muli v319 c1024_i32_274
  let c768_i32_275 : BitVec 32 := 768#32
  let v321 : BitVec 32 := Scalar.addi v320 c768_i32_275
  let c0_i32_282 : BitVec 32 := 0#32
  ![v321.toNat, 0]

def k0_chk25 (v319 : BitVec 32) : Prop :=
  (∀ a, (k0_off48 v319) a + S256x512.size a ≤ S32768x512.size a) ∧
  (∀ (hinb : ∀ a, (k0_off48 v319) a + S256x512.size a ≤ S32768x512.size a), (Rect.unit (s := S32768x512) (k0_off48 v319) S256x512.size hinb).WholeWords (EltTy.packing .bf16))
theorem k0_off48_inb : ∀ (v319 : BitVec 32) (k0_hw25 : k0_chk25 v319), ∀ a, (k0_off48 v319) a + S256x512.size a ≤ S32768x512.size a := fun v319 k0_hw25 => k0_hw25.1
theorem k0_off48_wordsbf16 : ∀ (v319 : BitVec 32) (k0_hw25 : k0_chk25 v319), (Rect.unit (s := S32768x512) (k0_off48 v319) S256x512.size (k0_off48_inb v319 k0_hw25)).WholeWords (EltTy.packing .bf16) := fun v319 k0_hw25 => k0_hw25.2 (k0_off48_inb v319 k0_hw25)

def k0_dev17 (v8 : BitVec 32) : Nat :=
  let c0_i32_281 : BitVec 32 := 0#32
  let c1_i32_280 : BitVec 32 := 1#32
  let v322 : BitVec 32 := Scalar.muli v8 c1_i32_280
  let v323 : BitVec 32 := Scalar.addi c0_i32_281 v322
  v323.toNat
def k0_off49 (v4 : BitVec 32) : Fin 1 → Nat :=
  let c0_i32_284 : BitVec 32 := 0#32
  let v330 : BitVec 32 := Scalar.addi v4 c0_i32_284
  let c32_i32_285 : BitVec 32 := 32#32
  let v331 : BitVec 32 := Scalar.remsi v330 c32_i32_285
  let v332 : Index := Scalar.indexCast v331
  ![v332.toNat]
def k0_off50 (v333 : BitVec 32) : Fin 2 → Nat :=
  let c1024_i32_286 : BitVec 32 := 1024#32
  let v334 : BitVec 32 := Scalar.muli v333 c1024_i32_286
  let c768_i32_287 : BitVec 32 := 768#32
  let v335 : BitVec 32 := Scalar.addi v334 c768_i32_287
  let c0_i32_294 : BitVec 32 := 0#32
  ![v335.toNat, 0]

def k0_chk26 (v333 : BitVec 32) : Prop :=
  (∀ a, (k0_off50 v333) a + S256x512.size a ≤ S32768x512.size a) ∧
  (∀ (hinb : ∀ a, (k0_off50 v333) a + S256x512.size a ≤ S32768x512.size a), (Rect.unit (s := S32768x512) (k0_off50 v333) S256x512.size hinb).WholeWords (EltTy.packing .bf16))
theorem k0_off50_inb : ∀ (v333 : BitVec 32) (k0_hw26 : k0_chk26 v333), ∀ a, (k0_off50 v333) a + S256x512.size a ≤ S32768x512.size a := fun v333 k0_hw26 => k0_hw26.1
theorem k0_off50_wordsbf16 : ∀ (v333 : BitVec 32) (k0_hw26 : k0_chk26 v333), (Rect.unit (s := S32768x512) (k0_off50 v333) S256x512.size (k0_off50_inb v333 k0_hw26)).WholeWords (EltTy.packing .bf16) := fun v333 k0_hw26 => k0_hw26.2 (k0_off50_inb v333 k0_hw26)

def k0_off51 (v4 : BitVec 32) : Fin 1 → Nat :=
  let c1_i32_296 : BitVec 32 := 1#32
  let v342 : BitVec 32 := Scalar.addi v4 c1_i32_296
  let c32_i32_297 : BitVec 32 := 32#32
  let v343 : BitVec 32 := Scalar.remsi v342 c32_i32_297
  let v344 : Index := Scalar.indexCast v343
  ![v344.toNat]
def k0_off52 (v345 : BitVec 32) : Fin 2 → Nat :=
  let c1024_i32_298 : BitVec 32 := 1024#32
  let v346 : BitVec 32 := Scalar.muli v345 c1024_i32_298
  let c768_i32_299 : BitVec 32 := 768#32
  let v347 : BitVec 32 := Scalar.addi v346 c768_i32_299
  let c0_i32_306 : BitVec 32 := 0#32
  ![v347.toNat, 0]

def k0_chk27 (v345 : BitVec 32) : Prop :=
  (∀ a, (k0_off52 v345) a + S256x512.size a ≤ S32768x512.size a) ∧
  (∀ (hinb : ∀ a, (k0_off52 v345) a + S256x512.size a ≤ S32768x512.size a), (Rect.unit (s := S32768x512) (k0_off52 v345) S256x512.size hinb).WholeWords (EltTy.packing .bf16))
theorem k0_off52_inb : ∀ (v345 : BitVec 32) (k0_hw27 : k0_chk27 v345), ∀ a, (k0_off52 v345) a + S256x512.size a ≤ S32768x512.size a := fun v345 k0_hw27 => k0_hw27.1
theorem k0_off52_wordsbf16 : ∀ (v345 : BitVec 32) (k0_hw27 : k0_chk27 v345), (Rect.unit (s := S32768x512) (k0_off52 v345) S256x512.size (k0_off52_inb v345 k0_hw27)).WholeWords (EltTy.packing .bf16) := fun v345 k0_hw27 => k0_hw27.2 (k0_off52_inb v345 k0_hw27)

def k0_dev18 (v13 : BitVec 32) : Nat :=
  let c0_i32_305 : BitVec 32 := 0#32
  let c1_i32_304 : BitVec 32 := 1#32
  let v348 : BitVec 32 := Scalar.muli v13 c1_i32_304
  let v349 : BitVec 32 := Scalar.addi c0_i32_305 v348
  v349.toNat
def k0_off53 (v4 : BitVec 32) : Fin 1 → Nat :=
  let c1_i32_308 : BitVec 32 := 1#32
  let v356 : BitVec 32 := Scalar.subi v4 c1_i32_308
  let c32_i32_309 : BitVec 32 := 32#32
  let v357 : BitVec 32 := Scalar.addi v356 c32_i32_309
  let c32_i32_310 : BitVec 32 := 32#32
  let v358 : BitVec 32 := Scalar.remsi v357 c32_i32_310
  let v359 : Index := Scalar.indexCast v358
  ![v359.toNat]
def k0_off54 (v360 : BitVec 32) : Fin 2 → Nat :=
  let c1024_i32_311 : BitVec 32 := 1024#32
  let v361 : BitVec 32 := Scalar.muli v360 c1024_i32_311
  let c0_i32_312 : BitVec 32 := 0#32
  let v362 : BitVec 32 := Scalar.addi v361 c0_i32_312
  let c0_i32_319 : BitVec 32 := 0#32
  ![v362.toNat, 0]

def k0_chk28 (v360 : BitVec 32) : Prop :=
  (∀ a, (k0_off54 v360) a + S256x512.size a ≤ S32768x512.size a) ∧
  (∀ (hinb : ∀ a, (k0_off54 v360) a + S256x512.size a ≤ S32768x512.size a), (Rect.unit (s := S32768x512) (k0_off54 v360) S256x512.size hinb).WholeWords (EltTy.packing .bf16))
theorem k0_off54_inb : ∀ (v360 : BitVec 32) (k0_hw28 : k0_chk28 v360), ∀ a, (k0_off54 v360) a + S256x512.size a ≤ S32768x512.size a := fun v360 k0_hw28 => k0_hw28.1
theorem k0_off54_wordsbf16 : ∀ (v360 : BitVec 32) (k0_hw28 : k0_chk28 v360), (Rect.unit (s := S32768x512) (k0_off54 v360) S256x512.size (k0_off54_inb v360 k0_hw28)).WholeWords (EltTy.packing .bf16) := fun v360 k0_hw28 => k0_hw28.2 (k0_off54_inb v360 k0_hw28)

def k0_off55 (v4 : BitVec 32) : Fin 1 → Nat :=
  let c2_i32_321 : BitVec 32 := 2#32
  let v369 : BitVec 32 := Scalar.subi v4 c2_i32_321
  let c32_i32_322 : BitVec 32 := 32#32
  let v370 : BitVec 32 := Scalar.addi v369 c32_i32_322
  let c32_i32_323 : BitVec 32 := 32#32
  let v371 : BitVec 32 := Scalar.remsi v370 c32_i32_323
  let v372 : Index := Scalar.indexCast v371
  ![v372.toNat]
def k0_off56 (v373 : BitVec 32) : Fin 2 → Nat :=
  let c1024_i32_324 : BitVec 32 := 1024#32
  let v374 : BitVec 32 := Scalar.muli v373 c1024_i32_324
  let c0_i32_325 : BitVec 32 := 0#32
  let v375 : BitVec 32 := Scalar.addi v374 c0_i32_325
  let c0_i32_332 : BitVec 32 := 0#32
  ![v375.toNat, 0]

def k0_chk29 (v373 : BitVec 32) : Prop :=
  (∀ a, (k0_off56 v373) a + S256x512.size a ≤ S32768x512.size a) ∧
  (∀ (hinb : ∀ a, (k0_off56 v373) a + S256x512.size a ≤ S32768x512.size a), (Rect.unit (s := S32768x512) (k0_off56 v373) S256x512.size hinb).WholeWords (EltTy.packing .bf16))
theorem k0_off56_inb : ∀ (v373 : BitVec 32) (k0_hw29 : k0_chk29 v373), ∀ a, (k0_off56 v373) a + S256x512.size a ≤ S32768x512.size a := fun v373 k0_hw29 => k0_hw29.1
theorem k0_off56_wordsbf16 : ∀ (v373 : BitVec 32) (k0_hw29 : k0_chk29 v373), (Rect.unit (s := S32768x512) (k0_off56 v373) S256x512.size (k0_off56_inb v373 k0_hw29)).WholeWords (EltTy.packing .bf16) := fun v373 k0_hw29 => k0_hw29.2 (k0_off56_inb v373 k0_hw29)

def k0_dev19 (v8 : BitVec 32) : Nat :=
  let c0_i32_331 : BitVec 32 := 0#32
  let c1_i32_330 : BitVec 32 := 1#32
  let v376 : BitVec 32 := Scalar.muli v8 c1_i32_330
  let v377 : BitVec 32 := Scalar.addi c0_i32_331 v376
  v377.toNat
def k0_off57 (v4 : BitVec 32) : Fin 1 → Nat :=
  let c1_i32_334 : BitVec 32 := 1#32
  let v384 : BitVec 32 := Scalar.addi v4 c1_i32_334
  let c32_i32_335 : BitVec 32 := 32#32
  let v385 : BitVec 32 := Scalar.remsi v384 c32_i32_335
  let v386 : Index := Scalar.indexCast v385
  ![v386.toNat]
def k0_off58 (v387 : BitVec 32) : Fin 2 → Nat :=
  let c1024_i32_336 : BitVec 32 := 1024#32
  let v388 : BitVec 32 := Scalar.muli v387 c1024_i32_336
  let c0_i32_337 : BitVec 32 := 0#32
  let v389 : BitVec 32 := Scalar.addi v388 c0_i32_337
  let c0_i32_344 : BitVec 32 := 0#32
  ![v389.toNat, 0]

def k0_chk30 (v387 : BitVec 32) : Prop :=
  (∀ a, (k0_off58 v387) a + S256x512.size a ≤ S32768x512.size a) ∧
  (∀ (hinb : ∀ a, (k0_off58 v387) a + S256x512.size a ≤ S32768x512.size a), (Rect.unit (s := S32768x512) (k0_off58 v387) S256x512.size hinb).WholeWords (EltTy.packing .bf16))
theorem k0_off58_inb : ∀ (v387 : BitVec 32) (k0_hw30 : k0_chk30 v387), ∀ a, (k0_off58 v387) a + S256x512.size a ≤ S32768x512.size a := fun v387 k0_hw30 => k0_hw30.1
theorem k0_off58_wordsbf16 : ∀ (v387 : BitVec 32) (k0_hw30 : k0_chk30 v387), (Rect.unit (s := S32768x512) (k0_off58 v387) S256x512.size (k0_off58_inb v387 k0_hw30)).WholeWords (EltTy.packing .bf16) := fun v387 k0_hw30 => k0_hw30.2 (k0_off58_inb v387 k0_hw30)

def k0_off59 (v4 : BitVec 32) : Fin 1 → Nat :=
  let c2_i32_346 : BitVec 32 := 2#32
  let v396 : BitVec 32 := Scalar.addi v4 c2_i32_346
  let c32_i32_347 : BitVec 32 := 32#32
  let v397 : BitVec 32 := Scalar.remsi v396 c32_i32_347
  let v398 : Index := Scalar.indexCast v397
  ![v398.toNat]
def k0_off60 (v399 : BitVec 32) : Fin 2 → Nat :=
  let c1024_i32_348 : BitVec 32 := 1024#32
  let v400 : BitVec 32 := Scalar.muli v399 c1024_i32_348
  let c0_i32_349 : BitVec 32 := 0#32
  let v401 : BitVec 32 := Scalar.addi v400 c0_i32_349
  let c0_i32_356 : BitVec 32 := 0#32
  ![v401.toNat, 0]

def k0_chk31 (v399 : BitVec 32) : Prop :=
  (∀ a, (k0_off60 v399) a + S256x512.size a ≤ S32768x512.size a) ∧
  (∀ (hinb : ∀ a, (k0_off60 v399) a + S256x512.size a ≤ S32768x512.size a), (Rect.unit (s := S32768x512) (k0_off60 v399) S256x512.size hinb).WholeWords (EltTy.packing .bf16))
theorem k0_off60_inb : ∀ (v399 : BitVec 32) (k0_hw31 : k0_chk31 v399), ∀ a, (k0_off60 v399) a + S256x512.size a ≤ S32768x512.size a := fun v399 k0_hw31 => k0_hw31.1
theorem k0_off60_wordsbf16 : ∀ (v399 : BitVec 32) (k0_hw31 : k0_chk31 v399), (Rect.unit (s := S32768x512) (k0_off60 v399) S256x512.size (k0_off60_inb v399 k0_hw31)).WholeWords (EltTy.packing .bf16) := fun v399 k0_hw31 => k0_hw31.2 (k0_off60_inb v399 k0_hw31)

def k0_dev20 (v13 : BitVec 32) : Nat :=
  let c0_i32_355 : BitVec 32 := 0#32
  let c1_i32_354 : BitVec 32 := 1#32
  let v402 : BitVec 32 := Scalar.muli v13 c1_i32_354
  let v403 : BitVec 32 := Scalar.addi c0_i32_355 v402
  v403.toNat
def k0_off61 (v4 : BitVec 32) : Fin 1 → Nat :=
  let c1_i32_358 : BitVec 32 := 1#32
  let v410 : BitVec 32 := Scalar.subi v4 c1_i32_358
  let c32_i32_359 : BitVec 32 := 32#32
  let v411 : BitVec 32 := Scalar.addi v410 c32_i32_359
  let c32_i32_360 : BitVec 32 := 32#32
  let v412 : BitVec 32 := Scalar.remsi v411 c32_i32_360
  let v413 : Index := Scalar.indexCast v412
  ![v413.toNat]
def k0_off62 (v414 : BitVec 32) : Fin 2 → Nat :=
  let c1024_i32_361 : BitVec 32 := 1024#32
  let v415 : BitVec 32 := Scalar.muli v414 c1024_i32_361
  let c256_i32_362 : BitVec 32 := 256#32
  let v416 : BitVec 32 := Scalar.addi v415 c256_i32_362
  let c0_i32_369 : BitVec 32 := 0#32
  ![v416.toNat, 0]

def k0_chk32 (v414 : BitVec 32) : Prop :=
  (∀ a, (k0_off62 v414) a + S256x512.size a ≤ S32768x512.size a) ∧
  (∀ (hinb : ∀ a, (k0_off62 v414) a + S256x512.size a ≤ S32768x512.size a), (Rect.unit (s := S32768x512) (k0_off62 v414) S256x512.size hinb).WholeWords (EltTy.packing .bf16))
theorem k0_off62_inb : ∀ (v414 : BitVec 32) (k0_hw32 : k0_chk32 v414), ∀ a, (k0_off62 v414) a + S256x512.size a ≤ S32768x512.size a := fun v414 k0_hw32 => k0_hw32.1
theorem k0_off62_wordsbf16 : ∀ (v414 : BitVec 32) (k0_hw32 : k0_chk32 v414), (Rect.unit (s := S32768x512) (k0_off62 v414) S256x512.size (k0_off62_inb v414 k0_hw32)).WholeWords (EltTy.packing .bf16) := fun v414 k0_hw32 => k0_hw32.2 (k0_off62_inb v414 k0_hw32)

def k0_off63 (v4 : BitVec 32) : Fin 1 → Nat :=
  let c2_i32_371 : BitVec 32 := 2#32
  let v423 : BitVec 32 := Scalar.subi v4 c2_i32_371
  let c32_i32_372 : BitVec 32 := 32#32
  let v424 : BitVec 32 := Scalar.addi v423 c32_i32_372
  let c32_i32_373 : BitVec 32 := 32#32
  let v425 : BitVec 32 := Scalar.remsi v424 c32_i32_373
  let v426 : Index := Scalar.indexCast v425
  ![v426.toNat]
def k0_off64 (v427 : BitVec 32) : Fin 2 → Nat :=
  let c1024_i32_374 : BitVec 32 := 1024#32
  let v428 : BitVec 32 := Scalar.muli v427 c1024_i32_374
  let c256_i32_375 : BitVec 32 := 256#32
  let v429 : BitVec 32 := Scalar.addi v428 c256_i32_375
  let c0_i32_382 : BitVec 32 := 0#32
  ![v429.toNat, 0]

def k0_chk33 (v427 : BitVec 32) : Prop :=
  (∀ a, (k0_off64 v427) a + S256x512.size a ≤ S32768x512.size a) ∧
  (∀ (hinb : ∀ a, (k0_off64 v427) a + S256x512.size a ≤ S32768x512.size a), (Rect.unit (s := S32768x512) (k0_off64 v427) S256x512.size hinb).WholeWords (EltTy.packing .bf16))
theorem k0_off64_inb : ∀ (v427 : BitVec 32) (k0_hw33 : k0_chk33 v427), ∀ a, (k0_off64 v427) a + S256x512.size a ≤ S32768x512.size a := fun v427 k0_hw33 => k0_hw33.1
theorem k0_off64_wordsbf16 : ∀ (v427 : BitVec 32) (k0_hw33 : k0_chk33 v427), (Rect.unit (s := S32768x512) (k0_off64 v427) S256x512.size (k0_off64_inb v427 k0_hw33)).WholeWords (EltTy.packing .bf16) := fun v427 k0_hw33 => k0_hw33.2 (k0_off64_inb v427 k0_hw33)

def k0_dev21 (v8 : BitVec 32) : Nat :=
  let c0_i32_381 : BitVec 32 := 0#32
  let c1_i32_380 : BitVec 32 := 1#32
  let v430 : BitVec 32 := Scalar.muli v8 c1_i32_380
  let v431 : BitVec 32 := Scalar.addi c0_i32_381 v430
  v431.toNat
def k0_off65 (v4 : BitVec 32) : Fin 1 → Nat :=
  let c1_i32_384 : BitVec 32 := 1#32
  let v438 : BitVec 32 := Scalar.addi v4 c1_i32_384
  let c32_i32_385 : BitVec 32 := 32#32
  let v439 : BitVec 32 := Scalar.remsi v438 c32_i32_385
  let v440 : Index := Scalar.indexCast v439
  ![v440.toNat]
def k0_off66 (v441 : BitVec 32) : Fin 2 → Nat :=
  let c1024_i32_386 : BitVec 32 := 1024#32
  let v442 : BitVec 32 := Scalar.muli v441 c1024_i32_386
  let c256_i32_387 : BitVec 32 := 256#32
  let v443 : BitVec 32 := Scalar.addi v442 c256_i32_387
  let c0_i32_394 : BitVec 32 := 0#32
  ![v443.toNat, 0]

def k0_chk34 (v441 : BitVec 32) : Prop :=
  (∀ a, (k0_off66 v441) a + S256x512.size a ≤ S32768x512.size a) ∧
  (∀ (hinb : ∀ a, (k0_off66 v441) a + S256x512.size a ≤ S32768x512.size a), (Rect.unit (s := S32768x512) (k0_off66 v441) S256x512.size hinb).WholeWords (EltTy.packing .bf16))
theorem k0_off66_inb : ∀ (v441 : BitVec 32) (k0_hw34 : k0_chk34 v441), ∀ a, (k0_off66 v441) a + S256x512.size a ≤ S32768x512.size a := fun v441 k0_hw34 => k0_hw34.1
theorem k0_off66_wordsbf16 : ∀ (v441 : BitVec 32) (k0_hw34 : k0_chk34 v441), (Rect.unit (s := S32768x512) (k0_off66 v441) S256x512.size (k0_off66_inb v441 k0_hw34)).WholeWords (EltTy.packing .bf16) := fun v441 k0_hw34 => k0_hw34.2 (k0_off66_inb v441 k0_hw34)

def k0_off67 (v4 : BitVec 32) : Fin 1 → Nat :=
  let c2_i32_396 : BitVec 32 := 2#32
  let v450 : BitVec 32 := Scalar.addi v4 c2_i32_396
  let c32_i32_397 : BitVec 32 := 32#32
  let v451 : BitVec 32 := Scalar.remsi v450 c32_i32_397
  let v452 : Index := Scalar.indexCast v451
  ![v452.toNat]
def k0_off68 (v453 : BitVec 32) : Fin 2 → Nat :=
  let c1024_i32_398 : BitVec 32 := 1024#32
  let v454 : BitVec 32 := Scalar.muli v453 c1024_i32_398
  let c256_i32_399 : BitVec 32 := 256#32
  let v455 : BitVec 32 := Scalar.addi v454 c256_i32_399
  let c0_i32_406 : BitVec 32 := 0#32
  ![v455.toNat, 0]

def k0_chk35 (v453 : BitVec 32) : Prop :=
  (∀ a, (k0_off68 v453) a + S256x512.size a ≤ S32768x512.size a) ∧
  (∀ (hinb : ∀ a, (k0_off68 v453) a + S256x512.size a ≤ S32768x512.size a), (Rect.unit (s := S32768x512) (k0_off68 v453) S256x512.size hinb).WholeWords (EltTy.packing .bf16))
theorem k0_off68_inb : ∀ (v453 : BitVec 32) (k0_hw35 : k0_chk35 v453), ∀ a, (k0_off68 v453) a + S256x512.size a ≤ S32768x512.size a := fun v453 k0_hw35 => k0_hw35.1
theorem k0_off68_wordsbf16 : ∀ (v453 : BitVec 32) (k0_hw35 : k0_chk35 v453), (Rect.unit (s := S32768x512) (k0_off68 v453) S256x512.size (k0_off68_inb v453 k0_hw35)).WholeWords (EltTy.packing .bf16) := fun v453 k0_hw35 => k0_hw35.2 (k0_off68_inb v453 k0_hw35)

def k0_dev22 (v13 : BitVec 32) : Nat :=
  let c0_i32_405 : BitVec 32 := 0#32
  let c1_i32_404 : BitVec 32 := 1#32
  let v456 : BitVec 32 := Scalar.muli v13 c1_i32_404
  let v457 : BitVec 32 := Scalar.addi c0_i32_405 v456
  v457.toNat
def k0_off69 (v4 : BitVec 32) : Fin 1 → Nat :=
  let c1_i32_408 : BitVec 32 := 1#32
  let v464 : BitVec 32 := Scalar.subi v4 c1_i32_408
  let c32_i32_409 : BitVec 32 := 32#32
  let v465 : BitVec 32 := Scalar.addi v464 c32_i32_409
  let c32_i32_410 : BitVec 32 := 32#32
  let v466 : BitVec 32 := Scalar.remsi v465 c32_i32_410
  let v467 : Index := Scalar.indexCast v466
  ![v467.toNat]
def k0_off70 (v468 : BitVec 32) : Fin 2 → Nat :=
  let c1024_i32_411 : BitVec 32 := 1024#32
  let v469 : BitVec 32 := Scalar.muli v468 c1024_i32_411
  let c512_i32_412 : BitVec 32 := 512#32
  let v470 : BitVec 32 := Scalar.addi v469 c512_i32_412
  let c0_i32_419 : BitVec 32 := 0#32
  ![v470.toNat, 0]

def k0_chk36 (v468 : BitVec 32) : Prop :=
  (∀ a, (k0_off70 v468) a + S256x512.size a ≤ S32768x512.size a) ∧
  (∀ (hinb : ∀ a, (k0_off70 v468) a + S256x512.size a ≤ S32768x512.size a), (Rect.unit (s := S32768x512) (k0_off70 v468) S256x512.size hinb).WholeWords (EltTy.packing .bf16))
theorem k0_off70_inb : ∀ (v468 : BitVec 32) (k0_hw36 : k0_chk36 v468), ∀ a, (k0_off70 v468) a + S256x512.size a ≤ S32768x512.size a := fun v468 k0_hw36 => k0_hw36.1
theorem k0_off70_wordsbf16 : ∀ (v468 : BitVec 32) (k0_hw36 : k0_chk36 v468), (Rect.unit (s := S32768x512) (k0_off70 v468) S256x512.size (k0_off70_inb v468 k0_hw36)).WholeWords (EltTy.packing .bf16) := fun v468 k0_hw36 => k0_hw36.2 (k0_off70_inb v468 k0_hw36)

def k0_off71 (v4 : BitVec 32) : Fin 1 → Nat :=
  let c2_i32_421 : BitVec 32 := 2#32
  let v477 : BitVec 32 := Scalar.subi v4 c2_i32_421
  let c32_i32_422 : BitVec 32 := 32#32
  let v478 : BitVec 32 := Scalar.addi v477 c32_i32_422
  let c32_i32_423 : BitVec 32 := 32#32
  let v479 : BitVec 32 := Scalar.remsi v478 c32_i32_423
  let v480 : Index := Scalar.indexCast v479
  ![v480.toNat]
def k0_off72 (v481 : BitVec 32) : Fin 2 → Nat :=
  let c1024_i32_424 : BitVec 32 := 1024#32
  let v482 : BitVec 32 := Scalar.muli v481 c1024_i32_424
  let c512_i32_425 : BitVec 32 := 512#32
  let v483 : BitVec 32 := Scalar.addi v482 c512_i32_425
  let c0_i32_432 : BitVec 32 := 0#32
  ![v483.toNat, 0]

def k0_chk37 (v481 : BitVec 32) : Prop :=
  (∀ a, (k0_off72 v481) a + S256x512.size a ≤ S32768x512.size a) ∧
  (∀ (hinb : ∀ a, (k0_off72 v481) a + S256x512.size a ≤ S32768x512.size a), (Rect.unit (s := S32768x512) (k0_off72 v481) S256x512.size hinb).WholeWords (EltTy.packing .bf16))
theorem k0_off72_inb : ∀ (v481 : BitVec 32) (k0_hw37 : k0_chk37 v481), ∀ a, (k0_off72 v481) a + S256x512.size a ≤ S32768x512.size a := fun v481 k0_hw37 => k0_hw37.1
theorem k0_off72_wordsbf16 : ∀ (v481 : BitVec 32) (k0_hw37 : k0_chk37 v481), (Rect.unit (s := S32768x512) (k0_off72 v481) S256x512.size (k0_off72_inb v481 k0_hw37)).WholeWords (EltTy.packing .bf16) := fun v481 k0_hw37 => k0_hw37.2 (k0_off72_inb v481 k0_hw37)

def k0_dev23 (v8 : BitVec 32) : Nat :=
  let c0_i32_431 : BitVec 32 := 0#32
  let c1_i32_430 : BitVec 32 := 1#32
  let v484 : BitVec 32 := Scalar.muli v8 c1_i32_430
  let v485 : BitVec 32 := Scalar.addi c0_i32_431 v484
  v485.toNat
def k0_off73 (v4 : BitVec 32) : Fin 1 → Nat :=
  let c1_i32_434 : BitVec 32 := 1#32
  let v492 : BitVec 32 := Scalar.addi v4 c1_i32_434
  let c32_i32_435 : BitVec 32 := 32#32
  let v493 : BitVec 32 := Scalar.remsi v492 c32_i32_435
  let v494 : Index := Scalar.indexCast v493
  ![v494.toNat]
def k0_off74 (v495 : BitVec 32) : Fin 2 → Nat :=
  let c1024_i32_436 : BitVec 32 := 1024#32
  let v496 : BitVec 32 := Scalar.muli v495 c1024_i32_436
  let c512_i32_437 : BitVec 32 := 512#32
  let v497 : BitVec 32 := Scalar.addi v496 c512_i32_437
  let c0_i32_444 : BitVec 32 := 0#32
  ![v497.toNat, 0]

def k0_chk38 (v495 : BitVec 32) : Prop :=
  (∀ a, (k0_off74 v495) a + S256x512.size a ≤ S32768x512.size a) ∧
  (∀ (hinb : ∀ a, (k0_off74 v495) a + S256x512.size a ≤ S32768x512.size a), (Rect.unit (s := S32768x512) (k0_off74 v495) S256x512.size hinb).WholeWords (EltTy.packing .bf16))
theorem k0_off74_inb : ∀ (v495 : BitVec 32) (k0_hw38 : k0_chk38 v495), ∀ a, (k0_off74 v495) a + S256x512.size a ≤ S32768x512.size a := fun v495 k0_hw38 => k0_hw38.1
theorem k0_off74_wordsbf16 : ∀ (v495 : BitVec 32) (k0_hw38 : k0_chk38 v495), (Rect.unit (s := S32768x512) (k0_off74 v495) S256x512.size (k0_off74_inb v495 k0_hw38)).WholeWords (EltTy.packing .bf16) := fun v495 k0_hw38 => k0_hw38.2 (k0_off74_inb v495 k0_hw38)

def k0_off75 (v4 : BitVec 32) : Fin 1 → Nat :=
  let c2_i32_446 : BitVec 32 := 2#32
  let v504 : BitVec 32 := Scalar.addi v4 c2_i32_446
  let c32_i32_447 : BitVec 32 := 32#32
  let v505 : BitVec 32 := Scalar.remsi v504 c32_i32_447
  let v506 : Index := Scalar.indexCast v505
  ![v506.toNat]
def k0_off76 (v507 : BitVec 32) : Fin 2 → Nat :=
  let c1024_i32_448 : BitVec 32 := 1024#32
  let v508 : BitVec 32 := Scalar.muli v507 c1024_i32_448
  let c512_i32_449 : BitVec 32 := 512#32
  let v509 : BitVec 32 := Scalar.addi v508 c512_i32_449
  let c0_i32_456 : BitVec 32 := 0#32
  ![v509.toNat, 0]

def k0_chk39 (v507 : BitVec 32) : Prop :=
  (∀ a, (k0_off76 v507) a + S256x512.size a ≤ S32768x512.size a) ∧
  (∀ (hinb : ∀ a, (k0_off76 v507) a + S256x512.size a ≤ S32768x512.size a), (Rect.unit (s := S32768x512) (k0_off76 v507) S256x512.size hinb).WholeWords (EltTy.packing .bf16))
theorem k0_off76_inb : ∀ (v507 : BitVec 32) (k0_hw39 : k0_chk39 v507), ∀ a, (k0_off76 v507) a + S256x512.size a ≤ S32768x512.size a := fun v507 k0_hw39 => k0_hw39.1
theorem k0_off76_wordsbf16 : ∀ (v507 : BitVec 32) (k0_hw39 : k0_chk39 v507), (Rect.unit (s := S32768x512) (k0_off76 v507) S256x512.size (k0_off76_inb v507 k0_hw39)).WholeWords (EltTy.packing .bf16) := fun v507 k0_hw39 => k0_hw39.2 (k0_off76_inb v507 k0_hw39)

def k0_dev24 (v13 : BitVec 32) : Nat :=
  let c0_i32_455 : BitVec 32 := 0#32
  let c1_i32_454 : BitVec 32 := 1#32
  let v510 : BitVec 32 := Scalar.muli v13 c1_i32_454
  let v511 : BitVec 32 := Scalar.addi c0_i32_455 v510
  v511.toNat
def k0_off77 (v4 : BitVec 32) : Fin 1 → Nat :=
  let c1_i32_458 : BitVec 32 := 1#32
  let v518 : BitVec 32 := Scalar.subi v4 c1_i32_458
  let c32_i32_459 : BitVec 32 := 32#32
  let v519 : BitVec 32 := Scalar.addi v518 c32_i32_459
  let c32_i32_460 : BitVec 32 := 32#32
  let v520 : BitVec 32 := Scalar.remsi v519 c32_i32_460
  let v521 : Index := Scalar.indexCast v520
  ![v521.toNat]
def k0_off78 (v522 : BitVec 32) : Fin 2 → Nat :=
  let c1024_i32_461 : BitVec 32 := 1024#32
  let v523 : BitVec 32 := Scalar.muli v522 c1024_i32_461
  let c768_i32_462 : BitVec 32 := 768#32
  let v524 : BitVec 32 := Scalar.addi v523 c768_i32_462
  let c0_i32_469 : BitVec 32 := 0#32
  ![v524.toNat, 0]

def k0_chk40 (v522 : BitVec 32) : Prop :=
  (∀ a, (k0_off78 v522) a + S256x512.size a ≤ S32768x512.size a) ∧
  (∀ (hinb : ∀ a, (k0_off78 v522) a + S256x512.size a ≤ S32768x512.size a), (Rect.unit (s := S32768x512) (k0_off78 v522) S256x512.size hinb).WholeWords (EltTy.packing .bf16))
theorem k0_off78_inb : ∀ (v522 : BitVec 32) (k0_hw40 : k0_chk40 v522), ∀ a, (k0_off78 v522) a + S256x512.size a ≤ S32768x512.size a := fun v522 k0_hw40 => k0_hw40.1
theorem k0_off78_wordsbf16 : ∀ (v522 : BitVec 32) (k0_hw40 : k0_chk40 v522), (Rect.unit (s := S32768x512) (k0_off78 v522) S256x512.size (k0_off78_inb v522 k0_hw40)).WholeWords (EltTy.packing .bf16) := fun v522 k0_hw40 => k0_hw40.2 (k0_off78_inb v522 k0_hw40)

def k0_off79 (v4 : BitVec 32) : Fin 1 → Nat :=
  let c2_i32_471 : BitVec 32 := 2#32
  let v531 : BitVec 32 := Scalar.subi v4 c2_i32_471
  let c32_i32_472 : BitVec 32 := 32#32
  let v532 : BitVec 32 := Scalar.addi v531 c32_i32_472
  let c32_i32_473 : BitVec 32 := 32#32
  let v533 : BitVec 32 := Scalar.remsi v532 c32_i32_473
  let v534 : Index := Scalar.indexCast v533
  ![v534.toNat]
def k0_off80 (v535 : BitVec 32) : Fin 2 → Nat :=
  let c1024_i32_474 : BitVec 32 := 1024#32
  let v536 : BitVec 32 := Scalar.muli v535 c1024_i32_474
  let c768_i32_475 : BitVec 32 := 768#32
  let v537 : BitVec 32 := Scalar.addi v536 c768_i32_475
  let c0_i32_482 : BitVec 32 := 0#32
  ![v537.toNat, 0]

def k0_chk41 (v535 : BitVec 32) : Prop :=
  (∀ a, (k0_off80 v535) a + S256x512.size a ≤ S32768x512.size a) ∧
  (∀ (hinb : ∀ a, (k0_off80 v535) a + S256x512.size a ≤ S32768x512.size a), (Rect.unit (s := S32768x512) (k0_off80 v535) S256x512.size hinb).WholeWords (EltTy.packing .bf16))
theorem k0_off80_inb : ∀ (v535 : BitVec 32) (k0_hw41 : k0_chk41 v535), ∀ a, (k0_off80 v535) a + S256x512.size a ≤ S32768x512.size a := fun v535 k0_hw41 => k0_hw41.1
theorem k0_off80_wordsbf16 : ∀ (v535 : BitVec 32) (k0_hw41 : k0_chk41 v535), (Rect.unit (s := S32768x512) (k0_off80 v535) S256x512.size (k0_off80_inb v535 k0_hw41)).WholeWords (EltTy.packing .bf16) := fun v535 k0_hw41 => k0_hw41.2 (k0_off80_inb v535 k0_hw41)

def k0_dev25 (v8 : BitVec 32) : Nat :=
  let c0_i32_481 : BitVec 32 := 0#32
  let c1_i32_480 : BitVec 32 := 1#32
  let v538 : BitVec 32 := Scalar.muli v8 c1_i32_480
  let v539 : BitVec 32 := Scalar.addi c0_i32_481 v538
  v539.toNat
def k0_off81 (v4 : BitVec 32) : Fin 1 → Nat :=
  let c1_i32_484 : BitVec 32 := 1#32
  let v546 : BitVec 32 := Scalar.addi v4 c1_i32_484
  let c32_i32_485 : BitVec 32 := 32#32
  let v547 : BitVec 32 := Scalar.remsi v546 c32_i32_485
  let v548 : Index := Scalar.indexCast v547
  ![v548.toNat]
def k0_off82 (v549 : BitVec 32) : Fin 2 → Nat :=
  let c1024_i32_486 : BitVec 32 := 1024#32
  let v550 : BitVec 32 := Scalar.muli v549 c1024_i32_486
  let c768_i32_487 : BitVec 32 := 768#32
  let v551 : BitVec 32 := Scalar.addi v550 c768_i32_487
  let c0_i32_494 : BitVec 32 := 0#32
  ![v551.toNat, 0]

def k0_chk42 (v549 : BitVec 32) : Prop :=
  (∀ a, (k0_off82 v549) a + S256x512.size a ≤ S32768x512.size a) ∧
  (∀ (hinb : ∀ a, (k0_off82 v549) a + S256x512.size a ≤ S32768x512.size a), (Rect.unit (s := S32768x512) (k0_off82 v549) S256x512.size hinb).WholeWords (EltTy.packing .bf16))
theorem k0_off82_inb : ∀ (v549 : BitVec 32) (k0_hw42 : k0_chk42 v549), ∀ a, (k0_off82 v549) a + S256x512.size a ≤ S32768x512.size a := fun v549 k0_hw42 => k0_hw42.1
theorem k0_off82_wordsbf16 : ∀ (v549 : BitVec 32) (k0_hw42 : k0_chk42 v549), (Rect.unit (s := S32768x512) (k0_off82 v549) S256x512.size (k0_off82_inb v549 k0_hw42)).WholeWords (EltTy.packing .bf16) := fun v549 k0_hw42 => k0_hw42.2 (k0_off82_inb v549 k0_hw42)

def k0_off83 (v4 : BitVec 32) : Fin 1 → Nat :=
  let c2_i32_496 : BitVec 32 := 2#32
  let v558 : BitVec 32 := Scalar.addi v4 c2_i32_496
  let c32_i32_497 : BitVec 32 := 32#32
  let v559 : BitVec 32 := Scalar.remsi v558 c32_i32_497
  let v560 : Index := Scalar.indexCast v559
  ![v560.toNat]
def k0_off84 (v561 : BitVec 32) : Fin 2 → Nat :=
  let c1024_i32_498 : BitVec 32 := 1024#32
  let v562 : BitVec 32 := Scalar.muli v561 c1024_i32_498
  let c768_i32_499 : BitVec 32 := 768#32
  let v563 : BitVec 32 := Scalar.addi v562 c768_i32_499
  let c0_i32_506 : BitVec 32 := 0#32
  ![v563.toNat, 0]

def k0_chk43 (v561 : BitVec 32) : Prop :=
  (∀ a, (k0_off84 v561) a + S256x512.size a ≤ S32768x512.size a) ∧
  (∀ (hinb : ∀ a, (k0_off84 v561) a + S256x512.size a ≤ S32768x512.size a), (Rect.unit (s := S32768x512) (k0_off84 v561) S256x512.size hinb).WholeWords (EltTy.packing .bf16))
theorem k0_off84_inb : ∀ (v561 : BitVec 32) (k0_hw43 : k0_chk43 v561), ∀ a, (k0_off84 v561) a + S256x512.size a ≤ S32768x512.size a := fun v561 k0_hw43 => k0_hw43.1
theorem k0_off84_wordsbf16 : ∀ (v561 : BitVec 32) (k0_hw43 : k0_chk43 v561), (Rect.unit (s := S32768x512) (k0_off84 v561) S256x512.size (k0_off84_inb v561 k0_hw43)).WholeWords (EltTy.packing .bf16) := fun v561 k0_hw43 => k0_hw43.2 (k0_off84_inb v561 k0_hw43)

def k0_dev26 (v13 : BitVec 32) : Nat :=
  let c0_i32_505 : BitVec 32 := 0#32
  let c1_i32_504 : BitVec 32 := 1#32
  let v564 : BitVec 32 := Scalar.muli v13 c1_i32_504
  let v565 : BitVec 32 := Scalar.addi c0_i32_505 v564
  v565.toNat
def k0_off85 (v4 : BitVec 32) : Fin 1 → Nat :=
  let c2_i32_508 : BitVec 32 := 2#32
  let v572 : BitVec 32 := Scalar.subi v4 c2_i32_508
  let c32_i32_509 : BitVec 32 := 32#32
  let v573 : BitVec 32 := Scalar.addi v572 c32_i32_509
  let c32_i32_510 : BitVec 32 := 32#32
  let v574 : BitVec 32 := Scalar.remsi v573 c32_i32_510
  let v575 : Index := Scalar.indexCast v574
  ![v575.toNat]
def k0_off86 (v576 : BitVec 32) : Fin 2 → Nat :=
  let c1024_i32_511 : BitVec 32 := 1024#32
  let v577 : BitVec 32 := Scalar.muli v576 c1024_i32_511
  let c0_i32_512 : BitVec 32 := 0#32
  let v578 : BitVec 32 := Scalar.addi v577 c0_i32_512
  let c0_i32_519 : BitVec 32 := 0#32
  ![v578.toNat, 0]

def k0_chk44 (v576 : BitVec 32) : Prop :=
  (∀ a, (k0_off86 v576) a + S256x512.size a ≤ S32768x512.size a) ∧
  (∀ (hinb : ∀ a, (k0_off86 v576) a + S256x512.size a ≤ S32768x512.size a), (Rect.unit (s := S32768x512) (k0_off86 v576) S256x512.size hinb).WholeWords (EltTy.packing .bf16))
theorem k0_off86_inb : ∀ (v576 : BitVec 32) (k0_hw44 : k0_chk44 v576), ∀ a, (k0_off86 v576) a + S256x512.size a ≤ S32768x512.size a := fun v576 k0_hw44 => k0_hw44.1
theorem k0_off86_wordsbf16 : ∀ (v576 : BitVec 32) (k0_hw44 : k0_chk44 v576), (Rect.unit (s := S32768x512) (k0_off86 v576) S256x512.size (k0_off86_inb v576 k0_hw44)).WholeWords (EltTy.packing .bf16) := fun v576 k0_hw44 => k0_hw44.2 (k0_off86_inb v576 k0_hw44)

def k0_off87 (v4 : BitVec 32) : Fin 1 → Nat :=
  let c3_i32_521 : BitVec 32 := 3#32
  let v585 : BitVec 32 := Scalar.subi v4 c3_i32_521
  let c32_i32_522 : BitVec 32 := 32#32
  let v586 : BitVec 32 := Scalar.addi v585 c32_i32_522
  let c32_i32_523 : BitVec 32 := 32#32
  let v587 : BitVec 32 := Scalar.remsi v586 c32_i32_523
  let v588 : Index := Scalar.indexCast v587
  ![v588.toNat]
def k0_off88 (v589 : BitVec 32) : Fin 2 → Nat :=
  let c1024_i32_524 : BitVec 32 := 1024#32
  let v590 : BitVec 32 := Scalar.muli v589 c1024_i32_524
  let c0_i32_525 : BitVec 32 := 0#32
  let v591 : BitVec 32 := Scalar.addi v590 c0_i32_525
  let c0_i32_532 : BitVec 32 := 0#32
  ![v591.toNat, 0]

def k0_chk45 (v589 : BitVec 32) : Prop :=
  (∀ a, (k0_off88 v589) a + S256x512.size a ≤ S32768x512.size a) ∧
  (∀ (hinb : ∀ a, (k0_off88 v589) a + S256x512.size a ≤ S32768x512.size a), (Rect.unit (s := S32768x512) (k0_off88 v589) S256x512.size hinb).WholeWords (EltTy.packing .bf16))
theorem k0_off88_inb : ∀ (v589 : BitVec 32) (k0_hw45 : k0_chk45 v589), ∀ a, (k0_off88 v589) a + S256x512.size a ≤ S32768x512.size a := fun v589 k0_hw45 => k0_hw45.1
theorem k0_off88_wordsbf16 : ∀ (v589 : BitVec 32) (k0_hw45 : k0_chk45 v589), (Rect.unit (s := S32768x512) (k0_off88 v589) S256x512.size (k0_off88_inb v589 k0_hw45)).WholeWords (EltTy.packing .bf16) := fun v589 k0_hw45 => k0_hw45.2 (k0_off88_inb v589 k0_hw45)

def k0_dev27 (v8 : BitVec 32) : Nat :=
  let c0_i32_531 : BitVec 32 := 0#32
  let c1_i32_530 : BitVec 32 := 1#32
  let v592 : BitVec 32 := Scalar.muli v8 c1_i32_530
  let v593 : BitVec 32 := Scalar.addi c0_i32_531 v592
  v593.toNat
def k0_off89 (v4 : BitVec 32) : Fin 1 → Nat :=
  let c2_i32_534 : BitVec 32 := 2#32
  let v600 : BitVec 32 := Scalar.addi v4 c2_i32_534
  let c32_i32_535 : BitVec 32 := 32#32
  let v601 : BitVec 32 := Scalar.remsi v600 c32_i32_535
  let v602 : Index := Scalar.indexCast v601
  ![v602.toNat]
def k0_off90 (v603 : BitVec 32) : Fin 2 → Nat :=
  let c1024_i32_536 : BitVec 32 := 1024#32
  let v604 : BitVec 32 := Scalar.muli v603 c1024_i32_536
  let c0_i32_537 : BitVec 32 := 0#32
  let v605 : BitVec 32 := Scalar.addi v604 c0_i32_537
  let c0_i32_544 : BitVec 32 := 0#32
  ![v605.toNat, 0]

def k0_chk46 (v603 : BitVec 32) : Prop :=
  (∀ a, (k0_off90 v603) a + S256x512.size a ≤ S32768x512.size a) ∧
  (∀ (hinb : ∀ a, (k0_off90 v603) a + S256x512.size a ≤ S32768x512.size a), (Rect.unit (s := S32768x512) (k0_off90 v603) S256x512.size hinb).WholeWords (EltTy.packing .bf16))
theorem k0_off90_inb : ∀ (v603 : BitVec 32) (k0_hw46 : k0_chk46 v603), ∀ a, (k0_off90 v603) a + S256x512.size a ≤ S32768x512.size a := fun v603 k0_hw46 => k0_hw46.1
theorem k0_off90_wordsbf16 : ∀ (v603 : BitVec 32) (k0_hw46 : k0_chk46 v603), (Rect.unit (s := S32768x512) (k0_off90 v603) S256x512.size (k0_off90_inb v603 k0_hw46)).WholeWords (EltTy.packing .bf16) := fun v603 k0_hw46 => k0_hw46.2 (k0_off90_inb v603 k0_hw46)

def k0_off91 (v4 : BitVec 32) : Fin 1 → Nat :=
  let c3_i32_546 : BitVec 32 := 3#32
  let v612 : BitVec 32 := Scalar.addi v4 c3_i32_546
  let c32_i32_547 : BitVec 32 := 32#32
  let v613 : BitVec 32 := Scalar.remsi v612 c32_i32_547
  let v614 : Index := Scalar.indexCast v613
  ![v614.toNat]
def k0_off92 (v615 : BitVec 32) : Fin 2 → Nat :=
  let c1024_i32_548 : BitVec 32 := 1024#32
  let v616 : BitVec 32 := Scalar.muli v615 c1024_i32_548
  let c0_i32_549 : BitVec 32 := 0#32
  let v617 : BitVec 32 := Scalar.addi v616 c0_i32_549
  let c0_i32_556 : BitVec 32 := 0#32
  ![v617.toNat, 0]

def k0_chk47 (v615 : BitVec 32) : Prop :=
  (∀ a, (k0_off92 v615) a + S256x512.size a ≤ S32768x512.size a) ∧
  (∀ (hinb : ∀ a, (k0_off92 v615) a + S256x512.size a ≤ S32768x512.size a), (Rect.unit (s := S32768x512) (k0_off92 v615) S256x512.size hinb).WholeWords (EltTy.packing .bf16))
theorem k0_off92_inb : ∀ (v615 : BitVec 32) (k0_hw47 : k0_chk47 v615), ∀ a, (k0_off92 v615) a + S256x512.size a ≤ S32768x512.size a := fun v615 k0_hw47 => k0_hw47.1
theorem k0_off92_wordsbf16 : ∀ (v615 : BitVec 32) (k0_hw47 : k0_chk47 v615), (Rect.unit (s := S32768x512) (k0_off92 v615) S256x512.size (k0_off92_inb v615 k0_hw47)).WholeWords (EltTy.packing .bf16) := fun v615 k0_hw47 => k0_hw47.2 (k0_off92_inb v615 k0_hw47)

def k0_dev28 (v13 : BitVec 32) : Nat :=
  let c0_i32_555 : BitVec 32 := 0#32
  let c1_i32_554 : BitVec 32 := 1#32
  let v618 : BitVec 32 := Scalar.muli v13 c1_i32_554
  let v619 : BitVec 32 := Scalar.addi c0_i32_555 v618
  v619.toNat
def k0_off93 (v4 : BitVec 32) : Fin 1 → Nat :=
  let c2_i32_558 : BitVec 32 := 2#32
  let v626 : BitVec 32 := Scalar.subi v4 c2_i32_558
  let c32_i32_559 : BitVec 32 := 32#32
  let v627 : BitVec 32 := Scalar.addi v626 c32_i32_559
  let c32_i32_560 : BitVec 32 := 32#32
  let v628 : BitVec 32 := Scalar.remsi v627 c32_i32_560
  let v629 : Index := Scalar.indexCast v628
  ![v629.toNat]
def k0_off94 (v630 : BitVec 32) : Fin 2 → Nat :=
  let c1024_i32_561 : BitVec 32 := 1024#32
  let v631 : BitVec 32 := Scalar.muli v630 c1024_i32_561
  let c256_i32_562 : BitVec 32 := 256#32
  let v632 : BitVec 32 := Scalar.addi v631 c256_i32_562
  let c0_i32_569 : BitVec 32 := 0#32
  ![v632.toNat, 0]

def k0_chk48 (v630 : BitVec 32) : Prop :=
  (∀ a, (k0_off94 v630) a + S256x512.size a ≤ S32768x512.size a) ∧
  (∀ (hinb : ∀ a, (k0_off94 v630) a + S256x512.size a ≤ S32768x512.size a), (Rect.unit (s := S32768x512) (k0_off94 v630) S256x512.size hinb).WholeWords (EltTy.packing .bf16))
theorem k0_off94_inb : ∀ (v630 : BitVec 32) (k0_hw48 : k0_chk48 v630), ∀ a, (k0_off94 v630) a + S256x512.size a ≤ S32768x512.size a := fun v630 k0_hw48 => k0_hw48.1
theorem k0_off94_wordsbf16 : ∀ (v630 : BitVec 32) (k0_hw48 : k0_chk48 v630), (Rect.unit (s := S32768x512) (k0_off94 v630) S256x512.size (k0_off94_inb v630 k0_hw48)).WholeWords (EltTy.packing .bf16) := fun v630 k0_hw48 => k0_hw48.2 (k0_off94_inb v630 k0_hw48)

def k0_off95 (v4 : BitVec 32) : Fin 1 → Nat :=
  let c3_i32_571 : BitVec 32 := 3#32
  let v639 : BitVec 32 := Scalar.subi v4 c3_i32_571
  let c32_i32_572 : BitVec 32 := 32#32
  let v640 : BitVec 32 := Scalar.addi v639 c32_i32_572
  let c32_i32_573 : BitVec 32 := 32#32
  let v641 : BitVec 32 := Scalar.remsi v640 c32_i32_573
  let v642 : Index := Scalar.indexCast v641
  ![v642.toNat]
def k0_off96 (v643 : BitVec 32) : Fin 2 → Nat :=
  let c1024_i32_574 : BitVec 32 := 1024#32
  let v644 : BitVec 32 := Scalar.muli v643 c1024_i32_574
  let c256_i32_575 : BitVec 32 := 256#32
  let v645 : BitVec 32 := Scalar.addi v644 c256_i32_575
  let c0_i32_582 : BitVec 32 := 0#32
  ![v645.toNat, 0]

def k0_chk49 (v643 : BitVec 32) : Prop :=
  (∀ a, (k0_off96 v643) a + S256x512.size a ≤ S32768x512.size a) ∧
  (∀ (hinb : ∀ a, (k0_off96 v643) a + S256x512.size a ≤ S32768x512.size a), (Rect.unit (s := S32768x512) (k0_off96 v643) S256x512.size hinb).WholeWords (EltTy.packing .bf16))
theorem k0_off96_inb : ∀ (v643 : BitVec 32) (k0_hw49 : k0_chk49 v643), ∀ a, (k0_off96 v643) a + S256x512.size a ≤ S32768x512.size a := fun v643 k0_hw49 => k0_hw49.1
theorem k0_off96_wordsbf16 : ∀ (v643 : BitVec 32) (k0_hw49 : k0_chk49 v643), (Rect.unit (s := S32768x512) (k0_off96 v643) S256x512.size (k0_off96_inb v643 k0_hw49)).WholeWords (EltTy.packing .bf16) := fun v643 k0_hw49 => k0_hw49.2 (k0_off96_inb v643 k0_hw49)

def k0_dev29 (v8 : BitVec 32) : Nat :=
  let c0_i32_581 : BitVec 32 := 0#32
  let c1_i32_580 : BitVec 32 := 1#32
  let v646 : BitVec 32 := Scalar.muli v8 c1_i32_580
  let v647 : BitVec 32 := Scalar.addi c0_i32_581 v646
  v647.toNat
def k0_off97 (v4 : BitVec 32) : Fin 1 → Nat :=
  let c2_i32_584 : BitVec 32 := 2#32
  let v654 : BitVec 32 := Scalar.addi v4 c2_i32_584
  let c32_i32_585 : BitVec 32 := 32#32
  let v655 : BitVec 32 := Scalar.remsi v654 c32_i32_585
  let v656 : Index := Scalar.indexCast v655
  ![v656.toNat]
def k0_off98 (v657 : BitVec 32) : Fin 2 → Nat :=
  let c1024_i32_586 : BitVec 32 := 1024#32
  let v658 : BitVec 32 := Scalar.muli v657 c1024_i32_586
  let c256_i32_587 : BitVec 32 := 256#32
  let v659 : BitVec 32 := Scalar.addi v658 c256_i32_587
  let c0_i32_594 : BitVec 32 := 0#32
  ![v659.toNat, 0]

def k0_chk50 (v657 : BitVec 32) : Prop :=
  (∀ a, (k0_off98 v657) a + S256x512.size a ≤ S32768x512.size a) ∧
  (∀ (hinb : ∀ a, (k0_off98 v657) a + S256x512.size a ≤ S32768x512.size a), (Rect.unit (s := S32768x512) (k0_off98 v657) S256x512.size hinb).WholeWords (EltTy.packing .bf16))
theorem k0_off98_inb : ∀ (v657 : BitVec 32) (k0_hw50 : k0_chk50 v657), ∀ a, (k0_off98 v657) a + S256x512.size a ≤ S32768x512.size a := fun v657 k0_hw50 => k0_hw50.1
theorem k0_off98_wordsbf16 : ∀ (v657 : BitVec 32) (k0_hw50 : k0_chk50 v657), (Rect.unit (s := S32768x512) (k0_off98 v657) S256x512.size (k0_off98_inb v657 k0_hw50)).WholeWords (EltTy.packing .bf16) := fun v657 k0_hw50 => k0_hw50.2 (k0_off98_inb v657 k0_hw50)

def k0_off99 (v4 : BitVec 32) : Fin 1 → Nat :=
  let c3_i32_596 : BitVec 32 := 3#32
  let v666 : BitVec 32 := Scalar.addi v4 c3_i32_596
  let c32_i32_597 : BitVec 32 := 32#32
  let v667 : BitVec 32 := Scalar.remsi v666 c32_i32_597
  let v668 : Index := Scalar.indexCast v667
  ![v668.toNat]
def k0_off100 (v669 : BitVec 32) : Fin 2 → Nat :=
  let c1024_i32_598 : BitVec 32 := 1024#32
  let v670 : BitVec 32 := Scalar.muli v669 c1024_i32_598
  let c256_i32_599 : BitVec 32 := 256#32
  let v671 : BitVec 32 := Scalar.addi v670 c256_i32_599
  let c0_i32_606 : BitVec 32 := 0#32
  ![v671.toNat, 0]

def k0_chk51 (v669 : BitVec 32) : Prop :=
  (∀ a, (k0_off100 v669) a + S256x512.size a ≤ S32768x512.size a) ∧
  (∀ (hinb : ∀ a, (k0_off100 v669) a + S256x512.size a ≤ S32768x512.size a), (Rect.unit (s := S32768x512) (k0_off100 v669) S256x512.size hinb).WholeWords (EltTy.packing .bf16))
theorem k0_off100_inb : ∀ (v669 : BitVec 32) (k0_hw51 : k0_chk51 v669), ∀ a, (k0_off100 v669) a + S256x512.size a ≤ S32768x512.size a := fun v669 k0_hw51 => k0_hw51.1
theorem k0_off100_wordsbf16 : ∀ (v669 : BitVec 32) (k0_hw51 : k0_chk51 v669), (Rect.unit (s := S32768x512) (k0_off100 v669) S256x512.size (k0_off100_inb v669 k0_hw51)).WholeWords (EltTy.packing .bf16) := fun v669 k0_hw51 => k0_hw51.2 (k0_off100_inb v669 k0_hw51)

def k0_dev30 (v13 : BitVec 32) : Nat :=
  let c0_i32_605 : BitVec 32 := 0#32
  let c1_i32_604 : BitVec 32 := 1#32
  let v672 : BitVec 32 := Scalar.muli v13 c1_i32_604
  let v673 : BitVec 32 := Scalar.addi c0_i32_605 v672
  v673.toNat
def k0_off101 (v4 : BitVec 32) : Fin 1 → Nat :=
  let c2_i32_608 : BitVec 32 := 2#32
  let v680 : BitVec 32 := Scalar.subi v4 c2_i32_608
  let c32_i32_609 : BitVec 32 := 32#32
  let v681 : BitVec 32 := Scalar.addi v680 c32_i32_609
  let c32_i32_610 : BitVec 32 := 32#32
  let v682 : BitVec 32 := Scalar.remsi v681 c32_i32_610
  let v683 : Index := Scalar.indexCast v682
  ![v683.toNat]
def k0_off102 (v684 : BitVec 32) : Fin 2 → Nat :=
  let c1024_i32_611 : BitVec 32 := 1024#32
  let v685 : BitVec 32 := Scalar.muli v684 c1024_i32_611
  let c512_i32_612 : BitVec 32 := 512#32
  let v686 : BitVec 32 := Scalar.addi v685 c512_i32_612
  let c0_i32_619 : BitVec 32 := 0#32
  ![v686.toNat, 0]

def k0_chk52 (v684 : BitVec 32) : Prop :=
  (∀ a, (k0_off102 v684) a + S256x512.size a ≤ S32768x512.size a) ∧
  (∀ (hinb : ∀ a, (k0_off102 v684) a + S256x512.size a ≤ S32768x512.size a), (Rect.unit (s := S32768x512) (k0_off102 v684) S256x512.size hinb).WholeWords (EltTy.packing .bf16))
theorem k0_off102_inb : ∀ (v684 : BitVec 32) (k0_hw52 : k0_chk52 v684), ∀ a, (k0_off102 v684) a + S256x512.size a ≤ S32768x512.size a := fun v684 k0_hw52 => k0_hw52.1
theorem k0_off102_wordsbf16 : ∀ (v684 : BitVec 32) (k0_hw52 : k0_chk52 v684), (Rect.unit (s := S32768x512) (k0_off102 v684) S256x512.size (k0_off102_inb v684 k0_hw52)).WholeWords (EltTy.packing .bf16) := fun v684 k0_hw52 => k0_hw52.2 (k0_off102_inb v684 k0_hw52)

def k0_off103 (v4 : BitVec 32) : Fin 1 → Nat :=
  let c3_i32_621 : BitVec 32 := 3#32
  let v693 : BitVec 32 := Scalar.subi v4 c3_i32_621
  let c32_i32_622 : BitVec 32 := 32#32
  let v694 : BitVec 32 := Scalar.addi v693 c32_i32_622
  let c32_i32_623 : BitVec 32 := 32#32
  let v695 : BitVec 32 := Scalar.remsi v694 c32_i32_623
  let v696 : Index := Scalar.indexCast v695
  ![v696.toNat]
def k0_off104 (v697 : BitVec 32) : Fin 2 → Nat :=
  let c1024_i32_624 : BitVec 32 := 1024#32
  let v698 : BitVec 32 := Scalar.muli v697 c1024_i32_624
  let c512_i32_625 : BitVec 32 := 512#32
  let v699 : BitVec 32 := Scalar.addi v698 c512_i32_625
  let c0_i32_632 : BitVec 32 := 0#32
  ![v699.toNat, 0]

def k0_chk53 (v697 : BitVec 32) : Prop :=
  (∀ a, (k0_off104 v697) a + S256x512.size a ≤ S32768x512.size a) ∧
  (∀ (hinb : ∀ a, (k0_off104 v697) a + S256x512.size a ≤ S32768x512.size a), (Rect.unit (s := S32768x512) (k0_off104 v697) S256x512.size hinb).WholeWords (EltTy.packing .bf16))
theorem k0_off104_inb : ∀ (v697 : BitVec 32) (k0_hw53 : k0_chk53 v697), ∀ a, (k0_off104 v697) a + S256x512.size a ≤ S32768x512.size a := fun v697 k0_hw53 => k0_hw53.1
theorem k0_off104_wordsbf16 : ∀ (v697 : BitVec 32) (k0_hw53 : k0_chk53 v697), (Rect.unit (s := S32768x512) (k0_off104 v697) S256x512.size (k0_off104_inb v697 k0_hw53)).WholeWords (EltTy.packing .bf16) := fun v697 k0_hw53 => k0_hw53.2 (k0_off104_inb v697 k0_hw53)

def k0_dev31 (v8 : BitVec 32) : Nat :=
  let c0_i32_631 : BitVec 32 := 0#32
  let c1_i32_630 : BitVec 32 := 1#32
  let v700 : BitVec 32 := Scalar.muli v8 c1_i32_630
  let v701 : BitVec 32 := Scalar.addi c0_i32_631 v700
  v701.toNat
def k0_off105 (v4 : BitVec 32) : Fin 1 → Nat :=
  let c2_i32_634 : BitVec 32 := 2#32
  let v708 : BitVec 32 := Scalar.addi v4 c2_i32_634
  let c32_i32_635 : BitVec 32 := 32#32
  let v709 : BitVec 32 := Scalar.remsi v708 c32_i32_635
  let v710 : Index := Scalar.indexCast v709
  ![v710.toNat]
def k0_off106 (v711 : BitVec 32) : Fin 2 → Nat :=
  let c1024_i32_636 : BitVec 32 := 1024#32
  let v712 : BitVec 32 := Scalar.muli v711 c1024_i32_636
  let c512_i32_637 : BitVec 32 := 512#32
  let v713 : BitVec 32 := Scalar.addi v712 c512_i32_637
  let c0_i32_644 : BitVec 32 := 0#32
  ![v713.toNat, 0]

def k0_chk54 (v711 : BitVec 32) : Prop :=
  (∀ a, (k0_off106 v711) a + S256x512.size a ≤ S32768x512.size a) ∧
  (∀ (hinb : ∀ a, (k0_off106 v711) a + S256x512.size a ≤ S32768x512.size a), (Rect.unit (s := S32768x512) (k0_off106 v711) S256x512.size hinb).WholeWords (EltTy.packing .bf16))
theorem k0_off106_inb : ∀ (v711 : BitVec 32) (k0_hw54 : k0_chk54 v711), ∀ a, (k0_off106 v711) a + S256x512.size a ≤ S32768x512.size a := fun v711 k0_hw54 => k0_hw54.1
theorem k0_off106_wordsbf16 : ∀ (v711 : BitVec 32) (k0_hw54 : k0_chk54 v711), (Rect.unit (s := S32768x512) (k0_off106 v711) S256x512.size (k0_off106_inb v711 k0_hw54)).WholeWords (EltTy.packing .bf16) := fun v711 k0_hw54 => k0_hw54.2 (k0_off106_inb v711 k0_hw54)

def k0_off107 (v4 : BitVec 32) : Fin 1 → Nat :=
  let c3_i32_646 : BitVec 32 := 3#32
  let v720 : BitVec 32 := Scalar.addi v4 c3_i32_646
  let c32_i32_647 : BitVec 32 := 32#32
  let v721 : BitVec 32 := Scalar.remsi v720 c32_i32_647
  let v722 : Index := Scalar.indexCast v721
  ![v722.toNat]
def k0_off108 (v723 : BitVec 32) : Fin 2 → Nat :=
  let c1024_i32_648 : BitVec 32 := 1024#32
  let v724 : BitVec 32 := Scalar.muli v723 c1024_i32_648
  let c512_i32_649 : BitVec 32 := 512#32
  let v725 : BitVec 32 := Scalar.addi v724 c512_i32_649
  let c0_i32_656 : BitVec 32 := 0#32
  ![v725.toNat, 0]

def k0_chk55 (v723 : BitVec 32) : Prop :=
  (∀ a, (k0_off108 v723) a + S256x512.size a ≤ S32768x512.size a) ∧
  (∀ (hinb : ∀ a, (k0_off108 v723) a + S256x512.size a ≤ S32768x512.size a), (Rect.unit (s := S32768x512) (k0_off108 v723) S256x512.size hinb).WholeWords (EltTy.packing .bf16))
theorem k0_off108_inb : ∀ (v723 : BitVec 32) (k0_hw55 : k0_chk55 v723), ∀ a, (k0_off108 v723) a + S256x512.size a ≤ S32768x512.size a := fun v723 k0_hw55 => k0_hw55.1
theorem k0_off108_wordsbf16 : ∀ (v723 : BitVec 32) (k0_hw55 : k0_chk55 v723), (Rect.unit (s := S32768x512) (k0_off108 v723) S256x512.size (k0_off108_inb v723 k0_hw55)).WholeWords (EltTy.packing .bf16) := fun v723 k0_hw55 => k0_hw55.2 (k0_off108_inb v723 k0_hw55)

def k0_dev32 (v13 : BitVec 32) : Nat :=
  let c0_i32_655 : BitVec 32 := 0#32
  let c1_i32_654 : BitVec 32 := 1#32
  let v726 : BitVec 32 := Scalar.muli v13 c1_i32_654
  let v727 : BitVec 32 := Scalar.addi c0_i32_655 v726
  v727.toNat
def k0_off109 (v4 : BitVec 32) : Fin 1 → Nat :=
  let c2_i32_658 : BitVec 32 := 2#32
  let v734 : BitVec 32 := Scalar.subi v4 c2_i32_658
  let c32_i32_659 : BitVec 32 := 32#32
  let v735 : BitVec 32 := Scalar.addi v734 c32_i32_659
  let c32_i32_660 : BitVec 32 := 32#32
  let v736 : BitVec 32 := Scalar.remsi v735 c32_i32_660
  let v737 : Index := Scalar.indexCast v736
  ![v737.toNat]
def k0_off110 (v738 : BitVec 32) : Fin 2 → Nat :=
  let c1024_i32_661 : BitVec 32 := 1024#32
  let v739 : BitVec 32 := Scalar.muli v738 c1024_i32_661
  let c768_i32_662 : BitVec 32 := 768#32
  let v740 : BitVec 32 := Scalar.addi v739 c768_i32_662
  let c0_i32_669 : BitVec 32 := 0#32
  ![v740.toNat, 0]

def k0_chk56 (v738 : BitVec 32) : Prop :=
  (∀ a, (k0_off110 v738) a + S256x512.size a ≤ S32768x512.size a) ∧
  (∀ (hinb : ∀ a, (k0_off110 v738) a + S256x512.size a ≤ S32768x512.size a), (Rect.unit (s := S32768x512) (k0_off110 v738) S256x512.size hinb).WholeWords (EltTy.packing .bf16))
theorem k0_off110_inb : ∀ (v738 : BitVec 32) (k0_hw56 : k0_chk56 v738), ∀ a, (k0_off110 v738) a + S256x512.size a ≤ S32768x512.size a := fun v738 k0_hw56 => k0_hw56.1
theorem k0_off110_wordsbf16 : ∀ (v738 : BitVec 32) (k0_hw56 : k0_chk56 v738), (Rect.unit (s := S32768x512) (k0_off110 v738) S256x512.size (k0_off110_inb v738 k0_hw56)).WholeWords (EltTy.packing .bf16) := fun v738 k0_hw56 => k0_hw56.2 (k0_off110_inb v738 k0_hw56)

def k0_off111 (v4 : BitVec 32) : Fin 1 → Nat :=
  let c3_i32_671 : BitVec 32 := 3#32
  let v747 : BitVec 32 := Scalar.subi v4 c3_i32_671
  let c32_i32_672 : BitVec 32 := 32#32
  let v748 : BitVec 32 := Scalar.addi v747 c32_i32_672
  let c32_i32_673 : BitVec 32 := 32#32
  let v749 : BitVec 32 := Scalar.remsi v748 c32_i32_673
  let v750 : Index := Scalar.indexCast v749
  ![v750.toNat]
def k0_off112 (v751 : BitVec 32) : Fin 2 → Nat :=
  let c1024_i32_674 : BitVec 32 := 1024#32
  let v752 : BitVec 32 := Scalar.muli v751 c1024_i32_674
  let c768_i32_675 : BitVec 32 := 768#32
  let v753 : BitVec 32 := Scalar.addi v752 c768_i32_675
  let c0_i32_682 : BitVec 32 := 0#32
  ![v753.toNat, 0]

def k0_chk57 (v751 : BitVec 32) : Prop :=
  (∀ a, (k0_off112 v751) a + S256x512.size a ≤ S32768x512.size a) ∧
  (∀ (hinb : ∀ a, (k0_off112 v751) a + S256x512.size a ≤ S32768x512.size a), (Rect.unit (s := S32768x512) (k0_off112 v751) S256x512.size hinb).WholeWords (EltTy.packing .bf16))
theorem k0_off112_inb : ∀ (v751 : BitVec 32) (k0_hw57 : k0_chk57 v751), ∀ a, (k0_off112 v751) a + S256x512.size a ≤ S32768x512.size a := fun v751 k0_hw57 => k0_hw57.1
theorem k0_off112_wordsbf16 : ∀ (v751 : BitVec 32) (k0_hw57 : k0_chk57 v751), (Rect.unit (s := S32768x512) (k0_off112 v751) S256x512.size (k0_off112_inb v751 k0_hw57)).WholeWords (EltTy.packing .bf16) := fun v751 k0_hw57 => k0_hw57.2 (k0_off112_inb v751 k0_hw57)

def k0_dev33 (v8 : BitVec 32) : Nat :=
  let c0_i32_681 : BitVec 32 := 0#32
  let c1_i32_680 : BitVec 32 := 1#32
  let v754 : BitVec 32 := Scalar.muli v8 c1_i32_680
  let v755 : BitVec 32 := Scalar.addi c0_i32_681 v754
  v755.toNat
def k0_off113 (v4 : BitVec 32) : Fin 1 → Nat :=
  let c2_i32_684 : BitVec 32 := 2#32
  let v762 : BitVec 32 := Scalar.addi v4 c2_i32_684
  let c32_i32_685 : BitVec 32 := 32#32
  let v763 : BitVec 32 := Scalar.remsi v762 c32_i32_685
  let v764 : Index := Scalar.indexCast v763
  ![v764.toNat]
def k0_off114 (v765 : BitVec 32) : Fin 2 → Nat :=
  let c1024_i32_686 : BitVec 32 := 1024#32
  let v766 : BitVec 32 := Scalar.muli v765 c1024_i32_686
  let c768_i32_687 : BitVec 32 := 768#32
  let v767 : BitVec 32 := Scalar.addi v766 c768_i32_687
  let c0_i32_694 : BitVec 32 := 0#32
  ![v767.toNat, 0]

def k0_chk58 (v765 : BitVec 32) : Prop :=
  (∀ a, (k0_off114 v765) a + S256x512.size a ≤ S32768x512.size a) ∧
  (∀ (hinb : ∀ a, (k0_off114 v765) a + S256x512.size a ≤ S32768x512.size a), (Rect.unit (s := S32768x512) (k0_off114 v765) S256x512.size hinb).WholeWords (EltTy.packing .bf16))
theorem k0_off114_inb : ∀ (v765 : BitVec 32) (k0_hw58 : k0_chk58 v765), ∀ a, (k0_off114 v765) a + S256x512.size a ≤ S32768x512.size a := fun v765 k0_hw58 => k0_hw58.1
theorem k0_off114_wordsbf16 : ∀ (v765 : BitVec 32) (k0_hw58 : k0_chk58 v765), (Rect.unit (s := S32768x512) (k0_off114 v765) S256x512.size (k0_off114_inb v765 k0_hw58)).WholeWords (EltTy.packing .bf16) := fun v765 k0_hw58 => k0_hw58.2 (k0_off114_inb v765 k0_hw58)

def k0_off115 (v4 : BitVec 32) : Fin 1 → Nat :=
  let c3_i32_696 : BitVec 32 := 3#32
  let v774 : BitVec 32 := Scalar.addi v4 c3_i32_696
  let c32_i32_697 : BitVec 32 := 32#32
  let v775 : BitVec 32 := Scalar.remsi v774 c32_i32_697
  let v776 : Index := Scalar.indexCast v775
  ![v776.toNat]
def k0_off116 (v777 : BitVec 32) : Fin 2 → Nat :=
  let c1024_i32_698 : BitVec 32 := 1024#32
  let v778 : BitVec 32 := Scalar.muli v777 c1024_i32_698
  let c768_i32_699 : BitVec 32 := 768#32
  let v779 : BitVec 32 := Scalar.addi v778 c768_i32_699
  let c0_i32_706 : BitVec 32 := 0#32
  ![v779.toNat, 0]

def k0_chk59 (v777 : BitVec 32) : Prop :=
  (∀ a, (k0_off116 v777) a + S256x512.size a ≤ S32768x512.size a) ∧
  (∀ (hinb : ∀ a, (k0_off116 v777) a + S256x512.size a ≤ S32768x512.size a), (Rect.unit (s := S32768x512) (k0_off116 v777) S256x512.size hinb).WholeWords (EltTy.packing .bf16))
theorem k0_off116_inb : ∀ (v777 : BitVec 32) (k0_hw59 : k0_chk59 v777), ∀ a, (k0_off116 v777) a + S256x512.size a ≤ S32768x512.size a := fun v777 k0_hw59 => k0_hw59.1
theorem k0_off116_wordsbf16 : ∀ (v777 : BitVec 32) (k0_hw59 : k0_chk59 v777), (Rect.unit (s := S32768x512) (k0_off116 v777) S256x512.size (k0_off116_inb v777 k0_hw59)).WholeWords (EltTy.packing .bf16) := fun v777 k0_hw59 => k0_hw59.2 (k0_off116_inb v777 k0_hw59)

def k0_dev34 (v13 : BitVec 32) : Nat :=
  let c0_i32_705 : BitVec 32 := 0#32
  let c1_i32_704 : BitVec 32 := 1#32
  let v780 : BitVec 32 := Scalar.muli v13 c1_i32_704
  let v781 : BitVec 32 := Scalar.addi c0_i32_705 v780
  v781.toNat
def k0_off117 (v4 : BitVec 32) : Fin 1 → Nat :=
  let c3_i32_708 : BitVec 32 := 3#32
  let v788 : BitVec 32 := Scalar.subi v4 c3_i32_708
  let c32_i32_709 : BitVec 32 := 32#32
  let v789 : BitVec 32 := Scalar.addi v788 c32_i32_709
  let c32_i32_710 : BitVec 32 := 32#32
  let v790 : BitVec 32 := Scalar.remsi v789 c32_i32_710
  let v791 : Index := Scalar.indexCast v790
  ![v791.toNat]
def k0_off118 (v792 : BitVec 32) : Fin 2 → Nat :=
  let c1024_i32_711 : BitVec 32 := 1024#32
  let v793 : BitVec 32 := Scalar.muli v792 c1024_i32_711
  let c0_i32_712 : BitVec 32 := 0#32
  let v794 : BitVec 32 := Scalar.addi v793 c0_i32_712
  let c0_i32_719 : BitVec 32 := 0#32
  ![v794.toNat, 0]

def k0_chk60 (v792 : BitVec 32) : Prop :=
  (∀ a, (k0_off118 v792) a + S256x512.size a ≤ S32768x512.size a) ∧
  (∀ (hinb : ∀ a, (k0_off118 v792) a + S256x512.size a ≤ S32768x512.size a), (Rect.unit (s := S32768x512) (k0_off118 v792) S256x512.size hinb).WholeWords (EltTy.packing .bf16))
theorem k0_off118_inb : ∀ (v792 : BitVec 32) (k0_hw60 : k0_chk60 v792), ∀ a, (k0_off118 v792) a + S256x512.size a ≤ S32768x512.size a := fun v792 k0_hw60 => k0_hw60.1
theorem k0_off118_wordsbf16 : ∀ (v792 : BitVec 32) (k0_hw60 : k0_chk60 v792), (Rect.unit (s := S32768x512) (k0_off118 v792) S256x512.size (k0_off118_inb v792 k0_hw60)).WholeWords (EltTy.packing .bf16) := fun v792 k0_hw60 => k0_hw60.2 (k0_off118_inb v792 k0_hw60)

def k0_off119 (v4 : BitVec 32) : Fin 1 → Nat :=
  let c4_i32 : BitVec 32 := 4#32
  let v801 : BitVec 32 := Scalar.subi v4 c4_i32
  let c32_i32_721 : BitVec 32 := 32#32
  let v802 : BitVec 32 := Scalar.addi v801 c32_i32_721
  let c32_i32_722 : BitVec 32 := 32#32
  let v803 : BitVec 32 := Scalar.remsi v802 c32_i32_722
  let v804 : Index := Scalar.indexCast v803
  ![v804.toNat]
def k0_off120 (v805 : BitVec 32) : Fin 2 → Nat :=
  let c1024_i32_723 : BitVec 32 := 1024#32
  let v806 : BitVec 32 := Scalar.muli v805 c1024_i32_723
  let c0_i32_724 : BitVec 32 := 0#32
  let v807 : BitVec 32 := Scalar.addi v806 c0_i32_724
  let c0_i32_731 : BitVec 32 := 0#32
  ![v807.toNat, 0]

def k0_chk61 (v805 : BitVec 32) : Prop :=
  (∀ a, (k0_off120 v805) a + S256x512.size a ≤ S32768x512.size a) ∧
  (∀ (hinb : ∀ a, (k0_off120 v805) a + S256x512.size a ≤ S32768x512.size a), (Rect.unit (s := S32768x512) (k0_off120 v805) S256x512.size hinb).WholeWords (EltTy.packing .bf16))
theorem k0_off120_inb : ∀ (v805 : BitVec 32) (k0_hw61 : k0_chk61 v805), ∀ a, (k0_off120 v805) a + S256x512.size a ≤ S32768x512.size a := fun v805 k0_hw61 => k0_hw61.1
theorem k0_off120_wordsbf16 : ∀ (v805 : BitVec 32) (k0_hw61 : k0_chk61 v805), (Rect.unit (s := S32768x512) (k0_off120 v805) S256x512.size (k0_off120_inb v805 k0_hw61)).WholeWords (EltTy.packing .bf16) := fun v805 k0_hw61 => k0_hw61.2 (k0_off120_inb v805 k0_hw61)

def k0_dev35 (v8 : BitVec 32) : Nat :=
  let c0_i32_730 : BitVec 32 := 0#32
  let c1_i32_729 : BitVec 32 := 1#32
  let v808 : BitVec 32 := Scalar.muli v8 c1_i32_729
  let v809 : BitVec 32 := Scalar.addi c0_i32_730 v808
  v809.toNat
def k0_off121 (v4 : BitVec 32) : Fin 1 → Nat :=
  let c3_i32_733 : BitVec 32 := 3#32
  let v816 : BitVec 32 := Scalar.addi v4 c3_i32_733
  let c32_i32_734 : BitVec 32 := 32#32
  let v817 : BitVec 32 := Scalar.remsi v816 c32_i32_734
  let v818 : Index := Scalar.indexCast v817
  ![v818.toNat]
def k0_off122 (v819 : BitVec 32) : Fin 2 → Nat :=
  let c1024_i32_735 : BitVec 32 := 1024#32
  let v820 : BitVec 32 := Scalar.muli v819 c1024_i32_735
  let c0_i32_736 : BitVec 32 := 0#32
  let v821 : BitVec 32 := Scalar.addi v820 c0_i32_736
  let c0_i32_743 : BitVec 32 := 0#32
  ![v821.toNat, 0]

def k0_chk62 (v819 : BitVec 32) : Prop :=
  (∀ a, (k0_off122 v819) a + S256x512.size a ≤ S32768x512.size a) ∧
  (∀ (hinb : ∀ a, (k0_off122 v819) a + S256x512.size a ≤ S32768x512.size a), (Rect.unit (s := S32768x512) (k0_off122 v819) S256x512.size hinb).WholeWords (EltTy.packing .bf16))
theorem k0_off122_inb : ∀ (v819 : BitVec 32) (k0_hw62 : k0_chk62 v819), ∀ a, (k0_off122 v819) a + S256x512.size a ≤ S32768x512.size a := fun v819 k0_hw62 => k0_hw62.1
theorem k0_off122_wordsbf16 : ∀ (v819 : BitVec 32) (k0_hw62 : k0_chk62 v819), (Rect.unit (s := S32768x512) (k0_off122 v819) S256x512.size (k0_off122_inb v819 k0_hw62)).WholeWords (EltTy.packing .bf16) := fun v819 k0_hw62 => k0_hw62.2 (k0_off122_inb v819 k0_hw62)

def k0_off123 (v4 : BitVec 32) : Fin 1 → Nat :=
  let c4_i32_745 : BitVec 32 := 4#32
  let v828 : BitVec 32 := Scalar.addi v4 c4_i32_745
  let c32_i32_746 : BitVec 32 := 32#32
  let v829 : BitVec 32 := Scalar.remsi v828 c32_i32_746
  let v830 : Index := Scalar.indexCast v829
  ![v830.toNat]
def k0_off124 (v831 : BitVec 32) : Fin 2 → Nat :=
  let c1024_i32_747 : BitVec 32 := 1024#32
  let v832 : BitVec 32 := Scalar.muli v831 c1024_i32_747
  let c0_i32_748 : BitVec 32 := 0#32
  let v833 : BitVec 32 := Scalar.addi v832 c0_i32_748
  let c0_i32_755 : BitVec 32 := 0#32
  ![v833.toNat, 0]

def k0_chk63 (v831 : BitVec 32) : Prop :=
  (∀ a, (k0_off124 v831) a + S256x512.size a ≤ S32768x512.size a) ∧
  (∀ (hinb : ∀ a, (k0_off124 v831) a + S256x512.size a ≤ S32768x512.size a), (Rect.unit (s := S32768x512) (k0_off124 v831) S256x512.size hinb).WholeWords (EltTy.packing .bf16))
theorem k0_off124_inb : ∀ (v831 : BitVec 32) (k0_hw63 : k0_chk63 v831), ∀ a, (k0_off124 v831) a + S256x512.size a ≤ S32768x512.size a := fun v831 k0_hw63 => k0_hw63.1
theorem k0_off124_wordsbf16 : ∀ (v831 : BitVec 32) (k0_hw63 : k0_chk63 v831), (Rect.unit (s := S32768x512) (k0_off124 v831) S256x512.size (k0_off124_inb v831 k0_hw63)).WholeWords (EltTy.packing .bf16) := fun v831 k0_hw63 => k0_hw63.2 (k0_off124_inb v831 k0_hw63)

def k0_dev36 (v13 : BitVec 32) : Nat :=
  let c0_i32_754 : BitVec 32 := 0#32
  let c1_i32_753 : BitVec 32 := 1#32
  let v834 : BitVec 32 := Scalar.muli v13 c1_i32_753
  let v835 : BitVec 32 := Scalar.addi c0_i32_754 v834
  v835.toNat
def k0_off125 (v4 : BitVec 32) : Fin 1 → Nat :=
  let c3_i32_757 : BitVec 32 := 3#32
  let v842 : BitVec 32 := Scalar.subi v4 c3_i32_757
  let c32_i32_758 : BitVec 32 := 32#32
  let v843 : BitVec 32 := Scalar.addi v842 c32_i32_758
  let c32_i32_759 : BitVec 32 := 32#32
  let v844 : BitVec 32 := Scalar.remsi v843 c32_i32_759
  let v845 : Index := Scalar.indexCast v844
  ![v845.toNat]
def k0_off126 (v846 : BitVec 32) : Fin 2 → Nat :=
  let c1024_i32_760 : BitVec 32 := 1024#32
  let v847 : BitVec 32 := Scalar.muli v846 c1024_i32_760
  let c256_i32_761 : BitVec 32 := 256#32
  let v848 : BitVec 32 := Scalar.addi v847 c256_i32_761
  let c0_i32_768 : BitVec 32 := 0#32
  ![v848.toNat, 0]

def k0_chk64 (v846 : BitVec 32) : Prop :=
  (∀ a, (k0_off126 v846) a + S256x512.size a ≤ S32768x512.size a) ∧
  (∀ (hinb : ∀ a, (k0_off126 v846) a + S256x512.size a ≤ S32768x512.size a), (Rect.unit (s := S32768x512) (k0_off126 v846) S256x512.size hinb).WholeWords (EltTy.packing .bf16))
theorem k0_off126_inb : ∀ (v846 : BitVec 32) (k0_hw64 : k0_chk64 v846), ∀ a, (k0_off126 v846) a + S256x512.size a ≤ S32768x512.size a := fun v846 k0_hw64 => k0_hw64.1
theorem k0_off126_wordsbf16 : ∀ (v846 : BitVec 32) (k0_hw64 : k0_chk64 v846), (Rect.unit (s := S32768x512) (k0_off126 v846) S256x512.size (k0_off126_inb v846 k0_hw64)).WholeWords (EltTy.packing .bf16) := fun v846 k0_hw64 => k0_hw64.2 (k0_off126_inb v846 k0_hw64)

def k0_off127 (v4 : BitVec 32) : Fin 1 → Nat :=
  let c4_i32_770 : BitVec 32 := 4#32
  let v855 : BitVec 32 := Scalar.subi v4 c4_i32_770
  let c32_i32_771 : BitVec 32 := 32#32
  let v856 : BitVec 32 := Scalar.addi v855 c32_i32_771
  let c32_i32_772 : BitVec 32 := 32#32
  let v857 : BitVec 32 := Scalar.remsi v856 c32_i32_772
  let v858 : Index := Scalar.indexCast v857
  ![v858.toNat]
def k0_off128 (v859 : BitVec 32) : Fin 2 → Nat :=
  let c1024_i32_773 : BitVec 32 := 1024#32
  let v860 : BitVec 32 := Scalar.muli v859 c1024_i32_773
  let c256_i32_774 : BitVec 32 := 256#32
  let v861 : BitVec 32 := Scalar.addi v860 c256_i32_774
  let c0_i32_781 : BitVec 32 := 0#32
  ![v861.toNat, 0]

def k0_chk65 (v859 : BitVec 32) : Prop :=
  (∀ a, (k0_off128 v859) a + S256x512.size a ≤ S32768x512.size a) ∧
  (∀ (hinb : ∀ a, (k0_off128 v859) a + S256x512.size a ≤ S32768x512.size a), (Rect.unit (s := S32768x512) (k0_off128 v859) S256x512.size hinb).WholeWords (EltTy.packing .bf16))
theorem k0_off128_inb : ∀ (v859 : BitVec 32) (k0_hw65 : k0_chk65 v859), ∀ a, (k0_off128 v859) a + S256x512.size a ≤ S32768x512.size a := fun v859 k0_hw65 => k0_hw65.1
theorem k0_off128_wordsbf16 : ∀ (v859 : BitVec 32) (k0_hw65 : k0_chk65 v859), (Rect.unit (s := S32768x512) (k0_off128 v859) S256x512.size (k0_off128_inb v859 k0_hw65)).WholeWords (EltTy.packing .bf16) := fun v859 k0_hw65 => k0_hw65.2 (k0_off128_inb v859 k0_hw65)

def k0_dev37 (v8 : BitVec 32) : Nat :=
  let c0_i32_780 : BitVec 32 := 0#32
  let c1_i32_779 : BitVec 32 := 1#32
  let v862 : BitVec 32 := Scalar.muli v8 c1_i32_779
  let v863 : BitVec 32 := Scalar.addi c0_i32_780 v862
  v863.toNat
def k0_off129 (v4 : BitVec 32) : Fin 1 → Nat :=
  let c3_i32_783 : BitVec 32 := 3#32
  let v870 : BitVec 32 := Scalar.addi v4 c3_i32_783
  let c32_i32_784 : BitVec 32 := 32#32
  let v871 : BitVec 32 := Scalar.remsi v870 c32_i32_784
  let v872 : Index := Scalar.indexCast v871
  ![v872.toNat]
def k0_off130 (v873 : BitVec 32) : Fin 2 → Nat :=
  let c1024_i32_785 : BitVec 32 := 1024#32
  let v874 : BitVec 32 := Scalar.muli v873 c1024_i32_785
  let c256_i32_786 : BitVec 32 := 256#32
  let v875 : BitVec 32 := Scalar.addi v874 c256_i32_786
  let c0_i32_793 : BitVec 32 := 0#32
  ![v875.toNat, 0]

def k0_chk66 (v873 : BitVec 32) : Prop :=
  (∀ a, (k0_off130 v873) a + S256x512.size a ≤ S32768x512.size a) ∧
  (∀ (hinb : ∀ a, (k0_off130 v873) a + S256x512.size a ≤ S32768x512.size a), (Rect.unit (s := S32768x512) (k0_off130 v873) S256x512.size hinb).WholeWords (EltTy.packing .bf16))
theorem k0_off130_inb : ∀ (v873 : BitVec 32) (k0_hw66 : k0_chk66 v873), ∀ a, (k0_off130 v873) a + S256x512.size a ≤ S32768x512.size a := fun v873 k0_hw66 => k0_hw66.1
theorem k0_off130_wordsbf16 : ∀ (v873 : BitVec 32) (k0_hw66 : k0_chk66 v873), (Rect.unit (s := S32768x512) (k0_off130 v873) S256x512.size (k0_off130_inb v873 k0_hw66)).WholeWords (EltTy.packing .bf16) := fun v873 k0_hw66 => k0_hw66.2 (k0_off130_inb v873 k0_hw66)

def k0_off131 (v4 : BitVec 32) : Fin 1 → Nat :=
  let c4_i32_795 : BitVec 32 := 4#32
  let v882 : BitVec 32 := Scalar.addi v4 c4_i32_795
  let c32_i32_796 : BitVec 32 := 32#32
  let v883 : BitVec 32 := Scalar.remsi v882 c32_i32_796
  let v884 : Index := Scalar.indexCast v883
  ![v884.toNat]
def k0_off132 (v885 : BitVec 32) : Fin 2 → Nat :=
  let c1024_i32_797 : BitVec 32 := 1024#32
  let v886 : BitVec 32 := Scalar.muli v885 c1024_i32_797
  let c256_i32_798 : BitVec 32 := 256#32
  let v887 : BitVec 32 := Scalar.addi v886 c256_i32_798
  let c0_i32_805 : BitVec 32 := 0#32
  ![v887.toNat, 0]

def k0_chk67 (v885 : BitVec 32) : Prop :=
  (∀ a, (k0_off132 v885) a + S256x512.size a ≤ S32768x512.size a) ∧
  (∀ (hinb : ∀ a, (k0_off132 v885) a + S256x512.size a ≤ S32768x512.size a), (Rect.unit (s := S32768x512) (k0_off132 v885) S256x512.size hinb).WholeWords (EltTy.packing .bf16))
theorem k0_off132_inb : ∀ (v885 : BitVec 32) (k0_hw67 : k0_chk67 v885), ∀ a, (k0_off132 v885) a + S256x512.size a ≤ S32768x512.size a := fun v885 k0_hw67 => k0_hw67.1
theorem k0_off132_wordsbf16 : ∀ (v885 : BitVec 32) (k0_hw67 : k0_chk67 v885), (Rect.unit (s := S32768x512) (k0_off132 v885) S256x512.size (k0_off132_inb v885 k0_hw67)).WholeWords (EltTy.packing .bf16) := fun v885 k0_hw67 => k0_hw67.2 (k0_off132_inb v885 k0_hw67)

def k0_dev38 (v13 : BitVec 32) : Nat :=
  let c0_i32_804 : BitVec 32 := 0#32
  let c1_i32_803 : BitVec 32 := 1#32
  let v888 : BitVec 32 := Scalar.muli v13 c1_i32_803
  let v889 : BitVec 32 := Scalar.addi c0_i32_804 v888
  v889.toNat
def k0_off133 (v4 : BitVec 32) : Fin 1 → Nat :=
  let c3_i32_807 : BitVec 32 := 3#32
  let v896 : BitVec 32 := Scalar.subi v4 c3_i32_807
  let c32_i32_808 : BitVec 32 := 32#32
  let v897 : BitVec 32 := Scalar.addi v896 c32_i32_808
  let c32_i32_809 : BitVec 32 := 32#32
  let v898 : BitVec 32 := Scalar.remsi v897 c32_i32_809
  let v899 : Index := Scalar.indexCast v898
  ![v899.toNat]
def k0_off134 (v900 : BitVec 32) : Fin 2 → Nat :=
  let c1024_i32_810 : BitVec 32 := 1024#32
  let v901 : BitVec 32 := Scalar.muli v900 c1024_i32_810
  let c512_i32_811 : BitVec 32 := 512#32
  let v902 : BitVec 32 := Scalar.addi v901 c512_i32_811
  let c0_i32_818 : BitVec 32 := 0#32
  ![v902.toNat, 0]

def k0_chk68 (v900 : BitVec 32) : Prop :=
  (∀ a, (k0_off134 v900) a + S256x512.size a ≤ S32768x512.size a) ∧
  (∀ (hinb : ∀ a, (k0_off134 v900) a + S256x512.size a ≤ S32768x512.size a), (Rect.unit (s := S32768x512) (k0_off134 v900) S256x512.size hinb).WholeWords (EltTy.packing .bf16))
theorem k0_off134_inb : ∀ (v900 : BitVec 32) (k0_hw68 : k0_chk68 v900), ∀ a, (k0_off134 v900) a + S256x512.size a ≤ S32768x512.size a := fun v900 k0_hw68 => k0_hw68.1
theorem k0_off134_wordsbf16 : ∀ (v900 : BitVec 32) (k0_hw68 : k0_chk68 v900), (Rect.unit (s := S32768x512) (k0_off134 v900) S256x512.size (k0_off134_inb v900 k0_hw68)).WholeWords (EltTy.packing .bf16) := fun v900 k0_hw68 => k0_hw68.2 (k0_off134_inb v900 k0_hw68)

def k0_off135 (v4 : BitVec 32) : Fin 1 → Nat :=
  let c4_i32_820 : BitVec 32 := 4#32
  let v909 : BitVec 32 := Scalar.subi v4 c4_i32_820
  let c32_i32_821 : BitVec 32 := 32#32
  let v910 : BitVec 32 := Scalar.addi v909 c32_i32_821
  let c32_i32_822 : BitVec 32 := 32#32
  let v911 : BitVec 32 := Scalar.remsi v910 c32_i32_822
  let v912 : Index := Scalar.indexCast v911
  ![v912.toNat]
def k0_off136 (v913 : BitVec 32) : Fin 2 → Nat :=
  let c1024_i32_823 : BitVec 32 := 1024#32
  let v914 : BitVec 32 := Scalar.muli v913 c1024_i32_823
  let c512_i32_824 : BitVec 32 := 512#32
  let v915 : BitVec 32 := Scalar.addi v914 c512_i32_824
  let c0_i32_831 : BitVec 32 := 0#32
  ![v915.toNat, 0]

def k0_chk69 (v913 : BitVec 32) : Prop :=
  (∀ a, (k0_off136 v913) a + S256x512.size a ≤ S32768x512.size a) ∧
  (∀ (hinb : ∀ a, (k0_off136 v913) a + S256x512.size a ≤ S32768x512.size a), (Rect.unit (s := S32768x512) (k0_off136 v913) S256x512.size hinb).WholeWords (EltTy.packing .bf16))
theorem k0_off136_inb : ∀ (v913 : BitVec 32) (k0_hw69 : k0_chk69 v913), ∀ a, (k0_off136 v913) a + S256x512.size a ≤ S32768x512.size a := fun v913 k0_hw69 => k0_hw69.1
theorem k0_off136_wordsbf16 : ∀ (v913 : BitVec 32) (k0_hw69 : k0_chk69 v913), (Rect.unit (s := S32768x512) (k0_off136 v913) S256x512.size (k0_off136_inb v913 k0_hw69)).WholeWords (EltTy.packing .bf16) := fun v913 k0_hw69 => k0_hw69.2 (k0_off136_inb v913 k0_hw69)

def k0_dev39 (v8 : BitVec 32) : Nat :=
  let c0_i32_830 : BitVec 32 := 0#32
  let c1_i32_829 : BitVec 32 := 1#32
  let v916 : BitVec 32 := Scalar.muli v8 c1_i32_829
  let v917 : BitVec 32 := Scalar.addi c0_i32_830 v916
  v917.toNat
def k0_off137 (v4 : BitVec 32) : Fin 1 → Nat :=
  let c3_i32_833 : BitVec 32 := 3#32
  let v924 : BitVec 32 := Scalar.addi v4 c3_i32_833
  let c32_i32_834 : BitVec 32 := 32#32
  let v925 : BitVec 32 := Scalar.remsi v924 c32_i32_834
  let v926 : Index := Scalar.indexCast v925
  ![v926.toNat]
def k0_off138 (v927 : BitVec 32) : Fin 2 → Nat :=
  let c1024_i32_835 : BitVec 32 := 1024#32
  let v928 : BitVec 32 := Scalar.muli v927 c1024_i32_835
  let c512_i32_836 : BitVec 32 := 512#32
  let v929 : BitVec 32 := Scalar.addi v928 c512_i32_836
  let c0_i32_843 : BitVec 32 := 0#32
  ![v929.toNat, 0]

def k0_chk70 (v927 : BitVec 32) : Prop :=
  (∀ a, (k0_off138 v927) a + S256x512.size a ≤ S32768x512.size a) ∧
  (∀ (hinb : ∀ a, (k0_off138 v927) a + S256x512.size a ≤ S32768x512.size a), (Rect.unit (s := S32768x512) (k0_off138 v927) S256x512.size hinb).WholeWords (EltTy.packing .bf16))
theorem k0_off138_inb : ∀ (v927 : BitVec 32) (k0_hw70 : k0_chk70 v927), ∀ a, (k0_off138 v927) a + S256x512.size a ≤ S32768x512.size a := fun v927 k0_hw70 => k0_hw70.1
theorem k0_off138_wordsbf16 : ∀ (v927 : BitVec 32) (k0_hw70 : k0_chk70 v927), (Rect.unit (s := S32768x512) (k0_off138 v927) S256x512.size (k0_off138_inb v927 k0_hw70)).WholeWords (EltTy.packing .bf16) := fun v927 k0_hw70 => k0_hw70.2 (k0_off138_inb v927 k0_hw70)

def k0_off139 (v4 : BitVec 32) : Fin 1 → Nat :=
  let c4_i32_845 : BitVec 32 := 4#32
  let v936 : BitVec 32 := Scalar.addi v4 c4_i32_845
  let c32_i32_846 : BitVec 32 := 32#32
  let v937 : BitVec 32 := Scalar.remsi v936 c32_i32_846
  let v938 : Index := Scalar.indexCast v937
  ![v938.toNat]
def k0_off140 (v939 : BitVec 32) : Fin 2 → Nat :=
  let c1024_i32_847 : BitVec 32 := 1024#32
  let v940 : BitVec 32 := Scalar.muli v939 c1024_i32_847
  let c512_i32_848 : BitVec 32 := 512#32
  let v941 : BitVec 32 := Scalar.addi v940 c512_i32_848
  let c0_i32_855 : BitVec 32 := 0#32
  ![v941.toNat, 0]

def k0_chk71 (v939 : BitVec 32) : Prop :=
  (∀ a, (k0_off140 v939) a + S256x512.size a ≤ S32768x512.size a) ∧
  (∀ (hinb : ∀ a, (k0_off140 v939) a + S256x512.size a ≤ S32768x512.size a), (Rect.unit (s := S32768x512) (k0_off140 v939) S256x512.size hinb).WholeWords (EltTy.packing .bf16))
theorem k0_off140_inb : ∀ (v939 : BitVec 32) (k0_hw71 : k0_chk71 v939), ∀ a, (k0_off140 v939) a + S256x512.size a ≤ S32768x512.size a := fun v939 k0_hw71 => k0_hw71.1
theorem k0_off140_wordsbf16 : ∀ (v939 : BitVec 32) (k0_hw71 : k0_chk71 v939), (Rect.unit (s := S32768x512) (k0_off140 v939) S256x512.size (k0_off140_inb v939 k0_hw71)).WholeWords (EltTy.packing .bf16) := fun v939 k0_hw71 => k0_hw71.2 (k0_off140_inb v939 k0_hw71)

def k0_dev40 (v13 : BitVec 32) : Nat :=
  let c0_i32_854 : BitVec 32 := 0#32
  let c1_i32_853 : BitVec 32 := 1#32
  let v942 : BitVec 32 := Scalar.muli v13 c1_i32_853
  let v943 : BitVec 32 := Scalar.addi c0_i32_854 v942
  v943.toNat
def k0_off141 (v4 : BitVec 32) : Fin 1 → Nat :=
  let c3_i32_857 : BitVec 32 := 3#32
  let v950 : BitVec 32 := Scalar.subi v4 c3_i32_857
  let c32_i32_858 : BitVec 32 := 32#32
  let v951 : BitVec 32 := Scalar.addi v950 c32_i32_858
  let c32_i32_859 : BitVec 32 := 32#32
  let v952 : BitVec 32 := Scalar.remsi v951 c32_i32_859
  let v953 : Index := Scalar.indexCast v952
  ![v953.toNat]
def k0_off142 (v954 : BitVec 32) : Fin 2 → Nat :=
  let c1024_i32_860 : BitVec 32 := 1024#32
  let v955 : BitVec 32 := Scalar.muli v954 c1024_i32_860
  let c768_i32_861 : BitVec 32 := 768#32
  let v956 : BitVec 32 := Scalar.addi v955 c768_i32_861
  let c0_i32_868 : BitVec 32 := 0#32
  ![v956.toNat, 0]

def k0_chk72 (v954 : BitVec 32) : Prop :=
  (∀ a, (k0_off142 v954) a + S256x512.size a ≤ S32768x512.size a) ∧
  (∀ (hinb : ∀ a, (k0_off142 v954) a + S256x512.size a ≤ S32768x512.size a), (Rect.unit (s := S32768x512) (k0_off142 v954) S256x512.size hinb).WholeWords (EltTy.packing .bf16))
theorem k0_off142_inb : ∀ (v954 : BitVec 32) (k0_hw72 : k0_chk72 v954), ∀ a, (k0_off142 v954) a + S256x512.size a ≤ S32768x512.size a := fun v954 k0_hw72 => k0_hw72.1
theorem k0_off142_wordsbf16 : ∀ (v954 : BitVec 32) (k0_hw72 : k0_chk72 v954), (Rect.unit (s := S32768x512) (k0_off142 v954) S256x512.size (k0_off142_inb v954 k0_hw72)).WholeWords (EltTy.packing .bf16) := fun v954 k0_hw72 => k0_hw72.2 (k0_off142_inb v954 k0_hw72)

def k0_off143 (v4 : BitVec 32) : Fin 1 → Nat :=
  let c4_i32_870 : BitVec 32 := 4#32
  let v963 : BitVec 32 := Scalar.subi v4 c4_i32_870
  let c32_i32_871 : BitVec 32 := 32#32
  let v964 : BitVec 32 := Scalar.addi v963 c32_i32_871
  let c32_i32_872 : BitVec 32 := 32#32
  let v965 : BitVec 32 := Scalar.remsi v964 c32_i32_872
  let v966 : Index := Scalar.indexCast v965
  ![v966.toNat]
def k0_off144 (v967 : BitVec 32) : Fin 2 → Nat :=
  let c1024_i32_873 : BitVec 32 := 1024#32
  let v968 : BitVec 32 := Scalar.muli v967 c1024_i32_873
  let c768_i32_874 : BitVec 32 := 768#32
  let v969 : BitVec 32 := Scalar.addi v968 c768_i32_874
  let c0_i32_881 : BitVec 32 := 0#32
  ![v969.toNat, 0]

def k0_chk73 (v967 : BitVec 32) : Prop :=
  (∀ a, (k0_off144 v967) a + S256x512.size a ≤ S32768x512.size a) ∧
  (∀ (hinb : ∀ a, (k0_off144 v967) a + S256x512.size a ≤ S32768x512.size a), (Rect.unit (s := S32768x512) (k0_off144 v967) S256x512.size hinb).WholeWords (EltTy.packing .bf16))
theorem k0_off144_inb : ∀ (v967 : BitVec 32) (k0_hw73 : k0_chk73 v967), ∀ a, (k0_off144 v967) a + S256x512.size a ≤ S32768x512.size a := fun v967 k0_hw73 => k0_hw73.1
theorem k0_off144_wordsbf16 : ∀ (v967 : BitVec 32) (k0_hw73 : k0_chk73 v967), (Rect.unit (s := S32768x512) (k0_off144 v967) S256x512.size (k0_off144_inb v967 k0_hw73)).WholeWords (EltTy.packing .bf16) := fun v967 k0_hw73 => k0_hw73.2 (k0_off144_inb v967 k0_hw73)

def k0_dev41 (v8 : BitVec 32) : Nat :=
  let c0_i32_880 : BitVec 32 := 0#32
  let c1_i32_879 : BitVec 32 := 1#32
  let v970 : BitVec 32 := Scalar.muli v8 c1_i32_879
  let v971 : BitVec 32 := Scalar.addi c0_i32_880 v970
  v971.toNat
def k0_off145 (v4 : BitVec 32) : Fin 1 → Nat :=
  let c3_i32_883 : BitVec 32 := 3#32
  let v978 : BitVec 32 := Scalar.addi v4 c3_i32_883
  let c32_i32_884 : BitVec 32 := 32#32
  let v979 : BitVec 32 := Scalar.remsi v978 c32_i32_884
  let v980 : Index := Scalar.indexCast v979
  ![v980.toNat]
def k0_off146 (v981 : BitVec 32) : Fin 2 → Nat :=
  let c1024_i32_885 : BitVec 32 := 1024#32
  let v982 : BitVec 32 := Scalar.muli v981 c1024_i32_885
  let c768_i32_886 : BitVec 32 := 768#32
  let v983 : BitVec 32 := Scalar.addi v982 c768_i32_886
  let c0_i32_893 : BitVec 32 := 0#32
  ![v983.toNat, 0]

def k0_chk74 (v981 : BitVec 32) : Prop :=
  (∀ a, (k0_off146 v981) a + S256x512.size a ≤ S32768x512.size a) ∧
  (∀ (hinb : ∀ a, (k0_off146 v981) a + S256x512.size a ≤ S32768x512.size a), (Rect.unit (s := S32768x512) (k0_off146 v981) S256x512.size hinb).WholeWords (EltTy.packing .bf16))
theorem k0_off146_inb : ∀ (v981 : BitVec 32) (k0_hw74 : k0_chk74 v981), ∀ a, (k0_off146 v981) a + S256x512.size a ≤ S32768x512.size a := fun v981 k0_hw74 => k0_hw74.1
theorem k0_off146_wordsbf16 : ∀ (v981 : BitVec 32) (k0_hw74 : k0_chk74 v981), (Rect.unit (s := S32768x512) (k0_off146 v981) S256x512.size (k0_off146_inb v981 k0_hw74)).WholeWords (EltTy.packing .bf16) := fun v981 k0_hw74 => k0_hw74.2 (k0_off146_inb v981 k0_hw74)

def k0_off147 (v4 : BitVec 32) : Fin 1 → Nat :=
  let c4_i32_895 : BitVec 32 := 4#32
  let v990 : BitVec 32 := Scalar.addi v4 c4_i32_895
  let c32_i32_896 : BitVec 32 := 32#32
  let v991 : BitVec 32 := Scalar.remsi v990 c32_i32_896
  let v992 : Index := Scalar.indexCast v991
  ![v992.toNat]
def k0_off148 (v993 : BitVec 32) : Fin 2 → Nat :=
  let c1024_i32_897 : BitVec 32 := 1024#32
  let v994 : BitVec 32 := Scalar.muli v993 c1024_i32_897
  let c768_i32_898 : BitVec 32 := 768#32
  let v995 : BitVec 32 := Scalar.addi v994 c768_i32_898
  let c0_i32_905 : BitVec 32 := 0#32
  ![v995.toNat, 0]

def k0_chk75 (v993 : BitVec 32) : Prop :=
  (∀ a, (k0_off148 v993) a + S256x512.size a ≤ S32768x512.size a) ∧
  (∀ (hinb : ∀ a, (k0_off148 v993) a + S256x512.size a ≤ S32768x512.size a), (Rect.unit (s := S32768x512) (k0_off148 v993) S256x512.size hinb).WholeWords (EltTy.packing .bf16))
theorem k0_off148_inb : ∀ (v993 : BitVec 32) (k0_hw75 : k0_chk75 v993), ∀ a, (k0_off148 v993) a + S256x512.size a ≤ S32768x512.size a := fun v993 k0_hw75 => k0_hw75.1
theorem k0_off148_wordsbf16 : ∀ (v993 : BitVec 32) (k0_hw75 : k0_chk75 v993), (Rect.unit (s := S32768x512) (k0_off148 v993) S256x512.size (k0_off148_inb v993 k0_hw75)).WholeWords (EltTy.packing .bf16) := fun v993 k0_hw75 => k0_hw75.2 (k0_off148_inb v993 k0_hw75)

def k0_dev42 (v13 : BitVec 32) : Nat :=
  let c0_i32_904 : BitVec 32 := 0#32
  let c1_i32_903 : BitVec 32 := 1#32
  let v996 : BitVec 32 := Scalar.muli v13 c1_i32_903
  let v997 : BitVec 32 := Scalar.addi c0_i32_904 v996
  v997.toNat
def k0_off149 (v4 : BitVec 32) : Fin 1 → Nat :=
  let c4_i32_907 : BitVec 32 := 4#32
  let v1004 : BitVec 32 := Scalar.subi v4 c4_i32_907
  let c32_i32_908 : BitVec 32 := 32#32
  let v1005 : BitVec 32 := Scalar.addi v1004 c32_i32_908
  let c32_i32_909 : BitVec 32 := 32#32
  let v1006 : BitVec 32 := Scalar.remsi v1005 c32_i32_909
  let v1007 : Index := Scalar.indexCast v1006
  ![v1007.toNat]
def k0_off150 (v1008 : BitVec 32) : Fin 2 → Nat :=
  let c1024_i32_910 : BitVec 32 := 1024#32
  let v1009 : BitVec 32 := Scalar.muli v1008 c1024_i32_910
  let c0_i32_911 : BitVec 32 := 0#32
  let v1010 : BitVec 32 := Scalar.addi v1009 c0_i32_911
  let c0_i32_918 : BitVec 32 := 0#32
  ![v1010.toNat, 0]

def k0_chk76 (v1008 : BitVec 32) : Prop :=
  (∀ a, (k0_off150 v1008) a + S256x512.size a ≤ S32768x512.size a) ∧
  (∀ (hinb : ∀ a, (k0_off150 v1008) a + S256x512.size a ≤ S32768x512.size a), (Rect.unit (s := S32768x512) (k0_off150 v1008) S256x512.size hinb).WholeWords (EltTy.packing .bf16))
theorem k0_off150_inb : ∀ (v1008 : BitVec 32) (k0_hw76 : k0_chk76 v1008), ∀ a, (k0_off150 v1008) a + S256x512.size a ≤ S32768x512.size a := fun v1008 k0_hw76 => k0_hw76.1
theorem k0_off150_wordsbf16 : ∀ (v1008 : BitVec 32) (k0_hw76 : k0_chk76 v1008), (Rect.unit (s := S32768x512) (k0_off150 v1008) S256x512.size (k0_off150_inb v1008 k0_hw76)).WholeWords (EltTy.packing .bf16) := fun v1008 k0_hw76 => k0_hw76.2 (k0_off150_inb v1008 k0_hw76)

def k0_off151 (v4 : BitVec 32) : Fin 1 → Nat :=
  let c5_i32 : BitVec 32 := 5#32
  let v1017 : BitVec 32 := Scalar.subi v4 c5_i32
  let c32_i32_920 : BitVec 32 := 32#32
  let v1018 : BitVec 32 := Scalar.addi v1017 c32_i32_920
  let c32_i32_921 : BitVec 32 := 32#32
  let v1019 : BitVec 32 := Scalar.remsi v1018 c32_i32_921
  let v1020 : Index := Scalar.indexCast v1019
  ![v1020.toNat]
def k0_off152 (v1021 : BitVec 32) : Fin 2 → Nat :=
  let c1024_i32_922 : BitVec 32 := 1024#32
  let v1022 : BitVec 32 := Scalar.muli v1021 c1024_i32_922
  let c0_i32_923 : BitVec 32 := 0#32
  let v1023 : BitVec 32 := Scalar.addi v1022 c0_i32_923
  let c0_i32_930 : BitVec 32 := 0#32
  ![v1023.toNat, 0]

def k0_chk77 (v1021 : BitVec 32) : Prop :=
  (∀ a, (k0_off152 v1021) a + S256x512.size a ≤ S32768x512.size a) ∧
  (∀ (hinb : ∀ a, (k0_off152 v1021) a + S256x512.size a ≤ S32768x512.size a), (Rect.unit (s := S32768x512) (k0_off152 v1021) S256x512.size hinb).WholeWords (EltTy.packing .bf16))
theorem k0_off152_inb : ∀ (v1021 : BitVec 32) (k0_hw77 : k0_chk77 v1021), ∀ a, (k0_off152 v1021) a + S256x512.size a ≤ S32768x512.size a := fun v1021 k0_hw77 => k0_hw77.1
theorem k0_off152_wordsbf16 : ∀ (v1021 : BitVec 32) (k0_hw77 : k0_chk77 v1021), (Rect.unit (s := S32768x512) (k0_off152 v1021) S256x512.size (k0_off152_inb v1021 k0_hw77)).WholeWords (EltTy.packing .bf16) := fun v1021 k0_hw77 => k0_hw77.2 (k0_off152_inb v1021 k0_hw77)

def k0_dev43 (v8 : BitVec 32) : Nat :=
  let c0_i32_929 : BitVec 32 := 0#32
  let c1_i32_928 : BitVec 32 := 1#32
  let v1024 : BitVec 32 := Scalar.muli v8 c1_i32_928
  let v1025 : BitVec 32 := Scalar.addi c0_i32_929 v1024
  v1025.toNat
def k0_off153 (v4 : BitVec 32) : Fin 1 → Nat :=
  let c4_i32_932 : BitVec 32 := 4#32
  let v1032 : BitVec 32 := Scalar.addi v4 c4_i32_932
  let c32_i32_933 : BitVec 32 := 32#32
  let v1033 : BitVec 32 := Scalar.remsi v1032 c32_i32_933
  let v1034 : Index := Scalar.indexCast v1033
  ![v1034.toNat]
def k0_off154 (v1035 : BitVec 32) : Fin 2 → Nat :=
  let c1024_i32_934 : BitVec 32 := 1024#32
  let v1036 : BitVec 32 := Scalar.muli v1035 c1024_i32_934
  let c0_i32_935 : BitVec 32 := 0#32
  let v1037 : BitVec 32 := Scalar.addi v1036 c0_i32_935
  let c0_i32_942 : BitVec 32 := 0#32
  ![v1037.toNat, 0]

def k0_chk78 (v1035 : BitVec 32) : Prop :=
  (∀ a, (k0_off154 v1035) a + S256x512.size a ≤ S32768x512.size a) ∧
  (∀ (hinb : ∀ a, (k0_off154 v1035) a + S256x512.size a ≤ S32768x512.size a), (Rect.unit (s := S32768x512) (k0_off154 v1035) S256x512.size hinb).WholeWords (EltTy.packing .bf16))
theorem k0_off154_inb : ∀ (v1035 : BitVec 32) (k0_hw78 : k0_chk78 v1035), ∀ a, (k0_off154 v1035) a + S256x512.size a ≤ S32768x512.size a := fun v1035 k0_hw78 => k0_hw78.1
theorem k0_off154_wordsbf16 : ∀ (v1035 : BitVec 32) (k0_hw78 : k0_chk78 v1035), (Rect.unit (s := S32768x512) (k0_off154 v1035) S256x512.size (k0_off154_inb v1035 k0_hw78)).WholeWords (EltTy.packing .bf16) := fun v1035 k0_hw78 => k0_hw78.2 (k0_off154_inb v1035 k0_hw78)

def k0_off155 (v4 : BitVec 32) : Fin 1 → Nat :=
  let c5_i32_944 : BitVec 32 := 5#32
  let v1044 : BitVec 32 := Scalar.addi v4 c5_i32_944
  let c32_i32_945 : BitVec 32 := 32#32
  let v1045 : BitVec 32 := Scalar.remsi v1044 c32_i32_945
  let v1046 : Index := Scalar.indexCast v1045
  ![v1046.toNat]
def k0_off156 (v1047 : BitVec 32) : Fin 2 → Nat :=
  let c1024_i32_946 : BitVec 32 := 1024#32
  let v1048 : BitVec 32 := Scalar.muli v1047 c1024_i32_946
  let c0_i32_947 : BitVec 32 := 0#32
  let v1049 : BitVec 32 := Scalar.addi v1048 c0_i32_947
  let c0_i32_954 : BitVec 32 := 0#32
  ![v1049.toNat, 0]

def k0_chk79 (v1047 : BitVec 32) : Prop :=
  (∀ a, (k0_off156 v1047) a + S256x512.size a ≤ S32768x512.size a) ∧
  (∀ (hinb : ∀ a, (k0_off156 v1047) a + S256x512.size a ≤ S32768x512.size a), (Rect.unit (s := S32768x512) (k0_off156 v1047) S256x512.size hinb).WholeWords (EltTy.packing .bf16))
theorem k0_off156_inb : ∀ (v1047 : BitVec 32) (k0_hw79 : k0_chk79 v1047), ∀ a, (k0_off156 v1047) a + S256x512.size a ≤ S32768x512.size a := fun v1047 k0_hw79 => k0_hw79.1
theorem k0_off156_wordsbf16 : ∀ (v1047 : BitVec 32) (k0_hw79 : k0_chk79 v1047), (Rect.unit (s := S32768x512) (k0_off156 v1047) S256x512.size (k0_off156_inb v1047 k0_hw79)).WholeWords (EltTy.packing .bf16) := fun v1047 k0_hw79 => k0_hw79.2 (k0_off156_inb v1047 k0_hw79)

def k0_dev44 (v13 : BitVec 32) : Nat :=
  let c0_i32_953 : BitVec 32 := 0#32
  let c1_i32_952 : BitVec 32 := 1#32
  let v1050 : BitVec 32 := Scalar.muli v13 c1_i32_952
  let v1051 : BitVec 32 := Scalar.addi c0_i32_953 v1050
  v1051.toNat
def k0_off157 (v4 : BitVec 32) : Fin 1 → Nat :=
  let c4_i32_956 : BitVec 32 := 4#32
  let v1058 : BitVec 32 := Scalar.subi v4 c4_i32_956
  let c32_i32_957 : BitVec 32 := 32#32
  let v1059 : BitVec 32 := Scalar.addi v1058 c32_i32_957
  let c32_i32_958 : BitVec 32 := 32#32
  let v1060 : BitVec 32 := Scalar.remsi v1059 c32_i32_958
  let v1061 : Index := Scalar.indexCast v1060
  ![v1061.toNat]
def k0_off158 (v1062 : BitVec 32) : Fin 2 → Nat :=
  let c1024_i32_959 : BitVec 32 := 1024#32
  let v1063 : BitVec 32 := Scalar.muli v1062 c1024_i32_959
  let c256_i32_960 : BitVec 32 := 256#32
  let v1064 : BitVec 32 := Scalar.addi v1063 c256_i32_960
  let c0_i32_967 : BitVec 32 := 0#32
  ![v1064.toNat, 0]

def k0_chk80 (v1062 : BitVec 32) : Prop :=
  (∀ a, (k0_off158 v1062) a + S256x512.size a ≤ S32768x512.size a) ∧
  (∀ (hinb : ∀ a, (k0_off158 v1062) a + S256x512.size a ≤ S32768x512.size a), (Rect.unit (s := S32768x512) (k0_off158 v1062) S256x512.size hinb).WholeWords (EltTy.packing .bf16))
theorem k0_off158_inb : ∀ (v1062 : BitVec 32) (k0_hw80 : k0_chk80 v1062), ∀ a, (k0_off158 v1062) a + S256x512.size a ≤ S32768x512.size a := fun v1062 k0_hw80 => k0_hw80.1
theorem k0_off158_wordsbf16 : ∀ (v1062 : BitVec 32) (k0_hw80 : k0_chk80 v1062), (Rect.unit (s := S32768x512) (k0_off158 v1062) S256x512.size (k0_off158_inb v1062 k0_hw80)).WholeWords (EltTy.packing .bf16) := fun v1062 k0_hw80 => k0_hw80.2 (k0_off158_inb v1062 k0_hw80)

def k0_off159 (v4 : BitVec 32) : Fin 1 → Nat :=
  let c5_i32_969 : BitVec 32 := 5#32
  let v1071 : BitVec 32 := Scalar.subi v4 c5_i32_969
  let c32_i32_970 : BitVec 32 := 32#32
  let v1072 : BitVec 32 := Scalar.addi v1071 c32_i32_970
  let c32_i32_971 : BitVec 32 := 32#32
  let v1073 : BitVec 32 := Scalar.remsi v1072 c32_i32_971
  let v1074 : Index := Scalar.indexCast v1073
  ![v1074.toNat]
def k0_off160 (v1075 : BitVec 32) : Fin 2 → Nat :=
  let c1024_i32_972 : BitVec 32 := 1024#32
  let v1076 : BitVec 32 := Scalar.muli v1075 c1024_i32_972
  let c256_i32_973 : BitVec 32 := 256#32
  let v1077 : BitVec 32 := Scalar.addi v1076 c256_i32_973
  let c0_i32_980 : BitVec 32 := 0#32
  ![v1077.toNat, 0]

def k0_chk81 (v1075 : BitVec 32) : Prop :=
  (∀ a, (k0_off160 v1075) a + S256x512.size a ≤ S32768x512.size a) ∧
  (∀ (hinb : ∀ a, (k0_off160 v1075) a + S256x512.size a ≤ S32768x512.size a), (Rect.unit (s := S32768x512) (k0_off160 v1075) S256x512.size hinb).WholeWords (EltTy.packing .bf16))
theorem k0_off160_inb : ∀ (v1075 : BitVec 32) (k0_hw81 : k0_chk81 v1075), ∀ a, (k0_off160 v1075) a + S256x512.size a ≤ S32768x512.size a := fun v1075 k0_hw81 => k0_hw81.1
theorem k0_off160_wordsbf16 : ∀ (v1075 : BitVec 32) (k0_hw81 : k0_chk81 v1075), (Rect.unit (s := S32768x512) (k0_off160 v1075) S256x512.size (k0_off160_inb v1075 k0_hw81)).WholeWords (EltTy.packing .bf16) := fun v1075 k0_hw81 => k0_hw81.2 (k0_off160_inb v1075 k0_hw81)

def k0_dev45 (v8 : BitVec 32) : Nat :=
  let c0_i32_979 : BitVec 32 := 0#32
  let c1_i32_978 : BitVec 32 := 1#32
  let v1078 : BitVec 32 := Scalar.muli v8 c1_i32_978
  let v1079 : BitVec 32 := Scalar.addi c0_i32_979 v1078
  v1079.toNat
def k0_off161 (v4 : BitVec 32) : Fin 1 → Nat :=
  let c4_i32_982 : BitVec 32 := 4#32
  let v1086 : BitVec 32 := Scalar.addi v4 c4_i32_982
  let c32_i32_983 : BitVec 32 := 32#32
  let v1087 : BitVec 32 := Scalar.remsi v1086 c32_i32_983
  let v1088 : Index := Scalar.indexCast v1087
  ![v1088.toNat]
def k0_off162 (v1089 : BitVec 32) : Fin 2 → Nat :=
  let c1024_i32_984 : BitVec 32 := 1024#32
  let v1090 : BitVec 32 := Scalar.muli v1089 c1024_i32_984
  let c256_i32_985 : BitVec 32 := 256#32
  let v1091 : BitVec 32 := Scalar.addi v1090 c256_i32_985
  let c0_i32_992 : BitVec 32 := 0#32
  ![v1091.toNat, 0]

def k0_chk82 (v1089 : BitVec 32) : Prop :=
  (∀ a, (k0_off162 v1089) a + S256x512.size a ≤ S32768x512.size a) ∧
  (∀ (hinb : ∀ a, (k0_off162 v1089) a + S256x512.size a ≤ S32768x512.size a), (Rect.unit (s := S32768x512) (k0_off162 v1089) S256x512.size hinb).WholeWords (EltTy.packing .bf16))
theorem k0_off162_inb : ∀ (v1089 : BitVec 32) (k0_hw82 : k0_chk82 v1089), ∀ a, (k0_off162 v1089) a + S256x512.size a ≤ S32768x512.size a := fun v1089 k0_hw82 => k0_hw82.1
theorem k0_off162_wordsbf16 : ∀ (v1089 : BitVec 32) (k0_hw82 : k0_chk82 v1089), (Rect.unit (s := S32768x512) (k0_off162 v1089) S256x512.size (k0_off162_inb v1089 k0_hw82)).WholeWords (EltTy.packing .bf16) := fun v1089 k0_hw82 => k0_hw82.2 (k0_off162_inb v1089 k0_hw82)

def k0_off163 (v4 : BitVec 32) : Fin 1 → Nat :=
  let c5_i32_994 : BitVec 32 := 5#32
  let v1098 : BitVec 32 := Scalar.addi v4 c5_i32_994
  let c32_i32_995 : BitVec 32 := 32#32
  let v1099 : BitVec 32 := Scalar.remsi v1098 c32_i32_995
  let v1100 : Index := Scalar.indexCast v1099
  ![v1100.toNat]
def k0_off164 (v1101 : BitVec 32) : Fin 2 → Nat :=
  let c1024_i32_996 : BitVec 32 := 1024#32
  let v1102 : BitVec 32 := Scalar.muli v1101 c1024_i32_996
  let c256_i32_997 : BitVec 32 := 256#32
  let v1103 : BitVec 32 := Scalar.addi v1102 c256_i32_997
  let c0_i32_1004 : BitVec 32 := 0#32
  ![v1103.toNat, 0]

def k0_chk83 (v1101 : BitVec 32) : Prop :=
  (∀ a, (k0_off164 v1101) a + S256x512.size a ≤ S32768x512.size a) ∧
  (∀ (hinb : ∀ a, (k0_off164 v1101) a + S256x512.size a ≤ S32768x512.size a), (Rect.unit (s := S32768x512) (k0_off164 v1101) S256x512.size hinb).WholeWords (EltTy.packing .bf16))
theorem k0_off164_inb : ∀ (v1101 : BitVec 32) (k0_hw83 : k0_chk83 v1101), ∀ a, (k0_off164 v1101) a + S256x512.size a ≤ S32768x512.size a := fun v1101 k0_hw83 => k0_hw83.1
theorem k0_off164_wordsbf16 : ∀ (v1101 : BitVec 32) (k0_hw83 : k0_chk83 v1101), (Rect.unit (s := S32768x512) (k0_off164 v1101) S256x512.size (k0_off164_inb v1101 k0_hw83)).WholeWords (EltTy.packing .bf16) := fun v1101 k0_hw83 => k0_hw83.2 (k0_off164_inb v1101 k0_hw83)

def k0_dev46 (v13 : BitVec 32) : Nat :=
  let c0_i32_1003 : BitVec 32 := 0#32
  let c1_i32_1002 : BitVec 32 := 1#32
  let v1104 : BitVec 32 := Scalar.muli v13 c1_i32_1002
  let v1105 : BitVec 32 := Scalar.addi c0_i32_1003 v1104
  v1105.toNat
def k0_off165 (v4 : BitVec 32) : Fin 1 → Nat :=
  let c4_i32_1006 : BitVec 32 := 4#32
  let v1112 : BitVec 32 := Scalar.subi v4 c4_i32_1006
  let c32_i32_1007 : BitVec 32 := 32#32
  let v1113 : BitVec 32 := Scalar.addi v1112 c32_i32_1007
  let c32_i32_1008 : BitVec 32 := 32#32
  let v1114 : BitVec 32 := Scalar.remsi v1113 c32_i32_1008
  let v1115 : Index := Scalar.indexCast v1114
  ![v1115.toNat]
def k0_off166 (v1116 : BitVec 32) : Fin 2 → Nat :=
  let c1024_i32_1009 : BitVec 32 := 1024#32
  let v1117 : BitVec 32 := Scalar.muli v1116 c1024_i32_1009
  let c512_i32_1010 : BitVec 32 := 512#32
  let v1118 : BitVec 32 := Scalar.addi v1117 c512_i32_1010
  let c0_i32_1017 : BitVec 32 := 0#32
  ![v1118.toNat, 0]

def k0_chk84 (v1116 : BitVec 32) : Prop :=
  (∀ a, (k0_off166 v1116) a + S256x512.size a ≤ S32768x512.size a) ∧
  (∀ (hinb : ∀ a, (k0_off166 v1116) a + S256x512.size a ≤ S32768x512.size a), (Rect.unit (s := S32768x512) (k0_off166 v1116) S256x512.size hinb).WholeWords (EltTy.packing .bf16))
theorem k0_off166_inb : ∀ (v1116 : BitVec 32) (k0_hw84 : k0_chk84 v1116), ∀ a, (k0_off166 v1116) a + S256x512.size a ≤ S32768x512.size a := fun v1116 k0_hw84 => k0_hw84.1
theorem k0_off166_wordsbf16 : ∀ (v1116 : BitVec 32) (k0_hw84 : k0_chk84 v1116), (Rect.unit (s := S32768x512) (k0_off166 v1116) S256x512.size (k0_off166_inb v1116 k0_hw84)).WholeWords (EltTy.packing .bf16) := fun v1116 k0_hw84 => k0_hw84.2 (k0_off166_inb v1116 k0_hw84)

def k0_off167 (v4 : BitVec 32) : Fin 1 → Nat :=
  let c5_i32_1019 : BitVec 32 := 5#32
  let v1125 : BitVec 32 := Scalar.subi v4 c5_i32_1019
  let c32_i32_1020 : BitVec 32 := 32#32
  let v1126 : BitVec 32 := Scalar.addi v1125 c32_i32_1020
  let c32_i32_1021 : BitVec 32 := 32#32
  let v1127 : BitVec 32 := Scalar.remsi v1126 c32_i32_1021
  let v1128 : Index := Scalar.indexCast v1127
  ![v1128.toNat]
def k0_off168 (v1129 : BitVec 32) : Fin 2 → Nat :=
  let c1024_i32_1022 : BitVec 32 := 1024#32
  let v1130 : BitVec 32 := Scalar.muli v1129 c1024_i32_1022
  let c512_i32_1023 : BitVec 32 := 512#32
  let v1131 : BitVec 32 := Scalar.addi v1130 c512_i32_1023
  let c0_i32_1030 : BitVec 32 := 0#32
  ![v1131.toNat, 0]

def k0_chk85 (v1129 : BitVec 32) : Prop :=
  (∀ a, (k0_off168 v1129) a + S256x512.size a ≤ S32768x512.size a) ∧
  (∀ (hinb : ∀ a, (k0_off168 v1129) a + S256x512.size a ≤ S32768x512.size a), (Rect.unit (s := S32768x512) (k0_off168 v1129) S256x512.size hinb).WholeWords (EltTy.packing .bf16))
theorem k0_off168_inb : ∀ (v1129 : BitVec 32) (k0_hw85 : k0_chk85 v1129), ∀ a, (k0_off168 v1129) a + S256x512.size a ≤ S32768x512.size a := fun v1129 k0_hw85 => k0_hw85.1
theorem k0_off168_wordsbf16 : ∀ (v1129 : BitVec 32) (k0_hw85 : k0_chk85 v1129), (Rect.unit (s := S32768x512) (k0_off168 v1129) S256x512.size (k0_off168_inb v1129 k0_hw85)).WholeWords (EltTy.packing .bf16) := fun v1129 k0_hw85 => k0_hw85.2 (k0_off168_inb v1129 k0_hw85)

def k0_dev47 (v8 : BitVec 32) : Nat :=
  let c0_i32_1029 : BitVec 32 := 0#32
  let c1_i32_1028 : BitVec 32 := 1#32
  let v1132 : BitVec 32 := Scalar.muli v8 c1_i32_1028
  let v1133 : BitVec 32 := Scalar.addi c0_i32_1029 v1132
  v1133.toNat
def k0_off169 (v4 : BitVec 32) : Fin 1 → Nat :=
  let c4_i32_1032 : BitVec 32 := 4#32
  let v1140 : BitVec 32 := Scalar.addi v4 c4_i32_1032
  let c32_i32_1033 : BitVec 32 := 32#32
  let v1141 : BitVec 32 := Scalar.remsi v1140 c32_i32_1033
  let v1142 : Index := Scalar.indexCast v1141
  ![v1142.toNat]
def k0_off170 (v1143 : BitVec 32) : Fin 2 → Nat :=
  let c1024_i32_1034 : BitVec 32 := 1024#32
  let v1144 : BitVec 32 := Scalar.muli v1143 c1024_i32_1034
  let c512_i32_1035 : BitVec 32 := 512#32
  let v1145 : BitVec 32 := Scalar.addi v1144 c512_i32_1035
  let c0_i32_1042 : BitVec 32 := 0#32
  ![v1145.toNat, 0]

def k0_chk86 (v1143 : BitVec 32) : Prop :=
  (∀ a, (k0_off170 v1143) a + S256x512.size a ≤ S32768x512.size a) ∧
  (∀ (hinb : ∀ a, (k0_off170 v1143) a + S256x512.size a ≤ S32768x512.size a), (Rect.unit (s := S32768x512) (k0_off170 v1143) S256x512.size hinb).WholeWords (EltTy.packing .bf16))
theorem k0_off170_inb : ∀ (v1143 : BitVec 32) (k0_hw86 : k0_chk86 v1143), ∀ a, (k0_off170 v1143) a + S256x512.size a ≤ S32768x512.size a := fun v1143 k0_hw86 => k0_hw86.1
theorem k0_off170_wordsbf16 : ∀ (v1143 : BitVec 32) (k0_hw86 : k0_chk86 v1143), (Rect.unit (s := S32768x512) (k0_off170 v1143) S256x512.size (k0_off170_inb v1143 k0_hw86)).WholeWords (EltTy.packing .bf16) := fun v1143 k0_hw86 => k0_hw86.2 (k0_off170_inb v1143 k0_hw86)

def k0_off171 (v4 : BitVec 32) : Fin 1 → Nat :=
  let c5_i32_1044 : BitVec 32 := 5#32
  let v1152 : BitVec 32 := Scalar.addi v4 c5_i32_1044
  let c32_i32_1045 : BitVec 32 := 32#32
  let v1153 : BitVec 32 := Scalar.remsi v1152 c32_i32_1045
  let v1154 : Index := Scalar.indexCast v1153
  ![v1154.toNat]
def k0_off172 (v1155 : BitVec 32) : Fin 2 → Nat :=
  let c1024_i32_1046 : BitVec 32 := 1024#32
  let v1156 : BitVec 32 := Scalar.muli v1155 c1024_i32_1046
  let c512_i32_1047 : BitVec 32 := 512#32
  let v1157 : BitVec 32 := Scalar.addi v1156 c512_i32_1047
  let c0_i32_1054 : BitVec 32 := 0#32
  ![v1157.toNat, 0]

def k0_chk87 (v1155 : BitVec 32) : Prop :=
  (∀ a, (k0_off172 v1155) a + S256x512.size a ≤ S32768x512.size a) ∧
  (∀ (hinb : ∀ a, (k0_off172 v1155) a + S256x512.size a ≤ S32768x512.size a), (Rect.unit (s := S32768x512) (k0_off172 v1155) S256x512.size hinb).WholeWords (EltTy.packing .bf16))
theorem k0_off172_inb : ∀ (v1155 : BitVec 32) (k0_hw87 : k0_chk87 v1155), ∀ a, (k0_off172 v1155) a + S256x512.size a ≤ S32768x512.size a := fun v1155 k0_hw87 => k0_hw87.1
theorem k0_off172_wordsbf16 : ∀ (v1155 : BitVec 32) (k0_hw87 : k0_chk87 v1155), (Rect.unit (s := S32768x512) (k0_off172 v1155) S256x512.size (k0_off172_inb v1155 k0_hw87)).WholeWords (EltTy.packing .bf16) := fun v1155 k0_hw87 => k0_hw87.2 (k0_off172_inb v1155 k0_hw87)

def k0_dev48 (v13 : BitVec 32) : Nat :=
  let c0_i32_1053 : BitVec 32 := 0#32
  let c1_i32_1052 : BitVec 32 := 1#32
  let v1158 : BitVec 32 := Scalar.muli v13 c1_i32_1052
  let v1159 : BitVec 32 := Scalar.addi c0_i32_1053 v1158
  v1159.toNat
def k0_off173 (v4 : BitVec 32) : Fin 1 → Nat :=
  let c4_i32_1056 : BitVec 32 := 4#32
  let v1166 : BitVec 32 := Scalar.subi v4 c4_i32_1056
  let c32_i32_1057 : BitVec 32 := 32#32
  let v1167 : BitVec 32 := Scalar.addi v1166 c32_i32_1057
  let c32_i32_1058 : BitVec 32 := 32#32
  let v1168 : BitVec 32 := Scalar.remsi v1167 c32_i32_1058
  let v1169 : Index := Scalar.indexCast v1168
  ![v1169.toNat]
def k0_off174 (v1170 : BitVec 32) : Fin 2 → Nat :=
  let c1024_i32_1059 : BitVec 32 := 1024#32
  let v1171 : BitVec 32 := Scalar.muli v1170 c1024_i32_1059
  let c768_i32_1060 : BitVec 32 := 768#32
  let v1172 : BitVec 32 := Scalar.addi v1171 c768_i32_1060
  let c0_i32_1067 : BitVec 32 := 0#32
  ![v1172.toNat, 0]

def k0_chk88 (v1170 : BitVec 32) : Prop :=
  (∀ a, (k0_off174 v1170) a + S256x512.size a ≤ S32768x512.size a) ∧
  (∀ (hinb : ∀ a, (k0_off174 v1170) a + S256x512.size a ≤ S32768x512.size a), (Rect.unit (s := S32768x512) (k0_off174 v1170) S256x512.size hinb).WholeWords (EltTy.packing .bf16))
theorem k0_off174_inb : ∀ (v1170 : BitVec 32) (k0_hw88 : k0_chk88 v1170), ∀ a, (k0_off174 v1170) a + S256x512.size a ≤ S32768x512.size a := fun v1170 k0_hw88 => k0_hw88.1
theorem k0_off174_wordsbf16 : ∀ (v1170 : BitVec 32) (k0_hw88 : k0_chk88 v1170), (Rect.unit (s := S32768x512) (k0_off174 v1170) S256x512.size (k0_off174_inb v1170 k0_hw88)).WholeWords (EltTy.packing .bf16) := fun v1170 k0_hw88 => k0_hw88.2 (k0_off174_inb v1170 k0_hw88)

def k0_off175 (v4 : BitVec 32) : Fin 1 → Nat :=
  let c5_i32_1069 : BitVec 32 := 5#32
  let v1179 : BitVec 32 := Scalar.subi v4 c5_i32_1069
  let c32_i32_1070 : BitVec 32 := 32#32
  let v1180 : BitVec 32 := Scalar.addi v1179 c32_i32_1070
  let c32_i32_1071 : BitVec 32 := 32#32
  let v1181 : BitVec 32 := Scalar.remsi v1180 c32_i32_1071
  let v1182 : Index := Scalar.indexCast v1181
  ![v1182.toNat]
def k0_off176 (v1183 : BitVec 32) : Fin 2 → Nat :=
  let c1024_i32_1072 : BitVec 32 := 1024#32
  let v1184 : BitVec 32 := Scalar.muli v1183 c1024_i32_1072
  let c768_i32_1073 : BitVec 32 := 768#32
  let v1185 : BitVec 32 := Scalar.addi v1184 c768_i32_1073
  let c0_i32_1080 : BitVec 32 := 0#32
  ![v1185.toNat, 0]

def k0_chk89 (v1183 : BitVec 32) : Prop :=
  (∀ a, (k0_off176 v1183) a + S256x512.size a ≤ S32768x512.size a) ∧
  (∀ (hinb : ∀ a, (k0_off176 v1183) a + S256x512.size a ≤ S32768x512.size a), (Rect.unit (s := S32768x512) (k0_off176 v1183) S256x512.size hinb).WholeWords (EltTy.packing .bf16))
theorem k0_off176_inb : ∀ (v1183 : BitVec 32) (k0_hw89 : k0_chk89 v1183), ∀ a, (k0_off176 v1183) a + S256x512.size a ≤ S32768x512.size a := fun v1183 k0_hw89 => k0_hw89.1
theorem k0_off176_wordsbf16 : ∀ (v1183 : BitVec 32) (k0_hw89 : k0_chk89 v1183), (Rect.unit (s := S32768x512) (k0_off176 v1183) S256x512.size (k0_off176_inb v1183 k0_hw89)).WholeWords (EltTy.packing .bf16) := fun v1183 k0_hw89 => k0_hw89.2 (k0_off176_inb v1183 k0_hw89)

def k0_dev49 (v8 : BitVec 32) : Nat :=
  let c0_i32_1079 : BitVec 32 := 0#32
  let c1_i32_1078 : BitVec 32 := 1#32
  let v1186 : BitVec 32 := Scalar.muli v8 c1_i32_1078
  let v1187 : BitVec 32 := Scalar.addi c0_i32_1079 v1186
  v1187.toNat
def k0_off177 (v4 : BitVec 32) : Fin 1 → Nat :=
  let c4_i32_1082 : BitVec 32 := 4#32
  let v1194 : BitVec 32 := Scalar.addi v4 c4_i32_1082
  let c32_i32_1083 : BitVec 32 := 32#32
  let v1195 : BitVec 32 := Scalar.remsi v1194 c32_i32_1083
  let v1196 : Index := Scalar.indexCast v1195
  ![v1196.toNat]
def k0_off178 (v1197 : BitVec 32) : Fin 2 → Nat :=
  let c1024_i32_1084 : BitVec 32 := 1024#32
  let v1198 : BitVec 32 := Scalar.muli v1197 c1024_i32_1084
  let c768_i32_1085 : BitVec 32 := 768#32
  let v1199 : BitVec 32 := Scalar.addi v1198 c768_i32_1085
  let c0_i32_1092 : BitVec 32 := 0#32
  ![v1199.toNat, 0]

def k0_chk90 (v1197 : BitVec 32) : Prop :=
  (∀ a, (k0_off178 v1197) a + S256x512.size a ≤ S32768x512.size a) ∧
  (∀ (hinb : ∀ a, (k0_off178 v1197) a + S256x512.size a ≤ S32768x512.size a), (Rect.unit (s := S32768x512) (k0_off178 v1197) S256x512.size hinb).WholeWords (EltTy.packing .bf16))
theorem k0_off178_inb : ∀ (v1197 : BitVec 32) (k0_hw90 : k0_chk90 v1197), ∀ a, (k0_off178 v1197) a + S256x512.size a ≤ S32768x512.size a := fun v1197 k0_hw90 => k0_hw90.1
theorem k0_off178_wordsbf16 : ∀ (v1197 : BitVec 32) (k0_hw90 : k0_chk90 v1197), (Rect.unit (s := S32768x512) (k0_off178 v1197) S256x512.size (k0_off178_inb v1197 k0_hw90)).WholeWords (EltTy.packing .bf16) := fun v1197 k0_hw90 => k0_hw90.2 (k0_off178_inb v1197 k0_hw90)

def k0_off179 (v4 : BitVec 32) : Fin 1 → Nat :=
  let c5_i32_1094 : BitVec 32 := 5#32
  let v1206 : BitVec 32 := Scalar.addi v4 c5_i32_1094
  let c32_i32_1095 : BitVec 32 := 32#32
  let v1207 : BitVec 32 := Scalar.remsi v1206 c32_i32_1095
  let v1208 : Index := Scalar.indexCast v1207
  ![v1208.toNat]
def k0_off180 (v1209 : BitVec 32) : Fin 2 → Nat :=
  let c1024_i32_1096 : BitVec 32 := 1024#32
  let v1210 : BitVec 32 := Scalar.muli v1209 c1024_i32_1096
  let c768_i32_1097 : BitVec 32 := 768#32
  let v1211 : BitVec 32 := Scalar.addi v1210 c768_i32_1097
  let c0_i32_1104 : BitVec 32 := 0#32
  ![v1211.toNat, 0]

def k0_chk91 (v1209 : BitVec 32) : Prop :=
  (∀ a, (k0_off180 v1209) a + S256x512.size a ≤ S32768x512.size a) ∧
  (∀ (hinb : ∀ a, (k0_off180 v1209) a + S256x512.size a ≤ S32768x512.size a), (Rect.unit (s := S32768x512) (k0_off180 v1209) S256x512.size hinb).WholeWords (EltTy.packing .bf16))
theorem k0_off180_inb : ∀ (v1209 : BitVec 32) (k0_hw91 : k0_chk91 v1209), ∀ a, (k0_off180 v1209) a + S256x512.size a ≤ S32768x512.size a := fun v1209 k0_hw91 => k0_hw91.1
theorem k0_off180_wordsbf16 : ∀ (v1209 : BitVec 32) (k0_hw91 : k0_chk91 v1209), (Rect.unit (s := S32768x512) (k0_off180 v1209) S256x512.size (k0_off180_inb v1209 k0_hw91)).WholeWords (EltTy.packing .bf16) := fun v1209 k0_hw91 => k0_hw91.2 (k0_off180_inb v1209 k0_hw91)

def k0_dev50 (v13 : BitVec 32) : Nat :=
  let c0_i32_1103 : BitVec 32 := 0#32
  let c1_i32_1102 : BitVec 32 := 1#32
  let v1212 : BitVec 32 := Scalar.muli v13 c1_i32_1102
  let v1213 : BitVec 32 := Scalar.addi c0_i32_1103 v1212
  v1213.toNat
def k0_off181 (v4 : BitVec 32) : Fin 1 → Nat :=
  let c5_i32_1106 : BitVec 32 := 5#32
  let v1220 : BitVec 32 := Scalar.subi v4 c5_i32_1106
  let c32_i32_1107 : BitVec 32 := 32#32
  let v1221 : BitVec 32 := Scalar.addi v1220 c32_i32_1107
  let c32_i32_1108 : BitVec 32 := 32#32
  let v1222 : BitVec 32 := Scalar.remsi v1221 c32_i32_1108
  let v1223 : Index := Scalar.indexCast v1222
  ![v1223.toNat]
def k0_off182 (v1224 : BitVec 32) : Fin 2 → Nat :=
  let c1024_i32_1109 : BitVec 32 := 1024#32
  let v1225 : BitVec 32 := Scalar.muli v1224 c1024_i32_1109
  let c0_i32_1110 : BitVec 32 := 0#32
  let v1226 : BitVec 32 := Scalar.addi v1225 c0_i32_1110
  let c0_i32_1117 : BitVec 32 := 0#32
  ![v1226.toNat, 0]

def k0_chk92 (v1224 : BitVec 32) : Prop :=
  (∀ a, (k0_off182 v1224) a + S256x512.size a ≤ S32768x512.size a) ∧
  (∀ (hinb : ∀ a, (k0_off182 v1224) a + S256x512.size a ≤ S32768x512.size a), (Rect.unit (s := S32768x512) (k0_off182 v1224) S256x512.size hinb).WholeWords (EltTy.packing .bf16))
theorem k0_off182_inb : ∀ (v1224 : BitVec 32) (k0_hw92 : k0_chk92 v1224), ∀ a, (k0_off182 v1224) a + S256x512.size a ≤ S32768x512.size a := fun v1224 k0_hw92 => k0_hw92.1
theorem k0_off182_wordsbf16 : ∀ (v1224 : BitVec 32) (k0_hw92 : k0_chk92 v1224), (Rect.unit (s := S32768x512) (k0_off182 v1224) S256x512.size (k0_off182_inb v1224 k0_hw92)).WholeWords (EltTy.packing .bf16) := fun v1224 k0_hw92 => k0_hw92.2 (k0_off182_inb v1224 k0_hw92)

def k0_off183 (v4 : BitVec 32) : Fin 1 → Nat :=
  let c6_i32 : BitVec 32 := 6#32
  let v1233 : BitVec 32 := Scalar.subi v4 c6_i32
  let c32_i32_1119 : BitVec 32 := 32#32
  let v1234 : BitVec 32 := Scalar.addi v1233 c32_i32_1119
  let c32_i32_1120 : BitVec 32 := 32#32
  let v1235 : BitVec 32 := Scalar.remsi v1234 c32_i32_1120
  let v1236 : Index := Scalar.indexCast v1235
  ![v1236.toNat]
def k0_off184 (v1237 : BitVec 32) : Fin 2 → Nat :=
  let c1024_i32_1121 : BitVec 32 := 1024#32
  let v1238 : BitVec 32 := Scalar.muli v1237 c1024_i32_1121
  let c0_i32_1122 : BitVec 32 := 0#32
  let v1239 : BitVec 32 := Scalar.addi v1238 c0_i32_1122
  let c0_i32_1129 : BitVec 32 := 0#32
  ![v1239.toNat, 0]

def k0_chk93 (v1237 : BitVec 32) : Prop :=
  (∀ a, (k0_off184 v1237) a + S256x512.size a ≤ S32768x512.size a) ∧
  (∀ (hinb : ∀ a, (k0_off184 v1237) a + S256x512.size a ≤ S32768x512.size a), (Rect.unit (s := S32768x512) (k0_off184 v1237) S256x512.size hinb).WholeWords (EltTy.packing .bf16))
theorem k0_off184_inb : ∀ (v1237 : BitVec 32) (k0_hw93 : k0_chk93 v1237), ∀ a, (k0_off184 v1237) a + S256x512.size a ≤ S32768x512.size a := fun v1237 k0_hw93 => k0_hw93.1
theorem k0_off184_wordsbf16 : ∀ (v1237 : BitVec 32) (k0_hw93 : k0_chk93 v1237), (Rect.unit (s := S32768x512) (k0_off184 v1237) S256x512.size (k0_off184_inb v1237 k0_hw93)).WholeWords (EltTy.packing .bf16) := fun v1237 k0_hw93 => k0_hw93.2 (k0_off184_inb v1237 k0_hw93)

def k0_dev51 (v8 : BitVec 32) : Nat :=
  let c0_i32_1128 : BitVec 32 := 0#32
  let c1_i32_1127 : BitVec 32 := 1#32
  let v1240 : BitVec 32 := Scalar.muli v8 c1_i32_1127
  let v1241 : BitVec 32 := Scalar.addi c0_i32_1128 v1240
  v1241.toNat
def k0_off185 (v4 : BitVec 32) : Fin 1 → Nat :=
  let c5_i32_1131 : BitVec 32 := 5#32
  let v1248 : BitVec 32 := Scalar.addi v4 c5_i32_1131
  let c32_i32_1132 : BitVec 32 := 32#32
  let v1249 : BitVec 32 := Scalar.remsi v1248 c32_i32_1132
  let v1250 : Index := Scalar.indexCast v1249
  ![v1250.toNat]
def k0_off186 (v1251 : BitVec 32) : Fin 2 → Nat :=
  let c1024_i32_1133 : BitVec 32 := 1024#32
  let v1252 : BitVec 32 := Scalar.muli v1251 c1024_i32_1133
  let c0_i32_1134 : BitVec 32 := 0#32
  let v1253 : BitVec 32 := Scalar.addi v1252 c0_i32_1134
  let c0_i32_1141 : BitVec 32 := 0#32
  ![v1253.toNat, 0]

def k0_chk94 (v1251 : BitVec 32) : Prop :=
  (∀ a, (k0_off186 v1251) a + S256x512.size a ≤ S32768x512.size a) ∧
  (∀ (hinb : ∀ a, (k0_off186 v1251) a + S256x512.size a ≤ S32768x512.size a), (Rect.unit (s := S32768x512) (k0_off186 v1251) S256x512.size hinb).WholeWords (EltTy.packing .bf16))
theorem k0_off186_inb : ∀ (v1251 : BitVec 32) (k0_hw94 : k0_chk94 v1251), ∀ a, (k0_off186 v1251) a + S256x512.size a ≤ S32768x512.size a := fun v1251 k0_hw94 => k0_hw94.1
theorem k0_off186_wordsbf16 : ∀ (v1251 : BitVec 32) (k0_hw94 : k0_chk94 v1251), (Rect.unit (s := S32768x512) (k0_off186 v1251) S256x512.size (k0_off186_inb v1251 k0_hw94)).WholeWords (EltTy.packing .bf16) := fun v1251 k0_hw94 => k0_hw94.2 (k0_off186_inb v1251 k0_hw94)

def k0_off187 (v4 : BitVec 32) : Fin 1 → Nat :=
  let c6_i32_1143 : BitVec 32 := 6#32
  let v1260 : BitVec 32 := Scalar.addi v4 c6_i32_1143
  let c32_i32_1144 : BitVec 32 := 32#32
  let v1261 : BitVec 32 := Scalar.remsi v1260 c32_i32_1144
  let v1262 : Index := Scalar.indexCast v1261
  ![v1262.toNat]
def k0_off188 (v1263 : BitVec 32) : Fin 2 → Nat :=
  let c1024_i32_1145 : BitVec 32 := 1024#32
  let v1264 : BitVec 32 := Scalar.muli v1263 c1024_i32_1145
  let c0_i32_1146 : BitVec 32 := 0#32
  let v1265 : BitVec 32 := Scalar.addi v1264 c0_i32_1146
  let c0_i32_1153 : BitVec 32 := 0#32
  ![v1265.toNat, 0]

def k0_chk95 (v1263 : BitVec 32) : Prop :=
  (∀ a, (k0_off188 v1263) a + S256x512.size a ≤ S32768x512.size a) ∧
  (∀ (hinb : ∀ a, (k0_off188 v1263) a + S256x512.size a ≤ S32768x512.size a), (Rect.unit (s := S32768x512) (k0_off188 v1263) S256x512.size hinb).WholeWords (EltTy.packing .bf16))
theorem k0_off188_inb : ∀ (v1263 : BitVec 32) (k0_hw95 : k0_chk95 v1263), ∀ a, (k0_off188 v1263) a + S256x512.size a ≤ S32768x512.size a := fun v1263 k0_hw95 => k0_hw95.1
theorem k0_off188_wordsbf16 : ∀ (v1263 : BitVec 32) (k0_hw95 : k0_chk95 v1263), (Rect.unit (s := S32768x512) (k0_off188 v1263) S256x512.size (k0_off188_inb v1263 k0_hw95)).WholeWords (EltTy.packing .bf16) := fun v1263 k0_hw95 => k0_hw95.2 (k0_off188_inb v1263 k0_hw95)

def k0_dev52 (v13 : BitVec 32) : Nat :=
  let c0_i32_1152 : BitVec 32 := 0#32
  let c1_i32_1151 : BitVec 32 := 1#32
  let v1266 : BitVec 32 := Scalar.muli v13 c1_i32_1151
  let v1267 : BitVec 32 := Scalar.addi c0_i32_1152 v1266
  v1267.toNat
def k0_off189 (v4 : BitVec 32) : Fin 1 → Nat :=
  let c5_i32_1155 : BitVec 32 := 5#32
  let v1274 : BitVec 32 := Scalar.subi v4 c5_i32_1155
  let c32_i32_1156 : BitVec 32 := 32#32
  let v1275 : BitVec 32 := Scalar.addi v1274 c32_i32_1156
  let c32_i32_1157 : BitVec 32 := 32#32
  let v1276 : BitVec 32 := Scalar.remsi v1275 c32_i32_1157
  let v1277 : Index := Scalar.indexCast v1276
  ![v1277.toNat]
def k0_off190 (v1278 : BitVec 32) : Fin 2 → Nat :=
  let c1024_i32_1158 : BitVec 32 := 1024#32
  let v1279 : BitVec 32 := Scalar.muli v1278 c1024_i32_1158
  let c256_i32_1159 : BitVec 32 := 256#32
  let v1280 : BitVec 32 := Scalar.addi v1279 c256_i32_1159
  let c0_i32_1166 : BitVec 32 := 0#32
  ![v1280.toNat, 0]

def k0_chk96 (v1278 : BitVec 32) : Prop :=
  (∀ a, (k0_off190 v1278) a + S256x512.size a ≤ S32768x512.size a) ∧
  (∀ (hinb : ∀ a, (k0_off190 v1278) a + S256x512.size a ≤ S32768x512.size a), (Rect.unit (s := S32768x512) (k0_off190 v1278) S256x512.size hinb).WholeWords (EltTy.packing .bf16))
theorem k0_off190_inb : ∀ (v1278 : BitVec 32) (k0_hw96 : k0_chk96 v1278), ∀ a, (k0_off190 v1278) a + S256x512.size a ≤ S32768x512.size a := fun v1278 k0_hw96 => k0_hw96.1
theorem k0_off190_wordsbf16 : ∀ (v1278 : BitVec 32) (k0_hw96 : k0_chk96 v1278), (Rect.unit (s := S32768x512) (k0_off190 v1278) S256x512.size (k0_off190_inb v1278 k0_hw96)).WholeWords (EltTy.packing .bf16) := fun v1278 k0_hw96 => k0_hw96.2 (k0_off190_inb v1278 k0_hw96)

def k0_off191 (v4 : BitVec 32) : Fin 1 → Nat :=
  let c6_i32_1168 : BitVec 32 := 6#32
  let v1287 : BitVec 32 := Scalar.subi v4 c6_i32_1168
  let c32_i32_1169 : BitVec 32 := 32#32
  let v1288 : BitVec 32 := Scalar.addi v1287 c32_i32_1169
  let c32_i32_1170 : BitVec 32 := 32#32
  let v1289 : BitVec 32 := Scalar.remsi v1288 c32_i32_1170
  let v1290 : Index := Scalar.indexCast v1289
  ![v1290.toNat]
def k0_off192 (v1291 : BitVec 32) : Fin 2 → Nat :=
  let c1024_i32_1171 : BitVec 32 := 1024#32
  let v1292 : BitVec 32 := Scalar.muli v1291 c1024_i32_1171
  let c256_i32_1172 : BitVec 32 := 256#32
  let v1293 : BitVec 32 := Scalar.addi v1292 c256_i32_1172
  let c0_i32_1179 : BitVec 32 := 0#32
  ![v1293.toNat, 0]

def k0_chk97 (v1291 : BitVec 32) : Prop :=
  (∀ a, (k0_off192 v1291) a + S256x512.size a ≤ S32768x512.size a) ∧
  (∀ (hinb : ∀ a, (k0_off192 v1291) a + S256x512.size a ≤ S32768x512.size a), (Rect.unit (s := S32768x512) (k0_off192 v1291) S256x512.size hinb).WholeWords (EltTy.packing .bf16))
theorem k0_off192_inb : ∀ (v1291 : BitVec 32) (k0_hw97 : k0_chk97 v1291), ∀ a, (k0_off192 v1291) a + S256x512.size a ≤ S32768x512.size a := fun v1291 k0_hw97 => k0_hw97.1
theorem k0_off192_wordsbf16 : ∀ (v1291 : BitVec 32) (k0_hw97 : k0_chk97 v1291), (Rect.unit (s := S32768x512) (k0_off192 v1291) S256x512.size (k0_off192_inb v1291 k0_hw97)).WholeWords (EltTy.packing .bf16) := fun v1291 k0_hw97 => k0_hw97.2 (k0_off192_inb v1291 k0_hw97)

def k0_dev53 (v8 : BitVec 32) : Nat :=
  let c0_i32_1178 : BitVec 32 := 0#32
  let c1_i32_1177 : BitVec 32 := 1#32
  let v1294 : BitVec 32 := Scalar.muli v8 c1_i32_1177
  let v1295 : BitVec 32 := Scalar.addi c0_i32_1178 v1294
  v1295.toNat
def k0_off193 (v4 : BitVec 32) : Fin 1 → Nat :=
  let c5_i32_1181 : BitVec 32 := 5#32
  let v1302 : BitVec 32 := Scalar.addi v4 c5_i32_1181
  let c32_i32_1182 : BitVec 32 := 32#32
  let v1303 : BitVec 32 := Scalar.remsi v1302 c32_i32_1182
  let v1304 : Index := Scalar.indexCast v1303
  ![v1304.toNat]
def k0_off194 (v1305 : BitVec 32) : Fin 2 → Nat :=
  let c1024_i32_1183 : BitVec 32 := 1024#32
  let v1306 : BitVec 32 := Scalar.muli v1305 c1024_i32_1183
  let c256_i32_1184 : BitVec 32 := 256#32
  let v1307 : BitVec 32 := Scalar.addi v1306 c256_i32_1184
  let c0_i32_1191 : BitVec 32 := 0#32
  ![v1307.toNat, 0]

def k0_chk98 (v1305 : BitVec 32) : Prop :=
  (∀ a, (k0_off194 v1305) a + S256x512.size a ≤ S32768x512.size a) ∧
  (∀ (hinb : ∀ a, (k0_off194 v1305) a + S256x512.size a ≤ S32768x512.size a), (Rect.unit (s := S32768x512) (k0_off194 v1305) S256x512.size hinb).WholeWords (EltTy.packing .bf16))
theorem k0_off194_inb : ∀ (v1305 : BitVec 32) (k0_hw98 : k0_chk98 v1305), ∀ a, (k0_off194 v1305) a + S256x512.size a ≤ S32768x512.size a := fun v1305 k0_hw98 => k0_hw98.1
theorem k0_off194_wordsbf16 : ∀ (v1305 : BitVec 32) (k0_hw98 : k0_chk98 v1305), (Rect.unit (s := S32768x512) (k0_off194 v1305) S256x512.size (k0_off194_inb v1305 k0_hw98)).WholeWords (EltTy.packing .bf16) := fun v1305 k0_hw98 => k0_hw98.2 (k0_off194_inb v1305 k0_hw98)

def k0_off195 (v4 : BitVec 32) : Fin 1 → Nat :=
  let c6_i32_1193 : BitVec 32 := 6#32
  let v1314 : BitVec 32 := Scalar.addi v4 c6_i32_1193
  let c32_i32_1194 : BitVec 32 := 32#32
  let v1315 : BitVec 32 := Scalar.remsi v1314 c32_i32_1194
  let v1316 : Index := Scalar.indexCast v1315
  ![v1316.toNat]
def k0_off196 (v1317 : BitVec 32) : Fin 2 → Nat :=
  let c1024_i32_1195 : BitVec 32 := 1024#32
  let v1318 : BitVec 32 := Scalar.muli v1317 c1024_i32_1195
  let c256_i32_1196 : BitVec 32 := 256#32
  let v1319 : BitVec 32 := Scalar.addi v1318 c256_i32_1196
  let c0_i32_1203 : BitVec 32 := 0#32
  ![v1319.toNat, 0]

def k0_chk99 (v1317 : BitVec 32) : Prop :=
  (∀ a, (k0_off196 v1317) a + S256x512.size a ≤ S32768x512.size a) ∧
  (∀ (hinb : ∀ a, (k0_off196 v1317) a + S256x512.size a ≤ S32768x512.size a), (Rect.unit (s := S32768x512) (k0_off196 v1317) S256x512.size hinb).WholeWords (EltTy.packing .bf16))
theorem k0_off196_inb : ∀ (v1317 : BitVec 32) (k0_hw99 : k0_chk99 v1317), ∀ a, (k0_off196 v1317) a + S256x512.size a ≤ S32768x512.size a := fun v1317 k0_hw99 => k0_hw99.1
theorem k0_off196_wordsbf16 : ∀ (v1317 : BitVec 32) (k0_hw99 : k0_chk99 v1317), (Rect.unit (s := S32768x512) (k0_off196 v1317) S256x512.size (k0_off196_inb v1317 k0_hw99)).WholeWords (EltTy.packing .bf16) := fun v1317 k0_hw99 => k0_hw99.2 (k0_off196_inb v1317 k0_hw99)

def k0_dev54 (v13 : BitVec 32) : Nat :=
  let c0_i32_1202 : BitVec 32 := 0#32
  let c1_i32_1201 : BitVec 32 := 1#32
  let v1320 : BitVec 32 := Scalar.muli v13 c1_i32_1201
  let v1321 : BitVec 32 := Scalar.addi c0_i32_1202 v1320
  v1321.toNat
def k0_off197 (v4 : BitVec 32) : Fin 1 → Nat :=
  let c5_i32_1205 : BitVec 32 := 5#32
  let v1328 : BitVec 32 := Scalar.subi v4 c5_i32_1205
  let c32_i32_1206 : BitVec 32 := 32#32
  let v1329 : BitVec 32 := Scalar.addi v1328 c32_i32_1206
  let c32_i32_1207 : BitVec 32 := 32#32
  let v1330 : BitVec 32 := Scalar.remsi v1329 c32_i32_1207
  let v1331 : Index := Scalar.indexCast v1330
  ![v1331.toNat]
def k0_off198 (v1332 : BitVec 32) : Fin 2 → Nat :=
  let c1024_i32_1208 : BitVec 32 := 1024#32
  let v1333 : BitVec 32 := Scalar.muli v1332 c1024_i32_1208
  let c512_i32_1209 : BitVec 32 := 512#32
  let v1334 : BitVec 32 := Scalar.addi v1333 c512_i32_1209
  let c0_i32_1216 : BitVec 32 := 0#32
  ![v1334.toNat, 0]

def k0_chk100 (v1332 : BitVec 32) : Prop :=
  (∀ a, (k0_off198 v1332) a + S256x512.size a ≤ S32768x512.size a) ∧
  (∀ (hinb : ∀ a, (k0_off198 v1332) a + S256x512.size a ≤ S32768x512.size a), (Rect.unit (s := S32768x512) (k0_off198 v1332) S256x512.size hinb).WholeWords (EltTy.packing .bf16))
theorem k0_off198_inb : ∀ (v1332 : BitVec 32) (k0_hw100 : k0_chk100 v1332), ∀ a, (k0_off198 v1332) a + S256x512.size a ≤ S32768x512.size a := fun v1332 k0_hw100 => k0_hw100.1
theorem k0_off198_wordsbf16 : ∀ (v1332 : BitVec 32) (k0_hw100 : k0_chk100 v1332), (Rect.unit (s := S32768x512) (k0_off198 v1332) S256x512.size (k0_off198_inb v1332 k0_hw100)).WholeWords (EltTy.packing .bf16) := fun v1332 k0_hw100 => k0_hw100.2 (k0_off198_inb v1332 k0_hw100)

def k0_off199 (v4 : BitVec 32) : Fin 1 → Nat :=
  let c6_i32_1218 : BitVec 32 := 6#32
  let v1341 : BitVec 32 := Scalar.subi v4 c6_i32_1218
  let c32_i32_1219 : BitVec 32 := 32#32
  let v1342 : BitVec 32 := Scalar.addi v1341 c32_i32_1219
  let c32_i32_1220 : BitVec 32 := 32#32
  let v1343 : BitVec 32 := Scalar.remsi v1342 c32_i32_1220
  let v1344 : Index := Scalar.indexCast v1343
  ![v1344.toNat]
def k0_off200 (v1345 : BitVec 32) : Fin 2 → Nat :=
  let c1024_i32_1221 : BitVec 32 := 1024#32
  let v1346 : BitVec 32 := Scalar.muli v1345 c1024_i32_1221
  let c512_i32_1222 : BitVec 32 := 512#32
  let v1347 : BitVec 32 := Scalar.addi v1346 c512_i32_1222
  let c0_i32_1229 : BitVec 32 := 0#32
  ![v1347.toNat, 0]

def k0_chk101 (v1345 : BitVec 32) : Prop :=
  (∀ a, (k0_off200 v1345) a + S256x512.size a ≤ S32768x512.size a) ∧
  (∀ (hinb : ∀ a, (k0_off200 v1345) a + S256x512.size a ≤ S32768x512.size a), (Rect.unit (s := S32768x512) (k0_off200 v1345) S256x512.size hinb).WholeWords (EltTy.packing .bf16))
theorem k0_off200_inb : ∀ (v1345 : BitVec 32) (k0_hw101 : k0_chk101 v1345), ∀ a, (k0_off200 v1345) a + S256x512.size a ≤ S32768x512.size a := fun v1345 k0_hw101 => k0_hw101.1
theorem k0_off200_wordsbf16 : ∀ (v1345 : BitVec 32) (k0_hw101 : k0_chk101 v1345), (Rect.unit (s := S32768x512) (k0_off200 v1345) S256x512.size (k0_off200_inb v1345 k0_hw101)).WholeWords (EltTy.packing .bf16) := fun v1345 k0_hw101 => k0_hw101.2 (k0_off200_inb v1345 k0_hw101)

def k0_dev55 (v8 : BitVec 32) : Nat :=
  let c0_i32_1228 : BitVec 32 := 0#32
  let c1_i32_1227 : BitVec 32 := 1#32
  let v1348 : BitVec 32 := Scalar.muli v8 c1_i32_1227
  let v1349 : BitVec 32 := Scalar.addi c0_i32_1228 v1348
  v1349.toNat
def k0_off201 (v4 : BitVec 32) : Fin 1 → Nat :=
  let c5_i32_1231 : BitVec 32 := 5#32
  let v1356 : BitVec 32 := Scalar.addi v4 c5_i32_1231
  let c32_i32_1232 : BitVec 32 := 32#32
  let v1357 : BitVec 32 := Scalar.remsi v1356 c32_i32_1232
  let v1358 : Index := Scalar.indexCast v1357
  ![v1358.toNat]
def k0_off202 (v1359 : BitVec 32) : Fin 2 → Nat :=
  let c1024_i32_1233 : BitVec 32 := 1024#32
  let v1360 : BitVec 32 := Scalar.muli v1359 c1024_i32_1233
  let c512_i32_1234 : BitVec 32 := 512#32
  let v1361 : BitVec 32 := Scalar.addi v1360 c512_i32_1234
  let c0_i32_1241 : BitVec 32 := 0#32
  ![v1361.toNat, 0]

def k0_chk102 (v1359 : BitVec 32) : Prop :=
  (∀ a, (k0_off202 v1359) a + S256x512.size a ≤ S32768x512.size a) ∧
  (∀ (hinb : ∀ a, (k0_off202 v1359) a + S256x512.size a ≤ S32768x512.size a), (Rect.unit (s := S32768x512) (k0_off202 v1359) S256x512.size hinb).WholeWords (EltTy.packing .bf16))
theorem k0_off202_inb : ∀ (v1359 : BitVec 32) (k0_hw102 : k0_chk102 v1359), ∀ a, (k0_off202 v1359) a + S256x512.size a ≤ S32768x512.size a := fun v1359 k0_hw102 => k0_hw102.1
theorem k0_off202_wordsbf16 : ∀ (v1359 : BitVec 32) (k0_hw102 : k0_chk102 v1359), (Rect.unit (s := S32768x512) (k0_off202 v1359) S256x512.size (k0_off202_inb v1359 k0_hw102)).WholeWords (EltTy.packing .bf16) := fun v1359 k0_hw102 => k0_hw102.2 (k0_off202_inb v1359 k0_hw102)

def k0_off203 (v4 : BitVec 32) : Fin 1 → Nat :=
  let c6_i32_1243 : BitVec 32 := 6#32
  let v1368 : BitVec 32 := Scalar.addi v4 c6_i32_1243
  let c32_i32_1244 : BitVec 32 := 32#32
  let v1369 : BitVec 32 := Scalar.remsi v1368 c32_i32_1244
  let v1370 : Index := Scalar.indexCast v1369
  ![v1370.toNat]
def k0_off204 (v1371 : BitVec 32) : Fin 2 → Nat :=
  let c1024_i32_1245 : BitVec 32 := 1024#32
  let v1372 : BitVec 32 := Scalar.muli v1371 c1024_i32_1245
  let c512_i32_1246 : BitVec 32 := 512#32
  let v1373 : BitVec 32 := Scalar.addi v1372 c512_i32_1246
  let c0_i32_1253 : BitVec 32 := 0#32
  ![v1373.toNat, 0]

def k0_chk103 (v1371 : BitVec 32) : Prop :=
  (∀ a, (k0_off204 v1371) a + S256x512.size a ≤ S32768x512.size a) ∧
  (∀ (hinb : ∀ a, (k0_off204 v1371) a + S256x512.size a ≤ S32768x512.size a), (Rect.unit (s := S32768x512) (k0_off204 v1371) S256x512.size hinb).WholeWords (EltTy.packing .bf16))
theorem k0_off204_inb : ∀ (v1371 : BitVec 32) (k0_hw103 : k0_chk103 v1371), ∀ a, (k0_off204 v1371) a + S256x512.size a ≤ S32768x512.size a := fun v1371 k0_hw103 => k0_hw103.1
theorem k0_off204_wordsbf16 : ∀ (v1371 : BitVec 32) (k0_hw103 : k0_chk103 v1371), (Rect.unit (s := S32768x512) (k0_off204 v1371) S256x512.size (k0_off204_inb v1371 k0_hw103)).WholeWords (EltTy.packing .bf16) := fun v1371 k0_hw103 => k0_hw103.2 (k0_off204_inb v1371 k0_hw103)

def k0_dev56 (v13 : BitVec 32) : Nat :=
  let c0_i32_1252 : BitVec 32 := 0#32
  let c1_i32_1251 : BitVec 32 := 1#32
  let v1374 : BitVec 32 := Scalar.muli v13 c1_i32_1251
  let v1375 : BitVec 32 := Scalar.addi c0_i32_1252 v1374
  v1375.toNat
def k0_off205 (v4 : BitVec 32) : Fin 1 → Nat :=
  let c5_i32_1255 : BitVec 32 := 5#32
  let v1382 : BitVec 32 := Scalar.subi v4 c5_i32_1255
  let c32_i32_1256 : BitVec 32 := 32#32
  let v1383 : BitVec 32 := Scalar.addi v1382 c32_i32_1256
  let c32_i32_1257 : BitVec 32 := 32#32
  let v1384 : BitVec 32 := Scalar.remsi v1383 c32_i32_1257
  let v1385 : Index := Scalar.indexCast v1384
  ![v1385.toNat]
def k0_off206 (v1386 : BitVec 32) : Fin 2 → Nat :=
  let c1024_i32_1258 : BitVec 32 := 1024#32
  let v1387 : BitVec 32 := Scalar.muli v1386 c1024_i32_1258
  let c768_i32_1259 : BitVec 32 := 768#32
  let v1388 : BitVec 32 := Scalar.addi v1387 c768_i32_1259
  let c0_i32_1266 : BitVec 32 := 0#32
  ![v1388.toNat, 0]

def k0_chk104 (v1386 : BitVec 32) : Prop :=
  (∀ a, (k0_off206 v1386) a + S256x512.size a ≤ S32768x512.size a) ∧
  (∀ (hinb : ∀ a, (k0_off206 v1386) a + S256x512.size a ≤ S32768x512.size a), (Rect.unit (s := S32768x512) (k0_off206 v1386) S256x512.size hinb).WholeWords (EltTy.packing .bf16))
theorem k0_off206_inb : ∀ (v1386 : BitVec 32) (k0_hw104 : k0_chk104 v1386), ∀ a, (k0_off206 v1386) a + S256x512.size a ≤ S32768x512.size a := fun v1386 k0_hw104 => k0_hw104.1
theorem k0_off206_wordsbf16 : ∀ (v1386 : BitVec 32) (k0_hw104 : k0_chk104 v1386), (Rect.unit (s := S32768x512) (k0_off206 v1386) S256x512.size (k0_off206_inb v1386 k0_hw104)).WholeWords (EltTy.packing .bf16) := fun v1386 k0_hw104 => k0_hw104.2 (k0_off206_inb v1386 k0_hw104)

def k0_off207 (v4 : BitVec 32) : Fin 1 → Nat :=
  let c6_i32_1268 : BitVec 32 := 6#32
  let v1395 : BitVec 32 := Scalar.subi v4 c6_i32_1268
  let c32_i32_1269 : BitVec 32 := 32#32
  let v1396 : BitVec 32 := Scalar.addi v1395 c32_i32_1269
  let c32_i32_1270 : BitVec 32 := 32#32
  let v1397 : BitVec 32 := Scalar.remsi v1396 c32_i32_1270
  let v1398 : Index := Scalar.indexCast v1397
  ![v1398.toNat]
def k0_off208 (v1399 : BitVec 32) : Fin 2 → Nat :=
  let c1024_i32_1271 : BitVec 32 := 1024#32
  let v1400 : BitVec 32 := Scalar.muli v1399 c1024_i32_1271
  let c768_i32_1272 : BitVec 32 := 768#32
  let v1401 : BitVec 32 := Scalar.addi v1400 c768_i32_1272
  let c0_i32_1279 : BitVec 32 := 0#32
  ![v1401.toNat, 0]

def k0_chk105 (v1399 : BitVec 32) : Prop :=
  (∀ a, (k0_off208 v1399) a + S256x512.size a ≤ S32768x512.size a) ∧
  (∀ (hinb : ∀ a, (k0_off208 v1399) a + S256x512.size a ≤ S32768x512.size a), (Rect.unit (s := S32768x512) (k0_off208 v1399) S256x512.size hinb).WholeWords (EltTy.packing .bf16))
theorem k0_off208_inb : ∀ (v1399 : BitVec 32) (k0_hw105 : k0_chk105 v1399), ∀ a, (k0_off208 v1399) a + S256x512.size a ≤ S32768x512.size a := fun v1399 k0_hw105 => k0_hw105.1
theorem k0_off208_wordsbf16 : ∀ (v1399 : BitVec 32) (k0_hw105 : k0_chk105 v1399), (Rect.unit (s := S32768x512) (k0_off208 v1399) S256x512.size (k0_off208_inb v1399 k0_hw105)).WholeWords (EltTy.packing .bf16) := fun v1399 k0_hw105 => k0_hw105.2 (k0_off208_inb v1399 k0_hw105)

def k0_dev57 (v8 : BitVec 32) : Nat :=
  let c0_i32_1278 : BitVec 32 := 0#32
  let c1_i32_1277 : BitVec 32 := 1#32
  let v1402 : BitVec 32 := Scalar.muli v8 c1_i32_1277
  let v1403 : BitVec 32 := Scalar.addi c0_i32_1278 v1402
  v1403.toNat
def k0_off209 (v4 : BitVec 32) : Fin 1 → Nat :=
  let c5_i32_1281 : BitVec 32 := 5#32
  let v1410 : BitVec 32 := Scalar.addi v4 c5_i32_1281
  let c32_i32_1282 : BitVec 32 := 32#32
  let v1411 : BitVec 32 := Scalar.remsi v1410 c32_i32_1282
  let v1412 : Index := Scalar.indexCast v1411
  ![v1412.toNat]
def k0_off210 (v1413 : BitVec 32) : Fin 2 → Nat :=
  let c1024_i32_1283 : BitVec 32 := 1024#32
  let v1414 : BitVec 32 := Scalar.muli v1413 c1024_i32_1283
  let c768_i32_1284 : BitVec 32 := 768#32
  let v1415 : BitVec 32 := Scalar.addi v1414 c768_i32_1284
  let c0_i32_1291 : BitVec 32 := 0#32
  ![v1415.toNat, 0]

def k0_chk106 (v1413 : BitVec 32) : Prop :=
  (∀ a, (k0_off210 v1413) a + S256x512.size a ≤ S32768x512.size a) ∧
  (∀ (hinb : ∀ a, (k0_off210 v1413) a + S256x512.size a ≤ S32768x512.size a), (Rect.unit (s := S32768x512) (k0_off210 v1413) S256x512.size hinb).WholeWords (EltTy.packing .bf16))
theorem k0_off210_inb : ∀ (v1413 : BitVec 32) (k0_hw106 : k0_chk106 v1413), ∀ a, (k0_off210 v1413) a + S256x512.size a ≤ S32768x512.size a := fun v1413 k0_hw106 => k0_hw106.1
theorem k0_off210_wordsbf16 : ∀ (v1413 : BitVec 32) (k0_hw106 : k0_chk106 v1413), (Rect.unit (s := S32768x512) (k0_off210 v1413) S256x512.size (k0_off210_inb v1413 k0_hw106)).WholeWords (EltTy.packing .bf16) := fun v1413 k0_hw106 => k0_hw106.2 (k0_off210_inb v1413 k0_hw106)

def k0_off211 (v4 : BitVec 32) : Fin 1 → Nat :=
  let c6_i32_1293 : BitVec 32 := 6#32
  let v1422 : BitVec 32 := Scalar.addi v4 c6_i32_1293
  let c32_i32_1294 : BitVec 32 := 32#32
  let v1423 : BitVec 32 := Scalar.remsi v1422 c32_i32_1294
  let v1424 : Index := Scalar.indexCast v1423
  ![v1424.toNat]
def k0_off212 (v1425 : BitVec 32) : Fin 2 → Nat :=
  let c1024_i32_1295 : BitVec 32 := 1024#32
  let v1426 : BitVec 32 := Scalar.muli v1425 c1024_i32_1295
  let c768_i32_1296 : BitVec 32 := 768#32
  let v1427 : BitVec 32 := Scalar.addi v1426 c768_i32_1296
  let c0_i32_1303 : BitVec 32 := 0#32
  ![v1427.toNat, 0]

def k0_chk107 (v1425 : BitVec 32) : Prop :=
  (∀ a, (k0_off212 v1425) a + S256x512.size a ≤ S32768x512.size a) ∧
  (∀ (hinb : ∀ a, (k0_off212 v1425) a + S256x512.size a ≤ S32768x512.size a), (Rect.unit (s := S32768x512) (k0_off212 v1425) S256x512.size hinb).WholeWords (EltTy.packing .bf16))
theorem k0_off212_inb : ∀ (v1425 : BitVec 32) (k0_hw107 : k0_chk107 v1425), ∀ a, (k0_off212 v1425) a + S256x512.size a ≤ S32768x512.size a := fun v1425 k0_hw107 => k0_hw107.1
theorem k0_off212_wordsbf16 : ∀ (v1425 : BitVec 32) (k0_hw107 : k0_chk107 v1425), (Rect.unit (s := S32768x512) (k0_off212 v1425) S256x512.size (k0_off212_inb v1425 k0_hw107)).WholeWords (EltTy.packing .bf16) := fun v1425 k0_hw107 => k0_hw107.2 (k0_off212_inb v1425 k0_hw107)

def k0_dev58 (v13 : BitVec 32) : Nat :=
  let c0_i32_1302 : BitVec 32 := 0#32
  let c1_i32_1301 : BitVec 32 := 1#32
  let v1428 : BitVec 32 := Scalar.muli v13 c1_i32_1301
  let v1429 : BitVec 32 := Scalar.addi c0_i32_1302 v1428
  v1429.toNat
def k0_off213 (v4 : BitVec 32) : Fin 1 → Nat :=
  let c6_i32_1305 : BitVec 32 := 6#32
  let v1436 : BitVec 32 := Scalar.subi v4 c6_i32_1305
  let c32_i32_1306 : BitVec 32 := 32#32
  let v1437 : BitVec 32 := Scalar.addi v1436 c32_i32_1306
  let c32_i32_1307 : BitVec 32 := 32#32
  let v1438 : BitVec 32 := Scalar.remsi v1437 c32_i32_1307
  let v1439 : Index := Scalar.indexCast v1438
  ![v1439.toNat]
def k0_off214 (v1440 : BitVec 32) : Fin 2 → Nat :=
  let c1024_i32_1308 : BitVec 32 := 1024#32
  let v1441 : BitVec 32 := Scalar.muli v1440 c1024_i32_1308
  let c0_i32_1309 : BitVec 32 := 0#32
  let v1442 : BitVec 32 := Scalar.addi v1441 c0_i32_1309
  let c0_i32_1316 : BitVec 32 := 0#32
  ![v1442.toNat, 0]

def k0_chk108 (v1440 : BitVec 32) : Prop :=
  (∀ a, (k0_off214 v1440) a + S256x512.size a ≤ S32768x512.size a) ∧
  (∀ (hinb : ∀ a, (k0_off214 v1440) a + S256x512.size a ≤ S32768x512.size a), (Rect.unit (s := S32768x512) (k0_off214 v1440) S256x512.size hinb).WholeWords (EltTy.packing .bf16))
theorem k0_off214_inb : ∀ (v1440 : BitVec 32) (k0_hw108 : k0_chk108 v1440), ∀ a, (k0_off214 v1440) a + S256x512.size a ≤ S32768x512.size a := fun v1440 k0_hw108 => k0_hw108.1
theorem k0_off214_wordsbf16 : ∀ (v1440 : BitVec 32) (k0_hw108 : k0_chk108 v1440), (Rect.unit (s := S32768x512) (k0_off214 v1440) S256x512.size (k0_off214_inb v1440 k0_hw108)).WholeWords (EltTy.packing .bf16) := fun v1440 k0_hw108 => k0_hw108.2 (k0_off214_inb v1440 k0_hw108)

def k0_off215 (v4 : BitVec 32) : Fin 1 → Nat :=
  let c7_i32 : BitVec 32 := 7#32
  let v1449 : BitVec 32 := Scalar.subi v4 c7_i32
  let c32_i32_1318 : BitVec 32 := 32#32
  let v1450 : BitVec 32 := Scalar.addi v1449 c32_i32_1318
  let c32_i32_1319 : BitVec 32 := 32#32
  let v1451 : BitVec 32 := Scalar.remsi v1450 c32_i32_1319
  let v1452 : Index := Scalar.indexCast v1451
  ![v1452.toNat]
def k0_off216 (v1453 : BitVec 32) : Fin 2 → Nat :=
  let c1024_i32_1320 : BitVec 32 := 1024#32
  let v1454 : BitVec 32 := Scalar.muli v1453 c1024_i32_1320
  let c0_i32_1321 : BitVec 32 := 0#32
  let v1455 : BitVec 32 := Scalar.addi v1454 c0_i32_1321
  let c0_i32_1328 : BitVec 32 := 0#32
  ![v1455.toNat, 0]

def k0_chk109 (v1453 : BitVec 32) : Prop :=
  (∀ a, (k0_off216 v1453) a + S256x512.size a ≤ S32768x512.size a) ∧
  (∀ (hinb : ∀ a, (k0_off216 v1453) a + S256x512.size a ≤ S32768x512.size a), (Rect.unit (s := S32768x512) (k0_off216 v1453) S256x512.size hinb).WholeWords (EltTy.packing .bf16))
theorem k0_off216_inb : ∀ (v1453 : BitVec 32) (k0_hw109 : k0_chk109 v1453), ∀ a, (k0_off216 v1453) a + S256x512.size a ≤ S32768x512.size a := fun v1453 k0_hw109 => k0_hw109.1
theorem k0_off216_wordsbf16 : ∀ (v1453 : BitVec 32) (k0_hw109 : k0_chk109 v1453), (Rect.unit (s := S32768x512) (k0_off216 v1453) S256x512.size (k0_off216_inb v1453 k0_hw109)).WholeWords (EltTy.packing .bf16) := fun v1453 k0_hw109 => k0_hw109.2 (k0_off216_inb v1453 k0_hw109)

def k0_dev59 (v8 : BitVec 32) : Nat :=
  let c0_i32_1327 : BitVec 32 := 0#32
  let c1_i32_1326 : BitVec 32 := 1#32
  let v1456 : BitVec 32 := Scalar.muli v8 c1_i32_1326
  let v1457 : BitVec 32 := Scalar.addi c0_i32_1327 v1456
  v1457.toNat
def k0_off217 (v4 : BitVec 32) : Fin 1 → Nat :=
  let c6_i32_1330 : BitVec 32 := 6#32
  let v1464 : BitVec 32 := Scalar.addi v4 c6_i32_1330
  let c32_i32_1331 : BitVec 32 := 32#32
  let v1465 : BitVec 32 := Scalar.remsi v1464 c32_i32_1331
  let v1466 : Index := Scalar.indexCast v1465
  ![v1466.toNat]
def k0_off218 (v1467 : BitVec 32) : Fin 2 → Nat :=
  let c1024_i32_1332 : BitVec 32 := 1024#32
  let v1468 : BitVec 32 := Scalar.muli v1467 c1024_i32_1332
  let c0_i32_1333 : BitVec 32 := 0#32
  let v1469 : BitVec 32 := Scalar.addi v1468 c0_i32_1333
  let c0_i32_1340 : BitVec 32 := 0#32
  ![v1469.toNat, 0]

def k0_chk110 (v1467 : BitVec 32) : Prop :=
  (∀ a, (k0_off218 v1467) a + S256x512.size a ≤ S32768x512.size a) ∧
  (∀ (hinb : ∀ a, (k0_off218 v1467) a + S256x512.size a ≤ S32768x512.size a), (Rect.unit (s := S32768x512) (k0_off218 v1467) S256x512.size hinb).WholeWords (EltTy.packing .bf16))
theorem k0_off218_inb : ∀ (v1467 : BitVec 32) (k0_hw110 : k0_chk110 v1467), ∀ a, (k0_off218 v1467) a + S256x512.size a ≤ S32768x512.size a := fun v1467 k0_hw110 => k0_hw110.1
theorem k0_off218_wordsbf16 : ∀ (v1467 : BitVec 32) (k0_hw110 : k0_chk110 v1467), (Rect.unit (s := S32768x512) (k0_off218 v1467) S256x512.size (k0_off218_inb v1467 k0_hw110)).WholeWords (EltTy.packing .bf16) := fun v1467 k0_hw110 => k0_hw110.2 (k0_off218_inb v1467 k0_hw110)

def k0_off219 (v4 : BitVec 32) : Fin 1 → Nat :=
  let c7_i32_1342 : BitVec 32 := 7#32
  let v1476 : BitVec 32 := Scalar.addi v4 c7_i32_1342
  let c32_i32_1343 : BitVec 32 := 32#32
  let v1477 : BitVec 32 := Scalar.remsi v1476 c32_i32_1343
  let v1478 : Index := Scalar.indexCast v1477
  ![v1478.toNat]
def k0_off220 (v1479 : BitVec 32) : Fin 2 → Nat :=
  let c1024_i32_1344 : BitVec 32 := 1024#32
  let v1480 : BitVec 32 := Scalar.muli v1479 c1024_i32_1344
  let c0_i32_1345 : BitVec 32 := 0#32
  let v1481 : BitVec 32 := Scalar.addi v1480 c0_i32_1345
  let c0_i32_1352 : BitVec 32 := 0#32
  ![v1481.toNat, 0]

def k0_chk111 (v1479 : BitVec 32) : Prop :=
  (∀ a, (k0_off220 v1479) a + S256x512.size a ≤ S32768x512.size a) ∧
  (∀ (hinb : ∀ a, (k0_off220 v1479) a + S256x512.size a ≤ S32768x512.size a), (Rect.unit (s := S32768x512) (k0_off220 v1479) S256x512.size hinb).WholeWords (EltTy.packing .bf16))
theorem k0_off220_inb : ∀ (v1479 : BitVec 32) (k0_hw111 : k0_chk111 v1479), ∀ a, (k0_off220 v1479) a + S256x512.size a ≤ S32768x512.size a := fun v1479 k0_hw111 => k0_hw111.1
theorem k0_off220_wordsbf16 : ∀ (v1479 : BitVec 32) (k0_hw111 : k0_chk111 v1479), (Rect.unit (s := S32768x512) (k0_off220 v1479) S256x512.size (k0_off220_inb v1479 k0_hw111)).WholeWords (EltTy.packing .bf16) := fun v1479 k0_hw111 => k0_hw111.2 (k0_off220_inb v1479 k0_hw111)

def k0_dev60 (v13 : BitVec 32) : Nat :=
  let c0_i32_1351 : BitVec 32 := 0#32
  let c1_i32_1350 : BitVec 32 := 1#32
  let v1482 : BitVec 32 := Scalar.muli v13 c1_i32_1350
  let v1483 : BitVec 32 := Scalar.addi c0_i32_1351 v1482
  v1483.toNat
def k0_off221 (v4 : BitVec 32) : Fin 1 → Nat :=
  let c6_i32_1354 : BitVec 32 := 6#32
  let v1490 : BitVec 32 := Scalar.subi v4 c6_i32_1354
  let c32_i32_1355 : BitVec 32 := 32#32
  let v1491 : BitVec 32 := Scalar.addi v1490 c32_i32_1355
  let c32_i32_1356 : BitVec 32 := 32#32
  let v1492 : BitVec 32 := Scalar.remsi v1491 c32_i32_1356
  let v1493 : Index := Scalar.indexCast v1492
  ![v1493.toNat]
def k0_off222 (v1494 : BitVec 32) : Fin 2 → Nat :=
  let c1024_i32_1357 : BitVec 32 := 1024#32
  let v1495 : BitVec 32 := Scalar.muli v1494 c1024_i32_1357
  let c256_i32_1358 : BitVec 32 := 256#32
  let v1496 : BitVec 32 := Scalar.addi v1495 c256_i32_1358
  let c0_i32_1365 : BitVec 32 := 0#32
  ![v1496.toNat, 0]

def k0_chk112 (v1494 : BitVec 32) : Prop :=
  (∀ a, (k0_off222 v1494) a + S256x512.size a ≤ S32768x512.size a) ∧
  (∀ (hinb : ∀ a, (k0_off222 v1494) a + S256x512.size a ≤ S32768x512.size a), (Rect.unit (s := S32768x512) (k0_off222 v1494) S256x512.size hinb).WholeWords (EltTy.packing .bf16))
theorem k0_off222_inb : ∀ (v1494 : BitVec 32) (k0_hw112 : k0_chk112 v1494), ∀ a, (k0_off222 v1494) a + S256x512.size a ≤ S32768x512.size a := fun v1494 k0_hw112 => k0_hw112.1
theorem k0_off222_wordsbf16 : ∀ (v1494 : BitVec 32) (k0_hw112 : k0_chk112 v1494), (Rect.unit (s := S32768x512) (k0_off222 v1494) S256x512.size (k0_off222_inb v1494 k0_hw112)).WholeWords (EltTy.packing .bf16) := fun v1494 k0_hw112 => k0_hw112.2 (k0_off222_inb v1494 k0_hw112)

def k0_off223 (v4 : BitVec 32) : Fin 1 → Nat :=
  let c7_i32_1367 : BitVec 32 := 7#32
  let v1503 : BitVec 32 := Scalar.subi v4 c7_i32_1367
  let c32_i32_1368 : BitVec 32 := 32#32
  let v1504 : BitVec 32 := Scalar.addi v1503 c32_i32_1368
  let c32_i32_1369 : BitVec 32 := 32#32
  let v1505 : BitVec 32 := Scalar.remsi v1504 c32_i32_1369
  let v1506 : Index := Scalar.indexCast v1505
  ![v1506.toNat]
def k0_off224 (v1507 : BitVec 32) : Fin 2 → Nat :=
  let c1024_i32_1370 : BitVec 32 := 1024#32
  let v1508 : BitVec 32 := Scalar.muli v1507 c1024_i32_1370
  let c256_i32_1371 : BitVec 32 := 256#32
  let v1509 : BitVec 32 := Scalar.addi v1508 c256_i32_1371
  let c0_i32_1378 : BitVec 32 := 0#32
  ![v1509.toNat, 0]

def k0_chk113 (v1507 : BitVec 32) : Prop :=
  (∀ a, (k0_off224 v1507) a + S256x512.size a ≤ S32768x512.size a) ∧
  (∀ (hinb : ∀ a, (k0_off224 v1507) a + S256x512.size a ≤ S32768x512.size a), (Rect.unit (s := S32768x512) (k0_off224 v1507) S256x512.size hinb).WholeWords (EltTy.packing .bf16))
theorem k0_off224_inb : ∀ (v1507 : BitVec 32) (k0_hw113 : k0_chk113 v1507), ∀ a, (k0_off224 v1507) a + S256x512.size a ≤ S32768x512.size a := fun v1507 k0_hw113 => k0_hw113.1
theorem k0_off224_wordsbf16 : ∀ (v1507 : BitVec 32) (k0_hw113 : k0_chk113 v1507), (Rect.unit (s := S32768x512) (k0_off224 v1507) S256x512.size (k0_off224_inb v1507 k0_hw113)).WholeWords (EltTy.packing .bf16) := fun v1507 k0_hw113 => k0_hw113.2 (k0_off224_inb v1507 k0_hw113)

def k0_dev61 (v8 : BitVec 32) : Nat :=
  let c0_i32_1377 : BitVec 32 := 0#32
  let c1_i32_1376 : BitVec 32 := 1#32
  let v1510 : BitVec 32 := Scalar.muli v8 c1_i32_1376
  let v1511 : BitVec 32 := Scalar.addi c0_i32_1377 v1510
  v1511.toNat
def k0_off225 (v4 : BitVec 32) : Fin 1 → Nat :=
  let c6_i32_1380 : BitVec 32 := 6#32
  let v1518 : BitVec 32 := Scalar.addi v4 c6_i32_1380
  let c32_i32_1381 : BitVec 32 := 32#32
  let v1519 : BitVec 32 := Scalar.remsi v1518 c32_i32_1381
  let v1520 : Index := Scalar.indexCast v1519
  ![v1520.toNat]
def k0_off226 (v1521 : BitVec 32) : Fin 2 → Nat :=
  let c1024_i32_1382 : BitVec 32 := 1024#32
  let v1522 : BitVec 32 := Scalar.muli v1521 c1024_i32_1382
  let c256_i32_1383 : BitVec 32 := 256#32
  let v1523 : BitVec 32 := Scalar.addi v1522 c256_i32_1383
  let c0_i32_1390 : BitVec 32 := 0#32
  ![v1523.toNat, 0]

def k0_chk114 (v1521 : BitVec 32) : Prop :=
  (∀ a, (k0_off226 v1521) a + S256x512.size a ≤ S32768x512.size a) ∧
  (∀ (hinb : ∀ a, (k0_off226 v1521) a + S256x512.size a ≤ S32768x512.size a), (Rect.unit (s := S32768x512) (k0_off226 v1521) S256x512.size hinb).WholeWords (EltTy.packing .bf16))
theorem k0_off226_inb : ∀ (v1521 : BitVec 32) (k0_hw114 : k0_chk114 v1521), ∀ a, (k0_off226 v1521) a + S256x512.size a ≤ S32768x512.size a := fun v1521 k0_hw114 => k0_hw114.1
theorem k0_off226_wordsbf16 : ∀ (v1521 : BitVec 32) (k0_hw114 : k0_chk114 v1521), (Rect.unit (s := S32768x512) (k0_off226 v1521) S256x512.size (k0_off226_inb v1521 k0_hw114)).WholeWords (EltTy.packing .bf16) := fun v1521 k0_hw114 => k0_hw114.2 (k0_off226_inb v1521 k0_hw114)

def k0_off227 (v4 : BitVec 32) : Fin 1 → Nat :=
  let c7_i32_1392 : BitVec 32 := 7#32
  let v1530 : BitVec 32 := Scalar.addi v4 c7_i32_1392
  let c32_i32_1393 : BitVec 32 := 32#32
  let v1531 : BitVec 32 := Scalar.remsi v1530 c32_i32_1393
  let v1532 : Index := Scalar.indexCast v1531
  ![v1532.toNat]
def k0_off228 (v1533 : BitVec 32) : Fin 2 → Nat :=
  let c1024_i32_1394 : BitVec 32 := 1024#32
  let v1534 : BitVec 32 := Scalar.muli v1533 c1024_i32_1394
  let c256_i32_1395 : BitVec 32 := 256#32
  let v1535 : BitVec 32 := Scalar.addi v1534 c256_i32_1395
  let c0_i32_1402 : BitVec 32 := 0#32
  ![v1535.toNat, 0]

def k0_chk115 (v1533 : BitVec 32) : Prop :=
  (∀ a, (k0_off228 v1533) a + S256x512.size a ≤ S32768x512.size a) ∧
  (∀ (hinb : ∀ a, (k0_off228 v1533) a + S256x512.size a ≤ S32768x512.size a), (Rect.unit (s := S32768x512) (k0_off228 v1533) S256x512.size hinb).WholeWords (EltTy.packing .bf16))
theorem k0_off228_inb : ∀ (v1533 : BitVec 32) (k0_hw115 : k0_chk115 v1533), ∀ a, (k0_off228 v1533) a + S256x512.size a ≤ S32768x512.size a := fun v1533 k0_hw115 => k0_hw115.1
theorem k0_off228_wordsbf16 : ∀ (v1533 : BitVec 32) (k0_hw115 : k0_chk115 v1533), (Rect.unit (s := S32768x512) (k0_off228 v1533) S256x512.size (k0_off228_inb v1533 k0_hw115)).WholeWords (EltTy.packing .bf16) := fun v1533 k0_hw115 => k0_hw115.2 (k0_off228_inb v1533 k0_hw115)

def k0_dev62 (v13 : BitVec 32) : Nat :=
  let c0_i32_1401 : BitVec 32 := 0#32
  let c1_i32_1400 : BitVec 32 := 1#32
  let v1536 : BitVec 32 := Scalar.muli v13 c1_i32_1400
  let v1537 : BitVec 32 := Scalar.addi c0_i32_1401 v1536
  v1537.toNat
def k0_off229 (v4 : BitVec 32) : Fin 1 → Nat :=
  let c6_i32_1404 : BitVec 32 := 6#32
  let v1544 : BitVec 32 := Scalar.subi v4 c6_i32_1404
  let c32_i32_1405 : BitVec 32 := 32#32
  let v1545 : BitVec 32 := Scalar.addi v1544 c32_i32_1405
  let c32_i32_1406 : BitVec 32 := 32#32
  let v1546 : BitVec 32 := Scalar.remsi v1545 c32_i32_1406
  let v1547 : Index := Scalar.indexCast v1546
  ![v1547.toNat]
def k0_off230 (v1548 : BitVec 32) : Fin 2 → Nat :=
  let c1024_i32_1407 : BitVec 32 := 1024#32
  let v1549 : BitVec 32 := Scalar.muli v1548 c1024_i32_1407
  let c512_i32_1408 : BitVec 32 := 512#32
  let v1550 : BitVec 32 := Scalar.addi v1549 c512_i32_1408
  let c0_i32_1415 : BitVec 32 := 0#32
  ![v1550.toNat, 0]

def k0_chk116 (v1548 : BitVec 32) : Prop :=
  (∀ a, (k0_off230 v1548) a + S256x512.size a ≤ S32768x512.size a) ∧
  (∀ (hinb : ∀ a, (k0_off230 v1548) a + S256x512.size a ≤ S32768x512.size a), (Rect.unit (s := S32768x512) (k0_off230 v1548) S256x512.size hinb).WholeWords (EltTy.packing .bf16))
theorem k0_off230_inb : ∀ (v1548 : BitVec 32) (k0_hw116 : k0_chk116 v1548), ∀ a, (k0_off230 v1548) a + S256x512.size a ≤ S32768x512.size a := fun v1548 k0_hw116 => k0_hw116.1
theorem k0_off230_wordsbf16 : ∀ (v1548 : BitVec 32) (k0_hw116 : k0_chk116 v1548), (Rect.unit (s := S32768x512) (k0_off230 v1548) S256x512.size (k0_off230_inb v1548 k0_hw116)).WholeWords (EltTy.packing .bf16) := fun v1548 k0_hw116 => k0_hw116.2 (k0_off230_inb v1548 k0_hw116)

def k0_off231 (v4 : BitVec 32) : Fin 1 → Nat :=
  let c7_i32_1417 : BitVec 32 := 7#32
  let v1557 : BitVec 32 := Scalar.subi v4 c7_i32_1417
  let c32_i32_1418 : BitVec 32 := 32#32
  let v1558 : BitVec 32 := Scalar.addi v1557 c32_i32_1418
  let c32_i32_1419 : BitVec 32 := 32#32
  let v1559 : BitVec 32 := Scalar.remsi v1558 c32_i32_1419
  let v1560 : Index := Scalar.indexCast v1559
  ![v1560.toNat]
def k0_off232 (v1561 : BitVec 32) : Fin 2 → Nat :=
  let c1024_i32_1420 : BitVec 32 := 1024#32
  let v1562 : BitVec 32 := Scalar.muli v1561 c1024_i32_1420
  let c512_i32_1421 : BitVec 32 := 512#32
  let v1563 : BitVec 32 := Scalar.addi v1562 c512_i32_1421
  let c0_i32_1428 : BitVec 32 := 0#32
  ![v1563.toNat, 0]

def k0_chk117 (v1561 : BitVec 32) : Prop :=
  (∀ a, (k0_off232 v1561) a + S256x512.size a ≤ S32768x512.size a) ∧
  (∀ (hinb : ∀ a, (k0_off232 v1561) a + S256x512.size a ≤ S32768x512.size a), (Rect.unit (s := S32768x512) (k0_off232 v1561) S256x512.size hinb).WholeWords (EltTy.packing .bf16))
theorem k0_off232_inb : ∀ (v1561 : BitVec 32) (k0_hw117 : k0_chk117 v1561), ∀ a, (k0_off232 v1561) a + S256x512.size a ≤ S32768x512.size a := fun v1561 k0_hw117 => k0_hw117.1
theorem k0_off232_wordsbf16 : ∀ (v1561 : BitVec 32) (k0_hw117 : k0_chk117 v1561), (Rect.unit (s := S32768x512) (k0_off232 v1561) S256x512.size (k0_off232_inb v1561 k0_hw117)).WholeWords (EltTy.packing .bf16) := fun v1561 k0_hw117 => k0_hw117.2 (k0_off232_inb v1561 k0_hw117)

def k0_dev63 (v8 : BitVec 32) : Nat :=
  let c0_i32_1427 : BitVec 32 := 0#32
  let c1_i32_1426 : BitVec 32 := 1#32
  let v1564 : BitVec 32 := Scalar.muli v8 c1_i32_1426
  let v1565 : BitVec 32 := Scalar.addi c0_i32_1427 v1564
  v1565.toNat
def k0_off233 (v4 : BitVec 32) : Fin 1 → Nat :=
  let c6_i32_1430 : BitVec 32 := 6#32
  let v1572 : BitVec 32 := Scalar.addi v4 c6_i32_1430
  let c32_i32_1431 : BitVec 32 := 32#32
  let v1573 : BitVec 32 := Scalar.remsi v1572 c32_i32_1431
  let v1574 : Index := Scalar.indexCast v1573
  ![v1574.toNat]
def k0_off234 (v1575 : BitVec 32) : Fin 2 → Nat :=
  let c1024_i32_1432 : BitVec 32 := 1024#32
  let v1576 : BitVec 32 := Scalar.muli v1575 c1024_i32_1432
  let c512_i32_1433 : BitVec 32 := 512#32
  let v1577 : BitVec 32 := Scalar.addi v1576 c512_i32_1433
  let c0_i32_1440 : BitVec 32 := 0#32
  ![v1577.toNat, 0]

def k0_chk118 (v1575 : BitVec 32) : Prop :=
  (∀ a, (k0_off234 v1575) a + S256x512.size a ≤ S32768x512.size a) ∧
  (∀ (hinb : ∀ a, (k0_off234 v1575) a + S256x512.size a ≤ S32768x512.size a), (Rect.unit (s := S32768x512) (k0_off234 v1575) S256x512.size hinb).WholeWords (EltTy.packing .bf16))
theorem k0_off234_inb : ∀ (v1575 : BitVec 32) (k0_hw118 : k0_chk118 v1575), ∀ a, (k0_off234 v1575) a + S256x512.size a ≤ S32768x512.size a := fun v1575 k0_hw118 => k0_hw118.1
theorem k0_off234_wordsbf16 : ∀ (v1575 : BitVec 32) (k0_hw118 : k0_chk118 v1575), (Rect.unit (s := S32768x512) (k0_off234 v1575) S256x512.size (k0_off234_inb v1575 k0_hw118)).WholeWords (EltTy.packing .bf16) := fun v1575 k0_hw118 => k0_hw118.2 (k0_off234_inb v1575 k0_hw118)

def k0_off235 (v4 : BitVec 32) : Fin 1 → Nat :=
  let c7_i32_1442 : BitVec 32 := 7#32
  let v1584 : BitVec 32 := Scalar.addi v4 c7_i32_1442
  let c32_i32_1443 : BitVec 32 := 32#32
  let v1585 : BitVec 32 := Scalar.remsi v1584 c32_i32_1443
  let v1586 : Index := Scalar.indexCast v1585
  ![v1586.toNat]
def k0_off236 (v1587 : BitVec 32) : Fin 2 → Nat :=
  let c1024_i32_1444 : BitVec 32 := 1024#32
  let v1588 : BitVec 32 := Scalar.muli v1587 c1024_i32_1444
  let c512_i32_1445 : BitVec 32 := 512#32
  let v1589 : BitVec 32 := Scalar.addi v1588 c512_i32_1445
  let c0_i32_1452 : BitVec 32 := 0#32
  ![v1589.toNat, 0]

def k0_chk119 (v1587 : BitVec 32) : Prop :=
  (∀ a, (k0_off236 v1587) a + S256x512.size a ≤ S32768x512.size a) ∧
  (∀ (hinb : ∀ a, (k0_off236 v1587) a + S256x512.size a ≤ S32768x512.size a), (Rect.unit (s := S32768x512) (k0_off236 v1587) S256x512.size hinb).WholeWords (EltTy.packing .bf16))
theorem k0_off236_inb : ∀ (v1587 : BitVec 32) (k0_hw119 : k0_chk119 v1587), ∀ a, (k0_off236 v1587) a + S256x512.size a ≤ S32768x512.size a := fun v1587 k0_hw119 => k0_hw119.1
theorem k0_off236_wordsbf16 : ∀ (v1587 : BitVec 32) (k0_hw119 : k0_chk119 v1587), (Rect.unit (s := S32768x512) (k0_off236 v1587) S256x512.size (k0_off236_inb v1587 k0_hw119)).WholeWords (EltTy.packing .bf16) := fun v1587 k0_hw119 => k0_hw119.2 (k0_off236_inb v1587 k0_hw119)

def k0_dev64 (v13 : BitVec 32) : Nat :=
  let c0_i32_1451 : BitVec 32 := 0#32
  let c1_i32_1450 : BitVec 32 := 1#32
  let v1590 : BitVec 32 := Scalar.muli v13 c1_i32_1450
  let v1591 : BitVec 32 := Scalar.addi c0_i32_1451 v1590
  v1591.toNat
def k0_off237 (v4 : BitVec 32) : Fin 1 → Nat :=
  let c6_i32_1454 : BitVec 32 := 6#32
  let v1598 : BitVec 32 := Scalar.subi v4 c6_i32_1454
  let c32_i32_1455 : BitVec 32 := 32#32
  let v1599 : BitVec 32 := Scalar.addi v1598 c32_i32_1455
  let c32_i32_1456 : BitVec 32 := 32#32
  let v1600 : BitVec 32 := Scalar.remsi v1599 c32_i32_1456
  let v1601 : Index := Scalar.indexCast v1600
  ![v1601.toNat]
def k0_off238 (v1602 : BitVec 32) : Fin 2 → Nat :=
  let c1024_i32_1457 : BitVec 32 := 1024#32
  let v1603 : BitVec 32 := Scalar.muli v1602 c1024_i32_1457
  let c768_i32_1458 : BitVec 32 := 768#32
  let v1604 : BitVec 32 := Scalar.addi v1603 c768_i32_1458
  let c0_i32_1465 : BitVec 32 := 0#32
  ![v1604.toNat, 0]

def k0_chk120 (v1602 : BitVec 32) : Prop :=
  (∀ a, (k0_off238 v1602) a + S256x512.size a ≤ S32768x512.size a) ∧
  (∀ (hinb : ∀ a, (k0_off238 v1602) a + S256x512.size a ≤ S32768x512.size a), (Rect.unit (s := S32768x512) (k0_off238 v1602) S256x512.size hinb).WholeWords (EltTy.packing .bf16))
theorem k0_off238_inb : ∀ (v1602 : BitVec 32) (k0_hw120 : k0_chk120 v1602), ∀ a, (k0_off238 v1602) a + S256x512.size a ≤ S32768x512.size a := fun v1602 k0_hw120 => k0_hw120.1
theorem k0_off238_wordsbf16 : ∀ (v1602 : BitVec 32) (k0_hw120 : k0_chk120 v1602), (Rect.unit (s := S32768x512) (k0_off238 v1602) S256x512.size (k0_off238_inb v1602 k0_hw120)).WholeWords (EltTy.packing .bf16) := fun v1602 k0_hw120 => k0_hw120.2 (k0_off238_inb v1602 k0_hw120)

def k0_off239 (v4 : BitVec 32) : Fin 1 → Nat :=
  let c7_i32_1467 : BitVec 32 := 7#32
  let v1611 : BitVec 32 := Scalar.subi v4 c7_i32_1467
  let c32_i32_1468 : BitVec 32 := 32#32
  let v1612 : BitVec 32 := Scalar.addi v1611 c32_i32_1468
  let c32_i32_1469 : BitVec 32 := 32#32
  let v1613 : BitVec 32 := Scalar.remsi v1612 c32_i32_1469
  let v1614 : Index := Scalar.indexCast v1613
  ![v1614.toNat]
def k0_off240 (v1615 : BitVec 32) : Fin 2 → Nat :=
  let c1024_i32_1470 : BitVec 32 := 1024#32
  let v1616 : BitVec 32 := Scalar.muli v1615 c1024_i32_1470
  let c768_i32_1471 : BitVec 32 := 768#32
  let v1617 : BitVec 32 := Scalar.addi v1616 c768_i32_1471
  let c0_i32_1478 : BitVec 32 := 0#32
  ![v1617.toNat, 0]

def k0_chk121 (v1615 : BitVec 32) : Prop :=
  (∀ a, (k0_off240 v1615) a + S256x512.size a ≤ S32768x512.size a) ∧
  (∀ (hinb : ∀ a, (k0_off240 v1615) a + S256x512.size a ≤ S32768x512.size a), (Rect.unit (s := S32768x512) (k0_off240 v1615) S256x512.size hinb).WholeWords (EltTy.packing .bf16))
theorem k0_off240_inb : ∀ (v1615 : BitVec 32) (k0_hw121 : k0_chk121 v1615), ∀ a, (k0_off240 v1615) a + S256x512.size a ≤ S32768x512.size a := fun v1615 k0_hw121 => k0_hw121.1
theorem k0_off240_wordsbf16 : ∀ (v1615 : BitVec 32) (k0_hw121 : k0_chk121 v1615), (Rect.unit (s := S32768x512) (k0_off240 v1615) S256x512.size (k0_off240_inb v1615 k0_hw121)).WholeWords (EltTy.packing .bf16) := fun v1615 k0_hw121 => k0_hw121.2 (k0_off240_inb v1615 k0_hw121)

def k0_dev65 (v8 : BitVec 32) : Nat :=
  let c0_i32_1477 : BitVec 32 := 0#32
  let c1_i32_1476 : BitVec 32 := 1#32
  let v1618 : BitVec 32 := Scalar.muli v8 c1_i32_1476
  let v1619 : BitVec 32 := Scalar.addi c0_i32_1477 v1618
  v1619.toNat
def k0_off241 (v4 : BitVec 32) : Fin 1 → Nat :=
  let c6_i32_1480 : BitVec 32 := 6#32
  let v1626 : BitVec 32 := Scalar.addi v4 c6_i32_1480
  let c32_i32_1481 : BitVec 32 := 32#32
  let v1627 : BitVec 32 := Scalar.remsi v1626 c32_i32_1481
  let v1628 : Index := Scalar.indexCast v1627
  ![v1628.toNat]
def k0_off242 (v1629 : BitVec 32) : Fin 2 → Nat :=
  let c1024_i32_1482 : BitVec 32 := 1024#32
  let v1630 : BitVec 32 := Scalar.muli v1629 c1024_i32_1482
  let c768_i32_1483 : BitVec 32 := 768#32
  let v1631 : BitVec 32 := Scalar.addi v1630 c768_i32_1483
  let c0_i32_1490 : BitVec 32 := 0#32
  ![v1631.toNat, 0]

def k0_chk122 (v1629 : BitVec 32) : Prop :=
  (∀ a, (k0_off242 v1629) a + S256x512.size a ≤ S32768x512.size a) ∧
  (∀ (hinb : ∀ a, (k0_off242 v1629) a + S256x512.size a ≤ S32768x512.size a), (Rect.unit (s := S32768x512) (k0_off242 v1629) S256x512.size hinb).WholeWords (EltTy.packing .bf16))
theorem k0_off242_inb : ∀ (v1629 : BitVec 32) (k0_hw122 : k0_chk122 v1629), ∀ a, (k0_off242 v1629) a + S256x512.size a ≤ S32768x512.size a := fun v1629 k0_hw122 => k0_hw122.1
theorem k0_off242_wordsbf16 : ∀ (v1629 : BitVec 32) (k0_hw122 : k0_chk122 v1629), (Rect.unit (s := S32768x512) (k0_off242 v1629) S256x512.size (k0_off242_inb v1629 k0_hw122)).WholeWords (EltTy.packing .bf16) := fun v1629 k0_hw122 => k0_hw122.2 (k0_off242_inb v1629 k0_hw122)

def k0_off243 (v4 : BitVec 32) : Fin 1 → Nat :=
  let c7_i32_1492 : BitVec 32 := 7#32
  let v1638 : BitVec 32 := Scalar.addi v4 c7_i32_1492
  let c32_i32_1493 : BitVec 32 := 32#32
  let v1639 : BitVec 32 := Scalar.remsi v1638 c32_i32_1493
  let v1640 : Index := Scalar.indexCast v1639
  ![v1640.toNat]
def k0_off244 (v1641 : BitVec 32) : Fin 2 → Nat :=
  let c1024_i32_1494 : BitVec 32 := 1024#32
  let v1642 : BitVec 32 := Scalar.muli v1641 c1024_i32_1494
  let c768_i32_1495 : BitVec 32 := 768#32
  let v1643 : BitVec 32 := Scalar.addi v1642 c768_i32_1495
  let c0_i32_1502 : BitVec 32 := 0#32
  ![v1643.toNat, 0]

def k0_chk123 (v1641 : BitVec 32) : Prop :=
  (∀ a, (k0_off244 v1641) a + S256x512.size a ≤ S32768x512.size a) ∧
  (∀ (hinb : ∀ a, (k0_off244 v1641) a + S256x512.size a ≤ S32768x512.size a), (Rect.unit (s := S32768x512) (k0_off244 v1641) S256x512.size hinb).WholeWords (EltTy.packing .bf16))
theorem k0_off244_inb : ∀ (v1641 : BitVec 32) (k0_hw123 : k0_chk123 v1641), ∀ a, (k0_off244 v1641) a + S256x512.size a ≤ S32768x512.size a := fun v1641 k0_hw123 => k0_hw123.1
theorem k0_off244_wordsbf16 : ∀ (v1641 : BitVec 32) (k0_hw123 : k0_chk123 v1641), (Rect.unit (s := S32768x512) (k0_off244 v1641) S256x512.size (k0_off244_inb v1641 k0_hw123)).WholeWords (EltTy.packing .bf16) := fun v1641 k0_hw123 => k0_hw123.2 (k0_off244_inb v1641 k0_hw123)

def k0_dev66 (v13 : BitVec 32) : Nat :=
  let c0_i32_1501 : BitVec 32 := 0#32
  let c1_i32_1500 : BitVec 32 := 1#32
  let v1644 : BitVec 32 := Scalar.muli v13 c1_i32_1500
  let v1645 : BitVec 32 := Scalar.addi c0_i32_1501 v1644
  v1645.toNat
def k0_off245 (v4 : BitVec 32) : Fin 1 → Nat :=
  let c7_i32_1504 : BitVec 32 := 7#32
  let v1652 : BitVec 32 := Scalar.subi v4 c7_i32_1504
  let c32_i32_1505 : BitVec 32 := 32#32
  let v1653 : BitVec 32 := Scalar.addi v1652 c32_i32_1505
  let c32_i32_1506 : BitVec 32 := 32#32
  let v1654 : BitVec 32 := Scalar.remsi v1653 c32_i32_1506
  let v1655 : Index := Scalar.indexCast v1654
  ![v1655.toNat]
def k0_off246 (v1656 : BitVec 32) : Fin 2 → Nat :=
  let c1024_i32_1507 : BitVec 32 := 1024#32
  let v1657 : BitVec 32 := Scalar.muli v1656 c1024_i32_1507
  let c0_i32_1508 : BitVec 32 := 0#32
  let v1658 : BitVec 32 := Scalar.addi v1657 c0_i32_1508
  let c0_i32_1515 : BitVec 32 := 0#32
  ![v1658.toNat, 0]

def k0_chk124 (v1656 : BitVec 32) : Prop :=
  (∀ a, (k0_off246 v1656) a + S256x512.size a ≤ S32768x512.size a) ∧
  (∀ (hinb : ∀ a, (k0_off246 v1656) a + S256x512.size a ≤ S32768x512.size a), (Rect.unit (s := S32768x512) (k0_off246 v1656) S256x512.size hinb).WholeWords (EltTy.packing .bf16))
theorem k0_off246_inb : ∀ (v1656 : BitVec 32) (k0_hw124 : k0_chk124 v1656), ∀ a, (k0_off246 v1656) a + S256x512.size a ≤ S32768x512.size a := fun v1656 k0_hw124 => k0_hw124.1
theorem k0_off246_wordsbf16 : ∀ (v1656 : BitVec 32) (k0_hw124 : k0_chk124 v1656), (Rect.unit (s := S32768x512) (k0_off246 v1656) S256x512.size (k0_off246_inb v1656 k0_hw124)).WholeWords (EltTy.packing .bf16) := fun v1656 k0_hw124 => k0_hw124.2 (k0_off246_inb v1656 k0_hw124)

def k0_off247 (v4 : BitVec 32) : Fin 1 → Nat :=
  let c8_i32 : BitVec 32 := 8#32
  let v1665 : BitVec 32 := Scalar.subi v4 c8_i32
  let c32_i32_1517 : BitVec 32 := 32#32
  let v1666 : BitVec 32 := Scalar.addi v1665 c32_i32_1517
  let c32_i32_1518 : BitVec 32 := 32#32
  let v1667 : BitVec 32 := Scalar.remsi v1666 c32_i32_1518
  let v1668 : Index := Scalar.indexCast v1667
  ![v1668.toNat]
def k0_off248 (v1669 : BitVec 32) : Fin 2 → Nat :=
  let c1024_i32_1519 : BitVec 32 := 1024#32
  let v1670 : BitVec 32 := Scalar.muli v1669 c1024_i32_1519
  let c0_i32_1520 : BitVec 32 := 0#32
  let v1671 : BitVec 32 := Scalar.addi v1670 c0_i32_1520
  let c0_i32_1527 : BitVec 32 := 0#32
  ![v1671.toNat, 0]

def k0_chk125 (v1669 : BitVec 32) : Prop :=
  (∀ a, (k0_off248 v1669) a + S256x512.size a ≤ S32768x512.size a) ∧
  (∀ (hinb : ∀ a, (k0_off248 v1669) a + S256x512.size a ≤ S32768x512.size a), (Rect.unit (s := S32768x512) (k0_off248 v1669) S256x512.size hinb).WholeWords (EltTy.packing .bf16))
theorem k0_off248_inb : ∀ (v1669 : BitVec 32) (k0_hw125 : k0_chk125 v1669), ∀ a, (k0_off248 v1669) a + S256x512.size a ≤ S32768x512.size a := fun v1669 k0_hw125 => k0_hw125.1
theorem k0_off248_wordsbf16 : ∀ (v1669 : BitVec 32) (k0_hw125 : k0_chk125 v1669), (Rect.unit (s := S32768x512) (k0_off248 v1669) S256x512.size (k0_off248_inb v1669 k0_hw125)).WholeWords (EltTy.packing .bf16) := fun v1669 k0_hw125 => k0_hw125.2 (k0_off248_inb v1669 k0_hw125)

def k0_dev67 (v8 : BitVec 32) : Nat :=
  let c0_i32_1526 : BitVec 32 := 0#32
  let c1_i32_1525 : BitVec 32 := 1#32
  let v1672 : BitVec 32 := Scalar.muli v8 c1_i32_1525
  let v1673 : BitVec 32 := Scalar.addi c0_i32_1526 v1672
  v1673.toNat
def k0_off249 (v4 : BitVec 32) : Fin 1 → Nat :=
  let c7_i32_1529 : BitVec 32 := 7#32
  let v1680 : BitVec 32 := Scalar.addi v4 c7_i32_1529
  let c32_i32_1530 : BitVec 32 := 32#32
  let v1681 : BitVec 32 := Scalar.remsi v1680 c32_i32_1530
  let v1682 : Index := Scalar.indexCast v1681
  ![v1682.toNat]
def k0_off250 (v1683 : BitVec 32) : Fin 2 → Nat :=
  let c1024_i32_1531 : BitVec 32 := 1024#32
  let v1684 : BitVec 32 := Scalar.muli v1683 c1024_i32_1531
  let c0_i32_1532 : BitVec 32 := 0#32
  let v1685 : BitVec 32 := Scalar.addi v1684 c0_i32_1532
  let c0_i32_1539 : BitVec 32 := 0#32
  ![v1685.toNat, 0]

def k0_chk126 (v1683 : BitVec 32) : Prop :=
  (∀ a, (k0_off250 v1683) a + S256x512.size a ≤ S32768x512.size a) ∧
  (∀ (hinb : ∀ a, (k0_off250 v1683) a + S256x512.size a ≤ S32768x512.size a), (Rect.unit (s := S32768x512) (k0_off250 v1683) S256x512.size hinb).WholeWords (EltTy.packing .bf16))
theorem k0_off250_inb : ∀ (v1683 : BitVec 32) (k0_hw126 : k0_chk126 v1683), ∀ a, (k0_off250 v1683) a + S256x512.size a ≤ S32768x512.size a := fun v1683 k0_hw126 => k0_hw126.1
theorem k0_off250_wordsbf16 : ∀ (v1683 : BitVec 32) (k0_hw126 : k0_chk126 v1683), (Rect.unit (s := S32768x512) (k0_off250 v1683) S256x512.size (k0_off250_inb v1683 k0_hw126)).WholeWords (EltTy.packing .bf16) := fun v1683 k0_hw126 => k0_hw126.2 (k0_off250_inb v1683 k0_hw126)

def k0_off251 (v4 : BitVec 32) : Fin 1 → Nat :=
  let c8_i32_1541 : BitVec 32 := 8#32
  let v1692 : BitVec 32 := Scalar.addi v4 c8_i32_1541
  let c32_i32_1542 : BitVec 32 := 32#32
  let v1693 : BitVec 32 := Scalar.remsi v1692 c32_i32_1542
  let v1694 : Index := Scalar.indexCast v1693
  ![v1694.toNat]
def k0_off252 (v1695 : BitVec 32) : Fin 2 → Nat :=
  let c1024_i32_1543 : BitVec 32 := 1024#32
  let v1696 : BitVec 32 := Scalar.muli v1695 c1024_i32_1543
  let c0_i32_1544 : BitVec 32 := 0#32
  let v1697 : BitVec 32 := Scalar.addi v1696 c0_i32_1544
  let c0_i32_1551 : BitVec 32 := 0#32
  ![v1697.toNat, 0]

def k0_chk127 (v1695 : BitVec 32) : Prop :=
  (∀ a, (k0_off252 v1695) a + S256x512.size a ≤ S32768x512.size a) ∧
  (∀ (hinb : ∀ a, (k0_off252 v1695) a + S256x512.size a ≤ S32768x512.size a), (Rect.unit (s := S32768x512) (k0_off252 v1695) S256x512.size hinb).WholeWords (EltTy.packing .bf16))
theorem k0_off252_inb : ∀ (v1695 : BitVec 32) (k0_hw127 : k0_chk127 v1695), ∀ a, (k0_off252 v1695) a + S256x512.size a ≤ S32768x512.size a := fun v1695 k0_hw127 => k0_hw127.1
theorem k0_off252_wordsbf16 : ∀ (v1695 : BitVec 32) (k0_hw127 : k0_chk127 v1695), (Rect.unit (s := S32768x512) (k0_off252 v1695) S256x512.size (k0_off252_inb v1695 k0_hw127)).WholeWords (EltTy.packing .bf16) := fun v1695 k0_hw127 => k0_hw127.2 (k0_off252_inb v1695 k0_hw127)

def k0_dev68 (v13 : BitVec 32) : Nat :=
  let c0_i32_1550 : BitVec 32 := 0#32
  let c1_i32_1549 : BitVec 32 := 1#32
  let v1698 : BitVec 32 := Scalar.muli v13 c1_i32_1549
  let v1699 : BitVec 32 := Scalar.addi c0_i32_1550 v1698
  v1699.toNat
def k0_off253 (v4 : BitVec 32) : Fin 1 → Nat :=
  let c7_i32_1553 : BitVec 32 := 7#32
  let v1706 : BitVec 32 := Scalar.subi v4 c7_i32_1553
  let c32_i32_1554 : BitVec 32 := 32#32
  let v1707 : BitVec 32 := Scalar.addi v1706 c32_i32_1554
  let c32_i32_1555 : BitVec 32 := 32#32
  let v1708 : BitVec 32 := Scalar.remsi v1707 c32_i32_1555
  let v1709 : Index := Scalar.indexCast v1708
  ![v1709.toNat]
def k0_off254 (v1710 : BitVec 32) : Fin 2 → Nat :=
  let c1024_i32_1556 : BitVec 32 := 1024#32
  let v1711 : BitVec 32 := Scalar.muli v1710 c1024_i32_1556
  let c256_i32_1557 : BitVec 32 := 256#32
  let v1712 : BitVec 32 := Scalar.addi v1711 c256_i32_1557
  let c0_i32_1564 : BitVec 32 := 0#32
  ![v1712.toNat, 0]

def k0_chk128 (v1710 : BitVec 32) : Prop :=
  (∀ a, (k0_off254 v1710) a + S256x512.size a ≤ S32768x512.size a) ∧
  (∀ (hinb : ∀ a, (k0_off254 v1710) a + S256x512.size a ≤ S32768x512.size a), (Rect.unit (s := S32768x512) (k0_off254 v1710) S256x512.size hinb).WholeWords (EltTy.packing .bf16))
theorem k0_off254_inb : ∀ (v1710 : BitVec 32) (k0_hw128 : k0_chk128 v1710), ∀ a, (k0_off254 v1710) a + S256x512.size a ≤ S32768x512.size a := fun v1710 k0_hw128 => k0_hw128.1
theorem k0_off254_wordsbf16 : ∀ (v1710 : BitVec 32) (k0_hw128 : k0_chk128 v1710), (Rect.unit (s := S32768x512) (k0_off254 v1710) S256x512.size (k0_off254_inb v1710 k0_hw128)).WholeWords (EltTy.packing .bf16) := fun v1710 k0_hw128 => k0_hw128.2 (k0_off254_inb v1710 k0_hw128)

def k0_off255 (v4 : BitVec 32) : Fin 1 → Nat :=
  let c8_i32_1566 : BitVec 32 := 8#32
  let v1719 : BitVec 32 := Scalar.subi v4 c8_i32_1566
  let c32_i32_1567 : BitVec 32 := 32#32
  let v1720 : BitVec 32 := Scalar.addi v1719 c32_i32_1567
  let c32_i32_1568 : BitVec 32 := 32#32
  let v1721 : BitVec 32 := Scalar.remsi v1720 c32_i32_1568
  let v1722 : Index := Scalar.indexCast v1721
  ![v1722.toNat]
def k0_off256 (v1723 : BitVec 32) : Fin 2 → Nat :=
  let c1024_i32_1569 : BitVec 32 := 1024#32
  let v1724 : BitVec 32 := Scalar.muli v1723 c1024_i32_1569
  let c256_i32_1570 : BitVec 32 := 256#32
  let v1725 : BitVec 32 := Scalar.addi v1724 c256_i32_1570
  let c0_i32_1577 : BitVec 32 := 0#32
  ![v1725.toNat, 0]

def k0_chk129 (v1723 : BitVec 32) : Prop :=
  (∀ a, (k0_off256 v1723) a + S256x512.size a ≤ S32768x512.size a) ∧
  (∀ (hinb : ∀ a, (k0_off256 v1723) a + S256x512.size a ≤ S32768x512.size a), (Rect.unit (s := S32768x512) (k0_off256 v1723) S256x512.size hinb).WholeWords (EltTy.packing .bf16))
theorem k0_off256_inb : ∀ (v1723 : BitVec 32) (k0_hw129 : k0_chk129 v1723), ∀ a, (k0_off256 v1723) a + S256x512.size a ≤ S32768x512.size a := fun v1723 k0_hw129 => k0_hw129.1
theorem k0_off256_wordsbf16 : ∀ (v1723 : BitVec 32) (k0_hw129 : k0_chk129 v1723), (Rect.unit (s := S32768x512) (k0_off256 v1723) S256x512.size (k0_off256_inb v1723 k0_hw129)).WholeWords (EltTy.packing .bf16) := fun v1723 k0_hw129 => k0_hw129.2 (k0_off256_inb v1723 k0_hw129)

def k0_dev69 (v8 : BitVec 32) : Nat :=
  let c0_i32_1576 : BitVec 32 := 0#32
  let c1_i32_1575 : BitVec 32 := 1#32
  let v1726 : BitVec 32 := Scalar.muli v8 c1_i32_1575
  let v1727 : BitVec 32 := Scalar.addi c0_i32_1576 v1726
  v1727.toNat
def k0_off257 (v4 : BitVec 32) : Fin 1 → Nat :=
  let c7_i32_1579 : BitVec 32 := 7#32
  let v1734 : BitVec 32 := Scalar.addi v4 c7_i32_1579
  let c32_i32_1580 : BitVec 32 := 32#32
  let v1735 : BitVec 32 := Scalar.remsi v1734 c32_i32_1580
  let v1736 : Index := Scalar.indexCast v1735
  ![v1736.toNat]
def k0_off258 (v1737 : BitVec 32) : Fin 2 → Nat :=
  let c1024_i32_1581 : BitVec 32 := 1024#32
  let v1738 : BitVec 32 := Scalar.muli v1737 c1024_i32_1581
  let c256_i32_1582 : BitVec 32 := 256#32
  let v1739 : BitVec 32 := Scalar.addi v1738 c256_i32_1582
  let c0_i32_1589 : BitVec 32 := 0#32
  ![v1739.toNat, 0]

def k0_chk130 (v1737 : BitVec 32) : Prop :=
  (∀ a, (k0_off258 v1737) a + S256x512.size a ≤ S32768x512.size a) ∧
  (∀ (hinb : ∀ a, (k0_off258 v1737) a + S256x512.size a ≤ S32768x512.size a), (Rect.unit (s := S32768x512) (k0_off258 v1737) S256x512.size hinb).WholeWords (EltTy.packing .bf16))
theorem k0_off258_inb : ∀ (v1737 : BitVec 32) (k0_hw130 : k0_chk130 v1737), ∀ a, (k0_off258 v1737) a + S256x512.size a ≤ S32768x512.size a := fun v1737 k0_hw130 => k0_hw130.1
theorem k0_off258_wordsbf16 : ∀ (v1737 : BitVec 32) (k0_hw130 : k0_chk130 v1737), (Rect.unit (s := S32768x512) (k0_off258 v1737) S256x512.size (k0_off258_inb v1737 k0_hw130)).WholeWords (EltTy.packing .bf16) := fun v1737 k0_hw130 => k0_hw130.2 (k0_off258_inb v1737 k0_hw130)

def k0_off259 (v4 : BitVec 32) : Fin 1 → Nat :=
  let c8_i32_1591 : BitVec 32 := 8#32
  let v1746 : BitVec 32 := Scalar.addi v4 c8_i32_1591
  let c32_i32_1592 : BitVec 32 := 32#32
  let v1747 : BitVec 32 := Scalar.remsi v1746 c32_i32_1592
  let v1748 : Index := Scalar.indexCast v1747
  ![v1748.toNat]
def k0_off260 (v1749 : BitVec 32) : Fin 2 → Nat :=
  let c1024_i32_1593 : BitVec 32 := 1024#32
  let v1750 : BitVec 32 := Scalar.muli v1749 c1024_i32_1593
  let c256_i32_1594 : BitVec 32 := 256#32
  let v1751 : BitVec 32 := Scalar.addi v1750 c256_i32_1594
  let c0_i32_1601 : BitVec 32 := 0#32
  ![v1751.toNat, 0]

def k0_chk131 (v1749 : BitVec 32) : Prop :=
  (∀ a, (k0_off260 v1749) a + S256x512.size a ≤ S32768x512.size a) ∧
  (∀ (hinb : ∀ a, (k0_off260 v1749) a + S256x512.size a ≤ S32768x512.size a), (Rect.unit (s := S32768x512) (k0_off260 v1749) S256x512.size hinb).WholeWords (EltTy.packing .bf16))
theorem k0_off260_inb : ∀ (v1749 : BitVec 32) (k0_hw131 : k0_chk131 v1749), ∀ a, (k0_off260 v1749) a + S256x512.size a ≤ S32768x512.size a := fun v1749 k0_hw131 => k0_hw131.1
theorem k0_off260_wordsbf16 : ∀ (v1749 : BitVec 32) (k0_hw131 : k0_chk131 v1749), (Rect.unit (s := S32768x512) (k0_off260 v1749) S256x512.size (k0_off260_inb v1749 k0_hw131)).WholeWords (EltTy.packing .bf16) := fun v1749 k0_hw131 => k0_hw131.2 (k0_off260_inb v1749 k0_hw131)

def k0_dev70 (v13 : BitVec 32) : Nat :=
  let c0_i32_1600 : BitVec 32 := 0#32
  let c1_i32_1599 : BitVec 32 := 1#32
  let v1752 : BitVec 32 := Scalar.muli v13 c1_i32_1599
  let v1753 : BitVec 32 := Scalar.addi c0_i32_1600 v1752
  v1753.toNat
def k0_off261 (v4 : BitVec 32) : Fin 1 → Nat :=
  let c7_i32_1603 : BitVec 32 := 7#32
  let v1760 : BitVec 32 := Scalar.subi v4 c7_i32_1603
  let c32_i32_1604 : BitVec 32 := 32#32
  let v1761 : BitVec 32 := Scalar.addi v1760 c32_i32_1604
  let c32_i32_1605 : BitVec 32 := 32#32
  let v1762 : BitVec 32 := Scalar.remsi v1761 c32_i32_1605
  let v1763 : Index := Scalar.indexCast v1762
  ![v1763.toNat]
def k0_off262 (v1764 : BitVec 32) : Fin 2 → Nat :=
  let c1024_i32_1606 : BitVec 32 := 1024#32
  let v1765 : BitVec 32 := Scalar.muli v1764 c1024_i32_1606
  let c512_i32_1607 : BitVec 32 := 512#32
  let v1766 : BitVec 32 := Scalar.addi v1765 c512_i32_1607
  let c0_i32_1614 : BitVec 32 := 0#32
  ![v1766.toNat, 0]

def k0_chk132 (v1764 : BitVec 32) : Prop :=
  (∀ a, (k0_off262 v1764) a + S256x512.size a ≤ S32768x512.size a) ∧
  (∀ (hinb : ∀ a, (k0_off262 v1764) a + S256x512.size a ≤ S32768x512.size a), (Rect.unit (s := S32768x512) (k0_off262 v1764) S256x512.size hinb).WholeWords (EltTy.packing .bf16))
theorem k0_off262_inb : ∀ (v1764 : BitVec 32) (k0_hw132 : k0_chk132 v1764), ∀ a, (k0_off262 v1764) a + S256x512.size a ≤ S32768x512.size a := fun v1764 k0_hw132 => k0_hw132.1
theorem k0_off262_wordsbf16 : ∀ (v1764 : BitVec 32) (k0_hw132 : k0_chk132 v1764), (Rect.unit (s := S32768x512) (k0_off262 v1764) S256x512.size (k0_off262_inb v1764 k0_hw132)).WholeWords (EltTy.packing .bf16) := fun v1764 k0_hw132 => k0_hw132.2 (k0_off262_inb v1764 k0_hw132)

def k0_off263 (v4 : BitVec 32) : Fin 1 → Nat :=
  let c8_i32_1616 : BitVec 32 := 8#32
  let v1773 : BitVec 32 := Scalar.subi v4 c8_i32_1616
  let c32_i32_1617 : BitVec 32 := 32#32
  let v1774 : BitVec 32 := Scalar.addi v1773 c32_i32_1617
  let c32_i32_1618 : BitVec 32 := 32#32
  let v1775 : BitVec 32 := Scalar.remsi v1774 c32_i32_1618
  let v1776 : Index := Scalar.indexCast v1775
  ![v1776.toNat]
def k0_off264 (v1777 : BitVec 32) : Fin 2 → Nat :=
  let c1024_i32_1619 : BitVec 32 := 1024#32
  let v1778 : BitVec 32 := Scalar.muli v1777 c1024_i32_1619
  let c512_i32_1620 : BitVec 32 := 512#32
  let v1779 : BitVec 32 := Scalar.addi v1778 c512_i32_1620
  let c0_i32_1627 : BitVec 32 := 0#32
  ![v1779.toNat, 0]

def k0_chk133 (v1777 : BitVec 32) : Prop :=
  (∀ a, (k0_off264 v1777) a + S256x512.size a ≤ S32768x512.size a) ∧
  (∀ (hinb : ∀ a, (k0_off264 v1777) a + S256x512.size a ≤ S32768x512.size a), (Rect.unit (s := S32768x512) (k0_off264 v1777) S256x512.size hinb).WholeWords (EltTy.packing .bf16))
theorem k0_off264_inb : ∀ (v1777 : BitVec 32) (k0_hw133 : k0_chk133 v1777), ∀ a, (k0_off264 v1777) a + S256x512.size a ≤ S32768x512.size a := fun v1777 k0_hw133 => k0_hw133.1
theorem k0_off264_wordsbf16 : ∀ (v1777 : BitVec 32) (k0_hw133 : k0_chk133 v1777), (Rect.unit (s := S32768x512) (k0_off264 v1777) S256x512.size (k0_off264_inb v1777 k0_hw133)).WholeWords (EltTy.packing .bf16) := fun v1777 k0_hw133 => k0_hw133.2 (k0_off264_inb v1777 k0_hw133)

def k0_dev71 (v8 : BitVec 32) : Nat :=
  let c0_i32_1626 : BitVec 32 := 0#32
  let c1_i32_1625 : BitVec 32 := 1#32
  let v1780 : BitVec 32 := Scalar.muli v8 c1_i32_1625
  let v1781 : BitVec 32 := Scalar.addi c0_i32_1626 v1780
  v1781.toNat
def k0_off265 (v4 : BitVec 32) : Fin 1 → Nat :=
  let c7_i32_1629 : BitVec 32 := 7#32
  let v1788 : BitVec 32 := Scalar.addi v4 c7_i32_1629
  let c32_i32_1630 : BitVec 32 := 32#32
  let v1789 : BitVec 32 := Scalar.remsi v1788 c32_i32_1630
  let v1790 : Index := Scalar.indexCast v1789
  ![v1790.toNat]
def k0_off266 (v1791 : BitVec 32) : Fin 2 → Nat :=
  let c1024_i32_1631 : BitVec 32 := 1024#32
  let v1792 : BitVec 32 := Scalar.muli v1791 c1024_i32_1631
  let c512_i32_1632 : BitVec 32 := 512#32
  let v1793 : BitVec 32 := Scalar.addi v1792 c512_i32_1632
  let c0_i32_1639 : BitVec 32 := 0#32
  ![v1793.toNat, 0]

def k0_chk134 (v1791 : BitVec 32) : Prop :=
  (∀ a, (k0_off266 v1791) a + S256x512.size a ≤ S32768x512.size a) ∧
  (∀ (hinb : ∀ a, (k0_off266 v1791) a + S256x512.size a ≤ S32768x512.size a), (Rect.unit (s := S32768x512) (k0_off266 v1791) S256x512.size hinb).WholeWords (EltTy.packing .bf16))
theorem k0_off266_inb : ∀ (v1791 : BitVec 32) (k0_hw134 : k0_chk134 v1791), ∀ a, (k0_off266 v1791) a + S256x512.size a ≤ S32768x512.size a := fun v1791 k0_hw134 => k0_hw134.1
theorem k0_off266_wordsbf16 : ∀ (v1791 : BitVec 32) (k0_hw134 : k0_chk134 v1791), (Rect.unit (s := S32768x512) (k0_off266 v1791) S256x512.size (k0_off266_inb v1791 k0_hw134)).WholeWords (EltTy.packing .bf16) := fun v1791 k0_hw134 => k0_hw134.2 (k0_off266_inb v1791 k0_hw134)

def k0_off267 (v4 : BitVec 32) : Fin 1 → Nat :=
  let c8_i32_1641 : BitVec 32 := 8#32
  let v1800 : BitVec 32 := Scalar.addi v4 c8_i32_1641
  let c32_i32_1642 : BitVec 32 := 32#32
  let v1801 : BitVec 32 := Scalar.remsi v1800 c32_i32_1642
  let v1802 : Index := Scalar.indexCast v1801
  ![v1802.toNat]
def k0_off268 (v1803 : BitVec 32) : Fin 2 → Nat :=
  let c1024_i32_1643 : BitVec 32 := 1024#32
  let v1804 : BitVec 32 := Scalar.muli v1803 c1024_i32_1643
  let c512_i32_1644 : BitVec 32 := 512#32
  let v1805 : BitVec 32 := Scalar.addi v1804 c512_i32_1644
  let c0_i32_1651 : BitVec 32 := 0#32
  ![v1805.toNat, 0]

def k0_chk135 (v1803 : BitVec 32) : Prop :=
  (∀ a, (k0_off268 v1803) a + S256x512.size a ≤ S32768x512.size a) ∧
  (∀ (hinb : ∀ a, (k0_off268 v1803) a + S256x512.size a ≤ S32768x512.size a), (Rect.unit (s := S32768x512) (k0_off268 v1803) S256x512.size hinb).WholeWords (EltTy.packing .bf16))
theorem k0_off268_inb : ∀ (v1803 : BitVec 32) (k0_hw135 : k0_chk135 v1803), ∀ a, (k0_off268 v1803) a + S256x512.size a ≤ S32768x512.size a := fun v1803 k0_hw135 => k0_hw135.1
theorem k0_off268_wordsbf16 : ∀ (v1803 : BitVec 32) (k0_hw135 : k0_chk135 v1803), (Rect.unit (s := S32768x512) (k0_off268 v1803) S256x512.size (k0_off268_inb v1803 k0_hw135)).WholeWords (EltTy.packing .bf16) := fun v1803 k0_hw135 => k0_hw135.2 (k0_off268_inb v1803 k0_hw135)

def k0_dev72 (v13 : BitVec 32) : Nat :=
  let c0_i32_1650 : BitVec 32 := 0#32
  let c1_i32_1649 : BitVec 32 := 1#32
  let v1806 : BitVec 32 := Scalar.muli v13 c1_i32_1649
  let v1807 : BitVec 32 := Scalar.addi c0_i32_1650 v1806
  v1807.toNat
def k0_off269 (v4 : BitVec 32) : Fin 1 → Nat :=
  let c7_i32_1653 : BitVec 32 := 7#32
  let v1814 : BitVec 32 := Scalar.subi v4 c7_i32_1653
  let c32_i32_1654 : BitVec 32 := 32#32
  let v1815 : BitVec 32 := Scalar.addi v1814 c32_i32_1654
  let c32_i32_1655 : BitVec 32 := 32#32
  let v1816 : BitVec 32 := Scalar.remsi v1815 c32_i32_1655
  let v1817 : Index := Scalar.indexCast v1816
  ![v1817.toNat]
def k0_off270 (v1818 : BitVec 32) : Fin 2 → Nat :=
  let c1024_i32_1656 : BitVec 32 := 1024#32
  let v1819 : BitVec 32 := Scalar.muli v1818 c1024_i32_1656
  let c768_i32_1657 : BitVec 32 := 768#32
  let v1820 : BitVec 32 := Scalar.addi v1819 c768_i32_1657
  let c0_i32_1664 : BitVec 32 := 0#32
  ![v1820.toNat, 0]

def k0_chk136 (v1818 : BitVec 32) : Prop :=
  (∀ a, (k0_off270 v1818) a + S256x512.size a ≤ S32768x512.size a) ∧
  (∀ (hinb : ∀ a, (k0_off270 v1818) a + S256x512.size a ≤ S32768x512.size a), (Rect.unit (s := S32768x512) (k0_off270 v1818) S256x512.size hinb).WholeWords (EltTy.packing .bf16))
theorem k0_off270_inb : ∀ (v1818 : BitVec 32) (k0_hw136 : k0_chk136 v1818), ∀ a, (k0_off270 v1818) a + S256x512.size a ≤ S32768x512.size a := fun v1818 k0_hw136 => k0_hw136.1
theorem k0_off270_wordsbf16 : ∀ (v1818 : BitVec 32) (k0_hw136 : k0_chk136 v1818), (Rect.unit (s := S32768x512) (k0_off270 v1818) S256x512.size (k0_off270_inb v1818 k0_hw136)).WholeWords (EltTy.packing .bf16) := fun v1818 k0_hw136 => k0_hw136.2 (k0_off270_inb v1818 k0_hw136)

def k0_off271 (v4 : BitVec 32) : Fin 1 → Nat :=
  let c8_i32_1666 : BitVec 32 := 8#32
  let v1827 : BitVec 32 := Scalar.subi v4 c8_i32_1666
  let c32_i32_1667 : BitVec 32 := 32#32
  let v1828 : BitVec 32 := Scalar.addi v1827 c32_i32_1667
  let c32_i32_1668 : BitVec 32 := 32#32
  let v1829 : BitVec 32 := Scalar.remsi v1828 c32_i32_1668
  let v1830 : Index := Scalar.indexCast v1829
  ![v1830.toNat]
def k0_off272 (v1831 : BitVec 32) : Fin 2 → Nat :=
  let c1024_i32_1669 : BitVec 32 := 1024#32
  let v1832 : BitVec 32 := Scalar.muli v1831 c1024_i32_1669
  let c768_i32_1670 : BitVec 32 := 768#32
  let v1833 : BitVec 32 := Scalar.addi v1832 c768_i32_1670
  let c0_i32_1677 : BitVec 32 := 0#32
  ![v1833.toNat, 0]

def k0_chk137 (v1831 : BitVec 32) : Prop :=
  (∀ a, (k0_off272 v1831) a + S256x512.size a ≤ S32768x512.size a) ∧
  (∀ (hinb : ∀ a, (k0_off272 v1831) a + S256x512.size a ≤ S32768x512.size a), (Rect.unit (s := S32768x512) (k0_off272 v1831) S256x512.size hinb).WholeWords (EltTy.packing .bf16))
theorem k0_off272_inb : ∀ (v1831 : BitVec 32) (k0_hw137 : k0_chk137 v1831), ∀ a, (k0_off272 v1831) a + S256x512.size a ≤ S32768x512.size a := fun v1831 k0_hw137 => k0_hw137.1
theorem k0_off272_wordsbf16 : ∀ (v1831 : BitVec 32) (k0_hw137 : k0_chk137 v1831), (Rect.unit (s := S32768x512) (k0_off272 v1831) S256x512.size (k0_off272_inb v1831 k0_hw137)).WholeWords (EltTy.packing .bf16) := fun v1831 k0_hw137 => k0_hw137.2 (k0_off272_inb v1831 k0_hw137)

def k0_dev73 (v8 : BitVec 32) : Nat :=
  let c0_i32_1676 : BitVec 32 := 0#32
  let c1_i32_1675 : BitVec 32 := 1#32
  let v1834 : BitVec 32 := Scalar.muli v8 c1_i32_1675
  let v1835 : BitVec 32 := Scalar.addi c0_i32_1676 v1834
  v1835.toNat
def k0_off273 (v4 : BitVec 32) : Fin 1 → Nat :=
  let c7_i32_1679 : BitVec 32 := 7#32
  let v1842 : BitVec 32 := Scalar.addi v4 c7_i32_1679
  let c32_i32_1680 : BitVec 32 := 32#32
  let v1843 : BitVec 32 := Scalar.remsi v1842 c32_i32_1680
  let v1844 : Index := Scalar.indexCast v1843
  ![v1844.toNat]
def k0_off274 (v1845 : BitVec 32) : Fin 2 → Nat :=
  let c1024_i32_1681 : BitVec 32 := 1024#32
  let v1846 : BitVec 32 := Scalar.muli v1845 c1024_i32_1681
  let c768_i32_1682 : BitVec 32 := 768#32
  let v1847 : BitVec 32 := Scalar.addi v1846 c768_i32_1682
  let c0_i32_1689 : BitVec 32 := 0#32
  ![v1847.toNat, 0]

def k0_chk138 (v1845 : BitVec 32) : Prop :=
  (∀ a, (k0_off274 v1845) a + S256x512.size a ≤ S32768x512.size a) ∧
  (∀ (hinb : ∀ a, (k0_off274 v1845) a + S256x512.size a ≤ S32768x512.size a), (Rect.unit (s := S32768x512) (k0_off274 v1845) S256x512.size hinb).WholeWords (EltTy.packing .bf16))
theorem k0_off274_inb : ∀ (v1845 : BitVec 32) (k0_hw138 : k0_chk138 v1845), ∀ a, (k0_off274 v1845) a + S256x512.size a ≤ S32768x512.size a := fun v1845 k0_hw138 => k0_hw138.1
theorem k0_off274_wordsbf16 : ∀ (v1845 : BitVec 32) (k0_hw138 : k0_chk138 v1845), (Rect.unit (s := S32768x512) (k0_off274 v1845) S256x512.size (k0_off274_inb v1845 k0_hw138)).WholeWords (EltTy.packing .bf16) := fun v1845 k0_hw138 => k0_hw138.2 (k0_off274_inb v1845 k0_hw138)

def k0_off275 (v4 : BitVec 32) : Fin 1 → Nat :=
  let c8_i32_1691 : BitVec 32 := 8#32
  let v1854 : BitVec 32 := Scalar.addi v4 c8_i32_1691
  let c32_i32_1692 : BitVec 32 := 32#32
  let v1855 : BitVec 32 := Scalar.remsi v1854 c32_i32_1692
  let v1856 : Index := Scalar.indexCast v1855
  ![v1856.toNat]
def k0_off276 (v1857 : BitVec 32) : Fin 2 → Nat :=
  let c1024_i32_1693 : BitVec 32 := 1024#32
  let v1858 : BitVec 32 := Scalar.muli v1857 c1024_i32_1693
  let c768_i32_1694 : BitVec 32 := 768#32
  let v1859 : BitVec 32 := Scalar.addi v1858 c768_i32_1694
  let c0_i32_1701 : BitVec 32 := 0#32
  ![v1859.toNat, 0]

def k0_chk139 (v1857 : BitVec 32) : Prop :=
  (∀ a, (k0_off276 v1857) a + S256x512.size a ≤ S32768x512.size a) ∧
  (∀ (hinb : ∀ a, (k0_off276 v1857) a + S256x512.size a ≤ S32768x512.size a), (Rect.unit (s := S32768x512) (k0_off276 v1857) S256x512.size hinb).WholeWords (EltTy.packing .bf16))
theorem k0_off276_inb : ∀ (v1857 : BitVec 32) (k0_hw139 : k0_chk139 v1857), ∀ a, (k0_off276 v1857) a + S256x512.size a ≤ S32768x512.size a := fun v1857 k0_hw139 => k0_hw139.1
theorem k0_off276_wordsbf16 : ∀ (v1857 : BitVec 32) (k0_hw139 : k0_chk139 v1857), (Rect.unit (s := S32768x512) (k0_off276 v1857) S256x512.size (k0_off276_inb v1857 k0_hw139)).WholeWords (EltTy.packing .bf16) := fun v1857 k0_hw139 => k0_hw139.2 (k0_off276_inb v1857 k0_hw139)

def k0_dev74 (v13 : BitVec 32) : Nat :=
  let c0_i32_1700 : BitVec 32 := 0#32
  let c1_i32_1699 : BitVec 32 := 1#32
  let v1860 : BitVec 32 := Scalar.muli v13 c1_i32_1699
  let v1861 : BitVec 32 := Scalar.addi c0_i32_1700 v1860
  v1861.toNat
def k0_off277 (v4 : BitVec 32) : Fin 1 → Nat :=
  let c8_i32_1703 : BitVec 32 := 8#32
  let v1868 : BitVec 32 := Scalar.subi v4 c8_i32_1703
  let c32_i32_1704 : BitVec 32 := 32#32
  let v1869 : BitVec 32 := Scalar.addi v1868 c32_i32_1704
  let c32_i32_1705 : BitVec 32 := 32#32
  let v1870 : BitVec 32 := Scalar.remsi v1869 c32_i32_1705
  let v1871 : Index := Scalar.indexCast v1870
  ![v1871.toNat]
def k0_off278 (v1872 : BitVec 32) : Fin 2 → Nat :=
  let c1024_i32_1706 : BitVec 32 := 1024#32
  let v1873 : BitVec 32 := Scalar.muli v1872 c1024_i32_1706
  let c0_i32_1707 : BitVec 32 := 0#32
  let v1874 : BitVec 32 := Scalar.addi v1873 c0_i32_1707
  let c0_i32_1714 : BitVec 32 := 0#32
  ![v1874.toNat, 0]

def k0_chk140 (v1872 : BitVec 32) : Prop :=
  (∀ a, (k0_off278 v1872) a + S256x512.size a ≤ S32768x512.size a) ∧
  (∀ (hinb : ∀ a, (k0_off278 v1872) a + S256x512.size a ≤ S32768x512.size a), (Rect.unit (s := S32768x512) (k0_off278 v1872) S256x512.size hinb).WholeWords (EltTy.packing .bf16))
theorem k0_off278_inb : ∀ (v1872 : BitVec 32) (k0_hw140 : k0_chk140 v1872), ∀ a, (k0_off278 v1872) a + S256x512.size a ≤ S32768x512.size a := fun v1872 k0_hw140 => k0_hw140.1
theorem k0_off278_wordsbf16 : ∀ (v1872 : BitVec 32) (k0_hw140 : k0_chk140 v1872), (Rect.unit (s := S32768x512) (k0_off278 v1872) S256x512.size (k0_off278_inb v1872 k0_hw140)).WholeWords (EltTy.packing .bf16) := fun v1872 k0_hw140 => k0_hw140.2 (k0_off278_inb v1872 k0_hw140)

def k0_off279 (v4 : BitVec 32) : Fin 1 → Nat :=
  let c9_i32 : BitVec 32 := 9#32
  let v1881 : BitVec 32 := Scalar.subi v4 c9_i32
  let c32_i32_1716 : BitVec 32 := 32#32
  let v1882 : BitVec 32 := Scalar.addi v1881 c32_i32_1716
  let c32_i32_1717 : BitVec 32 := 32#32
  let v1883 : BitVec 32 := Scalar.remsi v1882 c32_i32_1717
  let v1884 : Index := Scalar.indexCast v1883
  ![v1884.toNat]
def k0_off280 (v1885 : BitVec 32) : Fin 2 → Nat :=
  let c1024_i32_1718 : BitVec 32 := 1024#32
  let v1886 : BitVec 32 := Scalar.muli v1885 c1024_i32_1718
  let c0_i32_1719 : BitVec 32 := 0#32
  let v1887 : BitVec 32 := Scalar.addi v1886 c0_i32_1719
  let c0_i32_1726 : BitVec 32 := 0#32
  ![v1887.toNat, 0]

def k0_chk141 (v1885 : BitVec 32) : Prop :=
  (∀ a, (k0_off280 v1885) a + S256x512.size a ≤ S32768x512.size a) ∧
  (∀ (hinb : ∀ a, (k0_off280 v1885) a + S256x512.size a ≤ S32768x512.size a), (Rect.unit (s := S32768x512) (k0_off280 v1885) S256x512.size hinb).WholeWords (EltTy.packing .bf16))
theorem k0_off280_inb : ∀ (v1885 : BitVec 32) (k0_hw141 : k0_chk141 v1885), ∀ a, (k0_off280 v1885) a + S256x512.size a ≤ S32768x512.size a := fun v1885 k0_hw141 => k0_hw141.1
theorem k0_off280_wordsbf16 : ∀ (v1885 : BitVec 32) (k0_hw141 : k0_chk141 v1885), (Rect.unit (s := S32768x512) (k0_off280 v1885) S256x512.size (k0_off280_inb v1885 k0_hw141)).WholeWords (EltTy.packing .bf16) := fun v1885 k0_hw141 => k0_hw141.2 (k0_off280_inb v1885 k0_hw141)

def k0_dev75 (v8 : BitVec 32) : Nat :=
  let c0_i32_1725 : BitVec 32 := 0#32
  let c1_i32_1724 : BitVec 32 := 1#32
  let v1888 : BitVec 32 := Scalar.muli v8 c1_i32_1724
  let v1889 : BitVec 32 := Scalar.addi c0_i32_1725 v1888
  v1889.toNat
def k0_off281 (v4 : BitVec 32) : Fin 1 → Nat :=
  let c8_i32_1728 : BitVec 32 := 8#32
  let v1896 : BitVec 32 := Scalar.addi v4 c8_i32_1728
  let c32_i32_1729 : BitVec 32 := 32#32
  let v1897 : BitVec 32 := Scalar.remsi v1896 c32_i32_1729
  let v1898 : Index := Scalar.indexCast v1897
  ![v1898.toNat]
def k0_off282 (v1899 : BitVec 32) : Fin 2 → Nat :=
  let c1024_i32_1730 : BitVec 32 := 1024#32
  let v1900 : BitVec 32 := Scalar.muli v1899 c1024_i32_1730
  let c0_i32_1731 : BitVec 32 := 0#32
  let v1901 : BitVec 32 := Scalar.addi v1900 c0_i32_1731
  let c0_i32_1738 : BitVec 32 := 0#32
  ![v1901.toNat, 0]

def k0_chk142 (v1899 : BitVec 32) : Prop :=
  (∀ a, (k0_off282 v1899) a + S256x512.size a ≤ S32768x512.size a) ∧
  (∀ (hinb : ∀ a, (k0_off282 v1899) a + S256x512.size a ≤ S32768x512.size a), (Rect.unit (s := S32768x512) (k0_off282 v1899) S256x512.size hinb).WholeWords (EltTy.packing .bf16))
theorem k0_off282_inb : ∀ (v1899 : BitVec 32) (k0_hw142 : k0_chk142 v1899), ∀ a, (k0_off282 v1899) a + S256x512.size a ≤ S32768x512.size a := fun v1899 k0_hw142 => k0_hw142.1
theorem k0_off282_wordsbf16 : ∀ (v1899 : BitVec 32) (k0_hw142 : k0_chk142 v1899), (Rect.unit (s := S32768x512) (k0_off282 v1899) S256x512.size (k0_off282_inb v1899 k0_hw142)).WholeWords (EltTy.packing .bf16) := fun v1899 k0_hw142 => k0_hw142.2 (k0_off282_inb v1899 k0_hw142)

def k0_off283 (v4 : BitVec 32) : Fin 1 → Nat :=
  let c9_i32_1740 : BitVec 32 := 9#32
  let v1908 : BitVec 32 := Scalar.addi v4 c9_i32_1740
  let c32_i32_1741 : BitVec 32 := 32#32
  let v1909 : BitVec 32 := Scalar.remsi v1908 c32_i32_1741
  let v1910 : Index := Scalar.indexCast v1909
  ![v1910.toNat]
def k0_off284 (v1911 : BitVec 32) : Fin 2 → Nat :=
  let c1024_i32_1742 : BitVec 32 := 1024#32
  let v1912 : BitVec 32 := Scalar.muli v1911 c1024_i32_1742
  let c0_i32_1743 : BitVec 32 := 0#32
  let v1913 : BitVec 32 := Scalar.addi v1912 c0_i32_1743
  let c0_i32_1750 : BitVec 32 := 0#32
  ![v1913.toNat, 0]

def k0_chk143 (v1911 : BitVec 32) : Prop :=
  (∀ a, (k0_off284 v1911) a + S256x512.size a ≤ S32768x512.size a) ∧
  (∀ (hinb : ∀ a, (k0_off284 v1911) a + S256x512.size a ≤ S32768x512.size a), (Rect.unit (s := S32768x512) (k0_off284 v1911) S256x512.size hinb).WholeWords (EltTy.packing .bf16))
theorem k0_off284_inb : ∀ (v1911 : BitVec 32) (k0_hw143 : k0_chk143 v1911), ∀ a, (k0_off284 v1911) a + S256x512.size a ≤ S32768x512.size a := fun v1911 k0_hw143 => k0_hw143.1
theorem k0_off284_wordsbf16 : ∀ (v1911 : BitVec 32) (k0_hw143 : k0_chk143 v1911), (Rect.unit (s := S32768x512) (k0_off284 v1911) S256x512.size (k0_off284_inb v1911 k0_hw143)).WholeWords (EltTy.packing .bf16) := fun v1911 k0_hw143 => k0_hw143.2 (k0_off284_inb v1911 k0_hw143)

def k0_dev76 (v13 : BitVec 32) : Nat :=
  let c0_i32_1749 : BitVec 32 := 0#32
  let c1_i32_1748 : BitVec 32 := 1#32
  let v1914 : BitVec 32 := Scalar.muli v13 c1_i32_1748
  let v1915 : BitVec 32 := Scalar.addi c0_i32_1749 v1914
  v1915.toNat
def k0_off285 (v4 : BitVec 32) : Fin 1 → Nat :=
  let c8_i32_1752 : BitVec 32 := 8#32
  let v1922 : BitVec 32 := Scalar.subi v4 c8_i32_1752
  let c32_i32_1753 : BitVec 32 := 32#32
  let v1923 : BitVec 32 := Scalar.addi v1922 c32_i32_1753
  let c32_i32_1754 : BitVec 32 := 32#32
  let v1924 : BitVec 32 := Scalar.remsi v1923 c32_i32_1754
  let v1925 : Index := Scalar.indexCast v1924
  ![v1925.toNat]
def k0_off286 (v1926 : BitVec 32) : Fin 2 → Nat :=
  let c1024_i32_1755 : BitVec 32 := 1024#32
  let v1927 : BitVec 32 := Scalar.muli v1926 c1024_i32_1755
  let c256_i32_1756 : BitVec 32 := 256#32
  let v1928 : BitVec 32 := Scalar.addi v1927 c256_i32_1756
  let c0_i32_1763 : BitVec 32 := 0#32
  ![v1928.toNat, 0]

def k0_chk144 (v1926 : BitVec 32) : Prop :=
  (∀ a, (k0_off286 v1926) a + S256x512.size a ≤ S32768x512.size a) ∧
  (∀ (hinb : ∀ a, (k0_off286 v1926) a + S256x512.size a ≤ S32768x512.size a), (Rect.unit (s := S32768x512) (k0_off286 v1926) S256x512.size hinb).WholeWords (EltTy.packing .bf16))
theorem k0_off286_inb : ∀ (v1926 : BitVec 32) (k0_hw144 : k0_chk144 v1926), ∀ a, (k0_off286 v1926) a + S256x512.size a ≤ S32768x512.size a := fun v1926 k0_hw144 => k0_hw144.1
theorem k0_off286_wordsbf16 : ∀ (v1926 : BitVec 32) (k0_hw144 : k0_chk144 v1926), (Rect.unit (s := S32768x512) (k0_off286 v1926) S256x512.size (k0_off286_inb v1926 k0_hw144)).WholeWords (EltTy.packing .bf16) := fun v1926 k0_hw144 => k0_hw144.2 (k0_off286_inb v1926 k0_hw144)

def k0_off287 (v4 : BitVec 32) : Fin 1 → Nat :=
  let c9_i32_1765 : BitVec 32 := 9#32
  let v1935 : BitVec 32 := Scalar.subi v4 c9_i32_1765
  let c32_i32_1766 : BitVec 32 := 32#32
  let v1936 : BitVec 32 := Scalar.addi v1935 c32_i32_1766
  let c32_i32_1767 : BitVec 32 := 32#32
  let v1937 : BitVec 32 := Scalar.remsi v1936 c32_i32_1767
  let v1938 : Index := Scalar.indexCast v1937
  ![v1938.toNat]
def k0_off288 (v1939 : BitVec 32) : Fin 2 → Nat :=
  let c1024_i32_1768 : BitVec 32 := 1024#32
  let v1940 : BitVec 32 := Scalar.muli v1939 c1024_i32_1768
  let c256_i32_1769 : BitVec 32 := 256#32
  let v1941 : BitVec 32 := Scalar.addi v1940 c256_i32_1769
  let c0_i32_1776 : BitVec 32 := 0#32
  ![v1941.toNat, 0]

def k0_chk145 (v1939 : BitVec 32) : Prop :=
  (∀ a, (k0_off288 v1939) a + S256x512.size a ≤ S32768x512.size a) ∧
  (∀ (hinb : ∀ a, (k0_off288 v1939) a + S256x512.size a ≤ S32768x512.size a), (Rect.unit (s := S32768x512) (k0_off288 v1939) S256x512.size hinb).WholeWords (EltTy.packing .bf16))
theorem k0_off288_inb : ∀ (v1939 : BitVec 32) (k0_hw145 : k0_chk145 v1939), ∀ a, (k0_off288 v1939) a + S256x512.size a ≤ S32768x512.size a := fun v1939 k0_hw145 => k0_hw145.1
theorem k0_off288_wordsbf16 : ∀ (v1939 : BitVec 32) (k0_hw145 : k0_chk145 v1939), (Rect.unit (s := S32768x512) (k0_off288 v1939) S256x512.size (k0_off288_inb v1939 k0_hw145)).WholeWords (EltTy.packing .bf16) := fun v1939 k0_hw145 => k0_hw145.2 (k0_off288_inb v1939 k0_hw145)

def k0_dev77 (v8 : BitVec 32) : Nat :=
  let c0_i32_1775 : BitVec 32 := 0#32
  let c1_i32_1774 : BitVec 32 := 1#32
  let v1942 : BitVec 32 := Scalar.muli v8 c1_i32_1774
  let v1943 : BitVec 32 := Scalar.addi c0_i32_1775 v1942
  v1943.toNat
def k0_off289 (v4 : BitVec 32) : Fin 1 → Nat :=
  let c8_i32_1778 : BitVec 32 := 8#32
  let v1950 : BitVec 32 := Scalar.addi v4 c8_i32_1778
  let c32_i32_1779 : BitVec 32 := 32#32
  let v1951 : BitVec 32 := Scalar.remsi v1950 c32_i32_1779
  let v1952 : Index := Scalar.indexCast v1951
  ![v1952.toNat]
def k0_off290 (v1953 : BitVec 32) : Fin 2 → Nat :=
  let c1024_i32_1780 : BitVec 32 := 1024#32
  let v1954 : BitVec 32 := Scalar.muli v1953 c1024_i32_1780
  let c256_i32_1781 : BitVec 32 := 256#32
  let v1955 : BitVec 32 := Scalar.addi v1954 c256_i32_1781
  let c0_i32_1788 : BitVec 32 := 0#32
  ![v1955.toNat, 0]

def k0_chk146 (v1953 : BitVec 32) : Prop :=
  (∀ a, (k0_off290 v1953) a + S256x512.size a ≤ S32768x512.size a) ∧
  (∀ (hinb : ∀ a, (k0_off290 v1953) a + S256x512.size a ≤ S32768x512.size a), (Rect.unit (s := S32768x512) (k0_off290 v1953) S256x512.size hinb).WholeWords (EltTy.packing .bf16))
theorem k0_off290_inb : ∀ (v1953 : BitVec 32) (k0_hw146 : k0_chk146 v1953), ∀ a, (k0_off290 v1953) a + S256x512.size a ≤ S32768x512.size a := fun v1953 k0_hw146 => k0_hw146.1
theorem k0_off290_wordsbf16 : ∀ (v1953 : BitVec 32) (k0_hw146 : k0_chk146 v1953), (Rect.unit (s := S32768x512) (k0_off290 v1953) S256x512.size (k0_off290_inb v1953 k0_hw146)).WholeWords (EltTy.packing .bf16) := fun v1953 k0_hw146 => k0_hw146.2 (k0_off290_inb v1953 k0_hw146)

def k0_off291 (v4 : BitVec 32) : Fin 1 → Nat :=
  let c9_i32_1790 : BitVec 32 := 9#32
  let v1962 : BitVec 32 := Scalar.addi v4 c9_i32_1790
  let c32_i32_1791 : BitVec 32 := 32#32
  let v1963 : BitVec 32 := Scalar.remsi v1962 c32_i32_1791
  let v1964 : Index := Scalar.indexCast v1963
  ![v1964.toNat]
def k0_off292 (v1965 : BitVec 32) : Fin 2 → Nat :=
  let c1024_i32_1792 : BitVec 32 := 1024#32
  let v1966 : BitVec 32 := Scalar.muli v1965 c1024_i32_1792
  let c256_i32_1793 : BitVec 32 := 256#32
  let v1967 : BitVec 32 := Scalar.addi v1966 c256_i32_1793
  let c0_i32_1800 : BitVec 32 := 0#32
  ![v1967.toNat, 0]

def k0_chk147 (v1965 : BitVec 32) : Prop :=
  (∀ a, (k0_off292 v1965) a + S256x512.size a ≤ S32768x512.size a) ∧
  (∀ (hinb : ∀ a, (k0_off292 v1965) a + S256x512.size a ≤ S32768x512.size a), (Rect.unit (s := S32768x512) (k0_off292 v1965) S256x512.size hinb).WholeWords (EltTy.packing .bf16))
theorem k0_off292_inb : ∀ (v1965 : BitVec 32) (k0_hw147 : k0_chk147 v1965), ∀ a, (k0_off292 v1965) a + S256x512.size a ≤ S32768x512.size a := fun v1965 k0_hw147 => k0_hw147.1
theorem k0_off292_wordsbf16 : ∀ (v1965 : BitVec 32) (k0_hw147 : k0_chk147 v1965), (Rect.unit (s := S32768x512) (k0_off292 v1965) S256x512.size (k0_off292_inb v1965 k0_hw147)).WholeWords (EltTy.packing .bf16) := fun v1965 k0_hw147 => k0_hw147.2 (k0_off292_inb v1965 k0_hw147)

def k0_dev78 (v13 : BitVec 32) : Nat :=
  let c0_i32_1799 : BitVec 32 := 0#32
  let c1_i32_1798 : BitVec 32 := 1#32
  let v1968 : BitVec 32 := Scalar.muli v13 c1_i32_1798
  let v1969 : BitVec 32 := Scalar.addi c0_i32_1799 v1968
  v1969.toNat
def k0_off293 (v4 : BitVec 32) : Fin 1 → Nat :=
  let c8_i32_1802 : BitVec 32 := 8#32
  let v1976 : BitVec 32 := Scalar.subi v4 c8_i32_1802
  let c32_i32_1803 : BitVec 32 := 32#32
  let v1977 : BitVec 32 := Scalar.addi v1976 c32_i32_1803
  let c32_i32_1804 : BitVec 32 := 32#32
  let v1978 : BitVec 32 := Scalar.remsi v1977 c32_i32_1804
  let v1979 : Index := Scalar.indexCast v1978
  ![v1979.toNat]
def k0_off294 (v1980 : BitVec 32) : Fin 2 → Nat :=
  let c1024_i32_1805 : BitVec 32 := 1024#32
  let v1981 : BitVec 32 := Scalar.muli v1980 c1024_i32_1805
  let c512_i32_1806 : BitVec 32 := 512#32
  let v1982 : BitVec 32 := Scalar.addi v1981 c512_i32_1806
  let c0_i32_1813 : BitVec 32 := 0#32
  ![v1982.toNat, 0]

def k0_chk148 (v1980 : BitVec 32) : Prop :=
  (∀ a, (k0_off294 v1980) a + S256x512.size a ≤ S32768x512.size a) ∧
  (∀ (hinb : ∀ a, (k0_off294 v1980) a + S256x512.size a ≤ S32768x512.size a), (Rect.unit (s := S32768x512) (k0_off294 v1980) S256x512.size hinb).WholeWords (EltTy.packing .bf16))
theorem k0_off294_inb : ∀ (v1980 : BitVec 32) (k0_hw148 : k0_chk148 v1980), ∀ a, (k0_off294 v1980) a + S256x512.size a ≤ S32768x512.size a := fun v1980 k0_hw148 => k0_hw148.1
theorem k0_off294_wordsbf16 : ∀ (v1980 : BitVec 32) (k0_hw148 : k0_chk148 v1980), (Rect.unit (s := S32768x512) (k0_off294 v1980) S256x512.size (k0_off294_inb v1980 k0_hw148)).WholeWords (EltTy.packing .bf16) := fun v1980 k0_hw148 => k0_hw148.2 (k0_off294_inb v1980 k0_hw148)

def k0_off295 (v4 : BitVec 32) : Fin 1 → Nat :=
  let c9_i32_1815 : BitVec 32 := 9#32
  let v1989 : BitVec 32 := Scalar.subi v4 c9_i32_1815
  let c32_i32_1816 : BitVec 32 := 32#32
  let v1990 : BitVec 32 := Scalar.addi v1989 c32_i32_1816
  let c32_i32_1817 : BitVec 32 := 32#32
  let v1991 : BitVec 32 := Scalar.remsi v1990 c32_i32_1817
  let v1992 : Index := Scalar.indexCast v1991
  ![v1992.toNat]
def k0_off296 (v1993 : BitVec 32) : Fin 2 → Nat :=
  let c1024_i32_1818 : BitVec 32 := 1024#32
  let v1994 : BitVec 32 := Scalar.muli v1993 c1024_i32_1818
  let c512_i32_1819 : BitVec 32 := 512#32
  let v1995 : BitVec 32 := Scalar.addi v1994 c512_i32_1819
  let c0_i32_1826 : BitVec 32 := 0#32
  ![v1995.toNat, 0]

def k0_chk149 (v1993 : BitVec 32) : Prop :=
  (∀ a, (k0_off296 v1993) a + S256x512.size a ≤ S32768x512.size a) ∧
  (∀ (hinb : ∀ a, (k0_off296 v1993) a + S256x512.size a ≤ S32768x512.size a), (Rect.unit (s := S32768x512) (k0_off296 v1993) S256x512.size hinb).WholeWords (EltTy.packing .bf16))
theorem k0_off296_inb : ∀ (v1993 : BitVec 32) (k0_hw149 : k0_chk149 v1993), ∀ a, (k0_off296 v1993) a + S256x512.size a ≤ S32768x512.size a := fun v1993 k0_hw149 => k0_hw149.1
theorem k0_off296_wordsbf16 : ∀ (v1993 : BitVec 32) (k0_hw149 : k0_chk149 v1993), (Rect.unit (s := S32768x512) (k0_off296 v1993) S256x512.size (k0_off296_inb v1993 k0_hw149)).WholeWords (EltTy.packing .bf16) := fun v1993 k0_hw149 => k0_hw149.2 (k0_off296_inb v1993 k0_hw149)

def k0_dev79 (v8 : BitVec 32) : Nat :=
  let c0_i32_1825 : BitVec 32 := 0#32
  let c1_i32_1824 : BitVec 32 := 1#32
  let v1996 : BitVec 32 := Scalar.muli v8 c1_i32_1824
  let v1997 : BitVec 32 := Scalar.addi c0_i32_1825 v1996
  v1997.toNat
def k0_off297 (v4 : BitVec 32) : Fin 1 → Nat :=
  let c8_i32_1828 : BitVec 32 := 8#32
  let v2004 : BitVec 32 := Scalar.addi v4 c8_i32_1828
  let c32_i32_1829 : BitVec 32 := 32#32
  let v2005 : BitVec 32 := Scalar.remsi v2004 c32_i32_1829
  let v2006 : Index := Scalar.indexCast v2005
  ![v2006.toNat]
def k0_off298 (v2007 : BitVec 32) : Fin 2 → Nat :=
  let c1024_i32_1830 : BitVec 32 := 1024#32
  let v2008 : BitVec 32 := Scalar.muli v2007 c1024_i32_1830
  let c512_i32_1831 : BitVec 32 := 512#32
  let v2009 : BitVec 32 := Scalar.addi v2008 c512_i32_1831
  let c0_i32_1838 : BitVec 32 := 0#32
  ![v2009.toNat, 0]

def k0_chk150 (v2007 : BitVec 32) : Prop :=
  (∀ a, (k0_off298 v2007) a + S256x512.size a ≤ S32768x512.size a) ∧
  (∀ (hinb : ∀ a, (k0_off298 v2007) a + S256x512.size a ≤ S32768x512.size a), (Rect.unit (s := S32768x512) (k0_off298 v2007) S256x512.size hinb).WholeWords (EltTy.packing .bf16))
theorem k0_off298_inb : ∀ (v2007 : BitVec 32) (k0_hw150 : k0_chk150 v2007), ∀ a, (k0_off298 v2007) a + S256x512.size a ≤ S32768x512.size a := fun v2007 k0_hw150 => k0_hw150.1
theorem k0_off298_wordsbf16 : ∀ (v2007 : BitVec 32) (k0_hw150 : k0_chk150 v2007), (Rect.unit (s := S32768x512) (k0_off298 v2007) S256x512.size (k0_off298_inb v2007 k0_hw150)).WholeWords (EltTy.packing .bf16) := fun v2007 k0_hw150 => k0_hw150.2 (k0_off298_inb v2007 k0_hw150)

def k0_off299 (v4 : BitVec 32) : Fin 1 → Nat :=
  let c9_i32_1840 : BitVec 32 := 9#32
  let v2016 : BitVec 32 := Scalar.addi v4 c9_i32_1840
  let c32_i32_1841 : BitVec 32 := 32#32
  let v2017 : BitVec 32 := Scalar.remsi v2016 c32_i32_1841
  let v2018 : Index := Scalar.indexCast v2017
  ![v2018.toNat]
def k0_off300 (v2019 : BitVec 32) : Fin 2 → Nat :=
  let c1024_i32_1842 : BitVec 32 := 1024#32
  let v2020 : BitVec 32 := Scalar.muli v2019 c1024_i32_1842
  let c512_i32_1843 : BitVec 32 := 512#32
  let v2021 : BitVec 32 := Scalar.addi v2020 c512_i32_1843
  let c0_i32_1850 : BitVec 32 := 0#32
  ![v2021.toNat, 0]

def k0_chk151 (v2019 : BitVec 32) : Prop :=
  (∀ a, (k0_off300 v2019) a + S256x512.size a ≤ S32768x512.size a) ∧
  (∀ (hinb : ∀ a, (k0_off300 v2019) a + S256x512.size a ≤ S32768x512.size a), (Rect.unit (s := S32768x512) (k0_off300 v2019) S256x512.size hinb).WholeWords (EltTy.packing .bf16))
theorem k0_off300_inb : ∀ (v2019 : BitVec 32) (k0_hw151 : k0_chk151 v2019), ∀ a, (k0_off300 v2019) a + S256x512.size a ≤ S32768x512.size a := fun v2019 k0_hw151 => k0_hw151.1
theorem k0_off300_wordsbf16 : ∀ (v2019 : BitVec 32) (k0_hw151 : k0_chk151 v2019), (Rect.unit (s := S32768x512) (k0_off300 v2019) S256x512.size (k0_off300_inb v2019 k0_hw151)).WholeWords (EltTy.packing .bf16) := fun v2019 k0_hw151 => k0_hw151.2 (k0_off300_inb v2019 k0_hw151)

def k0_dev80 (v13 : BitVec 32) : Nat :=
  let c0_i32_1849 : BitVec 32 := 0#32
  let c1_i32_1848 : BitVec 32 := 1#32
  let v2022 : BitVec 32 := Scalar.muli v13 c1_i32_1848
  let v2023 : BitVec 32 := Scalar.addi c0_i32_1849 v2022
  v2023.toNat
def k0_off301 (v4 : BitVec 32) : Fin 1 → Nat :=
  let c8_i32_1852 : BitVec 32 := 8#32
  let v2030 : BitVec 32 := Scalar.subi v4 c8_i32_1852
  let c32_i32_1853 : BitVec 32 := 32#32
  let v2031 : BitVec 32 := Scalar.addi v2030 c32_i32_1853
  let c32_i32_1854 : BitVec 32 := 32#32
  let v2032 : BitVec 32 := Scalar.remsi v2031 c32_i32_1854
  let v2033 : Index := Scalar.indexCast v2032
  ![v2033.toNat]
def k0_off302 (v2034 : BitVec 32) : Fin 2 → Nat :=
  let c1024_i32_1855 : BitVec 32 := 1024#32
  let v2035 : BitVec 32 := Scalar.muli v2034 c1024_i32_1855
  let c768_i32_1856 : BitVec 32 := 768#32
  let v2036 : BitVec 32 := Scalar.addi v2035 c768_i32_1856
  let c0_i32_1863 : BitVec 32 := 0#32
  ![v2036.toNat, 0]

def k0_chk152 (v2034 : BitVec 32) : Prop :=
  (∀ a, (k0_off302 v2034) a + S256x512.size a ≤ S32768x512.size a) ∧
  (∀ (hinb : ∀ a, (k0_off302 v2034) a + S256x512.size a ≤ S32768x512.size a), (Rect.unit (s := S32768x512) (k0_off302 v2034) S256x512.size hinb).WholeWords (EltTy.packing .bf16))
theorem k0_off302_inb : ∀ (v2034 : BitVec 32) (k0_hw152 : k0_chk152 v2034), ∀ a, (k0_off302 v2034) a + S256x512.size a ≤ S32768x512.size a := fun v2034 k0_hw152 => k0_hw152.1
theorem k0_off302_wordsbf16 : ∀ (v2034 : BitVec 32) (k0_hw152 : k0_chk152 v2034), (Rect.unit (s := S32768x512) (k0_off302 v2034) S256x512.size (k0_off302_inb v2034 k0_hw152)).WholeWords (EltTy.packing .bf16) := fun v2034 k0_hw152 => k0_hw152.2 (k0_off302_inb v2034 k0_hw152)

def k0_off303 (v4 : BitVec 32) : Fin 1 → Nat :=
  let c9_i32_1865 : BitVec 32 := 9#32
  let v2043 : BitVec 32 := Scalar.subi v4 c9_i32_1865
  let c32_i32_1866 : BitVec 32 := 32#32
  let v2044 : BitVec 32 := Scalar.addi v2043 c32_i32_1866
  let c32_i32_1867 : BitVec 32 := 32#32
  let v2045 : BitVec 32 := Scalar.remsi v2044 c32_i32_1867
  let v2046 : Index := Scalar.indexCast v2045
  ![v2046.toNat]
def k0_off304 (v2047 : BitVec 32) : Fin 2 → Nat :=
  let c1024_i32_1868 : BitVec 32 := 1024#32
  let v2048 : BitVec 32 := Scalar.muli v2047 c1024_i32_1868
  let c768_i32_1869 : BitVec 32 := 768#32
  let v2049 : BitVec 32 := Scalar.addi v2048 c768_i32_1869
  let c0_i32_1876 : BitVec 32 := 0#32
  ![v2049.toNat, 0]

def k0_chk153 (v2047 : BitVec 32) : Prop :=
  (∀ a, (k0_off304 v2047) a + S256x512.size a ≤ S32768x512.size a) ∧
  (∀ (hinb : ∀ a, (k0_off304 v2047) a + S256x512.size a ≤ S32768x512.size a), (Rect.unit (s := S32768x512) (k0_off304 v2047) S256x512.size hinb).WholeWords (EltTy.packing .bf16))
theorem k0_off304_inb : ∀ (v2047 : BitVec 32) (k0_hw153 : k0_chk153 v2047), ∀ a, (k0_off304 v2047) a + S256x512.size a ≤ S32768x512.size a := fun v2047 k0_hw153 => k0_hw153.1
theorem k0_off304_wordsbf16 : ∀ (v2047 : BitVec 32) (k0_hw153 : k0_chk153 v2047), (Rect.unit (s := S32768x512) (k0_off304 v2047) S256x512.size (k0_off304_inb v2047 k0_hw153)).WholeWords (EltTy.packing .bf16) := fun v2047 k0_hw153 => k0_hw153.2 (k0_off304_inb v2047 k0_hw153)

def k0_dev81 (v8 : BitVec 32) : Nat :=
  let c0_i32_1875 : BitVec 32 := 0#32
  let c1_i32_1874 : BitVec 32 := 1#32
  let v2050 : BitVec 32 := Scalar.muli v8 c1_i32_1874
  let v2051 : BitVec 32 := Scalar.addi c0_i32_1875 v2050
  v2051.toNat
def k0_off305 (v4 : BitVec 32) : Fin 1 → Nat :=
  let c8_i32_1878 : BitVec 32 := 8#32
  let v2058 : BitVec 32 := Scalar.addi v4 c8_i32_1878
  let c32_i32_1879 : BitVec 32 := 32#32
  let v2059 : BitVec 32 := Scalar.remsi v2058 c32_i32_1879
  let v2060 : Index := Scalar.indexCast v2059
  ![v2060.toNat]
def k0_off306 (v2061 : BitVec 32) : Fin 2 → Nat :=
  let c1024_i32_1880 : BitVec 32 := 1024#32
  let v2062 : BitVec 32 := Scalar.muli v2061 c1024_i32_1880
  let c768_i32_1881 : BitVec 32 := 768#32
  let v2063 : BitVec 32 := Scalar.addi v2062 c768_i32_1881
  let c0_i32_1888 : BitVec 32 := 0#32
  ![v2063.toNat, 0]

def k0_chk154 (v2061 : BitVec 32) : Prop :=
  (∀ a, (k0_off306 v2061) a + S256x512.size a ≤ S32768x512.size a) ∧
  (∀ (hinb : ∀ a, (k0_off306 v2061) a + S256x512.size a ≤ S32768x512.size a), (Rect.unit (s := S32768x512) (k0_off306 v2061) S256x512.size hinb).WholeWords (EltTy.packing .bf16))
theorem k0_off306_inb : ∀ (v2061 : BitVec 32) (k0_hw154 : k0_chk154 v2061), ∀ a, (k0_off306 v2061) a + S256x512.size a ≤ S32768x512.size a := fun v2061 k0_hw154 => k0_hw154.1
theorem k0_off306_wordsbf16 : ∀ (v2061 : BitVec 32) (k0_hw154 : k0_chk154 v2061), (Rect.unit (s := S32768x512) (k0_off306 v2061) S256x512.size (k0_off306_inb v2061 k0_hw154)).WholeWords (EltTy.packing .bf16) := fun v2061 k0_hw154 => k0_hw154.2 (k0_off306_inb v2061 k0_hw154)

def k0_off307 (v4 : BitVec 32) : Fin 1 → Nat :=
  let c9_i32_1890 : BitVec 32 := 9#32
  let v2070 : BitVec 32 := Scalar.addi v4 c9_i32_1890
  let c32_i32_1891 : BitVec 32 := 32#32
  let v2071 : BitVec 32 := Scalar.remsi v2070 c32_i32_1891
  let v2072 : Index := Scalar.indexCast v2071
  ![v2072.toNat]
def k0_off308 (v2073 : BitVec 32) : Fin 2 → Nat :=
  let c1024_i32_1892 : BitVec 32 := 1024#32
  let v2074 : BitVec 32 := Scalar.muli v2073 c1024_i32_1892
  let c768_i32_1893 : BitVec 32 := 768#32
  let v2075 : BitVec 32 := Scalar.addi v2074 c768_i32_1893
  let c0_i32_1900 : BitVec 32 := 0#32
  ![v2075.toNat, 0]

def k0_chk155 (v2073 : BitVec 32) : Prop :=
  (∀ a, (k0_off308 v2073) a + S256x512.size a ≤ S32768x512.size a) ∧
  (∀ (hinb : ∀ a, (k0_off308 v2073) a + S256x512.size a ≤ S32768x512.size a), (Rect.unit (s := S32768x512) (k0_off308 v2073) S256x512.size hinb).WholeWords (EltTy.packing .bf16))
theorem k0_off308_inb : ∀ (v2073 : BitVec 32) (k0_hw155 : k0_chk155 v2073), ∀ a, (k0_off308 v2073) a + S256x512.size a ≤ S32768x512.size a := fun v2073 k0_hw155 => k0_hw155.1
theorem k0_off308_wordsbf16 : ∀ (v2073 : BitVec 32) (k0_hw155 : k0_chk155 v2073), (Rect.unit (s := S32768x512) (k0_off308 v2073) S256x512.size (k0_off308_inb v2073 k0_hw155)).WholeWords (EltTy.packing .bf16) := fun v2073 k0_hw155 => k0_hw155.2 (k0_off308_inb v2073 k0_hw155)

def k0_dev82 (v13 : BitVec 32) : Nat :=
  let c0_i32_1899 : BitVec 32 := 0#32
  let c1_i32_1898 : BitVec 32 := 1#32
  let v2076 : BitVec 32 := Scalar.muli v13 c1_i32_1898
  let v2077 : BitVec 32 := Scalar.addi c0_i32_1899 v2076
  v2077.toNat
def k0_off309 (v4 : BitVec 32) : Fin 1 → Nat :=
  let c9_i32_1902 : BitVec 32 := 9#32
  let v2084 : BitVec 32 := Scalar.subi v4 c9_i32_1902
  let c32_i32_1903 : BitVec 32 := 32#32
  let v2085 : BitVec 32 := Scalar.addi v2084 c32_i32_1903
  let c32_i32_1904 : BitVec 32 := 32#32
  let v2086 : BitVec 32 := Scalar.remsi v2085 c32_i32_1904
  let v2087 : Index := Scalar.indexCast v2086
  ![v2087.toNat]
def k0_off310 (v2088 : BitVec 32) : Fin 2 → Nat :=
  let c1024_i32_1905 : BitVec 32 := 1024#32
  let v2089 : BitVec 32 := Scalar.muli v2088 c1024_i32_1905
  let c0_i32_1906 : BitVec 32 := 0#32
  let v2090 : BitVec 32 := Scalar.addi v2089 c0_i32_1906
  let c0_i32_1913 : BitVec 32 := 0#32
  ![v2090.toNat, 0]

def k0_chk156 (v2088 : BitVec 32) : Prop :=
  (∀ a, (k0_off310 v2088) a + S256x512.size a ≤ S32768x512.size a) ∧
  (∀ (hinb : ∀ a, (k0_off310 v2088) a + S256x512.size a ≤ S32768x512.size a), (Rect.unit (s := S32768x512) (k0_off310 v2088) S256x512.size hinb).WholeWords (EltTy.packing .bf16))
theorem k0_off310_inb : ∀ (v2088 : BitVec 32) (k0_hw156 : k0_chk156 v2088), ∀ a, (k0_off310 v2088) a + S256x512.size a ≤ S32768x512.size a := fun v2088 k0_hw156 => k0_hw156.1
theorem k0_off310_wordsbf16 : ∀ (v2088 : BitVec 32) (k0_hw156 : k0_chk156 v2088), (Rect.unit (s := S32768x512) (k0_off310 v2088) S256x512.size (k0_off310_inb v2088 k0_hw156)).WholeWords (EltTy.packing .bf16) := fun v2088 k0_hw156 => k0_hw156.2 (k0_off310_inb v2088 k0_hw156)

def k0_off311 (v4 : BitVec 32) : Fin 1 → Nat :=
  let c10_i32 : BitVec 32 := 10#32
  let v2097 : BitVec 32 := Scalar.subi v4 c10_i32
  let c32_i32_1915 : BitVec 32 := 32#32
  let v2098 : BitVec 32 := Scalar.addi v2097 c32_i32_1915
  let c32_i32_1916 : BitVec 32 := 32#32
  let v2099 : BitVec 32 := Scalar.remsi v2098 c32_i32_1916
  let v2100 : Index := Scalar.indexCast v2099
  ![v2100.toNat]
def k0_off312 (v2101 : BitVec 32) : Fin 2 → Nat :=
  let c1024_i32_1917 : BitVec 32 := 1024#32
  let v2102 : BitVec 32 := Scalar.muli v2101 c1024_i32_1917
  let c0_i32_1918 : BitVec 32 := 0#32
  let v2103 : BitVec 32 := Scalar.addi v2102 c0_i32_1918
  let c0_i32_1925 : BitVec 32 := 0#32
  ![v2103.toNat, 0]

def k0_chk157 (v2101 : BitVec 32) : Prop :=
  (∀ a, (k0_off312 v2101) a + S256x512.size a ≤ S32768x512.size a) ∧
  (∀ (hinb : ∀ a, (k0_off312 v2101) a + S256x512.size a ≤ S32768x512.size a), (Rect.unit (s := S32768x512) (k0_off312 v2101) S256x512.size hinb).WholeWords (EltTy.packing .bf16))
theorem k0_off312_inb : ∀ (v2101 : BitVec 32) (k0_hw157 : k0_chk157 v2101), ∀ a, (k0_off312 v2101) a + S256x512.size a ≤ S32768x512.size a := fun v2101 k0_hw157 => k0_hw157.1
theorem k0_off312_wordsbf16 : ∀ (v2101 : BitVec 32) (k0_hw157 : k0_chk157 v2101), (Rect.unit (s := S32768x512) (k0_off312 v2101) S256x512.size (k0_off312_inb v2101 k0_hw157)).WholeWords (EltTy.packing .bf16) := fun v2101 k0_hw157 => k0_hw157.2 (k0_off312_inb v2101 k0_hw157)

def k0_dev83 (v8 : BitVec 32) : Nat :=
  let c0_i32_1924 : BitVec 32 := 0#32
  let c1_i32_1923 : BitVec 32 := 1#32
  let v2104 : BitVec 32 := Scalar.muli v8 c1_i32_1923
  let v2105 : BitVec 32 := Scalar.addi c0_i32_1924 v2104
  v2105.toNat
def k0_off313 (v4 : BitVec 32) : Fin 1 → Nat :=
  let c9_i32_1927 : BitVec 32 := 9#32
  let v2112 : BitVec 32 := Scalar.addi v4 c9_i32_1927
  let c32_i32_1928 : BitVec 32 := 32#32
  let v2113 : BitVec 32 := Scalar.remsi v2112 c32_i32_1928
  let v2114 : Index := Scalar.indexCast v2113
  ![v2114.toNat]
def k0_off314 (v2115 : BitVec 32) : Fin 2 → Nat :=
  let c1024_i32_1929 : BitVec 32 := 1024#32
  let v2116 : BitVec 32 := Scalar.muli v2115 c1024_i32_1929
  let c0_i32_1930 : BitVec 32 := 0#32
  let v2117 : BitVec 32 := Scalar.addi v2116 c0_i32_1930
  let c0_i32_1937 : BitVec 32 := 0#32
  ![v2117.toNat, 0]

def k0_chk158 (v2115 : BitVec 32) : Prop :=
  (∀ a, (k0_off314 v2115) a + S256x512.size a ≤ S32768x512.size a) ∧
  (∀ (hinb : ∀ a, (k0_off314 v2115) a + S256x512.size a ≤ S32768x512.size a), (Rect.unit (s := S32768x512) (k0_off314 v2115) S256x512.size hinb).WholeWords (EltTy.packing .bf16))
theorem k0_off314_inb : ∀ (v2115 : BitVec 32) (k0_hw158 : k0_chk158 v2115), ∀ a, (k0_off314 v2115) a + S256x512.size a ≤ S32768x512.size a := fun v2115 k0_hw158 => k0_hw158.1
theorem k0_off314_wordsbf16 : ∀ (v2115 : BitVec 32) (k0_hw158 : k0_chk158 v2115), (Rect.unit (s := S32768x512) (k0_off314 v2115) S256x512.size (k0_off314_inb v2115 k0_hw158)).WholeWords (EltTy.packing .bf16) := fun v2115 k0_hw158 => k0_hw158.2 (k0_off314_inb v2115 k0_hw158)

def k0_off315 (v4 : BitVec 32) : Fin 1 → Nat :=
  let c10_i32_1939 : BitVec 32 := 10#32
  let v2124 : BitVec 32 := Scalar.addi v4 c10_i32_1939
  let c32_i32_1940 : BitVec 32 := 32#32
  let v2125 : BitVec 32 := Scalar.remsi v2124 c32_i32_1940
  let v2126 : Index := Scalar.indexCast v2125
  ![v2126.toNat]
def k0_off316 (v2127 : BitVec 32) : Fin 2 → Nat :=
  let c1024_i32_1941 : BitVec 32 := 1024#32
  let v2128 : BitVec 32 := Scalar.muli v2127 c1024_i32_1941
  let c0_i32_1942 : BitVec 32 := 0#32
  let v2129 : BitVec 32 := Scalar.addi v2128 c0_i32_1942
  let c0_i32_1949 : BitVec 32 := 0#32
  ![v2129.toNat, 0]

def k0_chk159 (v2127 : BitVec 32) : Prop :=
  (∀ a, (k0_off316 v2127) a + S256x512.size a ≤ S32768x512.size a) ∧
  (∀ (hinb : ∀ a, (k0_off316 v2127) a + S256x512.size a ≤ S32768x512.size a), (Rect.unit (s := S32768x512) (k0_off316 v2127) S256x512.size hinb).WholeWords (EltTy.packing .bf16))
theorem k0_off316_inb : ∀ (v2127 : BitVec 32) (k0_hw159 : k0_chk159 v2127), ∀ a, (k0_off316 v2127) a + S256x512.size a ≤ S32768x512.size a := fun v2127 k0_hw159 => k0_hw159.1
theorem k0_off316_wordsbf16 : ∀ (v2127 : BitVec 32) (k0_hw159 : k0_chk159 v2127), (Rect.unit (s := S32768x512) (k0_off316 v2127) S256x512.size (k0_off316_inb v2127 k0_hw159)).WholeWords (EltTy.packing .bf16) := fun v2127 k0_hw159 => k0_hw159.2 (k0_off316_inb v2127 k0_hw159)

def k0_dev84 (v13 : BitVec 32) : Nat :=
  let c0_i32_1948 : BitVec 32 := 0#32
  let c1_i32_1947 : BitVec 32 := 1#32
  let v2130 : BitVec 32 := Scalar.muli v13 c1_i32_1947
  let v2131 : BitVec 32 := Scalar.addi c0_i32_1948 v2130
  v2131.toNat
def k0_off317 (v4 : BitVec 32) : Fin 1 → Nat :=
  let c9_i32_1951 : BitVec 32 := 9#32
  let v2138 : BitVec 32 := Scalar.subi v4 c9_i32_1951
  let c32_i32_1952 : BitVec 32 := 32#32
  let v2139 : BitVec 32 := Scalar.addi v2138 c32_i32_1952
  let c32_i32_1953 : BitVec 32 := 32#32
  let v2140 : BitVec 32 := Scalar.remsi v2139 c32_i32_1953
  let v2141 : Index := Scalar.indexCast v2140
  ![v2141.toNat]
def k0_off318 (v2142 : BitVec 32) : Fin 2 → Nat :=
  let c1024_i32_1954 : BitVec 32 := 1024#32
  let v2143 : BitVec 32 := Scalar.muli v2142 c1024_i32_1954
  let c256_i32_1955 : BitVec 32 := 256#32
  let v2144 : BitVec 32 := Scalar.addi v2143 c256_i32_1955
  let c0_i32_1962 : BitVec 32 := 0#32
  ![v2144.toNat, 0]

def k0_chk160 (v2142 : BitVec 32) : Prop :=
  (∀ a, (k0_off318 v2142) a + S256x512.size a ≤ S32768x512.size a) ∧
  (∀ (hinb : ∀ a, (k0_off318 v2142) a + S256x512.size a ≤ S32768x512.size a), (Rect.unit (s := S32768x512) (k0_off318 v2142) S256x512.size hinb).WholeWords (EltTy.packing .bf16))
theorem k0_off318_inb : ∀ (v2142 : BitVec 32) (k0_hw160 : k0_chk160 v2142), ∀ a, (k0_off318 v2142) a + S256x512.size a ≤ S32768x512.size a := fun v2142 k0_hw160 => k0_hw160.1
theorem k0_off318_wordsbf16 : ∀ (v2142 : BitVec 32) (k0_hw160 : k0_chk160 v2142), (Rect.unit (s := S32768x512) (k0_off318 v2142) S256x512.size (k0_off318_inb v2142 k0_hw160)).WholeWords (EltTy.packing .bf16) := fun v2142 k0_hw160 => k0_hw160.2 (k0_off318_inb v2142 k0_hw160)

def k0_off319 (v4 : BitVec 32) : Fin 1 → Nat :=
  let c10_i32_1964 : BitVec 32 := 10#32
  let v2151 : BitVec 32 := Scalar.subi v4 c10_i32_1964
  let c32_i32_1965 : BitVec 32 := 32#32
  let v2152 : BitVec 32 := Scalar.addi v2151 c32_i32_1965
  let c32_i32_1966 : BitVec 32 := 32#32
  let v2153 : BitVec 32 := Scalar.remsi v2152 c32_i32_1966
  let v2154 : Index := Scalar.indexCast v2153
  ![v2154.toNat]
def k0_off320 (v2155 : BitVec 32) : Fin 2 → Nat :=
  let c1024_i32_1967 : BitVec 32 := 1024#32
  let v2156 : BitVec 32 := Scalar.muli v2155 c1024_i32_1967
  let c256_i32_1968 : BitVec 32 := 256#32
  let v2157 : BitVec 32 := Scalar.addi v2156 c256_i32_1968
  let c0_i32_1975 : BitVec 32 := 0#32
  ![v2157.toNat, 0]

def k0_chk161 (v2155 : BitVec 32) : Prop :=
  (∀ a, (k0_off320 v2155) a + S256x512.size a ≤ S32768x512.size a) ∧
  (∀ (hinb : ∀ a, (k0_off320 v2155) a + S256x512.size a ≤ S32768x512.size a), (Rect.unit (s := S32768x512) (k0_off320 v2155) S256x512.size hinb).WholeWords (EltTy.packing .bf16))
theorem k0_off320_inb : ∀ (v2155 : BitVec 32) (k0_hw161 : k0_chk161 v2155), ∀ a, (k0_off320 v2155) a + S256x512.size a ≤ S32768x512.size a := fun v2155 k0_hw161 => k0_hw161.1
theorem k0_off320_wordsbf16 : ∀ (v2155 : BitVec 32) (k0_hw161 : k0_chk161 v2155), (Rect.unit (s := S32768x512) (k0_off320 v2155) S256x512.size (k0_off320_inb v2155 k0_hw161)).WholeWords (EltTy.packing .bf16) := fun v2155 k0_hw161 => k0_hw161.2 (k0_off320_inb v2155 k0_hw161)

def k0_dev85 (v8 : BitVec 32) : Nat :=
  let c0_i32_1974 : BitVec 32 := 0#32
  let c1_i32_1973 : BitVec 32 := 1#32
  let v2158 : BitVec 32 := Scalar.muli v8 c1_i32_1973
  let v2159 : BitVec 32 := Scalar.addi c0_i32_1974 v2158
  v2159.toNat
def k0_off321 (v4 : BitVec 32) : Fin 1 → Nat :=
  let c9_i32_1977 : BitVec 32 := 9#32
  let v2166 : BitVec 32 := Scalar.addi v4 c9_i32_1977
  let c32_i32_1978 : BitVec 32 := 32#32
  let v2167 : BitVec 32 := Scalar.remsi v2166 c32_i32_1978
  let v2168 : Index := Scalar.indexCast v2167
  ![v2168.toNat]
def k0_off322 (v2169 : BitVec 32) : Fin 2 → Nat :=
  let c1024_i32_1979 : BitVec 32 := 1024#32
  let v2170 : BitVec 32 := Scalar.muli v2169 c1024_i32_1979
  let c256_i32_1980 : BitVec 32 := 256#32
  let v2171 : BitVec 32 := Scalar.addi v2170 c256_i32_1980
  let c0_i32_1987 : BitVec 32 := 0#32
  ![v2171.toNat, 0]

def k0_chk162 (v2169 : BitVec 32) : Prop :=
  (∀ a, (k0_off322 v2169) a + S256x512.size a ≤ S32768x512.size a) ∧
  (∀ (hinb : ∀ a, (k0_off322 v2169) a + S256x512.size a ≤ S32768x512.size a), (Rect.unit (s := S32768x512) (k0_off322 v2169) S256x512.size hinb).WholeWords (EltTy.packing .bf16))
theorem k0_off322_inb : ∀ (v2169 : BitVec 32) (k0_hw162 : k0_chk162 v2169), ∀ a, (k0_off322 v2169) a + S256x512.size a ≤ S32768x512.size a := fun v2169 k0_hw162 => k0_hw162.1
theorem k0_off322_wordsbf16 : ∀ (v2169 : BitVec 32) (k0_hw162 : k0_chk162 v2169), (Rect.unit (s := S32768x512) (k0_off322 v2169) S256x512.size (k0_off322_inb v2169 k0_hw162)).WholeWords (EltTy.packing .bf16) := fun v2169 k0_hw162 => k0_hw162.2 (k0_off322_inb v2169 k0_hw162)

def k0_off323 (v4 : BitVec 32) : Fin 1 → Nat :=
  let c10_i32_1989 : BitVec 32 := 10#32
  let v2178 : BitVec 32 := Scalar.addi v4 c10_i32_1989
  let c32_i32_1990 : BitVec 32 := 32#32
  let v2179 : BitVec 32 := Scalar.remsi v2178 c32_i32_1990
  let v2180 : Index := Scalar.indexCast v2179
  ![v2180.toNat]
def k0_off324 (v2181 : BitVec 32) : Fin 2 → Nat :=
  let c1024_i32_1991 : BitVec 32 := 1024#32
  let v2182 : BitVec 32 := Scalar.muli v2181 c1024_i32_1991
  let c256_i32_1992 : BitVec 32 := 256#32
  let v2183 : BitVec 32 := Scalar.addi v2182 c256_i32_1992
  let c0_i32_1999 : BitVec 32 := 0#32
  ![v2183.toNat, 0]

def k0_chk163 (v2181 : BitVec 32) : Prop :=
  (∀ a, (k0_off324 v2181) a + S256x512.size a ≤ S32768x512.size a) ∧
  (∀ (hinb : ∀ a, (k0_off324 v2181) a + S256x512.size a ≤ S32768x512.size a), (Rect.unit (s := S32768x512) (k0_off324 v2181) S256x512.size hinb).WholeWords (EltTy.packing .bf16))
theorem k0_off324_inb : ∀ (v2181 : BitVec 32) (k0_hw163 : k0_chk163 v2181), ∀ a, (k0_off324 v2181) a + S256x512.size a ≤ S32768x512.size a := fun v2181 k0_hw163 => k0_hw163.1
theorem k0_off324_wordsbf16 : ∀ (v2181 : BitVec 32) (k0_hw163 : k0_chk163 v2181), (Rect.unit (s := S32768x512) (k0_off324 v2181) S256x512.size (k0_off324_inb v2181 k0_hw163)).WholeWords (EltTy.packing .bf16) := fun v2181 k0_hw163 => k0_hw163.2 (k0_off324_inb v2181 k0_hw163)

def k0_dev86 (v13 : BitVec 32) : Nat :=
  let c0_i32_1998 : BitVec 32 := 0#32
  let c1_i32_1997 : BitVec 32 := 1#32
  let v2184 : BitVec 32 := Scalar.muli v13 c1_i32_1997
  let v2185 : BitVec 32 := Scalar.addi c0_i32_1998 v2184
  v2185.toNat
def k0_off325 (v4 : BitVec 32) : Fin 1 → Nat :=
  let c9_i32_2001 : BitVec 32 := 9#32
  let v2192 : BitVec 32 := Scalar.subi v4 c9_i32_2001
  let c32_i32_2002 : BitVec 32 := 32#32
  let v2193 : BitVec 32 := Scalar.addi v2192 c32_i32_2002
  let c32_i32_2003 : BitVec 32 := 32#32
  let v2194 : BitVec 32 := Scalar.remsi v2193 c32_i32_2003
  let v2195 : Index := Scalar.indexCast v2194
  ![v2195.toNat]
def k0_off326 (v2196 : BitVec 32) : Fin 2 → Nat :=
  let c1024_i32_2004 : BitVec 32 := 1024#32
  let v2197 : BitVec 32 := Scalar.muli v2196 c1024_i32_2004
  let c512_i32_2005 : BitVec 32 := 512#32
  let v2198 : BitVec 32 := Scalar.addi v2197 c512_i32_2005
  let c0_i32_2012 : BitVec 32 := 0#32
  ![v2198.toNat, 0]

def k0_chk164 (v2196 : BitVec 32) : Prop :=
  (∀ a, (k0_off326 v2196) a + S256x512.size a ≤ S32768x512.size a) ∧
  (∀ (hinb : ∀ a, (k0_off326 v2196) a + S256x512.size a ≤ S32768x512.size a), (Rect.unit (s := S32768x512) (k0_off326 v2196) S256x512.size hinb).WholeWords (EltTy.packing .bf16))
theorem k0_off326_inb : ∀ (v2196 : BitVec 32) (k0_hw164 : k0_chk164 v2196), ∀ a, (k0_off326 v2196) a + S256x512.size a ≤ S32768x512.size a := fun v2196 k0_hw164 => k0_hw164.1
theorem k0_off326_wordsbf16 : ∀ (v2196 : BitVec 32) (k0_hw164 : k0_chk164 v2196), (Rect.unit (s := S32768x512) (k0_off326 v2196) S256x512.size (k0_off326_inb v2196 k0_hw164)).WholeWords (EltTy.packing .bf16) := fun v2196 k0_hw164 => k0_hw164.2 (k0_off326_inb v2196 k0_hw164)

def k0_off327 (v4 : BitVec 32) : Fin 1 → Nat :=
  let c10_i32_2014 : BitVec 32 := 10#32
  let v2205 : BitVec 32 := Scalar.subi v4 c10_i32_2014
  let c32_i32_2015 : BitVec 32 := 32#32
  let v2206 : BitVec 32 := Scalar.addi v2205 c32_i32_2015
  let c32_i32_2016 : BitVec 32 := 32#32
  let v2207 : BitVec 32 := Scalar.remsi v2206 c32_i32_2016
  let v2208 : Index := Scalar.indexCast v2207
  ![v2208.toNat]
def k0_off328 (v2209 : BitVec 32) : Fin 2 → Nat :=
  let c1024_i32_2017 : BitVec 32 := 1024#32
  let v2210 : BitVec 32 := Scalar.muli v2209 c1024_i32_2017
  let c512_i32_2018 : BitVec 32 := 512#32
  let v2211 : BitVec 32 := Scalar.addi v2210 c512_i32_2018
  let c0_i32_2025 : BitVec 32 := 0#32
  ![v2211.toNat, 0]

def k0_chk165 (v2209 : BitVec 32) : Prop :=
  (∀ a, (k0_off328 v2209) a + S256x512.size a ≤ S32768x512.size a) ∧
  (∀ (hinb : ∀ a, (k0_off328 v2209) a + S256x512.size a ≤ S32768x512.size a), (Rect.unit (s := S32768x512) (k0_off328 v2209) S256x512.size hinb).WholeWords (EltTy.packing .bf16))
theorem k0_off328_inb : ∀ (v2209 : BitVec 32) (k0_hw165 : k0_chk165 v2209), ∀ a, (k0_off328 v2209) a + S256x512.size a ≤ S32768x512.size a := fun v2209 k0_hw165 => k0_hw165.1
theorem k0_off328_wordsbf16 : ∀ (v2209 : BitVec 32) (k0_hw165 : k0_chk165 v2209), (Rect.unit (s := S32768x512) (k0_off328 v2209) S256x512.size (k0_off328_inb v2209 k0_hw165)).WholeWords (EltTy.packing .bf16) := fun v2209 k0_hw165 => k0_hw165.2 (k0_off328_inb v2209 k0_hw165)

def k0_dev87 (v8 : BitVec 32) : Nat :=
  let c0_i32_2024 : BitVec 32 := 0#32
  let c1_i32_2023 : BitVec 32 := 1#32
  let v2212 : BitVec 32 := Scalar.muli v8 c1_i32_2023
  let v2213 : BitVec 32 := Scalar.addi c0_i32_2024 v2212
  v2213.toNat
def k0_off329 (v4 : BitVec 32) : Fin 1 → Nat :=
  let c9_i32_2027 : BitVec 32 := 9#32
  let v2220 : BitVec 32 := Scalar.addi v4 c9_i32_2027
  let c32_i32_2028 : BitVec 32 := 32#32
  let v2221 : BitVec 32 := Scalar.remsi v2220 c32_i32_2028
  let v2222 : Index := Scalar.indexCast v2221
  ![v2222.toNat]
def k0_off330 (v2223 : BitVec 32) : Fin 2 → Nat :=
  let c1024_i32_2029 : BitVec 32 := 1024#32
  let v2224 : BitVec 32 := Scalar.muli v2223 c1024_i32_2029
  let c512_i32_2030 : BitVec 32 := 512#32
  let v2225 : BitVec 32 := Scalar.addi v2224 c512_i32_2030
  let c0_i32_2037 : BitVec 32 := 0#32
  ![v2225.toNat, 0]

def k0_chk166 (v2223 : BitVec 32) : Prop :=
  (∀ a, (k0_off330 v2223) a + S256x512.size a ≤ S32768x512.size a) ∧
  (∀ (hinb : ∀ a, (k0_off330 v2223) a + S256x512.size a ≤ S32768x512.size a), (Rect.unit (s := S32768x512) (k0_off330 v2223) S256x512.size hinb).WholeWords (EltTy.packing .bf16))
theorem k0_off330_inb : ∀ (v2223 : BitVec 32) (k0_hw166 : k0_chk166 v2223), ∀ a, (k0_off330 v2223) a + S256x512.size a ≤ S32768x512.size a := fun v2223 k0_hw166 => k0_hw166.1
theorem k0_off330_wordsbf16 : ∀ (v2223 : BitVec 32) (k0_hw166 : k0_chk166 v2223), (Rect.unit (s := S32768x512) (k0_off330 v2223) S256x512.size (k0_off330_inb v2223 k0_hw166)).WholeWords (EltTy.packing .bf16) := fun v2223 k0_hw166 => k0_hw166.2 (k0_off330_inb v2223 k0_hw166)

def k0_off331 (v4 : BitVec 32) : Fin 1 → Nat :=
  let c10_i32_2039 : BitVec 32 := 10#32
  let v2232 : BitVec 32 := Scalar.addi v4 c10_i32_2039
  let c32_i32_2040 : BitVec 32 := 32#32
  let v2233 : BitVec 32 := Scalar.remsi v2232 c32_i32_2040
  let v2234 : Index := Scalar.indexCast v2233
  ![v2234.toNat]
def k0_off332 (v2235 : BitVec 32) : Fin 2 → Nat :=
  let c1024_i32_2041 : BitVec 32 := 1024#32
  let v2236 : BitVec 32 := Scalar.muli v2235 c1024_i32_2041
  let c512_i32_2042 : BitVec 32 := 512#32
  let v2237 : BitVec 32 := Scalar.addi v2236 c512_i32_2042
  let c0_i32_2049 : BitVec 32 := 0#32
  ![v2237.toNat, 0]

def k0_chk167 (v2235 : BitVec 32) : Prop :=
  (∀ a, (k0_off332 v2235) a + S256x512.size a ≤ S32768x512.size a) ∧
  (∀ (hinb : ∀ a, (k0_off332 v2235) a + S256x512.size a ≤ S32768x512.size a), (Rect.unit (s := S32768x512) (k0_off332 v2235) S256x512.size hinb).WholeWords (EltTy.packing .bf16))
theorem k0_off332_inb : ∀ (v2235 : BitVec 32) (k0_hw167 : k0_chk167 v2235), ∀ a, (k0_off332 v2235) a + S256x512.size a ≤ S32768x512.size a := fun v2235 k0_hw167 => k0_hw167.1
theorem k0_off332_wordsbf16 : ∀ (v2235 : BitVec 32) (k0_hw167 : k0_chk167 v2235), (Rect.unit (s := S32768x512) (k0_off332 v2235) S256x512.size (k0_off332_inb v2235 k0_hw167)).WholeWords (EltTy.packing .bf16) := fun v2235 k0_hw167 => k0_hw167.2 (k0_off332_inb v2235 k0_hw167)

def k0_dev88 (v13 : BitVec 32) : Nat :=
  let c0_i32_2048 : BitVec 32 := 0#32
  let c1_i32_2047 : BitVec 32 := 1#32
  let v2238 : BitVec 32 := Scalar.muli v13 c1_i32_2047
  let v2239 : BitVec 32 := Scalar.addi c0_i32_2048 v2238
  v2239.toNat
def k0_off333 (v4 : BitVec 32) : Fin 1 → Nat :=
  let c9_i32_2051 : BitVec 32 := 9#32
  let v2246 : BitVec 32 := Scalar.subi v4 c9_i32_2051
  let c32_i32_2052 : BitVec 32 := 32#32
  let v2247 : BitVec 32 := Scalar.addi v2246 c32_i32_2052
  let c32_i32_2053 : BitVec 32 := 32#32
  let v2248 : BitVec 32 := Scalar.remsi v2247 c32_i32_2053
  let v2249 : Index := Scalar.indexCast v2248
  ![v2249.toNat]
def k0_off334 (v2250 : BitVec 32) : Fin 2 → Nat :=
  let c1024_i32_2054 : BitVec 32 := 1024#32
  let v2251 : BitVec 32 := Scalar.muli v2250 c1024_i32_2054
  let c768_i32_2055 : BitVec 32 := 768#32
  let v2252 : BitVec 32 := Scalar.addi v2251 c768_i32_2055
  let c0_i32_2062 : BitVec 32 := 0#32
  ![v2252.toNat, 0]

def k0_chk168 (v2250 : BitVec 32) : Prop :=
  (∀ a, (k0_off334 v2250) a + S256x512.size a ≤ S32768x512.size a) ∧
  (∀ (hinb : ∀ a, (k0_off334 v2250) a + S256x512.size a ≤ S32768x512.size a), (Rect.unit (s := S32768x512) (k0_off334 v2250) S256x512.size hinb).WholeWords (EltTy.packing .bf16))
theorem k0_off334_inb : ∀ (v2250 : BitVec 32) (k0_hw168 : k0_chk168 v2250), ∀ a, (k0_off334 v2250) a + S256x512.size a ≤ S32768x512.size a := fun v2250 k0_hw168 => k0_hw168.1
theorem k0_off334_wordsbf16 : ∀ (v2250 : BitVec 32) (k0_hw168 : k0_chk168 v2250), (Rect.unit (s := S32768x512) (k0_off334 v2250) S256x512.size (k0_off334_inb v2250 k0_hw168)).WholeWords (EltTy.packing .bf16) := fun v2250 k0_hw168 => k0_hw168.2 (k0_off334_inb v2250 k0_hw168)

def k0_off335 (v4 : BitVec 32) : Fin 1 → Nat :=
  let c10_i32_2064 : BitVec 32 := 10#32
  let v2259 : BitVec 32 := Scalar.subi v4 c10_i32_2064
  let c32_i32_2065 : BitVec 32 := 32#32
  let v2260 : BitVec 32 := Scalar.addi v2259 c32_i32_2065
  let c32_i32_2066 : BitVec 32 := 32#32
  let v2261 : BitVec 32 := Scalar.remsi v2260 c32_i32_2066
  let v2262 : Index := Scalar.indexCast v2261
  ![v2262.toNat]
def k0_off336 (v2263 : BitVec 32) : Fin 2 → Nat :=
  let c1024_i32_2067 : BitVec 32 := 1024#32
  let v2264 : BitVec 32 := Scalar.muli v2263 c1024_i32_2067
  let c768_i32_2068 : BitVec 32 := 768#32
  let v2265 : BitVec 32 := Scalar.addi v2264 c768_i32_2068
  let c0_i32_2075 : BitVec 32 := 0#32
  ![v2265.toNat, 0]

def k0_chk169 (v2263 : BitVec 32) : Prop :=
  (∀ a, (k0_off336 v2263) a + S256x512.size a ≤ S32768x512.size a) ∧
  (∀ (hinb : ∀ a, (k0_off336 v2263) a + S256x512.size a ≤ S32768x512.size a), (Rect.unit (s := S32768x512) (k0_off336 v2263) S256x512.size hinb).WholeWords (EltTy.packing .bf16))
theorem k0_off336_inb : ∀ (v2263 : BitVec 32) (k0_hw169 : k0_chk169 v2263), ∀ a, (k0_off336 v2263) a + S256x512.size a ≤ S32768x512.size a := fun v2263 k0_hw169 => k0_hw169.1
theorem k0_off336_wordsbf16 : ∀ (v2263 : BitVec 32) (k0_hw169 : k0_chk169 v2263), (Rect.unit (s := S32768x512) (k0_off336 v2263) S256x512.size (k0_off336_inb v2263 k0_hw169)).WholeWords (EltTy.packing .bf16) := fun v2263 k0_hw169 => k0_hw169.2 (k0_off336_inb v2263 k0_hw169)

def k0_dev89 (v8 : BitVec 32) : Nat :=
  let c0_i32_2074 : BitVec 32 := 0#32
  let c1_i32_2073 : BitVec 32 := 1#32
  let v2266 : BitVec 32 := Scalar.muli v8 c1_i32_2073
  let v2267 : BitVec 32 := Scalar.addi c0_i32_2074 v2266
  v2267.toNat
def k0_off337 (v4 : BitVec 32) : Fin 1 → Nat :=
  let c9_i32_2077 : BitVec 32 := 9#32
  let v2274 : BitVec 32 := Scalar.addi v4 c9_i32_2077
  let c32_i32_2078 : BitVec 32 := 32#32
  let v2275 : BitVec 32 := Scalar.remsi v2274 c32_i32_2078
  let v2276 : Index := Scalar.indexCast v2275
  ![v2276.toNat]
def k0_off338 (v2277 : BitVec 32) : Fin 2 → Nat :=
  let c1024_i32_2079 : BitVec 32 := 1024#32
  let v2278 : BitVec 32 := Scalar.muli v2277 c1024_i32_2079
  let c768_i32_2080 : BitVec 32 := 768#32
  let v2279 : BitVec 32 := Scalar.addi v2278 c768_i32_2080
  let c0_i32_2087 : BitVec 32 := 0#32
  ![v2279.toNat, 0]

def k0_chk170 (v2277 : BitVec 32) : Prop :=
  (∀ a, (k0_off338 v2277) a + S256x512.size a ≤ S32768x512.size a) ∧
  (∀ (hinb : ∀ a, (k0_off338 v2277) a + S256x512.size a ≤ S32768x512.size a), (Rect.unit (s := S32768x512) (k0_off338 v2277) S256x512.size hinb).WholeWords (EltTy.packing .bf16))
theorem k0_off338_inb : ∀ (v2277 : BitVec 32) (k0_hw170 : k0_chk170 v2277), ∀ a, (k0_off338 v2277) a + S256x512.size a ≤ S32768x512.size a := fun v2277 k0_hw170 => k0_hw170.1
theorem k0_off338_wordsbf16 : ∀ (v2277 : BitVec 32) (k0_hw170 : k0_chk170 v2277), (Rect.unit (s := S32768x512) (k0_off338 v2277) S256x512.size (k0_off338_inb v2277 k0_hw170)).WholeWords (EltTy.packing .bf16) := fun v2277 k0_hw170 => k0_hw170.2 (k0_off338_inb v2277 k0_hw170)

def k0_off339 (v4 : BitVec 32) : Fin 1 → Nat :=
  let c10_i32_2089 : BitVec 32 := 10#32
  let v2286 : BitVec 32 := Scalar.addi v4 c10_i32_2089
  let c32_i32_2090 : BitVec 32 := 32#32
  let v2287 : BitVec 32 := Scalar.remsi v2286 c32_i32_2090
  let v2288 : Index := Scalar.indexCast v2287
  ![v2288.toNat]
def k0_off340 (v2289 : BitVec 32) : Fin 2 → Nat :=
  let c1024_i32_2091 : BitVec 32 := 1024#32
  let v2290 : BitVec 32 := Scalar.muli v2289 c1024_i32_2091
  let c768_i32_2092 : BitVec 32 := 768#32
  let v2291 : BitVec 32 := Scalar.addi v2290 c768_i32_2092
  let c0_i32_2099 : BitVec 32 := 0#32
  ![v2291.toNat, 0]

def k0_chk171 (v2289 : BitVec 32) : Prop :=
  (∀ a, (k0_off340 v2289) a + S256x512.size a ≤ S32768x512.size a) ∧
  (∀ (hinb : ∀ a, (k0_off340 v2289) a + S256x512.size a ≤ S32768x512.size a), (Rect.unit (s := S32768x512) (k0_off340 v2289) S256x512.size hinb).WholeWords (EltTy.packing .bf16))
theorem k0_off340_inb : ∀ (v2289 : BitVec 32) (k0_hw171 : k0_chk171 v2289), ∀ a, (k0_off340 v2289) a + S256x512.size a ≤ S32768x512.size a := fun v2289 k0_hw171 => k0_hw171.1
theorem k0_off340_wordsbf16 : ∀ (v2289 : BitVec 32) (k0_hw171 : k0_chk171 v2289), (Rect.unit (s := S32768x512) (k0_off340 v2289) S256x512.size (k0_off340_inb v2289 k0_hw171)).WholeWords (EltTy.packing .bf16) := fun v2289 k0_hw171 => k0_hw171.2 (k0_off340_inb v2289 k0_hw171)

def k0_dev90 (v13 : BitVec 32) : Nat :=
  let c0_i32_2098 : BitVec 32 := 0#32
  let c1_i32_2097 : BitVec 32 := 1#32
  let v2292 : BitVec 32 := Scalar.muli v13 c1_i32_2097
  let v2293 : BitVec 32 := Scalar.addi c0_i32_2098 v2292
  v2293.toNat
def k0_off341 (v4 : BitVec 32) : Fin 1 → Nat :=
  let c10_i32_2101 : BitVec 32 := 10#32
  let v2300 : BitVec 32 := Scalar.subi v4 c10_i32_2101
  let c32_i32_2102 : BitVec 32 := 32#32
  let v2301 : BitVec 32 := Scalar.addi v2300 c32_i32_2102
  let c32_i32_2103 : BitVec 32 := 32#32
  let v2302 : BitVec 32 := Scalar.remsi v2301 c32_i32_2103
  let v2303 : Index := Scalar.indexCast v2302
  ![v2303.toNat]
def k0_off342 (v2304 : BitVec 32) : Fin 2 → Nat :=
  let c1024_i32_2104 : BitVec 32 := 1024#32
  let v2305 : BitVec 32 := Scalar.muli v2304 c1024_i32_2104
  let c0_i32_2105 : BitVec 32 := 0#32
  let v2306 : BitVec 32 := Scalar.addi v2305 c0_i32_2105
  let c0_i32_2112 : BitVec 32 := 0#32
  ![v2306.toNat, 0]

def k0_chk172 (v2304 : BitVec 32) : Prop :=
  (∀ a, (k0_off342 v2304) a + S256x512.size a ≤ S32768x512.size a) ∧
  (∀ (hinb : ∀ a, (k0_off342 v2304) a + S256x512.size a ≤ S32768x512.size a), (Rect.unit (s := S32768x512) (k0_off342 v2304) S256x512.size hinb).WholeWords (EltTy.packing .bf16))
theorem k0_off342_inb : ∀ (v2304 : BitVec 32) (k0_hw172 : k0_chk172 v2304), ∀ a, (k0_off342 v2304) a + S256x512.size a ≤ S32768x512.size a := fun v2304 k0_hw172 => k0_hw172.1
theorem k0_off342_wordsbf16 : ∀ (v2304 : BitVec 32) (k0_hw172 : k0_chk172 v2304), (Rect.unit (s := S32768x512) (k0_off342 v2304) S256x512.size (k0_off342_inb v2304 k0_hw172)).WholeWords (EltTy.packing .bf16) := fun v2304 k0_hw172 => k0_hw172.2 (k0_off342_inb v2304 k0_hw172)

def k0_off343 (v4 : BitVec 32) : Fin 1 → Nat :=
  let c11_i32 : BitVec 32 := 11#32
  let v2313 : BitVec 32 := Scalar.subi v4 c11_i32
  let c32_i32_2114 : BitVec 32 := 32#32
  let v2314 : BitVec 32 := Scalar.addi v2313 c32_i32_2114
  let c32_i32_2115 : BitVec 32 := 32#32
  let v2315 : BitVec 32 := Scalar.remsi v2314 c32_i32_2115
  let v2316 : Index := Scalar.indexCast v2315
  ![v2316.toNat]
def k0_off344 (v2317 : BitVec 32) : Fin 2 → Nat :=
  let c1024_i32_2116 : BitVec 32 := 1024#32
  let v2318 : BitVec 32 := Scalar.muli v2317 c1024_i32_2116
  let c0_i32_2117 : BitVec 32 := 0#32
  let v2319 : BitVec 32 := Scalar.addi v2318 c0_i32_2117
  let c0_i32_2124 : BitVec 32 := 0#32
  ![v2319.toNat, 0]

def k0_chk173 (v2317 : BitVec 32) : Prop :=
  (∀ a, (k0_off344 v2317) a + S256x512.size a ≤ S32768x512.size a) ∧
  (∀ (hinb : ∀ a, (k0_off344 v2317) a + S256x512.size a ≤ S32768x512.size a), (Rect.unit (s := S32768x512) (k0_off344 v2317) S256x512.size hinb).WholeWords (EltTy.packing .bf16))
theorem k0_off344_inb : ∀ (v2317 : BitVec 32) (k0_hw173 : k0_chk173 v2317), ∀ a, (k0_off344 v2317) a + S256x512.size a ≤ S32768x512.size a := fun v2317 k0_hw173 => k0_hw173.1
theorem k0_off344_wordsbf16 : ∀ (v2317 : BitVec 32) (k0_hw173 : k0_chk173 v2317), (Rect.unit (s := S32768x512) (k0_off344 v2317) S256x512.size (k0_off344_inb v2317 k0_hw173)).WholeWords (EltTy.packing .bf16) := fun v2317 k0_hw173 => k0_hw173.2 (k0_off344_inb v2317 k0_hw173)

def k0_dev91 (v8 : BitVec 32) : Nat :=
  let c0_i32_2123 : BitVec 32 := 0#32
  let c1_i32_2122 : BitVec 32 := 1#32
  let v2320 : BitVec 32 := Scalar.muli v8 c1_i32_2122
  let v2321 : BitVec 32 := Scalar.addi c0_i32_2123 v2320
  v2321.toNat
def k0_off345 (v4 : BitVec 32) : Fin 1 → Nat :=
  let c10_i32_2126 : BitVec 32 := 10#32
  let v2328 : BitVec 32 := Scalar.addi v4 c10_i32_2126
  let c32_i32_2127 : BitVec 32 := 32#32
  let v2329 : BitVec 32 := Scalar.remsi v2328 c32_i32_2127
  let v2330 : Index := Scalar.indexCast v2329
  ![v2330.toNat]
def k0_off346 (v2331 : BitVec 32) : Fin 2 → Nat :=
  let c1024_i32_2128 : BitVec 32 := 1024#32
  let v2332 : BitVec 32 := Scalar.muli v2331 c1024_i32_2128
  let c0_i32_2129 : BitVec 32 := 0#32
  let v2333 : BitVec 32 := Scalar.addi v2332 c0_i32_2129
  let c0_i32_2136 : BitVec 32 := 0#32
  ![v2333.toNat, 0]

def k0_chk174 (v2331 : BitVec 32) : Prop :=
  (∀ a, (k0_off346 v2331) a + S256x512.size a ≤ S32768x512.size a) ∧
  (∀ (hinb : ∀ a, (k0_off346 v2331) a + S256x512.size a ≤ S32768x512.size a), (Rect.unit (s := S32768x512) (k0_off346 v2331) S256x512.size hinb).WholeWords (EltTy.packing .bf16))
theorem k0_off346_inb : ∀ (v2331 : BitVec 32) (k0_hw174 : k0_chk174 v2331), ∀ a, (k0_off346 v2331) a + S256x512.size a ≤ S32768x512.size a := fun v2331 k0_hw174 => k0_hw174.1
theorem k0_off346_wordsbf16 : ∀ (v2331 : BitVec 32) (k0_hw174 : k0_chk174 v2331), (Rect.unit (s := S32768x512) (k0_off346 v2331) S256x512.size (k0_off346_inb v2331 k0_hw174)).WholeWords (EltTy.packing .bf16) := fun v2331 k0_hw174 => k0_hw174.2 (k0_off346_inb v2331 k0_hw174)

def k0_off347 (v4 : BitVec 32) : Fin 1 → Nat :=
  let c11_i32_2138 : BitVec 32 := 11#32
  let v2340 : BitVec 32 := Scalar.addi v4 c11_i32_2138
  let c32_i32_2139 : BitVec 32 := 32#32
  let v2341 : BitVec 32 := Scalar.remsi v2340 c32_i32_2139
  let v2342 : Index := Scalar.indexCast v2341
  ![v2342.toNat]
def k0_off348 (v2343 : BitVec 32) : Fin 2 → Nat :=
  let c1024_i32_2140 : BitVec 32 := 1024#32
  let v2344 : BitVec 32 := Scalar.muli v2343 c1024_i32_2140
  let c0_i32_2141 : BitVec 32 := 0#32
  let v2345 : BitVec 32 := Scalar.addi v2344 c0_i32_2141
  let c0_i32_2148 : BitVec 32 := 0#32
  ![v2345.toNat, 0]

def k0_chk175 (v2343 : BitVec 32) : Prop :=
  (∀ a, (k0_off348 v2343) a + S256x512.size a ≤ S32768x512.size a) ∧
  (∀ (hinb : ∀ a, (k0_off348 v2343) a + S256x512.size a ≤ S32768x512.size a), (Rect.unit (s := S32768x512) (k0_off348 v2343) S256x512.size hinb).WholeWords (EltTy.packing .bf16))
theorem k0_off348_inb : ∀ (v2343 : BitVec 32) (k0_hw175 : k0_chk175 v2343), ∀ a, (k0_off348 v2343) a + S256x512.size a ≤ S32768x512.size a := fun v2343 k0_hw175 => k0_hw175.1
theorem k0_off348_wordsbf16 : ∀ (v2343 : BitVec 32) (k0_hw175 : k0_chk175 v2343), (Rect.unit (s := S32768x512) (k0_off348 v2343) S256x512.size (k0_off348_inb v2343 k0_hw175)).WholeWords (EltTy.packing .bf16) := fun v2343 k0_hw175 => k0_hw175.2 (k0_off348_inb v2343 k0_hw175)

def k0_dev92 (v13 : BitVec 32) : Nat :=
  let c0_i32_2147 : BitVec 32 := 0#32
  let c1_i32_2146 : BitVec 32 := 1#32
  let v2346 : BitVec 32 := Scalar.muli v13 c1_i32_2146
  let v2347 : BitVec 32 := Scalar.addi c0_i32_2147 v2346
  v2347.toNat
def k0_off349 (v4 : BitVec 32) : Fin 1 → Nat :=
  let c10_i32_2150 : BitVec 32 := 10#32
  let v2354 : BitVec 32 := Scalar.subi v4 c10_i32_2150
  let c32_i32_2151 : BitVec 32 := 32#32
  let v2355 : BitVec 32 := Scalar.addi v2354 c32_i32_2151
  let c32_i32_2152 : BitVec 32 := 32#32
  let v2356 : BitVec 32 := Scalar.remsi v2355 c32_i32_2152
  let v2357 : Index := Scalar.indexCast v2356
  ![v2357.toNat]
def k0_off350 (v2358 : BitVec 32) : Fin 2 → Nat :=
  let c1024_i32_2153 : BitVec 32 := 1024#32
  let v2359 : BitVec 32 := Scalar.muli v2358 c1024_i32_2153
  let c256_i32_2154 : BitVec 32 := 256#32
  let v2360 : BitVec 32 := Scalar.addi v2359 c256_i32_2154
  let c0_i32_2161 : BitVec 32 := 0#32
  ![v2360.toNat, 0]

def k0_chk176 (v2358 : BitVec 32) : Prop :=
  (∀ a, (k0_off350 v2358) a + S256x512.size a ≤ S32768x512.size a) ∧
  (∀ (hinb : ∀ a, (k0_off350 v2358) a + S256x512.size a ≤ S32768x512.size a), (Rect.unit (s := S32768x512) (k0_off350 v2358) S256x512.size hinb).WholeWords (EltTy.packing .bf16))
theorem k0_off350_inb : ∀ (v2358 : BitVec 32) (k0_hw176 : k0_chk176 v2358), ∀ a, (k0_off350 v2358) a + S256x512.size a ≤ S32768x512.size a := fun v2358 k0_hw176 => k0_hw176.1
theorem k0_off350_wordsbf16 : ∀ (v2358 : BitVec 32) (k0_hw176 : k0_chk176 v2358), (Rect.unit (s := S32768x512) (k0_off350 v2358) S256x512.size (k0_off350_inb v2358 k0_hw176)).WholeWords (EltTy.packing .bf16) := fun v2358 k0_hw176 => k0_hw176.2 (k0_off350_inb v2358 k0_hw176)

def k0_off351 (v4 : BitVec 32) : Fin 1 → Nat :=
  let c11_i32_2163 : BitVec 32 := 11#32
  let v2367 : BitVec 32 := Scalar.subi v4 c11_i32_2163
  let c32_i32_2164 : BitVec 32 := 32#32
  let v2368 : BitVec 32 := Scalar.addi v2367 c32_i32_2164
  let c32_i32_2165 : BitVec 32 := 32#32
  let v2369 : BitVec 32 := Scalar.remsi v2368 c32_i32_2165
  let v2370 : Index := Scalar.indexCast v2369
  ![v2370.toNat]
def k0_off352 (v2371 : BitVec 32) : Fin 2 → Nat :=
  let c1024_i32_2166 : BitVec 32 := 1024#32
  let v2372 : BitVec 32 := Scalar.muli v2371 c1024_i32_2166
  let c256_i32_2167 : BitVec 32 := 256#32
  let v2373 : BitVec 32 := Scalar.addi v2372 c256_i32_2167
  let c0_i32_2174 : BitVec 32 := 0#32
  ![v2373.toNat, 0]

def k0_chk177 (v2371 : BitVec 32) : Prop :=
  (∀ a, (k0_off352 v2371) a + S256x512.size a ≤ S32768x512.size a) ∧
  (∀ (hinb : ∀ a, (k0_off352 v2371) a + S256x512.size a ≤ S32768x512.size a), (Rect.unit (s := S32768x512) (k0_off352 v2371) S256x512.size hinb).WholeWords (EltTy.packing .bf16))
theorem k0_off352_inb : ∀ (v2371 : BitVec 32) (k0_hw177 : k0_chk177 v2371), ∀ a, (k0_off352 v2371) a + S256x512.size a ≤ S32768x512.size a := fun v2371 k0_hw177 => k0_hw177.1
theorem k0_off352_wordsbf16 : ∀ (v2371 : BitVec 32) (k0_hw177 : k0_chk177 v2371), (Rect.unit (s := S32768x512) (k0_off352 v2371) S256x512.size (k0_off352_inb v2371 k0_hw177)).WholeWords (EltTy.packing .bf16) := fun v2371 k0_hw177 => k0_hw177.2 (k0_off352_inb v2371 k0_hw177)

def k0_dev93 (v8 : BitVec 32) : Nat :=
  let c0_i32_2173 : BitVec 32 := 0#32
  let c1_i32_2172 : BitVec 32 := 1#32
  let v2374 : BitVec 32 := Scalar.muli v8 c1_i32_2172
  let v2375 : BitVec 32 := Scalar.addi c0_i32_2173 v2374
  v2375.toNat
def k0_off353 (v4 : BitVec 32) : Fin 1 → Nat :=
  let c10_i32_2176 : BitVec 32 := 10#32
  let v2382 : BitVec 32 := Scalar.addi v4 c10_i32_2176
  let c32_i32_2177 : BitVec 32 := 32#32
  let v2383 : BitVec 32 := Scalar.remsi v2382 c32_i32_2177
  let v2384 : Index := Scalar.indexCast v2383
  ![v2384.toNat]
def k0_off354 (v2385 : BitVec 32) : Fin 2 → Nat :=
  let c1024_i32_2178 : BitVec 32 := 1024#32
  let v2386 : BitVec 32 := Scalar.muli v2385 c1024_i32_2178
  let c256_i32_2179 : BitVec 32 := 256#32
  let v2387 : BitVec 32 := Scalar.addi v2386 c256_i32_2179
  let c0_i32_2186 : BitVec 32 := 0#32
  ![v2387.toNat, 0]

def k0_chk178 (v2385 : BitVec 32) : Prop :=
  (∀ a, (k0_off354 v2385) a + S256x512.size a ≤ S32768x512.size a) ∧
  (∀ (hinb : ∀ a, (k0_off354 v2385) a + S256x512.size a ≤ S32768x512.size a), (Rect.unit (s := S32768x512) (k0_off354 v2385) S256x512.size hinb).WholeWords (EltTy.packing .bf16))
theorem k0_off354_inb : ∀ (v2385 : BitVec 32) (k0_hw178 : k0_chk178 v2385), ∀ a, (k0_off354 v2385) a + S256x512.size a ≤ S32768x512.size a := fun v2385 k0_hw178 => k0_hw178.1
theorem k0_off354_wordsbf16 : ∀ (v2385 : BitVec 32) (k0_hw178 : k0_chk178 v2385), (Rect.unit (s := S32768x512) (k0_off354 v2385) S256x512.size (k0_off354_inb v2385 k0_hw178)).WholeWords (EltTy.packing .bf16) := fun v2385 k0_hw178 => k0_hw178.2 (k0_off354_inb v2385 k0_hw178)

def k0_off355 (v4 : BitVec 32) : Fin 1 → Nat :=
  let c11_i32_2188 : BitVec 32 := 11#32
  let v2394 : BitVec 32 := Scalar.addi v4 c11_i32_2188
  let c32_i32_2189 : BitVec 32 := 32#32
  let v2395 : BitVec 32 := Scalar.remsi v2394 c32_i32_2189
  let v2396 : Index := Scalar.indexCast v2395
  ![v2396.toNat]
def k0_off356 (v2397 : BitVec 32) : Fin 2 → Nat :=
  let c1024_i32_2190 : BitVec 32 := 1024#32
  let v2398 : BitVec 32 := Scalar.muli v2397 c1024_i32_2190
  let c256_i32_2191 : BitVec 32 := 256#32
  let v2399 : BitVec 32 := Scalar.addi v2398 c256_i32_2191
  let c0_i32_2198 : BitVec 32 := 0#32
  ![v2399.toNat, 0]

def k0_chk179 (v2397 : BitVec 32) : Prop :=
  (∀ a, (k0_off356 v2397) a + S256x512.size a ≤ S32768x512.size a) ∧
  (∀ (hinb : ∀ a, (k0_off356 v2397) a + S256x512.size a ≤ S32768x512.size a), (Rect.unit (s := S32768x512) (k0_off356 v2397) S256x512.size hinb).WholeWords (EltTy.packing .bf16))
theorem k0_off356_inb : ∀ (v2397 : BitVec 32) (k0_hw179 : k0_chk179 v2397), ∀ a, (k0_off356 v2397) a + S256x512.size a ≤ S32768x512.size a := fun v2397 k0_hw179 => k0_hw179.1
theorem k0_off356_wordsbf16 : ∀ (v2397 : BitVec 32) (k0_hw179 : k0_chk179 v2397), (Rect.unit (s := S32768x512) (k0_off356 v2397) S256x512.size (k0_off356_inb v2397 k0_hw179)).WholeWords (EltTy.packing .bf16) := fun v2397 k0_hw179 => k0_hw179.2 (k0_off356_inb v2397 k0_hw179)

def k0_dev94 (v13 : BitVec 32) : Nat :=
  let c0_i32_2197 : BitVec 32 := 0#32
  let c1_i32_2196 : BitVec 32 := 1#32
  let v2400 : BitVec 32 := Scalar.muli v13 c1_i32_2196
  let v2401 : BitVec 32 := Scalar.addi c0_i32_2197 v2400
  v2401.toNat
def k0_off357 (v4 : BitVec 32) : Fin 1 → Nat :=
  let c10_i32_2200 : BitVec 32 := 10#32
  let v2408 : BitVec 32 := Scalar.subi v4 c10_i32_2200
  let c32_i32_2201 : BitVec 32 := 32#32
  let v2409 : BitVec 32 := Scalar.addi v2408 c32_i32_2201
  let c32_i32_2202 : BitVec 32 := 32#32
  let v2410 : BitVec 32 := Scalar.remsi v2409 c32_i32_2202
  let v2411 : Index := Scalar.indexCast v2410
  ![v2411.toNat]
def k0_off358 (v2412 : BitVec 32) : Fin 2 → Nat :=
  let c1024_i32_2203 : BitVec 32 := 1024#32
  let v2413 : BitVec 32 := Scalar.muli v2412 c1024_i32_2203
  let c512_i32_2204 : BitVec 32 := 512#32
  let v2414 : BitVec 32 := Scalar.addi v2413 c512_i32_2204
  let c0_i32_2211 : BitVec 32 := 0#32
  ![v2414.toNat, 0]

def k0_chk180 (v2412 : BitVec 32) : Prop :=
  (∀ a, (k0_off358 v2412) a + S256x512.size a ≤ S32768x512.size a) ∧
  (∀ (hinb : ∀ a, (k0_off358 v2412) a + S256x512.size a ≤ S32768x512.size a), (Rect.unit (s := S32768x512) (k0_off358 v2412) S256x512.size hinb).WholeWords (EltTy.packing .bf16))
theorem k0_off358_inb : ∀ (v2412 : BitVec 32) (k0_hw180 : k0_chk180 v2412), ∀ a, (k0_off358 v2412) a + S256x512.size a ≤ S32768x512.size a := fun v2412 k0_hw180 => k0_hw180.1
theorem k0_off358_wordsbf16 : ∀ (v2412 : BitVec 32) (k0_hw180 : k0_chk180 v2412), (Rect.unit (s := S32768x512) (k0_off358 v2412) S256x512.size (k0_off358_inb v2412 k0_hw180)).WholeWords (EltTy.packing .bf16) := fun v2412 k0_hw180 => k0_hw180.2 (k0_off358_inb v2412 k0_hw180)

def k0_off359 (v4 : BitVec 32) : Fin 1 → Nat :=
  let c11_i32_2213 : BitVec 32 := 11#32
  let v2421 : BitVec 32 := Scalar.subi v4 c11_i32_2213
  let c32_i32_2214 : BitVec 32 := 32#32
  let v2422 : BitVec 32 := Scalar.addi v2421 c32_i32_2214
  let c32_i32_2215 : BitVec 32 := 32#32
  let v2423 : BitVec 32 := Scalar.remsi v2422 c32_i32_2215
  let v2424 : Index := Scalar.indexCast v2423
  ![v2424.toNat]
def k0_off360 (v2425 : BitVec 32) : Fin 2 → Nat :=
  let c1024_i32_2216 : BitVec 32 := 1024#32
  let v2426 : BitVec 32 := Scalar.muli v2425 c1024_i32_2216
  let c512_i32_2217 : BitVec 32 := 512#32
  let v2427 : BitVec 32 := Scalar.addi v2426 c512_i32_2217
  let c0_i32_2224 : BitVec 32 := 0#32
  ![v2427.toNat, 0]

def k0_chk181 (v2425 : BitVec 32) : Prop :=
  (∀ a, (k0_off360 v2425) a + S256x512.size a ≤ S32768x512.size a) ∧
  (∀ (hinb : ∀ a, (k0_off360 v2425) a + S256x512.size a ≤ S32768x512.size a), (Rect.unit (s := S32768x512) (k0_off360 v2425) S256x512.size hinb).WholeWords (EltTy.packing .bf16))
theorem k0_off360_inb : ∀ (v2425 : BitVec 32) (k0_hw181 : k0_chk181 v2425), ∀ a, (k0_off360 v2425) a + S256x512.size a ≤ S32768x512.size a := fun v2425 k0_hw181 => k0_hw181.1
theorem k0_off360_wordsbf16 : ∀ (v2425 : BitVec 32) (k0_hw181 : k0_chk181 v2425), (Rect.unit (s := S32768x512) (k0_off360 v2425) S256x512.size (k0_off360_inb v2425 k0_hw181)).WholeWords (EltTy.packing .bf16) := fun v2425 k0_hw181 => k0_hw181.2 (k0_off360_inb v2425 k0_hw181)

def k0_dev95 (v8 : BitVec 32) : Nat :=
  let c0_i32_2223 : BitVec 32 := 0#32
  let c1_i32_2222 : BitVec 32 := 1#32
  let v2428 : BitVec 32 := Scalar.muli v8 c1_i32_2222
  let v2429 : BitVec 32 := Scalar.addi c0_i32_2223 v2428
  v2429.toNat
def k0_off361 (v4 : BitVec 32) : Fin 1 → Nat :=
  let c10_i32_2226 : BitVec 32 := 10#32
  let v2436 : BitVec 32 := Scalar.addi v4 c10_i32_2226
  let c32_i32_2227 : BitVec 32 := 32#32
  let v2437 : BitVec 32 := Scalar.remsi v2436 c32_i32_2227
  let v2438 : Index := Scalar.indexCast v2437
  ![v2438.toNat]
def k0_off362 (v2439 : BitVec 32) : Fin 2 → Nat :=
  let c1024_i32_2228 : BitVec 32 := 1024#32
  let v2440 : BitVec 32 := Scalar.muli v2439 c1024_i32_2228
  let c512_i32_2229 : BitVec 32 := 512#32
  let v2441 : BitVec 32 := Scalar.addi v2440 c512_i32_2229
  let c0_i32_2236 : BitVec 32 := 0#32
  ![v2441.toNat, 0]

def k0_chk182 (v2439 : BitVec 32) : Prop :=
  (∀ a, (k0_off362 v2439) a + S256x512.size a ≤ S32768x512.size a) ∧
  (∀ (hinb : ∀ a, (k0_off362 v2439) a + S256x512.size a ≤ S32768x512.size a), (Rect.unit (s := S32768x512) (k0_off362 v2439) S256x512.size hinb).WholeWords (EltTy.packing .bf16))
theorem k0_off362_inb : ∀ (v2439 : BitVec 32) (k0_hw182 : k0_chk182 v2439), ∀ a, (k0_off362 v2439) a + S256x512.size a ≤ S32768x512.size a := fun v2439 k0_hw182 => k0_hw182.1
theorem k0_off362_wordsbf16 : ∀ (v2439 : BitVec 32) (k0_hw182 : k0_chk182 v2439), (Rect.unit (s := S32768x512) (k0_off362 v2439) S256x512.size (k0_off362_inb v2439 k0_hw182)).WholeWords (EltTy.packing .bf16) := fun v2439 k0_hw182 => k0_hw182.2 (k0_off362_inb v2439 k0_hw182)

def k0_off363 (v4 : BitVec 32) : Fin 1 → Nat :=
  let c11_i32_2238 : BitVec 32 := 11#32
  let v2448 : BitVec 32 := Scalar.addi v4 c11_i32_2238
  let c32_i32_2239 : BitVec 32 := 32#32
  let v2449 : BitVec 32 := Scalar.remsi v2448 c32_i32_2239
  let v2450 : Index := Scalar.indexCast v2449
  ![v2450.toNat]
def k0_off364 (v2451 : BitVec 32) : Fin 2 → Nat :=
  let c1024_i32_2240 : BitVec 32 := 1024#32
  let v2452 : BitVec 32 := Scalar.muli v2451 c1024_i32_2240
  let c512_i32_2241 : BitVec 32 := 512#32
  let v2453 : BitVec 32 := Scalar.addi v2452 c512_i32_2241
  let c0_i32_2248 : BitVec 32 := 0#32
  ![v2453.toNat, 0]

def k0_chk183 (v2451 : BitVec 32) : Prop :=
  (∀ a, (k0_off364 v2451) a + S256x512.size a ≤ S32768x512.size a) ∧
  (∀ (hinb : ∀ a, (k0_off364 v2451) a + S256x512.size a ≤ S32768x512.size a), (Rect.unit (s := S32768x512) (k0_off364 v2451) S256x512.size hinb).WholeWords (EltTy.packing .bf16))
theorem k0_off364_inb : ∀ (v2451 : BitVec 32) (k0_hw183 : k0_chk183 v2451), ∀ a, (k0_off364 v2451) a + S256x512.size a ≤ S32768x512.size a := fun v2451 k0_hw183 => k0_hw183.1
theorem k0_off364_wordsbf16 : ∀ (v2451 : BitVec 32) (k0_hw183 : k0_chk183 v2451), (Rect.unit (s := S32768x512) (k0_off364 v2451) S256x512.size (k0_off364_inb v2451 k0_hw183)).WholeWords (EltTy.packing .bf16) := fun v2451 k0_hw183 => k0_hw183.2 (k0_off364_inb v2451 k0_hw183)

def k0_dev96 (v13 : BitVec 32) : Nat :=
  let c0_i32_2247 : BitVec 32 := 0#32
  let c1_i32_2246 : BitVec 32 := 1#32
  let v2454 : BitVec 32 := Scalar.muli v13 c1_i32_2246
  let v2455 : BitVec 32 := Scalar.addi c0_i32_2247 v2454
  v2455.toNat
def k0_off365 (v4 : BitVec 32) : Fin 1 → Nat :=
  let c10_i32_2250 : BitVec 32 := 10#32
  let v2462 : BitVec 32 := Scalar.subi v4 c10_i32_2250
  let c32_i32_2251 : BitVec 32 := 32#32
  let v2463 : BitVec 32 := Scalar.addi v2462 c32_i32_2251
  let c32_i32_2252 : BitVec 32 := 32#32
  let v2464 : BitVec 32 := Scalar.remsi v2463 c32_i32_2252
  let v2465 : Index := Scalar.indexCast v2464
  ![v2465.toNat]
def k0_off366 (v2466 : BitVec 32) : Fin 2 → Nat :=
  let c1024_i32_2253 : BitVec 32 := 1024#32
  let v2467 : BitVec 32 := Scalar.muli v2466 c1024_i32_2253
  let c768_i32_2254 : BitVec 32 := 768#32
  let v2468 : BitVec 32 := Scalar.addi v2467 c768_i32_2254
  let c0_i32_2261 : BitVec 32 := 0#32
  ![v2468.toNat, 0]

def k0_chk184 (v2466 : BitVec 32) : Prop :=
  (∀ a, (k0_off366 v2466) a + S256x512.size a ≤ S32768x512.size a) ∧
  (∀ (hinb : ∀ a, (k0_off366 v2466) a + S256x512.size a ≤ S32768x512.size a), (Rect.unit (s := S32768x512) (k0_off366 v2466) S256x512.size hinb).WholeWords (EltTy.packing .bf16))
theorem k0_off366_inb : ∀ (v2466 : BitVec 32) (k0_hw184 : k0_chk184 v2466), ∀ a, (k0_off366 v2466) a + S256x512.size a ≤ S32768x512.size a := fun v2466 k0_hw184 => k0_hw184.1
theorem k0_off366_wordsbf16 : ∀ (v2466 : BitVec 32) (k0_hw184 : k0_chk184 v2466), (Rect.unit (s := S32768x512) (k0_off366 v2466) S256x512.size (k0_off366_inb v2466 k0_hw184)).WholeWords (EltTy.packing .bf16) := fun v2466 k0_hw184 => k0_hw184.2 (k0_off366_inb v2466 k0_hw184)

def k0_off367 (v4 : BitVec 32) : Fin 1 → Nat :=
  let c11_i32_2263 : BitVec 32 := 11#32
  let v2475 : BitVec 32 := Scalar.subi v4 c11_i32_2263
  let c32_i32_2264 : BitVec 32 := 32#32
  let v2476 : BitVec 32 := Scalar.addi v2475 c32_i32_2264
  let c32_i32_2265 : BitVec 32 := 32#32
  let v2477 : BitVec 32 := Scalar.remsi v2476 c32_i32_2265
  let v2478 : Index := Scalar.indexCast v2477
  ![v2478.toNat]
def k0_off368 (v2479 : BitVec 32) : Fin 2 → Nat :=
  let c1024_i32_2266 : BitVec 32 := 1024#32
  let v2480 : BitVec 32 := Scalar.muli v2479 c1024_i32_2266
  let c768_i32_2267 : BitVec 32 := 768#32
  let v2481 : BitVec 32 := Scalar.addi v2480 c768_i32_2267
  let c0_i32_2274 : BitVec 32 := 0#32
  ![v2481.toNat, 0]

def k0_chk185 (v2479 : BitVec 32) : Prop :=
  (∀ a, (k0_off368 v2479) a + S256x512.size a ≤ S32768x512.size a) ∧
  (∀ (hinb : ∀ a, (k0_off368 v2479) a + S256x512.size a ≤ S32768x512.size a), (Rect.unit (s := S32768x512) (k0_off368 v2479) S256x512.size hinb).WholeWords (EltTy.packing .bf16))
theorem k0_off368_inb : ∀ (v2479 : BitVec 32) (k0_hw185 : k0_chk185 v2479), ∀ a, (k0_off368 v2479) a + S256x512.size a ≤ S32768x512.size a := fun v2479 k0_hw185 => k0_hw185.1
theorem k0_off368_wordsbf16 : ∀ (v2479 : BitVec 32) (k0_hw185 : k0_chk185 v2479), (Rect.unit (s := S32768x512) (k0_off368 v2479) S256x512.size (k0_off368_inb v2479 k0_hw185)).WholeWords (EltTy.packing .bf16) := fun v2479 k0_hw185 => k0_hw185.2 (k0_off368_inb v2479 k0_hw185)

def k0_dev97 (v8 : BitVec 32) : Nat :=
  let c0_i32_2273 : BitVec 32 := 0#32
  let c1_i32_2272 : BitVec 32 := 1#32
  let v2482 : BitVec 32 := Scalar.muli v8 c1_i32_2272
  let v2483 : BitVec 32 := Scalar.addi c0_i32_2273 v2482
  v2483.toNat
def k0_off369 (v4 : BitVec 32) : Fin 1 → Nat :=
  let c10_i32_2276 : BitVec 32 := 10#32
  let v2490 : BitVec 32 := Scalar.addi v4 c10_i32_2276
  let c32_i32_2277 : BitVec 32 := 32#32
  let v2491 : BitVec 32 := Scalar.remsi v2490 c32_i32_2277
  let v2492 : Index := Scalar.indexCast v2491
  ![v2492.toNat]
def k0_off370 (v2493 : BitVec 32) : Fin 2 → Nat :=
  let c1024_i32_2278 : BitVec 32 := 1024#32
  let v2494 : BitVec 32 := Scalar.muli v2493 c1024_i32_2278
  let c768_i32_2279 : BitVec 32 := 768#32
  let v2495 : BitVec 32 := Scalar.addi v2494 c768_i32_2279
  let c0_i32_2286 : BitVec 32 := 0#32
  ![v2495.toNat, 0]

def k0_chk186 (v2493 : BitVec 32) : Prop :=
  (∀ a, (k0_off370 v2493) a + S256x512.size a ≤ S32768x512.size a) ∧
  (∀ (hinb : ∀ a, (k0_off370 v2493) a + S256x512.size a ≤ S32768x512.size a), (Rect.unit (s := S32768x512) (k0_off370 v2493) S256x512.size hinb).WholeWords (EltTy.packing .bf16))
theorem k0_off370_inb : ∀ (v2493 : BitVec 32) (k0_hw186 : k0_chk186 v2493), ∀ a, (k0_off370 v2493) a + S256x512.size a ≤ S32768x512.size a := fun v2493 k0_hw186 => k0_hw186.1
theorem k0_off370_wordsbf16 : ∀ (v2493 : BitVec 32) (k0_hw186 : k0_chk186 v2493), (Rect.unit (s := S32768x512) (k0_off370 v2493) S256x512.size (k0_off370_inb v2493 k0_hw186)).WholeWords (EltTy.packing .bf16) := fun v2493 k0_hw186 => k0_hw186.2 (k0_off370_inb v2493 k0_hw186)

def k0_off371 (v4 : BitVec 32) : Fin 1 → Nat :=
  let c11_i32_2288 : BitVec 32 := 11#32
  let v2502 : BitVec 32 := Scalar.addi v4 c11_i32_2288
  let c32_i32_2289 : BitVec 32 := 32#32
  let v2503 : BitVec 32 := Scalar.remsi v2502 c32_i32_2289
  let v2504 : Index := Scalar.indexCast v2503
  ![v2504.toNat]
def k0_off372 (v2505 : BitVec 32) : Fin 2 → Nat :=
  let c1024_i32_2290 : BitVec 32 := 1024#32
  let v2506 : BitVec 32 := Scalar.muli v2505 c1024_i32_2290
  let c768_i32_2291 : BitVec 32 := 768#32
  let v2507 : BitVec 32 := Scalar.addi v2506 c768_i32_2291
  let c0_i32_2298 : BitVec 32 := 0#32
  ![v2507.toNat, 0]

def k0_chk187 (v2505 : BitVec 32) : Prop :=
  (∀ a, (k0_off372 v2505) a + S256x512.size a ≤ S32768x512.size a) ∧
  (∀ (hinb : ∀ a, (k0_off372 v2505) a + S256x512.size a ≤ S32768x512.size a), (Rect.unit (s := S32768x512) (k0_off372 v2505) S256x512.size hinb).WholeWords (EltTy.packing .bf16))
theorem k0_off372_inb : ∀ (v2505 : BitVec 32) (k0_hw187 : k0_chk187 v2505), ∀ a, (k0_off372 v2505) a + S256x512.size a ≤ S32768x512.size a := fun v2505 k0_hw187 => k0_hw187.1
theorem k0_off372_wordsbf16 : ∀ (v2505 : BitVec 32) (k0_hw187 : k0_chk187 v2505), (Rect.unit (s := S32768x512) (k0_off372 v2505) S256x512.size (k0_off372_inb v2505 k0_hw187)).WholeWords (EltTy.packing .bf16) := fun v2505 k0_hw187 => k0_hw187.2 (k0_off372_inb v2505 k0_hw187)

def k0_dev98 (v13 : BitVec 32) : Nat :=
  let c0_i32_2297 : BitVec 32 := 0#32
  let c1_i32_2296 : BitVec 32 := 1#32
  let v2508 : BitVec 32 := Scalar.muli v13 c1_i32_2296
  let v2509 : BitVec 32 := Scalar.addi c0_i32_2297 v2508
  v2509.toNat
def k0_off373 (v4 : BitVec 32) : Fin 1 → Nat :=
  let c11_i32_2300 : BitVec 32 := 11#32
  let v2516 : BitVec 32 := Scalar.subi v4 c11_i32_2300
  let c32_i32_2301 : BitVec 32 := 32#32
  let v2517 : BitVec 32 := Scalar.addi v2516 c32_i32_2301
  let c32_i32_2302 : BitVec 32 := 32#32
  let v2518 : BitVec 32 := Scalar.remsi v2517 c32_i32_2302
  let v2519 : Index := Scalar.indexCast v2518
  ![v2519.toNat]
def k0_off374 (v2520 : BitVec 32) : Fin 2 → Nat :=
  let c1024_i32_2303 : BitVec 32 := 1024#32
  let v2521 : BitVec 32 := Scalar.muli v2520 c1024_i32_2303
  let c0_i32_2304 : BitVec 32 := 0#32
  let v2522 : BitVec 32 := Scalar.addi v2521 c0_i32_2304
  let c0_i32_2311 : BitVec 32 := 0#32
  ![v2522.toNat, 0]

def k0_chk188 (v2520 : BitVec 32) : Prop :=
  (∀ a, (k0_off374 v2520) a + S256x512.size a ≤ S32768x512.size a) ∧
  (∀ (hinb : ∀ a, (k0_off374 v2520) a + S256x512.size a ≤ S32768x512.size a), (Rect.unit (s := S32768x512) (k0_off374 v2520) S256x512.size hinb).WholeWords (EltTy.packing .bf16))
theorem k0_off374_inb : ∀ (v2520 : BitVec 32) (k0_hw188 : k0_chk188 v2520), ∀ a, (k0_off374 v2520) a + S256x512.size a ≤ S32768x512.size a := fun v2520 k0_hw188 => k0_hw188.1
theorem k0_off374_wordsbf16 : ∀ (v2520 : BitVec 32) (k0_hw188 : k0_chk188 v2520), (Rect.unit (s := S32768x512) (k0_off374 v2520) S256x512.size (k0_off374_inb v2520 k0_hw188)).WholeWords (EltTy.packing .bf16) := fun v2520 k0_hw188 => k0_hw188.2 (k0_off374_inb v2520 k0_hw188)

def k0_off375 (v4 : BitVec 32) : Fin 1 → Nat :=
  let c12_i32 : BitVec 32 := 12#32
  let v2529 : BitVec 32 := Scalar.subi v4 c12_i32
  let c32_i32_2313 : BitVec 32 := 32#32
  let v2530 : BitVec 32 := Scalar.addi v2529 c32_i32_2313
  let c32_i32_2314 : BitVec 32 := 32#32
  let v2531 : BitVec 32 := Scalar.remsi v2530 c32_i32_2314
  let v2532 : Index := Scalar.indexCast v2531
  ![v2532.toNat]
def k0_off376 (v2533 : BitVec 32) : Fin 2 → Nat :=
  let c1024_i32_2315 : BitVec 32 := 1024#32
  let v2534 : BitVec 32 := Scalar.muli v2533 c1024_i32_2315
  let c0_i32_2316 : BitVec 32 := 0#32
  let v2535 : BitVec 32 := Scalar.addi v2534 c0_i32_2316
  let c0_i32_2323 : BitVec 32 := 0#32
  ![v2535.toNat, 0]

def k0_chk189 (v2533 : BitVec 32) : Prop :=
  (∀ a, (k0_off376 v2533) a + S256x512.size a ≤ S32768x512.size a) ∧
  (∀ (hinb : ∀ a, (k0_off376 v2533) a + S256x512.size a ≤ S32768x512.size a), (Rect.unit (s := S32768x512) (k0_off376 v2533) S256x512.size hinb).WholeWords (EltTy.packing .bf16))
theorem k0_off376_inb : ∀ (v2533 : BitVec 32) (k0_hw189 : k0_chk189 v2533), ∀ a, (k0_off376 v2533) a + S256x512.size a ≤ S32768x512.size a := fun v2533 k0_hw189 => k0_hw189.1
theorem k0_off376_wordsbf16 : ∀ (v2533 : BitVec 32) (k0_hw189 : k0_chk189 v2533), (Rect.unit (s := S32768x512) (k0_off376 v2533) S256x512.size (k0_off376_inb v2533 k0_hw189)).WholeWords (EltTy.packing .bf16) := fun v2533 k0_hw189 => k0_hw189.2 (k0_off376_inb v2533 k0_hw189)

def k0_dev99 (v8 : BitVec 32) : Nat :=
  let c0_i32_2322 : BitVec 32 := 0#32
  let c1_i32_2321 : BitVec 32 := 1#32
  let v2536 : BitVec 32 := Scalar.muli v8 c1_i32_2321
  let v2537 : BitVec 32 := Scalar.addi c0_i32_2322 v2536
  v2537.toNat
def k0_off377 (v4 : BitVec 32) : Fin 1 → Nat :=
  let c11_i32_2325 : BitVec 32 := 11#32
  let v2544 : BitVec 32 := Scalar.addi v4 c11_i32_2325
  let c32_i32_2326 : BitVec 32 := 32#32
  let v2545 : BitVec 32 := Scalar.remsi v2544 c32_i32_2326
  let v2546 : Index := Scalar.indexCast v2545
  ![v2546.toNat]
def k0_off378 (v2547 : BitVec 32) : Fin 2 → Nat :=
  let c1024_i32_2327 : BitVec 32 := 1024#32
  let v2548 : BitVec 32 := Scalar.muli v2547 c1024_i32_2327
  let c0_i32_2328 : BitVec 32 := 0#32
  let v2549 : BitVec 32 := Scalar.addi v2548 c0_i32_2328
  let c0_i32_2335 : BitVec 32 := 0#32
  ![v2549.toNat, 0]

def k0_chk190 (v2547 : BitVec 32) : Prop :=
  (∀ a, (k0_off378 v2547) a + S256x512.size a ≤ S32768x512.size a) ∧
  (∀ (hinb : ∀ a, (k0_off378 v2547) a + S256x512.size a ≤ S32768x512.size a), (Rect.unit (s := S32768x512) (k0_off378 v2547) S256x512.size hinb).WholeWords (EltTy.packing .bf16))
theorem k0_off378_inb : ∀ (v2547 : BitVec 32) (k0_hw190 : k0_chk190 v2547), ∀ a, (k0_off378 v2547) a + S256x512.size a ≤ S32768x512.size a := fun v2547 k0_hw190 => k0_hw190.1
theorem k0_off378_wordsbf16 : ∀ (v2547 : BitVec 32) (k0_hw190 : k0_chk190 v2547), (Rect.unit (s := S32768x512) (k0_off378 v2547) S256x512.size (k0_off378_inb v2547 k0_hw190)).WholeWords (EltTy.packing .bf16) := fun v2547 k0_hw190 => k0_hw190.2 (k0_off378_inb v2547 k0_hw190)

def k0_off379 (v4 : BitVec 32) : Fin 1 → Nat :=
  let c12_i32_2337 : BitVec 32 := 12#32
  let v2556 : BitVec 32 := Scalar.addi v4 c12_i32_2337
  let c32_i32_2338 : BitVec 32 := 32#32
  let v2557 : BitVec 32 := Scalar.remsi v2556 c32_i32_2338
  let v2558 : Index := Scalar.indexCast v2557
  ![v2558.toNat]
def k0_off380 (v2559 : BitVec 32) : Fin 2 → Nat :=
  let c1024_i32_2339 : BitVec 32 := 1024#32
  let v2560 : BitVec 32 := Scalar.muli v2559 c1024_i32_2339
  let c0_i32_2340 : BitVec 32 := 0#32
  let v2561 : BitVec 32 := Scalar.addi v2560 c0_i32_2340
  let c0_i32_2347 : BitVec 32 := 0#32
  ![v2561.toNat, 0]

def k0_chk191 (v2559 : BitVec 32) : Prop :=
  (∀ a, (k0_off380 v2559) a + S256x512.size a ≤ S32768x512.size a) ∧
  (∀ (hinb : ∀ a, (k0_off380 v2559) a + S256x512.size a ≤ S32768x512.size a), (Rect.unit (s := S32768x512) (k0_off380 v2559) S256x512.size hinb).WholeWords (EltTy.packing .bf16))
theorem k0_off380_inb : ∀ (v2559 : BitVec 32) (k0_hw191 : k0_chk191 v2559), ∀ a, (k0_off380 v2559) a + S256x512.size a ≤ S32768x512.size a := fun v2559 k0_hw191 => k0_hw191.1
theorem k0_off380_wordsbf16 : ∀ (v2559 : BitVec 32) (k0_hw191 : k0_chk191 v2559), (Rect.unit (s := S32768x512) (k0_off380 v2559) S256x512.size (k0_off380_inb v2559 k0_hw191)).WholeWords (EltTy.packing .bf16) := fun v2559 k0_hw191 => k0_hw191.2 (k0_off380_inb v2559 k0_hw191)

def k0_dev100 (v13 : BitVec 32) : Nat :=
  let c0_i32_2346 : BitVec 32 := 0#32
  let c1_i32_2345 : BitVec 32 := 1#32
  let v2562 : BitVec 32 := Scalar.muli v13 c1_i32_2345
  let v2563 : BitVec 32 := Scalar.addi c0_i32_2346 v2562
  v2563.toNat
def k0_off381 (v4 : BitVec 32) : Fin 1 → Nat :=
  let c11_i32_2349 : BitVec 32 := 11#32
  let v2570 : BitVec 32 := Scalar.subi v4 c11_i32_2349
  let c32_i32_2350 : BitVec 32 := 32#32
  let v2571 : BitVec 32 := Scalar.addi v2570 c32_i32_2350
  let c32_i32_2351 : BitVec 32 := 32#32
  let v2572 : BitVec 32 := Scalar.remsi v2571 c32_i32_2351
  let v2573 : Index := Scalar.indexCast v2572
  ![v2573.toNat]
def k0_off382 (v2574 : BitVec 32) : Fin 2 → Nat :=
  let c1024_i32_2352 : BitVec 32 := 1024#32
  let v2575 : BitVec 32 := Scalar.muli v2574 c1024_i32_2352
  let c256_i32_2353 : BitVec 32 := 256#32
  let v2576 : BitVec 32 := Scalar.addi v2575 c256_i32_2353
  let c0_i32_2360 : BitVec 32 := 0#32
  ![v2576.toNat, 0]

def k0_chk192 (v2574 : BitVec 32) : Prop :=
  (∀ a, (k0_off382 v2574) a + S256x512.size a ≤ S32768x512.size a) ∧
  (∀ (hinb : ∀ a, (k0_off382 v2574) a + S256x512.size a ≤ S32768x512.size a), (Rect.unit (s := S32768x512) (k0_off382 v2574) S256x512.size hinb).WholeWords (EltTy.packing .bf16))
theorem k0_off382_inb : ∀ (v2574 : BitVec 32) (k0_hw192 : k0_chk192 v2574), ∀ a, (k0_off382 v2574) a + S256x512.size a ≤ S32768x512.size a := fun v2574 k0_hw192 => k0_hw192.1
theorem k0_off382_wordsbf16 : ∀ (v2574 : BitVec 32) (k0_hw192 : k0_chk192 v2574), (Rect.unit (s := S32768x512) (k0_off382 v2574) S256x512.size (k0_off382_inb v2574 k0_hw192)).WholeWords (EltTy.packing .bf16) := fun v2574 k0_hw192 => k0_hw192.2 (k0_off382_inb v2574 k0_hw192)

def k0_off383 (v4 : BitVec 32) : Fin 1 → Nat :=
  let c12_i32_2362 : BitVec 32 := 12#32
  let v2583 : BitVec 32 := Scalar.subi v4 c12_i32_2362
  let c32_i32_2363 : BitVec 32 := 32#32
  let v2584 : BitVec 32 := Scalar.addi v2583 c32_i32_2363
  let c32_i32_2364 : BitVec 32 := 32#32
  let v2585 : BitVec 32 := Scalar.remsi v2584 c32_i32_2364
  let v2586 : Index := Scalar.indexCast v2585
  ![v2586.toNat]
def k0_off384 (v2587 : BitVec 32) : Fin 2 → Nat :=
  let c1024_i32_2365 : BitVec 32 := 1024#32
  let v2588 : BitVec 32 := Scalar.muli v2587 c1024_i32_2365
  let c256_i32_2366 : BitVec 32 := 256#32
  let v2589 : BitVec 32 := Scalar.addi v2588 c256_i32_2366
  let c0_i32_2373 : BitVec 32 := 0#32
  ![v2589.toNat, 0]

def k0_chk193 (v2587 : BitVec 32) : Prop :=
  (∀ a, (k0_off384 v2587) a + S256x512.size a ≤ S32768x512.size a) ∧
  (∀ (hinb : ∀ a, (k0_off384 v2587) a + S256x512.size a ≤ S32768x512.size a), (Rect.unit (s := S32768x512) (k0_off384 v2587) S256x512.size hinb).WholeWords (EltTy.packing .bf16))
theorem k0_off384_inb : ∀ (v2587 : BitVec 32) (k0_hw193 : k0_chk193 v2587), ∀ a, (k0_off384 v2587) a + S256x512.size a ≤ S32768x512.size a := fun v2587 k0_hw193 => k0_hw193.1
theorem k0_off384_wordsbf16 : ∀ (v2587 : BitVec 32) (k0_hw193 : k0_chk193 v2587), (Rect.unit (s := S32768x512) (k0_off384 v2587) S256x512.size (k0_off384_inb v2587 k0_hw193)).WholeWords (EltTy.packing .bf16) := fun v2587 k0_hw193 => k0_hw193.2 (k0_off384_inb v2587 k0_hw193)

def k0_dev101 (v8 : BitVec 32) : Nat :=
  let c0_i32_2372 : BitVec 32 := 0#32
  let c1_i32_2371 : BitVec 32 := 1#32
  let v2590 : BitVec 32 := Scalar.muli v8 c1_i32_2371
  let v2591 : BitVec 32 := Scalar.addi c0_i32_2372 v2590
  v2591.toNat
def k0_off385 (v4 : BitVec 32) : Fin 1 → Nat :=
  let c11_i32_2375 : BitVec 32 := 11#32
  let v2598 : BitVec 32 := Scalar.addi v4 c11_i32_2375
  let c32_i32_2376 : BitVec 32 := 32#32
  let v2599 : BitVec 32 := Scalar.remsi v2598 c32_i32_2376
  let v2600 : Index := Scalar.indexCast v2599
  ![v2600.toNat]
def k0_off386 (v2601 : BitVec 32) : Fin 2 → Nat :=
  let c1024_i32_2377 : BitVec 32 := 1024#32
  let v2602 : BitVec 32 := Scalar.muli v2601 c1024_i32_2377
  let c256_i32_2378 : BitVec 32 := 256#32
  let v2603 : BitVec 32 := Scalar.addi v2602 c256_i32_2378
  let c0_i32_2385 : BitVec 32 := 0#32
  ![v2603.toNat, 0]

def k0_chk194 (v2601 : BitVec 32) : Prop :=
  (∀ a, (k0_off386 v2601) a + S256x512.size a ≤ S32768x512.size a) ∧
  (∀ (hinb : ∀ a, (k0_off386 v2601) a + S256x512.size a ≤ S32768x512.size a), (Rect.unit (s := S32768x512) (k0_off386 v2601) S256x512.size hinb).WholeWords (EltTy.packing .bf16))
theorem k0_off386_inb : ∀ (v2601 : BitVec 32) (k0_hw194 : k0_chk194 v2601), ∀ a, (k0_off386 v2601) a + S256x512.size a ≤ S32768x512.size a := fun v2601 k0_hw194 => k0_hw194.1
theorem k0_off386_wordsbf16 : ∀ (v2601 : BitVec 32) (k0_hw194 : k0_chk194 v2601), (Rect.unit (s := S32768x512) (k0_off386 v2601) S256x512.size (k0_off386_inb v2601 k0_hw194)).WholeWords (EltTy.packing .bf16) := fun v2601 k0_hw194 => k0_hw194.2 (k0_off386_inb v2601 k0_hw194)

def k0_off387 (v4 : BitVec 32) : Fin 1 → Nat :=
  let c12_i32_2387 : BitVec 32 := 12#32
  let v2610 : BitVec 32 := Scalar.addi v4 c12_i32_2387
  let c32_i32_2388 : BitVec 32 := 32#32
  let v2611 : BitVec 32 := Scalar.remsi v2610 c32_i32_2388
  let v2612 : Index := Scalar.indexCast v2611
  ![v2612.toNat]
def k0_off388 (v2613 : BitVec 32) : Fin 2 → Nat :=
  let c1024_i32_2389 : BitVec 32 := 1024#32
  let v2614 : BitVec 32 := Scalar.muli v2613 c1024_i32_2389
  let c256_i32_2390 : BitVec 32 := 256#32
  let v2615 : BitVec 32 := Scalar.addi v2614 c256_i32_2390
  let c0_i32_2397 : BitVec 32 := 0#32
  ![v2615.toNat, 0]

def k0_chk195 (v2613 : BitVec 32) : Prop :=
  (∀ a, (k0_off388 v2613) a + S256x512.size a ≤ S32768x512.size a) ∧
  (∀ (hinb : ∀ a, (k0_off388 v2613) a + S256x512.size a ≤ S32768x512.size a), (Rect.unit (s := S32768x512) (k0_off388 v2613) S256x512.size hinb).WholeWords (EltTy.packing .bf16))
theorem k0_off388_inb : ∀ (v2613 : BitVec 32) (k0_hw195 : k0_chk195 v2613), ∀ a, (k0_off388 v2613) a + S256x512.size a ≤ S32768x512.size a := fun v2613 k0_hw195 => k0_hw195.1
theorem k0_off388_wordsbf16 : ∀ (v2613 : BitVec 32) (k0_hw195 : k0_chk195 v2613), (Rect.unit (s := S32768x512) (k0_off388 v2613) S256x512.size (k0_off388_inb v2613 k0_hw195)).WholeWords (EltTy.packing .bf16) := fun v2613 k0_hw195 => k0_hw195.2 (k0_off388_inb v2613 k0_hw195)

def k0_dev102 (v13 : BitVec 32) : Nat :=
  let c0_i32_2396 : BitVec 32 := 0#32
  let c1_i32_2395 : BitVec 32 := 1#32
  let v2616 : BitVec 32 := Scalar.muli v13 c1_i32_2395
  let v2617 : BitVec 32 := Scalar.addi c0_i32_2396 v2616
  v2617.toNat
def k0_off389 (v4 : BitVec 32) : Fin 1 → Nat :=
  let c11_i32_2399 : BitVec 32 := 11#32
  let v2624 : BitVec 32 := Scalar.subi v4 c11_i32_2399
  let c32_i32_2400 : BitVec 32 := 32#32
  let v2625 : BitVec 32 := Scalar.addi v2624 c32_i32_2400
  let c32_i32_2401 : BitVec 32 := 32#32
  let v2626 : BitVec 32 := Scalar.remsi v2625 c32_i32_2401
  let v2627 : Index := Scalar.indexCast v2626
  ![v2627.toNat]
def k0_off390 (v2628 : BitVec 32) : Fin 2 → Nat :=
  let c1024_i32_2402 : BitVec 32 := 1024#32
  let v2629 : BitVec 32 := Scalar.muli v2628 c1024_i32_2402
  let c512_i32_2403 : BitVec 32 := 512#32
  let v2630 : BitVec 32 := Scalar.addi v2629 c512_i32_2403
  let c0_i32_2410 : BitVec 32 := 0#32
  ![v2630.toNat, 0]

def k0_chk196 (v2628 : BitVec 32) : Prop :=
  (∀ a, (k0_off390 v2628) a + S256x512.size a ≤ S32768x512.size a) ∧
  (∀ (hinb : ∀ a, (k0_off390 v2628) a + S256x512.size a ≤ S32768x512.size a), (Rect.unit (s := S32768x512) (k0_off390 v2628) S256x512.size hinb).WholeWords (EltTy.packing .bf16))
theorem k0_off390_inb : ∀ (v2628 : BitVec 32) (k0_hw196 : k0_chk196 v2628), ∀ a, (k0_off390 v2628) a + S256x512.size a ≤ S32768x512.size a := fun v2628 k0_hw196 => k0_hw196.1
theorem k0_off390_wordsbf16 : ∀ (v2628 : BitVec 32) (k0_hw196 : k0_chk196 v2628), (Rect.unit (s := S32768x512) (k0_off390 v2628) S256x512.size (k0_off390_inb v2628 k0_hw196)).WholeWords (EltTy.packing .bf16) := fun v2628 k0_hw196 => k0_hw196.2 (k0_off390_inb v2628 k0_hw196)

def k0_off391 (v4 : BitVec 32) : Fin 1 → Nat :=
  let c12_i32_2412 : BitVec 32 := 12#32
  let v2637 : BitVec 32 := Scalar.subi v4 c12_i32_2412
  let c32_i32_2413 : BitVec 32 := 32#32
  let v2638 : BitVec 32 := Scalar.addi v2637 c32_i32_2413
  let c32_i32_2414 : BitVec 32 := 32#32
  let v2639 : BitVec 32 := Scalar.remsi v2638 c32_i32_2414
  let v2640 : Index := Scalar.indexCast v2639
  ![v2640.toNat]
def k0_off392 (v2641 : BitVec 32) : Fin 2 → Nat :=
  let c1024_i32_2415 : BitVec 32 := 1024#32
  let v2642 : BitVec 32 := Scalar.muli v2641 c1024_i32_2415
  let c512_i32_2416 : BitVec 32 := 512#32
  let v2643 : BitVec 32 := Scalar.addi v2642 c512_i32_2416
  let c0_i32_2423 : BitVec 32 := 0#32
  ![v2643.toNat, 0]

def k0_chk197 (v2641 : BitVec 32) : Prop :=
  (∀ a, (k0_off392 v2641) a + S256x512.size a ≤ S32768x512.size a) ∧
  (∀ (hinb : ∀ a, (k0_off392 v2641) a + S256x512.size a ≤ S32768x512.size a), (Rect.unit (s := S32768x512) (k0_off392 v2641) S256x512.size hinb).WholeWords (EltTy.packing .bf16))
theorem k0_off392_inb : ∀ (v2641 : BitVec 32) (k0_hw197 : k0_chk197 v2641), ∀ a, (k0_off392 v2641) a + S256x512.size a ≤ S32768x512.size a := fun v2641 k0_hw197 => k0_hw197.1
theorem k0_off392_wordsbf16 : ∀ (v2641 : BitVec 32) (k0_hw197 : k0_chk197 v2641), (Rect.unit (s := S32768x512) (k0_off392 v2641) S256x512.size (k0_off392_inb v2641 k0_hw197)).WholeWords (EltTy.packing .bf16) := fun v2641 k0_hw197 => k0_hw197.2 (k0_off392_inb v2641 k0_hw197)

def k0_dev103 (v8 : BitVec 32) : Nat :=
  let c0_i32_2422 : BitVec 32 := 0#32
  let c1_i32_2421 : BitVec 32 := 1#32
  let v2644 : BitVec 32 := Scalar.muli v8 c1_i32_2421
  let v2645 : BitVec 32 := Scalar.addi c0_i32_2422 v2644
  v2645.toNat
def k0_off393 (v4 : BitVec 32) : Fin 1 → Nat :=
  let c11_i32_2425 : BitVec 32 := 11#32
  let v2652 : BitVec 32 := Scalar.addi v4 c11_i32_2425
  let c32_i32_2426 : BitVec 32 := 32#32
  let v2653 : BitVec 32 := Scalar.remsi v2652 c32_i32_2426
  let v2654 : Index := Scalar.indexCast v2653
  ![v2654.toNat]
def k0_off394 (v2655 : BitVec 32) : Fin 2 → Nat :=
  let c1024_i32_2427 : BitVec 32 := 1024#32
  let v2656 : BitVec 32 := Scalar.muli v2655 c1024_i32_2427
  let c512_i32_2428 : BitVec 32 := 512#32
  let v2657 : BitVec 32 := Scalar.addi v2656 c512_i32_2428
  let c0_i32_2435 : BitVec 32 := 0#32
  ![v2657.toNat, 0]

def k0_chk198 (v2655 : BitVec 32) : Prop :=
  (∀ a, (k0_off394 v2655) a + S256x512.size a ≤ S32768x512.size a) ∧
  (∀ (hinb : ∀ a, (k0_off394 v2655) a + S256x512.size a ≤ S32768x512.size a), (Rect.unit (s := S32768x512) (k0_off394 v2655) S256x512.size hinb).WholeWords (EltTy.packing .bf16))
theorem k0_off394_inb : ∀ (v2655 : BitVec 32) (k0_hw198 : k0_chk198 v2655), ∀ a, (k0_off394 v2655) a + S256x512.size a ≤ S32768x512.size a := fun v2655 k0_hw198 => k0_hw198.1
theorem k0_off394_wordsbf16 : ∀ (v2655 : BitVec 32) (k0_hw198 : k0_chk198 v2655), (Rect.unit (s := S32768x512) (k0_off394 v2655) S256x512.size (k0_off394_inb v2655 k0_hw198)).WholeWords (EltTy.packing .bf16) := fun v2655 k0_hw198 => k0_hw198.2 (k0_off394_inb v2655 k0_hw198)

def k0_off395 (v4 : BitVec 32) : Fin 1 → Nat :=
  let c12_i32_2437 : BitVec 32 := 12#32
  let v2664 : BitVec 32 := Scalar.addi v4 c12_i32_2437
  let c32_i32_2438 : BitVec 32 := 32#32
  let v2665 : BitVec 32 := Scalar.remsi v2664 c32_i32_2438
  let v2666 : Index := Scalar.indexCast v2665
  ![v2666.toNat]
def k0_off396 (v2667 : BitVec 32) : Fin 2 → Nat :=
  let c1024_i32_2439 : BitVec 32 := 1024#32
  let v2668 : BitVec 32 := Scalar.muli v2667 c1024_i32_2439
  let c512_i32_2440 : BitVec 32 := 512#32
  let v2669 : BitVec 32 := Scalar.addi v2668 c512_i32_2440
  let c0_i32_2447 : BitVec 32 := 0#32
  ![v2669.toNat, 0]

def k0_chk199 (v2667 : BitVec 32) : Prop :=
  (∀ a, (k0_off396 v2667) a + S256x512.size a ≤ S32768x512.size a) ∧
  (∀ (hinb : ∀ a, (k0_off396 v2667) a + S256x512.size a ≤ S32768x512.size a), (Rect.unit (s := S32768x512) (k0_off396 v2667) S256x512.size hinb).WholeWords (EltTy.packing .bf16))
theorem k0_off396_inb : ∀ (v2667 : BitVec 32) (k0_hw199 : k0_chk199 v2667), ∀ a, (k0_off396 v2667) a + S256x512.size a ≤ S32768x512.size a := fun v2667 k0_hw199 => k0_hw199.1
theorem k0_off396_wordsbf16 : ∀ (v2667 : BitVec 32) (k0_hw199 : k0_chk199 v2667), (Rect.unit (s := S32768x512) (k0_off396 v2667) S256x512.size (k0_off396_inb v2667 k0_hw199)).WholeWords (EltTy.packing .bf16) := fun v2667 k0_hw199 => k0_hw199.2 (k0_off396_inb v2667 k0_hw199)

def k0_dev104 (v13 : BitVec 32) : Nat :=
  let c0_i32_2446 : BitVec 32 := 0#32
  let c1_i32_2445 : BitVec 32 := 1#32
  let v2670 : BitVec 32 := Scalar.muli v13 c1_i32_2445
  let v2671 : BitVec 32 := Scalar.addi c0_i32_2446 v2670
  v2671.toNat
def k0_off397 (v4 : BitVec 32) : Fin 1 → Nat :=
  let c11_i32_2449 : BitVec 32 := 11#32
  let v2678 : BitVec 32 := Scalar.subi v4 c11_i32_2449
  let c32_i32_2450 : BitVec 32 := 32#32
  let v2679 : BitVec 32 := Scalar.addi v2678 c32_i32_2450
  let c32_i32_2451 : BitVec 32 := 32#32
  let v2680 : BitVec 32 := Scalar.remsi v2679 c32_i32_2451
  let v2681 : Index := Scalar.indexCast v2680
  ![v2681.toNat]
def k0_off398 (v2682 : BitVec 32) : Fin 2 → Nat :=
  let c1024_i32_2452 : BitVec 32 := 1024#32
  let v2683 : BitVec 32 := Scalar.muli v2682 c1024_i32_2452
  let c768_i32_2453 : BitVec 32 := 768#32
  let v2684 : BitVec 32 := Scalar.addi v2683 c768_i32_2453
  let c0_i32_2460 : BitVec 32 := 0#32
  ![v2684.toNat, 0]

def k0_chk200 (v2682 : BitVec 32) : Prop :=
  (∀ a, (k0_off398 v2682) a + S256x512.size a ≤ S32768x512.size a) ∧
  (∀ (hinb : ∀ a, (k0_off398 v2682) a + S256x512.size a ≤ S32768x512.size a), (Rect.unit (s := S32768x512) (k0_off398 v2682) S256x512.size hinb).WholeWords (EltTy.packing .bf16))
theorem k0_off398_inb : ∀ (v2682 : BitVec 32) (k0_hw200 : k0_chk200 v2682), ∀ a, (k0_off398 v2682) a + S256x512.size a ≤ S32768x512.size a := fun v2682 k0_hw200 => k0_hw200.1
theorem k0_off398_wordsbf16 : ∀ (v2682 : BitVec 32) (k0_hw200 : k0_chk200 v2682), (Rect.unit (s := S32768x512) (k0_off398 v2682) S256x512.size (k0_off398_inb v2682 k0_hw200)).WholeWords (EltTy.packing .bf16) := fun v2682 k0_hw200 => k0_hw200.2 (k0_off398_inb v2682 k0_hw200)

def k0_off399 (v4 : BitVec 32) : Fin 1 → Nat :=
  let c12_i32_2462 : BitVec 32 := 12#32
  let v2691 : BitVec 32 := Scalar.subi v4 c12_i32_2462
  let c32_i32_2463 : BitVec 32 := 32#32
  let v2692 : BitVec 32 := Scalar.addi v2691 c32_i32_2463
  let c32_i32_2464 : BitVec 32 := 32#32
  let v2693 : BitVec 32 := Scalar.remsi v2692 c32_i32_2464
  let v2694 : Index := Scalar.indexCast v2693
  ![v2694.toNat]
def k0_off400 (v2695 : BitVec 32) : Fin 2 → Nat :=
  let c1024_i32_2465 : BitVec 32 := 1024#32
  let v2696 : BitVec 32 := Scalar.muli v2695 c1024_i32_2465
  let c768_i32_2466 : BitVec 32 := 768#32
  let v2697 : BitVec 32 := Scalar.addi v2696 c768_i32_2466
  let c0_i32_2473 : BitVec 32 := 0#32
  ![v2697.toNat, 0]

def k0_chk201 (v2695 : BitVec 32) : Prop :=
  (∀ a, (k0_off400 v2695) a + S256x512.size a ≤ S32768x512.size a) ∧
  (∀ (hinb : ∀ a, (k0_off400 v2695) a + S256x512.size a ≤ S32768x512.size a), (Rect.unit (s := S32768x512) (k0_off400 v2695) S256x512.size hinb).WholeWords (EltTy.packing .bf16))
theorem k0_off400_inb : ∀ (v2695 : BitVec 32) (k0_hw201 : k0_chk201 v2695), ∀ a, (k0_off400 v2695) a + S256x512.size a ≤ S32768x512.size a := fun v2695 k0_hw201 => k0_hw201.1
theorem k0_off400_wordsbf16 : ∀ (v2695 : BitVec 32) (k0_hw201 : k0_chk201 v2695), (Rect.unit (s := S32768x512) (k0_off400 v2695) S256x512.size (k0_off400_inb v2695 k0_hw201)).WholeWords (EltTy.packing .bf16) := fun v2695 k0_hw201 => k0_hw201.2 (k0_off400_inb v2695 k0_hw201)

def k0_dev105 (v8 : BitVec 32) : Nat :=
  let c0_i32_2472 : BitVec 32 := 0#32
  let c1_i32_2471 : BitVec 32 := 1#32
  let v2698 : BitVec 32 := Scalar.muli v8 c1_i32_2471
  let v2699 : BitVec 32 := Scalar.addi c0_i32_2472 v2698
  v2699.toNat
def k0_off401 (v4 : BitVec 32) : Fin 1 → Nat :=
  let c11_i32_2475 : BitVec 32 := 11#32
  let v2706 : BitVec 32 := Scalar.addi v4 c11_i32_2475
  let c32_i32_2476 : BitVec 32 := 32#32
  let v2707 : BitVec 32 := Scalar.remsi v2706 c32_i32_2476
  let v2708 : Index := Scalar.indexCast v2707
  ![v2708.toNat]
def k0_off402 (v2709 : BitVec 32) : Fin 2 → Nat :=
  let c1024_i32_2477 : BitVec 32 := 1024#32
  let v2710 : BitVec 32 := Scalar.muli v2709 c1024_i32_2477
  let c768_i32_2478 : BitVec 32 := 768#32
  let v2711 : BitVec 32 := Scalar.addi v2710 c768_i32_2478
  let c0_i32_2485 : BitVec 32 := 0#32
  ![v2711.toNat, 0]

def k0_chk202 (v2709 : BitVec 32) : Prop :=
  (∀ a, (k0_off402 v2709) a + S256x512.size a ≤ S32768x512.size a) ∧
  (∀ (hinb : ∀ a, (k0_off402 v2709) a + S256x512.size a ≤ S32768x512.size a), (Rect.unit (s := S32768x512) (k0_off402 v2709) S256x512.size hinb).WholeWords (EltTy.packing .bf16))
theorem k0_off402_inb : ∀ (v2709 : BitVec 32) (k0_hw202 : k0_chk202 v2709), ∀ a, (k0_off402 v2709) a + S256x512.size a ≤ S32768x512.size a := fun v2709 k0_hw202 => k0_hw202.1
theorem k0_off402_wordsbf16 : ∀ (v2709 : BitVec 32) (k0_hw202 : k0_chk202 v2709), (Rect.unit (s := S32768x512) (k0_off402 v2709) S256x512.size (k0_off402_inb v2709 k0_hw202)).WholeWords (EltTy.packing .bf16) := fun v2709 k0_hw202 => k0_hw202.2 (k0_off402_inb v2709 k0_hw202)

def k0_off403 (v4 : BitVec 32) : Fin 1 → Nat :=
  let c12_i32_2487 : BitVec 32 := 12#32
  let v2718 : BitVec 32 := Scalar.addi v4 c12_i32_2487
  let c32_i32_2488 : BitVec 32 := 32#32
  let v2719 : BitVec 32 := Scalar.remsi v2718 c32_i32_2488
  let v2720 : Index := Scalar.indexCast v2719
  ![v2720.toNat]
def k0_off404 (v2721 : BitVec 32) : Fin 2 → Nat :=
  let c1024_i32_2489 : BitVec 32 := 1024#32
  let v2722 : BitVec 32 := Scalar.muli v2721 c1024_i32_2489
  let c768_i32_2490 : BitVec 32 := 768#32
  let v2723 : BitVec 32 := Scalar.addi v2722 c768_i32_2490
  let c0_i32_2497 : BitVec 32 := 0#32
  ![v2723.toNat, 0]

def k0_chk203 (v2721 : BitVec 32) : Prop :=
  (∀ a, (k0_off404 v2721) a + S256x512.size a ≤ S32768x512.size a) ∧
  (∀ (hinb : ∀ a, (k0_off404 v2721) a + S256x512.size a ≤ S32768x512.size a), (Rect.unit (s := S32768x512) (k0_off404 v2721) S256x512.size hinb).WholeWords (EltTy.packing .bf16))
theorem k0_off404_inb : ∀ (v2721 : BitVec 32) (k0_hw203 : k0_chk203 v2721), ∀ a, (k0_off404 v2721) a + S256x512.size a ≤ S32768x512.size a := fun v2721 k0_hw203 => k0_hw203.1
theorem k0_off404_wordsbf16 : ∀ (v2721 : BitVec 32) (k0_hw203 : k0_chk203 v2721), (Rect.unit (s := S32768x512) (k0_off404 v2721) S256x512.size (k0_off404_inb v2721 k0_hw203)).WholeWords (EltTy.packing .bf16) := fun v2721 k0_hw203 => k0_hw203.2 (k0_off404_inb v2721 k0_hw203)

def k0_dev106 (v13 : BitVec 32) : Nat :=
  let c0_i32_2496 : BitVec 32 := 0#32
  let c1_i32_2495 : BitVec 32 := 1#32
  let v2724 : BitVec 32 := Scalar.muli v13 c1_i32_2495
  let v2725 : BitVec 32 := Scalar.addi c0_i32_2496 v2724
  v2725.toNat
def k0_off405 (v4 : BitVec 32) : Fin 1 → Nat :=
  let c12_i32_2499 : BitVec 32 := 12#32
  let v2732 : BitVec 32 := Scalar.subi v4 c12_i32_2499
  let c32_i32_2500 : BitVec 32 := 32#32
  let v2733 : BitVec 32 := Scalar.addi v2732 c32_i32_2500
  let c32_i32_2501 : BitVec 32 := 32#32
  let v2734 : BitVec 32 := Scalar.remsi v2733 c32_i32_2501
  let v2735 : Index := Scalar.indexCast v2734
  ![v2735.toNat]
def k0_off406 (v2736 : BitVec 32) : Fin 2 → Nat :=
  let c1024_i32_2502 : BitVec 32 := 1024#32
  let v2737 : BitVec 32 := Scalar.muli v2736 c1024_i32_2502
  let c0_i32_2503 : BitVec 32 := 0#32
  let v2738 : BitVec 32 := Scalar.addi v2737 c0_i32_2503
  let c0_i32_2510 : BitVec 32 := 0#32
  ![v2738.toNat, 0]

def k0_chk204 (v2736 : BitVec 32) : Prop :=
  (∀ a, (k0_off406 v2736) a + S256x512.size a ≤ S32768x512.size a) ∧
  (∀ (hinb : ∀ a, (k0_off406 v2736) a + S256x512.size a ≤ S32768x512.size a), (Rect.unit (s := S32768x512) (k0_off406 v2736) S256x512.size hinb).WholeWords (EltTy.packing .bf16))
theorem k0_off406_inb : ∀ (v2736 : BitVec 32) (k0_hw204 : k0_chk204 v2736), ∀ a, (k0_off406 v2736) a + S256x512.size a ≤ S32768x512.size a := fun v2736 k0_hw204 => k0_hw204.1
theorem k0_off406_wordsbf16 : ∀ (v2736 : BitVec 32) (k0_hw204 : k0_chk204 v2736), (Rect.unit (s := S32768x512) (k0_off406 v2736) S256x512.size (k0_off406_inb v2736 k0_hw204)).WholeWords (EltTy.packing .bf16) := fun v2736 k0_hw204 => k0_hw204.2 (k0_off406_inb v2736 k0_hw204)

def k0_off407 (v4 : BitVec 32) : Fin 1 → Nat :=
  let c13_i32 : BitVec 32 := 13#32
  let v2745 : BitVec 32 := Scalar.subi v4 c13_i32
  let c32_i32_2512 : BitVec 32 := 32#32
  let v2746 : BitVec 32 := Scalar.addi v2745 c32_i32_2512
  let c32_i32_2513 : BitVec 32 := 32#32
  let v2747 : BitVec 32 := Scalar.remsi v2746 c32_i32_2513
  let v2748 : Index := Scalar.indexCast v2747
  ![v2748.toNat]
def k0_off408 (v2749 : BitVec 32) : Fin 2 → Nat :=
  let c1024_i32_2514 : BitVec 32 := 1024#32
  let v2750 : BitVec 32 := Scalar.muli v2749 c1024_i32_2514
  let c0_i32_2515 : BitVec 32 := 0#32
  let v2751 : BitVec 32 := Scalar.addi v2750 c0_i32_2515
  let c0_i32_2522 : BitVec 32 := 0#32
  ![v2751.toNat, 0]

def k0_chk205 (v2749 : BitVec 32) : Prop :=
  (∀ a, (k0_off408 v2749) a + S256x512.size a ≤ S32768x512.size a) ∧
  (∀ (hinb : ∀ a, (k0_off408 v2749) a + S256x512.size a ≤ S32768x512.size a), (Rect.unit (s := S32768x512) (k0_off408 v2749) S256x512.size hinb).WholeWords (EltTy.packing .bf16))
theorem k0_off408_inb : ∀ (v2749 : BitVec 32) (k0_hw205 : k0_chk205 v2749), ∀ a, (k0_off408 v2749) a + S256x512.size a ≤ S32768x512.size a := fun v2749 k0_hw205 => k0_hw205.1
theorem k0_off408_wordsbf16 : ∀ (v2749 : BitVec 32) (k0_hw205 : k0_chk205 v2749), (Rect.unit (s := S32768x512) (k0_off408 v2749) S256x512.size (k0_off408_inb v2749 k0_hw205)).WholeWords (EltTy.packing .bf16) := fun v2749 k0_hw205 => k0_hw205.2 (k0_off408_inb v2749 k0_hw205)

def k0_dev107 (v8 : BitVec 32) : Nat :=
  let c0_i32_2521 : BitVec 32 := 0#32
  let c1_i32_2520 : BitVec 32 := 1#32
  let v2752 : BitVec 32 := Scalar.muli v8 c1_i32_2520
  let v2753 : BitVec 32 := Scalar.addi c0_i32_2521 v2752
  v2753.toNat
def k0_off409 (v4 : BitVec 32) : Fin 1 → Nat :=
  let c12_i32_2524 : BitVec 32 := 12#32
  let v2760 : BitVec 32 := Scalar.addi v4 c12_i32_2524
  let c32_i32_2525 : BitVec 32 := 32#32
  let v2761 : BitVec 32 := Scalar.remsi v2760 c32_i32_2525
  let v2762 : Index := Scalar.indexCast v2761
  ![v2762.toNat]
def k0_off410 (v2763 : BitVec 32) : Fin 2 → Nat :=
  let c1024_i32_2526 : BitVec 32 := 1024#32
  let v2764 : BitVec 32 := Scalar.muli v2763 c1024_i32_2526
  let c0_i32_2527 : BitVec 32 := 0#32
  let v2765 : BitVec 32 := Scalar.addi v2764 c0_i32_2527
  let c0_i32_2534 : BitVec 32 := 0#32
  ![v2765.toNat, 0]

def k0_chk206 (v2763 : BitVec 32) : Prop :=
  (∀ a, (k0_off410 v2763) a + S256x512.size a ≤ S32768x512.size a) ∧
  (∀ (hinb : ∀ a, (k0_off410 v2763) a + S256x512.size a ≤ S32768x512.size a), (Rect.unit (s := S32768x512) (k0_off410 v2763) S256x512.size hinb).WholeWords (EltTy.packing .bf16))
theorem k0_off410_inb : ∀ (v2763 : BitVec 32) (k0_hw206 : k0_chk206 v2763), ∀ a, (k0_off410 v2763) a + S256x512.size a ≤ S32768x512.size a := fun v2763 k0_hw206 => k0_hw206.1
theorem k0_off410_wordsbf16 : ∀ (v2763 : BitVec 32) (k0_hw206 : k0_chk206 v2763), (Rect.unit (s := S32768x512) (k0_off410 v2763) S256x512.size (k0_off410_inb v2763 k0_hw206)).WholeWords (EltTy.packing .bf16) := fun v2763 k0_hw206 => k0_hw206.2 (k0_off410_inb v2763 k0_hw206)

def k0_off411 (v4 : BitVec 32) : Fin 1 → Nat :=
  let c13_i32_2536 : BitVec 32 := 13#32
  let v2772 : BitVec 32 := Scalar.addi v4 c13_i32_2536
  let c32_i32_2537 : BitVec 32 := 32#32
  let v2773 : BitVec 32 := Scalar.remsi v2772 c32_i32_2537
  let v2774 : Index := Scalar.indexCast v2773
  ![v2774.toNat]
def k0_off412 (v2775 : BitVec 32) : Fin 2 → Nat :=
  let c1024_i32_2538 : BitVec 32 := 1024#32
  let v2776 : BitVec 32 := Scalar.muli v2775 c1024_i32_2538
  let c0_i32_2539 : BitVec 32 := 0#32
  let v2777 : BitVec 32 := Scalar.addi v2776 c0_i32_2539
  let c0_i32_2546 : BitVec 32 := 0#32
  ![v2777.toNat, 0]

def k0_chk207 (v2775 : BitVec 32) : Prop :=
  (∀ a, (k0_off412 v2775) a + S256x512.size a ≤ S32768x512.size a) ∧
  (∀ (hinb : ∀ a, (k0_off412 v2775) a + S256x512.size a ≤ S32768x512.size a), (Rect.unit (s := S32768x512) (k0_off412 v2775) S256x512.size hinb).WholeWords (EltTy.packing .bf16))
theorem k0_off412_inb : ∀ (v2775 : BitVec 32) (k0_hw207 : k0_chk207 v2775), ∀ a, (k0_off412 v2775) a + S256x512.size a ≤ S32768x512.size a := fun v2775 k0_hw207 => k0_hw207.1
theorem k0_off412_wordsbf16 : ∀ (v2775 : BitVec 32) (k0_hw207 : k0_chk207 v2775), (Rect.unit (s := S32768x512) (k0_off412 v2775) S256x512.size (k0_off412_inb v2775 k0_hw207)).WholeWords (EltTy.packing .bf16) := fun v2775 k0_hw207 => k0_hw207.2 (k0_off412_inb v2775 k0_hw207)

def k0_dev108 (v13 : BitVec 32) : Nat :=
  let c0_i32_2545 : BitVec 32 := 0#32
  let c1_i32_2544 : BitVec 32 := 1#32
  let v2778 : BitVec 32 := Scalar.muli v13 c1_i32_2544
  let v2779 : BitVec 32 := Scalar.addi c0_i32_2545 v2778
  v2779.toNat
def k0_off413 (v4 : BitVec 32) : Fin 1 → Nat :=
  let c12_i32_2548 : BitVec 32 := 12#32
  let v2786 : BitVec 32 := Scalar.subi v4 c12_i32_2548
  let c32_i32_2549 : BitVec 32 := 32#32
  let v2787 : BitVec 32 := Scalar.addi v2786 c32_i32_2549
  let c32_i32_2550 : BitVec 32 := 32#32
  let v2788 : BitVec 32 := Scalar.remsi v2787 c32_i32_2550
  let v2789 : Index := Scalar.indexCast v2788
  ![v2789.toNat]
def k0_off414 (v2790 : BitVec 32) : Fin 2 → Nat :=
  let c1024_i32_2551 : BitVec 32 := 1024#32
  let v2791 : BitVec 32 := Scalar.muli v2790 c1024_i32_2551
  let c256_i32_2552 : BitVec 32 := 256#32
  let v2792 : BitVec 32 := Scalar.addi v2791 c256_i32_2552
  let c0_i32_2559 : BitVec 32 := 0#32
  ![v2792.toNat, 0]

def k0_chk208 (v2790 : BitVec 32) : Prop :=
  (∀ a, (k0_off414 v2790) a + S256x512.size a ≤ S32768x512.size a) ∧
  (∀ (hinb : ∀ a, (k0_off414 v2790) a + S256x512.size a ≤ S32768x512.size a), (Rect.unit (s := S32768x512) (k0_off414 v2790) S256x512.size hinb).WholeWords (EltTy.packing .bf16))
theorem k0_off414_inb : ∀ (v2790 : BitVec 32) (k0_hw208 : k0_chk208 v2790), ∀ a, (k0_off414 v2790) a + S256x512.size a ≤ S32768x512.size a := fun v2790 k0_hw208 => k0_hw208.1
theorem k0_off414_wordsbf16 : ∀ (v2790 : BitVec 32) (k0_hw208 : k0_chk208 v2790), (Rect.unit (s := S32768x512) (k0_off414 v2790) S256x512.size (k0_off414_inb v2790 k0_hw208)).WholeWords (EltTy.packing .bf16) := fun v2790 k0_hw208 => k0_hw208.2 (k0_off414_inb v2790 k0_hw208)

def k0_off415 (v4 : BitVec 32) : Fin 1 → Nat :=
  let c13_i32_2561 : BitVec 32 := 13#32
  let v2799 : BitVec 32 := Scalar.subi v4 c13_i32_2561
  let c32_i32_2562 : BitVec 32 := 32#32
  let v2800 : BitVec 32 := Scalar.addi v2799 c32_i32_2562
  let c32_i32_2563 : BitVec 32 := 32#32
  let v2801 : BitVec 32 := Scalar.remsi v2800 c32_i32_2563
  let v2802 : Index := Scalar.indexCast v2801
  ![v2802.toNat]
def k0_off416 (v2803 : BitVec 32) : Fin 2 → Nat :=
  let c1024_i32_2564 : BitVec 32 := 1024#32
  let v2804 : BitVec 32 := Scalar.muli v2803 c1024_i32_2564
  let c256_i32_2565 : BitVec 32 := 256#32
  let v2805 : BitVec 32 := Scalar.addi v2804 c256_i32_2565
  let c0_i32_2572 : BitVec 32 := 0#32
  ![v2805.toNat, 0]

def k0_chk209 (v2803 : BitVec 32) : Prop :=
  (∀ a, (k0_off416 v2803) a + S256x512.size a ≤ S32768x512.size a) ∧
  (∀ (hinb : ∀ a, (k0_off416 v2803) a + S256x512.size a ≤ S32768x512.size a), (Rect.unit (s := S32768x512) (k0_off416 v2803) S256x512.size hinb).WholeWords (EltTy.packing .bf16))
theorem k0_off416_inb : ∀ (v2803 : BitVec 32) (k0_hw209 : k0_chk209 v2803), ∀ a, (k0_off416 v2803) a + S256x512.size a ≤ S32768x512.size a := fun v2803 k0_hw209 => k0_hw209.1
theorem k0_off416_wordsbf16 : ∀ (v2803 : BitVec 32) (k0_hw209 : k0_chk209 v2803), (Rect.unit (s := S32768x512) (k0_off416 v2803) S256x512.size (k0_off416_inb v2803 k0_hw209)).WholeWords (EltTy.packing .bf16) := fun v2803 k0_hw209 => k0_hw209.2 (k0_off416_inb v2803 k0_hw209)

def k0_dev109 (v8 : BitVec 32) : Nat :=
  let c0_i32_2571 : BitVec 32 := 0#32
  let c1_i32_2570 : BitVec 32 := 1#32
  let v2806 : BitVec 32 := Scalar.muli v8 c1_i32_2570
  let v2807 : BitVec 32 := Scalar.addi c0_i32_2571 v2806
  v2807.toNat
def k0_off417 (v4 : BitVec 32) : Fin 1 → Nat :=
  let c12_i32_2574 : BitVec 32 := 12#32
  let v2814 : BitVec 32 := Scalar.addi v4 c12_i32_2574
  let c32_i32_2575 : BitVec 32 := 32#32
  let v2815 : BitVec 32 := Scalar.remsi v2814 c32_i32_2575
  let v2816 : Index := Scalar.indexCast v2815
  ![v2816.toNat]
def k0_off418 (v2817 : BitVec 32) : Fin 2 → Nat :=
  let c1024_i32_2576 : BitVec 32 := 1024#32
  let v2818 : BitVec 32 := Scalar.muli v2817 c1024_i32_2576
  let c256_i32_2577 : BitVec 32 := 256#32
  let v2819 : BitVec 32 := Scalar.addi v2818 c256_i32_2577
  let c0_i32_2584 : BitVec 32 := 0#32
  ![v2819.toNat, 0]

def k0_chk210 (v2817 : BitVec 32) : Prop :=
  (∀ a, (k0_off418 v2817) a + S256x512.size a ≤ S32768x512.size a) ∧
  (∀ (hinb : ∀ a, (k0_off418 v2817) a + S256x512.size a ≤ S32768x512.size a), (Rect.unit (s := S32768x512) (k0_off418 v2817) S256x512.size hinb).WholeWords (EltTy.packing .bf16))
theorem k0_off418_inb : ∀ (v2817 : BitVec 32) (k0_hw210 : k0_chk210 v2817), ∀ a, (k0_off418 v2817) a + S256x512.size a ≤ S32768x512.size a := fun v2817 k0_hw210 => k0_hw210.1
theorem k0_off418_wordsbf16 : ∀ (v2817 : BitVec 32) (k0_hw210 : k0_chk210 v2817), (Rect.unit (s := S32768x512) (k0_off418 v2817) S256x512.size (k0_off418_inb v2817 k0_hw210)).WholeWords (EltTy.packing .bf16) := fun v2817 k0_hw210 => k0_hw210.2 (k0_off418_inb v2817 k0_hw210)

def k0_off419 (v4 : BitVec 32) : Fin 1 → Nat :=
  let c13_i32_2586 : BitVec 32 := 13#32
  let v2826 : BitVec 32 := Scalar.addi v4 c13_i32_2586
  let c32_i32_2587 : BitVec 32 := 32#32
  let v2827 : BitVec 32 := Scalar.remsi v2826 c32_i32_2587
  let v2828 : Index := Scalar.indexCast v2827
  ![v2828.toNat]
def k0_off420 (v2829 : BitVec 32) : Fin 2 → Nat :=
  let c1024_i32_2588 : BitVec 32 := 1024#32
  let v2830 : BitVec 32 := Scalar.muli v2829 c1024_i32_2588
  let c256_i32_2589 : BitVec 32 := 256#32
  let v2831 : BitVec 32 := Scalar.addi v2830 c256_i32_2589
  let c0_i32_2596 : BitVec 32 := 0#32
  ![v2831.toNat, 0]

def k0_chk211 (v2829 : BitVec 32) : Prop :=
  (∀ a, (k0_off420 v2829) a + S256x512.size a ≤ S32768x512.size a) ∧
  (∀ (hinb : ∀ a, (k0_off420 v2829) a + S256x512.size a ≤ S32768x512.size a), (Rect.unit (s := S32768x512) (k0_off420 v2829) S256x512.size hinb).WholeWords (EltTy.packing .bf16))
theorem k0_off420_inb : ∀ (v2829 : BitVec 32) (k0_hw211 : k0_chk211 v2829), ∀ a, (k0_off420 v2829) a + S256x512.size a ≤ S32768x512.size a := fun v2829 k0_hw211 => k0_hw211.1
theorem k0_off420_wordsbf16 : ∀ (v2829 : BitVec 32) (k0_hw211 : k0_chk211 v2829), (Rect.unit (s := S32768x512) (k0_off420 v2829) S256x512.size (k0_off420_inb v2829 k0_hw211)).WholeWords (EltTy.packing .bf16) := fun v2829 k0_hw211 => k0_hw211.2 (k0_off420_inb v2829 k0_hw211)

def k0_dev110 (v13 : BitVec 32) : Nat :=
  let c0_i32_2595 : BitVec 32 := 0#32
  let c1_i32_2594 : BitVec 32 := 1#32
  let v2832 : BitVec 32 := Scalar.muli v13 c1_i32_2594
  let v2833 : BitVec 32 := Scalar.addi c0_i32_2595 v2832
  v2833.toNat
def k0_off421 (v4 : BitVec 32) : Fin 1 → Nat :=
  let c12_i32_2598 : BitVec 32 := 12#32
  let v2840 : BitVec 32 := Scalar.subi v4 c12_i32_2598
  let c32_i32_2599 : BitVec 32 := 32#32
  let v2841 : BitVec 32 := Scalar.addi v2840 c32_i32_2599
  let c32_i32_2600 : BitVec 32 := 32#32
  let v2842 : BitVec 32 := Scalar.remsi v2841 c32_i32_2600
  let v2843 : Index := Scalar.indexCast v2842
  ![v2843.toNat]
def k0_off422 (v2844 : BitVec 32) : Fin 2 → Nat :=
  let c1024_i32_2601 : BitVec 32 := 1024#32
  let v2845 : BitVec 32 := Scalar.muli v2844 c1024_i32_2601
  let c512_i32_2602 : BitVec 32 := 512#32
  let v2846 : BitVec 32 := Scalar.addi v2845 c512_i32_2602
  let c0_i32_2609 : BitVec 32 := 0#32
  ![v2846.toNat, 0]

def k0_chk212 (v2844 : BitVec 32) : Prop :=
  (∀ a, (k0_off422 v2844) a + S256x512.size a ≤ S32768x512.size a) ∧
  (∀ (hinb : ∀ a, (k0_off422 v2844) a + S256x512.size a ≤ S32768x512.size a), (Rect.unit (s := S32768x512) (k0_off422 v2844) S256x512.size hinb).WholeWords (EltTy.packing .bf16))
theorem k0_off422_inb : ∀ (v2844 : BitVec 32) (k0_hw212 : k0_chk212 v2844), ∀ a, (k0_off422 v2844) a + S256x512.size a ≤ S32768x512.size a := fun v2844 k0_hw212 => k0_hw212.1
theorem k0_off422_wordsbf16 : ∀ (v2844 : BitVec 32) (k0_hw212 : k0_chk212 v2844), (Rect.unit (s := S32768x512) (k0_off422 v2844) S256x512.size (k0_off422_inb v2844 k0_hw212)).WholeWords (EltTy.packing .bf16) := fun v2844 k0_hw212 => k0_hw212.2 (k0_off422_inb v2844 k0_hw212)

def k0_off423 (v4 : BitVec 32) : Fin 1 → Nat :=
  let c13_i32_2611 : BitVec 32 := 13#32
  let v2853 : BitVec 32 := Scalar.subi v4 c13_i32_2611
  let c32_i32_2612 : BitVec 32 := 32#32
  let v2854 : BitVec 32 := Scalar.addi v2853 c32_i32_2612
  let c32_i32_2613 : BitVec 32 := 32#32
  let v2855 : BitVec 32 := Scalar.remsi v2854 c32_i32_2613
  let v2856 : Index := Scalar.indexCast v2855
  ![v2856.toNat]
def k0_off424 (v2857 : BitVec 32) : Fin 2 → Nat :=
  let c1024_i32_2614 : BitVec 32 := 1024#32
  let v2858 : BitVec 32 := Scalar.muli v2857 c1024_i32_2614
  let c512_i32_2615 : BitVec 32 := 512#32
  let v2859 : BitVec 32 := Scalar.addi v2858 c512_i32_2615
  let c0_i32_2622 : BitVec 32 := 0#32
  ![v2859.toNat, 0]

def k0_chk213 (v2857 : BitVec 32) : Prop :=
  (∀ a, (k0_off424 v2857) a + S256x512.size a ≤ S32768x512.size a) ∧
  (∀ (hinb : ∀ a, (k0_off424 v2857) a + S256x512.size a ≤ S32768x512.size a), (Rect.unit (s := S32768x512) (k0_off424 v2857) S256x512.size hinb).WholeWords (EltTy.packing .bf16))
theorem k0_off424_inb : ∀ (v2857 : BitVec 32) (k0_hw213 : k0_chk213 v2857), ∀ a, (k0_off424 v2857) a + S256x512.size a ≤ S32768x512.size a := fun v2857 k0_hw213 => k0_hw213.1
theorem k0_off424_wordsbf16 : ∀ (v2857 : BitVec 32) (k0_hw213 : k0_chk213 v2857), (Rect.unit (s := S32768x512) (k0_off424 v2857) S256x512.size (k0_off424_inb v2857 k0_hw213)).WholeWords (EltTy.packing .bf16) := fun v2857 k0_hw213 => k0_hw213.2 (k0_off424_inb v2857 k0_hw213)

def k0_dev111 (v8 : BitVec 32) : Nat :=
  let c0_i32_2621 : BitVec 32 := 0#32
  let c1_i32_2620 : BitVec 32 := 1#32
  let v2860 : BitVec 32 := Scalar.muli v8 c1_i32_2620
  let v2861 : BitVec 32 := Scalar.addi c0_i32_2621 v2860
  v2861.toNat
def k0_off425 (v4 : BitVec 32) : Fin 1 → Nat :=
  let c12_i32_2624 : BitVec 32 := 12#32
  let v2868 : BitVec 32 := Scalar.addi v4 c12_i32_2624
  let c32_i32_2625 : BitVec 32 := 32#32
  let v2869 : BitVec 32 := Scalar.remsi v2868 c32_i32_2625
  let v2870 : Index := Scalar.indexCast v2869
  ![v2870.toNat]
def k0_off426 (v2871 : BitVec 32) : Fin 2 → Nat :=
  let c1024_i32_2626 : BitVec 32 := 1024#32
  let v2872 : BitVec 32 := Scalar.muli v2871 c1024_i32_2626
  let c512_i32_2627 : BitVec 32 := 512#32
  let v2873 : BitVec 32 := Scalar.addi v2872 c512_i32_2627
  let c0_i32_2634 : BitVec 32 := 0#32
  ![v2873.toNat, 0]

def k0_chk214 (v2871 : BitVec 32) : Prop :=
  (∀ a, (k0_off426 v2871) a + S256x512.size a ≤ S32768x512.size a) ∧
  (∀ (hinb : ∀ a, (k0_off426 v2871) a + S256x512.size a ≤ S32768x512.size a), (Rect.unit (s := S32768x512) (k0_off426 v2871) S256x512.size hinb).WholeWords (EltTy.packing .bf16))
theorem k0_off426_inb : ∀ (v2871 : BitVec 32) (k0_hw214 : k0_chk214 v2871), ∀ a, (k0_off426 v2871) a + S256x512.size a ≤ S32768x512.size a := fun v2871 k0_hw214 => k0_hw214.1
theorem k0_off426_wordsbf16 : ∀ (v2871 : BitVec 32) (k0_hw214 : k0_chk214 v2871), (Rect.unit (s := S32768x512) (k0_off426 v2871) S256x512.size (k0_off426_inb v2871 k0_hw214)).WholeWords (EltTy.packing .bf16) := fun v2871 k0_hw214 => k0_hw214.2 (k0_off426_inb v2871 k0_hw214)

def k0_off427 (v4 : BitVec 32) : Fin 1 → Nat :=
  let c13_i32_2636 : BitVec 32 := 13#32
  let v2880 : BitVec 32 := Scalar.addi v4 c13_i32_2636
  let c32_i32_2637 : BitVec 32 := 32#32
  let v2881 : BitVec 32 := Scalar.remsi v2880 c32_i32_2637
  let v2882 : Index := Scalar.indexCast v2881
  ![v2882.toNat]
def k0_off428 (v2883 : BitVec 32) : Fin 2 → Nat :=
  let c1024_i32_2638 : BitVec 32 := 1024#32
  let v2884 : BitVec 32 := Scalar.muli v2883 c1024_i32_2638
  let c512_i32_2639 : BitVec 32 := 512#32
  let v2885 : BitVec 32 := Scalar.addi v2884 c512_i32_2639
  let c0_i32_2646 : BitVec 32 := 0#32
  ![v2885.toNat, 0]

def k0_chk215 (v2883 : BitVec 32) : Prop :=
  (∀ a, (k0_off428 v2883) a + S256x512.size a ≤ S32768x512.size a) ∧
  (∀ (hinb : ∀ a, (k0_off428 v2883) a + S256x512.size a ≤ S32768x512.size a), (Rect.unit (s := S32768x512) (k0_off428 v2883) S256x512.size hinb).WholeWords (EltTy.packing .bf16))
theorem k0_off428_inb : ∀ (v2883 : BitVec 32) (k0_hw215 : k0_chk215 v2883), ∀ a, (k0_off428 v2883) a + S256x512.size a ≤ S32768x512.size a := fun v2883 k0_hw215 => k0_hw215.1
theorem k0_off428_wordsbf16 : ∀ (v2883 : BitVec 32) (k0_hw215 : k0_chk215 v2883), (Rect.unit (s := S32768x512) (k0_off428 v2883) S256x512.size (k0_off428_inb v2883 k0_hw215)).WholeWords (EltTy.packing .bf16) := fun v2883 k0_hw215 => k0_hw215.2 (k0_off428_inb v2883 k0_hw215)

def k0_dev112 (v13 : BitVec 32) : Nat :=
  let c0_i32_2645 : BitVec 32 := 0#32
  let c1_i32_2644 : BitVec 32 := 1#32
  let v2886 : BitVec 32 := Scalar.muli v13 c1_i32_2644
  let v2887 : BitVec 32 := Scalar.addi c0_i32_2645 v2886
  v2887.toNat
def k0_off429 (v4 : BitVec 32) : Fin 1 → Nat :=
  let c12_i32_2648 : BitVec 32 := 12#32
  let v2894 : BitVec 32 := Scalar.subi v4 c12_i32_2648
  let c32_i32_2649 : BitVec 32 := 32#32
  let v2895 : BitVec 32 := Scalar.addi v2894 c32_i32_2649
  let c32_i32_2650 : BitVec 32 := 32#32
  let v2896 : BitVec 32 := Scalar.remsi v2895 c32_i32_2650
  let v2897 : Index := Scalar.indexCast v2896
  ![v2897.toNat]
def k0_off430 (v2898 : BitVec 32) : Fin 2 → Nat :=
  let c1024_i32_2651 : BitVec 32 := 1024#32
  let v2899 : BitVec 32 := Scalar.muli v2898 c1024_i32_2651
  let c768_i32_2652 : BitVec 32 := 768#32
  let v2900 : BitVec 32 := Scalar.addi v2899 c768_i32_2652
  let c0_i32_2659 : BitVec 32 := 0#32
  ![v2900.toNat, 0]

def k0_chk216 (v2898 : BitVec 32) : Prop :=
  (∀ a, (k0_off430 v2898) a + S256x512.size a ≤ S32768x512.size a) ∧
  (∀ (hinb : ∀ a, (k0_off430 v2898) a + S256x512.size a ≤ S32768x512.size a), (Rect.unit (s := S32768x512) (k0_off430 v2898) S256x512.size hinb).WholeWords (EltTy.packing .bf16))
theorem k0_off430_inb : ∀ (v2898 : BitVec 32) (k0_hw216 : k0_chk216 v2898), ∀ a, (k0_off430 v2898) a + S256x512.size a ≤ S32768x512.size a := fun v2898 k0_hw216 => k0_hw216.1
theorem k0_off430_wordsbf16 : ∀ (v2898 : BitVec 32) (k0_hw216 : k0_chk216 v2898), (Rect.unit (s := S32768x512) (k0_off430 v2898) S256x512.size (k0_off430_inb v2898 k0_hw216)).WholeWords (EltTy.packing .bf16) := fun v2898 k0_hw216 => k0_hw216.2 (k0_off430_inb v2898 k0_hw216)

def k0_off431 (v4 : BitVec 32) : Fin 1 → Nat :=
  let c13_i32_2661 : BitVec 32 := 13#32
  let v2907 : BitVec 32 := Scalar.subi v4 c13_i32_2661
  let c32_i32_2662 : BitVec 32 := 32#32
  let v2908 : BitVec 32 := Scalar.addi v2907 c32_i32_2662
  let c32_i32_2663 : BitVec 32 := 32#32
  let v2909 : BitVec 32 := Scalar.remsi v2908 c32_i32_2663
  let v2910 : Index := Scalar.indexCast v2909
  ![v2910.toNat]
def k0_off432 (v2911 : BitVec 32) : Fin 2 → Nat :=
  let c1024_i32_2664 : BitVec 32 := 1024#32
  let v2912 : BitVec 32 := Scalar.muli v2911 c1024_i32_2664
  let c768_i32_2665 : BitVec 32 := 768#32
  let v2913 : BitVec 32 := Scalar.addi v2912 c768_i32_2665
  let c0_i32_2672 : BitVec 32 := 0#32
  ![v2913.toNat, 0]

def k0_chk217 (v2911 : BitVec 32) : Prop :=
  (∀ a, (k0_off432 v2911) a + S256x512.size a ≤ S32768x512.size a) ∧
  (∀ (hinb : ∀ a, (k0_off432 v2911) a + S256x512.size a ≤ S32768x512.size a), (Rect.unit (s := S32768x512) (k0_off432 v2911) S256x512.size hinb).WholeWords (EltTy.packing .bf16))
theorem k0_off432_inb : ∀ (v2911 : BitVec 32) (k0_hw217 : k0_chk217 v2911), ∀ a, (k0_off432 v2911) a + S256x512.size a ≤ S32768x512.size a := fun v2911 k0_hw217 => k0_hw217.1
theorem k0_off432_wordsbf16 : ∀ (v2911 : BitVec 32) (k0_hw217 : k0_chk217 v2911), (Rect.unit (s := S32768x512) (k0_off432 v2911) S256x512.size (k0_off432_inb v2911 k0_hw217)).WholeWords (EltTy.packing .bf16) := fun v2911 k0_hw217 => k0_hw217.2 (k0_off432_inb v2911 k0_hw217)

def k0_dev113 (v8 : BitVec 32) : Nat :=
  let c0_i32_2671 : BitVec 32 := 0#32
  let c1_i32_2670 : BitVec 32 := 1#32
  let v2914 : BitVec 32 := Scalar.muli v8 c1_i32_2670
  let v2915 : BitVec 32 := Scalar.addi c0_i32_2671 v2914
  v2915.toNat
def k0_off433 (v4 : BitVec 32) : Fin 1 → Nat :=
  let c12_i32_2674 : BitVec 32 := 12#32
  let v2922 : BitVec 32 := Scalar.addi v4 c12_i32_2674
  let c32_i32_2675 : BitVec 32 := 32#32
  let v2923 : BitVec 32 := Scalar.remsi v2922 c32_i32_2675
  let v2924 : Index := Scalar.indexCast v2923
  ![v2924.toNat]
def k0_off434 (v2925 : BitVec 32) : Fin 2 → Nat :=
  let c1024_i32_2676 : BitVec 32 := 1024#32
  let v2926 : BitVec 32 := Scalar.muli v2925 c1024_i32_2676
  let c768_i32_2677 : BitVec 32 := 768#32
  let v2927 : BitVec 32 := Scalar.addi v2926 c768_i32_2677
  let c0_i32_2684 : BitVec 32 := 0#32
  ![v2927.toNat, 0]

def k0_chk218 (v2925 : BitVec 32) : Prop :=
  (∀ a, (k0_off434 v2925) a + S256x512.size a ≤ S32768x512.size a) ∧
  (∀ (hinb : ∀ a, (k0_off434 v2925) a + S256x512.size a ≤ S32768x512.size a), (Rect.unit (s := S32768x512) (k0_off434 v2925) S256x512.size hinb).WholeWords (EltTy.packing .bf16))
theorem k0_off434_inb : ∀ (v2925 : BitVec 32) (k0_hw218 : k0_chk218 v2925), ∀ a, (k0_off434 v2925) a + S256x512.size a ≤ S32768x512.size a := fun v2925 k0_hw218 => k0_hw218.1
theorem k0_off434_wordsbf16 : ∀ (v2925 : BitVec 32) (k0_hw218 : k0_chk218 v2925), (Rect.unit (s := S32768x512) (k0_off434 v2925) S256x512.size (k0_off434_inb v2925 k0_hw218)).WholeWords (EltTy.packing .bf16) := fun v2925 k0_hw218 => k0_hw218.2 (k0_off434_inb v2925 k0_hw218)

def k0_off435 (v4 : BitVec 32) : Fin 1 → Nat :=
  let c13_i32_2686 : BitVec 32 := 13#32
  let v2934 : BitVec 32 := Scalar.addi v4 c13_i32_2686
  let c32_i32_2687 : BitVec 32 := 32#32
  let v2935 : BitVec 32 := Scalar.remsi v2934 c32_i32_2687
  let v2936 : Index := Scalar.indexCast v2935
  ![v2936.toNat]
def k0_off436 (v2937 : BitVec 32) : Fin 2 → Nat :=
  let c1024_i32_2688 : BitVec 32 := 1024#32
  let v2938 : BitVec 32 := Scalar.muli v2937 c1024_i32_2688
  let c768_i32_2689 : BitVec 32 := 768#32
  let v2939 : BitVec 32 := Scalar.addi v2938 c768_i32_2689
  let c0_i32_2696 : BitVec 32 := 0#32
  ![v2939.toNat, 0]

def k0_chk219 (v2937 : BitVec 32) : Prop :=
  (∀ a, (k0_off436 v2937) a + S256x512.size a ≤ S32768x512.size a) ∧
  (∀ (hinb : ∀ a, (k0_off436 v2937) a + S256x512.size a ≤ S32768x512.size a), (Rect.unit (s := S32768x512) (k0_off436 v2937) S256x512.size hinb).WholeWords (EltTy.packing .bf16))
theorem k0_off436_inb : ∀ (v2937 : BitVec 32) (k0_hw219 : k0_chk219 v2937), ∀ a, (k0_off436 v2937) a + S256x512.size a ≤ S32768x512.size a := fun v2937 k0_hw219 => k0_hw219.1
theorem k0_off436_wordsbf16 : ∀ (v2937 : BitVec 32) (k0_hw219 : k0_chk219 v2937), (Rect.unit (s := S32768x512) (k0_off436 v2937) S256x512.size (k0_off436_inb v2937 k0_hw219)).WholeWords (EltTy.packing .bf16) := fun v2937 k0_hw219 => k0_hw219.2 (k0_off436_inb v2937 k0_hw219)

def k0_dev114 (v13 : BitVec 32) : Nat :=
  let c0_i32_2695 : BitVec 32 := 0#32
  let c1_i32_2694 : BitVec 32 := 1#32
  let v2940 : BitVec 32 := Scalar.muli v13 c1_i32_2694
  let v2941 : BitVec 32 := Scalar.addi c0_i32_2695 v2940
  v2941.toNat
def k0_off437 (v4 : BitVec 32) : Fin 1 → Nat :=
  let c13_i32_2698 : BitVec 32 := 13#32
  let v2948 : BitVec 32 := Scalar.subi v4 c13_i32_2698
  let c32_i32_2699 : BitVec 32 := 32#32
  let v2949 : BitVec 32 := Scalar.addi v2948 c32_i32_2699
  let c32_i32_2700 : BitVec 32 := 32#32
  let v2950 : BitVec 32 := Scalar.remsi v2949 c32_i32_2700
  let v2951 : Index := Scalar.indexCast v2950
  ![v2951.toNat]
def k0_off438 (v2952 : BitVec 32) : Fin 2 → Nat :=
  let c1024_i32_2701 : BitVec 32 := 1024#32
  let v2953 : BitVec 32 := Scalar.muli v2952 c1024_i32_2701
  let c0_i32_2702 : BitVec 32 := 0#32
  let v2954 : BitVec 32 := Scalar.addi v2953 c0_i32_2702
  let c0_i32_2709 : BitVec 32 := 0#32
  ![v2954.toNat, 0]

def k0_chk220 (v2952 : BitVec 32) : Prop :=
  (∀ a, (k0_off438 v2952) a + S256x512.size a ≤ S32768x512.size a) ∧
  (∀ (hinb : ∀ a, (k0_off438 v2952) a + S256x512.size a ≤ S32768x512.size a), (Rect.unit (s := S32768x512) (k0_off438 v2952) S256x512.size hinb).WholeWords (EltTy.packing .bf16))
theorem k0_off438_inb : ∀ (v2952 : BitVec 32) (k0_hw220 : k0_chk220 v2952), ∀ a, (k0_off438 v2952) a + S256x512.size a ≤ S32768x512.size a := fun v2952 k0_hw220 => k0_hw220.1
theorem k0_off438_wordsbf16 : ∀ (v2952 : BitVec 32) (k0_hw220 : k0_chk220 v2952), (Rect.unit (s := S32768x512) (k0_off438 v2952) S256x512.size (k0_off438_inb v2952 k0_hw220)).WholeWords (EltTy.packing .bf16) := fun v2952 k0_hw220 => k0_hw220.2 (k0_off438_inb v2952 k0_hw220)

def k0_off439 (v4 : BitVec 32) : Fin 1 → Nat :=
  let c14_i32 : BitVec 32 := 14#32
  let v2961 : BitVec 32 := Scalar.subi v4 c14_i32
  let c32_i32_2711 : BitVec 32 := 32#32
  let v2962 : BitVec 32 := Scalar.addi v2961 c32_i32_2711
  let c32_i32_2712 : BitVec 32 := 32#32
  let v2963 : BitVec 32 := Scalar.remsi v2962 c32_i32_2712
  let v2964 : Index := Scalar.indexCast v2963
  ![v2964.toNat]
def k0_off440 (v2965 : BitVec 32) : Fin 2 → Nat :=
  let c1024_i32_2713 : BitVec 32 := 1024#32
  let v2966 : BitVec 32 := Scalar.muli v2965 c1024_i32_2713
  let c0_i32_2714 : BitVec 32 := 0#32
  let v2967 : BitVec 32 := Scalar.addi v2966 c0_i32_2714
  let c0_i32_2721 : BitVec 32 := 0#32
  ![v2967.toNat, 0]

def k0_chk221 (v2965 : BitVec 32) : Prop :=
  (∀ a, (k0_off440 v2965) a + S256x512.size a ≤ S32768x512.size a) ∧
  (∀ (hinb : ∀ a, (k0_off440 v2965) a + S256x512.size a ≤ S32768x512.size a), (Rect.unit (s := S32768x512) (k0_off440 v2965) S256x512.size hinb).WholeWords (EltTy.packing .bf16))
theorem k0_off440_inb : ∀ (v2965 : BitVec 32) (k0_hw221 : k0_chk221 v2965), ∀ a, (k0_off440 v2965) a + S256x512.size a ≤ S32768x512.size a := fun v2965 k0_hw221 => k0_hw221.1
theorem k0_off440_wordsbf16 : ∀ (v2965 : BitVec 32) (k0_hw221 : k0_chk221 v2965), (Rect.unit (s := S32768x512) (k0_off440 v2965) S256x512.size (k0_off440_inb v2965 k0_hw221)).WholeWords (EltTy.packing .bf16) := fun v2965 k0_hw221 => k0_hw221.2 (k0_off440_inb v2965 k0_hw221)

def k0_dev115 (v8 : BitVec 32) : Nat :=
  let c0_i32_2720 : BitVec 32 := 0#32
  let c1_i32_2719 : BitVec 32 := 1#32
  let v2968 : BitVec 32 := Scalar.muli v8 c1_i32_2719
  let v2969 : BitVec 32 := Scalar.addi c0_i32_2720 v2968
  v2969.toNat
def k0_off441 (v4 : BitVec 32) : Fin 1 → Nat :=
  let c13_i32_2723 : BitVec 32 := 13#32
  let v2976 : BitVec 32 := Scalar.addi v4 c13_i32_2723
  let c32_i32_2724 : BitVec 32 := 32#32
  let v2977 : BitVec 32 := Scalar.remsi v2976 c32_i32_2724
  let v2978 : Index := Scalar.indexCast v2977
  ![v2978.toNat]
def k0_off442 (v2979 : BitVec 32) : Fin 2 → Nat :=
  let c1024_i32_2725 : BitVec 32 := 1024#32
  let v2980 : BitVec 32 := Scalar.muli v2979 c1024_i32_2725
  let c0_i32_2726 : BitVec 32 := 0#32
  let v2981 : BitVec 32 := Scalar.addi v2980 c0_i32_2726
  let c0_i32_2733 : BitVec 32 := 0#32
  ![v2981.toNat, 0]

def k0_chk222 (v2979 : BitVec 32) : Prop :=
  (∀ a, (k0_off442 v2979) a + S256x512.size a ≤ S32768x512.size a) ∧
  (∀ (hinb : ∀ a, (k0_off442 v2979) a + S256x512.size a ≤ S32768x512.size a), (Rect.unit (s := S32768x512) (k0_off442 v2979) S256x512.size hinb).WholeWords (EltTy.packing .bf16))
theorem k0_off442_inb : ∀ (v2979 : BitVec 32) (k0_hw222 : k0_chk222 v2979), ∀ a, (k0_off442 v2979) a + S256x512.size a ≤ S32768x512.size a := fun v2979 k0_hw222 => k0_hw222.1
theorem k0_off442_wordsbf16 : ∀ (v2979 : BitVec 32) (k0_hw222 : k0_chk222 v2979), (Rect.unit (s := S32768x512) (k0_off442 v2979) S256x512.size (k0_off442_inb v2979 k0_hw222)).WholeWords (EltTy.packing .bf16) := fun v2979 k0_hw222 => k0_hw222.2 (k0_off442_inb v2979 k0_hw222)

def k0_off443 (v4 : BitVec 32) : Fin 1 → Nat :=
  let c14_i32_2735 : BitVec 32 := 14#32
  let v2988 : BitVec 32 := Scalar.addi v4 c14_i32_2735
  let c32_i32_2736 : BitVec 32 := 32#32
  let v2989 : BitVec 32 := Scalar.remsi v2988 c32_i32_2736
  let v2990 : Index := Scalar.indexCast v2989
  ![v2990.toNat]
def k0_off444 (v2991 : BitVec 32) : Fin 2 → Nat :=
  let c1024_i32_2737 : BitVec 32 := 1024#32
  let v2992 : BitVec 32 := Scalar.muli v2991 c1024_i32_2737
  let c0_i32_2738 : BitVec 32 := 0#32
  let v2993 : BitVec 32 := Scalar.addi v2992 c0_i32_2738
  let c0_i32_2745 : BitVec 32 := 0#32
  ![v2993.toNat, 0]

def k0_chk223 (v2991 : BitVec 32) : Prop :=
  (∀ a, (k0_off444 v2991) a + S256x512.size a ≤ S32768x512.size a) ∧
  (∀ (hinb : ∀ a, (k0_off444 v2991) a + S256x512.size a ≤ S32768x512.size a), (Rect.unit (s := S32768x512) (k0_off444 v2991) S256x512.size hinb).WholeWords (EltTy.packing .bf16))
theorem k0_off444_inb : ∀ (v2991 : BitVec 32) (k0_hw223 : k0_chk223 v2991), ∀ a, (k0_off444 v2991) a + S256x512.size a ≤ S32768x512.size a := fun v2991 k0_hw223 => k0_hw223.1
theorem k0_off444_wordsbf16 : ∀ (v2991 : BitVec 32) (k0_hw223 : k0_chk223 v2991), (Rect.unit (s := S32768x512) (k0_off444 v2991) S256x512.size (k0_off444_inb v2991 k0_hw223)).WholeWords (EltTy.packing .bf16) := fun v2991 k0_hw223 => k0_hw223.2 (k0_off444_inb v2991 k0_hw223)

def k0_dev116 (v13 : BitVec 32) : Nat :=
  let c0_i32_2744 : BitVec 32 := 0#32
  let c1_i32_2743 : BitVec 32 := 1#32
  let v2994 : BitVec 32 := Scalar.muli v13 c1_i32_2743
  let v2995 : BitVec 32 := Scalar.addi c0_i32_2744 v2994
  v2995.toNat
def k0_off445 (v4 : BitVec 32) : Fin 1 → Nat :=
  let c13_i32_2747 : BitVec 32 := 13#32
  let v3002 : BitVec 32 := Scalar.subi v4 c13_i32_2747
  let c32_i32_2748 : BitVec 32 := 32#32
  let v3003 : BitVec 32 := Scalar.addi v3002 c32_i32_2748
  let c32_i32_2749 : BitVec 32 := 32#32
  let v3004 : BitVec 32 := Scalar.remsi v3003 c32_i32_2749
  let v3005 : Index := Scalar.indexCast v3004
  ![v3005.toNat]
def k0_off446 (v3006 : BitVec 32) : Fin 2 → Nat :=
  let c1024_i32_2750 : BitVec 32 := 1024#32
  let v3007 : BitVec 32 := Scalar.muli v3006 c1024_i32_2750
  let c256_i32_2751 : BitVec 32 := 256#32
  let v3008 : BitVec 32 := Scalar.addi v3007 c256_i32_2751
  let c0_i32_2758 : BitVec 32 := 0#32
  ![v3008.toNat, 0]

def k0_chk224 (v3006 : BitVec 32) : Prop :=
  (∀ a, (k0_off446 v3006) a + S256x512.size a ≤ S32768x512.size a) ∧
  (∀ (hinb : ∀ a, (k0_off446 v3006) a + S256x512.size a ≤ S32768x512.size a), (Rect.unit (s := S32768x512) (k0_off446 v3006) S256x512.size hinb).WholeWords (EltTy.packing .bf16))
theorem k0_off446_inb : ∀ (v3006 : BitVec 32) (k0_hw224 : k0_chk224 v3006), ∀ a, (k0_off446 v3006) a + S256x512.size a ≤ S32768x512.size a := fun v3006 k0_hw224 => k0_hw224.1
theorem k0_off446_wordsbf16 : ∀ (v3006 : BitVec 32) (k0_hw224 : k0_chk224 v3006), (Rect.unit (s := S32768x512) (k0_off446 v3006) S256x512.size (k0_off446_inb v3006 k0_hw224)).WholeWords (EltTy.packing .bf16) := fun v3006 k0_hw224 => k0_hw224.2 (k0_off446_inb v3006 k0_hw224)

def k0_off447 (v4 : BitVec 32) : Fin 1 → Nat :=
  let c14_i32_2760 : BitVec 32 := 14#32
  let v3015 : BitVec 32 := Scalar.subi v4 c14_i32_2760
  let c32_i32_2761 : BitVec 32 := 32#32
  let v3016 : BitVec 32 := Scalar.addi v3015 c32_i32_2761
  let c32_i32_2762 : BitVec 32 := 32#32
  let v3017 : BitVec 32 := Scalar.remsi v3016 c32_i32_2762
  let v3018 : Index := Scalar.indexCast v3017
  ![v3018.toNat]
def k0_off448 (v3019 : BitVec 32) : Fin 2 → Nat :=
  let c1024_i32_2763 : BitVec 32 := 1024#32
  let v3020 : BitVec 32 := Scalar.muli v3019 c1024_i32_2763
  let c256_i32_2764 : BitVec 32 := 256#32
  let v3021 : BitVec 32 := Scalar.addi v3020 c256_i32_2764
  let c0_i32_2771 : BitVec 32 := 0#32
  ![v3021.toNat, 0]

def k0_chk225 (v3019 : BitVec 32) : Prop :=
  (∀ a, (k0_off448 v3019) a + S256x512.size a ≤ S32768x512.size a) ∧
  (∀ (hinb : ∀ a, (k0_off448 v3019) a + S256x512.size a ≤ S32768x512.size a), (Rect.unit (s := S32768x512) (k0_off448 v3019) S256x512.size hinb).WholeWords (EltTy.packing .bf16))
theorem k0_off448_inb : ∀ (v3019 : BitVec 32) (k0_hw225 : k0_chk225 v3019), ∀ a, (k0_off448 v3019) a + S256x512.size a ≤ S32768x512.size a := fun v3019 k0_hw225 => k0_hw225.1
theorem k0_off448_wordsbf16 : ∀ (v3019 : BitVec 32) (k0_hw225 : k0_chk225 v3019), (Rect.unit (s := S32768x512) (k0_off448 v3019) S256x512.size (k0_off448_inb v3019 k0_hw225)).WholeWords (EltTy.packing .bf16) := fun v3019 k0_hw225 => k0_hw225.2 (k0_off448_inb v3019 k0_hw225)

def k0_dev117 (v8 : BitVec 32) : Nat :=
  let c0_i32_2770 : BitVec 32 := 0#32
  let c1_i32_2769 : BitVec 32 := 1#32
  let v3022 : BitVec 32 := Scalar.muli v8 c1_i32_2769
  let v3023 : BitVec 32 := Scalar.addi c0_i32_2770 v3022
  v3023.toNat
def k0_off449 (v4 : BitVec 32) : Fin 1 → Nat :=
  let c13_i32_2773 : BitVec 32 := 13#32
  let v3030 : BitVec 32 := Scalar.addi v4 c13_i32_2773
  let c32_i32_2774 : BitVec 32 := 32#32
  let v3031 : BitVec 32 := Scalar.remsi v3030 c32_i32_2774
  let v3032 : Index := Scalar.indexCast v3031
  ![v3032.toNat]
def k0_off450 (v3033 : BitVec 32) : Fin 2 → Nat :=
  let c1024_i32_2775 : BitVec 32 := 1024#32
  let v3034 : BitVec 32 := Scalar.muli v3033 c1024_i32_2775
  let c256_i32_2776 : BitVec 32 := 256#32
  let v3035 : BitVec 32 := Scalar.addi v3034 c256_i32_2776
  let c0_i32_2783 : BitVec 32 := 0#32
  ![v3035.toNat, 0]

def k0_chk226 (v3033 : BitVec 32) : Prop :=
  (∀ a, (k0_off450 v3033) a + S256x512.size a ≤ S32768x512.size a) ∧
  (∀ (hinb : ∀ a, (k0_off450 v3033) a + S256x512.size a ≤ S32768x512.size a), (Rect.unit (s := S32768x512) (k0_off450 v3033) S256x512.size hinb).WholeWords (EltTy.packing .bf16))
theorem k0_off450_inb : ∀ (v3033 : BitVec 32) (k0_hw226 : k0_chk226 v3033), ∀ a, (k0_off450 v3033) a + S256x512.size a ≤ S32768x512.size a := fun v3033 k0_hw226 => k0_hw226.1
theorem k0_off450_wordsbf16 : ∀ (v3033 : BitVec 32) (k0_hw226 : k0_chk226 v3033), (Rect.unit (s := S32768x512) (k0_off450 v3033) S256x512.size (k0_off450_inb v3033 k0_hw226)).WholeWords (EltTy.packing .bf16) := fun v3033 k0_hw226 => k0_hw226.2 (k0_off450_inb v3033 k0_hw226)

def k0_off451 (v4 : BitVec 32) : Fin 1 → Nat :=
  let c14_i32_2785 : BitVec 32 := 14#32
  let v3042 : BitVec 32 := Scalar.addi v4 c14_i32_2785
  let c32_i32_2786 : BitVec 32 := 32#32
  let v3043 : BitVec 32 := Scalar.remsi v3042 c32_i32_2786
  let v3044 : Index := Scalar.indexCast v3043
  ![v3044.toNat]
def k0_off452 (v3045 : BitVec 32) : Fin 2 → Nat :=
  let c1024_i32_2787 : BitVec 32 := 1024#32
  let v3046 : BitVec 32 := Scalar.muli v3045 c1024_i32_2787
  let c256_i32_2788 : BitVec 32 := 256#32
  let v3047 : BitVec 32 := Scalar.addi v3046 c256_i32_2788
  let c0_i32_2795 : BitVec 32 := 0#32
  ![v3047.toNat, 0]

def k0_chk227 (v3045 : BitVec 32) : Prop :=
  (∀ a, (k0_off452 v3045) a + S256x512.size a ≤ S32768x512.size a) ∧
  (∀ (hinb : ∀ a, (k0_off452 v3045) a + S256x512.size a ≤ S32768x512.size a), (Rect.unit (s := S32768x512) (k0_off452 v3045) S256x512.size hinb).WholeWords (EltTy.packing .bf16))
theorem k0_off452_inb : ∀ (v3045 : BitVec 32) (k0_hw227 : k0_chk227 v3045), ∀ a, (k0_off452 v3045) a + S256x512.size a ≤ S32768x512.size a := fun v3045 k0_hw227 => k0_hw227.1
theorem k0_off452_wordsbf16 : ∀ (v3045 : BitVec 32) (k0_hw227 : k0_chk227 v3045), (Rect.unit (s := S32768x512) (k0_off452 v3045) S256x512.size (k0_off452_inb v3045 k0_hw227)).WholeWords (EltTy.packing .bf16) := fun v3045 k0_hw227 => k0_hw227.2 (k0_off452_inb v3045 k0_hw227)

def k0_dev118 (v13 : BitVec 32) : Nat :=
  let c0_i32_2794 : BitVec 32 := 0#32
  let c1_i32_2793 : BitVec 32 := 1#32
  let v3048 : BitVec 32 := Scalar.muli v13 c1_i32_2793
  let v3049 : BitVec 32 := Scalar.addi c0_i32_2794 v3048
  v3049.toNat
def k0_off453 (v4 : BitVec 32) : Fin 1 → Nat :=
  let c13_i32_2797 : BitVec 32 := 13#32
  let v3056 : BitVec 32 := Scalar.subi v4 c13_i32_2797
  let c32_i32_2798 : BitVec 32 := 32#32
  let v3057 : BitVec 32 := Scalar.addi v3056 c32_i32_2798
  let c32_i32_2799 : BitVec 32 := 32#32
  let v3058 : BitVec 32 := Scalar.remsi v3057 c32_i32_2799
  let v3059 : Index := Scalar.indexCast v3058
  ![v3059.toNat]
def k0_off454 (v3060 : BitVec 32) : Fin 2 → Nat :=
  let c1024_i32_2800 : BitVec 32 := 1024#32
  let v3061 : BitVec 32 := Scalar.muli v3060 c1024_i32_2800
  let c512_i32_2801 : BitVec 32 := 512#32
  let v3062 : BitVec 32 := Scalar.addi v3061 c512_i32_2801
  let c0_i32_2808 : BitVec 32 := 0#32
  ![v3062.toNat, 0]

def k0_chk228 (v3060 : BitVec 32) : Prop :=
  (∀ a, (k0_off454 v3060) a + S256x512.size a ≤ S32768x512.size a) ∧
  (∀ (hinb : ∀ a, (k0_off454 v3060) a + S256x512.size a ≤ S32768x512.size a), (Rect.unit (s := S32768x512) (k0_off454 v3060) S256x512.size hinb).WholeWords (EltTy.packing .bf16))
theorem k0_off454_inb : ∀ (v3060 : BitVec 32) (k0_hw228 : k0_chk228 v3060), ∀ a, (k0_off454 v3060) a + S256x512.size a ≤ S32768x512.size a := fun v3060 k0_hw228 => k0_hw228.1
theorem k0_off454_wordsbf16 : ∀ (v3060 : BitVec 32) (k0_hw228 : k0_chk228 v3060), (Rect.unit (s := S32768x512) (k0_off454 v3060) S256x512.size (k0_off454_inb v3060 k0_hw228)).WholeWords (EltTy.packing .bf16) := fun v3060 k0_hw228 => k0_hw228.2 (k0_off454_inb v3060 k0_hw228)

def k0_off455 (v4 : BitVec 32) : Fin 1 → Nat :=
  let c14_i32_2810 : BitVec 32 := 14#32
  let v3069 : BitVec 32 := Scalar.subi v4 c14_i32_2810
  let c32_i32_2811 : BitVec 32 := 32#32
  let v3070 : BitVec 32 := Scalar.addi v3069 c32_i32_2811
  let c32_i32_2812 : BitVec 32 := 32#32
  let v3071 : BitVec 32 := Scalar.remsi v3070 c32_i32_2812
  let v3072 : Index := Scalar.indexCast v3071
  ![v3072.toNat]
def k0_off456 (v3073 : BitVec 32) : Fin 2 → Nat :=
  let c1024_i32_2813 : BitVec 32 := 1024#32
  let v3074 : BitVec 32 := Scalar.muli v3073 c1024_i32_2813
  let c512_i32_2814 : BitVec 32 := 512#32
  let v3075 : BitVec 32 := Scalar.addi v3074 c512_i32_2814
  let c0_i32_2821 : BitVec 32 := 0#32
  ![v3075.toNat, 0]

def k0_chk229 (v3073 : BitVec 32) : Prop :=
  (∀ a, (k0_off456 v3073) a + S256x512.size a ≤ S32768x512.size a) ∧
  (∀ (hinb : ∀ a, (k0_off456 v3073) a + S256x512.size a ≤ S32768x512.size a), (Rect.unit (s := S32768x512) (k0_off456 v3073) S256x512.size hinb).WholeWords (EltTy.packing .bf16))
theorem k0_off456_inb : ∀ (v3073 : BitVec 32) (k0_hw229 : k0_chk229 v3073), ∀ a, (k0_off456 v3073) a + S256x512.size a ≤ S32768x512.size a := fun v3073 k0_hw229 => k0_hw229.1
theorem k0_off456_wordsbf16 : ∀ (v3073 : BitVec 32) (k0_hw229 : k0_chk229 v3073), (Rect.unit (s := S32768x512) (k0_off456 v3073) S256x512.size (k0_off456_inb v3073 k0_hw229)).WholeWords (EltTy.packing .bf16) := fun v3073 k0_hw229 => k0_hw229.2 (k0_off456_inb v3073 k0_hw229)

def k0_dev119 (v8 : BitVec 32) : Nat :=
  let c0_i32_2820 : BitVec 32 := 0#32
  let c1_i32_2819 : BitVec 32 := 1#32
  let v3076 : BitVec 32 := Scalar.muli v8 c1_i32_2819
  let v3077 : BitVec 32 := Scalar.addi c0_i32_2820 v3076
  v3077.toNat
def k0_off457 (v4 : BitVec 32) : Fin 1 → Nat :=
  let c13_i32_2823 : BitVec 32 := 13#32
  let v3084 : BitVec 32 := Scalar.addi v4 c13_i32_2823
  let c32_i32_2824 : BitVec 32 := 32#32
  let v3085 : BitVec 32 := Scalar.remsi v3084 c32_i32_2824
  let v3086 : Index := Scalar.indexCast v3085
  ![v3086.toNat]
def k0_off458 (v3087 : BitVec 32) : Fin 2 → Nat :=
  let c1024_i32_2825 : BitVec 32 := 1024#32
  let v3088 : BitVec 32 := Scalar.muli v3087 c1024_i32_2825
  let c512_i32_2826 : BitVec 32 := 512#32
  let v3089 : BitVec 32 := Scalar.addi v3088 c512_i32_2826
  let c0_i32_2833 : BitVec 32 := 0#32
  ![v3089.toNat, 0]

def k0_chk230 (v3087 : BitVec 32) : Prop :=
  (∀ a, (k0_off458 v3087) a + S256x512.size a ≤ S32768x512.size a) ∧
  (∀ (hinb : ∀ a, (k0_off458 v3087) a + S256x512.size a ≤ S32768x512.size a), (Rect.unit (s := S32768x512) (k0_off458 v3087) S256x512.size hinb).WholeWords (EltTy.packing .bf16))
theorem k0_off458_inb : ∀ (v3087 : BitVec 32) (k0_hw230 : k0_chk230 v3087), ∀ a, (k0_off458 v3087) a + S256x512.size a ≤ S32768x512.size a := fun v3087 k0_hw230 => k0_hw230.1
theorem k0_off458_wordsbf16 : ∀ (v3087 : BitVec 32) (k0_hw230 : k0_chk230 v3087), (Rect.unit (s := S32768x512) (k0_off458 v3087) S256x512.size (k0_off458_inb v3087 k0_hw230)).WholeWords (EltTy.packing .bf16) := fun v3087 k0_hw230 => k0_hw230.2 (k0_off458_inb v3087 k0_hw230)

def k0_off459 (v4 : BitVec 32) : Fin 1 → Nat :=
  let c14_i32_2835 : BitVec 32 := 14#32
  let v3096 : BitVec 32 := Scalar.addi v4 c14_i32_2835
  let c32_i32_2836 : BitVec 32 := 32#32
  let v3097 : BitVec 32 := Scalar.remsi v3096 c32_i32_2836
  let v3098 : Index := Scalar.indexCast v3097
  ![v3098.toNat]
def k0_off460 (v3099 : BitVec 32) : Fin 2 → Nat :=
  let c1024_i32_2837 : BitVec 32 := 1024#32
  let v3100 : BitVec 32 := Scalar.muli v3099 c1024_i32_2837
  let c512_i32_2838 : BitVec 32 := 512#32
  let v3101 : BitVec 32 := Scalar.addi v3100 c512_i32_2838
  let c0_i32_2845 : BitVec 32 := 0#32
  ![v3101.toNat, 0]

def k0_chk231 (v3099 : BitVec 32) : Prop :=
  (∀ a, (k0_off460 v3099) a + S256x512.size a ≤ S32768x512.size a) ∧
  (∀ (hinb : ∀ a, (k0_off460 v3099) a + S256x512.size a ≤ S32768x512.size a), (Rect.unit (s := S32768x512) (k0_off460 v3099) S256x512.size hinb).WholeWords (EltTy.packing .bf16))
theorem k0_off460_inb : ∀ (v3099 : BitVec 32) (k0_hw231 : k0_chk231 v3099), ∀ a, (k0_off460 v3099) a + S256x512.size a ≤ S32768x512.size a := fun v3099 k0_hw231 => k0_hw231.1
theorem k0_off460_wordsbf16 : ∀ (v3099 : BitVec 32) (k0_hw231 : k0_chk231 v3099), (Rect.unit (s := S32768x512) (k0_off460 v3099) S256x512.size (k0_off460_inb v3099 k0_hw231)).WholeWords (EltTy.packing .bf16) := fun v3099 k0_hw231 => k0_hw231.2 (k0_off460_inb v3099 k0_hw231)

def k0_dev120 (v13 : BitVec 32) : Nat :=
  let c0_i32_2844 : BitVec 32 := 0#32
  let c1_i32_2843 : BitVec 32 := 1#32
  let v3102 : BitVec 32 := Scalar.muli v13 c1_i32_2843
  let v3103 : BitVec 32 := Scalar.addi c0_i32_2844 v3102
  v3103.toNat
def k0_off461 (v4 : BitVec 32) : Fin 1 → Nat :=
  let c13_i32_2847 : BitVec 32 := 13#32
  let v3110 : BitVec 32 := Scalar.subi v4 c13_i32_2847
  let c32_i32_2848 : BitVec 32 := 32#32
  let v3111 : BitVec 32 := Scalar.addi v3110 c32_i32_2848
  let c32_i32_2849 : BitVec 32 := 32#32
  let v3112 : BitVec 32 := Scalar.remsi v3111 c32_i32_2849
  let v3113 : Index := Scalar.indexCast v3112
  ![v3113.toNat]
def k0_off462 (v3114 : BitVec 32) : Fin 2 → Nat :=
  let c1024_i32_2850 : BitVec 32 := 1024#32
  let v3115 : BitVec 32 := Scalar.muli v3114 c1024_i32_2850
  let c768_i32_2851 : BitVec 32 := 768#32
  let v3116 : BitVec 32 := Scalar.addi v3115 c768_i32_2851
  let c0_i32_2858 : BitVec 32 := 0#32
  ![v3116.toNat, 0]

def k0_chk232 (v3114 : BitVec 32) : Prop :=
  (∀ a, (k0_off462 v3114) a + S256x512.size a ≤ S32768x512.size a) ∧
  (∀ (hinb : ∀ a, (k0_off462 v3114) a + S256x512.size a ≤ S32768x512.size a), (Rect.unit (s := S32768x512) (k0_off462 v3114) S256x512.size hinb).WholeWords (EltTy.packing .bf16))
theorem k0_off462_inb : ∀ (v3114 : BitVec 32) (k0_hw232 : k0_chk232 v3114), ∀ a, (k0_off462 v3114) a + S256x512.size a ≤ S32768x512.size a := fun v3114 k0_hw232 => k0_hw232.1
theorem k0_off462_wordsbf16 : ∀ (v3114 : BitVec 32) (k0_hw232 : k0_chk232 v3114), (Rect.unit (s := S32768x512) (k0_off462 v3114) S256x512.size (k0_off462_inb v3114 k0_hw232)).WholeWords (EltTy.packing .bf16) := fun v3114 k0_hw232 => k0_hw232.2 (k0_off462_inb v3114 k0_hw232)

def k0_off463 (v4 : BitVec 32) : Fin 1 → Nat :=
  let c14_i32_2860 : BitVec 32 := 14#32
  let v3123 : BitVec 32 := Scalar.subi v4 c14_i32_2860
  let c32_i32_2861 : BitVec 32 := 32#32
  let v3124 : BitVec 32 := Scalar.addi v3123 c32_i32_2861
  let c32_i32_2862 : BitVec 32 := 32#32
  let v3125 : BitVec 32 := Scalar.remsi v3124 c32_i32_2862
  let v3126 : Index := Scalar.indexCast v3125
  ![v3126.toNat]
def k0_off464 (v3127 : BitVec 32) : Fin 2 → Nat :=
  let c1024_i32_2863 : BitVec 32 := 1024#32
  let v3128 : BitVec 32 := Scalar.muli v3127 c1024_i32_2863
  let c768_i32_2864 : BitVec 32 := 768#32
  let v3129 : BitVec 32 := Scalar.addi v3128 c768_i32_2864
  let c0_i32_2871 : BitVec 32 := 0#32
  ![v3129.toNat, 0]

def k0_chk233 (v3127 : BitVec 32) : Prop :=
  (∀ a, (k0_off464 v3127) a + S256x512.size a ≤ S32768x512.size a) ∧
  (∀ (hinb : ∀ a, (k0_off464 v3127) a + S256x512.size a ≤ S32768x512.size a), (Rect.unit (s := S32768x512) (k0_off464 v3127) S256x512.size hinb).WholeWords (EltTy.packing .bf16))
theorem k0_off464_inb : ∀ (v3127 : BitVec 32) (k0_hw233 : k0_chk233 v3127), ∀ a, (k0_off464 v3127) a + S256x512.size a ≤ S32768x512.size a := fun v3127 k0_hw233 => k0_hw233.1
theorem k0_off464_wordsbf16 : ∀ (v3127 : BitVec 32) (k0_hw233 : k0_chk233 v3127), (Rect.unit (s := S32768x512) (k0_off464 v3127) S256x512.size (k0_off464_inb v3127 k0_hw233)).WholeWords (EltTy.packing .bf16) := fun v3127 k0_hw233 => k0_hw233.2 (k0_off464_inb v3127 k0_hw233)

def k0_dev121 (v8 : BitVec 32) : Nat :=
  let c0_i32_2870 : BitVec 32 := 0#32
  let c1_i32_2869 : BitVec 32 := 1#32
  let v3130 : BitVec 32 := Scalar.muli v8 c1_i32_2869
  let v3131 : BitVec 32 := Scalar.addi c0_i32_2870 v3130
  v3131.toNat
def k0_off465 (v4 : BitVec 32) : Fin 1 → Nat :=
  let c13_i32_2873 : BitVec 32 := 13#32
  let v3138 : BitVec 32 := Scalar.addi v4 c13_i32_2873
  let c32_i32_2874 : BitVec 32 := 32#32
  let v3139 : BitVec 32 := Scalar.remsi v3138 c32_i32_2874
  let v3140 : Index := Scalar.indexCast v3139
  ![v3140.toNat]
def k0_off466 (v3141 : BitVec 32) : Fin 2 → Nat :=
  let c1024_i32_2875 : BitVec 32 := 1024#32
  let v3142 : BitVec 32 := Scalar.muli v3141 c1024_i32_2875
  let c768_i32_2876 : BitVec 32 := 768#32
  let v3143 : BitVec 32 := Scalar.addi v3142 c768_i32_2876
  let c0_i32_2883 : BitVec 32 := 0#32
  ![v3143.toNat, 0]

def k0_chk234 (v3141 : BitVec 32) : Prop :=
  (∀ a, (k0_off466 v3141) a + S256x512.size a ≤ S32768x512.size a) ∧
  (∀ (hinb : ∀ a, (k0_off466 v3141) a + S256x512.size a ≤ S32768x512.size a), (Rect.unit (s := S32768x512) (k0_off466 v3141) S256x512.size hinb).WholeWords (EltTy.packing .bf16))
theorem k0_off466_inb : ∀ (v3141 : BitVec 32) (k0_hw234 : k0_chk234 v3141), ∀ a, (k0_off466 v3141) a + S256x512.size a ≤ S32768x512.size a := fun v3141 k0_hw234 => k0_hw234.1
theorem k0_off466_wordsbf16 : ∀ (v3141 : BitVec 32) (k0_hw234 : k0_chk234 v3141), (Rect.unit (s := S32768x512) (k0_off466 v3141) S256x512.size (k0_off466_inb v3141 k0_hw234)).WholeWords (EltTy.packing .bf16) := fun v3141 k0_hw234 => k0_hw234.2 (k0_off466_inb v3141 k0_hw234)

def k0_off467 (v4 : BitVec 32) : Fin 1 → Nat :=
  let c14_i32_2885 : BitVec 32 := 14#32
  let v3150 : BitVec 32 := Scalar.addi v4 c14_i32_2885
  let c32_i32_2886 : BitVec 32 := 32#32
  let v3151 : BitVec 32 := Scalar.remsi v3150 c32_i32_2886
  let v3152 : Index := Scalar.indexCast v3151
  ![v3152.toNat]
def k0_off468 (v3153 : BitVec 32) : Fin 2 → Nat :=
  let c1024_i32_2887 : BitVec 32 := 1024#32
  let v3154 : BitVec 32 := Scalar.muli v3153 c1024_i32_2887
  let c768_i32_2888 : BitVec 32 := 768#32
  let v3155 : BitVec 32 := Scalar.addi v3154 c768_i32_2888
  let c0_i32_2895 : BitVec 32 := 0#32
  ![v3155.toNat, 0]

def k0_chk235 (v3153 : BitVec 32) : Prop :=
  (∀ a, (k0_off468 v3153) a + S256x512.size a ≤ S32768x512.size a) ∧
  (∀ (hinb : ∀ a, (k0_off468 v3153) a + S256x512.size a ≤ S32768x512.size a), (Rect.unit (s := S32768x512) (k0_off468 v3153) S256x512.size hinb).WholeWords (EltTy.packing .bf16))
theorem k0_off468_inb : ∀ (v3153 : BitVec 32) (k0_hw235 : k0_chk235 v3153), ∀ a, (k0_off468 v3153) a + S256x512.size a ≤ S32768x512.size a := fun v3153 k0_hw235 => k0_hw235.1
theorem k0_off468_wordsbf16 : ∀ (v3153 : BitVec 32) (k0_hw235 : k0_chk235 v3153), (Rect.unit (s := S32768x512) (k0_off468 v3153) S256x512.size (k0_off468_inb v3153 k0_hw235)).WholeWords (EltTy.packing .bf16) := fun v3153 k0_hw235 => k0_hw235.2 (k0_off468_inb v3153 k0_hw235)

def k0_dev122 (v13 : BitVec 32) : Nat :=
  let c0_i32_2894 : BitVec 32 := 0#32
  let c1_i32_2893 : BitVec 32 := 1#32
  let v3156 : BitVec 32 := Scalar.muli v13 c1_i32_2893
  let v3157 : BitVec 32 := Scalar.addi c0_i32_2894 v3156
  v3157.toNat
def k0_off469 (v4 : BitVec 32) : Fin 1 → Nat :=
  let c14_i32_2897 : BitVec 32 := 14#32
  let v3164 : BitVec 32 := Scalar.subi v4 c14_i32_2897
  let c32_i32_2898 : BitVec 32 := 32#32
  let v3165 : BitVec 32 := Scalar.addi v3164 c32_i32_2898
  let c32_i32_2899 : BitVec 32 := 32#32
  let v3166 : BitVec 32 := Scalar.remsi v3165 c32_i32_2899
  let v3167 : Index := Scalar.indexCast v3166
  ![v3167.toNat]
def k0_off470 (v3168 : BitVec 32) : Fin 2 → Nat :=
  let c1024_i32_2900 : BitVec 32 := 1024#32
  let v3169 : BitVec 32 := Scalar.muli v3168 c1024_i32_2900
  let c0_i32_2901 : BitVec 32 := 0#32
  let v3170 : BitVec 32 := Scalar.addi v3169 c0_i32_2901
  let c0_i32_2908 : BitVec 32 := 0#32
  ![v3170.toNat, 0]

def k0_chk236 (v3168 : BitVec 32) : Prop :=
  (∀ a, (k0_off470 v3168) a + S256x512.size a ≤ S32768x512.size a) ∧
  (∀ (hinb : ∀ a, (k0_off470 v3168) a + S256x512.size a ≤ S32768x512.size a), (Rect.unit (s := S32768x512) (k0_off470 v3168) S256x512.size hinb).WholeWords (EltTy.packing .bf16))
theorem k0_off470_inb : ∀ (v3168 : BitVec 32) (k0_hw236 : k0_chk236 v3168), ∀ a, (k0_off470 v3168) a + S256x512.size a ≤ S32768x512.size a := fun v3168 k0_hw236 => k0_hw236.1
theorem k0_off470_wordsbf16 : ∀ (v3168 : BitVec 32) (k0_hw236 : k0_chk236 v3168), (Rect.unit (s := S32768x512) (k0_off470 v3168) S256x512.size (k0_off470_inb v3168 k0_hw236)).WholeWords (EltTy.packing .bf16) := fun v3168 k0_hw236 => k0_hw236.2 (k0_off470_inb v3168 k0_hw236)

def k0_off471 (v4 : BitVec 32) : Fin 1 → Nat :=
  let c15_i32 : BitVec 32 := 15#32
  let v3177 : BitVec 32 := Scalar.subi v4 c15_i32
  let c32_i32_2910 : BitVec 32 := 32#32
  let v3178 : BitVec 32 := Scalar.addi v3177 c32_i32_2910
  let c32_i32_2911 : BitVec 32 := 32#32
  let v3179 : BitVec 32 := Scalar.remsi v3178 c32_i32_2911
  let v3180 : Index := Scalar.indexCast v3179
  ![v3180.toNat]
def k0_off472 (v3181 : BitVec 32) : Fin 2 → Nat :=
  let c1024_i32_2912 : BitVec 32 := 1024#32
  let v3182 : BitVec 32 := Scalar.muli v3181 c1024_i32_2912
  let c0_i32_2913 : BitVec 32 := 0#32
  let v3183 : BitVec 32 := Scalar.addi v3182 c0_i32_2913
  let c0_i32_2920 : BitVec 32 := 0#32
  ![v3183.toNat, 0]

def k0_chk237 (v3181 : BitVec 32) : Prop :=
  (∀ a, (k0_off472 v3181) a + S256x512.size a ≤ S32768x512.size a) ∧
  (∀ (hinb : ∀ a, (k0_off472 v3181) a + S256x512.size a ≤ S32768x512.size a), (Rect.unit (s := S32768x512) (k0_off472 v3181) S256x512.size hinb).WholeWords (EltTy.packing .bf16))
theorem k0_off472_inb : ∀ (v3181 : BitVec 32) (k0_hw237 : k0_chk237 v3181), ∀ a, (k0_off472 v3181) a + S256x512.size a ≤ S32768x512.size a := fun v3181 k0_hw237 => k0_hw237.1
theorem k0_off472_wordsbf16 : ∀ (v3181 : BitVec 32) (k0_hw237 : k0_chk237 v3181), (Rect.unit (s := S32768x512) (k0_off472 v3181) S256x512.size (k0_off472_inb v3181 k0_hw237)).WholeWords (EltTy.packing .bf16) := fun v3181 k0_hw237 => k0_hw237.2 (k0_off472_inb v3181 k0_hw237)

def k0_dev123 (v8 : BitVec 32) : Nat :=
  let c0_i32_2919 : BitVec 32 := 0#32
  let c1_i32_2918 : BitVec 32 := 1#32
  let v3184 : BitVec 32 := Scalar.muli v8 c1_i32_2918
  let v3185 : BitVec 32 := Scalar.addi c0_i32_2919 v3184
  v3185.toNat
def k0_off473 (v4 : BitVec 32) : Fin 1 → Nat :=
  let c14_i32_2922 : BitVec 32 := 14#32
  let v3192 : BitVec 32 := Scalar.addi v4 c14_i32_2922
  let c32_i32_2923 : BitVec 32 := 32#32
  let v3193 : BitVec 32 := Scalar.remsi v3192 c32_i32_2923
  let v3194 : Index := Scalar.indexCast v3193
  ![v3194.toNat]
def k0_off474 (v3195 : BitVec 32) : Fin 2 → Nat :=
  let c1024_i32_2924 : BitVec 32 := 1024#32
  let v3196 : BitVec 32 := Scalar.muli v3195 c1024_i32_2924
  let c0_i32_2925 : BitVec 32 := 0#32
  let v3197 : BitVec 32 := Scalar.addi v3196 c0_i32_2925
  let c0_i32_2932 : BitVec 32 := 0#32
  ![v3197.toNat, 0]

def k0_chk238 (v3195 : BitVec 32) : Prop :=
  (∀ a, (k0_off474 v3195) a + S256x512.size a ≤ S32768x512.size a) ∧
  (∀ (hinb : ∀ a, (k0_off474 v3195) a + S256x512.size a ≤ S32768x512.size a), (Rect.unit (s := S32768x512) (k0_off474 v3195) S256x512.size hinb).WholeWords (EltTy.packing .bf16))
theorem k0_off474_inb : ∀ (v3195 : BitVec 32) (k0_hw238 : k0_chk238 v3195), ∀ a, (k0_off474 v3195) a + S256x512.size a ≤ S32768x512.size a := fun v3195 k0_hw238 => k0_hw238.1
theorem k0_off474_wordsbf16 : ∀ (v3195 : BitVec 32) (k0_hw238 : k0_chk238 v3195), (Rect.unit (s := S32768x512) (k0_off474 v3195) S256x512.size (k0_off474_inb v3195 k0_hw238)).WholeWords (EltTy.packing .bf16) := fun v3195 k0_hw238 => k0_hw238.2 (k0_off474_inb v3195 k0_hw238)

def k0_off475 (v4 : BitVec 32) : Fin 1 → Nat :=
  let c14_i32_2934 : BitVec 32 := 14#32
  let v3204 : BitVec 32 := Scalar.subi v4 c14_i32_2934
  let c32_i32_2935 : BitVec 32 := 32#32
  let v3205 : BitVec 32 := Scalar.addi v3204 c32_i32_2935
  let c32_i32_2936 : BitVec 32 := 32#32
  let v3206 : BitVec 32 := Scalar.remsi v3205 c32_i32_2936
  let v3207 : Index := Scalar.indexCast v3206
  ![v3207.toNat]
def k0_off476 (v3208 : BitVec 32) : Fin 2 → Nat :=
  let c1024_i32_2937 : BitVec 32 := 1024#32
  let v3209 : BitVec 32 := Scalar.muli v3208 c1024_i32_2937
  let c256_i32_2938 : BitVec 32 := 256#32
  let v3210 : BitVec 32 := Scalar.addi v3209 c256_i32_2938
  let c0_i32_2945 : BitVec 32 := 0#32
  ![v3210.toNat, 0]

def k0_chk239 (v3208 : BitVec 32) : Prop :=
  (∀ a, (k0_off476 v3208) a + S256x512.size a ≤ S32768x512.size a) ∧
  (∀ (hinb : ∀ a, (k0_off476 v3208) a + S256x512.size a ≤ S32768x512.size a), (Rect.unit (s := S32768x512) (k0_off476 v3208) S256x512.size hinb).WholeWords (EltTy.packing .bf16))
theorem k0_off476_inb : ∀ (v3208 : BitVec 32) (k0_hw239 : k0_chk239 v3208), ∀ a, (k0_off476 v3208) a + S256x512.size a ≤ S32768x512.size a := fun v3208 k0_hw239 => k0_hw239.1
theorem k0_off476_wordsbf16 : ∀ (v3208 : BitVec 32) (k0_hw239 : k0_chk239 v3208), (Rect.unit (s := S32768x512) (k0_off476 v3208) S256x512.size (k0_off476_inb v3208 k0_hw239)).WholeWords (EltTy.packing .bf16) := fun v3208 k0_hw239 => k0_hw239.2 (k0_off476_inb v3208 k0_hw239)

def k0_off477 (v4 : BitVec 32) : Fin 1 → Nat :=
  let c15_i32_2947 : BitVec 32 := 15#32
  let v3217 : BitVec 32 := Scalar.subi v4 c15_i32_2947
  let c32_i32_2948 : BitVec 32 := 32#32
  let v3218 : BitVec 32 := Scalar.addi v3217 c32_i32_2948
  let c32_i32_2949 : BitVec 32 := 32#32
  let v3219 : BitVec 32 := Scalar.remsi v3218 c32_i32_2949
  let v3220 : Index := Scalar.indexCast v3219
  ![v3220.toNat]
def k0_off478 (v3221 : BitVec 32) : Fin 2 → Nat :=
  let c1024_i32_2950 : BitVec 32 := 1024#32
  let v3222 : BitVec 32 := Scalar.muli v3221 c1024_i32_2950
  let c256_i32_2951 : BitVec 32 := 256#32
  let v3223 : BitVec 32 := Scalar.addi v3222 c256_i32_2951
  let c0_i32_2958 : BitVec 32 := 0#32
  ![v3223.toNat, 0]

def k0_chk240 (v3221 : BitVec 32) : Prop :=
  (∀ a, (k0_off478 v3221) a + S256x512.size a ≤ S32768x512.size a) ∧
  (∀ (hinb : ∀ a, (k0_off478 v3221) a + S256x512.size a ≤ S32768x512.size a), (Rect.unit (s := S32768x512) (k0_off478 v3221) S256x512.size hinb).WholeWords (EltTy.packing .bf16))
theorem k0_off478_inb : ∀ (v3221 : BitVec 32) (k0_hw240 : k0_chk240 v3221), ∀ a, (k0_off478 v3221) a + S256x512.size a ≤ S32768x512.size a := fun v3221 k0_hw240 => k0_hw240.1
theorem k0_off478_wordsbf16 : ∀ (v3221 : BitVec 32) (k0_hw240 : k0_chk240 v3221), (Rect.unit (s := S32768x512) (k0_off478 v3221) S256x512.size (k0_off478_inb v3221 k0_hw240)).WholeWords (EltTy.packing .bf16) := fun v3221 k0_hw240 => k0_hw240.2 (k0_off478_inb v3221 k0_hw240)

def k0_dev124 (v8 : BitVec 32) : Nat :=
  let c0_i32_2957 : BitVec 32 := 0#32
  let c1_i32_2956 : BitVec 32 := 1#32
  let v3224 : BitVec 32 := Scalar.muli v8 c1_i32_2956
  let v3225 : BitVec 32 := Scalar.addi c0_i32_2957 v3224
  v3225.toNat

def k0_chk3_0 (v8 : BitVec 32) : Prop :=
  ((k0_dev2 v8) < nD) ∧
  ((k0_dev3 v8) < nD) ∧
  ((k0_dev4 v8) < nD) ∧
  ((k0_dev5 v8) < nD) ∧
  ((k0_dev6 v8) < nD) ∧
  ((k0_dev11 v8) < nD) ∧
  ((k0_dev13 v8) < nD) ∧
  ((k0_dev15 v8) < nD) ∧
  ((k0_dev17 v8) < nD) ∧
  ((k0_dev19 v8) < nD) ∧
  ((k0_dev21 v8) < nD) ∧
  ((k0_dev23 v8) < nD) ∧
  ((k0_dev25 v8) < nD) ∧
  ((k0_dev27 v8) < nD) ∧
  ((k0_dev29 v8) < nD) ∧
  ((k0_dev31 v8) < nD) ∧
  ((k0_dev33 v8) < nD) ∧
  ((k0_dev35 v8) < nD) ∧
  ((k0_dev37 v8) < nD) ∧
  ((k0_dev39 v8) < nD) ∧
  ((k0_dev41 v8) < nD) ∧
  ((k0_dev43 v8) < nD) ∧
  ((k0_dev45 v8) < nD) ∧
  ((k0_dev47 v8) < nD) ∧
  ((k0_dev49 v8) < nD) ∧
  ((k0_dev51 v8) < nD) ∧
  ((k0_dev53 v8) < nD) ∧
  ((k0_dev55 v8) < nD) ∧
  ((k0_dev57 v8) < nD) ∧
  ((k0_dev59 v8) < nD) ∧
  ((k0_dev61 v8) < nD) ∧
  ((k0_dev63 v8) < nD)
def k0_chk3_1 (v8 : BitVec 32) : Prop :=
  ((k0_dev65 v8) < nD) ∧
  ((k0_dev67 v8) < nD) ∧
  ((k0_dev69 v8) < nD) ∧
  ((k0_dev71 v8) < nD) ∧
  ((k0_dev73 v8) < nD) ∧
  ((k0_dev75 v8) < nD) ∧
  ((k0_dev77 v8) < nD) ∧
  ((k0_dev79 v8) < nD) ∧
  ((k0_dev81 v8) < nD) ∧
  ((k0_dev83 v8) < nD) ∧
  ((k0_dev85 v8) < nD) ∧
  ((k0_dev87 v8) < nD) ∧
  ((k0_dev89 v8) < nD) ∧
  ((k0_dev91 v8) < nD) ∧
  ((k0_dev93 v8) < nD) ∧
  ((k0_dev95 v8) < nD) ∧
  ((k0_dev97 v8) < nD) ∧
  ((k0_dev99 v8) < nD) ∧
  ((k0_dev101 v8) < nD) ∧
  ((k0_dev103 v8) < nD) ∧
  ((k0_dev105 v8) < nD) ∧
  ((k0_dev107 v8) < nD) ∧
  ((k0_dev109 v8) < nD) ∧
  ((k0_dev111 v8) < nD) ∧
  ((k0_dev113 v8) < nD) ∧
  ((k0_dev115 v8) < nD) ∧
  ((k0_dev117 v8) < nD) ∧
  ((k0_dev119 v8) < nD) ∧
  ((k0_dev121 v8) < nD) ∧
  ((k0_dev123 v8) < nD) ∧
  ((k0_dev124 v8) < nD)
def k0_chk3 (v8 : BitVec 32) : Prop :=
  k0_chk3_0 v8 ∧
  k0_chk3_1 v8
theorem k0_dev2_lt : ∀ (v8 : BitVec 32) (k0_hw3 : k0_chk3 v8), (k0_dev2 v8) < nD := fun v8 k0_hw3 => k0_hw3.1.1
theorem k0_dev3_lt : ∀ (v8 : BitVec 32) (k0_hw3 : k0_chk3 v8), (k0_dev3 v8) < nD := fun v8 k0_hw3 => k0_hw3.1.2.1
theorem k0_dev4_lt : ∀ (v8 : BitVec 32) (k0_hw3 : k0_chk3 v8), (k0_dev4 v8) < nD := fun v8 k0_hw3 => k0_hw3.1.2.2.1
theorem k0_dev5_lt : ∀ (v8 : BitVec 32) (k0_hw3 : k0_chk3 v8), (k0_dev5 v8) < nD := fun v8 k0_hw3 => k0_hw3.1.2.2.2.1
theorem k0_dev6_lt : ∀ (v8 : BitVec 32) (k0_hw3 : k0_chk3 v8), (k0_dev6 v8) < nD := fun v8 k0_hw3 => k0_hw3.1.2.2.2.2.1
theorem k0_dev11_lt : ∀ (v8 : BitVec 32) (k0_hw3 : k0_chk3 v8), (k0_dev11 v8) < nD := fun v8 k0_hw3 => k0_hw3.1.2.2.2.2.2.1
theorem k0_dev13_lt : ∀ (v8 : BitVec 32) (k0_hw3 : k0_chk3 v8), (k0_dev13 v8) < nD := fun v8 k0_hw3 => k0_hw3.1.2.2.2.2.2.2.1
theorem k0_dev15_lt : ∀ (v8 : BitVec 32) (k0_hw3 : k0_chk3 v8), (k0_dev15 v8) < nD := fun v8 k0_hw3 => k0_hw3.1.2.2.2.2.2.2.2.1
theorem k0_dev17_lt : ∀ (v8 : BitVec 32) (k0_hw3 : k0_chk3 v8), (k0_dev17 v8) < nD := fun v8 k0_hw3 => k0_hw3.1.2.2.2.2.2.2.2.2.1
theorem k0_dev19_lt : ∀ (v8 : BitVec 32) (k0_hw3 : k0_chk3 v8), (k0_dev19 v8) < nD := fun v8 k0_hw3 => k0_hw3.1.2.2.2.2.2.2.2.2.2.1
theorem k0_dev21_lt : ∀ (v8 : BitVec 32) (k0_hw3 : k0_chk3 v8), (k0_dev21 v8) < nD := fun v8 k0_hw3 => k0_hw3.1.2.2.2.2.2.2.2.2.2.2.1
theorem k0_dev23_lt : ∀ (v8 : BitVec 32) (k0_hw3 : k0_chk3 v8), (k0_dev23 v8) < nD := fun v8 k0_hw3 => k0_hw3.1.2.2.2.2.2.2.2.2.2.2.2.1
theorem k0_dev25_lt : ∀ (v8 : BitVec 32) (k0_hw3 : k0_chk3 v8), (k0_dev25 v8) < nD := fun v8 k0_hw3 => k0_hw3.1.2.2.2.2.2.2.2.2.2.2.2.2.1
theorem k0_dev27_lt : ∀ (v8 : BitVec 32) (k0_hw3 : k0_chk3 v8), (k0_dev27 v8) < nD := fun v8 k0_hw3 => k0_hw3.1.2.2.2.2.2.2.2.2.2.2.2.2.2.1
theorem k0_dev29_lt : ∀ (v8 : BitVec 32) (k0_hw3 : k0_chk3 v8), (k0_dev29 v8) < nD := fun v8 k0_hw3 => k0_hw3.1.2.2.2.2.2.2.2.2.2.2.2.2.2.2.1
theorem k0_dev31_lt : ∀ (v8 : BitVec 32) (k0_hw3 : k0_chk3 v8), (k0_dev31 v8) < nD := fun v8 k0_hw3 => k0_hw3.1.2.2.2.2.2.2.2.2.2.2.2.2.2.2.2.1
theorem k0_dev33_lt : ∀ (v8 : BitVec 32) (k0_hw3 : k0_chk3 v8), (k0_dev33 v8) < nD := fun v8 k0_hw3 => k0_hw3.1.2.2.2.2.2.2.2.2.2.2.2.2.2.2.2.2.1
theorem k0_dev35_lt : ∀ (v8 : BitVec 32) (k0_hw3 : k0_chk3 v8), (k0_dev35 v8) < nD := fun v8 k0_hw3 => k0_hw3.1.2.2.2.2.2.2.2.2.2.2.2.2.2.2.2.2.2.1
theorem k0_dev37_lt : ∀ (v8 : BitVec 32) (k0_hw3 : k0_chk3 v8), (k0_dev37 v8) < nD := fun v8 k0_hw3 => k0_hw3.1.2.2.2.2.2.2.2.2.2.2.2.2.2.2.2.2.2.2.1
theorem k0_dev39_lt : ∀ (v8 : BitVec 32) (k0_hw3 : k0_chk3 v8), (k0_dev39 v8) < nD := fun v8 k0_hw3 => k0_hw3.1.2.2.2.2.2.2.2.2.2.2.2.2.2.2.2.2.2.2.2.1
theorem k0_dev41_lt : ∀ (v8 : BitVec 32) (k0_hw3 : k0_chk3 v8), (k0_dev41 v8) < nD := fun v8 k0_hw3 => k0_hw3.1.2.2.2.2.2.2.2.2.2.2.2.2.2.2.2.2.2.2.2.2.1
theorem k0_dev43_lt : ∀ (v8 : BitVec 32) (k0_hw3 : k0_chk3 v8), (k0_dev43 v8) < nD := fun v8 k0_hw3 => k0_hw3.1.2.2.2.2.2.2.2.2.2.2.2.2.2.2.2.2.2.2.2.2.2.1
theorem k0_dev45_lt : ∀ (v8 : BitVec 32) (k0_hw3 : k0_chk3 v8), (k0_dev45 v8) < nD := fun v8 k0_hw3 => k0_hw3.1.2.2.2.2.2.2.2.2.2.2.2.2.2.2.2.2.2.2.2.2.2.2.1
theorem k0_dev47_lt : ∀ (v8 : BitVec 32) (k0_hw3 : k0_chk3 v8), (k0_dev47 v8) < nD := fun v8 k0_hw3 => k0_hw3.1.2.2.2.2.2.2.2.2.2.2.2.2.2.2.2.2.2.2.2.2.2.2.2.1
theorem k0_dev49_lt : ∀ (v8 : BitVec 32) (k0_hw3 : k0_chk3 v8), (k0_dev49 v8) < nD := fun v8 k0_hw3 => k0_hw3.1.2.2.2.2.2.2.2.2.2.2.2.2.2.2.2.2.2.2.2.2.2.2.2.2.1
theorem k0_dev51_lt : ∀ (v8 : BitVec 32) (k0_hw3 : k0_chk3 v8), (k0_dev51 v8) < nD := fun v8 k0_hw3 => k0_hw3.1.2.2.2.2.2.2.2.2.2.2.2.2.2.2.2.2.2.2.2.2.2.2.2.2.2.1
theorem k0_dev53_lt : ∀ (v8 : BitVec 32) (k0_hw3 : k0_chk3 v8), (k0_dev53 v8) < nD := fun v8 k0_hw3 => k0_hw3.1.2.2.2.2.2.2.2.2.2.2.2.2.2.2.2.2.2.2.2.2.2.2.2.2.2.2.1
theorem k0_dev55_lt : ∀ (v8 : BitVec 32) (k0_hw3 : k0_chk3 v8), (k0_dev55 v8) < nD := fun v8 k0_hw3 => k0_hw3.1.2.2.2.2.2.2.2.2.2.2.2.2.2.2.2.2.2.2.2.2.2.2.2.2.2.2.2.1
theorem k0_dev57_lt : ∀ (v8 : BitVec 32) (k0_hw3 : k0_chk3 v8), (k0_dev57 v8) < nD := fun v8 k0_hw3 => k0_hw3.1.2.2.2.2.2.2.2.2.2.2.2.2.2.2.2.2.2.2.2.2.2.2.2.2.2.2.2.2.1
theorem k0_dev59_lt : ∀ (v8 : BitVec 32) (k0_hw3 : k0_chk3 v8), (k0_dev59 v8) < nD := fun v8 k0_hw3 => k0_hw3.1.2.2.2.2.2.2.2.2.2.2.2.2.2.2.2.2.2.2.2.2.2.2.2.2.2.2.2.2.2.1
theorem k0_dev61_lt : ∀ (v8 : BitVec 32) (k0_hw3 : k0_chk3 v8), (k0_dev61 v8) < nD := fun v8 k0_hw3 => k0_hw3.1.2.2.2.2.2.2.2.2.2.2.2.2.2.2.2.2.2.2.2.2.2.2.2.2.2.2.2.2.2.2.1
theorem k0_dev63_lt : ∀ (v8 : BitVec 32) (k0_hw3 : k0_chk3 v8), (k0_dev63 v8) < nD := fun v8 k0_hw3 => k0_hw3.1.2.2.2.2.2.2.2.2.2.2.2.2.2.2.2.2.2.2.2.2.2.2.2.2.2.2.2.2.2.2.2
theorem k0_dev65_lt : ∀ (v8 : BitVec 32) (k0_hw3 : k0_chk3 v8), (k0_dev65 v8) < nD := fun v8 k0_hw3 => k0_hw3.2.1
theorem k0_dev67_lt : ∀ (v8 : BitVec 32) (k0_hw3 : k0_chk3 v8), (k0_dev67 v8) < nD := fun v8 k0_hw3 => k0_hw3.2.2.1
theorem k0_dev69_lt : ∀ (v8 : BitVec 32) (k0_hw3 : k0_chk3 v8), (k0_dev69 v8) < nD := fun v8 k0_hw3 => k0_hw3.2.2.2.1
theorem k0_dev71_lt : ∀ (v8 : BitVec 32) (k0_hw3 : k0_chk3 v8), (k0_dev71 v8) < nD := fun v8 k0_hw3 => k0_hw3.2.2.2.2.1
theorem k0_dev73_lt : ∀ (v8 : BitVec 32) (k0_hw3 : k0_chk3 v8), (k0_dev73 v8) < nD := fun v8 k0_hw3 => k0_hw3.2.2.2.2.2.1
theorem k0_dev75_lt : ∀ (v8 : BitVec 32) (k0_hw3 : k0_chk3 v8), (k0_dev75 v8) < nD := fun v8 k0_hw3 => k0_hw3.2.2.2.2.2.2.1
theorem k0_dev77_lt : ∀ (v8 : BitVec 32) (k0_hw3 : k0_chk3 v8), (k0_dev77 v8) < nD := fun v8 k0_hw3 => k0_hw3.2.2.2.2.2.2.2.1
theorem k0_dev79_lt : ∀ (v8 : BitVec 32) (k0_hw3 : k0_chk3 v8), (k0_dev79 v8) < nD := fun v8 k0_hw3 => k0_hw3.2.2.2.2.2.2.2.2.1
theorem k0_dev81_lt : ∀ (v8 : BitVec 32) (k0_hw3 : k0_chk3 v8), (k0_dev81 v8) < nD := fun v8 k0_hw3 => k0_hw3.2.2.2.2.2.2.2.2.2.1
theorem k0_dev83_lt : ∀ (v8 : BitVec 32) (k0_hw3 : k0_chk3 v8), (k0_dev83 v8) < nD := fun v8 k0_hw3 => k0_hw3.2.2.2.2.2.2.2.2.2.2.1
theorem k0_dev85_lt : ∀ (v8 : BitVec 32) (k0_hw3 : k0_chk3 v8), (k0_dev85 v8) < nD := fun v8 k0_hw3 => k0_hw3.2.2.2.2.2.2.2.2.2.2.2.1
theorem k0_dev87_lt : ∀ (v8 : BitVec 32) (k0_hw3 : k0_chk3 v8), (k0_dev87 v8) < nD := fun v8 k0_hw3 => k0_hw3.2.2.2.2.2.2.2.2.2.2.2.2.1
theorem k0_dev89_lt : ∀ (v8 : BitVec 32) (k0_hw3 : k0_chk3 v8), (k0_dev89 v8) < nD := fun v8 k0_hw3 => k0_hw3.2.2.2.2.2.2.2.2.2.2.2.2.2.1
theorem k0_dev91_lt : ∀ (v8 : BitVec 32) (k0_hw3 : k0_chk3 v8), (k0_dev91 v8) < nD := fun v8 k0_hw3 => k0_hw3.2.2.2.2.2.2.2.2.2.2.2.2.2.2.1
theorem k0_dev93_lt : ∀ (v8 : BitVec 32) (k0_hw3 : k0_chk3 v8), (k0_dev93 v8) < nD := fun v8 k0_hw3 => k0_hw3.2.2.2.2.2.2.2.2.2.2.2.2.2.2.2.1
theorem k0_dev95_lt : ∀ (v8 : BitVec 32) (k0_hw3 : k0_chk3 v8), (k0_dev95 v8) < nD := fun v8 k0_hw3 => k0_hw3.2.2.2.2.2.2.2.2.2.2.2.2.2.2.2.2.1
theorem k0_dev97_lt : ∀ (v8 : BitVec 32) (k0_hw3 : k0_chk3 v8), (k0_dev97 v8) < nD := fun v8 k0_hw3 => k0_hw3.2.2.2.2.2.2.2.2.2.2.2.2.2.2.2.2.2.1
theorem k0_dev99_lt : ∀ (v8 : BitVec 32) (k0_hw3 : k0_chk3 v8), (k0_dev99 v8) < nD := fun v8 k0_hw3 => k0_hw3.2.2.2.2.2.2.2.2.2.2.2.2.2.2.2.2.2.2.1
theorem k0_dev101_lt : ∀ (v8 : BitVec 32) (k0_hw3 : k0_chk3 v8), (k0_dev101 v8) < nD := fun v8 k0_hw3 => k0_hw3.2.2.2.2.2.2.2.2.2.2.2.2.2.2.2.2.2.2.2.1
theorem k0_dev103_lt : ∀ (v8 : BitVec 32) (k0_hw3 : k0_chk3 v8), (k0_dev103 v8) < nD := fun v8 k0_hw3 => k0_hw3.2.2.2.2.2.2.2.2.2.2.2.2.2.2.2.2.2.2.2.2.1
theorem k0_dev105_lt : ∀ (v8 : BitVec 32) (k0_hw3 : k0_chk3 v8), (k0_dev105 v8) < nD := fun v8 k0_hw3 => k0_hw3.2.2.2.2.2.2.2.2.2.2.2.2.2.2.2.2.2.2.2.2.2.1
theorem k0_dev107_lt : ∀ (v8 : BitVec 32) (k0_hw3 : k0_chk3 v8), (k0_dev107 v8) < nD := fun v8 k0_hw3 => k0_hw3.2.2.2.2.2.2.2.2.2.2.2.2.2.2.2.2.2.2.2.2.2.2.1
theorem k0_dev109_lt : ∀ (v8 : BitVec 32) (k0_hw3 : k0_chk3 v8), (k0_dev109 v8) < nD := fun v8 k0_hw3 => k0_hw3.2.2.2.2.2.2.2.2.2.2.2.2.2.2.2.2.2.2.2.2.2.2.2.1
theorem k0_dev111_lt : ∀ (v8 : BitVec 32) (k0_hw3 : k0_chk3 v8), (k0_dev111 v8) < nD := fun v8 k0_hw3 => k0_hw3.2.2.2.2.2.2.2.2.2.2.2.2.2.2.2.2.2.2.2.2.2.2.2.2.1
theorem k0_dev113_lt : ∀ (v8 : BitVec 32) (k0_hw3 : k0_chk3 v8), (k0_dev113 v8) < nD := fun v8 k0_hw3 => k0_hw3.2.2.2.2.2.2.2.2.2.2.2.2.2.2.2.2.2.2.2.2.2.2.2.2.2.1
theorem k0_dev115_lt : ∀ (v8 : BitVec 32) (k0_hw3 : k0_chk3 v8), (k0_dev115 v8) < nD := fun v8 k0_hw3 => k0_hw3.2.2.2.2.2.2.2.2.2.2.2.2.2.2.2.2.2.2.2.2.2.2.2.2.2.2.1
theorem k0_dev117_lt : ∀ (v8 : BitVec 32) (k0_hw3 : k0_chk3 v8), (k0_dev117 v8) < nD := fun v8 k0_hw3 => k0_hw3.2.2.2.2.2.2.2.2.2.2.2.2.2.2.2.2.2.2.2.2.2.2.2.2.2.2.2.1
theorem k0_dev119_lt : ∀ (v8 : BitVec 32) (k0_hw3 : k0_chk3 v8), (k0_dev119 v8) < nD := fun v8 k0_hw3 => k0_hw3.2.2.2.2.2.2.2.2.2.2.2.2.2.2.2.2.2.2.2.2.2.2.2.2.2.2.2.2.1
theorem k0_dev121_lt : ∀ (v8 : BitVec 32) (k0_hw3 : k0_chk3 v8), (k0_dev121 v8) < nD := fun v8 k0_hw3 => k0_hw3.2.2.2.2.2.2.2.2.2.2.2.2.2.2.2.2.2.2.2.2.2.2.2.2.2.2.2.2.2.1
theorem k0_dev123_lt : ∀ (v8 : BitVec 32) (k0_hw3 : k0_chk3 v8), (k0_dev123 v8) < nD := fun v8 k0_hw3 => k0_hw3.2.2.2.2.2.2.2.2.2.2.2.2.2.2.2.2.2.2.2.2.2.2.2.2.2.2.2.2.2.2.1
theorem k0_dev124_lt : ∀ (v8 : BitVec 32) (k0_hw3 : k0_chk3 v8), (k0_dev124 v8) < nD := fun v8 k0_hw3 => k0_hw3.2.2.2.2.2.2.2.2.2.2.2.2.2.2.2.2.2.2.2.2.2.2.2.2.2.2.2.2.2.2.2

def k0_off479 (v4 : BitVec 32) : Fin 1 → Nat :=
  let c14_i32_2960 : BitVec 32 := 14#32
  let v3232 : BitVec 32 := Scalar.addi v4 c14_i32_2960
  let c32_i32_2961 : BitVec 32 := 32#32
  let v3233 : BitVec 32 := Scalar.remsi v3232 c32_i32_2961
  let v3234 : Index := Scalar.indexCast v3233
  ![v3234.toNat]
def k0_off480 (v3235 : BitVec 32) : Fin 2 → Nat :=
  let c1024_i32_2962 : BitVec 32 := 1024#32
  let v3236 : BitVec 32 := Scalar.muli v3235 c1024_i32_2962
  let c256_i32_2963 : BitVec 32 := 256#32
  let v3237 : BitVec 32 := Scalar.addi v3236 c256_i32_2963
  let c0_i32_2970 : BitVec 32 := 0#32
  ![v3237.toNat, 0]

def k0_chk241 (v3235 : BitVec 32) : Prop :=
  (∀ a, (k0_off480 v3235) a + S256x512.size a ≤ S32768x512.size a) ∧
  (∀ (hinb : ∀ a, (k0_off480 v3235) a + S256x512.size a ≤ S32768x512.size a), (Rect.unit (s := S32768x512) (k0_off480 v3235) S256x512.size hinb).WholeWords (EltTy.packing .bf16))
theorem k0_off480_inb : ∀ (v3235 : BitVec 32) (k0_hw241 : k0_chk241 v3235), ∀ a, (k0_off480 v3235) a + S256x512.size a ≤ S32768x512.size a := fun v3235 k0_hw241 => k0_hw241.1
theorem k0_off480_wordsbf16 : ∀ (v3235 : BitVec 32) (k0_hw241 : k0_chk241 v3235), (Rect.unit (s := S32768x512) (k0_off480 v3235) S256x512.size (k0_off480_inb v3235 k0_hw241)).WholeWords (EltTy.packing .bf16) := fun v3235 k0_hw241 => k0_hw241.2 (k0_off480_inb v3235 k0_hw241)

def k0_off481 (v4 : BitVec 32) : Fin 1 → Nat :=
  let c14_i32_2972 : BitVec 32 := 14#32
  let v3244 : BitVec 32 := Scalar.subi v4 c14_i32_2972
  let c32_i32_2973 : BitVec 32 := 32#32
  let v3245 : BitVec 32 := Scalar.addi v3244 c32_i32_2973
  let c32_i32_2974 : BitVec 32 := 32#32
  let v3246 : BitVec 32 := Scalar.remsi v3245 c32_i32_2974
  let v3247 : Index := Scalar.indexCast v3246
  ![v3247.toNat]
def k0_off482 (v3248 : BitVec 32) : Fin 2 → Nat :=
  let c1024_i32_2975 : BitVec 32 := 1024#32
  let v3249 : BitVec 32 := Scalar.muli v3248 c1024_i32_2975
  let c512_i32_2976 : BitVec 32 := 512#32
  let v3250 : BitVec 32 := Scalar.addi v3249 c512_i32_2976
  let c0_i32_2983 : BitVec 32 := 0#32
  ![v3250.toNat, 0]

def k0_chk242 (v3248 : BitVec 32) : Prop :=
  (∀ a, (k0_off482 v3248) a + S256x512.size a ≤ S32768x512.size a) ∧
  (∀ (hinb : ∀ a, (k0_off482 v3248) a + S256x512.size a ≤ S32768x512.size a), (Rect.unit (s := S32768x512) (k0_off482 v3248) S256x512.size hinb).WholeWords (EltTy.packing .bf16))
theorem k0_off482_inb : ∀ (v3248 : BitVec 32) (k0_hw242 : k0_chk242 v3248), ∀ a, (k0_off482 v3248) a + S256x512.size a ≤ S32768x512.size a := fun v3248 k0_hw242 => k0_hw242.1
theorem k0_off482_wordsbf16 : ∀ (v3248 : BitVec 32) (k0_hw242 : k0_chk242 v3248), (Rect.unit (s := S32768x512) (k0_off482 v3248) S256x512.size (k0_off482_inb v3248 k0_hw242)).WholeWords (EltTy.packing .bf16) := fun v3248 k0_hw242 => k0_hw242.2 (k0_off482_inb v3248 k0_hw242)

def k0_off483 (v4 : BitVec 32) : Fin 1 → Nat :=
  let c14_i32_2985 : BitVec 32 := 14#32
  let v3257 : BitVec 32 := Scalar.addi v4 c14_i32_2985
  let c32_i32_2986 : BitVec 32 := 32#32
  let v3258 : BitVec 32 := Scalar.remsi v3257 c32_i32_2986
  let v3259 : Index := Scalar.indexCast v3258
  ![v3259.toNat]
def k0_off484 (v3260 : BitVec 32) : Fin 2 → Nat :=
  let c1024_i32_2987 : BitVec 32 := 1024#32
  let v3261 : BitVec 32 := Scalar.muli v3260 c1024_i32_2987
  let c512_i32_2988 : BitVec 32 := 512#32
  let v3262 : BitVec 32 := Scalar.addi v3261 c512_i32_2988
  let c0_i32_2995 : BitVec 32 := 0#32
  ![v3262.toNat, 0]

def k0_chk243 (v3260 : BitVec 32) : Prop :=
  (∀ a, (k0_off484 v3260) a + S256x512.size a ≤ S32768x512.size a) ∧
  (∀ (hinb : ∀ a, (k0_off484 v3260) a + S256x512.size a ≤ S32768x512.size a), (Rect.unit (s := S32768x512) (k0_off484 v3260) S256x512.size hinb).WholeWords (EltTy.packing .bf16))
theorem k0_off484_inb : ∀ (v3260 : BitVec 32) (k0_hw243 : k0_chk243 v3260), ∀ a, (k0_off484 v3260) a + S256x512.size a ≤ S32768x512.size a := fun v3260 k0_hw243 => k0_hw243.1
theorem k0_off484_wordsbf16 : ∀ (v3260 : BitVec 32) (k0_hw243 : k0_chk243 v3260), (Rect.unit (s := S32768x512) (k0_off484 v3260) S256x512.size (k0_off484_inb v3260 k0_hw243)).WholeWords (EltTy.packing .bf16) := fun v3260 k0_hw243 => k0_hw243.2 (k0_off484_inb v3260 k0_hw243)

def k0_off485 (v4 : BitVec 32) : Fin 1 → Nat :=
  let c15_i32_2997 : BitVec 32 := 15#32
  let v3269 : BitVec 32 := Scalar.addi v4 c15_i32_2997
  let c32_i32_2998 : BitVec 32 := 32#32
  let v3270 : BitVec 32 := Scalar.remsi v3269 c32_i32_2998
  let v3271 : Index := Scalar.indexCast v3270
  ![v3271.toNat]
def k0_off486 (v3272 : BitVec 32) : Fin 2 → Nat :=
  let c1024_i32_2999 : BitVec 32 := 1024#32
  let v3273 : BitVec 32 := Scalar.muli v3272 c1024_i32_2999
  let c512_i32_3000 : BitVec 32 := 512#32
  let v3274 : BitVec 32 := Scalar.addi v3273 c512_i32_3000
  let c0_i32_3007 : BitVec 32 := 0#32
  ![v3274.toNat, 0]

def k0_chk244 (v3272 : BitVec 32) : Prop :=
  (∀ a, (k0_off486 v3272) a + S256x512.size a ≤ S32768x512.size a) ∧
  (∀ (hinb : ∀ a, (k0_off486 v3272) a + S256x512.size a ≤ S32768x512.size a), (Rect.unit (s := S32768x512) (k0_off486 v3272) S256x512.size hinb).WholeWords (EltTy.packing .bf16))
theorem k0_off486_inb : ∀ (v3272 : BitVec 32) (k0_hw244 : k0_chk244 v3272), ∀ a, (k0_off486 v3272) a + S256x512.size a ≤ S32768x512.size a := fun v3272 k0_hw244 => k0_hw244.1
theorem k0_off486_wordsbf16 : ∀ (v3272 : BitVec 32) (k0_hw244 : k0_chk244 v3272), (Rect.unit (s := S32768x512) (k0_off486 v3272) S256x512.size (k0_off486_inb v3272 k0_hw244)).WholeWords (EltTy.packing .bf16) := fun v3272 k0_hw244 => k0_hw244.2 (k0_off486_inb v3272 k0_hw244)

def k0_dev125 (v13 : BitVec 32) : Nat :=
  let c0_i32_3006 : BitVec 32 := 0#32
  let c1_i32_3005 : BitVec 32 := 1#32
  let v3275 : BitVec 32 := Scalar.muli v13 c1_i32_3005
  let v3276 : BitVec 32 := Scalar.addi c0_i32_3006 v3275
  v3276.toNat
def k0_off487 (v4 : BitVec 32) : Fin 1 → Nat :=
  let c14_i32_3009 : BitVec 32 := 14#32
  let v3283 : BitVec 32 := Scalar.subi v4 c14_i32_3009
  let c32_i32_3010 : BitVec 32 := 32#32
  let v3284 : BitVec 32 := Scalar.addi v3283 c32_i32_3010
  let c32_i32_3011 : BitVec 32 := 32#32
  let v3285 : BitVec 32 := Scalar.remsi v3284 c32_i32_3011
  let v3286 : Index := Scalar.indexCast v3285
  ![v3286.toNat]
def k0_off488 (v3287 : BitVec 32) : Fin 2 → Nat :=
  let c1024_i32_3012 : BitVec 32 := 1024#32
  let v3288 : BitVec 32 := Scalar.muli v3287 c1024_i32_3012
  let c768_i32_3013 : BitVec 32 := 768#32
  let v3289 : BitVec 32 := Scalar.addi v3288 c768_i32_3013
  let c0_i32_3020 : BitVec 32 := 0#32
  ![v3289.toNat, 0]

def k0_chk245 (v3287 : BitVec 32) : Prop :=
  (∀ a, (k0_off488 v3287) a + S256x512.size a ≤ S32768x512.size a) ∧
  (∀ (hinb : ∀ a, (k0_off488 v3287) a + S256x512.size a ≤ S32768x512.size a), (Rect.unit (s := S32768x512) (k0_off488 v3287) S256x512.size hinb).WholeWords (EltTy.packing .bf16))
theorem k0_off488_inb : ∀ (v3287 : BitVec 32) (k0_hw245 : k0_chk245 v3287), ∀ a, (k0_off488 v3287) a + S256x512.size a ≤ S32768x512.size a := fun v3287 k0_hw245 => k0_hw245.1
theorem k0_off488_wordsbf16 : ∀ (v3287 : BitVec 32) (k0_hw245 : k0_chk245 v3287), (Rect.unit (s := S32768x512) (k0_off488 v3287) S256x512.size (k0_off488_inb v3287 k0_hw245)).WholeWords (EltTy.packing .bf16) := fun v3287 k0_hw245 => k0_hw245.2 (k0_off488_inb v3287 k0_hw245)

def k0_off489 (v4 : BitVec 32) : Fin 1 → Nat :=
  let c14_i32_3022 : BitVec 32 := 14#32
  let v3296 : BitVec 32 := Scalar.addi v4 c14_i32_3022
  let c32_i32_3023 : BitVec 32 := 32#32
  let v3297 : BitVec 32 := Scalar.remsi v3296 c32_i32_3023
  let v3298 : Index := Scalar.indexCast v3297
  ![v3298.toNat]
def k0_off490 (v3299 : BitVec 32) : Fin 2 → Nat :=
  let c1024_i32_3024 : BitVec 32 := 1024#32
  let v3300 : BitVec 32 := Scalar.muli v3299 c1024_i32_3024
  let c768_i32_3025 : BitVec 32 := 768#32
  let v3301 : BitVec 32 := Scalar.addi v3300 c768_i32_3025
  let c0_i32_3032 : BitVec 32 := 0#32
  ![v3301.toNat, 0]

def k0_chk246 (v3299 : BitVec 32) : Prop :=
  (∀ a, (k0_off490 v3299) a + S256x512.size a ≤ S32768x512.size a) ∧
  (∀ (hinb : ∀ a, (k0_off490 v3299) a + S256x512.size a ≤ S32768x512.size a), (Rect.unit (s := S32768x512) (k0_off490 v3299) S256x512.size hinb).WholeWords (EltTy.packing .bf16))
theorem k0_off490_inb : ∀ (v3299 : BitVec 32) (k0_hw246 : k0_chk246 v3299), ∀ a, (k0_off490 v3299) a + S256x512.size a ≤ S32768x512.size a := fun v3299 k0_hw246 => k0_hw246.1
theorem k0_off490_wordsbf16 : ∀ (v3299 : BitVec 32) (k0_hw246 : k0_chk246 v3299), (Rect.unit (s := S32768x512) (k0_off490 v3299) S256x512.size (k0_off490_inb v3299 k0_hw246)).WholeWords (EltTy.packing .bf16) := fun v3299 k0_hw246 => k0_hw246.2 (k0_off490_inb v3299 k0_hw246)

def k0_off491 (v4 : BitVec 32) : Fin 1 → Nat :=
  let c15_i32_3034 : BitVec 32 := 15#32
  let v3308 : BitVec 32 := Scalar.addi v4 c15_i32_3034
  let c32_i32_3035 : BitVec 32 := 32#32
  let v3309 : BitVec 32 := Scalar.remsi v3308 c32_i32_3035
  let v3310 : Index := Scalar.indexCast v3309
  ![v3310.toNat]
def k0_off492 (v3311 : BitVec 32) : Fin 2 → Nat :=
  let c1024_i32_3036 : BitVec 32 := 1024#32
  let v3312 : BitVec 32 := Scalar.muli v3311 c1024_i32_3036
  let c768_i32_3037 : BitVec 32 := 768#32
  let v3313 : BitVec 32 := Scalar.addi v3312 c768_i32_3037
  let c0_i32_3044 : BitVec 32 := 0#32
  ![v3313.toNat, 0]

def k0_chk247 (v3311 : BitVec 32) : Prop :=
  (∀ a, (k0_off492 v3311) a + S256x512.size a ≤ S32768x512.size a) ∧
  (∀ (hinb : ∀ a, (k0_off492 v3311) a + S256x512.size a ≤ S32768x512.size a), (Rect.unit (s := S32768x512) (k0_off492 v3311) S256x512.size hinb).WholeWords (EltTy.packing .bf16))
theorem k0_off492_inb : ∀ (v3311 : BitVec 32) (k0_hw247 : k0_chk247 v3311), ∀ a, (k0_off492 v3311) a + S256x512.size a ≤ S32768x512.size a := fun v3311 k0_hw247 => k0_hw247.1
theorem k0_off492_wordsbf16 : ∀ (v3311 : BitVec 32) (k0_hw247 : k0_chk247 v3311), (Rect.unit (s := S32768x512) (k0_off492 v3311) S256x512.size (k0_off492_inb v3311 k0_hw247)).WholeWords (EltTy.packing .bf16) := fun v3311 k0_hw247 => k0_hw247.2 (k0_off492_inb v3311 k0_hw247)

def k0_dev126 (v13 : BitVec 32) : Nat :=
  let c0_i32_3043 : BitVec 32 := 0#32
  let c1_i32_3042 : BitVec 32 := 1#32
  let v3314 : BitVec 32 := Scalar.muli v13 c1_i32_3042
  let v3315 : BitVec 32 := Scalar.addi c0_i32_3043 v3314
  v3315.toNat

def k0_chk2_0 (v13 : BitVec 32) : Prop :=
  ((k0_dev1 v13) < nD) ∧
  ((k0_dev7 v13) < nD) ∧
  ((k0_dev8 v13) < nD) ∧
  ((k0_dev9 v13) < nD) ∧
  ((k0_dev10 v13) < nD) ∧
  ((k0_dev12 v13) < nD) ∧
  ((k0_dev14 v13) < nD) ∧
  ((k0_dev16 v13) < nD) ∧
  ((k0_dev18 v13) < nD) ∧
  ((k0_dev20 v13) < nD) ∧
  ((k0_dev22 v13) < nD) ∧
  ((k0_dev24 v13) < nD) ∧
  ((k0_dev26 v13) < nD) ∧
  ((k0_dev28 v13) < nD) ∧
  ((k0_dev30 v13) < nD) ∧
  ((k0_dev32 v13) < nD) ∧
  ((k0_dev34 v13) < nD) ∧
  ((k0_dev36 v13) < nD) ∧
  ((k0_dev38 v13) < nD) ∧
  ((k0_dev40 v13) < nD) ∧
  ((k0_dev42 v13) < nD) ∧
  ((k0_dev44 v13) < nD) ∧
  ((k0_dev46 v13) < nD) ∧
  ((k0_dev48 v13) < nD) ∧
  ((k0_dev50 v13) < nD) ∧
  ((k0_dev52 v13) < nD) ∧
  ((k0_dev54 v13) < nD) ∧
  ((k0_dev56 v13) < nD) ∧
  ((k0_dev58 v13) < nD) ∧
  ((k0_dev60 v13) < nD) ∧
  ((k0_dev62 v13) < nD) ∧
  ((k0_dev64 v13) < nD)
def k0_chk2_1 (v13 : BitVec 32) : Prop :=
  ((k0_dev66 v13) < nD) ∧
  ((k0_dev68 v13) < nD) ∧
  ((k0_dev70 v13) < nD) ∧
  ((k0_dev72 v13) < nD) ∧
  ((k0_dev74 v13) < nD) ∧
  ((k0_dev76 v13) < nD) ∧
  ((k0_dev78 v13) < nD) ∧
  ((k0_dev80 v13) < nD) ∧
  ((k0_dev82 v13) < nD) ∧
  ((k0_dev84 v13) < nD) ∧
  ((k0_dev86 v13) < nD) ∧
  ((k0_dev88 v13) < nD) ∧
  ((k0_dev90 v13) < nD) ∧
  ((k0_dev92 v13) < nD) ∧
  ((k0_dev94 v13) < nD) ∧
  ((k0_dev96 v13) < nD) ∧
  ((k0_dev98 v13) < nD) ∧
  ((k0_dev100 v13) < nD) ∧
  ((k0_dev102 v13) < nD) ∧
  ((k0_dev104 v13) < nD) ∧
  ((k0_dev106 v13) < nD) ∧
  ((k0_dev108 v13) < nD) ∧
  ((k0_dev110 v13) < nD) ∧
  ((k0_dev112 v13) < nD) ∧
  ((k0_dev114 v13) < nD) ∧
  ((k0_dev116 v13) < nD) ∧
  ((k0_dev118 v13) < nD) ∧
  ((k0_dev120 v13) < nD) ∧
  ((k0_dev122 v13) < nD) ∧
  ((k0_dev125 v13) < nD) ∧
  ((k0_dev126 v13) < nD)
def k0_chk2 (v13 : BitVec 32) : Prop :=
  k0_chk2_0 v13 ∧
  k0_chk2_1 v13
theorem k0_dev1_lt : ∀ (v13 : BitVec 32) (k0_hw2 : k0_chk2 v13), (k0_dev1 v13) < nD := fun v13 k0_hw2 => k0_hw2.1.1
theorem k0_dev7_lt : ∀ (v13 : BitVec 32) (k0_hw2 : k0_chk2 v13), (k0_dev7 v13) < nD := fun v13 k0_hw2 => k0_hw2.1.2.1
theorem k0_dev8_lt : ∀ (v13 : BitVec 32) (k0_hw2 : k0_chk2 v13), (k0_dev8 v13) < nD := fun v13 k0_hw2 => k0_hw2.1.2.2.1
theorem k0_dev9_lt : ∀ (v13 : BitVec 32) (k0_hw2 : k0_chk2 v13), (k0_dev9 v13) < nD := fun v13 k0_hw2 => k0_hw2.1.2.2.2.1
theorem k0_dev10_lt : ∀ (v13 : BitVec 32) (k0_hw2 : k0_chk2 v13), (k0_dev10 v13) < nD := fun v13 k0_hw2 => k0_hw2.1.2.2.2.2.1
theorem k0_dev12_lt : ∀ (v13 : BitVec 32) (k0_hw2 : k0_chk2 v13), (k0_dev12 v13) < nD := fun v13 k0_hw2 => k0_hw2.1.2.2.2.2.2.1
theorem k0_dev14_lt : ∀ (v13 : BitVec 32) (k0_hw2 : k0_chk2 v13), (k0_dev14 v13) < nD := fun v13 k0_hw2 => k0_hw2.1.2.2.2.2.2.2.1
theorem k0_dev16_lt : ∀ (v13 : BitVec 32) (k0_hw2 : k0_chk2 v13), (k0_dev16 v13) < nD := fun v13 k0_hw2 => k0_hw2.1.2.2.2.2.2.2.2.1
theorem k0_dev18_lt : ∀ (v13 : BitVec 32) (k0_hw2 : k0_chk2 v13), (k0_dev18 v13) < nD := fun v13 k0_hw2 => k0_hw2.1.2.2.2.2.2.2.2.2.1
theorem k0_dev20_lt : ∀ (v13 : BitVec 32) (k0_hw2 : k0_chk2 v13), (k0_dev20 v13) < nD := fun v13 k0_hw2 => k0_hw2.1.2.2.2.2.2.2.2.2.2.1
theorem k0_dev22_lt : ∀ (v13 : BitVec 32) (k0_hw2 : k0_chk2 v13), (k0_dev22 v13) < nD := fun v13 k0_hw2 => k0_hw2.1.2.2.2.2.2.2.2.2.2.2.1
theorem k0_dev24_lt : ∀ (v13 : BitVec 32) (k0_hw2 : k0_chk2 v13), (k0_dev24 v13) < nD := fun v13 k0_hw2 => k0_hw2.1.2.2.2.2.2.2.2.2.2.2.2.1
theorem k0_dev26_lt : ∀ (v13 : BitVec 32) (k0_hw2 : k0_chk2 v13), (k0_dev26 v13) < nD := fun v13 k0_hw2 => k0_hw2.1.2.2.2.2.2.2.2.2.2.2.2.2.1
theorem k0_dev28_lt : ∀ (v13 : BitVec 32) (k0_hw2 : k0_chk2 v13), (k0_dev28 v13) < nD := fun v13 k0_hw2 => k0_hw2.1.2.2.2.2.2.2.2.2.2.2.2.2.2.1
theorem k0_dev30_lt : ∀ (v13 : BitVec 32) (k0_hw2 : k0_chk2 v13), (k0_dev30 v13) < nD := fun v13 k0_hw2 => k0_hw2.1.2.2.2.2.2.2.2.2.2.2.2.2.2.2.1
theorem k0_dev32_lt : ∀ (v13 : BitVec 32) (k0_hw2 : k0_chk2 v13), (k0_dev32 v13) < nD := fun v13 k0_hw2 => k0_hw2.1.2.2.2.2.2.2.2.2.2.2.2.2.2.2.2.1
theorem k0_dev34_lt : ∀ (v13 : BitVec 32) (k0_hw2 : k0_chk2 v13), (k0_dev34 v13) < nD := fun v13 k0_hw2 => k0_hw2.1.2.2.2.2.2.2.2.2.2.2.2.2.2.2.2.2.1
theorem k0_dev36_lt : ∀ (v13 : BitVec 32) (k0_hw2 : k0_chk2 v13), (k0_dev36 v13) < nD := fun v13 k0_hw2 => k0_hw2.1.2.2.2.2.2.2.2.2.2.2.2.2.2.2.2.2.2.1
theorem k0_dev38_lt : ∀ (v13 : BitVec 32) (k0_hw2 : k0_chk2 v13), (k0_dev38 v13) < nD := fun v13 k0_hw2 => k0_hw2.1.2.2.2.2.2.2.2.2.2.2.2.2.2.2.2.2.2.2.1
theorem k0_dev40_lt : ∀ (v13 : BitVec 32) (k0_hw2 : k0_chk2 v13), (k0_dev40 v13) < nD := fun v13 k0_hw2 => k0_hw2.1.2.2.2.2.2.2.2.2.2.2.2.2.2.2.2.2.2.2.2.1
theorem k0_dev42_lt : ∀ (v13 : BitVec 32) (k0_hw2 : k0_chk2 v13), (k0_dev42 v13) < nD := fun v13 k0_hw2 => k0_hw2.1.2.2.2.2.2.2.2.2.2.2.2.2.2.2.2.2.2.2.2.2.1
theorem k0_dev44_lt : ∀ (v13 : BitVec 32) (k0_hw2 : k0_chk2 v13), (k0_dev44 v13) < nD := fun v13 k0_hw2 => k0_hw2.1.2.2.2.2.2.2.2.2.2.2.2.2.2.2.2.2.2.2.2.2.2.1
theorem k0_dev46_lt : ∀ (v13 : BitVec 32) (k0_hw2 : k0_chk2 v13), (k0_dev46 v13) < nD := fun v13 k0_hw2 => k0_hw2.1.2.2.2.2.2.2.2.2.2.2.2.2.2.2.2.2.2.2.2.2.2.2.1
theorem k0_dev48_lt : ∀ (v13 : BitVec 32) (k0_hw2 : k0_chk2 v13), (k0_dev48 v13) < nD := fun v13 k0_hw2 => k0_hw2.1.2.2.2.2.2.2.2.2.2.2.2.2.2.2.2.2.2.2.2.2.2.2.2.1
theorem k0_dev50_lt : ∀ (v13 : BitVec 32) (k0_hw2 : k0_chk2 v13), (k0_dev50 v13) < nD := fun v13 k0_hw2 => k0_hw2.1.2.2.2.2.2.2.2.2.2.2.2.2.2.2.2.2.2.2.2.2.2.2.2.2.1
theorem k0_dev52_lt : ∀ (v13 : BitVec 32) (k0_hw2 : k0_chk2 v13), (k0_dev52 v13) < nD := fun v13 k0_hw2 => k0_hw2.1.2.2.2.2.2.2.2.2.2.2.2.2.2.2.2.2.2.2.2.2.2.2.2.2.2.1
theorem k0_dev54_lt : ∀ (v13 : BitVec 32) (k0_hw2 : k0_chk2 v13), (k0_dev54 v13) < nD := fun v13 k0_hw2 => k0_hw2.1.2.2.2.2.2.2.2.2.2.2.2.2.2.2.2.2.2.2.2.2.2.2.2.2.2.2.1
theorem k0_dev56_lt : ∀ (v13 : BitVec 32) (k0_hw2 : k0_chk2 v13), (k0_dev56 v13) < nD := fun v13 k0_hw2 => k0_hw2.1.2.2.2.2.2.2.2.2.2.2.2.2.2.2.2.2.2.2.2.2.2.2.2.2.2.2.2.1
theorem k0_dev58_lt : ∀ (v13 : BitVec 32) (k0_hw2 : k0_chk2 v13), (k0_dev58 v13) < nD := fun v13 k0_hw2 => k0_hw2.1.2.2.2.2.2.2.2.2.2.2.2.2.2.2.2.2.2.2.2.2.2.2.2.2.2.2.2.2.1
theorem k0_dev60_lt : ∀ (v13 : BitVec 32) (k0_hw2 : k0_chk2 v13), (k0_dev60 v13) < nD := fun v13 k0_hw2 => k0_hw2.1.2.2.2.2.2.2.2.2.2.2.2.2.2.2.2.2.2.2.2.2.2.2.2.2.2.2.2.2.2.1
theorem k0_dev62_lt : ∀ (v13 : BitVec 32) (k0_hw2 : k0_chk2 v13), (k0_dev62 v13) < nD := fun v13 k0_hw2 => k0_hw2.1.2.2.2.2.2.2.2.2.2.2.2.2.2.2.2.2.2.2.2.2.2.2.2.2.2.2.2.2.2.2.1
theorem k0_dev64_lt : ∀ (v13 : BitVec 32) (k0_hw2 : k0_chk2 v13), (k0_dev64 v13) < nD := fun v13 k0_hw2 => k0_hw2.1.2.2.2.2.2.2.2.2.2.2.2.2.2.2.2.2.2.2.2.2.2.2.2.2.2.2.2.2.2.2.2
theorem k0_dev66_lt : ∀ (v13 : BitVec 32) (k0_hw2 : k0_chk2 v13), (k0_dev66 v13) < nD := fun v13 k0_hw2 => k0_hw2.2.1
theorem k0_dev68_lt : ∀ (v13 : BitVec 32) (k0_hw2 : k0_chk2 v13), (k0_dev68 v13) < nD := fun v13 k0_hw2 => k0_hw2.2.2.1
theorem k0_dev70_lt : ∀ (v13 : BitVec 32) (k0_hw2 : k0_chk2 v13), (k0_dev70 v13) < nD := fun v13 k0_hw2 => k0_hw2.2.2.2.1
theorem k0_dev72_lt : ∀ (v13 : BitVec 32) (k0_hw2 : k0_chk2 v13), (k0_dev72 v13) < nD := fun v13 k0_hw2 => k0_hw2.2.2.2.2.1
theorem k0_dev74_lt : ∀ (v13 : BitVec 32) (k0_hw2 : k0_chk2 v13), (k0_dev74 v13) < nD := fun v13 k0_hw2 => k0_hw2.2.2.2.2.2.1
theorem k0_dev76_lt : ∀ (v13 : BitVec 32) (k0_hw2 : k0_chk2 v13), (k0_dev76 v13) < nD := fun v13 k0_hw2 => k0_hw2.2.2.2.2.2.2.1
theorem k0_dev78_lt : ∀ (v13 : BitVec 32) (k0_hw2 : k0_chk2 v13), (k0_dev78 v13) < nD := fun v13 k0_hw2 => k0_hw2.2.2.2.2.2.2.2.1
theorem k0_dev80_lt : ∀ (v13 : BitVec 32) (k0_hw2 : k0_chk2 v13), (k0_dev80 v13) < nD := fun v13 k0_hw2 => k0_hw2.2.2.2.2.2.2.2.2.1
theorem k0_dev82_lt : ∀ (v13 : BitVec 32) (k0_hw2 : k0_chk2 v13), (k0_dev82 v13) < nD := fun v13 k0_hw2 => k0_hw2.2.2.2.2.2.2.2.2.2.1
theorem k0_dev84_lt : ∀ (v13 : BitVec 32) (k0_hw2 : k0_chk2 v13), (k0_dev84 v13) < nD := fun v13 k0_hw2 => k0_hw2.2.2.2.2.2.2.2.2.2.2.1
theorem k0_dev86_lt : ∀ (v13 : BitVec 32) (k0_hw2 : k0_chk2 v13), (k0_dev86 v13) < nD := fun v13 k0_hw2 => k0_hw2.2.2.2.2.2.2.2.2.2.2.2.1
theorem k0_dev88_lt : ∀ (v13 : BitVec 32) (k0_hw2 : k0_chk2 v13), (k0_dev88 v13) < nD := fun v13 k0_hw2 => k0_hw2.2.2.2.2.2.2.2.2.2.2.2.2.1
theorem k0_dev90_lt : ∀ (v13 : BitVec 32) (k0_hw2 : k0_chk2 v13), (k0_dev90 v13) < nD := fun v13 k0_hw2 => k0_hw2.2.2.2.2.2.2.2.2.2.2.2.2.2.1
theorem k0_dev92_lt : ∀ (v13 : BitVec 32) (k0_hw2 : k0_chk2 v13), (k0_dev92 v13) < nD := fun v13 k0_hw2 => k0_hw2.2.2.2.2.2.2.2.2.2.2.2.2.2.2.1
theorem k0_dev94_lt : ∀ (v13 : BitVec 32) (k0_hw2 : k0_chk2 v13), (k0_dev94 v13) < nD := fun v13 k0_hw2 => k0_hw2.2.2.2.2.2.2.2.2.2.2.2.2.2.2.2.1
theorem k0_dev96_lt : ∀ (v13 : BitVec 32) (k0_hw2 : k0_chk2 v13), (k0_dev96 v13) < nD := fun v13 k0_hw2 => k0_hw2.2.2.2.2.2.2.2.2.2.2.2.2.2.2.2.2.1
theorem k0_dev98_lt : ∀ (v13 : BitVec 32) (k0_hw2 : k0_chk2 v13), (k0_dev98 v13) < nD := fun v13 k0_hw2 => k0_hw2.2.2.2.2.2.2.2.2.2.2.2.2.2.2.2.2.2.1
theorem k0_dev100_lt : ∀ (v13 : BitVec 32) (k0_hw2 : k0_chk2 v13), (k0_dev100 v13) < nD := fun v13 k0_hw2 => k0_hw2.2.2.2.2.2.2.2.2.2.2.2.2.2.2.2.2.2.2.1
theorem k0_dev102_lt : ∀ (v13 : BitVec 32) (k0_hw2 : k0_chk2 v13), (k0_dev102 v13) < nD := fun v13 k0_hw2 => k0_hw2.2.2.2.2.2.2.2.2.2.2.2.2.2.2.2.2.2.2.2.1
theorem k0_dev104_lt : ∀ (v13 : BitVec 32) (k0_hw2 : k0_chk2 v13), (k0_dev104 v13) < nD := fun v13 k0_hw2 => k0_hw2.2.2.2.2.2.2.2.2.2.2.2.2.2.2.2.2.2.2.2.2.1
theorem k0_dev106_lt : ∀ (v13 : BitVec 32) (k0_hw2 : k0_chk2 v13), (k0_dev106 v13) < nD := fun v13 k0_hw2 => k0_hw2.2.2.2.2.2.2.2.2.2.2.2.2.2.2.2.2.2.2.2.2.2.1
theorem k0_dev108_lt : ∀ (v13 : BitVec 32) (k0_hw2 : k0_chk2 v13), (k0_dev108 v13) < nD := fun v13 k0_hw2 => k0_hw2.2.2.2.2.2.2.2.2.2.2.2.2.2.2.2.2.2.2.2.2.2.2.1
theorem k0_dev110_lt : ∀ (v13 : BitVec 32) (k0_hw2 : k0_chk2 v13), (k0_dev110 v13) < nD := fun v13 k0_hw2 => k0_hw2.2.2.2.2.2.2.2.2.2.2.2.2.2.2.2.2.2.2.2.2.2.2.2.1
theorem k0_dev112_lt : ∀ (v13 : BitVec 32) (k0_hw2 : k0_chk2 v13), (k0_dev112 v13) < nD := fun v13 k0_hw2 => k0_hw2.2.2.2.2.2.2.2.2.2.2.2.2.2.2.2.2.2.2.2.2.2.2.2.2.1
theorem k0_dev114_lt : ∀ (v13 : BitVec 32) (k0_hw2 : k0_chk2 v13), (k0_dev114 v13) < nD := fun v13 k0_hw2 => k0_hw2.2.2.2.2.2.2.2.2.2.2.2.2.2.2.2.2.2.2.2.2.2.2.2.2.2.1
theorem k0_dev116_lt : ∀ (v13 : BitVec 32) (k0_hw2 : k0_chk2 v13), (k0_dev116 v13) < nD := fun v13 k0_hw2 => k0_hw2.2.2.2.2.2.2.2.2.2.2.2.2.2.2.2.2.2.2.2.2.2.2.2.2.2.2.1
theorem k0_dev118_lt : ∀ (v13 : BitVec 32) (k0_hw2 : k0_chk2 v13), (k0_dev118 v13) < nD := fun v13 k0_hw2 => k0_hw2.2.2.2.2.2.2.2.2.2.2.2.2.2.2.2.2.2.2.2.2.2.2.2.2.2.2.2.1
theorem k0_dev120_lt : ∀ (v13 : BitVec 32) (k0_hw2 : k0_chk2 v13), (k0_dev120 v13) < nD := fun v13 k0_hw2 => k0_hw2.2.2.2.2.2.2.2.2.2.2.2.2.2.2.2.2.2.2.2.2.2.2.2.2.2.2.2.2.1
theorem k0_dev122_lt : ∀ (v13 : BitVec 32) (k0_hw2 : k0_chk2 v13), (k0_dev122 v13) < nD := fun v13 k0_hw2 => k0_hw2.2.2.2.2.2.2.2.2.2.2.2.2.2.2.2.2.2.2.2.2.2.2.2.2.2.2.2.2.2.1
theorem k0_dev125_lt : ∀ (v13 : BitVec 32) (k0_hw2 : k0_chk2 v13), (k0_dev125 v13) < nD := fun v13 k0_hw2 => k0_hw2.2.2.2.2.2.2.2.2.2.2.2.2.2.2.2.2.2.2.2.2.2.2.2.2.2.2.2.2.2.2.1
theorem k0_dev126_lt : ∀ (v13 : BitVec 32) (k0_hw2 : k0_chk2 v13), (k0_dev126 v13) < nD := fun v13 k0_hw2 => k0_hw2.2.2.2.2.2.2.2.2.2.2.2.2.2.2.2.2.2.2.2.2.2.2.2.2.2.2.2.2.2.2.2

def k0_off493 (v4 : BitVec 32) : Fin 1 → Nat :=
  let c15_i32_3046 : BitVec 32 := 15#32
  let v3322 : BitVec 32 := Scalar.subi v4 c15_i32_3046
  let c32_i32_3047 : BitVec 32 := 32#32
  let v3323 : BitVec 32 := Scalar.addi v3322 c32_i32_3047
  let c32_i32_3048 : BitVec 32 := 32#32
  let v3324 : BitVec 32 := Scalar.remsi v3323 c32_i32_3048
  let v3325 : Index := Scalar.indexCast v3324
  ![v3325.toNat]
def k0_off494 (v3326 : BitVec 32) : Fin 2 → Nat :=
  let c1024_i32_3049 : BitVec 32 := 1024#32
  let v3327 : BitVec 32 := Scalar.muli v3326 c1024_i32_3049
  let c0_i32_3050 : BitVec 32 := 0#32
  let v3328 : BitVec 32 := Scalar.addi v3327 c0_i32_3050
  let c0_i32_3057 : BitVec 32 := 0#32
  ![v3328.toNat, 0]

def k0_chk248 (v3326 : BitVec 32) : Prop :=
  (∀ a, (k0_off494 v3326) a + S256x512.size a ≤ S32768x512.size a) ∧
  (∀ (hinb : ∀ a, (k0_off494 v3326) a + S256x512.size a ≤ S32768x512.size a), (Rect.unit (s := S32768x512) (k0_off494 v3326) S256x512.size hinb).WholeWords (EltTy.packing .bf16))
theorem k0_off494_inb : ∀ (v3326 : BitVec 32) (k0_hw248 : k0_chk248 v3326), ∀ a, (k0_off494 v3326) a + S256x512.size a ≤ S32768x512.size a := fun v3326 k0_hw248 => k0_hw248.1
theorem k0_off494_wordsbf16 : ∀ (v3326 : BitVec 32) (k0_hw248 : k0_chk248 v3326), (Rect.unit (s := S32768x512) (k0_off494 v3326) S256x512.size (k0_off494_inb v3326 k0_hw248)).WholeWords (EltTy.packing .bf16) := fun v3326 k0_hw248 => k0_hw248.2 (k0_off494_inb v3326 k0_hw248)

def k0_off495 (v4 : BitVec 32) : Fin 1 → Nat :=
  let c15_i32_3059 : BitVec 32 := 15#32
  let v3335 : BitVec 32 := Scalar.subi v4 c15_i32_3059
  let c32_i32_3060 : BitVec 32 := 32#32
  let v3336 : BitVec 32 := Scalar.addi v3335 c32_i32_3060
  let c32_i32_3061 : BitVec 32 := 32#32
  let v3337 : BitVec 32 := Scalar.remsi v3336 c32_i32_3061
  let v3338 : Index := Scalar.indexCast v3337
  ![v3338.toNat]
def k0_off496 (v3339 : BitVec 32) : Fin 2 → Nat :=
  let c1024_i32_3062 : BitVec 32 := 1024#32
  let v3340 : BitVec 32 := Scalar.muli v3339 c1024_i32_3062
  let c256_i32_3063 : BitVec 32 := 256#32
  let v3341 : BitVec 32 := Scalar.addi v3340 c256_i32_3063
  let c0_i32_3070 : BitVec 32 := 0#32
  ![v3341.toNat, 0]

def k0_chk249 (v3339 : BitVec 32) : Prop :=
  (∀ a, (k0_off496 v3339) a + S256x512.size a ≤ S32768x512.size a) ∧
  (∀ (hinb : ∀ a, (k0_off496 v3339) a + S256x512.size a ≤ S32768x512.size a), (Rect.unit (s := S32768x512) (k0_off496 v3339) S256x512.size hinb).WholeWords (EltTy.packing .bf16))
theorem k0_off496_inb : ∀ (v3339 : BitVec 32) (k0_hw249 : k0_chk249 v3339), ∀ a, (k0_off496 v3339) a + S256x512.size a ≤ S32768x512.size a := fun v3339 k0_hw249 => k0_hw249.1
theorem k0_off496_wordsbf16 : ∀ (v3339 : BitVec 32) (k0_hw249 : k0_chk249 v3339), (Rect.unit (s := S32768x512) (k0_off496 v3339) S256x512.size (k0_off496_inb v3339 k0_hw249)).WholeWords (EltTy.packing .bf16) := fun v3339 k0_hw249 => k0_hw249.2 (k0_off496_inb v3339 k0_hw249)

def k0_off497 (v4 : BitVec 32) : Fin 1 → Nat :=
  let c15_i32_3072 : BitVec 32 := 15#32
  let v3348 : BitVec 32 := Scalar.addi v4 c15_i32_3072
  let c32_i32_3073 : BitVec 32 := 32#32
  let v3349 : BitVec 32 := Scalar.remsi v3348 c32_i32_3073
  let v3350 : Index := Scalar.indexCast v3349
  ![v3350.toNat]
def k0_off498 (v3351 : BitVec 32) : Fin 2 → Nat :=
  let c1024_i32_3074 : BitVec 32 := 1024#32
  let v3352 : BitVec 32 := Scalar.muli v3351 c1024_i32_3074
  let c512_i32_3075 : BitVec 32 := 512#32
  let v3353 : BitVec 32 := Scalar.addi v3352 c512_i32_3075
  let c0_i32_3082 : BitVec 32 := 0#32
  ![v3353.toNat, 0]

def k0_chk250 (v3351 : BitVec 32) : Prop :=
  (∀ a, (k0_off498 v3351) a + S256x512.size a ≤ S32768x512.size a) ∧
  (∀ (hinb : ∀ a, (k0_off498 v3351) a + S256x512.size a ≤ S32768x512.size a), (Rect.unit (s := S32768x512) (k0_off498 v3351) S256x512.size hinb).WholeWords (EltTy.packing .bf16))
theorem k0_off498_inb : ∀ (v3351 : BitVec 32) (k0_hw250 : k0_chk250 v3351), ∀ a, (k0_off498 v3351) a + S256x512.size a ≤ S32768x512.size a := fun v3351 k0_hw250 => k0_hw250.1
theorem k0_off498_wordsbf16 : ∀ (v3351 : BitVec 32) (k0_hw250 : k0_chk250 v3351), (Rect.unit (s := S32768x512) (k0_off498 v3351) S256x512.size (k0_off498_inb v3351 k0_hw250)).WholeWords (EltTy.packing .bf16) := fun v3351 k0_hw250 => k0_hw250.2 (k0_off498_inb v3351 k0_hw250)

def k0_off499 (v4 : BitVec 32) : Fin 1 → Nat :=
  let c15_i32_3084 : BitVec 32 := 15#32
  let v3360 : BitVec 32 := Scalar.addi v4 c15_i32_3084
  let c32_i32_3085 : BitVec 32 := 32#32
  let v3361 : BitVec 32 := Scalar.remsi v3360 c32_i32_3085
  let v3362 : Index := Scalar.indexCast v3361
  ![v3362.toNat]
def k0_off500 (v3363 : BitVec 32) : Fin 2 → Nat :=
  let c1024_i32_3086 : BitVec 32 := 1024#32
  let v3364 : BitVec 32 := Scalar.muli v3363 c1024_i32_3086
  let c768_i32_3087 : BitVec 32 := 768#32
  let v3365 : BitVec 32 := Scalar.addi v3364 c768_i32_3087
  let c0_i32_3094 : BitVec 32 := 0#32
  ![v3365.toNat, 0]

def k0_chk251 (v3363 : BitVec 32) : Prop :=
  (∀ a, (k0_off500 v3363) a + S256x512.size a ≤ S32768x512.size a) ∧
  (∀ (hinb : ∀ a, (k0_off500 v3363) a + S256x512.size a ≤ S32768x512.size a), (Rect.unit (s := S32768x512) (k0_off500 v3363) S256x512.size hinb).WholeWords (EltTy.packing .bf16))
theorem k0_off500_inb : ∀ (v3363 : BitVec 32) (k0_hw251 : k0_chk251 v3363), ∀ a, (k0_off500 v3363) a + S256x512.size a ≤ S32768x512.size a := fun v3363 k0_hw251 => k0_hw251.1
theorem k0_off500_wordsbf16 : ∀ (v3363 : BitVec 32) (k0_hw251 : k0_chk251 v3363), (Rect.unit (s := S32768x512) (k0_off500 v3363) S256x512.size (k0_off500_inb v3363 k0_hw251)).WholeWords (EltTy.packing .bf16) := fun v3363 k0_hw251 => k0_hw251.2 (k0_off500_inb v3363 k0_hw251)

def k0_off501 (v4 : BitVec 32) : Fin 1 → Nat :=
  let c0_i32_3096 : BitVec 32 := 0#32
  let v3372 : BitVec 32 := Scalar.subi v4 c0_i32_3096
  let c32_i32_3097 : BitVec 32 := 32#32
  let v3373 : BitVec 32 := Scalar.addi v3372 c32_i32_3097
  let c32_i32_3098 : BitVec 32 := 32#32
  let v3374 : BitVec 32 := Scalar.remsi v3373 c32_i32_3098
  let v3375 : Index := Scalar.indexCast v3374
  ![v3375.toNat]
def k0_off502 (v3376 : BitVec 32) : Fin 2 → Nat :=
  let c1024_i32_3099 : BitVec 32 := 1024#32
  let v3377 : BitVec 32 := Scalar.muli v3376 c1024_i32_3099
  let c0_i32_3100 : BitVec 32 := 0#32
  let v3378 : BitVec 32 := Scalar.addi v3377 c0_i32_3100
  let c0_i32_3106 : BitVec 32 := 0#32
  ![v3378.toNat, 0]

def k0_chk252 (v3376 : BitVec 32) : Prop :=
  (∀ a, (k0_off502 v3376) a + S256x512.size a ≤ S32768x512.size a) ∧
  (∀ (hinb : ∀ a, (k0_off502 v3376) a + S256x512.size a ≤ S32768x512.size a), (Rect.unit (s := S32768x512) (k0_off502 v3376) S256x512.size hinb).WholeWords (EltTy.packing .bf16))
theorem k0_off502_inb : ∀ (v3376 : BitVec 32) (k0_hw252 : k0_chk252 v3376), ∀ a, (k0_off502 v3376) a + S256x512.size a ≤ S32768x512.size a := fun v3376 k0_hw252 => k0_hw252.1
theorem k0_off502_wordsbf16 : ∀ (v3376 : BitVec 32) (k0_hw252 : k0_chk252 v3376), (Rect.unit (s := S32768x512) (k0_off502 v3376) S256x512.size (k0_off502_inb v3376 k0_hw252)).WholeWords (EltTy.packing .bf16) := fun v3376 k0_hw252 => k0_hw252.2 (k0_off502_inb v3376 k0_hw252)

def k0_off503 (v4 : BitVec 32) : Fin 1 → Nat :=
  let c0_i32_3108 : BitVec 32 := 0#32
  let v3383 : BitVec 32 := Scalar.subi v4 c0_i32_3108
  let c32_i32_3109 : BitVec 32 := 32#32
  let v3384 : BitVec 32 := Scalar.addi v3383 c32_i32_3109
  let c32_i32_3110 : BitVec 32 := 32#32
  let v3385 : BitVec 32 := Scalar.remsi v3384 c32_i32_3110
  let v3386 : Index := Scalar.indexCast v3385
  ![v3386.toNat]
def k0_off504 (v3387 : BitVec 32) : Fin 2 → Nat :=
  let c1024_i32_3111 : BitVec 32 := 1024#32
  let v3388 : BitVec 32 := Scalar.muli v3387 c1024_i32_3111
  let c256_i32_3112 : BitVec 32 := 256#32
  let v3389 : BitVec 32 := Scalar.addi v3388 c256_i32_3112
  let c0_i32_3118 : BitVec 32 := 0#32
  ![v3389.toNat, 0]

def k0_chk253 (v3387 : BitVec 32) : Prop :=
  (∀ a, (k0_off504 v3387) a + S256x512.size a ≤ S32768x512.size a) ∧
  (∀ (hinb : ∀ a, (k0_off504 v3387) a + S256x512.size a ≤ S32768x512.size a), (Rect.unit (s := S32768x512) (k0_off504 v3387) S256x512.size hinb).WholeWords (EltTy.packing .bf16))
theorem k0_off504_inb : ∀ (v3387 : BitVec 32) (k0_hw253 : k0_chk253 v3387), ∀ a, (k0_off504 v3387) a + S256x512.size a ≤ S32768x512.size a := fun v3387 k0_hw253 => k0_hw253.1
theorem k0_off504_wordsbf16 : ∀ (v3387 : BitVec 32) (k0_hw253 : k0_chk253 v3387), (Rect.unit (s := S32768x512) (k0_off504 v3387) S256x512.size (k0_off504_inb v3387 k0_hw253)).WholeWords (EltTy.packing .bf16) := fun v3387 k0_hw253 => k0_hw253.2 (k0_off504_inb v3387 k0_hw253)

def k0_off505 (v4 : BitVec 32) : Fin 1 → Nat :=
  let c0_i32_3120 : BitVec 32 := 0#32
  let v3394 : BitVec 32 := Scalar.subi v4 c0_i32_3120
  let c32_i32_3121 : BitVec 32 := 32#32
  let v3395 : BitVec 32 := Scalar.addi v3394 c32_i32_3121
  let c32_i32_3122 : BitVec 32 := 32#32
  let v3396 : BitVec 32 := Scalar.remsi v3395 c32_i32_3122
  let v3397 : Index := Scalar.indexCast v3396
  ![v3397.toNat]
def k0_off506 (v3398 : BitVec 32) : Fin 2 → Nat :=
  let c1024_i32_3123 : BitVec 32 := 1024#32
  let v3399 : BitVec 32 := Scalar.muli v3398 c1024_i32_3123
  let c512_i32_3124 : BitVec 32 := 512#32
  let v3400 : BitVec 32 := Scalar.addi v3399 c512_i32_3124
  let c0_i32_3130 : BitVec 32 := 0#32
  ![v3400.toNat, 0]

def k0_chk254 (v3398 : BitVec 32) : Prop :=
  (∀ a, (k0_off506 v3398) a + S256x512.size a ≤ S32768x512.size a) ∧
  (∀ (hinb : ∀ a, (k0_off506 v3398) a + S256x512.size a ≤ S32768x512.size a), (Rect.unit (s := S32768x512) (k0_off506 v3398) S256x512.size hinb).WholeWords (EltTy.packing .bf16))
theorem k0_off506_inb : ∀ (v3398 : BitVec 32) (k0_hw254 : k0_chk254 v3398), ∀ a, (k0_off506 v3398) a + S256x512.size a ≤ S32768x512.size a := fun v3398 k0_hw254 => k0_hw254.1
theorem k0_off506_wordsbf16 : ∀ (v3398 : BitVec 32) (k0_hw254 : k0_chk254 v3398), (Rect.unit (s := S32768x512) (k0_off506 v3398) S256x512.size (k0_off506_inb v3398 k0_hw254)).WholeWords (EltTy.packing .bf16) := fun v3398 k0_hw254 => k0_hw254.2 (k0_off506_inb v3398 k0_hw254)

def k0_off507 (v4 : BitVec 32) : Fin 1 → Nat :=
  let c0_i32_3132 : BitVec 32 := 0#32
  let v3405 : BitVec 32 := Scalar.subi v4 c0_i32_3132
  let c32_i32_3133 : BitVec 32 := 32#32
  let v3406 : BitVec 32 := Scalar.addi v3405 c32_i32_3133
  let c32_i32_3134 : BitVec 32 := 32#32
  let v3407 : BitVec 32 := Scalar.remsi v3406 c32_i32_3134
  let v3408 : Index := Scalar.indexCast v3407
  ![v3408.toNat]
def k0_off508 (v3409 : BitVec 32) : Fin 2 → Nat :=
  let c1024_i32_3135 : BitVec 32 := 1024#32
  let v3410 : BitVec 32 := Scalar.muli v3409 c1024_i32_3135
  let c768_i32_3136 : BitVec 32 := 768#32
  let v3411 : BitVec 32 := Scalar.addi v3410 c768_i32_3136
  let c0_i32_3142 : BitVec 32 := 0#32
  ![v3411.toNat, 0]

def k0_chk255 (v3409 : BitVec 32) : Prop :=
  (∀ a, (k0_off508 v3409) a + S256x512.size a ≤ S32768x512.size a) ∧
  (∀ (hinb : ∀ a, (k0_off508 v3409) a + S256x512.size a ≤ S32768x512.size a), (Rect.unit (s := S32768x512) (k0_off508 v3409) S256x512.size hinb).WholeWords (EltTy.packing .bf16))
theorem k0_off508_inb : ∀ (v3409 : BitVec 32) (k0_hw255 : k0_chk255 v3409), ∀ a, (k0_off508 v3409) a + S256x512.size a ≤ S32768x512.size a := fun v3409 k0_hw255 => k0_hw255.1
theorem k0_off508_wordsbf16 : ∀ (v3409 : BitVec 32) (k0_hw255 : k0_chk255 v3409), (Rect.unit (s := S32768x512) (k0_off508 v3409) S256x512.size (k0_off508_inb v3409 k0_hw255)).WholeWords (EltTy.packing .bf16) := fun v3409 k0_hw255 => k0_hw255.2 (k0_off508_inb v3409 k0_hw255)

def k0_off509 (v4 : BitVec 32) : Fin 1 → Nat :=
  let c0_i32_3144 : BitVec 32 := 0#32
  let v3416 : BitVec 32 := Scalar.addi v4 c0_i32_3144
  let c32_i32_3145 : BitVec 32 := 32#32
  let v3417 : BitVec 32 := Scalar.remsi v3416 c32_i32_3145
  let v3418 : Index := Scalar.indexCast v3417
  ![v3418.toNat]
def k0_off510 (v3419 : BitVec 32) : Fin 2 → Nat :=
  let c1024_i32_3146 : BitVec 32 := 1024#32
  let v3420 : BitVec 32 := Scalar.muli v3419 c1024_i32_3146
  let c0_i32_3147 : BitVec 32 := 0#32
  let v3421 : BitVec 32 := Scalar.addi v3420 c0_i32_3147
  let c0_i32_3153 : BitVec 32 := 0#32
  ![v3421.toNat, 0]

def k0_chk256 (v3419 : BitVec 32) : Prop :=
  (∀ a, (k0_off510 v3419) a + S256x512.size a ≤ S32768x512.size a) ∧
  (∀ (hinb : ∀ a, (k0_off510 v3419) a + S256x512.size a ≤ S32768x512.size a), (Rect.unit (s := S32768x512) (k0_off510 v3419) S256x512.size hinb).WholeWords (EltTy.packing .bf16))
theorem k0_off510_inb : ∀ (v3419 : BitVec 32) (k0_hw256 : k0_chk256 v3419), ∀ a, (k0_off510 v3419) a + S256x512.size a ≤ S32768x512.size a := fun v3419 k0_hw256 => k0_hw256.1
theorem k0_off510_wordsbf16 : ∀ (v3419 : BitVec 32) (k0_hw256 : k0_chk256 v3419), (Rect.unit (s := S32768x512) (k0_off510 v3419) S256x512.size (k0_off510_inb v3419 k0_hw256)).WholeWords (EltTy.packing .bf16) := fun v3419 k0_hw256 => k0_hw256.2 (k0_off510_inb v3419 k0_hw256)

def k0_off511 (v4 : BitVec 32) : Fin 1 → Nat :=
  let c0_i32_3155 : BitVec 32 := 0#32
  let v3426 : BitVec 32 := Scalar.addi v4 c0_i32_3155
  let c32_i32_3156 : BitVec 32 := 32#32
  let v3427 : BitVec 32 := Scalar.remsi v3426 c32_i32_3156
  let v3428 : Index := Scalar.indexCast v3427
  ![v3428.toNat]
def k0_off512 (v3429 : BitVec 32) : Fin 2 → Nat :=
  let c1024_i32_3157 : BitVec 32 := 1024#32
  let v3430 : BitVec 32 := Scalar.muli v3429 c1024_i32_3157
  let c256_i32_3158 : BitVec 32 := 256#32
  let v3431 : BitVec 32 := Scalar.addi v3430 c256_i32_3158
  let c0_i32_3164 : BitVec 32 := 0#32
  ![v3431.toNat, 0]

def k0_chk257 (v3429 : BitVec 32) : Prop :=
  (∀ a, (k0_off512 v3429) a + S256x512.size a ≤ S32768x512.size a) ∧
  (∀ (hinb : ∀ a, (k0_off512 v3429) a + S256x512.size a ≤ S32768x512.size a), (Rect.unit (s := S32768x512) (k0_off512 v3429) S256x512.size hinb).WholeWords (EltTy.packing .bf16))
theorem k0_off512_inb : ∀ (v3429 : BitVec 32) (k0_hw257 : k0_chk257 v3429), ∀ a, (k0_off512 v3429) a + S256x512.size a ≤ S32768x512.size a := fun v3429 k0_hw257 => k0_hw257.1
theorem k0_off512_wordsbf16 : ∀ (v3429 : BitVec 32) (k0_hw257 : k0_chk257 v3429), (Rect.unit (s := S32768x512) (k0_off512 v3429) S256x512.size (k0_off512_inb v3429 k0_hw257)).WholeWords (EltTy.packing .bf16) := fun v3429 k0_hw257 => k0_hw257.2 (k0_off512_inb v3429 k0_hw257)

def k0_off513 (v4 : BitVec 32) : Fin 1 → Nat :=
  let c0_i32_3166 : BitVec 32 := 0#32
  let v3436 : BitVec 32 := Scalar.addi v4 c0_i32_3166
  let c32_i32_3167 : BitVec 32 := 32#32
  let v3437 : BitVec 32 := Scalar.remsi v3436 c32_i32_3167
  let v3438 : Index := Scalar.indexCast v3437
  ![v3438.toNat]
def k0_off514 (v3439 : BitVec 32) : Fin 2 → Nat :=
  let c1024_i32_3168 : BitVec 32 := 1024#32
  let v3440 : BitVec 32 := Scalar.muli v3439 c1024_i32_3168
  let c512_i32_3169 : BitVec 32 := 512#32
  let v3441 : BitVec 32 := Scalar.addi v3440 c512_i32_3169
  let c0_i32_3175 : BitVec 32 := 0#32
  ![v3441.toNat, 0]

def k0_chk258 (v3439 : BitVec 32) : Prop :=
  (∀ a, (k0_off514 v3439) a + S256x512.size a ≤ S32768x512.size a) ∧
  (∀ (hinb : ∀ a, (k0_off514 v3439) a + S256x512.size a ≤ S32768x512.size a), (Rect.unit (s := S32768x512) (k0_off514 v3439) S256x512.size hinb).WholeWords (EltTy.packing .bf16))
theorem k0_off514_inb : ∀ (v3439 : BitVec 32) (k0_hw258 : k0_chk258 v3439), ∀ a, (k0_off514 v3439) a + S256x512.size a ≤ S32768x512.size a := fun v3439 k0_hw258 => k0_hw258.1
theorem k0_off514_wordsbf16 : ∀ (v3439 : BitVec 32) (k0_hw258 : k0_chk258 v3439), (Rect.unit (s := S32768x512) (k0_off514 v3439) S256x512.size (k0_off514_inb v3439 k0_hw258)).WholeWords (EltTy.packing .bf16) := fun v3439 k0_hw258 => k0_hw258.2 (k0_off514_inb v3439 k0_hw258)

def k0_off515 (v4 : BitVec 32) : Fin 1 → Nat :=
  let c0_i32_3177 : BitVec 32 := 0#32
  let v3446 : BitVec 32 := Scalar.addi v4 c0_i32_3177
  let c32_i32_3178 : BitVec 32 := 32#32
  let v3447 : BitVec 32 := Scalar.remsi v3446 c32_i32_3178
  let v3448 : Index := Scalar.indexCast v3447
  ![v3448.toNat]
def k0_off516 (v3449 : BitVec 32) : Fin 2 → Nat :=
  let c1024_i32_3179 : BitVec 32 := 1024#32
  let v3450 : BitVec 32 := Scalar.muli v3449 c1024_i32_3179
  let c768_i32_3180 : BitVec 32 := 768#32
  let v3451 : BitVec 32 := Scalar.addi v3450 c768_i32_3180
  let c0_i32_3186 : BitVec 32 := 0#32
  ![v3451.toNat, 0]

def k0_chk259 (v3449 : BitVec 32) : Prop :=
  (∀ a, (k0_off516 v3449) a + S256x512.size a ≤ S32768x512.size a) ∧
  (∀ (hinb : ∀ a, (k0_off516 v3449) a + S256x512.size a ≤ S32768x512.size a), (Rect.unit (s := S32768x512) (k0_off516 v3449) S256x512.size hinb).WholeWords (EltTy.packing .bf16))
theorem k0_off516_inb : ∀ (v3449 : BitVec 32) (k0_hw259 : k0_chk259 v3449), ∀ a, (k0_off516 v3449) a + S256x512.size a ≤ S32768x512.size a := fun v3449 k0_hw259 => k0_hw259.1
theorem k0_off516_wordsbf16 : ∀ (v3449 : BitVec 32) (k0_hw259 : k0_chk259 v3449), (Rect.unit (s := S32768x512) (k0_off516 v3449) S256x512.size (k0_off516_inb v3449 k0_hw259)).WholeWords (EltTy.packing .bf16) := fun v3449 k0_hw259 => k0_hw259.2 (k0_off516_inb v3449 k0_hw259)

def k0_off517 (v4 : BitVec 32) : Fin 1 → Nat :=
  let c1_i32_3188 : BitVec 32 := 1#32
  let v3456 : BitVec 32 := Scalar.subi v4 c1_i32_3188
  let c32_i32_3189 : BitVec 32 := 32#32
  let v3457 : BitVec 32 := Scalar.addi v3456 c32_i32_3189
  let c32_i32_3190 : BitVec 32 := 32#32
  let v3458 : BitVec 32 := Scalar.remsi v3457 c32_i32_3190
  let v3459 : Index := Scalar.indexCast v3458
  ![v3459.toNat]
def k0_off518 (v3460 : BitVec 32) : Fin 2 → Nat :=
  let c1024_i32_3191 : BitVec 32 := 1024#32
  let v3461 : BitVec 32 := Scalar.muli v3460 c1024_i32_3191
  let c0_i32_3192 : BitVec 32 := 0#32
  let v3462 : BitVec 32 := Scalar.addi v3461 c0_i32_3192
  let c0_i32_3198 : BitVec 32 := 0#32
  ![v3462.toNat, 0]

def k0_chk260 (v3460 : BitVec 32) : Prop :=
  (∀ a, (k0_off518 v3460) a + S256x512.size a ≤ S32768x512.size a) ∧
  (∀ (hinb : ∀ a, (k0_off518 v3460) a + S256x512.size a ≤ S32768x512.size a), (Rect.unit (s := S32768x512) (k0_off518 v3460) S256x512.size hinb).WholeWords (EltTy.packing .bf16))
theorem k0_off518_inb : ∀ (v3460 : BitVec 32) (k0_hw260 : k0_chk260 v3460), ∀ a, (k0_off518 v3460) a + S256x512.size a ≤ S32768x512.size a := fun v3460 k0_hw260 => k0_hw260.1
theorem k0_off518_wordsbf16 : ∀ (v3460 : BitVec 32) (k0_hw260 : k0_chk260 v3460), (Rect.unit (s := S32768x512) (k0_off518 v3460) S256x512.size (k0_off518_inb v3460 k0_hw260)).WholeWords (EltTy.packing .bf16) := fun v3460 k0_hw260 => k0_hw260.2 (k0_off518_inb v3460 k0_hw260)

def k0_off519 (v4 : BitVec 32) : Fin 1 → Nat :=
  let c1_i32_3200 : BitVec 32 := 1#32
  let v3467 : BitVec 32 := Scalar.subi v4 c1_i32_3200
  let c32_i32_3201 : BitVec 32 := 32#32
  let v3468 : BitVec 32 := Scalar.addi v3467 c32_i32_3201
  let c32_i32_3202 : BitVec 32 := 32#32
  let v3469 : BitVec 32 := Scalar.remsi v3468 c32_i32_3202
  let v3470 : Index := Scalar.indexCast v3469
  ![v3470.toNat]
def k0_off520 (v3471 : BitVec 32) : Fin 2 → Nat :=
  let c1024_i32_3203 : BitVec 32 := 1024#32
  let v3472 : BitVec 32 := Scalar.muli v3471 c1024_i32_3203
  let c256_i32_3204 : BitVec 32 := 256#32
  let v3473 : BitVec 32 := Scalar.addi v3472 c256_i32_3204
  let c0_i32_3210 : BitVec 32 := 0#32
  ![v3473.toNat, 0]

def k0_chk261 (v3471 : BitVec 32) : Prop :=
  (∀ a, (k0_off520 v3471) a + S256x512.size a ≤ S32768x512.size a) ∧
  (∀ (hinb : ∀ a, (k0_off520 v3471) a + S256x512.size a ≤ S32768x512.size a), (Rect.unit (s := S32768x512) (k0_off520 v3471) S256x512.size hinb).WholeWords (EltTy.packing .bf16))
theorem k0_off520_inb : ∀ (v3471 : BitVec 32) (k0_hw261 : k0_chk261 v3471), ∀ a, (k0_off520 v3471) a + S256x512.size a ≤ S32768x512.size a := fun v3471 k0_hw261 => k0_hw261.1
theorem k0_off520_wordsbf16 : ∀ (v3471 : BitVec 32) (k0_hw261 : k0_chk261 v3471), (Rect.unit (s := S32768x512) (k0_off520 v3471) S256x512.size (k0_off520_inb v3471 k0_hw261)).WholeWords (EltTy.packing .bf16) := fun v3471 k0_hw261 => k0_hw261.2 (k0_off520_inb v3471 k0_hw261)

def k0_off521 (v4 : BitVec 32) : Fin 1 → Nat :=
  let c1_i32_3212 : BitVec 32 := 1#32
  let v3478 : BitVec 32 := Scalar.subi v4 c1_i32_3212
  let c32_i32_3213 : BitVec 32 := 32#32
  let v3479 : BitVec 32 := Scalar.addi v3478 c32_i32_3213
  let c32_i32_3214 : BitVec 32 := 32#32
  let v3480 : BitVec 32 := Scalar.remsi v3479 c32_i32_3214
  let v3481 : Index := Scalar.indexCast v3480
  ![v3481.toNat]
def k0_off522 (v3482 : BitVec 32) : Fin 2 → Nat :=
  let c1024_i32_3215 : BitVec 32 := 1024#32
  let v3483 : BitVec 32 := Scalar.muli v3482 c1024_i32_3215
  let c512_i32_3216 : BitVec 32 := 512#32
  let v3484 : BitVec 32 := Scalar.addi v3483 c512_i32_3216
  let c0_i32_3222 : BitVec 32 := 0#32
  ![v3484.toNat, 0]

def k0_chk262 (v3482 : BitVec 32) : Prop :=
  (∀ a, (k0_off522 v3482) a + S256x512.size a ≤ S32768x512.size a) ∧
  (∀ (hinb : ∀ a, (k0_off522 v3482) a + S256x512.size a ≤ S32768x512.size a), (Rect.unit (s := S32768x512) (k0_off522 v3482) S256x512.size hinb).WholeWords (EltTy.packing .bf16))
theorem k0_off522_inb : ∀ (v3482 : BitVec 32) (k0_hw262 : k0_chk262 v3482), ∀ a, (k0_off522 v3482) a + S256x512.size a ≤ S32768x512.size a := fun v3482 k0_hw262 => k0_hw262.1
theorem k0_off522_wordsbf16 : ∀ (v3482 : BitVec 32) (k0_hw262 : k0_chk262 v3482), (Rect.unit (s := S32768x512) (k0_off522 v3482) S256x512.size (k0_off522_inb v3482 k0_hw262)).WholeWords (EltTy.packing .bf16) := fun v3482 k0_hw262 => k0_hw262.2 (k0_off522_inb v3482 k0_hw262)

def k0_off523 (v4 : BitVec 32) : Fin 1 → Nat :=
  let c1_i32_3224 : BitVec 32 := 1#32
  let v3489 : BitVec 32 := Scalar.subi v4 c1_i32_3224
  let c32_i32_3225 : BitVec 32 := 32#32
  let v3490 : BitVec 32 := Scalar.addi v3489 c32_i32_3225
  let c32_i32_3226 : BitVec 32 := 32#32
  let v3491 : BitVec 32 := Scalar.remsi v3490 c32_i32_3226
  let v3492 : Index := Scalar.indexCast v3491
  ![v3492.toNat]
def k0_off524 (v3493 : BitVec 32) : Fin 2 → Nat :=
  let c1024_i32_3227 : BitVec 32 := 1024#32
  let v3494 : BitVec 32 := Scalar.muli v3493 c1024_i32_3227
  let c768_i32_3228 : BitVec 32 := 768#32
  let v3495 : BitVec 32 := Scalar.addi v3494 c768_i32_3228
  let c0_i32_3234 : BitVec 32 := 0#32
  ![v3495.toNat, 0]

def k0_chk263 (v3493 : BitVec 32) : Prop :=
  (∀ a, (k0_off524 v3493) a + S256x512.size a ≤ S32768x512.size a) ∧
  (∀ (hinb : ∀ a, (k0_off524 v3493) a + S256x512.size a ≤ S32768x512.size a), (Rect.unit (s := S32768x512) (k0_off524 v3493) S256x512.size hinb).WholeWords (EltTy.packing .bf16))
theorem k0_off524_inb : ∀ (v3493 : BitVec 32) (k0_hw263 : k0_chk263 v3493), ∀ a, (k0_off524 v3493) a + S256x512.size a ≤ S32768x512.size a := fun v3493 k0_hw263 => k0_hw263.1
theorem k0_off524_wordsbf16 : ∀ (v3493 : BitVec 32) (k0_hw263 : k0_chk263 v3493), (Rect.unit (s := S32768x512) (k0_off524 v3493) S256x512.size (k0_off524_inb v3493 k0_hw263)).WholeWords (EltTy.packing .bf16) := fun v3493 k0_hw263 => k0_hw263.2 (k0_off524_inb v3493 k0_hw263)

def k0_off525 (v4 : BitVec 32) : Fin 1 → Nat :=
  let c1_i32_3236 : BitVec 32 := 1#32
  let v3500 : BitVec 32 := Scalar.addi v4 c1_i32_3236
  let c32_i32_3237 : BitVec 32 := 32#32
  let v3501 : BitVec 32 := Scalar.remsi v3500 c32_i32_3237
  let v3502 : Index := Scalar.indexCast v3501
  ![v3502.toNat]
def k0_off526 (v3503 : BitVec 32) : Fin 2 → Nat :=
  let c1024_i32_3238 : BitVec 32 := 1024#32
  let v3504 : BitVec 32 := Scalar.muli v3503 c1024_i32_3238
  let c0_i32_3239 : BitVec 32 := 0#32
  let v3505 : BitVec 32 := Scalar.addi v3504 c0_i32_3239
  let c0_i32_3245 : BitVec 32 := 0#32
  ![v3505.toNat, 0]

def k0_chk264 (v3503 : BitVec 32) : Prop :=
  (∀ a, (k0_off526 v3503) a + S256x512.size a ≤ S32768x512.size a) ∧
  (∀ (hinb : ∀ a, (k0_off526 v3503) a + S256x512.size a ≤ S32768x512.size a), (Rect.unit (s := S32768x512) (k0_off526 v3503) S256x512.size hinb).WholeWords (EltTy.packing .bf16))
theorem k0_off526_inb : ∀ (v3503 : BitVec 32) (k0_hw264 : k0_chk264 v3503), ∀ a, (k0_off526 v3503) a + S256x512.size a ≤ S32768x512.size a := fun v3503 k0_hw264 => k0_hw264.1
theorem k0_off526_wordsbf16 : ∀ (v3503 : BitVec 32) (k0_hw264 : k0_chk264 v3503), (Rect.unit (s := S32768x512) (k0_off526 v3503) S256x512.size (k0_off526_inb v3503 k0_hw264)).WholeWords (EltTy.packing .bf16) := fun v3503 k0_hw264 => k0_hw264.2 (k0_off526_inb v3503 k0_hw264)

def k0_off527 (v4 : BitVec 32) : Fin 1 → Nat :=
  let c1_i32_3247 : BitVec 32 := 1#32
  let v3510 : BitVec 32 := Scalar.addi v4 c1_i32_3247
  let c32_i32_3248 : BitVec 32 := 32#32
  let v3511 : BitVec 32 := Scalar.remsi v3510 c32_i32_3248
  let v3512 : Index := Scalar.indexCast v3511
  ![v3512.toNat]
def k0_off528 (v3513 : BitVec 32) : Fin 2 → Nat :=
  let c1024_i32_3249 : BitVec 32 := 1024#32
  let v3514 : BitVec 32 := Scalar.muli v3513 c1024_i32_3249
  let c256_i32_3250 : BitVec 32 := 256#32
  let v3515 : BitVec 32 := Scalar.addi v3514 c256_i32_3250
  let c0_i32_3256 : BitVec 32 := 0#32
  ![v3515.toNat, 0]

def k0_chk265 (v3513 : BitVec 32) : Prop :=
  (∀ a, (k0_off528 v3513) a + S256x512.size a ≤ S32768x512.size a) ∧
  (∀ (hinb : ∀ a, (k0_off528 v3513) a + S256x512.size a ≤ S32768x512.size a), (Rect.unit (s := S32768x512) (k0_off528 v3513) S256x512.size hinb).WholeWords (EltTy.packing .bf16))
theorem k0_off528_inb : ∀ (v3513 : BitVec 32) (k0_hw265 : k0_chk265 v3513), ∀ a, (k0_off528 v3513) a + S256x512.size a ≤ S32768x512.size a := fun v3513 k0_hw265 => k0_hw265.1
theorem k0_off528_wordsbf16 : ∀ (v3513 : BitVec 32) (k0_hw265 : k0_chk265 v3513), (Rect.unit (s := S32768x512) (k0_off528 v3513) S256x512.size (k0_off528_inb v3513 k0_hw265)).WholeWords (EltTy.packing .bf16) := fun v3513 k0_hw265 => k0_hw265.2 (k0_off528_inb v3513 k0_hw265)

def k0_off529 (v4 : BitVec 32) : Fin 1 → Nat :=
  let c1_i32_3258 : BitVec 32 := 1#32
  let v3520 : BitVec 32 := Scalar.addi v4 c1_i32_3258
  let c32_i32_3259 : BitVec 32 := 32#32
  let v3521 : BitVec 32 := Scalar.remsi v3520 c32_i32_3259
  let v3522 : Index := Scalar.indexCast v3521
  ![v3522.toNat]
def k0_off530 (v3523 : BitVec 32) : Fin 2 → Nat :=
  let c1024_i32_3260 : BitVec 32 := 1024#32
  let v3524 : BitVec 32 := Scalar.muli v3523 c1024_i32_3260
  let c512_i32_3261 : BitVec 32 := 512#32
  let v3525 : BitVec 32 := Scalar.addi v3524 c512_i32_3261
  let c0_i32_3267 : BitVec 32 := 0#32
  ![v3525.toNat, 0]

def k0_chk266 (v3523 : BitVec 32) : Prop :=
  (∀ a, (k0_off530 v3523) a + S256x512.size a ≤ S32768x512.size a) ∧
  (∀ (hinb : ∀ a, (k0_off530 v3523) a + S256x512.size a ≤ S32768x512.size a), (Rect.unit (s := S32768x512) (k0_off530 v3523) S256x512.size hinb).WholeWords (EltTy.packing .bf16))
theorem k0_off530_inb : ∀ (v3523 : BitVec 32) (k0_hw266 : k0_chk266 v3523), ∀ a, (k0_off530 v3523) a + S256x512.size a ≤ S32768x512.size a := fun v3523 k0_hw266 => k0_hw266.1
theorem k0_off530_wordsbf16 : ∀ (v3523 : BitVec 32) (k0_hw266 : k0_chk266 v3523), (Rect.unit (s := S32768x512) (k0_off530 v3523) S256x512.size (k0_off530_inb v3523 k0_hw266)).WholeWords (EltTy.packing .bf16) := fun v3523 k0_hw266 => k0_hw266.2 (k0_off530_inb v3523 k0_hw266)

def k0_off531 (v4 : BitVec 32) : Fin 1 → Nat :=
  let c1_i32_3269 : BitVec 32 := 1#32
  let v3530 : BitVec 32 := Scalar.addi v4 c1_i32_3269
  let c32_i32_3270 : BitVec 32 := 32#32
  let v3531 : BitVec 32 := Scalar.remsi v3530 c32_i32_3270
  let v3532 : Index := Scalar.indexCast v3531
  ![v3532.toNat]
def k0_off532 (v3533 : BitVec 32) : Fin 2 → Nat :=
  let c1024_i32_3271 : BitVec 32 := 1024#32
  let v3534 : BitVec 32 := Scalar.muli v3533 c1024_i32_3271
  let c768_i32_3272 : BitVec 32 := 768#32
  let v3535 : BitVec 32 := Scalar.addi v3534 c768_i32_3272
  let c0_i32_3278 : BitVec 32 := 0#32
  ![v3535.toNat, 0]

def k0_chk267 (v3533 : BitVec 32) : Prop :=
  (∀ a, (k0_off532 v3533) a + S256x512.size a ≤ S32768x512.size a) ∧
  (∀ (hinb : ∀ a, (k0_off532 v3533) a + S256x512.size a ≤ S32768x512.size a), (Rect.unit (s := S32768x512) (k0_off532 v3533) S256x512.size hinb).WholeWords (EltTy.packing .bf16))
theorem k0_off532_inb : ∀ (v3533 : BitVec 32) (k0_hw267 : k0_chk267 v3533), ∀ a, (k0_off532 v3533) a + S256x512.size a ≤ S32768x512.size a := fun v3533 k0_hw267 => k0_hw267.1
theorem k0_off532_wordsbf16 : ∀ (v3533 : BitVec 32) (k0_hw267 : k0_chk267 v3533), (Rect.unit (s := S32768x512) (k0_off532 v3533) S256x512.size (k0_off532_inb v3533 k0_hw267)).WholeWords (EltTy.packing .bf16) := fun v3533 k0_hw267 => k0_hw267.2 (k0_off532_inb v3533 k0_hw267)

def k0_off533 (v4 : BitVec 32) : Fin 1 → Nat :=
  let c2_i32_3280 : BitVec 32 := 2#32
  let v3540 : BitVec 32 := Scalar.subi v4 c2_i32_3280
  let c32_i32_3281 : BitVec 32 := 32#32
  let v3541 : BitVec 32 := Scalar.addi v3540 c32_i32_3281
  let c32_i32_3282 : BitVec 32 := 32#32
  let v3542 : BitVec 32 := Scalar.remsi v3541 c32_i32_3282
  let v3543 : Index := Scalar.indexCast v3542
  ![v3543.toNat]
def k0_off534 (v3544 : BitVec 32) : Fin 2 → Nat :=
  let c1024_i32_3283 : BitVec 32 := 1024#32
  let v3545 : BitVec 32 := Scalar.muli v3544 c1024_i32_3283
  let c0_i32_3284 : BitVec 32 := 0#32
  let v3546 : BitVec 32 := Scalar.addi v3545 c0_i32_3284
  let c0_i32_3290 : BitVec 32 := 0#32
  ![v3546.toNat, 0]

def k0_chk268 (v3544 : BitVec 32) : Prop :=
  (∀ a, (k0_off534 v3544) a + S256x512.size a ≤ S32768x512.size a) ∧
  (∀ (hinb : ∀ a, (k0_off534 v3544) a + S256x512.size a ≤ S32768x512.size a), (Rect.unit (s := S32768x512) (k0_off534 v3544) S256x512.size hinb).WholeWords (EltTy.packing .bf16))
theorem k0_off534_inb : ∀ (v3544 : BitVec 32) (k0_hw268 : k0_chk268 v3544), ∀ a, (k0_off534 v3544) a + S256x512.size a ≤ S32768x512.size a := fun v3544 k0_hw268 => k0_hw268.1
theorem k0_off534_wordsbf16 : ∀ (v3544 : BitVec 32) (k0_hw268 : k0_chk268 v3544), (Rect.unit (s := S32768x512) (k0_off534 v3544) S256x512.size (k0_off534_inb v3544 k0_hw268)).WholeWords (EltTy.packing .bf16) := fun v3544 k0_hw268 => k0_hw268.2 (k0_off534_inb v3544 k0_hw268)

def k0_off535 (v4 : BitVec 32) : Fin 1 → Nat :=
  let c2_i32_3292 : BitVec 32 := 2#32
  let v3551 : BitVec 32 := Scalar.subi v4 c2_i32_3292
  let c32_i32_3293 : BitVec 32 := 32#32
  let v3552 : BitVec 32 := Scalar.addi v3551 c32_i32_3293
  let c32_i32_3294 : BitVec 32 := 32#32
  let v3553 : BitVec 32 := Scalar.remsi v3552 c32_i32_3294
  let v3554 : Index := Scalar.indexCast v3553
  ![v3554.toNat]
def k0_off536 (v3555 : BitVec 32) : Fin 2 → Nat :=
  let c1024_i32_3295 : BitVec 32 := 1024#32
  let v3556 : BitVec 32 := Scalar.muli v3555 c1024_i32_3295
  let c256_i32_3296 : BitVec 32 := 256#32
  let v3557 : BitVec 32 := Scalar.addi v3556 c256_i32_3296
  let c0_i32_3302 : BitVec 32 := 0#32
  ![v3557.toNat, 0]

def k0_chk269 (v3555 : BitVec 32) : Prop :=
  (∀ a, (k0_off536 v3555) a + S256x512.size a ≤ S32768x512.size a) ∧
  (∀ (hinb : ∀ a, (k0_off536 v3555) a + S256x512.size a ≤ S32768x512.size a), (Rect.unit (s := S32768x512) (k0_off536 v3555) S256x512.size hinb).WholeWords (EltTy.packing .bf16))
theorem k0_off536_inb : ∀ (v3555 : BitVec 32) (k0_hw269 : k0_chk269 v3555), ∀ a, (k0_off536 v3555) a + S256x512.size a ≤ S32768x512.size a := fun v3555 k0_hw269 => k0_hw269.1
theorem k0_off536_wordsbf16 : ∀ (v3555 : BitVec 32) (k0_hw269 : k0_chk269 v3555), (Rect.unit (s := S32768x512) (k0_off536 v3555) S256x512.size (k0_off536_inb v3555 k0_hw269)).WholeWords (EltTy.packing .bf16) := fun v3555 k0_hw269 => k0_hw269.2 (k0_off536_inb v3555 k0_hw269)

def k0_off537 (v4 : BitVec 32) : Fin 1 → Nat :=
  let c2_i32_3304 : BitVec 32 := 2#32
  let v3562 : BitVec 32 := Scalar.subi v4 c2_i32_3304
  let c32_i32_3305 : BitVec 32 := 32#32
  let v3563 : BitVec 32 := Scalar.addi v3562 c32_i32_3305
  let c32_i32_3306 : BitVec 32 := 32#32
  let v3564 : BitVec 32 := Scalar.remsi v3563 c32_i32_3306
  let v3565 : Index := Scalar.indexCast v3564
  ![v3565.toNat]
def k0_off538 (v3566 : BitVec 32) : Fin 2 → Nat :=
  let c1024_i32_3307 : BitVec 32 := 1024#32
  let v3567 : BitVec 32 := Scalar.muli v3566 c1024_i32_3307
  let c512_i32_3308 : BitVec 32 := 512#32
  let v3568 : BitVec 32 := Scalar.addi v3567 c512_i32_3308
  let c0_i32_3314 : BitVec 32 := 0#32
  ![v3568.toNat, 0]

def k0_chk270 (v3566 : BitVec 32) : Prop :=
  (∀ a, (k0_off538 v3566) a + S256x512.size a ≤ S32768x512.size a) ∧
  (∀ (hinb : ∀ a, (k0_off538 v3566) a + S256x512.size a ≤ S32768x512.size a), (Rect.unit (s := S32768x512) (k0_off538 v3566) S256x512.size hinb).WholeWords (EltTy.packing .bf16))
theorem k0_off538_inb : ∀ (v3566 : BitVec 32) (k0_hw270 : k0_chk270 v3566), ∀ a, (k0_off538 v3566) a + S256x512.size a ≤ S32768x512.size a := fun v3566 k0_hw270 => k0_hw270.1
theorem k0_off538_wordsbf16 : ∀ (v3566 : BitVec 32) (k0_hw270 : k0_chk270 v3566), (Rect.unit (s := S32768x512) (k0_off538 v3566) S256x512.size (k0_off538_inb v3566 k0_hw270)).WholeWords (EltTy.packing .bf16) := fun v3566 k0_hw270 => k0_hw270.2 (k0_off538_inb v3566 k0_hw270)

def k0_off539 (v4 : BitVec 32) : Fin 1 → Nat :=
  let c2_i32_3316 : BitVec 32 := 2#32
  let v3573 : BitVec 32 := Scalar.subi v4 c2_i32_3316
  let c32_i32_3317 : BitVec 32 := 32#32
  let v3574 : BitVec 32 := Scalar.addi v3573 c32_i32_3317
  let c32_i32_3318 : BitVec 32 := 32#32
  let v3575 : BitVec 32 := Scalar.remsi v3574 c32_i32_3318
  let v3576 : Index := Scalar.indexCast v3575
  ![v3576.toNat]
def k0_off540 (v3577 : BitVec 32) : Fin 2 → Nat :=
  let c1024_i32_3319 : BitVec 32 := 1024#32
  let v3578 : BitVec 32 := Scalar.muli v3577 c1024_i32_3319
  let c768_i32_3320 : BitVec 32 := 768#32
  let v3579 : BitVec 32 := Scalar.addi v3578 c768_i32_3320
  let c0_i32_3326 : BitVec 32 := 0#32
  ![v3579.toNat, 0]

def k0_chk271 (v3577 : BitVec 32) : Prop :=
  (∀ a, (k0_off540 v3577) a + S256x512.size a ≤ S32768x512.size a) ∧
  (∀ (hinb : ∀ a, (k0_off540 v3577) a + S256x512.size a ≤ S32768x512.size a), (Rect.unit (s := S32768x512) (k0_off540 v3577) S256x512.size hinb).WholeWords (EltTy.packing .bf16))
theorem k0_off540_inb : ∀ (v3577 : BitVec 32) (k0_hw271 : k0_chk271 v3577), ∀ a, (k0_off540 v3577) a + S256x512.size a ≤ S32768x512.size a := fun v3577 k0_hw271 => k0_hw271.1
theorem k0_off540_wordsbf16 : ∀ (v3577 : BitVec 32) (k0_hw271 : k0_chk271 v3577), (Rect.unit (s := S32768x512) (k0_off540 v3577) S256x512.size (k0_off540_inb v3577 k0_hw271)).WholeWords (EltTy.packing .bf16) := fun v3577 k0_hw271 => k0_hw271.2 (k0_off540_inb v3577 k0_hw271)

def k0_off541 (v4 : BitVec 32) : Fin 1 → Nat :=
  let c2_i32_3328 : BitVec 32 := 2#32
  let v3584 : BitVec 32 := Scalar.addi v4 c2_i32_3328
  let c32_i32_3329 : BitVec 32 := 32#32
  let v3585 : BitVec 32 := Scalar.remsi v3584 c32_i32_3329
  let v3586 : Index := Scalar.indexCast v3585
  ![v3586.toNat]
def k0_off542 (v3587 : BitVec 32) : Fin 2 → Nat :=
  let c1024_i32_3330 : BitVec 32 := 1024#32
  let v3588 : BitVec 32 := Scalar.muli v3587 c1024_i32_3330
  let c0_i32_3331 : BitVec 32 := 0#32
  let v3589 : BitVec 32 := Scalar.addi v3588 c0_i32_3331
  let c0_i32_3337 : BitVec 32 := 0#32
  ![v3589.toNat, 0]

def k0_chk272 (v3587 : BitVec 32) : Prop :=
  (∀ a, (k0_off542 v3587) a + S256x512.size a ≤ S32768x512.size a) ∧
  (∀ (hinb : ∀ a, (k0_off542 v3587) a + S256x512.size a ≤ S32768x512.size a), (Rect.unit (s := S32768x512) (k0_off542 v3587) S256x512.size hinb).WholeWords (EltTy.packing .bf16))
theorem k0_off542_inb : ∀ (v3587 : BitVec 32) (k0_hw272 : k0_chk272 v3587), ∀ a, (k0_off542 v3587) a + S256x512.size a ≤ S32768x512.size a := fun v3587 k0_hw272 => k0_hw272.1
theorem k0_off542_wordsbf16 : ∀ (v3587 : BitVec 32) (k0_hw272 : k0_chk272 v3587), (Rect.unit (s := S32768x512) (k0_off542 v3587) S256x512.size (k0_off542_inb v3587 k0_hw272)).WholeWords (EltTy.packing .bf16) := fun v3587 k0_hw272 => k0_hw272.2 (k0_off542_inb v3587 k0_hw272)

def k0_off543 (v4 : BitVec 32) : Fin 1 → Nat :=
  let c2_i32_3339 : BitVec 32 := 2#32
  let v3594 : BitVec 32 := Scalar.addi v4 c2_i32_3339
  let c32_i32_3340 : BitVec 32 := 32#32
  let v3595 : BitVec 32 := Scalar.remsi v3594 c32_i32_3340
  let v3596 : Index := Scalar.indexCast v3595
  ![v3596.toNat]
def k0_off544 (v3597 : BitVec 32) : Fin 2 → Nat :=
  let c1024_i32_3341 : BitVec 32 := 1024#32
  let v3598 : BitVec 32 := Scalar.muli v3597 c1024_i32_3341
  let c256_i32_3342 : BitVec 32 := 256#32
  let v3599 : BitVec 32 := Scalar.addi v3598 c256_i32_3342
  let c0_i32_3348 : BitVec 32 := 0#32
  ![v3599.toNat, 0]

def k0_chk273 (v3597 : BitVec 32) : Prop :=
  (∀ a, (k0_off544 v3597) a + S256x512.size a ≤ S32768x512.size a) ∧
  (∀ (hinb : ∀ a, (k0_off544 v3597) a + S256x512.size a ≤ S32768x512.size a), (Rect.unit (s := S32768x512) (k0_off544 v3597) S256x512.size hinb).WholeWords (EltTy.packing .bf16))
theorem k0_off544_inb : ∀ (v3597 : BitVec 32) (k0_hw273 : k0_chk273 v3597), ∀ a, (k0_off544 v3597) a + S256x512.size a ≤ S32768x512.size a := fun v3597 k0_hw273 => k0_hw273.1
theorem k0_off544_wordsbf16 : ∀ (v3597 : BitVec 32) (k0_hw273 : k0_chk273 v3597), (Rect.unit (s := S32768x512) (k0_off544 v3597) S256x512.size (k0_off544_inb v3597 k0_hw273)).WholeWords (EltTy.packing .bf16) := fun v3597 k0_hw273 => k0_hw273.2 (k0_off544_inb v3597 k0_hw273)

def k0_off545 (v4 : BitVec 32) : Fin 1 → Nat :=
  let c2_i32_3350 : BitVec 32 := 2#32
  let v3604 : BitVec 32 := Scalar.addi v4 c2_i32_3350
  let c32_i32_3351 : BitVec 32 := 32#32
  let v3605 : BitVec 32 := Scalar.remsi v3604 c32_i32_3351
  let v3606 : Index := Scalar.indexCast v3605
  ![v3606.toNat]
def k0_off546 (v3607 : BitVec 32) : Fin 2 → Nat :=
  let c1024_i32_3352 : BitVec 32 := 1024#32
  let v3608 : BitVec 32 := Scalar.muli v3607 c1024_i32_3352
  let c512_i32_3353 : BitVec 32 := 512#32
  let v3609 : BitVec 32 := Scalar.addi v3608 c512_i32_3353
  let c0_i32_3359 : BitVec 32 := 0#32
  ![v3609.toNat, 0]

def k0_chk274 (v3607 : BitVec 32) : Prop :=
  (∀ a, (k0_off546 v3607) a + S256x512.size a ≤ S32768x512.size a) ∧
  (∀ (hinb : ∀ a, (k0_off546 v3607) a + S256x512.size a ≤ S32768x512.size a), (Rect.unit (s := S32768x512) (k0_off546 v3607) S256x512.size hinb).WholeWords (EltTy.packing .bf16))
theorem k0_off546_inb : ∀ (v3607 : BitVec 32) (k0_hw274 : k0_chk274 v3607), ∀ a, (k0_off546 v3607) a + S256x512.size a ≤ S32768x512.size a := fun v3607 k0_hw274 => k0_hw274.1
theorem k0_off546_wordsbf16 : ∀ (v3607 : BitVec 32) (k0_hw274 : k0_chk274 v3607), (Rect.unit (s := S32768x512) (k0_off546 v3607) S256x512.size (k0_off546_inb v3607 k0_hw274)).WholeWords (EltTy.packing .bf16) := fun v3607 k0_hw274 => k0_hw274.2 (k0_off546_inb v3607 k0_hw274)

def k0_off547 (v4 : BitVec 32) : Fin 1 → Nat :=
  let c2_i32_3361 : BitVec 32 := 2#32
  let v3614 : BitVec 32 := Scalar.addi v4 c2_i32_3361
  let c32_i32_3362 : BitVec 32 := 32#32
  let v3615 : BitVec 32 := Scalar.remsi v3614 c32_i32_3362
  let v3616 : Index := Scalar.indexCast v3615
  ![v3616.toNat]
def k0_off548 (v3617 : BitVec 32) : Fin 2 → Nat :=
  let c1024_i32_3363 : BitVec 32 := 1024#32
  let v3618 : BitVec 32 := Scalar.muli v3617 c1024_i32_3363
  let c768_i32_3364 : BitVec 32 := 768#32
  let v3619 : BitVec 32 := Scalar.addi v3618 c768_i32_3364
  let c0_i32_3370 : BitVec 32 := 0#32
  ![v3619.toNat, 0]

def k0_chk275 (v3617 : BitVec 32) : Prop :=
  (∀ a, (k0_off548 v3617) a + S256x512.size a ≤ S32768x512.size a) ∧
  (∀ (hinb : ∀ a, (k0_off548 v3617) a + S256x512.size a ≤ S32768x512.size a), (Rect.unit (s := S32768x512) (k0_off548 v3617) S256x512.size hinb).WholeWords (EltTy.packing .bf16))
theorem k0_off548_inb : ∀ (v3617 : BitVec 32) (k0_hw275 : k0_chk275 v3617), ∀ a, (k0_off548 v3617) a + S256x512.size a ≤ S32768x512.size a := fun v3617 k0_hw275 => k0_hw275.1
theorem k0_off548_wordsbf16 : ∀ (v3617 : BitVec 32) (k0_hw275 : k0_chk275 v3617), (Rect.unit (s := S32768x512) (k0_off548 v3617) S256x512.size (k0_off548_inb v3617 k0_hw275)).WholeWords (EltTy.packing .bf16) := fun v3617 k0_hw275 => k0_hw275.2 (k0_off548_inb v3617 k0_hw275)

def k0_off549 (v4 : BitVec 32) : Fin 1 → Nat :=
  let c3_i32_3372 : BitVec 32 := 3#32
  let v3624 : BitVec 32 := Scalar.subi v4 c3_i32_3372
  let c32_i32_3373 : BitVec 32 := 32#32
  let v3625 : BitVec 32 := Scalar.addi v3624 c32_i32_3373
  let c32_i32_3374 : BitVec 32 := 32#32
  let v3626 : BitVec 32 := Scalar.remsi v3625 c32_i32_3374
  let v3627 : Index := Scalar.indexCast v3626
  ![v3627.toNat]
def k0_off550 (v3628 : BitVec 32) : Fin 2 → Nat :=
  let c1024_i32_3375 : BitVec 32 := 1024#32
  let v3629 : BitVec 32 := Scalar.muli v3628 c1024_i32_3375
  let c0_i32_3376 : BitVec 32 := 0#32
  let v3630 : BitVec 32 := Scalar.addi v3629 c0_i32_3376
  let c0_i32_3382 : BitVec 32 := 0#32
  ![v3630.toNat, 0]

def k0_chk276 (v3628 : BitVec 32) : Prop :=
  (∀ a, (k0_off550 v3628) a + S256x512.size a ≤ S32768x512.size a) ∧
  (∀ (hinb : ∀ a, (k0_off550 v3628) a + S256x512.size a ≤ S32768x512.size a), (Rect.unit (s := S32768x512) (k0_off550 v3628) S256x512.size hinb).WholeWords (EltTy.packing .bf16))
theorem k0_off550_inb : ∀ (v3628 : BitVec 32) (k0_hw276 : k0_chk276 v3628), ∀ a, (k0_off550 v3628) a + S256x512.size a ≤ S32768x512.size a := fun v3628 k0_hw276 => k0_hw276.1
theorem k0_off550_wordsbf16 : ∀ (v3628 : BitVec 32) (k0_hw276 : k0_chk276 v3628), (Rect.unit (s := S32768x512) (k0_off550 v3628) S256x512.size (k0_off550_inb v3628 k0_hw276)).WholeWords (EltTy.packing .bf16) := fun v3628 k0_hw276 => k0_hw276.2 (k0_off550_inb v3628 k0_hw276)

def k0_off551 (v4 : BitVec 32) : Fin 1 → Nat :=
  let c3_i32_3384 : BitVec 32 := 3#32
  let v3635 : BitVec 32 := Scalar.subi v4 c3_i32_3384
  let c32_i32_3385 : BitVec 32 := 32#32
  let v3636 : BitVec 32 := Scalar.addi v3635 c32_i32_3385
  let c32_i32_3386 : BitVec 32 := 32#32
  let v3637 : BitVec 32 := Scalar.remsi v3636 c32_i32_3386
  let v3638 : Index := Scalar.indexCast v3637
  ![v3638.toNat]
def k0_off552 (v3639 : BitVec 32) : Fin 2 → Nat :=
  let c1024_i32_3387 : BitVec 32 := 1024#32
  let v3640 : BitVec 32 := Scalar.muli v3639 c1024_i32_3387
  let c256_i32_3388 : BitVec 32 := 256#32
  let v3641 : BitVec 32 := Scalar.addi v3640 c256_i32_3388
  let c0_i32_3394 : BitVec 32 := 0#32
  ![v3641.toNat, 0]

def k0_chk277 (v3639 : BitVec 32) : Prop :=
  (∀ a, (k0_off552 v3639) a + S256x512.size a ≤ S32768x512.size a) ∧
  (∀ (hinb : ∀ a, (k0_off552 v3639) a + S256x512.size a ≤ S32768x512.size a), (Rect.unit (s := S32768x512) (k0_off552 v3639) S256x512.size hinb).WholeWords (EltTy.packing .bf16))
theorem k0_off552_inb : ∀ (v3639 : BitVec 32) (k0_hw277 : k0_chk277 v3639), ∀ a, (k0_off552 v3639) a + S256x512.size a ≤ S32768x512.size a := fun v3639 k0_hw277 => k0_hw277.1
theorem k0_off552_wordsbf16 : ∀ (v3639 : BitVec 32) (k0_hw277 : k0_chk277 v3639), (Rect.unit (s := S32768x512) (k0_off552 v3639) S256x512.size (k0_off552_inb v3639 k0_hw277)).WholeWords (EltTy.packing .bf16) := fun v3639 k0_hw277 => k0_hw277.2 (k0_off552_inb v3639 k0_hw277)

def k0_off553 (v4 : BitVec 32) : Fin 1 → Nat :=
  let c3_i32_3396 : BitVec 32 := 3#32
  let v3646 : BitVec 32 := Scalar.subi v4 c3_i32_3396
  let c32_i32_3397 : BitVec 32 := 32#32
  let v3647 : BitVec 32 := Scalar.addi v3646 c32_i32_3397
  let c32_i32_3398 : BitVec 32 := 32#32
  let v3648 : BitVec 32 := Scalar.remsi v3647 c32_i32_3398
  let v3649 : Index := Scalar.indexCast v3648
  ![v3649.toNat]
def k0_off554 (v3650 : BitVec 32) : Fin 2 → Nat :=
  let c1024_i32_3399 : BitVec 32 := 1024#32
  let v3651 : BitVec 32 := Scalar.muli v3650 c1024_i32_3399
  let c512_i32_3400 : BitVec 32 := 512#32
  let v3652 : BitVec 32 := Scalar.addi v3651 c512_i32_3400
  let c0_i32_3406 : BitVec 32 := 0#32
  ![v3652.toNat, 0]

def k0_chk278 (v3650 : BitVec 32) : Prop :=
  (∀ a, (k0_off554 v3650) a + S256x512.size a ≤ S32768x512.size a) ∧
  (∀ (hinb : ∀ a, (k0_off554 v3650) a + S256x512.size a ≤ S32768x512.size a), (Rect.unit (s := S32768x512) (k0_off554 v3650) S256x512.size hinb).WholeWords (EltTy.packing .bf16))
theorem k0_off554_inb : ∀ (v3650 : BitVec 32) (k0_hw278 : k0_chk278 v3650), ∀ a, (k0_off554 v3650) a + S256x512.size a ≤ S32768x512.size a := fun v3650 k0_hw278 => k0_hw278.1
theorem k0_off554_wordsbf16 : ∀ (v3650 : BitVec 32) (k0_hw278 : k0_chk278 v3650), (Rect.unit (s := S32768x512) (k0_off554 v3650) S256x512.size (k0_off554_inb v3650 k0_hw278)).WholeWords (EltTy.packing .bf16) := fun v3650 k0_hw278 => k0_hw278.2 (k0_off554_inb v3650 k0_hw278)

def k0_off555 (v4 : BitVec 32) : Fin 1 → Nat :=
  let c3_i32_3408 : BitVec 32 := 3#32
  let v3657 : BitVec 32 := Scalar.subi v4 c3_i32_3408
  let c32_i32_3409 : BitVec 32 := 32#32
  let v3658 : BitVec 32 := Scalar.addi v3657 c32_i32_3409
  let c32_i32_3410 : BitVec 32 := 32#32
  let v3659 : BitVec 32 := Scalar.remsi v3658 c32_i32_3410
  let v3660 : Index := Scalar.indexCast v3659
  ![v3660.toNat]
def k0_off556 (v3661 : BitVec 32) : Fin 2 → Nat :=
  let c1024_i32_3411 : BitVec 32 := 1024#32
  let v3662 : BitVec 32 := Scalar.muli v3661 c1024_i32_3411
  let c768_i32_3412 : BitVec 32 := 768#32
  let v3663 : BitVec 32 := Scalar.addi v3662 c768_i32_3412
  let c0_i32_3418 : BitVec 32 := 0#32
  ![v3663.toNat, 0]

def k0_chk279 (v3661 : BitVec 32) : Prop :=
  (∀ a, (k0_off556 v3661) a + S256x512.size a ≤ S32768x512.size a) ∧
  (∀ (hinb : ∀ a, (k0_off556 v3661) a + S256x512.size a ≤ S32768x512.size a), (Rect.unit (s := S32768x512) (k0_off556 v3661) S256x512.size hinb).WholeWords (EltTy.packing .bf16))
theorem k0_off556_inb : ∀ (v3661 : BitVec 32) (k0_hw279 : k0_chk279 v3661), ∀ a, (k0_off556 v3661) a + S256x512.size a ≤ S32768x512.size a := fun v3661 k0_hw279 => k0_hw279.1
theorem k0_off556_wordsbf16 : ∀ (v3661 : BitVec 32) (k0_hw279 : k0_chk279 v3661), (Rect.unit (s := S32768x512) (k0_off556 v3661) S256x512.size (k0_off556_inb v3661 k0_hw279)).WholeWords (EltTy.packing .bf16) := fun v3661 k0_hw279 => k0_hw279.2 (k0_off556_inb v3661 k0_hw279)

def k0_off557 (v4 : BitVec 32) : Fin 1 → Nat :=
  let c3_i32_3420 : BitVec 32 := 3#32
  let v3668 : BitVec 32 := Scalar.addi v4 c3_i32_3420
  let c32_i32_3421 : BitVec 32 := 32#32
  let v3669 : BitVec 32 := Scalar.remsi v3668 c32_i32_3421
  let v3670 : Index := Scalar.indexCast v3669
  ![v3670.toNat]
def k0_off558 (v3671 : BitVec 32) : Fin 2 → Nat :=
  let c1024_i32_3422 : BitVec 32 := 1024#32
  let v3672 : BitVec 32 := Scalar.muli v3671 c1024_i32_3422
  let c0_i32_3423 : BitVec 32 := 0#32
  let v3673 : BitVec 32 := Scalar.addi v3672 c0_i32_3423
  let c0_i32_3429 : BitVec 32 := 0#32
  ![v3673.toNat, 0]

def k0_chk280 (v3671 : BitVec 32) : Prop :=
  (∀ a, (k0_off558 v3671) a + S256x512.size a ≤ S32768x512.size a) ∧
  (∀ (hinb : ∀ a, (k0_off558 v3671) a + S256x512.size a ≤ S32768x512.size a), (Rect.unit (s := S32768x512) (k0_off558 v3671) S256x512.size hinb).WholeWords (EltTy.packing .bf16))
theorem k0_off558_inb : ∀ (v3671 : BitVec 32) (k0_hw280 : k0_chk280 v3671), ∀ a, (k0_off558 v3671) a + S256x512.size a ≤ S32768x512.size a := fun v3671 k0_hw280 => k0_hw280.1
theorem k0_off558_wordsbf16 : ∀ (v3671 : BitVec 32) (k0_hw280 : k0_chk280 v3671), (Rect.unit (s := S32768x512) (k0_off558 v3671) S256x512.size (k0_off558_inb v3671 k0_hw280)).WholeWords (EltTy.packing .bf16) := fun v3671 k0_hw280 => k0_hw280.2 (k0_off558_inb v3671 k0_hw280)

def k0_off559 (v4 : BitVec 32) : Fin 1 → Nat :=
  let c3_i32_3431 : BitVec 32 := 3#32
  let v3678 : BitVec 32 := Scalar.addi v4 c3_i32_3431
  let c32_i32_3432 : BitVec 32 := 32#32
  let v3679 : BitVec 32 := Scalar.remsi v3678 c32_i32_3432
  let v3680 : Index := Scalar.indexCast v3679
  ![v3680.toNat]
def k0_off560 (v3681 : BitVec 32) : Fin 2 → Nat :=
  let c1024_i32_3433 : BitVec 32 := 1024#32
  let v3682 : BitVec 32 := Scalar.muli v3681 c1024_i32_3433
  let c256_i32_3434 : BitVec 32 := 256#32
  let v3683 : BitVec 32 := Scalar.addi v3682 c256_i32_3434
  let c0_i32_3440 : BitVec 32 := 0#32
  ![v3683.toNat, 0]

def k0_chk281 (v3681 : BitVec 32) : Prop :=
  (∀ a, (k0_off560 v3681) a + S256x512.size a ≤ S32768x512.size a) ∧
  (∀ (hinb : ∀ a, (k0_off560 v3681) a + S256x512.size a ≤ S32768x512.size a), (Rect.unit (s := S32768x512) (k0_off560 v3681) S256x512.size hinb).WholeWords (EltTy.packing .bf16))
theorem k0_off560_inb : ∀ (v3681 : BitVec 32) (k0_hw281 : k0_chk281 v3681), ∀ a, (k0_off560 v3681) a + S256x512.size a ≤ S32768x512.size a := fun v3681 k0_hw281 => k0_hw281.1
theorem k0_off560_wordsbf16 : ∀ (v3681 : BitVec 32) (k0_hw281 : k0_chk281 v3681), (Rect.unit (s := S32768x512) (k0_off560 v3681) S256x512.size (k0_off560_inb v3681 k0_hw281)).WholeWords (EltTy.packing .bf16) := fun v3681 k0_hw281 => k0_hw281.2 (k0_off560_inb v3681 k0_hw281)

def k0_off561 (v4 : BitVec 32) : Fin 1 → Nat :=
  let c3_i32_3442 : BitVec 32 := 3#32
  let v3688 : BitVec 32 := Scalar.addi v4 c3_i32_3442
  let c32_i32_3443 : BitVec 32 := 32#32
  let v3689 : BitVec 32 := Scalar.remsi v3688 c32_i32_3443
  let v3690 : Index := Scalar.indexCast v3689
  ![v3690.toNat]
def k0_off562 (v3691 : BitVec 32) : Fin 2 → Nat :=
  let c1024_i32_3444 : BitVec 32 := 1024#32
  let v3692 : BitVec 32 := Scalar.muli v3691 c1024_i32_3444
  let c512_i32_3445 : BitVec 32 := 512#32
  let v3693 : BitVec 32 := Scalar.addi v3692 c512_i32_3445
  let c0_i32_3451 : BitVec 32 := 0#32
  ![v3693.toNat, 0]

def k0_chk282 (v3691 : BitVec 32) : Prop :=
  (∀ a, (k0_off562 v3691) a + S256x512.size a ≤ S32768x512.size a) ∧
  (∀ (hinb : ∀ a, (k0_off562 v3691) a + S256x512.size a ≤ S32768x512.size a), (Rect.unit (s := S32768x512) (k0_off562 v3691) S256x512.size hinb).WholeWords (EltTy.packing .bf16))
theorem k0_off562_inb : ∀ (v3691 : BitVec 32) (k0_hw282 : k0_chk282 v3691), ∀ a, (k0_off562 v3691) a + S256x512.size a ≤ S32768x512.size a := fun v3691 k0_hw282 => k0_hw282.1
theorem k0_off562_wordsbf16 : ∀ (v3691 : BitVec 32) (k0_hw282 : k0_chk282 v3691), (Rect.unit (s := S32768x512) (k0_off562 v3691) S256x512.size (k0_off562_inb v3691 k0_hw282)).WholeWords (EltTy.packing .bf16) := fun v3691 k0_hw282 => k0_hw282.2 (k0_off562_inb v3691 k0_hw282)

def k0_off563 (v4 : BitVec 32) : Fin 1 → Nat :=
  let c3_i32_3453 : BitVec 32 := 3#32
  let v3698 : BitVec 32 := Scalar.addi v4 c3_i32_3453
  let c32_i32_3454 : BitVec 32 := 32#32
  let v3699 : BitVec 32 := Scalar.remsi v3698 c32_i32_3454
  let v3700 : Index := Scalar.indexCast v3699
  ![v3700.toNat]
def k0_off564 (v3701 : BitVec 32) : Fin 2 → Nat :=
  let c1024_i32_3455 : BitVec 32 := 1024#32
  let v3702 : BitVec 32 := Scalar.muli v3701 c1024_i32_3455
  let c768_i32_3456 : BitVec 32 := 768#32
  let v3703 : BitVec 32 := Scalar.addi v3702 c768_i32_3456
  let c0_i32_3462 : BitVec 32 := 0#32
  ![v3703.toNat, 0]

def k0_chk283 (v3701 : BitVec 32) : Prop :=
  (∀ a, (k0_off564 v3701) a + S256x512.size a ≤ S32768x512.size a) ∧
  (∀ (hinb : ∀ a, (k0_off564 v3701) a + S256x512.size a ≤ S32768x512.size a), (Rect.unit (s := S32768x512) (k0_off564 v3701) S256x512.size hinb).WholeWords (EltTy.packing .bf16))
theorem k0_off564_inb : ∀ (v3701 : BitVec 32) (k0_hw283 : k0_chk283 v3701), ∀ a, (k0_off564 v3701) a + S256x512.size a ≤ S32768x512.size a := fun v3701 k0_hw283 => k0_hw283.1
theorem k0_off564_wordsbf16 : ∀ (v3701 : BitVec 32) (k0_hw283 : k0_chk283 v3701), (Rect.unit (s := S32768x512) (k0_off564 v3701) S256x512.size (k0_off564_inb v3701 k0_hw283)).WholeWords (EltTy.packing .bf16) := fun v3701 k0_hw283 => k0_hw283.2 (k0_off564_inb v3701 k0_hw283)

def k0_off565 (v4 : BitVec 32) : Fin 1 → Nat :=
  let c4_i32_3464 : BitVec 32 := 4#32
  let v3708 : BitVec 32 := Scalar.subi v4 c4_i32_3464
  let c32_i32_3465 : BitVec 32 := 32#32
  let v3709 : BitVec 32 := Scalar.addi v3708 c32_i32_3465
  let c32_i32_3466 : BitVec 32 := 32#32
  let v3710 : BitVec 32 := Scalar.remsi v3709 c32_i32_3466
  let v3711 : Index := Scalar.indexCast v3710
  ![v3711.toNat]
def k0_off566 (v3712 : BitVec 32) : Fin 2 → Nat :=
  let c1024_i32_3467 : BitVec 32 := 1024#32
  let v3713 : BitVec 32 := Scalar.muli v3712 c1024_i32_3467
  let c0_i32_3468 : BitVec 32 := 0#32
  let v3714 : BitVec 32 := Scalar.addi v3713 c0_i32_3468
  let c0_i32_3474 : BitVec 32 := 0#32
  ![v3714.toNat, 0]

def k0_chk284 (v3712 : BitVec 32) : Prop :=
  (∀ a, (k0_off566 v3712) a + S256x512.size a ≤ S32768x512.size a) ∧
  (∀ (hinb : ∀ a, (k0_off566 v3712) a + S256x512.size a ≤ S32768x512.size a), (Rect.unit (s := S32768x512) (k0_off566 v3712) S256x512.size hinb).WholeWords (EltTy.packing .bf16))
theorem k0_off566_inb : ∀ (v3712 : BitVec 32) (k0_hw284 : k0_chk284 v3712), ∀ a, (k0_off566 v3712) a + S256x512.size a ≤ S32768x512.size a := fun v3712 k0_hw284 => k0_hw284.1
theorem k0_off566_wordsbf16 : ∀ (v3712 : BitVec 32) (k0_hw284 : k0_chk284 v3712), (Rect.unit (s := S32768x512) (k0_off566 v3712) S256x512.size (k0_off566_inb v3712 k0_hw284)).WholeWords (EltTy.packing .bf16) := fun v3712 k0_hw284 => k0_hw284.2 (k0_off566_inb v3712 k0_hw284)

def k0_off567 (v4 : BitVec 32) : Fin 1 → Nat :=
  let c4_i32_3476 : BitVec 32 := 4#32
  let v3719 : BitVec 32 := Scalar.subi v4 c4_i32_3476
  let c32_i32_3477 : BitVec 32 := 32#32
  let v3720 : BitVec 32 := Scalar.addi v3719 c32_i32_3477
  let c32_i32_3478 : BitVec 32 := 32#32
  let v3721 : BitVec 32 := Scalar.remsi v3720 c32_i32_3478
  let v3722 : Index := Scalar.indexCast v3721
  ![v3722.toNat]
def k0_off568 (v3723 : BitVec 32) : Fin 2 → Nat :=
  let c1024_i32_3479 : BitVec 32 := 1024#32
  let v3724 : BitVec 32 := Scalar.muli v3723 c1024_i32_3479
  let c256_i32_3480 : BitVec 32 := 256#32
  let v3725 : BitVec 32 := Scalar.addi v3724 c256_i32_3480
  let c0_i32_3486 : BitVec 32 := 0#32
  ![v3725.toNat, 0]

def k0_chk285 (v3723 : BitVec 32) : Prop :=
  (∀ a, (k0_off568 v3723) a + S256x512.size a ≤ S32768x512.size a) ∧
  (∀ (hinb : ∀ a, (k0_off568 v3723) a + S256x512.size a ≤ S32768x512.size a), (Rect.unit (s := S32768x512) (k0_off568 v3723) S256x512.size hinb).WholeWords (EltTy.packing .bf16))
theorem k0_off568_inb : ∀ (v3723 : BitVec 32) (k0_hw285 : k0_chk285 v3723), ∀ a, (k0_off568 v3723) a + S256x512.size a ≤ S32768x512.size a := fun v3723 k0_hw285 => k0_hw285.1
theorem k0_off568_wordsbf16 : ∀ (v3723 : BitVec 32) (k0_hw285 : k0_chk285 v3723), (Rect.unit (s := S32768x512) (k0_off568 v3723) S256x512.size (k0_off568_inb v3723 k0_hw285)).WholeWords (EltTy.packing .bf16) := fun v3723 k0_hw285 => k0_hw285.2 (k0_off568_inb v3723 k0_hw285)

def k0_off569 (v4 : BitVec 32) : Fin 1 → Nat :=
  let c4_i32_3488 : BitVec 32 := 4#32
  let v3730 : BitVec 32 := Scalar.subi v4 c4_i32_3488
  let c32_i32_3489 : BitVec 32 := 32#32
  let v3731 : BitVec 32 := Scalar.addi v3730 c32_i32_3489
  let c32_i32_3490 : BitVec 32 := 32#32
  let v3732 : BitVec 32 := Scalar.remsi v3731 c32_i32_3490
  let v3733 : Index := Scalar.indexCast v3732
  ![v3733.toNat]
def k0_off570 (v3734 : BitVec 32) : Fin 2 → Nat :=
  let c1024_i32_3491 : BitVec 32 := 1024#32
  let v3735 : BitVec 32 := Scalar.muli v3734 c1024_i32_3491
  let c512_i32_3492 : BitVec 32 := 512#32
  let v3736 : BitVec 32 := Scalar.addi v3735 c512_i32_3492
  let c0_i32_3498 : BitVec 32 := 0#32
  ![v3736.toNat, 0]

def k0_chk286 (v3734 : BitVec 32) : Prop :=
  (∀ a, (k0_off570 v3734) a + S256x512.size a ≤ S32768x512.size a) ∧
  (∀ (hinb : ∀ a, (k0_off570 v3734) a + S256x512.size a ≤ S32768x512.size a), (Rect.unit (s := S32768x512) (k0_off570 v3734) S256x512.size hinb).WholeWords (EltTy.packing .bf16))
theorem k0_off570_inb : ∀ (v3734 : BitVec 32) (k0_hw286 : k0_chk286 v3734), ∀ a, (k0_off570 v3734) a + S256x512.size a ≤ S32768x512.size a := fun v3734 k0_hw286 => k0_hw286.1
theorem k0_off570_wordsbf16 : ∀ (v3734 : BitVec 32) (k0_hw286 : k0_chk286 v3734), (Rect.unit (s := S32768x512) (k0_off570 v3734) S256x512.size (k0_off570_inb v3734 k0_hw286)).WholeWords (EltTy.packing .bf16) := fun v3734 k0_hw286 => k0_hw286.2 (k0_off570_inb v3734 k0_hw286)

def k0_off571 (v4 : BitVec 32) : Fin 1 → Nat :=
  let c4_i32_3500 : BitVec 32 := 4#32
  let v3741 : BitVec 32 := Scalar.subi v4 c4_i32_3500
  let c32_i32_3501 : BitVec 32 := 32#32
  let v3742 : BitVec 32 := Scalar.addi v3741 c32_i32_3501
  let c32_i32_3502 : BitVec 32 := 32#32
  let v3743 : BitVec 32 := Scalar.remsi v3742 c32_i32_3502
  let v3744 : Index := Scalar.indexCast v3743
  ![v3744.toNat]
def k0_off572 (v3745 : BitVec 32) : Fin 2 → Nat :=
  let c1024_i32_3503 : BitVec 32 := 1024#32
  let v3746 : BitVec 32 := Scalar.muli v3745 c1024_i32_3503
  let c768_i32_3504 : BitVec 32 := 768#32
  let v3747 : BitVec 32 := Scalar.addi v3746 c768_i32_3504
  let c0_i32_3510 : BitVec 32 := 0#32
  ![v3747.toNat, 0]

def k0_chk287 (v3745 : BitVec 32) : Prop :=
  (∀ a, (k0_off572 v3745) a + S256x512.size a ≤ S32768x512.size a) ∧
  (∀ (hinb : ∀ a, (k0_off572 v3745) a + S256x512.size a ≤ S32768x512.size a), (Rect.unit (s := S32768x512) (k0_off572 v3745) S256x512.size hinb).WholeWords (EltTy.packing .bf16))
theorem k0_off572_inb : ∀ (v3745 : BitVec 32) (k0_hw287 : k0_chk287 v3745), ∀ a, (k0_off572 v3745) a + S256x512.size a ≤ S32768x512.size a := fun v3745 k0_hw287 => k0_hw287.1
theorem k0_off572_wordsbf16 : ∀ (v3745 : BitVec 32) (k0_hw287 : k0_chk287 v3745), (Rect.unit (s := S32768x512) (k0_off572 v3745) S256x512.size (k0_off572_inb v3745 k0_hw287)).WholeWords (EltTy.packing .bf16) := fun v3745 k0_hw287 => k0_hw287.2 (k0_off572_inb v3745 k0_hw287)

def k0_off573 (v4 : BitVec 32) : Fin 1 → Nat :=
  let c4_i32_3512 : BitVec 32 := 4#32
  let v3752 : BitVec 32 := Scalar.addi v4 c4_i32_3512
  let c32_i32_3513 : BitVec 32 := 32#32
  let v3753 : BitVec 32 := Scalar.remsi v3752 c32_i32_3513
  let v3754 : Index := Scalar.indexCast v3753
  ![v3754.toNat]
def k0_off574 (v3755 : BitVec 32) : Fin 2 → Nat :=
  let c1024_i32_3514 : BitVec 32 := 1024#32
  let v3756 : BitVec 32 := Scalar.muli v3755 c1024_i32_3514
  let c0_i32_3515 : BitVec 32 := 0#32
  let v3757 : BitVec 32 := Scalar.addi v3756 c0_i32_3515
  let c0_i32_3521 : BitVec 32 := 0#32
  ![v3757.toNat, 0]

def k0_chk288 (v3755 : BitVec 32) : Prop :=
  (∀ a, (k0_off574 v3755) a + S256x512.size a ≤ S32768x512.size a) ∧
  (∀ (hinb : ∀ a, (k0_off574 v3755) a + S256x512.size a ≤ S32768x512.size a), (Rect.unit (s := S32768x512) (k0_off574 v3755) S256x512.size hinb).WholeWords (EltTy.packing .bf16))
theorem k0_off574_inb : ∀ (v3755 : BitVec 32) (k0_hw288 : k0_chk288 v3755), ∀ a, (k0_off574 v3755) a + S256x512.size a ≤ S32768x512.size a := fun v3755 k0_hw288 => k0_hw288.1
theorem k0_off574_wordsbf16 : ∀ (v3755 : BitVec 32) (k0_hw288 : k0_chk288 v3755), (Rect.unit (s := S32768x512) (k0_off574 v3755) S256x512.size (k0_off574_inb v3755 k0_hw288)).WholeWords (EltTy.packing .bf16) := fun v3755 k0_hw288 => k0_hw288.2 (k0_off574_inb v3755 k0_hw288)

def k0_off575 (v4 : BitVec 32) : Fin 1 → Nat :=
  let c4_i32_3523 : BitVec 32 := 4#32
  let v3762 : BitVec 32 := Scalar.addi v4 c4_i32_3523
  let c32_i32_3524 : BitVec 32 := 32#32
  let v3763 : BitVec 32 := Scalar.remsi v3762 c32_i32_3524
  let v3764 : Index := Scalar.indexCast v3763
  ![v3764.toNat]
def k0_off576 (v3765 : BitVec 32) : Fin 2 → Nat :=
  let c1024_i32_3525 : BitVec 32 := 1024#32
  let v3766 : BitVec 32 := Scalar.muli v3765 c1024_i32_3525
  let c256_i32_3526 : BitVec 32 := 256#32
  let v3767 : BitVec 32 := Scalar.addi v3766 c256_i32_3526
  let c0_i32_3532 : BitVec 32 := 0#32
  ![v3767.toNat, 0]

def k0_chk289 (v3765 : BitVec 32) : Prop :=
  (∀ a, (k0_off576 v3765) a + S256x512.size a ≤ S32768x512.size a) ∧
  (∀ (hinb : ∀ a, (k0_off576 v3765) a + S256x512.size a ≤ S32768x512.size a), (Rect.unit (s := S32768x512) (k0_off576 v3765) S256x512.size hinb).WholeWords (EltTy.packing .bf16))
theorem k0_off576_inb : ∀ (v3765 : BitVec 32) (k0_hw289 : k0_chk289 v3765), ∀ a, (k0_off576 v3765) a + S256x512.size a ≤ S32768x512.size a := fun v3765 k0_hw289 => k0_hw289.1
theorem k0_off576_wordsbf16 : ∀ (v3765 : BitVec 32) (k0_hw289 : k0_chk289 v3765), (Rect.unit (s := S32768x512) (k0_off576 v3765) S256x512.size (k0_off576_inb v3765 k0_hw289)).WholeWords (EltTy.packing .bf16) := fun v3765 k0_hw289 => k0_hw289.2 (k0_off576_inb v3765 k0_hw289)

def k0_off577 (v4 : BitVec 32) : Fin 1 → Nat :=
  let c4_i32_3534 : BitVec 32 := 4#32
  let v3772 : BitVec 32 := Scalar.addi v4 c4_i32_3534
  let c32_i32_3535 : BitVec 32 := 32#32
  let v3773 : BitVec 32 := Scalar.remsi v3772 c32_i32_3535
  let v3774 : Index := Scalar.indexCast v3773
  ![v3774.toNat]
def k0_off578 (v3775 : BitVec 32) : Fin 2 → Nat :=
  let c1024_i32_3536 : BitVec 32 := 1024#32
  let v3776 : BitVec 32 := Scalar.muli v3775 c1024_i32_3536
  let c512_i32_3537 : BitVec 32 := 512#32
  let v3777 : BitVec 32 := Scalar.addi v3776 c512_i32_3537
  let c0_i32_3543 : BitVec 32 := 0#32
  ![v3777.toNat, 0]

def k0_chk290 (v3775 : BitVec 32) : Prop :=
  (∀ a, (k0_off578 v3775) a + S256x512.size a ≤ S32768x512.size a) ∧
  (∀ (hinb : ∀ a, (k0_off578 v3775) a + S256x512.size a ≤ S32768x512.size a), (Rect.unit (s := S32768x512) (k0_off578 v3775) S256x512.size hinb).WholeWords (EltTy.packing .bf16))
theorem k0_off578_inb : ∀ (v3775 : BitVec 32) (k0_hw290 : k0_chk290 v3775), ∀ a, (k0_off578 v3775) a + S256x512.size a ≤ S32768x512.size a := fun v3775 k0_hw290 => k0_hw290.1
theorem k0_off578_wordsbf16 : ∀ (v3775 : BitVec 32) (k0_hw290 : k0_chk290 v3775), (Rect.unit (s := S32768x512) (k0_off578 v3775) S256x512.size (k0_off578_inb v3775 k0_hw290)).WholeWords (EltTy.packing .bf16) := fun v3775 k0_hw290 => k0_hw290.2 (k0_off578_inb v3775 k0_hw290)

def k0_off579 (v4 : BitVec 32) : Fin 1 → Nat :=
  let c4_i32_3545 : BitVec 32 := 4#32
  let v3782 : BitVec 32 := Scalar.addi v4 c4_i32_3545
  let c32_i32_3546 : BitVec 32 := 32#32
  let v3783 : BitVec 32 := Scalar.remsi v3782 c32_i32_3546
  let v3784 : Index := Scalar.indexCast v3783
  ![v3784.toNat]
def k0_off580 (v3785 : BitVec 32) : Fin 2 → Nat :=
  let c1024_i32_3547 : BitVec 32 := 1024#32
  let v3786 : BitVec 32 := Scalar.muli v3785 c1024_i32_3547
  let c768_i32_3548 : BitVec 32 := 768#32
  let v3787 : BitVec 32 := Scalar.addi v3786 c768_i32_3548
  let c0_i32_3554 : BitVec 32 := 0#32
  ![v3787.toNat, 0]

def k0_chk291 (v3785 : BitVec 32) : Prop :=
  (∀ a, (k0_off580 v3785) a + S256x512.size a ≤ S32768x512.size a) ∧
  (∀ (hinb : ∀ a, (k0_off580 v3785) a + S256x512.size a ≤ S32768x512.size a), (Rect.unit (s := S32768x512) (k0_off580 v3785) S256x512.size hinb).WholeWords (EltTy.packing .bf16))
theorem k0_off580_inb : ∀ (v3785 : BitVec 32) (k0_hw291 : k0_chk291 v3785), ∀ a, (k0_off580 v3785) a + S256x512.size a ≤ S32768x512.size a := fun v3785 k0_hw291 => k0_hw291.1
theorem k0_off580_wordsbf16 : ∀ (v3785 : BitVec 32) (k0_hw291 : k0_chk291 v3785), (Rect.unit (s := S32768x512) (k0_off580 v3785) S256x512.size (k0_off580_inb v3785 k0_hw291)).WholeWords (EltTy.packing .bf16) := fun v3785 k0_hw291 => k0_hw291.2 (k0_off580_inb v3785 k0_hw291)

def k0_off581 (v4 : BitVec 32) : Fin 1 → Nat :=
  let c5_i32_3556 : BitVec 32 := 5#32
  let v3792 : BitVec 32 := Scalar.subi v4 c5_i32_3556
  let c32_i32_3557 : BitVec 32 := 32#32
  let v3793 : BitVec 32 := Scalar.addi v3792 c32_i32_3557
  let c32_i32_3558 : BitVec 32 := 32#32
  let v3794 : BitVec 32 := Scalar.remsi v3793 c32_i32_3558
  let v3795 : Index := Scalar.indexCast v3794
  ![v3795.toNat]
def k0_off582 (v3796 : BitVec 32) : Fin 2 → Nat :=
  let c1024_i32_3559 : BitVec 32 := 1024#32
  let v3797 : BitVec 32 := Scalar.muli v3796 c1024_i32_3559
  let c0_i32_3560 : BitVec 32 := 0#32
  let v3798 : BitVec 32 := Scalar.addi v3797 c0_i32_3560
  let c0_i32_3566 : BitVec 32 := 0#32
  ![v3798.toNat, 0]

def k0_chk292 (v3796 : BitVec 32) : Prop :=
  (∀ a, (k0_off582 v3796) a + S256x512.size a ≤ S32768x512.size a) ∧
  (∀ (hinb : ∀ a, (k0_off582 v3796) a + S256x512.size a ≤ S32768x512.size a), (Rect.unit (s := S32768x512) (k0_off582 v3796) S256x512.size hinb).WholeWords (EltTy.packing .bf16))
theorem k0_off582_inb : ∀ (v3796 : BitVec 32) (k0_hw292 : k0_chk292 v3796), ∀ a, (k0_off582 v3796) a + S256x512.size a ≤ S32768x512.size a := fun v3796 k0_hw292 => k0_hw292.1
theorem k0_off582_wordsbf16 : ∀ (v3796 : BitVec 32) (k0_hw292 : k0_chk292 v3796), (Rect.unit (s := S32768x512) (k0_off582 v3796) S256x512.size (k0_off582_inb v3796 k0_hw292)).WholeWords (EltTy.packing .bf16) := fun v3796 k0_hw292 => k0_hw292.2 (k0_off582_inb v3796 k0_hw292)

def k0_off583 (v4 : BitVec 32) : Fin 1 → Nat :=
  let c5_i32_3568 : BitVec 32 := 5#32
  let v3803 : BitVec 32 := Scalar.subi v4 c5_i32_3568
  let c32_i32_3569 : BitVec 32 := 32#32
  let v3804 : BitVec 32 := Scalar.addi v3803 c32_i32_3569
  let c32_i32_3570 : BitVec 32 := 32#32
  let v3805 : BitVec 32 := Scalar.remsi v3804 c32_i32_3570
  let v3806 : Index := Scalar.indexCast v3805
  ![v3806.toNat]
def k0_off584 (v3807 : BitVec 32) : Fin 2 → Nat :=
  let c1024_i32_3571 : BitVec 32 := 1024#32
  let v3808 : BitVec 32 := Scalar.muli v3807 c1024_i32_3571
  let c256_i32_3572 : BitVec 32 := 256#32
  let v3809 : BitVec 32 := Scalar.addi v3808 c256_i32_3572
  let c0_i32_3578 : BitVec 32 := 0#32
  ![v3809.toNat, 0]

def k0_chk293 (v3807 : BitVec 32) : Prop :=
  (∀ a, (k0_off584 v3807) a + S256x512.size a ≤ S32768x512.size a) ∧
  (∀ (hinb : ∀ a, (k0_off584 v3807) a + S256x512.size a ≤ S32768x512.size a), (Rect.unit (s := S32768x512) (k0_off584 v3807) S256x512.size hinb).WholeWords (EltTy.packing .bf16))
theorem k0_off584_inb : ∀ (v3807 : BitVec 32) (k0_hw293 : k0_chk293 v3807), ∀ a, (k0_off584 v3807) a + S256x512.size a ≤ S32768x512.size a := fun v3807 k0_hw293 => k0_hw293.1
theorem k0_off584_wordsbf16 : ∀ (v3807 : BitVec 32) (k0_hw293 : k0_chk293 v3807), (Rect.unit (s := S32768x512) (k0_off584 v3807) S256x512.size (k0_off584_inb v3807 k0_hw293)).WholeWords (EltTy.packing .bf16) := fun v3807 k0_hw293 => k0_hw293.2 (k0_off584_inb v3807 k0_hw293)

def k0_off585 (v4 : BitVec 32) : Fin 1 → Nat :=
  let c5_i32_3580 : BitVec 32 := 5#32
  let v3814 : BitVec 32 := Scalar.subi v4 c5_i32_3580
  let c32_i32_3581 : BitVec 32 := 32#32
  let v3815 : BitVec 32 := Scalar.addi v3814 c32_i32_3581
  let c32_i32_3582 : BitVec 32 := 32#32
  let v3816 : BitVec 32 := Scalar.remsi v3815 c32_i32_3582
  let v3817 : Index := Scalar.indexCast v3816
  ![v3817.toNat]
def k0_off586 (v3818 : BitVec 32) : Fin 2 → Nat :=
  let c1024_i32_3583 : BitVec 32 := 1024#32
  let v3819 : BitVec 32 := Scalar.muli v3818 c1024_i32_3583
  let c512_i32_3584 : BitVec 32 := 512#32
  let v3820 : BitVec 32 := Scalar.addi v3819 c512_i32_3584
  let c0_i32_3590 : BitVec 32 := 0#32
  ![v3820.toNat, 0]

def k0_chk294 (v3818 : BitVec 32) : Prop :=
  (∀ a, (k0_off586 v3818) a + S256x512.size a ≤ S32768x512.size a) ∧
  (∀ (hinb : ∀ a, (k0_off586 v3818) a + S256x512.size a ≤ S32768x512.size a), (Rect.unit (s := S32768x512) (k0_off586 v3818) S256x512.size hinb).WholeWords (EltTy.packing .bf16))
theorem k0_off586_inb : ∀ (v3818 : BitVec 32) (k0_hw294 : k0_chk294 v3818), ∀ a, (k0_off586 v3818) a + S256x512.size a ≤ S32768x512.size a := fun v3818 k0_hw294 => k0_hw294.1
theorem k0_off586_wordsbf16 : ∀ (v3818 : BitVec 32) (k0_hw294 : k0_chk294 v3818), (Rect.unit (s := S32768x512) (k0_off586 v3818) S256x512.size (k0_off586_inb v3818 k0_hw294)).WholeWords (EltTy.packing .bf16) := fun v3818 k0_hw294 => k0_hw294.2 (k0_off586_inb v3818 k0_hw294)

def k0_off587 (v4 : BitVec 32) : Fin 1 → Nat :=
  let c5_i32_3592 : BitVec 32 := 5#32
  let v3825 : BitVec 32 := Scalar.subi v4 c5_i32_3592
  let c32_i32_3593 : BitVec 32 := 32#32
  let v3826 : BitVec 32 := Scalar.addi v3825 c32_i32_3593
  let c32_i32_3594 : BitVec 32 := 32#32
  let v3827 : BitVec 32 := Scalar.remsi v3826 c32_i32_3594
  let v3828 : Index := Scalar.indexCast v3827
  ![v3828.toNat]
def k0_off588 (v3829 : BitVec 32) : Fin 2 → Nat :=
  let c1024_i32_3595 : BitVec 32 := 1024#32
  let v3830 : BitVec 32 := Scalar.muli v3829 c1024_i32_3595
  let c768_i32_3596 : BitVec 32 := 768#32
  let v3831 : BitVec 32 := Scalar.addi v3830 c768_i32_3596
  let c0_i32_3602 : BitVec 32 := 0#32
  ![v3831.toNat, 0]

def k0_chk295 (v3829 : BitVec 32) : Prop :=
  (∀ a, (k0_off588 v3829) a + S256x512.size a ≤ S32768x512.size a) ∧
  (∀ (hinb : ∀ a, (k0_off588 v3829) a + S256x512.size a ≤ S32768x512.size a), (Rect.unit (s := S32768x512) (k0_off588 v3829) S256x512.size hinb).WholeWords (EltTy.packing .bf16))
theorem k0_off588_inb : ∀ (v3829 : BitVec 32) (k0_hw295 : k0_chk295 v3829), ∀ a, (k0_off588 v3829) a + S256x512.size a ≤ S32768x512.size a := fun v3829 k0_hw295 => k0_hw295.1
theorem k0_off588_wordsbf16 : ∀ (v3829 : BitVec 32) (k0_hw295 : k0_chk295 v3829), (Rect.unit (s := S32768x512) (k0_off588 v3829) S256x512.size (k0_off588_inb v3829 k0_hw295)).WholeWords (EltTy.packing .bf16) := fun v3829 k0_hw295 => k0_hw295.2 (k0_off588_inb v3829 k0_hw295)

def k0_off589 (v4 : BitVec 32) : Fin 1 → Nat :=
  let c5_i32_3604 : BitVec 32 := 5#32
  let v3836 : BitVec 32 := Scalar.addi v4 c5_i32_3604
  let c32_i32_3605 : BitVec 32 := 32#32
  let v3837 : BitVec 32 := Scalar.remsi v3836 c32_i32_3605
  let v3838 : Index := Scalar.indexCast v3837
  ![v3838.toNat]
def k0_off590 (v3839 : BitVec 32) : Fin 2 → Nat :=
  let c1024_i32_3606 : BitVec 32 := 1024#32
  let v3840 : BitVec 32 := Scalar.muli v3839 c1024_i32_3606
  let c0_i32_3607 : BitVec 32 := 0#32
  let v3841 : BitVec 32 := Scalar.addi v3840 c0_i32_3607
  let c0_i32_3613 : BitVec 32 := 0#32
  ![v3841.toNat, 0]

def k0_chk296 (v3839 : BitVec 32) : Prop :=
  (∀ a, (k0_off590 v3839) a + S256x512.size a ≤ S32768x512.size a) ∧
  (∀ (hinb : ∀ a, (k0_off590 v3839) a + S256x512.size a ≤ S32768x512.size a), (Rect.unit (s := S32768x512) (k0_off590 v3839) S256x512.size hinb).WholeWords (EltTy.packing .bf16))
theorem k0_off590_inb : ∀ (v3839 : BitVec 32) (k0_hw296 : k0_chk296 v3839), ∀ a, (k0_off590 v3839) a + S256x512.size a ≤ S32768x512.size a := fun v3839 k0_hw296 => k0_hw296.1
theorem k0_off590_wordsbf16 : ∀ (v3839 : BitVec 32) (k0_hw296 : k0_chk296 v3839), (Rect.unit (s := S32768x512) (k0_off590 v3839) S256x512.size (k0_off590_inb v3839 k0_hw296)).WholeWords (EltTy.packing .bf16) := fun v3839 k0_hw296 => k0_hw296.2 (k0_off590_inb v3839 k0_hw296)

def k0_off591 (v4 : BitVec 32) : Fin 1 → Nat :=
  let c5_i32_3615 : BitVec 32 := 5#32
  let v3846 : BitVec 32 := Scalar.addi v4 c5_i32_3615
  let c32_i32_3616 : BitVec 32 := 32#32
  let v3847 : BitVec 32 := Scalar.remsi v3846 c32_i32_3616
  let v3848 : Index := Scalar.indexCast v3847
  ![v3848.toNat]
def k0_off592 (v3849 : BitVec 32) : Fin 2 → Nat :=
  let c1024_i32_3617 : BitVec 32 := 1024#32
  let v3850 : BitVec 32 := Scalar.muli v3849 c1024_i32_3617
  let c256_i32_3618 : BitVec 32 := 256#32
  let v3851 : BitVec 32 := Scalar.addi v3850 c256_i32_3618
  let c0_i32_3624 : BitVec 32 := 0#32
  ![v3851.toNat, 0]

def k0_chk297 (v3849 : BitVec 32) : Prop :=
  (∀ a, (k0_off592 v3849) a + S256x512.size a ≤ S32768x512.size a) ∧
  (∀ (hinb : ∀ a, (k0_off592 v3849) a + S256x512.size a ≤ S32768x512.size a), (Rect.unit (s := S32768x512) (k0_off592 v3849) S256x512.size hinb).WholeWords (EltTy.packing .bf16))
theorem k0_off592_inb : ∀ (v3849 : BitVec 32) (k0_hw297 : k0_chk297 v3849), ∀ a, (k0_off592 v3849) a + S256x512.size a ≤ S32768x512.size a := fun v3849 k0_hw297 => k0_hw297.1
theorem k0_off592_wordsbf16 : ∀ (v3849 : BitVec 32) (k0_hw297 : k0_chk297 v3849), (Rect.unit (s := S32768x512) (k0_off592 v3849) S256x512.size (k0_off592_inb v3849 k0_hw297)).WholeWords (EltTy.packing .bf16) := fun v3849 k0_hw297 => k0_hw297.2 (k0_off592_inb v3849 k0_hw297)

def k0_off593 (v4 : BitVec 32) : Fin 1 → Nat :=
  let c5_i32_3626 : BitVec 32 := 5#32
  let v3856 : BitVec 32 := Scalar.addi v4 c5_i32_3626
  let c32_i32_3627 : BitVec 32 := 32#32
  let v3857 : BitVec 32 := Scalar.remsi v3856 c32_i32_3627
  let v3858 : Index := Scalar.indexCast v3857
  ![v3858.toNat]
def k0_off594 (v3859 : BitVec 32) : Fin 2 → Nat :=
  let c1024_i32_3628 : BitVec 32 := 1024#32
  let v3860 : BitVec 32 := Scalar.muli v3859 c1024_i32_3628
  let c512_i32_3629 : BitVec 32 := 512#32
  let v3861 : BitVec 32 := Scalar.addi v3860 c512_i32_3629
  let c0_i32_3635 : BitVec 32 := 0#32
  ![v3861.toNat, 0]

def k0_chk298 (v3859 : BitVec 32) : Prop :=
  (∀ a, (k0_off594 v3859) a + S256x512.size a ≤ S32768x512.size a) ∧
  (∀ (hinb : ∀ a, (k0_off594 v3859) a + S256x512.size a ≤ S32768x512.size a), (Rect.unit (s := S32768x512) (k0_off594 v3859) S256x512.size hinb).WholeWords (EltTy.packing .bf16))
theorem k0_off594_inb : ∀ (v3859 : BitVec 32) (k0_hw298 : k0_chk298 v3859), ∀ a, (k0_off594 v3859) a + S256x512.size a ≤ S32768x512.size a := fun v3859 k0_hw298 => k0_hw298.1
theorem k0_off594_wordsbf16 : ∀ (v3859 : BitVec 32) (k0_hw298 : k0_chk298 v3859), (Rect.unit (s := S32768x512) (k0_off594 v3859) S256x512.size (k0_off594_inb v3859 k0_hw298)).WholeWords (EltTy.packing .bf16) := fun v3859 k0_hw298 => k0_hw298.2 (k0_off594_inb v3859 k0_hw298)

def k0_off595 (v4 : BitVec 32) : Fin 1 → Nat :=
  let c5_i32_3637 : BitVec 32 := 5#32
  let v3866 : BitVec 32 := Scalar.addi v4 c5_i32_3637
  let c32_i32_3638 : BitVec 32 := 32#32
  let v3867 : BitVec 32 := Scalar.remsi v3866 c32_i32_3638
  let v3868 : Index := Scalar.indexCast v3867
  ![v3868.toNat]
def k0_off596 (v3869 : BitVec 32) : Fin 2 → Nat :=
  let c1024_i32_3639 : BitVec 32 := 1024#32
  let v3870 : BitVec 32 := Scalar.muli v3869 c1024_i32_3639
  let c768_i32_3640 : BitVec 32 := 768#32
  let v3871 : BitVec 32 := Scalar.addi v3870 c768_i32_3640
  let c0_i32_3646 : BitVec 32 := 0#32
  ![v3871.toNat, 0]

def k0_chk299 (v3869 : BitVec 32) : Prop :=
  (∀ a, (k0_off596 v3869) a + S256x512.size a ≤ S32768x512.size a) ∧
  (∀ (hinb : ∀ a, (k0_off596 v3869) a + S256x512.size a ≤ S32768x512.size a), (Rect.unit (s := S32768x512) (k0_off596 v3869) S256x512.size hinb).WholeWords (EltTy.packing .bf16))
theorem k0_off596_inb : ∀ (v3869 : BitVec 32) (k0_hw299 : k0_chk299 v3869), ∀ a, (k0_off596 v3869) a + S256x512.size a ≤ S32768x512.size a := fun v3869 k0_hw299 => k0_hw299.1
theorem k0_off596_wordsbf16 : ∀ (v3869 : BitVec 32) (k0_hw299 : k0_chk299 v3869), (Rect.unit (s := S32768x512) (k0_off596 v3869) S256x512.size (k0_off596_inb v3869 k0_hw299)).WholeWords (EltTy.packing .bf16) := fun v3869 k0_hw299 => k0_hw299.2 (k0_off596_inb v3869 k0_hw299)

def k0_off597 (v4 : BitVec 32) : Fin 1 → Nat :=
  let c6_i32_3648 : BitVec 32 := 6#32
  let v3876 : BitVec 32 := Scalar.subi v4 c6_i32_3648
  let c32_i32_3649 : BitVec 32 := 32#32
  let v3877 : BitVec 32 := Scalar.addi v3876 c32_i32_3649
  let c32_i32_3650 : BitVec 32 := 32#32
  let v3878 : BitVec 32 := Scalar.remsi v3877 c32_i32_3650
  let v3879 : Index := Scalar.indexCast v3878
  ![v3879.toNat]
def k0_off598 (v3880 : BitVec 32) : Fin 2 → Nat :=
  let c1024_i32_3651 : BitVec 32 := 1024#32
  let v3881 : BitVec 32 := Scalar.muli v3880 c1024_i32_3651
  let c0_i32_3652 : BitVec 32 := 0#32
  let v3882 : BitVec 32 := Scalar.addi v3881 c0_i32_3652
  let c0_i32_3658 : BitVec 32 := 0#32
  ![v3882.toNat, 0]

def k0_chk300 (v3880 : BitVec 32) : Prop :=
  (∀ a, (k0_off598 v3880) a + S256x512.size a ≤ S32768x512.size a) ∧
  (∀ (hinb : ∀ a, (k0_off598 v3880) a + S256x512.size a ≤ S32768x512.size a), (Rect.unit (s := S32768x512) (k0_off598 v3880) S256x512.size hinb).WholeWords (EltTy.packing .bf16))
theorem k0_off598_inb : ∀ (v3880 : BitVec 32) (k0_hw300 : k0_chk300 v3880), ∀ a, (k0_off598 v3880) a + S256x512.size a ≤ S32768x512.size a := fun v3880 k0_hw300 => k0_hw300.1
theorem k0_off598_wordsbf16 : ∀ (v3880 : BitVec 32) (k0_hw300 : k0_chk300 v3880), (Rect.unit (s := S32768x512) (k0_off598 v3880) S256x512.size (k0_off598_inb v3880 k0_hw300)).WholeWords (EltTy.packing .bf16) := fun v3880 k0_hw300 => k0_hw300.2 (k0_off598_inb v3880 k0_hw300)

def k0_off599 (v4 : BitVec 32) : Fin 1 → Nat :=
  let c6_i32_3660 : BitVec 32 := 6#32
  let v3887 : BitVec 32 := Scalar.subi v4 c6_i32_3660
  let c32_i32_3661 : BitVec 32 := 32#32
  let v3888 : BitVec 32 := Scalar.addi v3887 c32_i32_3661
  let c32_i32_3662 : BitVec 32 := 32#32
  let v3889 : BitVec 32 := Scalar.remsi v3888 c32_i32_3662
  let v3890 : Index := Scalar.indexCast v3889
  ![v3890.toNat]
def k0_off600 (v3891 : BitVec 32) : Fin 2 → Nat :=
  let c1024_i32_3663 : BitVec 32 := 1024#32
  let v3892 : BitVec 32 := Scalar.muli v3891 c1024_i32_3663
  let c256_i32_3664 : BitVec 32 := 256#32
  let v3893 : BitVec 32 := Scalar.addi v3892 c256_i32_3664
  let c0_i32_3670 : BitVec 32 := 0#32
  ![v3893.toNat, 0]

def k0_chk301 (v3891 : BitVec 32) : Prop :=
  (∀ a, (k0_off600 v3891) a + S256x512.size a ≤ S32768x512.size a) ∧
  (∀ (hinb : ∀ a, (k0_off600 v3891) a + S256x512.size a ≤ S32768x512.size a), (Rect.unit (s := S32768x512) (k0_off600 v3891) S256x512.size hinb).WholeWords (EltTy.packing .bf16))
theorem k0_off600_inb : ∀ (v3891 : BitVec 32) (k0_hw301 : k0_chk301 v3891), ∀ a, (k0_off600 v3891) a + S256x512.size a ≤ S32768x512.size a := fun v3891 k0_hw301 => k0_hw301.1
theorem k0_off600_wordsbf16 : ∀ (v3891 : BitVec 32) (k0_hw301 : k0_chk301 v3891), (Rect.unit (s := S32768x512) (k0_off600 v3891) S256x512.size (k0_off600_inb v3891 k0_hw301)).WholeWords (EltTy.packing .bf16) := fun v3891 k0_hw301 => k0_hw301.2 (k0_off600_inb v3891 k0_hw301)

def k0_off601 (v4 : BitVec 32) : Fin 1 → Nat :=
  let c6_i32_3672 : BitVec 32 := 6#32
  let v3898 : BitVec 32 := Scalar.subi v4 c6_i32_3672
  let c32_i32_3673 : BitVec 32 := 32#32
  let v3899 : BitVec 32 := Scalar.addi v3898 c32_i32_3673
  let c32_i32_3674 : BitVec 32 := 32#32
  let v3900 : BitVec 32 := Scalar.remsi v3899 c32_i32_3674
  let v3901 : Index := Scalar.indexCast v3900
  ![v3901.toNat]
def k0_off602 (v3902 : BitVec 32) : Fin 2 → Nat :=
  let c1024_i32_3675 : BitVec 32 := 1024#32
  let v3903 : BitVec 32 := Scalar.muli v3902 c1024_i32_3675
  let c512_i32_3676 : BitVec 32 := 512#32
  let v3904 : BitVec 32 := Scalar.addi v3903 c512_i32_3676
  let c0_i32_3682 : BitVec 32 := 0#32
  ![v3904.toNat, 0]

def k0_chk302 (v3902 : BitVec 32) : Prop :=
  (∀ a, (k0_off602 v3902) a + S256x512.size a ≤ S32768x512.size a) ∧
  (∀ (hinb : ∀ a, (k0_off602 v3902) a + S256x512.size a ≤ S32768x512.size a), (Rect.unit (s := S32768x512) (k0_off602 v3902) S256x512.size hinb).WholeWords (EltTy.packing .bf16))
theorem k0_off602_inb : ∀ (v3902 : BitVec 32) (k0_hw302 : k0_chk302 v3902), ∀ a, (k0_off602 v3902) a + S256x512.size a ≤ S32768x512.size a := fun v3902 k0_hw302 => k0_hw302.1
theorem k0_off602_wordsbf16 : ∀ (v3902 : BitVec 32) (k0_hw302 : k0_chk302 v3902), (Rect.unit (s := S32768x512) (k0_off602 v3902) S256x512.size (k0_off602_inb v3902 k0_hw302)).WholeWords (EltTy.packing .bf16) := fun v3902 k0_hw302 => k0_hw302.2 (k0_off602_inb v3902 k0_hw302)

def k0_off603 (v4 : BitVec 32) : Fin 1 → Nat :=
  let c6_i32_3684 : BitVec 32 := 6#32
  let v3909 : BitVec 32 := Scalar.subi v4 c6_i32_3684
  let c32_i32_3685 : BitVec 32 := 32#32
  let v3910 : BitVec 32 := Scalar.addi v3909 c32_i32_3685
  let c32_i32_3686 : BitVec 32 := 32#32
  let v3911 : BitVec 32 := Scalar.remsi v3910 c32_i32_3686
  let v3912 : Index := Scalar.indexCast v3911
  ![v3912.toNat]
def k0_off604 (v3913 : BitVec 32) : Fin 2 → Nat :=
  let c1024_i32_3687 : BitVec 32 := 1024#32
  let v3914 : BitVec 32 := Scalar.muli v3913 c1024_i32_3687
  let c768_i32_3688 : BitVec 32 := 768#32
  let v3915 : BitVec 32 := Scalar.addi v3914 c768_i32_3688
  let c0_i32_3694 : BitVec 32 := 0#32
  ![v3915.toNat, 0]

def k0_chk303 (v3913 : BitVec 32) : Prop :=
  (∀ a, (k0_off604 v3913) a + S256x512.size a ≤ S32768x512.size a) ∧
  (∀ (hinb : ∀ a, (k0_off604 v3913) a + S256x512.size a ≤ S32768x512.size a), (Rect.unit (s := S32768x512) (k0_off604 v3913) S256x512.size hinb).WholeWords (EltTy.packing .bf16))
theorem k0_off604_inb : ∀ (v3913 : BitVec 32) (k0_hw303 : k0_chk303 v3913), ∀ a, (k0_off604 v3913) a + S256x512.size a ≤ S32768x512.size a := fun v3913 k0_hw303 => k0_hw303.1
theorem k0_off604_wordsbf16 : ∀ (v3913 : BitVec 32) (k0_hw303 : k0_chk303 v3913), (Rect.unit (s := S32768x512) (k0_off604 v3913) S256x512.size (k0_off604_inb v3913 k0_hw303)).WholeWords (EltTy.packing .bf16) := fun v3913 k0_hw303 => k0_hw303.2 (k0_off604_inb v3913 k0_hw303)

def k0_off605 (v4 : BitVec 32) : Fin 1 → Nat :=
  let c6_i32_3696 : BitVec 32 := 6#32
  let v3920 : BitVec 32 := Scalar.addi v4 c6_i32_3696
  let c32_i32_3697 : BitVec 32 := 32#32
  let v3921 : BitVec 32 := Scalar.remsi v3920 c32_i32_3697
  let v3922 : Index := Scalar.indexCast v3921
  ![v3922.toNat]
def k0_off606 (v3923 : BitVec 32) : Fin 2 → Nat :=
  let c1024_i32_3698 : BitVec 32 := 1024#32
  let v3924 : BitVec 32 := Scalar.muli v3923 c1024_i32_3698
  let c0_i32_3699 : BitVec 32 := 0#32
  let v3925 : BitVec 32 := Scalar.addi v3924 c0_i32_3699
  let c0_i32_3705 : BitVec 32 := 0#32
  ![v3925.toNat, 0]

def k0_chk304 (v3923 : BitVec 32) : Prop :=
  (∀ a, (k0_off606 v3923) a + S256x512.size a ≤ S32768x512.size a) ∧
  (∀ (hinb : ∀ a, (k0_off606 v3923) a + S256x512.size a ≤ S32768x512.size a), (Rect.unit (s := S32768x512) (k0_off606 v3923) S256x512.size hinb).WholeWords (EltTy.packing .bf16))
theorem k0_off606_inb : ∀ (v3923 : BitVec 32) (k0_hw304 : k0_chk304 v3923), ∀ a, (k0_off606 v3923) a + S256x512.size a ≤ S32768x512.size a := fun v3923 k0_hw304 => k0_hw304.1
theorem k0_off606_wordsbf16 : ∀ (v3923 : BitVec 32) (k0_hw304 : k0_chk304 v3923), (Rect.unit (s := S32768x512) (k0_off606 v3923) S256x512.size (k0_off606_inb v3923 k0_hw304)).WholeWords (EltTy.packing .bf16) := fun v3923 k0_hw304 => k0_hw304.2 (k0_off606_inb v3923 k0_hw304)

def k0_off607 (v4 : BitVec 32) : Fin 1 → Nat :=
  let c6_i32_3707 : BitVec 32 := 6#32
  let v3930 : BitVec 32 := Scalar.addi v4 c6_i32_3707
  let c32_i32_3708 : BitVec 32 := 32#32
  let v3931 : BitVec 32 := Scalar.remsi v3930 c32_i32_3708
  let v3932 : Index := Scalar.indexCast v3931
  ![v3932.toNat]
def k0_off608 (v3933 : BitVec 32) : Fin 2 → Nat :=
  let c1024_i32_3709 : BitVec 32 := 1024#32
  let v3934 : BitVec 32 := Scalar.muli v3933 c1024_i32_3709
  let c256_i32_3710 : BitVec 32 := 256#32
  let v3935 : BitVec 32 := Scalar.addi v3934 c256_i32_3710
  let c0_i32_3716 : BitVec 32 := 0#32
  ![v3935.toNat, 0]

def k0_chk305 (v3933 : BitVec 32) : Prop :=
  (∀ a, (k0_off608 v3933) a + S256x512.size a ≤ S32768x512.size a) ∧
  (∀ (hinb : ∀ a, (k0_off608 v3933) a + S256x512.size a ≤ S32768x512.size a), (Rect.unit (s := S32768x512) (k0_off608 v3933) S256x512.size hinb).WholeWords (EltTy.packing .bf16))
theorem k0_off608_inb : ∀ (v3933 : BitVec 32) (k0_hw305 : k0_chk305 v3933), ∀ a, (k0_off608 v3933) a + S256x512.size a ≤ S32768x512.size a := fun v3933 k0_hw305 => k0_hw305.1
theorem k0_off608_wordsbf16 : ∀ (v3933 : BitVec 32) (k0_hw305 : k0_chk305 v3933), (Rect.unit (s := S32768x512) (k0_off608 v3933) S256x512.size (k0_off608_inb v3933 k0_hw305)).WholeWords (EltTy.packing .bf16) := fun v3933 k0_hw305 => k0_hw305.2 (k0_off608_inb v3933 k0_hw305)

def k0_off609 (v4 : BitVec 32) : Fin 1 → Nat :=
  let c6_i32_3718 : BitVec 32 := 6#32
  let v3940 : BitVec 32 := Scalar.addi v4 c6_i32_3718
  let c32_i32_3719 : BitVec 32 := 32#32
  let v3941 : BitVec 32 := Scalar.remsi v3940 c32_i32_3719
  let v3942 : Index := Scalar.indexCast v3941
  ![v3942.toNat]
def k0_off610 (v3943 : BitVec 32) : Fin 2 → Nat :=
  let c1024_i32_3720 : BitVec 32 := 1024#32
  let v3944 : BitVec 32 := Scalar.muli v3943 c1024_i32_3720
  let c512_i32_3721 : BitVec 32 := 512#32
  let v3945 : BitVec 32 := Scalar.addi v3944 c512_i32_3721
  let c0_i32_3727 : BitVec 32 := 0#32
  ![v3945.toNat, 0]

def k0_chk306 (v3943 : BitVec 32) : Prop :=
  (∀ a, (k0_off610 v3943) a + S256x512.size a ≤ S32768x512.size a) ∧
  (∀ (hinb : ∀ a, (k0_off610 v3943) a + S256x512.size a ≤ S32768x512.size a), (Rect.unit (s := S32768x512) (k0_off610 v3943) S256x512.size hinb).WholeWords (EltTy.packing .bf16))
theorem k0_off610_inb : ∀ (v3943 : BitVec 32) (k0_hw306 : k0_chk306 v3943), ∀ a, (k0_off610 v3943) a + S256x512.size a ≤ S32768x512.size a := fun v3943 k0_hw306 => k0_hw306.1
theorem k0_off610_wordsbf16 : ∀ (v3943 : BitVec 32) (k0_hw306 : k0_chk306 v3943), (Rect.unit (s := S32768x512) (k0_off610 v3943) S256x512.size (k0_off610_inb v3943 k0_hw306)).WholeWords (EltTy.packing .bf16) := fun v3943 k0_hw306 => k0_hw306.2 (k0_off610_inb v3943 k0_hw306)

def k0_off611 (v4 : BitVec 32) : Fin 1 → Nat :=
  let c6_i32_3729 : BitVec 32 := 6#32
  let v3950 : BitVec 32 := Scalar.addi v4 c6_i32_3729
  let c32_i32_3730 : BitVec 32 := 32#32
  let v3951 : BitVec 32 := Scalar.remsi v3950 c32_i32_3730
  let v3952 : Index := Scalar.indexCast v3951
  ![v3952.toNat]
def k0_off612 (v3953 : BitVec 32) : Fin 2 → Nat :=
  let c1024_i32_3731 : BitVec 32 := 1024#32
  let v3954 : BitVec 32 := Scalar.muli v3953 c1024_i32_3731
  let c768_i32_3732 : BitVec 32 := 768#32
  let v3955 : BitVec 32 := Scalar.addi v3954 c768_i32_3732
  let c0_i32_3738 : BitVec 32 := 0#32
  ![v3955.toNat, 0]

def k0_chk307 (v3953 : BitVec 32) : Prop :=
  (∀ a, (k0_off612 v3953) a + S256x512.size a ≤ S32768x512.size a) ∧
  (∀ (hinb : ∀ a, (k0_off612 v3953) a + S256x512.size a ≤ S32768x512.size a), (Rect.unit (s := S32768x512) (k0_off612 v3953) S256x512.size hinb).WholeWords (EltTy.packing .bf16))
theorem k0_off612_inb : ∀ (v3953 : BitVec 32) (k0_hw307 : k0_chk307 v3953), ∀ a, (k0_off612 v3953) a + S256x512.size a ≤ S32768x512.size a := fun v3953 k0_hw307 => k0_hw307.1
theorem k0_off612_wordsbf16 : ∀ (v3953 : BitVec 32) (k0_hw307 : k0_chk307 v3953), (Rect.unit (s := S32768x512) (k0_off612 v3953) S256x512.size (k0_off612_inb v3953 k0_hw307)).WholeWords (EltTy.packing .bf16) := fun v3953 k0_hw307 => k0_hw307.2 (k0_off612_inb v3953 k0_hw307)

def k0_off613 (v4 : BitVec 32) : Fin 1 → Nat :=
  let c7_i32_3740 : BitVec 32 := 7#32
  let v3960 : BitVec 32 := Scalar.subi v4 c7_i32_3740
  let c32_i32_3741 : BitVec 32 := 32#32
  let v3961 : BitVec 32 := Scalar.addi v3960 c32_i32_3741
  let c32_i32_3742 : BitVec 32 := 32#32
  let v3962 : BitVec 32 := Scalar.remsi v3961 c32_i32_3742
  let v3963 : Index := Scalar.indexCast v3962
  ![v3963.toNat]
def k0_off614 (v3964 : BitVec 32) : Fin 2 → Nat :=
  let c1024_i32_3743 : BitVec 32 := 1024#32
  let v3965 : BitVec 32 := Scalar.muli v3964 c1024_i32_3743
  let c0_i32_3744 : BitVec 32 := 0#32
  let v3966 : BitVec 32 := Scalar.addi v3965 c0_i32_3744
  let c0_i32_3750 : BitVec 32 := 0#32
  ![v3966.toNat, 0]

def k0_chk308 (v3964 : BitVec 32) : Prop :=
  (∀ a, (k0_off614 v3964) a + S256x512.size a ≤ S32768x512.size a) ∧
  (∀ (hinb : ∀ a, (k0_off614 v3964) a + S256x512.size a ≤ S32768x512.size a), (Rect.unit (s := S32768x512) (k0_off614 v3964) S256x512.size hinb).WholeWords (EltTy.packing .bf16))
theorem k0_off614_inb : ∀ (v3964 : BitVec 32) (k0_hw308 : k0_chk308 v3964), ∀ a, (k0_off614 v3964) a + S256x512.size a ≤ S32768x512.size a := fun v3964 k0_hw308 => k0_hw308.1
theorem k0_off614_wordsbf16 : ∀ (v3964 : BitVec 32) (k0_hw308 : k0_chk308 v3964), (Rect.unit (s := S32768x512) (k0_off614 v3964) S256x512.size (k0_off614_inb v3964 k0_hw308)).WholeWords (EltTy.packing .bf16) := fun v3964 k0_hw308 => k0_hw308.2 (k0_off614_inb v3964 k0_hw308)

def k0_off615 (v4 : BitVec 32) : Fin 1 → Nat :=
  let c7_i32_3752 : BitVec 32 := 7#32
  let v3971 : BitVec 32 := Scalar.subi v4 c7_i32_3752
  let c32_i32_3753 : BitVec 32 := 32#32
  let v3972 : BitVec 32 := Scalar.addi v3971 c32_i32_3753
  let c32_i32_3754 : BitVec 32 := 32#32
  let v3973 : BitVec 32 := Scalar.remsi v3972 c32_i32_3754
  let v3974 : Index := Scalar.indexCast v3973
  ![v3974.toNat]
def k0_off616 (v3975 : BitVec 32) : Fin 2 → Nat :=
  let c1024_i32_3755 : BitVec 32 := 1024#32
  let v3976 : BitVec 32 := Scalar.muli v3975 c1024_i32_3755
  let c256_i32_3756 : BitVec 32 := 256#32
  let v3977 : BitVec 32 := Scalar.addi v3976 c256_i32_3756
  let c0_i32_3762 : BitVec 32 := 0#32
  ![v3977.toNat, 0]

def k0_chk309 (v3975 : BitVec 32) : Prop :=
  (∀ a, (k0_off616 v3975) a + S256x512.size a ≤ S32768x512.size a) ∧
  (∀ (hinb : ∀ a, (k0_off616 v3975) a + S256x512.size a ≤ S32768x512.size a), (Rect.unit (s := S32768x512) (k0_off616 v3975) S256x512.size hinb).WholeWords (EltTy.packing .bf16))
theorem k0_off616_inb : ∀ (v3975 : BitVec 32) (k0_hw309 : k0_chk309 v3975), ∀ a, (k0_off616 v3975) a + S256x512.size a ≤ S32768x512.size a := fun v3975 k0_hw309 => k0_hw309.1
theorem k0_off616_wordsbf16 : ∀ (v3975 : BitVec 32) (k0_hw309 : k0_chk309 v3975), (Rect.unit (s := S32768x512) (k0_off616 v3975) S256x512.size (k0_off616_inb v3975 k0_hw309)).WholeWords (EltTy.packing .bf16) := fun v3975 k0_hw309 => k0_hw309.2 (k0_off616_inb v3975 k0_hw309)

def k0_off617 (v4 : BitVec 32) : Fin 1 → Nat :=
  let c7_i32_3764 : BitVec 32 := 7#32
  let v3982 : BitVec 32 := Scalar.subi v4 c7_i32_3764
  let c32_i32_3765 : BitVec 32 := 32#32
  let v3983 : BitVec 32 := Scalar.addi v3982 c32_i32_3765
  let c32_i32_3766 : BitVec 32 := 32#32
  let v3984 : BitVec 32 := Scalar.remsi v3983 c32_i32_3766
  let v3985 : Index := Scalar.indexCast v3984
  ![v3985.toNat]
def k0_off618 (v3986 : BitVec 32) : Fin 2 → Nat :=
  let c1024_i32_3767 : BitVec 32 := 1024#32
  let v3987 : BitVec 32 := Scalar.muli v3986 c1024_i32_3767
  let c512_i32_3768 : BitVec 32 := 512#32
  let v3988 : BitVec 32 := Scalar.addi v3987 c512_i32_3768
  let c0_i32_3774 : BitVec 32 := 0#32
  ![v3988.toNat, 0]

def k0_chk310 (v3986 : BitVec 32) : Prop :=
  (∀ a, (k0_off618 v3986) a + S256x512.size a ≤ S32768x512.size a) ∧
  (∀ (hinb : ∀ a, (k0_off618 v3986) a + S256x512.size a ≤ S32768x512.size a), (Rect.unit (s := S32768x512) (k0_off618 v3986) S256x512.size hinb).WholeWords (EltTy.packing .bf16))
theorem k0_off618_inb : ∀ (v3986 : BitVec 32) (k0_hw310 : k0_chk310 v3986), ∀ a, (k0_off618 v3986) a + S256x512.size a ≤ S32768x512.size a := fun v3986 k0_hw310 => k0_hw310.1
theorem k0_off618_wordsbf16 : ∀ (v3986 : BitVec 32) (k0_hw310 : k0_chk310 v3986), (Rect.unit (s := S32768x512) (k0_off618 v3986) S256x512.size (k0_off618_inb v3986 k0_hw310)).WholeWords (EltTy.packing .bf16) := fun v3986 k0_hw310 => k0_hw310.2 (k0_off618_inb v3986 k0_hw310)

def k0_off619 (v4 : BitVec 32) : Fin 1 → Nat :=
  let c7_i32_3776 : BitVec 32 := 7#32
  let v3993 : BitVec 32 := Scalar.subi v4 c7_i32_3776
  let c32_i32_3777 : BitVec 32 := 32#32
  let v3994 : BitVec 32 := Scalar.addi v3993 c32_i32_3777
  let c32_i32_3778 : BitVec 32 := 32#32
  let v3995 : BitVec 32 := Scalar.remsi v3994 c32_i32_3778
  let v3996 : Index := Scalar.indexCast v3995
  ![v3996.toNat]
def k0_off620 (v3997 : BitVec 32) : Fin 2 → Nat :=
  let c1024_i32_3779 : BitVec 32 := 1024#32
  let v3998 : BitVec 32 := Scalar.muli v3997 c1024_i32_3779
  let c768_i32_3780 : BitVec 32 := 768#32
  let v3999 : BitVec 32 := Scalar.addi v3998 c768_i32_3780
  let c0_i32_3786 : BitVec 32 := 0#32
  ![v3999.toNat, 0]

def k0_chk311 (v3997 : BitVec 32) : Prop :=
  (∀ a, (k0_off620 v3997) a + S256x512.size a ≤ S32768x512.size a) ∧
  (∀ (hinb : ∀ a, (k0_off620 v3997) a + S256x512.size a ≤ S32768x512.size a), (Rect.unit (s := S32768x512) (k0_off620 v3997) S256x512.size hinb).WholeWords (EltTy.packing .bf16))
theorem k0_off620_inb : ∀ (v3997 : BitVec 32) (k0_hw311 : k0_chk311 v3997), ∀ a, (k0_off620 v3997) a + S256x512.size a ≤ S32768x512.size a := fun v3997 k0_hw311 => k0_hw311.1
theorem k0_off620_wordsbf16 : ∀ (v3997 : BitVec 32) (k0_hw311 : k0_chk311 v3997), (Rect.unit (s := S32768x512) (k0_off620 v3997) S256x512.size (k0_off620_inb v3997 k0_hw311)).WholeWords (EltTy.packing .bf16) := fun v3997 k0_hw311 => k0_hw311.2 (k0_off620_inb v3997 k0_hw311)

def k0_off621 (v4 : BitVec 32) : Fin 1 → Nat :=
  let c7_i32_3788 : BitVec 32 := 7#32
  let v4004 : BitVec 32 := Scalar.addi v4 c7_i32_3788
  let c32_i32_3789 : BitVec 32 := 32#32
  let v4005 : BitVec 32 := Scalar.remsi v4004 c32_i32_3789
  let v4006 : Index := Scalar.indexCast v4005
  ![v4006.toNat]
def k0_off622 (v4007 : BitVec 32) : Fin 2 → Nat :=
  let c1024_i32_3790 : BitVec 32 := 1024#32
  let v4008 : BitVec 32 := Scalar.muli v4007 c1024_i32_3790
  let c0_i32_3791 : BitVec 32 := 0#32
  let v4009 : BitVec 32 := Scalar.addi v4008 c0_i32_3791
  let c0_i32_3797 : BitVec 32 := 0#32
  ![v4009.toNat, 0]

def k0_chk312 (v4007 : BitVec 32) : Prop :=
  (∀ a, (k0_off622 v4007) a + S256x512.size a ≤ S32768x512.size a) ∧
  (∀ (hinb : ∀ a, (k0_off622 v4007) a + S256x512.size a ≤ S32768x512.size a), (Rect.unit (s := S32768x512) (k0_off622 v4007) S256x512.size hinb).WholeWords (EltTy.packing .bf16))
theorem k0_off622_inb : ∀ (v4007 : BitVec 32) (k0_hw312 : k0_chk312 v4007), ∀ a, (k0_off622 v4007) a + S256x512.size a ≤ S32768x512.size a := fun v4007 k0_hw312 => k0_hw312.1
theorem k0_off622_wordsbf16 : ∀ (v4007 : BitVec 32) (k0_hw312 : k0_chk312 v4007), (Rect.unit (s := S32768x512) (k0_off622 v4007) S256x512.size (k0_off622_inb v4007 k0_hw312)).WholeWords (EltTy.packing .bf16) := fun v4007 k0_hw312 => k0_hw312.2 (k0_off622_inb v4007 k0_hw312)

def k0_off623 (v4 : BitVec 32) : Fin 1 → Nat :=
  let c7_i32_3799 : BitVec 32 := 7#32
  let v4014 : BitVec 32 := Scalar.addi v4 c7_i32_3799
  let c32_i32_3800 : BitVec 32 := 32#32
  let v4015 : BitVec 32 := Scalar.remsi v4014 c32_i32_3800
  let v4016 : Index := Scalar.indexCast v4015
  ![v4016.toNat]
def k0_off624 (v4017 : BitVec 32) : Fin 2 → Nat :=
  let c1024_i32_3801 : BitVec 32 := 1024#32
  let v4018 : BitVec 32 := Scalar.muli v4017 c1024_i32_3801
  let c256_i32_3802 : BitVec 32 := 256#32
  let v4019 : BitVec 32 := Scalar.addi v4018 c256_i32_3802
  let c0_i32_3808 : BitVec 32 := 0#32
  ![v4019.toNat, 0]

def k0_chk313 (v4017 : BitVec 32) : Prop :=
  (∀ a, (k0_off624 v4017) a + S256x512.size a ≤ S32768x512.size a) ∧
  (∀ (hinb : ∀ a, (k0_off624 v4017) a + S256x512.size a ≤ S32768x512.size a), (Rect.unit (s := S32768x512) (k0_off624 v4017) S256x512.size hinb).WholeWords (EltTy.packing .bf16))
theorem k0_off624_inb : ∀ (v4017 : BitVec 32) (k0_hw313 : k0_chk313 v4017), ∀ a, (k0_off624 v4017) a + S256x512.size a ≤ S32768x512.size a := fun v4017 k0_hw313 => k0_hw313.1
theorem k0_off624_wordsbf16 : ∀ (v4017 : BitVec 32) (k0_hw313 : k0_chk313 v4017), (Rect.unit (s := S32768x512) (k0_off624 v4017) S256x512.size (k0_off624_inb v4017 k0_hw313)).WholeWords (EltTy.packing .bf16) := fun v4017 k0_hw313 => k0_hw313.2 (k0_off624_inb v4017 k0_hw313)

def k0_off625 (v4 : BitVec 32) : Fin 1 → Nat :=
  let c7_i32_3810 : BitVec 32 := 7#32
  let v4024 : BitVec 32 := Scalar.addi v4 c7_i32_3810
  let c32_i32_3811 : BitVec 32 := 32#32
  let v4025 : BitVec 32 := Scalar.remsi v4024 c32_i32_3811
  let v4026 : Index := Scalar.indexCast v4025
  ![v4026.toNat]
def k0_off626 (v4027 : BitVec 32) : Fin 2 → Nat :=
  let c1024_i32_3812 : BitVec 32 := 1024#32
  let v4028 : BitVec 32 := Scalar.muli v4027 c1024_i32_3812
  let c512_i32_3813 : BitVec 32 := 512#32
  let v4029 : BitVec 32 := Scalar.addi v4028 c512_i32_3813
  let c0_i32_3819 : BitVec 32 := 0#32
  ![v4029.toNat, 0]

def k0_chk314 (v4027 : BitVec 32) : Prop :=
  (∀ a, (k0_off626 v4027) a + S256x512.size a ≤ S32768x512.size a) ∧
  (∀ (hinb : ∀ a, (k0_off626 v4027) a + S256x512.size a ≤ S32768x512.size a), (Rect.unit (s := S32768x512) (k0_off626 v4027) S256x512.size hinb).WholeWords (EltTy.packing .bf16))
theorem k0_off626_inb : ∀ (v4027 : BitVec 32) (k0_hw314 : k0_chk314 v4027), ∀ a, (k0_off626 v4027) a + S256x512.size a ≤ S32768x512.size a := fun v4027 k0_hw314 => k0_hw314.1
theorem k0_off626_wordsbf16 : ∀ (v4027 : BitVec 32) (k0_hw314 : k0_chk314 v4027), (Rect.unit (s := S32768x512) (k0_off626 v4027) S256x512.size (k0_off626_inb v4027 k0_hw314)).WholeWords (EltTy.packing .bf16) := fun v4027 k0_hw314 => k0_hw314.2 (k0_off626_inb v4027 k0_hw314)

def k0_off627 (v4 : BitVec 32) : Fin 1 → Nat :=
  let c7_i32_3821 : BitVec 32 := 7#32
  let v4034 : BitVec 32 := Scalar.addi v4 c7_i32_3821
  let c32_i32_3822 : BitVec 32 := 32#32
  let v4035 : BitVec 32 := Scalar.remsi v4034 c32_i32_3822
  let v4036 : Index := Scalar.indexCast v4035
  ![v4036.toNat]
def k0_off628 (v4037 : BitVec 32) : Fin 2 → Nat :=
  let c1024_i32_3823 : BitVec 32 := 1024#32
  let v4038 : BitVec 32 := Scalar.muli v4037 c1024_i32_3823
  let c768_i32_3824 : BitVec 32 := 768#32
  let v4039 : BitVec 32 := Scalar.addi v4038 c768_i32_3824
  let c0_i32_3830 : BitVec 32 := 0#32
  ![v4039.toNat, 0]

def k0_chk315 (v4037 : BitVec 32) : Prop :=
  (∀ a, (k0_off628 v4037) a + S256x512.size a ≤ S32768x512.size a) ∧
  (∀ (hinb : ∀ a, (k0_off628 v4037) a + S256x512.size a ≤ S32768x512.size a), (Rect.unit (s := S32768x512) (k0_off628 v4037) S256x512.size hinb).WholeWords (EltTy.packing .bf16))
theorem k0_off628_inb : ∀ (v4037 : BitVec 32) (k0_hw315 : k0_chk315 v4037), ∀ a, (k0_off628 v4037) a + S256x512.size a ≤ S32768x512.size a := fun v4037 k0_hw315 => k0_hw315.1
theorem k0_off628_wordsbf16 : ∀ (v4037 : BitVec 32) (k0_hw315 : k0_chk315 v4037), (Rect.unit (s := S32768x512) (k0_off628 v4037) S256x512.size (k0_off628_inb v4037 k0_hw315)).WholeWords (EltTy.packing .bf16) := fun v4037 k0_hw315 => k0_hw315.2 (k0_off628_inb v4037 k0_hw315)

def k0_off629 (v4 : BitVec 32) : Fin 1 → Nat :=
  let c8_i32_3832 : BitVec 32 := 8#32
  let v4044 : BitVec 32 := Scalar.subi v4 c8_i32_3832
  let c32_i32_3833 : BitVec 32 := 32#32
  let v4045 : BitVec 32 := Scalar.addi v4044 c32_i32_3833
  let c32_i32_3834 : BitVec 32 := 32#32
  let v4046 : BitVec 32 := Scalar.remsi v4045 c32_i32_3834
  let v4047 : Index := Scalar.indexCast v4046
  ![v4047.toNat]
def k0_off630 (v4048 : BitVec 32) : Fin 2 → Nat :=
  let c1024_i32_3835 : BitVec 32 := 1024#32
  let v4049 : BitVec 32 := Scalar.muli v4048 c1024_i32_3835
  let c0_i32_3836 : BitVec 32 := 0#32
  let v4050 : BitVec 32 := Scalar.addi v4049 c0_i32_3836
  let c0_i32_3842 : BitVec 32 := 0#32
  ![v4050.toNat, 0]

def k0_chk316 (v4048 : BitVec 32) : Prop :=
  (∀ a, (k0_off630 v4048) a + S256x512.size a ≤ S32768x512.size a) ∧
  (∀ (hinb : ∀ a, (k0_off630 v4048) a + S256x512.size a ≤ S32768x512.size a), (Rect.unit (s := S32768x512) (k0_off630 v4048) S256x512.size hinb).WholeWords (EltTy.packing .bf16))
theorem k0_off630_inb : ∀ (v4048 : BitVec 32) (k0_hw316 : k0_chk316 v4048), ∀ a, (k0_off630 v4048) a + S256x512.size a ≤ S32768x512.size a := fun v4048 k0_hw316 => k0_hw316.1
theorem k0_off630_wordsbf16 : ∀ (v4048 : BitVec 32) (k0_hw316 : k0_chk316 v4048), (Rect.unit (s := S32768x512) (k0_off630 v4048) S256x512.size (k0_off630_inb v4048 k0_hw316)).WholeWords (EltTy.packing .bf16) := fun v4048 k0_hw316 => k0_hw316.2 (k0_off630_inb v4048 k0_hw316)

def k0_off631 (v4 : BitVec 32) : Fin 1 → Nat :=
  let c8_i32_3844 : BitVec 32 := 8#32
  let v4055 : BitVec 32 := Scalar.subi v4 c8_i32_3844
  let c32_i32_3845 : BitVec 32 := 32#32
  let v4056 : BitVec 32 := Scalar.addi v4055 c32_i32_3845
  let c32_i32_3846 : BitVec 32 := 32#32
  let v4057 : BitVec 32 := Scalar.remsi v4056 c32_i32_3846
  let v4058 : Index := Scalar.indexCast v4057
  ![v4058.toNat]
def k0_off632 (v4059 : BitVec 32) : Fin 2 → Nat :=
  let c1024_i32_3847 : BitVec 32 := 1024#32
  let v4060 : BitVec 32 := Scalar.muli v4059 c1024_i32_3847
  let c256_i32_3848 : BitVec 32 := 256#32
  let v4061 : BitVec 32 := Scalar.addi v4060 c256_i32_3848
  let c0_i32_3854 : BitVec 32 := 0#32
  ![v4061.toNat, 0]

def k0_chk317 (v4059 : BitVec 32) : Prop :=
  (∀ a, (k0_off632 v4059) a + S256x512.size a ≤ S32768x512.size a) ∧
  (∀ (hinb : ∀ a, (k0_off632 v4059) a + S256x512.size a ≤ S32768x512.size a), (Rect.unit (s := S32768x512) (k0_off632 v4059) S256x512.size hinb).WholeWords (EltTy.packing .bf16))
theorem k0_off632_inb : ∀ (v4059 : BitVec 32) (k0_hw317 : k0_chk317 v4059), ∀ a, (k0_off632 v4059) a + S256x512.size a ≤ S32768x512.size a := fun v4059 k0_hw317 => k0_hw317.1
theorem k0_off632_wordsbf16 : ∀ (v4059 : BitVec 32) (k0_hw317 : k0_chk317 v4059), (Rect.unit (s := S32768x512) (k0_off632 v4059) S256x512.size (k0_off632_inb v4059 k0_hw317)).WholeWords (EltTy.packing .bf16) := fun v4059 k0_hw317 => k0_hw317.2 (k0_off632_inb v4059 k0_hw317)

def k0_off633 (v4 : BitVec 32) : Fin 1 → Nat :=
  let c8_i32_3856 : BitVec 32 := 8#32
  let v4066 : BitVec 32 := Scalar.subi v4 c8_i32_3856
  let c32_i32_3857 : BitVec 32 := 32#32
  let v4067 : BitVec 32 := Scalar.addi v4066 c32_i32_3857
  let c32_i32_3858 : BitVec 32 := 32#32
  let v4068 : BitVec 32 := Scalar.remsi v4067 c32_i32_3858
  let v4069 : Index := Scalar.indexCast v4068
  ![v4069.toNat]
def k0_off634 (v4070 : BitVec 32) : Fin 2 → Nat :=
  let c1024_i32_3859 : BitVec 32 := 1024#32
  let v4071 : BitVec 32 := Scalar.muli v4070 c1024_i32_3859
  let c512_i32_3860 : BitVec 32 := 512#32
  let v4072 : BitVec 32 := Scalar.addi v4071 c512_i32_3860
  let c0_i32_3866 : BitVec 32 := 0#32
  ![v4072.toNat, 0]

def k0_chk318 (v4070 : BitVec 32) : Prop :=
  (∀ a, (k0_off634 v4070) a + S256x512.size a ≤ S32768x512.size a) ∧
  (∀ (hinb : ∀ a, (k0_off634 v4070) a + S256x512.size a ≤ S32768x512.size a), (Rect.unit (s := S32768x512) (k0_off634 v4070) S256x512.size hinb).WholeWords (EltTy.packing .bf16))
theorem k0_off634_inb : ∀ (v4070 : BitVec 32) (k0_hw318 : k0_chk318 v4070), ∀ a, (k0_off634 v4070) a + S256x512.size a ≤ S32768x512.size a := fun v4070 k0_hw318 => k0_hw318.1
theorem k0_off634_wordsbf16 : ∀ (v4070 : BitVec 32) (k0_hw318 : k0_chk318 v4070), (Rect.unit (s := S32768x512) (k0_off634 v4070) S256x512.size (k0_off634_inb v4070 k0_hw318)).WholeWords (EltTy.packing .bf16) := fun v4070 k0_hw318 => k0_hw318.2 (k0_off634_inb v4070 k0_hw318)

def k0_off635 (v4 : BitVec 32) : Fin 1 → Nat :=
  let c8_i32_3868 : BitVec 32 := 8#32
  let v4077 : BitVec 32 := Scalar.subi v4 c8_i32_3868
  let c32_i32_3869 : BitVec 32 := 32#32
  let v4078 : BitVec 32 := Scalar.addi v4077 c32_i32_3869
  let c32_i32_3870 : BitVec 32 := 32#32
  let v4079 : BitVec 32 := Scalar.remsi v4078 c32_i32_3870
  let v4080 : Index := Scalar.indexCast v4079
  ![v4080.toNat]
def k0_off636 (v4081 : BitVec 32) : Fin 2 → Nat :=
  let c1024_i32_3871 : BitVec 32 := 1024#32
  let v4082 : BitVec 32 := Scalar.muli v4081 c1024_i32_3871
  let c768_i32_3872 : BitVec 32 := 768#32
  let v4083 : BitVec 32 := Scalar.addi v4082 c768_i32_3872
  let c0_i32_3878 : BitVec 32 := 0#32
  ![v4083.toNat, 0]

def k0_chk319 (v4081 : BitVec 32) : Prop :=
  (∀ a, (k0_off636 v4081) a + S256x512.size a ≤ S32768x512.size a) ∧
  (∀ (hinb : ∀ a, (k0_off636 v4081) a + S256x512.size a ≤ S32768x512.size a), (Rect.unit (s := S32768x512) (k0_off636 v4081) S256x512.size hinb).WholeWords (EltTy.packing .bf16))
theorem k0_off636_inb : ∀ (v4081 : BitVec 32) (k0_hw319 : k0_chk319 v4081), ∀ a, (k0_off636 v4081) a + S256x512.size a ≤ S32768x512.size a := fun v4081 k0_hw319 => k0_hw319.1
theorem k0_off636_wordsbf16 : ∀ (v4081 : BitVec 32) (k0_hw319 : k0_chk319 v4081), (Rect.unit (s := S32768x512) (k0_off636 v4081) S256x512.size (k0_off636_inb v4081 k0_hw319)).WholeWords (EltTy.packing .bf16) := fun v4081 k0_hw319 => k0_hw319.2 (k0_off636_inb v4081 k0_hw319)

def k0_off637 (v4 : BitVec 32) : Fin 1 → Nat :=
  let c8_i32_3880 : BitVec 32 := 8#32
  let v4088 : BitVec 32 := Scalar.addi v4 c8_i32_3880
  let c32_i32_3881 : BitVec 32 := 32#32
  let v4089 : BitVec 32 := Scalar.remsi v4088 c32_i32_3881
  let v4090 : Index := Scalar.indexCast v4089
  ![v4090.toNat]
def k0_off638 (v4091 : BitVec 32) : Fin 2 → Nat :=
  let c1024_i32_3882 : BitVec 32 := 1024#32
  let v4092 : BitVec 32 := Scalar.muli v4091 c1024_i32_3882
  let c0_i32_3883 : BitVec 32 := 0#32
  let v4093 : BitVec 32 := Scalar.addi v4092 c0_i32_3883
  let c0_i32_3889 : BitVec 32 := 0#32
  ![v4093.toNat, 0]

def k0_chk320 (v4091 : BitVec 32) : Prop :=
  (∀ a, (k0_off638 v4091) a + S256x512.size a ≤ S32768x512.size a) ∧
  (∀ (hinb : ∀ a, (k0_off638 v4091) a + S256x512.size a ≤ S32768x512.size a), (Rect.unit (s := S32768x512) (k0_off638 v4091) S256x512.size hinb).WholeWords (EltTy.packing .bf16))
theorem k0_off638_inb : ∀ (v4091 : BitVec 32) (k0_hw320 : k0_chk320 v4091), ∀ a, (k0_off638 v4091) a + S256x512.size a ≤ S32768x512.size a := fun v4091 k0_hw320 => k0_hw320.1
theorem k0_off638_wordsbf16 : ∀ (v4091 : BitVec 32) (k0_hw320 : k0_chk320 v4091), (Rect.unit (s := S32768x512) (k0_off638 v4091) S256x512.size (k0_off638_inb v4091 k0_hw320)).WholeWords (EltTy.packing .bf16) := fun v4091 k0_hw320 => k0_hw320.2 (k0_off638_inb v4091 k0_hw320)

def k0_off639 (v4 : BitVec 32) : Fin 1 → Nat :=
  let c8_i32_3891 : BitVec 32 := 8#32
  let v4098 : BitVec 32 := Scalar.addi v4 c8_i32_3891
  let c32_i32_3892 : BitVec 32 := 32#32
  let v4099 : BitVec 32 := Scalar.remsi v4098 c32_i32_3892
  let v4100 : Index := Scalar.indexCast v4099
  ![v4100.toNat]
def k0_off640 (v4101 : BitVec 32) : Fin 2 → Nat :=
  let c1024_i32_3893 : BitVec 32 := 1024#32
  let v4102 : BitVec 32 := Scalar.muli v4101 c1024_i32_3893
  let c256_i32_3894 : BitVec 32 := 256#32
  let v4103 : BitVec 32 := Scalar.addi v4102 c256_i32_3894
  let c0_i32_3900 : BitVec 32 := 0#32
  ![v4103.toNat, 0]

def k0_chk321 (v4101 : BitVec 32) : Prop :=
  (∀ a, (k0_off640 v4101) a + S256x512.size a ≤ S32768x512.size a) ∧
  (∀ (hinb : ∀ a, (k0_off640 v4101) a + S256x512.size a ≤ S32768x512.size a), (Rect.unit (s := S32768x512) (k0_off640 v4101) S256x512.size hinb).WholeWords (EltTy.packing .bf16))
theorem k0_off640_inb : ∀ (v4101 : BitVec 32) (k0_hw321 : k0_chk321 v4101), ∀ a, (k0_off640 v4101) a + S256x512.size a ≤ S32768x512.size a := fun v4101 k0_hw321 => k0_hw321.1
theorem k0_off640_wordsbf16 : ∀ (v4101 : BitVec 32) (k0_hw321 : k0_chk321 v4101), (Rect.unit (s := S32768x512) (k0_off640 v4101) S256x512.size (k0_off640_inb v4101 k0_hw321)).WholeWords (EltTy.packing .bf16) := fun v4101 k0_hw321 => k0_hw321.2 (k0_off640_inb v4101 k0_hw321)

def k0_off641 (v4 : BitVec 32) : Fin 1 → Nat :=
  let c8_i32_3902 : BitVec 32 := 8#32
  let v4108 : BitVec 32 := Scalar.addi v4 c8_i32_3902
  let c32_i32_3903 : BitVec 32 := 32#32
  let v4109 : BitVec 32 := Scalar.remsi v4108 c32_i32_3903
  let v4110 : Index := Scalar.indexCast v4109
  ![v4110.toNat]
def k0_off642 (v4111 : BitVec 32) : Fin 2 → Nat :=
  let c1024_i32_3904 : BitVec 32 := 1024#32
  let v4112 : BitVec 32 := Scalar.muli v4111 c1024_i32_3904
  let c512_i32_3905 : BitVec 32 := 512#32
  let v4113 : BitVec 32 := Scalar.addi v4112 c512_i32_3905
  let c0_i32_3911 : BitVec 32 := 0#32
  ![v4113.toNat, 0]

def k0_chk322 (v4111 : BitVec 32) : Prop :=
  (∀ a, (k0_off642 v4111) a + S256x512.size a ≤ S32768x512.size a) ∧
  (∀ (hinb : ∀ a, (k0_off642 v4111) a + S256x512.size a ≤ S32768x512.size a), (Rect.unit (s := S32768x512) (k0_off642 v4111) S256x512.size hinb).WholeWords (EltTy.packing .bf16))
theorem k0_off642_inb : ∀ (v4111 : BitVec 32) (k0_hw322 : k0_chk322 v4111), ∀ a, (k0_off642 v4111) a + S256x512.size a ≤ S32768x512.size a := fun v4111 k0_hw322 => k0_hw322.1
theorem k0_off642_wordsbf16 : ∀ (v4111 : BitVec 32) (k0_hw322 : k0_chk322 v4111), (Rect.unit (s := S32768x512) (k0_off642 v4111) S256x512.size (k0_off642_inb v4111 k0_hw322)).WholeWords (EltTy.packing .bf16) := fun v4111 k0_hw322 => k0_hw322.2 (k0_off642_inb v4111 k0_hw322)

def k0_off643 (v4 : BitVec 32) : Fin 1 → Nat :=
  let c8_i32_3913 : BitVec 32 := 8#32
  let v4118 : BitVec 32 := Scalar.addi v4 c8_i32_3913
  let c32_i32_3914 : BitVec 32 := 32#32
  let v4119 : BitVec 32 := Scalar.remsi v4118 c32_i32_3914
  let v4120 : Index := Scalar.indexCast v4119
  ![v4120.toNat]
def k0_off644 (v4121 : BitVec 32) : Fin 2 → Nat :=
  let c1024_i32_3915 : BitVec 32 := 1024#32
  let v4122 : BitVec 32 := Scalar.muli v4121 c1024_i32_3915
  let c768_i32_3916 : BitVec 32 := 768#32
  let v4123 : BitVec 32 := Scalar.addi v4122 c768_i32_3916
  let c0_i32_3922 : BitVec 32 := 0#32
  ![v4123.toNat, 0]

def k0_chk323 (v4121 : BitVec 32) : Prop :=
  (∀ a, (k0_off644 v4121) a + S256x512.size a ≤ S32768x512.size a) ∧
  (∀ (hinb : ∀ a, (k0_off644 v4121) a + S256x512.size a ≤ S32768x512.size a), (Rect.unit (s := S32768x512) (k0_off644 v4121) S256x512.size hinb).WholeWords (EltTy.packing .bf16))
theorem k0_off644_inb : ∀ (v4121 : BitVec 32) (k0_hw323 : k0_chk323 v4121), ∀ a, (k0_off644 v4121) a + S256x512.size a ≤ S32768x512.size a := fun v4121 k0_hw323 => k0_hw323.1
theorem k0_off644_wordsbf16 : ∀ (v4121 : BitVec 32) (k0_hw323 : k0_chk323 v4121), (Rect.unit (s := S32768x512) (k0_off644 v4121) S256x512.size (k0_off644_inb v4121 k0_hw323)).WholeWords (EltTy.packing .bf16) := fun v4121 k0_hw323 => k0_hw323.2 (k0_off644_inb v4121 k0_hw323)

def k0_off645 (v4 : BitVec 32) : Fin 1 → Nat :=
  let c9_i32_3924 : BitVec 32 := 9#32
  let v4128 : BitVec 32 := Scalar.subi v4 c9_i32_3924
  let c32_i32_3925 : BitVec 32 := 32#32
  let v4129 : BitVec 32 := Scalar.addi v4128 c32_i32_3925
  let c32_i32_3926 : BitVec 32 := 32#32
  let v4130 : BitVec 32 := Scalar.remsi v4129 c32_i32_3926
  let v4131 : Index := Scalar.indexCast v4130
  ![v4131.toNat]
def k0_off646 (v4132 : BitVec 32) : Fin 2 → Nat :=
  let c1024_i32_3927 : BitVec 32 := 1024#32
  let v4133 : BitVec 32 := Scalar.muli v4132 c1024_i32_3927
  let c0_i32_3928 : BitVec 32 := 0#32
  let v4134 : BitVec 32 := Scalar.addi v4133 c0_i32_3928
  let c0_i32_3934 : BitVec 32 := 0#32
  ![v4134.toNat, 0]

def k0_chk324 (v4132 : BitVec 32) : Prop :=
  (∀ a, (k0_off646 v4132) a + S256x512.size a ≤ S32768x512.size a) ∧
  (∀ (hinb : ∀ a, (k0_off646 v4132) a + S256x512.size a ≤ S32768x512.size a), (Rect.unit (s := S32768x512) (k0_off646 v4132) S256x512.size hinb).WholeWords (EltTy.packing .bf16))
theorem k0_off646_inb : ∀ (v4132 : BitVec 32) (k0_hw324 : k0_chk324 v4132), ∀ a, (k0_off646 v4132) a + S256x512.size a ≤ S32768x512.size a := fun v4132 k0_hw324 => k0_hw324.1
theorem k0_off646_wordsbf16 : ∀ (v4132 : BitVec 32) (k0_hw324 : k0_chk324 v4132), (Rect.unit (s := S32768x512) (k0_off646 v4132) S256x512.size (k0_off646_inb v4132 k0_hw324)).WholeWords (EltTy.packing .bf16) := fun v4132 k0_hw324 => k0_hw324.2 (k0_off646_inb v4132 k0_hw324)

def k0_off647 (v4 : BitVec 32) : Fin 1 → Nat :=
  let c9_i32_3936 : BitVec 32 := 9#32
  let v4139 : BitVec 32 := Scalar.subi v4 c9_i32_3936
  let c32_i32_3937 : BitVec 32 := 32#32
  let v4140 : BitVec 32 := Scalar.addi v4139 c32_i32_3937
  let c32_i32_3938 : BitVec 32 := 32#32
  let v4141 : BitVec 32 := Scalar.remsi v4140 c32_i32_3938
  let v4142 : Index := Scalar.indexCast v4141
  ![v4142.toNat]
def k0_off648 (v4143 : BitVec 32) : Fin 2 → Nat :=
  let c1024_i32_3939 : BitVec 32 := 1024#32
  let v4144 : BitVec 32 := Scalar.muli v4143 c1024_i32_3939
  let c256_i32_3940 : BitVec 32 := 256#32
  let v4145 : BitVec 32 := Scalar.addi v4144 c256_i32_3940
  let c0_i32_3946 : BitVec 32 := 0#32
  ![v4145.toNat, 0]

def k0_chk325 (v4143 : BitVec 32) : Prop :=
  (∀ a, (k0_off648 v4143) a + S256x512.size a ≤ S32768x512.size a) ∧
  (∀ (hinb : ∀ a, (k0_off648 v4143) a + S256x512.size a ≤ S32768x512.size a), (Rect.unit (s := S32768x512) (k0_off648 v4143) S256x512.size hinb).WholeWords (EltTy.packing .bf16))
theorem k0_off648_inb : ∀ (v4143 : BitVec 32) (k0_hw325 : k0_chk325 v4143), ∀ a, (k0_off648 v4143) a + S256x512.size a ≤ S32768x512.size a := fun v4143 k0_hw325 => k0_hw325.1
theorem k0_off648_wordsbf16 : ∀ (v4143 : BitVec 32) (k0_hw325 : k0_chk325 v4143), (Rect.unit (s := S32768x512) (k0_off648 v4143) S256x512.size (k0_off648_inb v4143 k0_hw325)).WholeWords (EltTy.packing .bf16) := fun v4143 k0_hw325 => k0_hw325.2 (k0_off648_inb v4143 k0_hw325)

def k0_off649 (v4 : BitVec 32) : Fin 1 → Nat :=
  let c9_i32_3948 : BitVec 32 := 9#32
  let v4150 : BitVec 32 := Scalar.subi v4 c9_i32_3948
  let c32_i32_3949 : BitVec 32 := 32#32
  let v4151 : BitVec 32 := Scalar.addi v4150 c32_i32_3949
  let c32_i32_3950 : BitVec 32 := 32#32
  let v4152 : BitVec 32 := Scalar.remsi v4151 c32_i32_3950
  let v4153 : Index := Scalar.indexCast v4152
  ![v4153.toNat]
def k0_off650 (v4154 : BitVec 32) : Fin 2 → Nat :=
  let c1024_i32_3951 : BitVec 32 := 1024#32
  let v4155 : BitVec 32 := Scalar.muli v4154 c1024_i32_3951
  let c512_i32_3952 : BitVec 32 := 512#32
  let v4156 : BitVec 32 := Scalar.addi v4155 c512_i32_3952
  let c0_i32_3958 : BitVec 32 := 0#32
  ![v4156.toNat, 0]

def k0_chk326 (v4154 : BitVec 32) : Prop :=
  (∀ a, (k0_off650 v4154) a + S256x512.size a ≤ S32768x512.size a) ∧
  (∀ (hinb : ∀ a, (k0_off650 v4154) a + S256x512.size a ≤ S32768x512.size a), (Rect.unit (s := S32768x512) (k0_off650 v4154) S256x512.size hinb).WholeWords (EltTy.packing .bf16))
theorem k0_off650_inb : ∀ (v4154 : BitVec 32) (k0_hw326 : k0_chk326 v4154), ∀ a, (k0_off650 v4154) a + S256x512.size a ≤ S32768x512.size a := fun v4154 k0_hw326 => k0_hw326.1
theorem k0_off650_wordsbf16 : ∀ (v4154 : BitVec 32) (k0_hw326 : k0_chk326 v4154), (Rect.unit (s := S32768x512) (k0_off650 v4154) S256x512.size (k0_off650_inb v4154 k0_hw326)).WholeWords (EltTy.packing .bf16) := fun v4154 k0_hw326 => k0_hw326.2 (k0_off650_inb v4154 k0_hw326)

def k0_off651 (v4 : BitVec 32) : Fin 1 → Nat :=
  let c9_i32_3960 : BitVec 32 := 9#32
  let v4161 : BitVec 32 := Scalar.subi v4 c9_i32_3960
  let c32_i32_3961 : BitVec 32 := 32#32
  let v4162 : BitVec 32 := Scalar.addi v4161 c32_i32_3961
  let c32_i32_3962 : BitVec 32 := 32#32
  let v4163 : BitVec 32 := Scalar.remsi v4162 c32_i32_3962
  let v4164 : Index := Scalar.indexCast v4163
  ![v4164.toNat]
def k0_off652 (v4165 : BitVec 32) : Fin 2 → Nat :=
  let c1024_i32_3963 : BitVec 32 := 1024#32
  let v4166 : BitVec 32 := Scalar.muli v4165 c1024_i32_3963
  let c768_i32_3964 : BitVec 32 := 768#32
  let v4167 : BitVec 32 := Scalar.addi v4166 c768_i32_3964
  let c0_i32_3970 : BitVec 32 := 0#32
  ![v4167.toNat, 0]

def k0_chk327 (v4165 : BitVec 32) : Prop :=
  (∀ a, (k0_off652 v4165) a + S256x512.size a ≤ S32768x512.size a) ∧
  (∀ (hinb : ∀ a, (k0_off652 v4165) a + S256x512.size a ≤ S32768x512.size a), (Rect.unit (s := S32768x512) (k0_off652 v4165) S256x512.size hinb).WholeWords (EltTy.packing .bf16))
theorem k0_off652_inb : ∀ (v4165 : BitVec 32) (k0_hw327 : k0_chk327 v4165), ∀ a, (k0_off652 v4165) a + S256x512.size a ≤ S32768x512.size a := fun v4165 k0_hw327 => k0_hw327.1
theorem k0_off652_wordsbf16 : ∀ (v4165 : BitVec 32) (k0_hw327 : k0_chk327 v4165), (Rect.unit (s := S32768x512) (k0_off652 v4165) S256x512.size (k0_off652_inb v4165 k0_hw327)).WholeWords (EltTy.packing .bf16) := fun v4165 k0_hw327 => k0_hw327.2 (k0_off652_inb v4165 k0_hw327)

def k0_off653 (v4 : BitVec 32) : Fin 1 → Nat :=
  let c9_i32_3972 : BitVec 32 := 9#32
  let v4172 : BitVec 32 := Scalar.addi v4 c9_i32_3972
  let c32_i32_3973 : BitVec 32 := 32#32
  let v4173 : BitVec 32 := Scalar.remsi v4172 c32_i32_3973
  let v4174 : Index := Scalar.indexCast v4173
  ![v4174.toNat]
def k0_off654 (v4175 : BitVec 32) : Fin 2 → Nat :=
  let c1024_i32_3974 : BitVec 32 := 1024#32
  let v4176 : BitVec 32 := Scalar.muli v4175 c1024_i32_3974
  let c0_i32_3975 : BitVec 32 := 0#32
  let v4177 : BitVec 32 := Scalar.addi v4176 c0_i32_3975
  let c0_i32_3981 : BitVec 32 := 0#32
  ![v4177.toNat, 0]

def k0_chk328 (v4175 : BitVec 32) : Prop :=
  (∀ a, (k0_off654 v4175) a + S256x512.size a ≤ S32768x512.size a) ∧
  (∀ (hinb : ∀ a, (k0_off654 v4175) a + S256x512.size a ≤ S32768x512.size a), (Rect.unit (s := S32768x512) (k0_off654 v4175) S256x512.size hinb).WholeWords (EltTy.packing .bf16))
theorem k0_off654_inb : ∀ (v4175 : BitVec 32) (k0_hw328 : k0_chk328 v4175), ∀ a, (k0_off654 v4175) a + S256x512.size a ≤ S32768x512.size a := fun v4175 k0_hw328 => k0_hw328.1
theorem k0_off654_wordsbf16 : ∀ (v4175 : BitVec 32) (k0_hw328 : k0_chk328 v4175), (Rect.unit (s := S32768x512) (k0_off654 v4175) S256x512.size (k0_off654_inb v4175 k0_hw328)).WholeWords (EltTy.packing .bf16) := fun v4175 k0_hw328 => k0_hw328.2 (k0_off654_inb v4175 k0_hw328)

def k0_off655 (v4 : BitVec 32) : Fin 1 → Nat :=
  let c9_i32_3983 : BitVec 32 := 9#32
  let v4182 : BitVec 32 := Scalar.addi v4 c9_i32_3983
  let c32_i32_3984 : BitVec 32 := 32#32
  let v4183 : BitVec 32 := Scalar.remsi v4182 c32_i32_3984
  let v4184 : Index := Scalar.indexCast v4183
  ![v4184.toNat]
def k0_off656 (v4185 : BitVec 32) : Fin 2 → Nat :=
  let c1024_i32_3985 : BitVec 32 := 1024#32
  let v4186 : BitVec 32 := Scalar.muli v4185 c1024_i32_3985
  let c256_i32_3986 : BitVec 32 := 256#32
  let v4187 : BitVec 32 := Scalar.addi v4186 c256_i32_3986
  let c0_i32_3992 : BitVec 32 := 0#32
  ![v4187.toNat, 0]

def k0_chk329 (v4185 : BitVec 32) : Prop :=
  (∀ a, (k0_off656 v4185) a + S256x512.size a ≤ S32768x512.size a) ∧
  (∀ (hinb : ∀ a, (k0_off656 v4185) a + S256x512.size a ≤ S32768x512.size a), (Rect.unit (s := S32768x512) (k0_off656 v4185) S256x512.size hinb).WholeWords (EltTy.packing .bf16))
theorem k0_off656_inb : ∀ (v4185 : BitVec 32) (k0_hw329 : k0_chk329 v4185), ∀ a, (k0_off656 v4185) a + S256x512.size a ≤ S32768x512.size a := fun v4185 k0_hw329 => k0_hw329.1
theorem k0_off656_wordsbf16 : ∀ (v4185 : BitVec 32) (k0_hw329 : k0_chk329 v4185), (Rect.unit (s := S32768x512) (k0_off656 v4185) S256x512.size (k0_off656_inb v4185 k0_hw329)).WholeWords (EltTy.packing .bf16) := fun v4185 k0_hw329 => k0_hw329.2 (k0_off656_inb v4185 k0_hw329)

def k0_off657 (v4 : BitVec 32) : Fin 1 → Nat :=
  let c9_i32_3994 : BitVec 32 := 9#32
  let v4192 : BitVec 32 := Scalar.addi v4 c9_i32_3994
  let c32_i32_3995 : BitVec 32 := 32#32
  let v4193 : BitVec 32 := Scalar.remsi v4192 c32_i32_3995
  let v4194 : Index := Scalar.indexCast v4193
  ![v4194.toNat]
def k0_off658 (v4195 : BitVec 32) : Fin 2 → Nat :=
  let c1024_i32_3996 : BitVec 32 := 1024#32
  let v4196 : BitVec 32 := Scalar.muli v4195 c1024_i32_3996
  let c512_i32_3997 : BitVec 32 := 512#32
  let v4197 : BitVec 32 := Scalar.addi v4196 c512_i32_3997
  let c0_i32_4003 : BitVec 32 := 0#32
  ![v4197.toNat, 0]

def k0_chk330 (v4195 : BitVec 32) : Prop :=
  (∀ a, (k0_off658 v4195) a + S256x512.size a ≤ S32768x512.size a) ∧
  (∀ (hinb : ∀ a, (k0_off658 v4195) a + S256x512.size a ≤ S32768x512.size a), (Rect.unit (s := S32768x512) (k0_off658 v4195) S256x512.size hinb).WholeWords (EltTy.packing .bf16))
theorem k0_off658_inb : ∀ (v4195 : BitVec 32) (k0_hw330 : k0_chk330 v4195), ∀ a, (k0_off658 v4195) a + S256x512.size a ≤ S32768x512.size a := fun v4195 k0_hw330 => k0_hw330.1
theorem k0_off658_wordsbf16 : ∀ (v4195 : BitVec 32) (k0_hw330 : k0_chk330 v4195), (Rect.unit (s := S32768x512) (k0_off658 v4195) S256x512.size (k0_off658_inb v4195 k0_hw330)).WholeWords (EltTy.packing .bf16) := fun v4195 k0_hw330 => k0_hw330.2 (k0_off658_inb v4195 k0_hw330)

def k0_off659 (v4 : BitVec 32) : Fin 1 → Nat :=
  let c9_i32_4005 : BitVec 32 := 9#32
  let v4202 : BitVec 32 := Scalar.addi v4 c9_i32_4005
  let c32_i32_4006 : BitVec 32 := 32#32
  let v4203 : BitVec 32 := Scalar.remsi v4202 c32_i32_4006
  let v4204 : Index := Scalar.indexCast v4203
  ![v4204.toNat]
def k0_off660 (v4205 : BitVec 32) : Fin 2 → Nat :=
  let c1024_i32_4007 : BitVec 32 := 1024#32
  let v4206 : BitVec 32 := Scalar.muli v4205 c1024_i32_4007
  let c768_i32_4008 : BitVec 32 := 768#32
  let v4207 : BitVec 32 := Scalar.addi v4206 c768_i32_4008
  let c0_i32_4014 : BitVec 32 := 0#32
  ![v4207.toNat, 0]

def k0_chk331 (v4205 : BitVec 32) : Prop :=
  (∀ a, (k0_off660 v4205) a + S256x512.size a ≤ S32768x512.size a) ∧
  (∀ (hinb : ∀ a, (k0_off660 v4205) a + S256x512.size a ≤ S32768x512.size a), (Rect.unit (s := S32768x512) (k0_off660 v4205) S256x512.size hinb).WholeWords (EltTy.packing .bf16))
theorem k0_off660_inb : ∀ (v4205 : BitVec 32) (k0_hw331 : k0_chk331 v4205), ∀ a, (k0_off660 v4205) a + S256x512.size a ≤ S32768x512.size a := fun v4205 k0_hw331 => k0_hw331.1
theorem k0_off660_wordsbf16 : ∀ (v4205 : BitVec 32) (k0_hw331 : k0_chk331 v4205), (Rect.unit (s := S32768x512) (k0_off660 v4205) S256x512.size (k0_off660_inb v4205 k0_hw331)).WholeWords (EltTy.packing .bf16) := fun v4205 k0_hw331 => k0_hw331.2 (k0_off660_inb v4205 k0_hw331)

def k0_off661 (v4 : BitVec 32) : Fin 1 → Nat :=
  let c10_i32_4016 : BitVec 32 := 10#32
  let v4212 : BitVec 32 := Scalar.subi v4 c10_i32_4016
  let c32_i32_4017 : BitVec 32 := 32#32
  let v4213 : BitVec 32 := Scalar.addi v4212 c32_i32_4017
  let c32_i32_4018 : BitVec 32 := 32#32
  let v4214 : BitVec 32 := Scalar.remsi v4213 c32_i32_4018
  let v4215 : Index := Scalar.indexCast v4214
  ![v4215.toNat]
def k0_off662 (v4216 : BitVec 32) : Fin 2 → Nat :=
  let c1024_i32_4019 : BitVec 32 := 1024#32
  let v4217 : BitVec 32 := Scalar.muli v4216 c1024_i32_4019
  let c0_i32_4020 : BitVec 32 := 0#32
  let v4218 : BitVec 32 := Scalar.addi v4217 c0_i32_4020
  let c0_i32_4026 : BitVec 32 := 0#32
  ![v4218.toNat, 0]

def k0_chk332 (v4216 : BitVec 32) : Prop :=
  (∀ a, (k0_off662 v4216) a + S256x512.size a ≤ S32768x512.size a) ∧
  (∀ (hinb : ∀ a, (k0_off662 v4216) a + S256x512.size a ≤ S32768x512.size a), (Rect.unit (s := S32768x512) (k0_off662 v4216) S256x512.size hinb).WholeWords (EltTy.packing .bf16))
theorem k0_off662_inb : ∀ (v4216 : BitVec 32) (k0_hw332 : k0_chk332 v4216), ∀ a, (k0_off662 v4216) a + S256x512.size a ≤ S32768x512.size a := fun v4216 k0_hw332 => k0_hw332.1
theorem k0_off662_wordsbf16 : ∀ (v4216 : BitVec 32) (k0_hw332 : k0_chk332 v4216), (Rect.unit (s := S32768x512) (k0_off662 v4216) S256x512.size (k0_off662_inb v4216 k0_hw332)).WholeWords (EltTy.packing .bf16) := fun v4216 k0_hw332 => k0_hw332.2 (k0_off662_inb v4216 k0_hw332)

def k0_off663 (v4 : BitVec 32) : Fin 1 → Nat :=
  let c10_i32_4028 : BitVec 32 := 10#32
  let v4223 : BitVec 32 := Scalar.subi v4 c10_i32_4028
  let c32_i32_4029 : BitVec 32 := 32#32
  let v4224 : BitVec 32 := Scalar.addi v4223 c32_i32_4029
  let c32_i32_4030 : BitVec 32 := 32#32
  let v4225 : BitVec 32 := Scalar.remsi v4224 c32_i32_4030
  let v4226 : Index := Scalar.indexCast v4225
  ![v4226.toNat]
def k0_off664 (v4227 : BitVec 32) : Fin 2 → Nat :=
  let c1024_i32_4031 : BitVec 32 := 1024#32
  let v4228 : BitVec 32 := Scalar.muli v4227 c1024_i32_4031
  let c256_i32_4032 : BitVec 32 := 256#32
  let v4229 : BitVec 32 := Scalar.addi v4228 c256_i32_4032
  let c0_i32_4038 : BitVec 32 := 0#32
  ![v4229.toNat, 0]

def k0_chk333 (v4227 : BitVec 32) : Prop :=
  (∀ a, (k0_off664 v4227) a + S256x512.size a ≤ S32768x512.size a) ∧
  (∀ (hinb : ∀ a, (k0_off664 v4227) a + S256x512.size a ≤ S32768x512.size a), (Rect.unit (s := S32768x512) (k0_off664 v4227) S256x512.size hinb).WholeWords (EltTy.packing .bf16))
theorem k0_off664_inb : ∀ (v4227 : BitVec 32) (k0_hw333 : k0_chk333 v4227), ∀ a, (k0_off664 v4227) a + S256x512.size a ≤ S32768x512.size a := fun v4227 k0_hw333 => k0_hw333.1
theorem k0_off664_wordsbf16 : ∀ (v4227 : BitVec 32) (k0_hw333 : k0_chk333 v4227), (Rect.unit (s := S32768x512) (k0_off664 v4227) S256x512.size (k0_off664_inb v4227 k0_hw333)).WholeWords (EltTy.packing .bf16) := fun v4227 k0_hw333 => k0_hw333.2 (k0_off664_inb v4227 k0_hw333)

def k0_off665 (v4 : BitVec 32) : Fin 1 → Nat :=
  let c10_i32_4040 : BitVec 32 := 10#32
  let v4234 : BitVec 32 := Scalar.subi v4 c10_i32_4040
  let c32_i32_4041 : BitVec 32 := 32#32
  let v4235 : BitVec 32 := Scalar.addi v4234 c32_i32_4041
  let c32_i32_4042 : BitVec 32 := 32#32
  let v4236 : BitVec 32 := Scalar.remsi v4235 c32_i32_4042
  let v4237 : Index := Scalar.indexCast v4236
  ![v4237.toNat]
def k0_off666 (v4238 : BitVec 32) : Fin 2 → Nat :=
  let c1024_i32_4043 : BitVec 32 := 1024#32
  let v4239 : BitVec 32 := Scalar.muli v4238 c1024_i32_4043
  let c512_i32_4044 : BitVec 32 := 512#32
  let v4240 : BitVec 32 := Scalar.addi v4239 c512_i32_4044
  let c0_i32_4050 : BitVec 32 := 0#32
  ![v4240.toNat, 0]

def k0_chk334 (v4238 : BitVec 32) : Prop :=
  (∀ a, (k0_off666 v4238) a + S256x512.size a ≤ S32768x512.size a) ∧
  (∀ (hinb : ∀ a, (k0_off666 v4238) a + S256x512.size a ≤ S32768x512.size a), (Rect.unit (s := S32768x512) (k0_off666 v4238) S256x512.size hinb).WholeWords (EltTy.packing .bf16))
theorem k0_off666_inb : ∀ (v4238 : BitVec 32) (k0_hw334 : k0_chk334 v4238), ∀ a, (k0_off666 v4238) a + S256x512.size a ≤ S32768x512.size a := fun v4238 k0_hw334 => k0_hw334.1
theorem k0_off666_wordsbf16 : ∀ (v4238 : BitVec 32) (k0_hw334 : k0_chk334 v4238), (Rect.unit (s := S32768x512) (k0_off666 v4238) S256x512.size (k0_off666_inb v4238 k0_hw334)).WholeWords (EltTy.packing .bf16) := fun v4238 k0_hw334 => k0_hw334.2 (k0_off666_inb v4238 k0_hw334)

def k0_off667 (v4 : BitVec 32) : Fin 1 → Nat :=
  let c10_i32_4052 : BitVec 32 := 10#32
  let v4245 : BitVec 32 := Scalar.subi v4 c10_i32_4052
  let c32_i32_4053 : BitVec 32 := 32#32
  let v4246 : BitVec 32 := Scalar.addi v4245 c32_i32_4053
  let c32_i32_4054 : BitVec 32 := 32#32
  let v4247 : BitVec 32 := Scalar.remsi v4246 c32_i32_4054
  let v4248 : Index := Scalar.indexCast v4247
  ![v4248.toNat]
def k0_off668 (v4249 : BitVec 32) : Fin 2 → Nat :=
  let c1024_i32_4055 : BitVec 32 := 1024#32
  let v4250 : BitVec 32 := Scalar.muli v4249 c1024_i32_4055
  let c768_i32_4056 : BitVec 32 := 768#32
  let v4251 : BitVec 32 := Scalar.addi v4250 c768_i32_4056
  let c0_i32_4062 : BitVec 32 := 0#32
  ![v4251.toNat, 0]

def k0_chk335 (v4249 : BitVec 32) : Prop :=
  (∀ a, (k0_off668 v4249) a + S256x512.size a ≤ S32768x512.size a) ∧
  (∀ (hinb : ∀ a, (k0_off668 v4249) a + S256x512.size a ≤ S32768x512.size a), (Rect.unit (s := S32768x512) (k0_off668 v4249) S256x512.size hinb).WholeWords (EltTy.packing .bf16))
theorem k0_off668_inb : ∀ (v4249 : BitVec 32) (k0_hw335 : k0_chk335 v4249), ∀ a, (k0_off668 v4249) a + S256x512.size a ≤ S32768x512.size a := fun v4249 k0_hw335 => k0_hw335.1
theorem k0_off668_wordsbf16 : ∀ (v4249 : BitVec 32) (k0_hw335 : k0_chk335 v4249), (Rect.unit (s := S32768x512) (k0_off668 v4249) S256x512.size (k0_off668_inb v4249 k0_hw335)).WholeWords (EltTy.packing .bf16) := fun v4249 k0_hw335 => k0_hw335.2 (k0_off668_inb v4249 k0_hw335)

def k0_off669 (v4 : BitVec 32) : Fin 1 → Nat :=
  let c10_i32_4064 : BitVec 32 := 10#32
  let v4256 : BitVec 32 := Scalar.addi v4 c10_i32_4064
  let c32_i32_4065 : BitVec 32 := 32#32
  let v4257 : BitVec 32 := Scalar.remsi v4256 c32_i32_4065
  let v4258 : Index := Scalar.indexCast v4257
  ![v4258.toNat]
def k0_off670 (v4259 : BitVec 32) : Fin 2 → Nat :=
  let c1024_i32_4066 : BitVec 32 := 1024#32
  let v4260 : BitVec 32 := Scalar.muli v4259 c1024_i32_4066
  let c0_i32_4067 : BitVec 32 := 0#32
  let v4261 : BitVec 32 := Scalar.addi v4260 c0_i32_4067
  let c0_i32_4073 : BitVec 32 := 0#32
  ![v4261.toNat, 0]

def k0_chk336 (v4259 : BitVec 32) : Prop :=
  (∀ a, (k0_off670 v4259) a + S256x512.size a ≤ S32768x512.size a) ∧
  (∀ (hinb : ∀ a, (k0_off670 v4259) a + S256x512.size a ≤ S32768x512.size a), (Rect.unit (s := S32768x512) (k0_off670 v4259) S256x512.size hinb).WholeWords (EltTy.packing .bf16))
theorem k0_off670_inb : ∀ (v4259 : BitVec 32) (k0_hw336 : k0_chk336 v4259), ∀ a, (k0_off670 v4259) a + S256x512.size a ≤ S32768x512.size a := fun v4259 k0_hw336 => k0_hw336.1
theorem k0_off670_wordsbf16 : ∀ (v4259 : BitVec 32) (k0_hw336 : k0_chk336 v4259), (Rect.unit (s := S32768x512) (k0_off670 v4259) S256x512.size (k0_off670_inb v4259 k0_hw336)).WholeWords (EltTy.packing .bf16) := fun v4259 k0_hw336 => k0_hw336.2 (k0_off670_inb v4259 k0_hw336)

def k0_off671 (v4 : BitVec 32) : Fin 1 → Nat :=
  let c10_i32_4075 : BitVec 32 := 10#32
  let v4266 : BitVec 32 := Scalar.addi v4 c10_i32_4075
  let c32_i32_4076 : BitVec 32 := 32#32
  let v4267 : BitVec 32 := Scalar.remsi v4266 c32_i32_4076
  let v4268 : Index := Scalar.indexCast v4267
  ![v4268.toNat]
def k0_off672 (v4269 : BitVec 32) : Fin 2 → Nat :=
  let c1024_i32_4077 : BitVec 32 := 1024#32
  let v4270 : BitVec 32 := Scalar.muli v4269 c1024_i32_4077
  let c256_i32_4078 : BitVec 32 := 256#32
  let v4271 : BitVec 32 := Scalar.addi v4270 c256_i32_4078
  let c0_i32_4084 : BitVec 32 := 0#32
  ![v4271.toNat, 0]

def k0_chk337 (v4269 : BitVec 32) : Prop :=
  (∀ a, (k0_off672 v4269) a + S256x512.size a ≤ S32768x512.size a) ∧
  (∀ (hinb : ∀ a, (k0_off672 v4269) a + S256x512.size a ≤ S32768x512.size a), (Rect.unit (s := S32768x512) (k0_off672 v4269) S256x512.size hinb).WholeWords (EltTy.packing .bf16))
theorem k0_off672_inb : ∀ (v4269 : BitVec 32) (k0_hw337 : k0_chk337 v4269), ∀ a, (k0_off672 v4269) a + S256x512.size a ≤ S32768x512.size a := fun v4269 k0_hw337 => k0_hw337.1
theorem k0_off672_wordsbf16 : ∀ (v4269 : BitVec 32) (k0_hw337 : k0_chk337 v4269), (Rect.unit (s := S32768x512) (k0_off672 v4269) S256x512.size (k0_off672_inb v4269 k0_hw337)).WholeWords (EltTy.packing .bf16) := fun v4269 k0_hw337 => k0_hw337.2 (k0_off672_inb v4269 k0_hw337)

def k0_off673 (v4 : BitVec 32) : Fin 1 → Nat :=
  let c10_i32_4086 : BitVec 32 := 10#32
  let v4276 : BitVec 32 := Scalar.addi v4 c10_i32_4086
  let c32_i32_4087 : BitVec 32 := 32#32
  let v4277 : BitVec 32 := Scalar.remsi v4276 c32_i32_4087
  let v4278 : Index := Scalar.indexCast v4277
  ![v4278.toNat]
def k0_off674 (v4279 : BitVec 32) : Fin 2 → Nat :=
  let c1024_i32_4088 : BitVec 32 := 1024#32
  let v4280 : BitVec 32 := Scalar.muli v4279 c1024_i32_4088
  let c512_i32_4089 : BitVec 32 := 512#32
  let v4281 : BitVec 32 := Scalar.addi v4280 c512_i32_4089
  let c0_i32_4095 : BitVec 32 := 0#32
  ![v4281.toNat, 0]

def k0_chk338 (v4279 : BitVec 32) : Prop :=
  (∀ a, (k0_off674 v4279) a + S256x512.size a ≤ S32768x512.size a) ∧
  (∀ (hinb : ∀ a, (k0_off674 v4279) a + S256x512.size a ≤ S32768x512.size a), (Rect.unit (s := S32768x512) (k0_off674 v4279) S256x512.size hinb).WholeWords (EltTy.packing .bf16))
theorem k0_off674_inb : ∀ (v4279 : BitVec 32) (k0_hw338 : k0_chk338 v4279), ∀ a, (k0_off674 v4279) a + S256x512.size a ≤ S32768x512.size a := fun v4279 k0_hw338 => k0_hw338.1
theorem k0_off674_wordsbf16 : ∀ (v4279 : BitVec 32) (k0_hw338 : k0_chk338 v4279), (Rect.unit (s := S32768x512) (k0_off674 v4279) S256x512.size (k0_off674_inb v4279 k0_hw338)).WholeWords (EltTy.packing .bf16) := fun v4279 k0_hw338 => k0_hw338.2 (k0_off674_inb v4279 k0_hw338)

def k0_off675 (v4 : BitVec 32) : Fin 1 → Nat :=
  let c10_i32_4097 : BitVec 32 := 10#32
  let v4286 : BitVec 32 := Scalar.addi v4 c10_i32_4097
  let c32_i32_4098 : BitVec 32 := 32#32
  let v4287 : BitVec 32 := Scalar.remsi v4286 c32_i32_4098
  let v4288 : Index := Scalar.indexCast v4287
  ![v4288.toNat]
def k0_off676 (v4289 : BitVec 32) : Fin 2 → Nat :=
  let c1024_i32_4099 : BitVec 32 := 1024#32
  let v4290 : BitVec 32 := Scalar.muli v4289 c1024_i32_4099
  let c768_i32_4100 : BitVec 32 := 768#32
  let v4291 : BitVec 32 := Scalar.addi v4290 c768_i32_4100
  let c0_i32_4106 : BitVec 32 := 0#32
  ![v4291.toNat, 0]

def k0_chk339 (v4289 : BitVec 32) : Prop :=
  (∀ a, (k0_off676 v4289) a + S256x512.size a ≤ S32768x512.size a) ∧
  (∀ (hinb : ∀ a, (k0_off676 v4289) a + S256x512.size a ≤ S32768x512.size a), (Rect.unit (s := S32768x512) (k0_off676 v4289) S256x512.size hinb).WholeWords (EltTy.packing .bf16))
theorem k0_off676_inb : ∀ (v4289 : BitVec 32) (k0_hw339 : k0_chk339 v4289), ∀ a, (k0_off676 v4289) a + S256x512.size a ≤ S32768x512.size a := fun v4289 k0_hw339 => k0_hw339.1
theorem k0_off676_wordsbf16 : ∀ (v4289 : BitVec 32) (k0_hw339 : k0_chk339 v4289), (Rect.unit (s := S32768x512) (k0_off676 v4289) S256x512.size (k0_off676_inb v4289 k0_hw339)).WholeWords (EltTy.packing .bf16) := fun v4289 k0_hw339 => k0_hw339.2 (k0_off676_inb v4289 k0_hw339)

def k0_off677 (v4 : BitVec 32) : Fin 1 → Nat :=
  let c11_i32_4108 : BitVec 32 := 11#32
  let v4296 : BitVec 32 := Scalar.subi v4 c11_i32_4108
  let c32_i32_4109 : BitVec 32 := 32#32
  let v4297 : BitVec 32 := Scalar.addi v4296 c32_i32_4109
  let c32_i32_4110 : BitVec 32 := 32#32
  let v4298 : BitVec 32 := Scalar.remsi v4297 c32_i32_4110
  let v4299 : Index := Scalar.indexCast v4298
  ![v4299.toNat]
def k0_off678 (v4300 : BitVec 32) : Fin 2 → Nat :=
  let c1024_i32_4111 : BitVec 32 := 1024#32
  let v4301 : BitVec 32 := Scalar.muli v4300 c1024_i32_4111
  let c0_i32_4112 : BitVec 32 := 0#32
  let v4302 : BitVec 32 := Scalar.addi v4301 c0_i32_4112
  let c0_i32_4118 : BitVec 32 := 0#32
  ![v4302.toNat, 0]

def k0_chk340 (v4300 : BitVec 32) : Prop :=
  (∀ a, (k0_off678 v4300) a + S256x512.size a ≤ S32768x512.size a) ∧
  (∀ (hinb : ∀ a, (k0_off678 v4300) a + S256x512.size a ≤ S32768x512.size a), (Rect.unit (s := S32768x512) (k0_off678 v4300) S256x512.size hinb).WholeWords (EltTy.packing .bf16))
theorem k0_off678_inb : ∀ (v4300 : BitVec 32) (k0_hw340 : k0_chk340 v4300), ∀ a, (k0_off678 v4300) a + S256x512.size a ≤ S32768x512.size a := fun v4300 k0_hw340 => k0_hw340.1
theorem k0_off678_wordsbf16 : ∀ (v4300 : BitVec 32) (k0_hw340 : k0_chk340 v4300), (Rect.unit (s := S32768x512) (k0_off678 v4300) S256x512.size (k0_off678_inb v4300 k0_hw340)).WholeWords (EltTy.packing .bf16) := fun v4300 k0_hw340 => k0_hw340.2 (k0_off678_inb v4300 k0_hw340)

def k0_off679 (v4 : BitVec 32) : Fin 1 → Nat :=
  let c11_i32_4120 : BitVec 32 := 11#32
  let v4307 : BitVec 32 := Scalar.subi v4 c11_i32_4120
  let c32_i32_4121 : BitVec 32 := 32#32
  let v4308 : BitVec 32 := Scalar.addi v4307 c32_i32_4121
  let c32_i32_4122 : BitVec 32 := 32#32
  let v4309 : BitVec 32 := Scalar.remsi v4308 c32_i32_4122
  let v4310 : Index := Scalar.indexCast v4309
  ![v4310.toNat]
def k0_off680 (v4311 : BitVec 32) : Fin 2 → Nat :=
  let c1024_i32_4123 : BitVec 32 := 1024#32
  let v4312 : BitVec 32 := Scalar.muli v4311 c1024_i32_4123
  let c256_i32_4124 : BitVec 32 := 256#32
  let v4313 : BitVec 32 := Scalar.addi v4312 c256_i32_4124
  let c0_i32_4130 : BitVec 32 := 0#32
  ![v4313.toNat, 0]

def k0_chk341 (v4311 : BitVec 32) : Prop :=
  (∀ a, (k0_off680 v4311) a + S256x512.size a ≤ S32768x512.size a) ∧
  (∀ (hinb : ∀ a, (k0_off680 v4311) a + S256x512.size a ≤ S32768x512.size a), (Rect.unit (s := S32768x512) (k0_off680 v4311) S256x512.size hinb).WholeWords (EltTy.packing .bf16))
theorem k0_off680_inb : ∀ (v4311 : BitVec 32) (k0_hw341 : k0_chk341 v4311), ∀ a, (k0_off680 v4311) a + S256x512.size a ≤ S32768x512.size a := fun v4311 k0_hw341 => k0_hw341.1
theorem k0_off680_wordsbf16 : ∀ (v4311 : BitVec 32) (k0_hw341 : k0_chk341 v4311), (Rect.unit (s := S32768x512) (k0_off680 v4311) S256x512.size (k0_off680_inb v4311 k0_hw341)).WholeWords (EltTy.packing .bf16) := fun v4311 k0_hw341 => k0_hw341.2 (k0_off680_inb v4311 k0_hw341)

def k0_off681 (v4 : BitVec 32) : Fin 1 → Nat :=
  let c11_i32_4132 : BitVec 32 := 11#32
  let v4318 : BitVec 32 := Scalar.subi v4 c11_i32_4132
  let c32_i32_4133 : BitVec 32 := 32#32
  let v4319 : BitVec 32 := Scalar.addi v4318 c32_i32_4133
  let c32_i32_4134 : BitVec 32 := 32#32
  let v4320 : BitVec 32 := Scalar.remsi v4319 c32_i32_4134
  let v4321 : Index := Scalar.indexCast v4320
  ![v4321.toNat]
def k0_off682 (v4322 : BitVec 32) : Fin 2 → Nat :=
  let c1024_i32_4135 : BitVec 32 := 1024#32
  let v4323 : BitVec 32 := Scalar.muli v4322 c1024_i32_4135
  let c512_i32_4136 : BitVec 32 := 512#32
  let v4324 : BitVec 32 := Scalar.addi v4323 c512_i32_4136
  let c0_i32_4142 : BitVec 32 := 0#32
  ![v4324.toNat, 0]

def k0_chk342 (v4322 : BitVec 32) : Prop :=
  (∀ a, (k0_off682 v4322) a + S256x512.size a ≤ S32768x512.size a) ∧
  (∀ (hinb : ∀ a, (k0_off682 v4322) a + S256x512.size a ≤ S32768x512.size a), (Rect.unit (s := S32768x512) (k0_off682 v4322) S256x512.size hinb).WholeWords (EltTy.packing .bf16))
theorem k0_off682_inb : ∀ (v4322 : BitVec 32) (k0_hw342 : k0_chk342 v4322), ∀ a, (k0_off682 v4322) a + S256x512.size a ≤ S32768x512.size a := fun v4322 k0_hw342 => k0_hw342.1
theorem k0_off682_wordsbf16 : ∀ (v4322 : BitVec 32) (k0_hw342 : k0_chk342 v4322), (Rect.unit (s := S32768x512) (k0_off682 v4322) S256x512.size (k0_off682_inb v4322 k0_hw342)).WholeWords (EltTy.packing .bf16) := fun v4322 k0_hw342 => k0_hw342.2 (k0_off682_inb v4322 k0_hw342)

def k0_off683 (v4 : BitVec 32) : Fin 1 → Nat :=
  let c11_i32_4144 : BitVec 32 := 11#32
  let v4329 : BitVec 32 := Scalar.subi v4 c11_i32_4144
  let c32_i32_4145 : BitVec 32 := 32#32
  let v4330 : BitVec 32 := Scalar.addi v4329 c32_i32_4145
  let c32_i32_4146 : BitVec 32 := 32#32
  let v4331 : BitVec 32 := Scalar.remsi v4330 c32_i32_4146
  let v4332 : Index := Scalar.indexCast v4331
  ![v4332.toNat]
def k0_off684 (v4333 : BitVec 32) : Fin 2 → Nat :=
  let c1024_i32_4147 : BitVec 32 := 1024#32
  let v4334 : BitVec 32 := Scalar.muli v4333 c1024_i32_4147
  let c768_i32_4148 : BitVec 32 := 768#32
  let v4335 : BitVec 32 := Scalar.addi v4334 c768_i32_4148
  let c0_i32_4154 : BitVec 32 := 0#32
  ![v4335.toNat, 0]

def k0_chk343 (v4333 : BitVec 32) : Prop :=
  (∀ a, (k0_off684 v4333) a + S256x512.size a ≤ S32768x512.size a) ∧
  (∀ (hinb : ∀ a, (k0_off684 v4333) a + S256x512.size a ≤ S32768x512.size a), (Rect.unit (s := S32768x512) (k0_off684 v4333) S256x512.size hinb).WholeWords (EltTy.packing .bf16))
theorem k0_off684_inb : ∀ (v4333 : BitVec 32) (k0_hw343 : k0_chk343 v4333), ∀ a, (k0_off684 v4333) a + S256x512.size a ≤ S32768x512.size a := fun v4333 k0_hw343 => k0_hw343.1
theorem k0_off684_wordsbf16 : ∀ (v4333 : BitVec 32) (k0_hw343 : k0_chk343 v4333), (Rect.unit (s := S32768x512) (k0_off684 v4333) S256x512.size (k0_off684_inb v4333 k0_hw343)).WholeWords (EltTy.packing .bf16) := fun v4333 k0_hw343 => k0_hw343.2 (k0_off684_inb v4333 k0_hw343)

def k0_off685 (v4 : BitVec 32) : Fin 1 → Nat :=
  let c11_i32_4156 : BitVec 32 := 11#32
  let v4340 : BitVec 32 := Scalar.addi v4 c11_i32_4156
  let c32_i32_4157 : BitVec 32 := 32#32
  let v4341 : BitVec 32 := Scalar.remsi v4340 c32_i32_4157
  let v4342 : Index := Scalar.indexCast v4341
  ![v4342.toNat]
def k0_off686 (v4343 : BitVec 32) : Fin 2 → Nat :=
  let c1024_i32_4158 : BitVec 32 := 1024#32
  let v4344 : BitVec 32 := Scalar.muli v4343 c1024_i32_4158
  let c0_i32_4159 : BitVec 32 := 0#32
  let v4345 : BitVec 32 := Scalar.addi v4344 c0_i32_4159
  let c0_i32_4165 : BitVec 32 := 0#32
  ![v4345.toNat, 0]

def k0_chk344 (v4343 : BitVec 32) : Prop :=
  (∀ a, (k0_off686 v4343) a + S256x512.size a ≤ S32768x512.size a) ∧
  (∀ (hinb : ∀ a, (k0_off686 v4343) a + S256x512.size a ≤ S32768x512.size a), (Rect.unit (s := S32768x512) (k0_off686 v4343) S256x512.size hinb).WholeWords (EltTy.packing .bf16))
theorem k0_off686_inb : ∀ (v4343 : BitVec 32) (k0_hw344 : k0_chk344 v4343), ∀ a, (k0_off686 v4343) a + S256x512.size a ≤ S32768x512.size a := fun v4343 k0_hw344 => k0_hw344.1
theorem k0_off686_wordsbf16 : ∀ (v4343 : BitVec 32) (k0_hw344 : k0_chk344 v4343), (Rect.unit (s := S32768x512) (k0_off686 v4343) S256x512.size (k0_off686_inb v4343 k0_hw344)).WholeWords (EltTy.packing .bf16) := fun v4343 k0_hw344 => k0_hw344.2 (k0_off686_inb v4343 k0_hw344)

def k0_off687 (v4 : BitVec 32) : Fin 1 → Nat :=
  let c11_i32_4167 : BitVec 32 := 11#32
  let v4350 : BitVec 32 := Scalar.addi v4 c11_i32_4167
  let c32_i32_4168 : BitVec 32 := 32#32
  let v4351 : BitVec 32 := Scalar.remsi v4350 c32_i32_4168
  let v4352 : Index := Scalar.indexCast v4351
  ![v4352.toNat]
def k0_off688 (v4353 : BitVec 32) : Fin 2 → Nat :=
  let c1024_i32_4169 : BitVec 32 := 1024#32
  let v4354 : BitVec 32 := Scalar.muli v4353 c1024_i32_4169
  let c256_i32_4170 : BitVec 32 := 256#32
  let v4355 : BitVec 32 := Scalar.addi v4354 c256_i32_4170
  let c0_i32_4176 : BitVec 32 := 0#32
  ![v4355.toNat, 0]

def k0_chk345 (v4353 : BitVec 32) : Prop :=
  (∀ a, (k0_off688 v4353) a + S256x512.size a ≤ S32768x512.size a) ∧
  (∀ (hinb : ∀ a, (k0_off688 v4353) a + S256x512.size a ≤ S32768x512.size a), (Rect.unit (s := S32768x512) (k0_off688 v4353) S256x512.size hinb).WholeWords (EltTy.packing .bf16))
theorem k0_off688_inb : ∀ (v4353 : BitVec 32) (k0_hw345 : k0_chk345 v4353), ∀ a, (k0_off688 v4353) a + S256x512.size a ≤ S32768x512.size a := fun v4353 k0_hw345 => k0_hw345.1
theorem k0_off688_wordsbf16 : ∀ (v4353 : BitVec 32) (k0_hw345 : k0_chk345 v4353), (Rect.unit (s := S32768x512) (k0_off688 v4353) S256x512.size (k0_off688_inb v4353 k0_hw345)).WholeWords (EltTy.packing .bf16) := fun v4353 k0_hw345 => k0_hw345.2 (k0_off688_inb v4353 k0_hw345)

def k0_off689 (v4 : BitVec 32) : Fin 1 → Nat :=
  let c11_i32_4178 : BitVec 32 := 11#32
  let v4360 : BitVec 32 := Scalar.addi v4 c11_i32_4178
  let c32_i32_4179 : BitVec 32 := 32#32
  let v4361 : BitVec 32 := Scalar.remsi v4360 c32_i32_4179
  let v4362 : Index := Scalar.indexCast v4361
  ![v4362.toNat]
def k0_off690 (v4363 : BitVec 32) : Fin 2 → Nat :=
  let c1024_i32_4180 : BitVec 32 := 1024#32
  let v4364 : BitVec 32 := Scalar.muli v4363 c1024_i32_4180
  let c512_i32_4181 : BitVec 32 := 512#32
  let v4365 : BitVec 32 := Scalar.addi v4364 c512_i32_4181
  let c0_i32_4187 : BitVec 32 := 0#32
  ![v4365.toNat, 0]

def k0_chk346 (v4363 : BitVec 32) : Prop :=
  (∀ a, (k0_off690 v4363) a + S256x512.size a ≤ S32768x512.size a) ∧
  (∀ (hinb : ∀ a, (k0_off690 v4363) a + S256x512.size a ≤ S32768x512.size a), (Rect.unit (s := S32768x512) (k0_off690 v4363) S256x512.size hinb).WholeWords (EltTy.packing .bf16))
theorem k0_off690_inb : ∀ (v4363 : BitVec 32) (k0_hw346 : k0_chk346 v4363), ∀ a, (k0_off690 v4363) a + S256x512.size a ≤ S32768x512.size a := fun v4363 k0_hw346 => k0_hw346.1
theorem k0_off690_wordsbf16 : ∀ (v4363 : BitVec 32) (k0_hw346 : k0_chk346 v4363), (Rect.unit (s := S32768x512) (k0_off690 v4363) S256x512.size (k0_off690_inb v4363 k0_hw346)).WholeWords (EltTy.packing .bf16) := fun v4363 k0_hw346 => k0_hw346.2 (k0_off690_inb v4363 k0_hw346)

def k0_off691 (v4 : BitVec 32) : Fin 1 → Nat :=
  let c11_i32_4189 : BitVec 32 := 11#32
  let v4370 : BitVec 32 := Scalar.addi v4 c11_i32_4189
  let c32_i32_4190 : BitVec 32 := 32#32
  let v4371 : BitVec 32 := Scalar.remsi v4370 c32_i32_4190
  let v4372 : Index := Scalar.indexCast v4371
  ![v4372.toNat]
def k0_off692 (v4373 : BitVec 32) : Fin 2 → Nat :=
  let c1024_i32_4191 : BitVec 32 := 1024#32
  let v4374 : BitVec 32 := Scalar.muli v4373 c1024_i32_4191
  let c768_i32_4192 : BitVec 32 := 768#32
  let v4375 : BitVec 32 := Scalar.addi v4374 c768_i32_4192
  let c0_i32_4198 : BitVec 32 := 0#32
  ![v4375.toNat, 0]

def k0_chk347 (v4373 : BitVec 32) : Prop :=
  (∀ a, (k0_off692 v4373) a + S256x512.size a ≤ S32768x512.size a) ∧
  (∀ (hinb : ∀ a, (k0_off692 v4373) a + S256x512.size a ≤ S32768x512.size a), (Rect.unit (s := S32768x512) (k0_off692 v4373) S256x512.size hinb).WholeWords (EltTy.packing .bf16))
theorem k0_off692_inb : ∀ (v4373 : BitVec 32) (k0_hw347 : k0_chk347 v4373), ∀ a, (k0_off692 v4373) a + S256x512.size a ≤ S32768x512.size a := fun v4373 k0_hw347 => k0_hw347.1
theorem k0_off692_wordsbf16 : ∀ (v4373 : BitVec 32) (k0_hw347 : k0_chk347 v4373), (Rect.unit (s := S32768x512) (k0_off692 v4373) S256x512.size (k0_off692_inb v4373 k0_hw347)).WholeWords (EltTy.packing .bf16) := fun v4373 k0_hw347 => k0_hw347.2 (k0_off692_inb v4373 k0_hw347)

def k0_off693 (v4 : BitVec 32) : Fin 1 → Nat :=
  let c12_i32_4200 : BitVec 32 := 12#32
  let v4380 : BitVec 32 := Scalar.subi v4 c12_i32_4200
  let c32_i32_4201 : BitVec 32 := 32#32
  let v4381 : BitVec 32 := Scalar.addi v4380 c32_i32_4201
  let c32_i32_4202 : BitVec 32 := 32#32
  let v4382 : BitVec 32 := Scalar.remsi v4381 c32_i32_4202
  let v4383 : Index := Scalar.indexCast v4382
  ![v4383.toNat]
def k0_off694 (v4384 : BitVec 32) : Fin 2 → Nat :=
  let c1024_i32_4203 : BitVec 32 := 1024#32
  let v4385 : BitVec 32 := Scalar.muli v4384 c1024_i32_4203
  let c0_i32_4204 : BitVec 32 := 0#32
  let v4386 : BitVec 32 := Scalar.addi v4385 c0_i32_4204
  let c0_i32_4210 : BitVec 32 := 0#32
  ![v4386.toNat, 0]

def k0_chk348 (v4384 : BitVec 32) : Prop :=
  (∀ a, (k0_off694 v4384) a + S256x512.size a ≤ S32768x512.size a) ∧
  (∀ (hinb : ∀ a, (k0_off694 v4384) a + S256x512.size a ≤ S32768x512.size a), (Rect.unit (s := S32768x512) (k0_off694 v4384) S256x512.size hinb).WholeWords (EltTy.packing .bf16))
theorem k0_off694_inb : ∀ (v4384 : BitVec 32) (k0_hw348 : k0_chk348 v4384), ∀ a, (k0_off694 v4384) a + S256x512.size a ≤ S32768x512.size a := fun v4384 k0_hw348 => k0_hw348.1
theorem k0_off694_wordsbf16 : ∀ (v4384 : BitVec 32) (k0_hw348 : k0_chk348 v4384), (Rect.unit (s := S32768x512) (k0_off694 v4384) S256x512.size (k0_off694_inb v4384 k0_hw348)).WholeWords (EltTy.packing .bf16) := fun v4384 k0_hw348 => k0_hw348.2 (k0_off694_inb v4384 k0_hw348)

def k0_off695 (v4 : BitVec 32) : Fin 1 → Nat :=
  let c12_i32_4212 : BitVec 32 := 12#32
  let v4391 : BitVec 32 := Scalar.subi v4 c12_i32_4212
  let c32_i32_4213 : BitVec 32 := 32#32
  let v4392 : BitVec 32 := Scalar.addi v4391 c32_i32_4213
  let c32_i32_4214 : BitVec 32 := 32#32
  let v4393 : BitVec 32 := Scalar.remsi v4392 c32_i32_4214
  let v4394 : Index := Scalar.indexCast v4393
  ![v4394.toNat]
def k0_off696 (v4395 : BitVec 32) : Fin 2 → Nat :=
  let c1024_i32_4215 : BitVec 32 := 1024#32
  let v4396 : BitVec 32 := Scalar.muli v4395 c1024_i32_4215
  let c256_i32_4216 : BitVec 32 := 256#32
  let v4397 : BitVec 32 := Scalar.addi v4396 c256_i32_4216
  let c0_i32_4222 : BitVec 32 := 0#32
  ![v4397.toNat, 0]

def k0_chk349 (v4395 : BitVec 32) : Prop :=
  (∀ a, (k0_off696 v4395) a + S256x512.size a ≤ S32768x512.size a) ∧
  (∀ (hinb : ∀ a, (k0_off696 v4395) a + S256x512.size a ≤ S32768x512.size a), (Rect.unit (s := S32768x512) (k0_off696 v4395) S256x512.size hinb).WholeWords (EltTy.packing .bf16))
theorem k0_off696_inb : ∀ (v4395 : BitVec 32) (k0_hw349 : k0_chk349 v4395), ∀ a, (k0_off696 v4395) a + S256x512.size a ≤ S32768x512.size a := fun v4395 k0_hw349 => k0_hw349.1
theorem k0_off696_wordsbf16 : ∀ (v4395 : BitVec 32) (k0_hw349 : k0_chk349 v4395), (Rect.unit (s := S32768x512) (k0_off696 v4395) S256x512.size (k0_off696_inb v4395 k0_hw349)).WholeWords (EltTy.packing .bf16) := fun v4395 k0_hw349 => k0_hw349.2 (k0_off696_inb v4395 k0_hw349)

def k0_off697 (v4 : BitVec 32) : Fin 1 → Nat :=
  let c12_i32_4224 : BitVec 32 := 12#32
  let v4402 : BitVec 32 := Scalar.subi v4 c12_i32_4224
  let c32_i32_4225 : BitVec 32 := 32#32
  let v4403 : BitVec 32 := Scalar.addi v4402 c32_i32_4225
  let c32_i32_4226 : BitVec 32 := 32#32
  let v4404 : BitVec 32 := Scalar.remsi v4403 c32_i32_4226
  let v4405 : Index := Scalar.indexCast v4404
  ![v4405.toNat]
def k0_off698 (v4406 : BitVec 32) : Fin 2 → Nat :=
  let c1024_i32_4227 : BitVec 32 := 1024#32
  let v4407 : BitVec 32 := Scalar.muli v4406 c1024_i32_4227
  let c512_i32_4228 : BitVec 32 := 512#32
  let v4408 : BitVec 32 := Scalar.addi v4407 c512_i32_4228
  let c0_i32_4234 : BitVec 32 := 0#32
  ![v4408.toNat, 0]

def k0_chk350 (v4406 : BitVec 32) : Prop :=
  (∀ a, (k0_off698 v4406) a + S256x512.size a ≤ S32768x512.size a) ∧
  (∀ (hinb : ∀ a, (k0_off698 v4406) a + S256x512.size a ≤ S32768x512.size a), (Rect.unit (s := S32768x512) (k0_off698 v4406) S256x512.size hinb).WholeWords (EltTy.packing .bf16))
theorem k0_off698_inb : ∀ (v4406 : BitVec 32) (k0_hw350 : k0_chk350 v4406), ∀ a, (k0_off698 v4406) a + S256x512.size a ≤ S32768x512.size a := fun v4406 k0_hw350 => k0_hw350.1
theorem k0_off698_wordsbf16 : ∀ (v4406 : BitVec 32) (k0_hw350 : k0_chk350 v4406), (Rect.unit (s := S32768x512) (k0_off698 v4406) S256x512.size (k0_off698_inb v4406 k0_hw350)).WholeWords (EltTy.packing .bf16) := fun v4406 k0_hw350 => k0_hw350.2 (k0_off698_inb v4406 k0_hw350)

def k0_off699 (v4 : BitVec 32) : Fin 1 → Nat :=
  let c12_i32_4236 : BitVec 32 := 12#32
  let v4413 : BitVec 32 := Scalar.subi v4 c12_i32_4236
  let c32_i32_4237 : BitVec 32 := 32#32
  let v4414 : BitVec 32 := Scalar.addi v4413 c32_i32_4237
  let c32_i32_4238 : BitVec 32 := 32#32
  let v4415 : BitVec 32 := Scalar.remsi v4414 c32_i32_4238
  let v4416 : Index := Scalar.indexCast v4415
  ![v4416.toNat]
def k0_off700 (v4417 : BitVec 32) : Fin 2 → Nat :=
  let c1024_i32_4239 : BitVec 32 := 1024#32
  let v4418 : BitVec 32 := Scalar.muli v4417 c1024_i32_4239
  let c768_i32_4240 : BitVec 32 := 768#32
  let v4419 : BitVec 32 := Scalar.addi v4418 c768_i32_4240
  let c0_i32_4246 : BitVec 32 := 0#32
  ![v4419.toNat, 0]

def k0_chk351 (v4417 : BitVec 32) : Prop :=
  (∀ a, (k0_off700 v4417) a + S256x512.size a ≤ S32768x512.size a) ∧
  (∀ (hinb : ∀ a, (k0_off700 v4417) a + S256x512.size a ≤ S32768x512.size a), (Rect.unit (s := S32768x512) (k0_off700 v4417) S256x512.size hinb).WholeWords (EltTy.packing .bf16))
theorem k0_off700_inb : ∀ (v4417 : BitVec 32) (k0_hw351 : k0_chk351 v4417), ∀ a, (k0_off700 v4417) a + S256x512.size a ≤ S32768x512.size a := fun v4417 k0_hw351 => k0_hw351.1
theorem k0_off700_wordsbf16 : ∀ (v4417 : BitVec 32) (k0_hw351 : k0_chk351 v4417), (Rect.unit (s := S32768x512) (k0_off700 v4417) S256x512.size (k0_off700_inb v4417 k0_hw351)).WholeWords (EltTy.packing .bf16) := fun v4417 k0_hw351 => k0_hw351.2 (k0_off700_inb v4417 k0_hw351)

def k0_off701 (v4 : BitVec 32) : Fin 1 → Nat :=
  let c12_i32_4248 : BitVec 32 := 12#32
  let v4424 : BitVec 32 := Scalar.addi v4 c12_i32_4248
  let c32_i32_4249 : BitVec 32 := 32#32
  let v4425 : BitVec 32 := Scalar.remsi v4424 c32_i32_4249
  let v4426 : Index := Scalar.indexCast v4425
  ![v4426.toNat]
def k0_off702 (v4427 : BitVec 32) : Fin 2 → Nat :=
  let c1024_i32_4250 : BitVec 32 := 1024#32
  let v4428 : BitVec 32 := Scalar.muli v4427 c1024_i32_4250
  let c0_i32_4251 : BitVec 32 := 0#32
  let v4429 : BitVec 32 := Scalar.addi v4428 c0_i32_4251
  let c0_i32_4257 : BitVec 32 := 0#32
  ![v4429.toNat, 0]

def k0_chk352 (v4427 : BitVec 32) : Prop :=
  (∀ a, (k0_off702 v4427) a + S256x512.size a ≤ S32768x512.size a) ∧
  (∀ (hinb : ∀ a, (k0_off702 v4427) a + S256x512.size a ≤ S32768x512.size a), (Rect.unit (s := S32768x512) (k0_off702 v4427) S256x512.size hinb).WholeWords (EltTy.packing .bf16))
theorem k0_off702_inb : ∀ (v4427 : BitVec 32) (k0_hw352 : k0_chk352 v4427), ∀ a, (k0_off702 v4427) a + S256x512.size a ≤ S32768x512.size a := fun v4427 k0_hw352 => k0_hw352.1
theorem k0_off702_wordsbf16 : ∀ (v4427 : BitVec 32) (k0_hw352 : k0_chk352 v4427), (Rect.unit (s := S32768x512) (k0_off702 v4427) S256x512.size (k0_off702_inb v4427 k0_hw352)).WholeWords (EltTy.packing .bf16) := fun v4427 k0_hw352 => k0_hw352.2 (k0_off702_inb v4427 k0_hw352)

def k0_off703 (v4 : BitVec 32) : Fin 1 → Nat :=
  let c12_i32_4259 : BitVec 32 := 12#32
  let v4434 : BitVec 32 := Scalar.addi v4 c12_i32_4259
  let c32_i32_4260 : BitVec 32 := 32#32
  let v4435 : BitVec 32 := Scalar.remsi v4434 c32_i32_4260
  let v4436 : Index := Scalar.indexCast v4435
  ![v4436.toNat]
def k0_off704 (v4437 : BitVec 32) : Fin 2 → Nat :=
  let c1024_i32_4261 : BitVec 32 := 1024#32
  let v4438 : BitVec 32 := Scalar.muli v4437 c1024_i32_4261
  let c256_i32_4262 : BitVec 32 := 256#32
  let v4439 : BitVec 32 := Scalar.addi v4438 c256_i32_4262
  let c0_i32_4268 : BitVec 32 := 0#32
  ![v4439.toNat, 0]

def k0_chk353 (v4437 : BitVec 32) : Prop :=
  (∀ a, (k0_off704 v4437) a + S256x512.size a ≤ S32768x512.size a) ∧
  (∀ (hinb : ∀ a, (k0_off704 v4437) a + S256x512.size a ≤ S32768x512.size a), (Rect.unit (s := S32768x512) (k0_off704 v4437) S256x512.size hinb).WholeWords (EltTy.packing .bf16))
theorem k0_off704_inb : ∀ (v4437 : BitVec 32) (k0_hw353 : k0_chk353 v4437), ∀ a, (k0_off704 v4437) a + S256x512.size a ≤ S32768x512.size a := fun v4437 k0_hw353 => k0_hw353.1
theorem k0_off704_wordsbf16 : ∀ (v4437 : BitVec 32) (k0_hw353 : k0_chk353 v4437), (Rect.unit (s := S32768x512) (k0_off704 v4437) S256x512.size (k0_off704_inb v4437 k0_hw353)).WholeWords (EltTy.packing .bf16) := fun v4437 k0_hw353 => k0_hw353.2 (k0_off704_inb v4437 k0_hw353)

def k0_off705 (v4 : BitVec 32) : Fin 1 → Nat :=
  let c12_i32_4270 : BitVec 32 := 12#32
  let v4444 : BitVec 32 := Scalar.addi v4 c12_i32_4270
  let c32_i32_4271 : BitVec 32 := 32#32
  let v4445 : BitVec 32 := Scalar.remsi v4444 c32_i32_4271
  let v4446 : Index := Scalar.indexCast v4445
  ![v4446.toNat]
def k0_off706 (v4447 : BitVec 32) : Fin 2 → Nat :=
  let c1024_i32_4272 : BitVec 32 := 1024#32
  let v4448 : BitVec 32 := Scalar.muli v4447 c1024_i32_4272
  let c512_i32_4273 : BitVec 32 := 512#32
  let v4449 : BitVec 32 := Scalar.addi v4448 c512_i32_4273
  let c0_i32_4279 : BitVec 32 := 0#32
  ![v4449.toNat, 0]

def k0_chk354 (v4447 : BitVec 32) : Prop :=
  (∀ a, (k0_off706 v4447) a + S256x512.size a ≤ S32768x512.size a) ∧
  (∀ (hinb : ∀ a, (k0_off706 v4447) a + S256x512.size a ≤ S32768x512.size a), (Rect.unit (s := S32768x512) (k0_off706 v4447) S256x512.size hinb).WholeWords (EltTy.packing .bf16))
theorem k0_off706_inb : ∀ (v4447 : BitVec 32) (k0_hw354 : k0_chk354 v4447), ∀ a, (k0_off706 v4447) a + S256x512.size a ≤ S32768x512.size a := fun v4447 k0_hw354 => k0_hw354.1
theorem k0_off706_wordsbf16 : ∀ (v4447 : BitVec 32) (k0_hw354 : k0_chk354 v4447), (Rect.unit (s := S32768x512) (k0_off706 v4447) S256x512.size (k0_off706_inb v4447 k0_hw354)).WholeWords (EltTy.packing .bf16) := fun v4447 k0_hw354 => k0_hw354.2 (k0_off706_inb v4447 k0_hw354)

def k0_off707 (v4 : BitVec 32) : Fin 1 → Nat :=
  let c12_i32_4281 : BitVec 32 := 12#32
  let v4454 : BitVec 32 := Scalar.addi v4 c12_i32_4281
  let c32_i32_4282 : BitVec 32 := 32#32
  let v4455 : BitVec 32 := Scalar.remsi v4454 c32_i32_4282
  let v4456 : Index := Scalar.indexCast v4455
  ![v4456.toNat]
def k0_off708 (v4457 : BitVec 32) : Fin 2 → Nat :=
  let c1024_i32_4283 : BitVec 32 := 1024#32
  let v4458 : BitVec 32 := Scalar.muli v4457 c1024_i32_4283
  let c768_i32_4284 : BitVec 32 := 768#32
  let v4459 : BitVec 32 := Scalar.addi v4458 c768_i32_4284
  let c0_i32_4290 : BitVec 32 := 0#32
  ![v4459.toNat, 0]

def k0_chk355 (v4457 : BitVec 32) : Prop :=
  (∀ a, (k0_off708 v4457) a + S256x512.size a ≤ S32768x512.size a) ∧
  (∀ (hinb : ∀ a, (k0_off708 v4457) a + S256x512.size a ≤ S32768x512.size a), (Rect.unit (s := S32768x512) (k0_off708 v4457) S256x512.size hinb).WholeWords (EltTy.packing .bf16))
theorem k0_off708_inb : ∀ (v4457 : BitVec 32) (k0_hw355 : k0_chk355 v4457), ∀ a, (k0_off708 v4457) a + S256x512.size a ≤ S32768x512.size a := fun v4457 k0_hw355 => k0_hw355.1
theorem k0_off708_wordsbf16 : ∀ (v4457 : BitVec 32) (k0_hw355 : k0_chk355 v4457), (Rect.unit (s := S32768x512) (k0_off708 v4457) S256x512.size (k0_off708_inb v4457 k0_hw355)).WholeWords (EltTy.packing .bf16) := fun v4457 k0_hw355 => k0_hw355.2 (k0_off708_inb v4457 k0_hw355)

def k0_off709 (v4 : BitVec 32) : Fin 1 → Nat :=
  let c13_i32_4292 : BitVec 32 := 13#32
  let v4464 : BitVec 32 := Scalar.subi v4 c13_i32_4292
  let c32_i32_4293 : BitVec 32 := 32#32
  let v4465 : BitVec 32 := Scalar.addi v4464 c32_i32_4293
  let c32_i32_4294 : BitVec 32 := 32#32
  let v4466 : BitVec 32 := Scalar.remsi v4465 c32_i32_4294
  let v4467 : Index := Scalar.indexCast v4466
  ![v4467.toNat]
def k0_off710 (v4468 : BitVec 32) : Fin 2 → Nat :=
  let c1024_i32_4295 : BitVec 32 := 1024#32
  let v4469 : BitVec 32 := Scalar.muli v4468 c1024_i32_4295
  let c0_i32_4296 : BitVec 32 := 0#32
  let v4470 : BitVec 32 := Scalar.addi v4469 c0_i32_4296
  let c0_i32_4302 : BitVec 32 := 0#32
  ![v4470.toNat, 0]

def k0_chk356 (v4468 : BitVec 32) : Prop :=
  (∀ a, (k0_off710 v4468) a + S256x512.size a ≤ S32768x512.size a) ∧
  (∀ (hinb : ∀ a, (k0_off710 v4468) a + S256x512.size a ≤ S32768x512.size a), (Rect.unit (s := S32768x512) (k0_off710 v4468) S256x512.size hinb).WholeWords (EltTy.packing .bf16))
theorem k0_off710_inb : ∀ (v4468 : BitVec 32) (k0_hw356 : k0_chk356 v4468), ∀ a, (k0_off710 v4468) a + S256x512.size a ≤ S32768x512.size a := fun v4468 k0_hw356 => k0_hw356.1
theorem k0_off710_wordsbf16 : ∀ (v4468 : BitVec 32) (k0_hw356 : k0_chk356 v4468), (Rect.unit (s := S32768x512) (k0_off710 v4468) S256x512.size (k0_off710_inb v4468 k0_hw356)).WholeWords (EltTy.packing .bf16) := fun v4468 k0_hw356 => k0_hw356.2 (k0_off710_inb v4468 k0_hw356)

def k0_off711 (v4 : BitVec 32) : Fin 1 → Nat :=
  let c13_i32_4304 : BitVec 32 := 13#32
  let v4475 : BitVec 32 := Scalar.subi v4 c13_i32_4304
  let c32_i32_4305 : BitVec 32 := 32#32
  let v4476 : BitVec 32 := Scalar.addi v4475 c32_i32_4305
  let c32_i32_4306 : BitVec 32 := 32#32
  let v4477 : BitVec 32 := Scalar.remsi v4476 c32_i32_4306
  let v4478 : Index := Scalar.indexCast v4477
  ![v4478.toNat]
def k0_off712 (v4479 : BitVec 32) : Fin 2 → Nat :=
  let c1024_i32_4307 : BitVec 32 := 1024#32
  let v4480 : BitVec 32 := Scalar.muli v4479 c1024_i32_4307
  let c256_i32_4308 : BitVec 32 := 256#32
  let v4481 : BitVec 32 := Scalar.addi v4480 c256_i32_4308
  let c0_i32_4314 : BitVec 32 := 0#32
  ![v4481.toNat, 0]

def k0_chk357 (v4479 : BitVec 32) : Prop :=
  (∀ a, (k0_off712 v4479) a + S256x512.size a ≤ S32768x512.size a) ∧
  (∀ (hinb : ∀ a, (k0_off712 v4479) a + S256x512.size a ≤ S32768x512.size a), (Rect.unit (s := S32768x512) (k0_off712 v4479) S256x512.size hinb).WholeWords (EltTy.packing .bf16))
theorem k0_off712_inb : ∀ (v4479 : BitVec 32) (k0_hw357 : k0_chk357 v4479), ∀ a, (k0_off712 v4479) a + S256x512.size a ≤ S32768x512.size a := fun v4479 k0_hw357 => k0_hw357.1
theorem k0_off712_wordsbf16 : ∀ (v4479 : BitVec 32) (k0_hw357 : k0_chk357 v4479), (Rect.unit (s := S32768x512) (k0_off712 v4479) S256x512.size (k0_off712_inb v4479 k0_hw357)).WholeWords (EltTy.packing .bf16) := fun v4479 k0_hw357 => k0_hw357.2 (k0_off712_inb v4479 k0_hw357)

def k0_off713 (v4 : BitVec 32) : Fin 1 → Nat :=
  let c13_i32_4316 : BitVec 32 := 13#32
  let v4486 : BitVec 32 := Scalar.subi v4 c13_i32_4316
  let c32_i32_4317 : BitVec 32 := 32#32
  let v4487 : BitVec 32 := Scalar.addi v4486 c32_i32_4317
  let c32_i32_4318 : BitVec 32 := 32#32
  let v4488 : BitVec 32 := Scalar.remsi v4487 c32_i32_4318
  let v4489 : Index := Scalar.indexCast v4488
  ![v4489.toNat]
def k0_off714 (v4490 : BitVec 32) : Fin 2 → Nat :=
  let c1024_i32_4319 : BitVec 32 := 1024#32
  let v4491 : BitVec 32 := Scalar.muli v4490 c1024_i32_4319
  let c512_i32_4320 : BitVec 32 := 512#32
  let v4492 : BitVec 32 := Scalar.addi v4491 c512_i32_4320
  let c0_i32_4326 : BitVec 32 := 0#32
  ![v4492.toNat, 0]

def k0_chk358 (v4490 : BitVec 32) : Prop :=
  (∀ a, (k0_off714 v4490) a + S256x512.size a ≤ S32768x512.size a) ∧
  (∀ (hinb : ∀ a, (k0_off714 v4490) a + S256x512.size a ≤ S32768x512.size a), (Rect.unit (s := S32768x512) (k0_off714 v4490) S256x512.size hinb).WholeWords (EltTy.packing .bf16))
theorem k0_off714_inb : ∀ (v4490 : BitVec 32) (k0_hw358 : k0_chk358 v4490), ∀ a, (k0_off714 v4490) a + S256x512.size a ≤ S32768x512.size a := fun v4490 k0_hw358 => k0_hw358.1
theorem k0_off714_wordsbf16 : ∀ (v4490 : BitVec 32) (k0_hw358 : k0_chk358 v4490), (Rect.unit (s := S32768x512) (k0_off714 v4490) S256x512.size (k0_off714_inb v4490 k0_hw358)).WholeWords (EltTy.packing .bf16) := fun v4490 k0_hw358 => k0_hw358.2 (k0_off714_inb v4490 k0_hw358)

def k0_off715 (v4 : BitVec 32) : Fin 1 → Nat :=
  let c13_i32_4328 : BitVec 32 := 13#32
  let v4497 : BitVec 32 := Scalar.subi v4 c13_i32_4328
  let c32_i32_4329 : BitVec 32 := 32#32
  let v4498 : BitVec 32 := Scalar.addi v4497 c32_i32_4329
  let c32_i32_4330 : BitVec 32 := 32#32
  let v4499 : BitVec 32 := Scalar.remsi v4498 c32_i32_4330
  let v4500 : Index := Scalar.indexCast v4499
  ![v4500.toNat]
def k0_off716 (v4501 : BitVec 32) : Fin 2 → Nat :=
  let c1024_i32_4331 : BitVec 32 := 1024#32
  let v4502 : BitVec 32 := Scalar.muli v4501 c1024_i32_4331
  let c768_i32_4332 : BitVec 32 := 768#32
  let v4503 : BitVec 32 := Scalar.addi v4502 c768_i32_4332
  let c0_i32_4338 : BitVec 32 := 0#32
  ![v4503.toNat, 0]

def k0_chk359 (v4501 : BitVec 32) : Prop :=
  (∀ a, (k0_off716 v4501) a + S256x512.size a ≤ S32768x512.size a) ∧
  (∀ (hinb : ∀ a, (k0_off716 v4501) a + S256x512.size a ≤ S32768x512.size a), (Rect.unit (s := S32768x512) (k0_off716 v4501) S256x512.size hinb).WholeWords (EltTy.packing .bf16))
theorem k0_off716_inb : ∀ (v4501 : BitVec 32) (k0_hw359 : k0_chk359 v4501), ∀ a, (k0_off716 v4501) a + S256x512.size a ≤ S32768x512.size a := fun v4501 k0_hw359 => k0_hw359.1
theorem k0_off716_wordsbf16 : ∀ (v4501 : BitVec 32) (k0_hw359 : k0_chk359 v4501), (Rect.unit (s := S32768x512) (k0_off716 v4501) S256x512.size (k0_off716_inb v4501 k0_hw359)).WholeWords (EltTy.packing .bf16) := fun v4501 k0_hw359 => k0_hw359.2 (k0_off716_inb v4501 k0_hw359)

def k0_off717 (v4 : BitVec 32) : Fin 1 → Nat :=
  let c13_i32_4340 : BitVec 32 := 13#32
  let v4508 : BitVec 32 := Scalar.addi v4 c13_i32_4340
  let c32_i32_4341 : BitVec 32 := 32#32
  let v4509 : BitVec 32 := Scalar.remsi v4508 c32_i32_4341
  let v4510 : Index := Scalar.indexCast v4509
  ![v4510.toNat]
def k0_off718 (v4511 : BitVec 32) : Fin 2 → Nat :=
  let c1024_i32_4342 : BitVec 32 := 1024#32
  let v4512 : BitVec 32 := Scalar.muli v4511 c1024_i32_4342
  let c0_i32_4343 : BitVec 32 := 0#32
  let v4513 : BitVec 32 := Scalar.addi v4512 c0_i32_4343
  let c0_i32_4349 : BitVec 32 := 0#32
  ![v4513.toNat, 0]

def k0_chk360 (v4511 : BitVec 32) : Prop :=
  (∀ a, (k0_off718 v4511) a + S256x512.size a ≤ S32768x512.size a) ∧
  (∀ (hinb : ∀ a, (k0_off718 v4511) a + S256x512.size a ≤ S32768x512.size a), (Rect.unit (s := S32768x512) (k0_off718 v4511) S256x512.size hinb).WholeWords (EltTy.packing .bf16))
theorem k0_off718_inb : ∀ (v4511 : BitVec 32) (k0_hw360 : k0_chk360 v4511), ∀ a, (k0_off718 v4511) a + S256x512.size a ≤ S32768x512.size a := fun v4511 k0_hw360 => k0_hw360.1
theorem k0_off718_wordsbf16 : ∀ (v4511 : BitVec 32) (k0_hw360 : k0_chk360 v4511), (Rect.unit (s := S32768x512) (k0_off718 v4511) S256x512.size (k0_off718_inb v4511 k0_hw360)).WholeWords (EltTy.packing .bf16) := fun v4511 k0_hw360 => k0_hw360.2 (k0_off718_inb v4511 k0_hw360)

def k0_off719 (v4 : BitVec 32) : Fin 1 → Nat :=
  let c13_i32_4351 : BitVec 32 := 13#32
  let v4518 : BitVec 32 := Scalar.addi v4 c13_i32_4351
  let c32_i32_4352 : BitVec 32 := 32#32
  let v4519 : BitVec 32 := Scalar.remsi v4518 c32_i32_4352
  let v4520 : Index := Scalar.indexCast v4519
  ![v4520.toNat]
def k0_off720 (v4521 : BitVec 32) : Fin 2 → Nat :=
  let c1024_i32_4353 : BitVec 32 := 1024#32
  let v4522 : BitVec 32 := Scalar.muli v4521 c1024_i32_4353
  let c256_i32_4354 : BitVec 32 := 256#32
  let v4523 : BitVec 32 := Scalar.addi v4522 c256_i32_4354
  let c0_i32_4360 : BitVec 32 := 0#32
  ![v4523.toNat, 0]

def k0_chk361 (v4521 : BitVec 32) : Prop :=
  (∀ a, (k0_off720 v4521) a + S256x512.size a ≤ S32768x512.size a) ∧
  (∀ (hinb : ∀ a, (k0_off720 v4521) a + S256x512.size a ≤ S32768x512.size a), (Rect.unit (s := S32768x512) (k0_off720 v4521) S256x512.size hinb).WholeWords (EltTy.packing .bf16))
theorem k0_off720_inb : ∀ (v4521 : BitVec 32) (k0_hw361 : k0_chk361 v4521), ∀ a, (k0_off720 v4521) a + S256x512.size a ≤ S32768x512.size a := fun v4521 k0_hw361 => k0_hw361.1
theorem k0_off720_wordsbf16 : ∀ (v4521 : BitVec 32) (k0_hw361 : k0_chk361 v4521), (Rect.unit (s := S32768x512) (k0_off720 v4521) S256x512.size (k0_off720_inb v4521 k0_hw361)).WholeWords (EltTy.packing .bf16) := fun v4521 k0_hw361 => k0_hw361.2 (k0_off720_inb v4521 k0_hw361)

def k0_off721 (v4 : BitVec 32) : Fin 1 → Nat :=
  let c13_i32_4362 : BitVec 32 := 13#32
  let v4528 : BitVec 32 := Scalar.addi v4 c13_i32_4362
  let c32_i32_4363 : BitVec 32 := 32#32
  let v4529 : BitVec 32 := Scalar.remsi v4528 c32_i32_4363
  let v4530 : Index := Scalar.indexCast v4529
  ![v4530.toNat]
def k0_off722 (v4531 : BitVec 32) : Fin 2 → Nat :=
  let c1024_i32_4364 : BitVec 32 := 1024#32
  let v4532 : BitVec 32 := Scalar.muli v4531 c1024_i32_4364
  let c512_i32_4365 : BitVec 32 := 512#32
  let v4533 : BitVec 32 := Scalar.addi v4532 c512_i32_4365
  let c0_i32_4371 : BitVec 32 := 0#32
  ![v4533.toNat, 0]

def k0_chk362 (v4531 : BitVec 32) : Prop :=
  (∀ a, (k0_off722 v4531) a + S256x512.size a ≤ S32768x512.size a) ∧
  (∀ (hinb : ∀ a, (k0_off722 v4531) a + S256x512.size a ≤ S32768x512.size a), (Rect.unit (s := S32768x512) (k0_off722 v4531) S256x512.size hinb).WholeWords (EltTy.packing .bf16))
theorem k0_off722_inb : ∀ (v4531 : BitVec 32) (k0_hw362 : k0_chk362 v4531), ∀ a, (k0_off722 v4531) a + S256x512.size a ≤ S32768x512.size a := fun v4531 k0_hw362 => k0_hw362.1
theorem k0_off722_wordsbf16 : ∀ (v4531 : BitVec 32) (k0_hw362 : k0_chk362 v4531), (Rect.unit (s := S32768x512) (k0_off722 v4531) S256x512.size (k0_off722_inb v4531 k0_hw362)).WholeWords (EltTy.packing .bf16) := fun v4531 k0_hw362 => k0_hw362.2 (k0_off722_inb v4531 k0_hw362)

def k0_off723 (v4 : BitVec 32) : Fin 1 → Nat :=
  let c13_i32_4373 : BitVec 32 := 13#32
  let v4538 : BitVec 32 := Scalar.addi v4 c13_i32_4373
  let c32_i32_4374 : BitVec 32 := 32#32
  let v4539 : BitVec 32 := Scalar.remsi v4538 c32_i32_4374
  let v4540 : Index := Scalar.indexCast v4539
  ![v4540.toNat]
def k0_off724 (v4541 : BitVec 32) : Fin 2 → Nat :=
  let c1024_i32_4375 : BitVec 32 := 1024#32
  let v4542 : BitVec 32 := Scalar.muli v4541 c1024_i32_4375
  let c768_i32_4376 : BitVec 32 := 768#32
  let v4543 : BitVec 32 := Scalar.addi v4542 c768_i32_4376
  let c0_i32_4382 : BitVec 32 := 0#32
  ![v4543.toNat, 0]

def k0_chk363 (v4541 : BitVec 32) : Prop :=
  (∀ a, (k0_off724 v4541) a + S256x512.size a ≤ S32768x512.size a) ∧
  (∀ (hinb : ∀ a, (k0_off724 v4541) a + S256x512.size a ≤ S32768x512.size a), (Rect.unit (s := S32768x512) (k0_off724 v4541) S256x512.size hinb).WholeWords (EltTy.packing .bf16))
theorem k0_off724_inb : ∀ (v4541 : BitVec 32) (k0_hw363 : k0_chk363 v4541), ∀ a, (k0_off724 v4541) a + S256x512.size a ≤ S32768x512.size a := fun v4541 k0_hw363 => k0_hw363.1
theorem k0_off724_wordsbf16 : ∀ (v4541 : BitVec 32) (k0_hw363 : k0_chk363 v4541), (Rect.unit (s := S32768x512) (k0_off724 v4541) S256x512.size (k0_off724_inb v4541 k0_hw363)).WholeWords (EltTy.packing .bf16) := fun v4541 k0_hw363 => k0_hw363.2 (k0_off724_inb v4541 k0_hw363)

def k0_off725 (v4 : BitVec 32) : Fin 1 → Nat :=
  let c14_i32_4384 : BitVec 32 := 14#32
  let v4548 : BitVec 32 := Scalar.subi v4 c14_i32_4384
  let c32_i32_4385 : BitVec 32 := 32#32
  let v4549 : BitVec 32 := Scalar.addi v4548 c32_i32_4385
  let c32_i32_4386 : BitVec 32 := 32#32
  let v4550 : BitVec 32 := Scalar.remsi v4549 c32_i32_4386
  let v4551 : Index := Scalar.indexCast v4550
  ![v4551.toNat]
def k0_off726 (v4552 : BitVec 32) : Fin 2 → Nat :=
  let c1024_i32_4387 : BitVec 32 := 1024#32
  let v4553 : BitVec 32 := Scalar.muli v4552 c1024_i32_4387
  let c0_i32_4388 : BitVec 32 := 0#32
  let v4554 : BitVec 32 := Scalar.addi v4553 c0_i32_4388
  let c0_i32_4394 : BitVec 32 := 0#32
  ![v4554.toNat, 0]

def k0_chk364 (v4552 : BitVec 32) : Prop :=
  (∀ a, (k0_off726 v4552) a + S256x512.size a ≤ S32768x512.size a) ∧
  (∀ (hinb : ∀ a, (k0_off726 v4552) a + S256x512.size a ≤ S32768x512.size a), (Rect.unit (s := S32768x512) (k0_off726 v4552) S256x512.size hinb).WholeWords (EltTy.packing .bf16))
theorem k0_off726_inb : ∀ (v4552 : BitVec 32) (k0_hw364 : k0_chk364 v4552), ∀ a, (k0_off726 v4552) a + S256x512.size a ≤ S32768x512.size a := fun v4552 k0_hw364 => k0_hw364.1
theorem k0_off726_wordsbf16 : ∀ (v4552 : BitVec 32) (k0_hw364 : k0_chk364 v4552), (Rect.unit (s := S32768x512) (k0_off726 v4552) S256x512.size (k0_off726_inb v4552 k0_hw364)).WholeWords (EltTy.packing .bf16) := fun v4552 k0_hw364 => k0_hw364.2 (k0_off726_inb v4552 k0_hw364)

def k0_off727 (v4 : BitVec 32) : Fin 1 → Nat :=
  let c14_i32_4396 : BitVec 32 := 14#32
  let v4559 : BitVec 32 := Scalar.subi v4 c14_i32_4396
  let c32_i32_4397 : BitVec 32 := 32#32
  let v4560 : BitVec 32 := Scalar.addi v4559 c32_i32_4397
  let c32_i32_4398 : BitVec 32 := 32#32
  let v4561 : BitVec 32 := Scalar.remsi v4560 c32_i32_4398
  let v4562 : Index := Scalar.indexCast v4561
  ![v4562.toNat]
def k0_off728 (v4563 : BitVec 32) : Fin 2 → Nat :=
  let c1024_i32_4399 : BitVec 32 := 1024#32
  let v4564 : BitVec 32 := Scalar.muli v4563 c1024_i32_4399
  let c256_i32_4400 : BitVec 32 := 256#32
  let v4565 : BitVec 32 := Scalar.addi v4564 c256_i32_4400
  let c0_i32_4406 : BitVec 32 := 0#32
  ![v4565.toNat, 0]

def k0_chk365 (v4563 : BitVec 32) : Prop :=
  (∀ a, (k0_off728 v4563) a + S256x512.size a ≤ S32768x512.size a) ∧
  (∀ (hinb : ∀ a, (k0_off728 v4563) a + S256x512.size a ≤ S32768x512.size a), (Rect.unit (s := S32768x512) (k0_off728 v4563) S256x512.size hinb).WholeWords (EltTy.packing .bf16))
theorem k0_off728_inb : ∀ (v4563 : BitVec 32) (k0_hw365 : k0_chk365 v4563), ∀ a, (k0_off728 v4563) a + S256x512.size a ≤ S32768x512.size a := fun v4563 k0_hw365 => k0_hw365.1
theorem k0_off728_wordsbf16 : ∀ (v4563 : BitVec 32) (k0_hw365 : k0_chk365 v4563), (Rect.unit (s := S32768x512) (k0_off728 v4563) S256x512.size (k0_off728_inb v4563 k0_hw365)).WholeWords (EltTy.packing .bf16) := fun v4563 k0_hw365 => k0_hw365.2 (k0_off728_inb v4563 k0_hw365)

def k0_off729 (v4 : BitVec 32) : Fin 1 → Nat :=
  let c14_i32_4408 : BitVec 32 := 14#32
  let v4570 : BitVec 32 := Scalar.subi v4 c14_i32_4408
  let c32_i32_4409 : BitVec 32 := 32#32
  let v4571 : BitVec 32 := Scalar.addi v4570 c32_i32_4409
  let c32_i32_4410 : BitVec 32 := 32#32
  let v4572 : BitVec 32 := Scalar.remsi v4571 c32_i32_4410
  let v4573 : Index := Scalar.indexCast v4572
  ![v4573.toNat]
def k0_off730 (v4574 : BitVec 32) : Fin 2 → Nat :=
  let c1024_i32_4411 : BitVec 32 := 1024#32
  let v4575 : BitVec 32 := Scalar.muli v4574 c1024_i32_4411
  let c512_i32_4412 : BitVec 32 := 512#32
  let v4576 : BitVec 32 := Scalar.addi v4575 c512_i32_4412
  let c0_i32_4418 : BitVec 32 := 0#32
  ![v4576.toNat, 0]

def k0_chk366 (v4574 : BitVec 32) : Prop :=
  (∀ a, (k0_off730 v4574) a + S256x512.size a ≤ S32768x512.size a) ∧
  (∀ (hinb : ∀ a, (k0_off730 v4574) a + S256x512.size a ≤ S32768x512.size a), (Rect.unit (s := S32768x512) (k0_off730 v4574) S256x512.size hinb).WholeWords (EltTy.packing .bf16))
theorem k0_off730_inb : ∀ (v4574 : BitVec 32) (k0_hw366 : k0_chk366 v4574), ∀ a, (k0_off730 v4574) a + S256x512.size a ≤ S32768x512.size a := fun v4574 k0_hw366 => k0_hw366.1
theorem k0_off730_wordsbf16 : ∀ (v4574 : BitVec 32) (k0_hw366 : k0_chk366 v4574), (Rect.unit (s := S32768x512) (k0_off730 v4574) S256x512.size (k0_off730_inb v4574 k0_hw366)).WholeWords (EltTy.packing .bf16) := fun v4574 k0_hw366 => k0_hw366.2 (k0_off730_inb v4574 k0_hw366)

def k0_off731 (v4 : BitVec 32) : Fin 1 → Nat :=
  let c14_i32_4420 : BitVec 32 := 14#32
  let v4581 : BitVec 32 := Scalar.subi v4 c14_i32_4420
  let c32_i32_4421 : BitVec 32 := 32#32
  let v4582 : BitVec 32 := Scalar.addi v4581 c32_i32_4421
  let c32_i32_4422 : BitVec 32 := 32#32
  let v4583 : BitVec 32 := Scalar.remsi v4582 c32_i32_4422
  let v4584 : Index := Scalar.indexCast v4583
  ![v4584.toNat]
def k0_off732 (v4585 : BitVec 32) : Fin 2 → Nat :=
  let c1024_i32_4423 : BitVec 32 := 1024#32
  let v4586 : BitVec 32 := Scalar.muli v4585 c1024_i32_4423
  let c768_i32_4424 : BitVec 32 := 768#32
  let v4587 : BitVec 32 := Scalar.addi v4586 c768_i32_4424
  let c0_i32_4430 : BitVec 32 := 0#32
  ![v4587.toNat, 0]

def k0_chk367 (v4585 : BitVec 32) : Prop :=
  (∀ a, (k0_off732 v4585) a + S256x512.size a ≤ S32768x512.size a) ∧
  (∀ (hinb : ∀ a, (k0_off732 v4585) a + S256x512.size a ≤ S32768x512.size a), (Rect.unit (s := S32768x512) (k0_off732 v4585) S256x512.size hinb).WholeWords (EltTy.packing .bf16))
theorem k0_off732_inb : ∀ (v4585 : BitVec 32) (k0_hw367 : k0_chk367 v4585), ∀ a, (k0_off732 v4585) a + S256x512.size a ≤ S32768x512.size a := fun v4585 k0_hw367 => k0_hw367.1
theorem k0_off732_wordsbf16 : ∀ (v4585 : BitVec 32) (k0_hw367 : k0_chk367 v4585), (Rect.unit (s := S32768x512) (k0_off732 v4585) S256x512.size (k0_off732_inb v4585 k0_hw367)).WholeWords (EltTy.packing .bf16) := fun v4585 k0_hw367 => k0_hw367.2 (k0_off732_inb v4585 k0_hw367)

def k0_off733 (v4 : BitVec 32) : Fin 1 → Nat :=
  let c14_i32_4432 : BitVec 32 := 14#32
  let v4592 : BitVec 32 := Scalar.addi v4 c14_i32_4432
  let c32_i32_4433 : BitVec 32 := 32#32
  let v4593 : BitVec 32 := Scalar.remsi v4592 c32_i32_4433
  let v4594 : Index := Scalar.indexCast v4593
  ![v4594.toNat]
def k0_off734 (v4595 : BitVec 32) : Fin 2 → Nat :=
  let c1024_i32_4434 : BitVec 32 := 1024#32
  let v4596 : BitVec 32 := Scalar.muli v4595 c1024_i32_4434
  let c0_i32_4435 : BitVec 32 := 0#32
  let v4597 : BitVec 32 := Scalar.addi v4596 c0_i32_4435
  let c0_i32_4441 : BitVec 32 := 0#32
  ![v4597.toNat, 0]

def k0_chk368 (v4595 : BitVec 32) : Prop :=
  (∀ a, (k0_off734 v4595) a + S256x512.size a ≤ S32768x512.size a) ∧
  (∀ (hinb : ∀ a, (k0_off734 v4595) a + S256x512.size a ≤ S32768x512.size a), (Rect.unit (s := S32768x512) (k0_off734 v4595) S256x512.size hinb).WholeWords (EltTy.packing .bf16))
theorem k0_off734_inb : ∀ (v4595 : BitVec 32) (k0_hw368 : k0_chk368 v4595), ∀ a, (k0_off734 v4595) a + S256x512.size a ≤ S32768x512.size a := fun v4595 k0_hw368 => k0_hw368.1
theorem k0_off734_wordsbf16 : ∀ (v4595 : BitVec 32) (k0_hw368 : k0_chk368 v4595), (Rect.unit (s := S32768x512) (k0_off734 v4595) S256x512.size (k0_off734_inb v4595 k0_hw368)).WholeWords (EltTy.packing .bf16) := fun v4595 k0_hw368 => k0_hw368.2 (k0_off734_inb v4595 k0_hw368)

def k0_off735 (v4 : BitVec 32) : Fin 1 → Nat :=
  let c14_i32_4443 : BitVec 32 := 14#32
  let v4602 : BitVec 32 := Scalar.addi v4 c14_i32_4443
  let c32_i32_4444 : BitVec 32 := 32#32
  let v4603 : BitVec 32 := Scalar.remsi v4602 c32_i32_4444
  let v4604 : Index := Scalar.indexCast v4603
  ![v4604.toNat]
def k0_off736 (v4605 : BitVec 32) : Fin 2 → Nat :=
  let c1024_i32_4445 : BitVec 32 := 1024#32
  let v4606 : BitVec 32 := Scalar.muli v4605 c1024_i32_4445
  let c256_i32_4446 : BitVec 32 := 256#32
  let v4607 : BitVec 32 := Scalar.addi v4606 c256_i32_4446
  let c0_i32_4452 : BitVec 32 := 0#32
  ![v4607.toNat, 0]

def k0_chk369 (v4605 : BitVec 32) : Prop :=
  (∀ a, (k0_off736 v4605) a + S256x512.size a ≤ S32768x512.size a) ∧
  (∀ (hinb : ∀ a, (k0_off736 v4605) a + S256x512.size a ≤ S32768x512.size a), (Rect.unit (s := S32768x512) (k0_off736 v4605) S256x512.size hinb).WholeWords (EltTy.packing .bf16))
theorem k0_off736_inb : ∀ (v4605 : BitVec 32) (k0_hw369 : k0_chk369 v4605), ∀ a, (k0_off736 v4605) a + S256x512.size a ≤ S32768x512.size a := fun v4605 k0_hw369 => k0_hw369.1
theorem k0_off736_wordsbf16 : ∀ (v4605 : BitVec 32) (k0_hw369 : k0_chk369 v4605), (Rect.unit (s := S32768x512) (k0_off736 v4605) S256x512.size (k0_off736_inb v4605 k0_hw369)).WholeWords (EltTy.packing .bf16) := fun v4605 k0_hw369 => k0_hw369.2 (k0_off736_inb v4605 k0_hw369)

def k0_off737 (v4 : BitVec 32) : Fin 1 → Nat :=
  let c14_i32_4454 : BitVec 32 := 14#32
  let v4612 : BitVec 32 := Scalar.addi v4 c14_i32_4454
  let c32_i32_4455 : BitVec 32 := 32#32
  let v4613 : BitVec 32 := Scalar.remsi v4612 c32_i32_4455
  let v4614 : Index := Scalar.indexCast v4613
  ![v4614.toNat]
def k0_off738 (v4615 : BitVec 32) : Fin 2 → Nat :=
  let c1024_i32_4456 : BitVec 32 := 1024#32
  let v4616 : BitVec 32 := Scalar.muli v4615 c1024_i32_4456
  let c512_i32_4457 : BitVec 32 := 512#32
  let v4617 : BitVec 32 := Scalar.addi v4616 c512_i32_4457
  let c0_i32_4463 : BitVec 32 := 0#32
  ![v4617.toNat, 0]

def k0_chk370 (v4615 : BitVec 32) : Prop :=
  (∀ a, (k0_off738 v4615) a + S256x512.size a ≤ S32768x512.size a) ∧
  (∀ (hinb : ∀ a, (k0_off738 v4615) a + S256x512.size a ≤ S32768x512.size a), (Rect.unit (s := S32768x512) (k0_off738 v4615) S256x512.size hinb).WholeWords (EltTy.packing .bf16))
theorem k0_off738_inb : ∀ (v4615 : BitVec 32) (k0_hw370 : k0_chk370 v4615), ∀ a, (k0_off738 v4615) a + S256x512.size a ≤ S32768x512.size a := fun v4615 k0_hw370 => k0_hw370.1
theorem k0_off738_wordsbf16 : ∀ (v4615 : BitVec 32) (k0_hw370 : k0_chk370 v4615), (Rect.unit (s := S32768x512) (k0_off738 v4615) S256x512.size (k0_off738_inb v4615 k0_hw370)).WholeWords (EltTy.packing .bf16) := fun v4615 k0_hw370 => k0_hw370.2 (k0_off738_inb v4615 k0_hw370)

def k0_off739 (v4 : BitVec 32) : Fin 1 → Nat :=
  let c14_i32_4465 : BitVec 32 := 14#32
  let v4622 : BitVec 32 := Scalar.addi v4 c14_i32_4465
  let c32_i32_4466 : BitVec 32 := 32#32
  let v4623 : BitVec 32 := Scalar.remsi v4622 c32_i32_4466
  let v4624 : Index := Scalar.indexCast v4623
  ![v4624.toNat]
def k0_off740 (v4625 : BitVec 32) : Fin 2 → Nat :=
  let c1024_i32_4467 : BitVec 32 := 1024#32
  let v4626 : BitVec 32 := Scalar.muli v4625 c1024_i32_4467
  let c768_i32_4468 : BitVec 32 := 768#32
  let v4627 : BitVec 32 := Scalar.addi v4626 c768_i32_4468
  let c0_i32_4474 : BitVec 32 := 0#32
  ![v4627.toNat, 0]

def k0_chk371 (v4625 : BitVec 32) : Prop :=
  (∀ a, (k0_off740 v4625) a + S256x512.size a ≤ S32768x512.size a) ∧
  (∀ (hinb : ∀ a, (k0_off740 v4625) a + S256x512.size a ≤ S32768x512.size a), (Rect.unit (s := S32768x512) (k0_off740 v4625) S256x512.size hinb).WholeWords (EltTy.packing .bf16))
theorem k0_off740_inb : ∀ (v4625 : BitVec 32) (k0_hw371 : k0_chk371 v4625), ∀ a, (k0_off740 v4625) a + S256x512.size a ≤ S32768x512.size a := fun v4625 k0_hw371 => k0_hw371.1
theorem k0_off740_wordsbf16 : ∀ (v4625 : BitVec 32) (k0_hw371 : k0_chk371 v4625), (Rect.unit (s := S32768x512) (k0_off740 v4625) S256x512.size (k0_off740_inb v4625 k0_hw371)).WholeWords (EltTy.packing .bf16) := fun v4625 k0_hw371 => k0_hw371.2 (k0_off740_inb v4625 k0_hw371)

def k0_off741 (v4 : BitVec 32) : Fin 1 → Nat :=
  let c15_i32_4476 : BitVec 32 := 15#32
  let v4632 : BitVec 32 := Scalar.subi v4 c15_i32_4476
  let c32_i32_4477 : BitVec 32 := 32#32
  let v4633 : BitVec 32 := Scalar.addi v4632 c32_i32_4477
  let c32_i32_4478 : BitVec 32 := 32#32
  let v4634 : BitVec 32 := Scalar.remsi v4633 c32_i32_4478
  let v4635 : Index := Scalar.indexCast v4634
  ![v4635.toNat]
def k0_off742 (v4636 : BitVec 32) : Fin 2 → Nat :=
  let c1024_i32_4479 : BitVec 32 := 1024#32
  let v4637 : BitVec 32 := Scalar.muli v4636 c1024_i32_4479
  let c0_i32_4480 : BitVec 32 := 0#32
  let v4638 : BitVec 32 := Scalar.addi v4637 c0_i32_4480
  let c0_i32_4486 : BitVec 32 := 0#32
  ![v4638.toNat, 0]

def k0_chk372 (v4636 : BitVec 32) : Prop :=
  (∀ a, (k0_off742 v4636) a + S256x512.size a ≤ S32768x512.size a) ∧
  (∀ (hinb : ∀ a, (k0_off742 v4636) a + S256x512.size a ≤ S32768x512.size a), (Rect.unit (s := S32768x512) (k0_off742 v4636) S256x512.size hinb).WholeWords (EltTy.packing .bf16))
theorem k0_off742_inb : ∀ (v4636 : BitVec 32) (k0_hw372 : k0_chk372 v4636), ∀ a, (k0_off742 v4636) a + S256x512.size a ≤ S32768x512.size a := fun v4636 k0_hw372 => k0_hw372.1
theorem k0_off742_wordsbf16 : ∀ (v4636 : BitVec 32) (k0_hw372 : k0_chk372 v4636), (Rect.unit (s := S32768x512) (k0_off742 v4636) S256x512.size (k0_off742_inb v4636 k0_hw372)).WholeWords (EltTy.packing .bf16) := fun v4636 k0_hw372 => k0_hw372.2 (k0_off742_inb v4636 k0_hw372)

def k0_off743 (v4 : BitVec 32) : Fin 1 → Nat :=
  let c15_i32_4488 : BitVec 32 := 15#32
  let v4643 : BitVec 32 := Scalar.subi v4 c15_i32_4488
  let c32_i32_4489 : BitVec 32 := 32#32
  let v4644 : BitVec 32 := Scalar.addi v4643 c32_i32_4489
  let c32_i32_4490 : BitVec 32 := 32#32
  let v4645 : BitVec 32 := Scalar.remsi v4644 c32_i32_4490
  let v4646 : Index := Scalar.indexCast v4645
  ![v4646.toNat]
def k0_off744 (v4647 : BitVec 32) : Fin 2 → Nat :=
  let c1024_i32_4491 : BitVec 32 := 1024#32
  let v4648 : BitVec 32 := Scalar.muli v4647 c1024_i32_4491
  let c256_i32_4492 : BitVec 32 := 256#32
  let v4649 : BitVec 32 := Scalar.addi v4648 c256_i32_4492
  let c0_i32_4498 : BitVec 32 := 0#32
  ![v4649.toNat, 0]

def k0_chk373 (v4647 : BitVec 32) : Prop :=
  (∀ a, (k0_off744 v4647) a + S256x512.size a ≤ S32768x512.size a) ∧
  (∀ (hinb : ∀ a, (k0_off744 v4647) a + S256x512.size a ≤ S32768x512.size a), (Rect.unit (s := S32768x512) (k0_off744 v4647) S256x512.size hinb).WholeWords (EltTy.packing .bf16))
theorem k0_off744_inb : ∀ (v4647 : BitVec 32) (k0_hw373 : k0_chk373 v4647), ∀ a, (k0_off744 v4647) a + S256x512.size a ≤ S32768x512.size a := fun v4647 k0_hw373 => k0_hw373.1
theorem k0_off744_wordsbf16 : ∀ (v4647 : BitVec 32) (k0_hw373 : k0_chk373 v4647), (Rect.unit (s := S32768x512) (k0_off744 v4647) S256x512.size (k0_off744_inb v4647 k0_hw373)).WholeWords (EltTy.packing .bf16) := fun v4647 k0_hw373 => k0_hw373.2 (k0_off744_inb v4647 k0_hw373)

def k0_off745 (v4 : BitVec 32) : Fin 1 → Nat :=
  let c15_i32_4500 : BitVec 32 := 15#32
  let v4654 : BitVec 32 := Scalar.addi v4 c15_i32_4500
  let c32_i32_4501 : BitVec 32 := 32#32
  let v4655 : BitVec 32 := Scalar.remsi v4654 c32_i32_4501
  let v4656 : Index := Scalar.indexCast v4655
  ![v4656.toNat]
def k0_off746 (v4657 : BitVec 32) : Fin 2 → Nat :=
  let c1024_i32_4502 : BitVec 32 := 1024#32
  let v4658 : BitVec 32 := Scalar.muli v4657 c1024_i32_4502
  let c512_i32_4503 : BitVec 32 := 512#32
  let v4659 : BitVec 32 := Scalar.addi v4658 c512_i32_4503
  let c0_i32_4509 : BitVec 32 := 0#32
  ![v4659.toNat, 0]

def k0_chk374 (v4657 : BitVec 32) : Prop :=
  (∀ a, (k0_off746 v4657) a + S256x512.size a ≤ S32768x512.size a) ∧
  (∀ (hinb : ∀ a, (k0_off746 v4657) a + S256x512.size a ≤ S32768x512.size a), (Rect.unit (s := S32768x512) (k0_off746 v4657) S256x512.size hinb).WholeWords (EltTy.packing .bf16))
theorem k0_off746_inb : ∀ (v4657 : BitVec 32) (k0_hw374 : k0_chk374 v4657), ∀ a, (k0_off746 v4657) a + S256x512.size a ≤ S32768x512.size a := fun v4657 k0_hw374 => k0_hw374.1
theorem k0_off746_wordsbf16 : ∀ (v4657 : BitVec 32) (k0_hw374 : k0_chk374 v4657), (Rect.unit (s := S32768x512) (k0_off746 v4657) S256x512.size (k0_off746_inb v4657 k0_hw374)).WholeWords (EltTy.packing .bf16) := fun v4657 k0_hw374 => k0_hw374.2 (k0_off746_inb v4657 k0_hw374)

def k0_off747 (v4 : BitVec 32) : Fin 1 → Nat :=
  let c15_i32_4511 : BitVec 32 := 15#32
  let v4664 : BitVec 32 := Scalar.addi v4 c15_i32_4511
  let c32_i32_4512 : BitVec 32 := 32#32
  let v4665 : BitVec 32 := Scalar.remsi v4664 c32_i32_4512
  let v4666 : Index := Scalar.indexCast v4665
  ![v4666.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off13 v4) a + S1.size a ≤ S32.size a) ∧
  (∀ a, (k0_off15 v4) a + S1.size a ≤ S32.size a) ∧
  (∀ a, (k0_off17 v4) a + S1.size a ≤ S32.size a) ∧
  (∀ a, (k0_off19 v4) a + S1.size a ≤ S32.size a) ∧
  (∀ a, (k0_off21 v4) a + S1.size a ≤ S32.size a) ∧
  (∀ a, (k0_off23 v4) a + S1.size a ≤ S32.size a) ∧
  (∀ a, (k0_off25 v4) a + S1.size a ≤ S32.size a) ∧
  (∀ a, (k0_off27 v4) a + S1.size a ≤ S32.size a) ∧
  (∀ a, (k0_off29 v4) a + S1.size a ≤ S32.size a) ∧
  (∀ a, (k0_off31 v4) a + S1.size a ≤ S32.size a) ∧
  (∀ a, (k0_off33 v4) a + S1.size a ≤ S32.size a) ∧
  (∀ a, (k0_off35 v4) a + S1.size a ≤ S32.size a) ∧
  (∀ a, (k0_off37 v4) a + S1.size a ≤ S32.size a) ∧
  (∀ a, (k0_off39 v4) a + S1.size a ≤ S32.size a) ∧
  (∀ a, (k0_off41 v4) a + S1.size a ≤ S32.size a) ∧
  (∀ a, (k0_off43 v4) a + S1.size a ≤ S32.size a) ∧
  (∀ a, (k0_off45 v4) a + S1.size a ≤ S32.size a) ∧
  (∀ a, (k0_off47 v4) a + S1.size a ≤ S32.size a) ∧
  (∀ a, (k0_off49 v4) a + S1.size a ≤ S32.size a) ∧
  (∀ a, (k0_off51 v4) a + S1.size a ≤ S32.size a) ∧
  (∀ a, (k0_off53 v4) a + S1.size a ≤ S32.size a) ∧
  (∀ a, (k0_off55 v4) a + S1.size a ≤ S32.size a) ∧
  (∀ a, (k0_off57 v4) a + S1.size a ≤ S32.size a) ∧
  (∀ a, (k0_off59 v4) a + S1.size a ≤ S32.size a) ∧
  (∀ a, (k0_off61 v4) a + S1.size a ≤ S32.size a) ∧
  (∀ a, (k0_off63 v4) a + S1.size a ≤ S32.size a)
def k0_chk1_1 (v4 : BitVec 32) : Prop :=
  (∀ a, (k0_off65 v4) a + S1.size a ≤ S32.size a) ∧
  (∀ a, (k0_off67 v4) a + S1.size a ≤ S32.size a) ∧
  (∀ a, (k0_off69 v4) a + S1.size a ≤ S32.size a) ∧
  (∀ a, (k0_off71 v4) a + S1.size a ≤ S32.size a) ∧
  (∀ a, (k0_off73 v4) a + S1.size a ≤ S32.size a) ∧
  (∀ a, (k0_off75 v4) a + S1.size a ≤ S32.size a) ∧
  (∀ a, (k0_off77 v4) a + S1.size a ≤ S32.size a) ∧
  (∀ a, (k0_off79 v4) a + S1.size a ≤ S32.size a) ∧
  (∀ a, (k0_off81 v4) a + S1.size a ≤ S32.size a) ∧
  (∀ a, (k0_off83 v4) a + S1.size a ≤ S32.size a) ∧
  (∀ a, (k0_off85 v4) a + S1.size a ≤ S32.size a) ∧
  (∀ a, (k0_off87 v4) a + S1.size a ≤ S32.size a) ∧
  (∀ a, (k0_off89 v4) a + S1.size a ≤ S32.size a) ∧
  (∀ a, (k0_off91 v4) a + S1.size a ≤ S32.size a) ∧
  (∀ a, (k0_off93 v4) a + S1.size a ≤ S32.size a) ∧
  (∀ a, (k0_off95 v4) a + S1.size a ≤ S32.size a) ∧
  (∀ a, (k0_off97 v4) a + S1.size a ≤ S32.size a) ∧
  (∀ a, (k0_off99 v4) a + S1.size a ≤ S32.size a) ∧
  (∀ a, (k0_off101 v4) a + S1.size a ≤ S32.size a) ∧
  (∀ a, (k0_off103 v4) a + S1.size a ≤ S32.size a) ∧
  (∀ a, (k0_off105 v4) a + S1.size a ≤ S32.size a) ∧
  (∀ a, (k0_off107 v4) a + S1.size a ≤ S32.size a) ∧
  (∀ a, (k0_off109 v4) a + S1.size a ≤ S32.size a) ∧
  (∀ a, (k0_off111 v4) a + S1.size a ≤ S32.size a) ∧
  (∀ a, (k0_off113 v4) a + S1.size a ≤ S32.size a) ∧
  (∀ a, (k0_off115 v4) a + S1.size a ≤ S32.size a) ∧
  (∀ a, (k0_off117 v4) a + S1.size a ≤ S32.size a) ∧
  (∀ a, (k0_off119 v4) a + S1.size a ≤ S32.size a) ∧
  (∀ a, (k0_off121 v4) a + S1.size a ≤ S32.size a) ∧
  (∀ a, (k0_off123 v4) a + S1.size a ≤ S32.size a) ∧
  (∀ a, (k0_off125 v4) a + S1.size a ≤ S32.size a) ∧
  (∀ a, (k0_off127 v4) a + S1.size a ≤ S32.size a)
def k0_chk1_2 (v4 : BitVec 32) : Prop :=
  (∀ a, (k0_off129 v4) a + S1.size a ≤ S32.size a) ∧
  (∀ a, (k0_off131 v4) a + S1.size a ≤ S32.size a) ∧
  (∀ a, (k0_off133 v4) a + S1.size a ≤ S32.size a) ∧
  (∀ a, (k0_off135 v4) a + S1.size a ≤ S32.size a) ∧
  (∀ a, (k0_off137 v4) a + S1.size a ≤ S32.size a) ∧
  (∀ a, (k0_off139 v4) a + S1.size a ≤ S32.size a) ∧
  (∀ a, (k0_off141 v4) a + S1.size a ≤ S32.size a) ∧
  (∀ a, (k0_off143 v4) a + S1.size a ≤ S32.size a) ∧
  (∀ a, (k0_off145 v4) a + S1.size a ≤ S32.size a) ∧
  (∀ a, (k0_off147 v4) a + S1.size a ≤ S32.size a) ∧
  (∀ a, (k0_off149 v4) a + S1.size a ≤ S32.size a) ∧
  (∀ a, (k0_off151 v4) a + S1.size a ≤ S32.size a) ∧
  (∀ a, (k0_off153 v4) a + S1.size a ≤ S32.size a) ∧
  (∀ a, (k0_off155 v4) a + S1.size a ≤ S32.size a) ∧
  (∀ a, (k0_off157 v4) a + S1.size a ≤ S32.size a) ∧
  (∀ a, (k0_off159 v4) a + S1.size a ≤ S32.size a) ∧
  (∀ a, (k0_off161 v4) a + S1.size a ≤ S32.size a) ∧
  (∀ a, (k0_off163 v4) a + S1.size a ≤ S32.size a) ∧
  (∀ a, (k0_off165 v4) a + S1.size a ≤ S32.size a) ∧
  (∀ a, (k0_off167 v4) a + S1.size a ≤ S32.size a) ∧
  (∀ a, (k0_off169 v4) a + S1.size a ≤ S32.size a) ∧
  (∀ a, (k0_off171 v4) a + S1.size a ≤ S32.size a) ∧
  (∀ a, (k0_off173 v4) a + S1.size a ≤ S32.size a) ∧
  (∀ a, (k0_off175 v4) a + S1.size a ≤ S32.size a) ∧
  (∀ a, (k0_off177 v4) a + S1.size a ≤ S32.size a) ∧
  (∀ a, (k0_off179 v4) a + S1.size a ≤ S32.size a) ∧
  (∀ a, (k0_off181 v4) a + S1.size a ≤ S32.size a) ∧
  (∀ a, (k0_off183 v4) a + S1.size a ≤ S32.size a) ∧
  (∀ a, (k0_off185 v4) a + S1.size a ≤ S32.size a) ∧
  (∀ a, (k0_off187 v4) a + S1.size a ≤ S32.size a) ∧
  (∀ a, (k0_off189 v4) a + S1.size a ≤ S32.size a) ∧
  (∀ a, (k0_off191 v4) a + S1.size a ≤ S32.size a)
def k0_chk1_3 (v4 : BitVec 32) : Prop :=
  (∀ a, (k0_off193 v4) a + S1.size a ≤ S32.size a) ∧
  (∀ a, (k0_off195 v4) a + S1.size a ≤ S32.size a) ∧
  (∀ a, (k0_off197 v4) a + S1.size a ≤ S32.size a) ∧
  (∀ a, (k0_off199 v4) a + S1.size a ≤ S32.size a) ∧
  (∀ a, (k0_off201 v4) a + S1.size a ≤ S32.size a) ∧
  (∀ a, (k0_off203 v4) a + S1.size a ≤ S32.size a) ∧
  (∀ a, (k0_off205 v4) a + S1.size a ≤ S32.size a) ∧
  (∀ a, (k0_off207 v4) a + S1.size a ≤ S32.size a) ∧
  (∀ a, (k0_off209 v4) a + S1.size a ≤ S32.size a) ∧
  (∀ a, (k0_off211 v4) a + S1.size a ≤ S32.size a) ∧
  (∀ a, (k0_off213 v4) a + S1.size a ≤ S32.size a) ∧
  (∀ a, (k0_off215 v4) a + S1.size a ≤ S32.size a) ∧
  (∀ a, (k0_off217 v4) a + S1.size a ≤ S32.size a) ∧
  (∀ a, (k0_off219 v4) a + S1.size a ≤ S32.size a) ∧
  (∀ a, (k0_off221 v4) a + S1.size a ≤ S32.size a) ∧
  (∀ a, (k0_off223 v4) a + S1.size a ≤ S32.size a) ∧
  (∀ a, (k0_off225 v4) a + S1.size a ≤ S32.size a) ∧
  (∀ a, (k0_off227 v4) a + S1.size a ≤ S32.size a) ∧
  (∀ a, (k0_off229 v4) a + S1.size a ≤ S32.size a) ∧
  (∀ a, (k0_off231 v4) a + S1.size a ≤ S32.size a) ∧
  (∀ a, (k0_off233 v4) a + S1.size a ≤ S32.size a) ∧
  (∀ a, (k0_off235 v4) a + S1.size a ≤ S32.size a) ∧
  (∀ a, (k0_off237 v4) a + S1.size a ≤ S32.size a) ∧
  (∀ a, (k0_off239 v4) a + S1.size a ≤ S32.size a) ∧
  (∀ a, (k0_off241 v4) a + S1.size a ≤ S32.size a) ∧
  (∀ a, (k0_off243 v4) a + S1.size a ≤ S32.size a) ∧
  (∀ a, (k0_off245 v4) a + S1.size a ≤ S32.size a) ∧
  (∀ a, (k0_off247 v4) a + S1.size a ≤ S32.size a) ∧
  (∀ a, (k0_off249 v4) a + S1.size a ≤ S32.size a) ∧
  (∀ a, (k0_off251 v4) a + S1.size a ≤ S32.size a) ∧
  (∀ a, (k0_off253 v4) a + S1.size a ≤ S32.size a) ∧
  (∀ a, (k0_off255 v4) a + S1.size a ≤ S32.size a)
def k0_chk1_4 (v4 : BitVec 32) : Prop :=
  (∀ a, (k0_off257 v4) a + S1.size a ≤ S32.size a) ∧
  (∀ a, (k0_off259 v4) a + S1.size a ≤ S32.size a) ∧
  (∀ a, (k0_off261 v4) a + S1.size a ≤ S32.size a) ∧
  (∀ a, (k0_off263 v4) a + S1.size a ≤ S32.size a) ∧
  (∀ a, (k0_off265 v4) a + S1.size a ≤ S32.size a) ∧
  (∀ a, (k0_off267 v4) a + S1.size a ≤ S32.size a) ∧
  (∀ a, (k0_off269 v4) a + S1.size a ≤ S32.size a) ∧
  (∀ a, (k0_off271 v4) a + S1.size a ≤ S32.size a) ∧
  (∀ a, (k0_off273 v4) a + S1.size a ≤ S32.size a) ∧
  (∀ a, (k0_off275 v4) a + S1.size a ≤ S32.size a) ∧
  (∀ a, (k0_off277 v4) a + S1.size a ≤ S32.size a) ∧
  (∀ a, (k0_off279 v4) a + S1.size a ≤ S32.size a) ∧
  (∀ a, (k0_off281 v4) a + S1.size a ≤ S32.size a) ∧
  (∀ a, (k0_off283 v4) a + S1.size a ≤ S32.size a) ∧
  (∀ a, (k0_off285 v4) a + S1.size a ≤ S32.size a) ∧
  (∀ a, (k0_off287 v4) a + S1.size a ≤ S32.size a) ∧
  (∀ a, (k0_off289 v4) a + S1.size a ≤ S32.size a) ∧
  (∀ a, (k0_off291 v4) a + S1.size a ≤ S32.size a) ∧
  (∀ a, (k0_off293 v4) a + S1.size a ≤ S32.size a) ∧
  (∀ a, (k0_off295 v4) a + S1.size a ≤ S32.size a) ∧
  (∀ a, (k0_off297 v4) a + S1.size a ≤ S32.size a) ∧
  (∀ a, (k0_off299 v4) a + S1.size a ≤ S32.size a) ∧
  (∀ a, (k0_off301 v4) a + S1.size a ≤ S32.size a) ∧
  (∀ a, (k0_off303 v4) a + S1.size a ≤ S32.size a) ∧
  (∀ a, (k0_off305 v4) a + S1.size a ≤ S32.size a) ∧
  (∀ a, (k0_off307 v4) a + S1.size a ≤ S32.size a) ∧
  (∀ a, (k0_off309 v4) a + S1.size a ≤ S32.size a) ∧
  (∀ a, (k0_off311 v4) a + S1.size a ≤ S32.size a) ∧
  (∀ a, (k0_off313 v4) a + S1.size a ≤ S32.size a) ∧
  (∀ a, (k0_off315 v4) a + S1.size a ≤ S32.size a) ∧
  (∀ a, (k0_off317 v4) a + S1.size a ≤ S32.size a) ∧
  (∀ a, (k0_off319 v4) a + S1.size a ≤ S32.size a)
def k0_chk1_5 (v4 : BitVec 32) : Prop :=
  (∀ a, (k0_off321 v4) a + S1.size a ≤ S32.size a) ∧
  (∀ a, (k0_off323 v4) a + S1.size a ≤ S32.size a) ∧
  (∀ a, (k0_off325 v4) a + S1.size a ≤ S32.size a) ∧
  (∀ a, (k0_off327 v4) a + S1.size a ≤ S32.size a) ∧
  (∀ a, (k0_off329 v4) a + S1.size a ≤ S32.size a) ∧
  (∀ a, (k0_off331 v4) a + S1.size a ≤ S32.size a) ∧
  (∀ a, (k0_off333 v4) a + S1.size a ≤ S32.size a) ∧
  (∀ a, (k0_off335 v4) a + S1.size a ≤ S32.size a) ∧
  (∀ a, (k0_off337 v4) a + S1.size a ≤ S32.size a) ∧
  (∀ a, (k0_off339 v4) a + S1.size a ≤ S32.size a) ∧
  (∀ a, (k0_off341 v4) a + S1.size a ≤ S32.size a) ∧
  (∀ a, (k0_off343 v4) a + S1.size a ≤ S32.size a) ∧
  (∀ a, (k0_off345 v4) a + S1.size a ≤ S32.size a) ∧
  (∀ a, (k0_off347 v4) a + S1.size a ≤ S32.size a) ∧
  (∀ a, (k0_off349 v4) a + S1.size a ≤ S32.size a) ∧
  (∀ a, (k0_off351 v4) a + S1.size a ≤ S32.size a) ∧
  (∀ a, (k0_off353 v4) a + S1.size a ≤ S32.size a) ∧
  (∀ a, (k0_off355 v4) a + S1.size a ≤ S32.size a) ∧
  (∀ a, (k0_off357 v4) a + S1.size a ≤ S32.size a) ∧
  (∀ a, (k0_off359 v4) a + S1.size a ≤ S32.size a) ∧
  (∀ a, (k0_off361 v4) a + S1.size a ≤ S32.size a) ∧
  (∀ a, (k0_off363 v4) a + S1.size a ≤ S32.size a) ∧
  (∀ a, (k0_off365 v4) a + S1.size a ≤ S32.size a) ∧
  (∀ a, (k0_off367 v4) a + S1.size a ≤ S32.size a) ∧
  (∀ a, (k0_off369 v4) a + S1.size a ≤ S32.size a) ∧
  (∀ a, (k0_off371 v4) a + S1.size a ≤ S32.size a) ∧
  (∀ a, (k0_off373 v4) a + S1.size a ≤ S32.size a) ∧
  (∀ a, (k0_off375 v4) a + S1.size a ≤ S32.size a) ∧
  (∀ a, (k0_off377 v4) a + S1.size a ≤ S32.size a) ∧
  (∀ a, (k0_off379 v4) a + S1.size a ≤ S32.size a) ∧
  (∀ a, (k0_off381 v4) a + S1.size a ≤ S32.size a) ∧
  (∀ a, (k0_off383 v4) a + S1.size a ≤ S32.size a)
def k0_chk1_6 (v4 : BitVec 32) : Prop :=
  (∀ a, (k0_off385 v4) a + S1.size a ≤ S32.size a) ∧
  (∀ a, (k0_off387 v4) a + S1.size a ≤ S32.size a) ∧
  (∀ a, (k0_off389 v4) a + S1.size a ≤ S32.size a) ∧
  (∀ a, (k0_off391 v4) a + S1.size a ≤ S32.size a) ∧
  (∀ a, (k0_off393 v4) a + S1.size a ≤ S32.size a) ∧
  (∀ a, (k0_off395 v4) a + S1.size a ≤ S32.size a) ∧
  (∀ a, (k0_off397 v4) a + S1.size a ≤ S32.size a) ∧
  (∀ a, (k0_off399 v4) a + S1.size a ≤ S32.size a) ∧
  (∀ a, (k0_off401 v4) a + S1.size a ≤ S32.size a) ∧
  (∀ a, (k0_off403 v4) a + S1.size a ≤ S32.size a) ∧
  (∀ a, (k0_off405 v4) a + S1.size a ≤ S32.size a) ∧
  (∀ a, (k0_off407 v4) a + S1.size a ≤ S32.size a) ∧
  (∀ a, (k0_off409 v4) a + S1.size a ≤ S32.size a) ∧
  (∀ a, (k0_off411 v4) a + S1.size a ≤ S32.size a) ∧
  (∀ a, (k0_off413 v4) a + S1.size a ≤ S32.size a) ∧
  (∀ a, (k0_off415 v4) a + S1.size a ≤ S32.size a) ∧
  (∀ a, (k0_off417 v4) a + S1.size a ≤ S32.size a) ∧
  (∀ a, (k0_off419 v4) a + S1.size a ≤ S32.size a) ∧
  (∀ a, (k0_off421 v4) a + S1.size a ≤ S32.size a) ∧
  (∀ a, (k0_off423 v4) a + S1.size a ≤ S32.size a) ∧
  (∀ a, (k0_off425 v4) a + S1.size a ≤ S32.size a) ∧
  (∀ a, (k0_off427 v4) a + S1.size a ≤ S32.size a) ∧
  (∀ a, (k0_off429 v4) a + S1.size a ≤ S32.size a) ∧
  (∀ a, (k0_off431 v4) a + S1.size a ≤ S32.size a) ∧
  (∀ a, (k0_off433 v4) a + S1.size a ≤ S32.size a) ∧
  (∀ a, (k0_off435 v4) a + S1.size a ≤ S32.size a) ∧
  (∀ a, (k0_off437 v4) a + S1.size a ≤ S32.size a) ∧
  (∀ a, (k0_off439 v4) a + S1.size a ≤ S32.size a) ∧
  (∀ a, (k0_off441 v4) a + S1.size a ≤ S32.size a) ∧
  (∀ a, (k0_off443 v4) a + S1.size a ≤ S32.size a) ∧
  (∀ a, (k0_off445 v4) a + S1.size a ≤ S32.size a) ∧
  (∀ a, (k0_off447 v4) a + S1.size a ≤ S32.size a)
def k0_chk1_7 (v4 : BitVec 32) : Prop :=
  (∀ a, (k0_off449 v4) a + S1.size a ≤ S32.size a) ∧
  (∀ a, (k0_off451 v4) a + S1.size a ≤ S32.size a) ∧
  (∀ a, (k0_off453 v4) a + S1.size a ≤ S32.size a) ∧
  (∀ a, (k0_off455 v4) a + S1.size a ≤ S32.size a) ∧
  (∀ a, (k0_off457 v4) a + S1.size a ≤ S32.size a) ∧
  (∀ a, (k0_off459 v4) a + S1.size a ≤ S32.size a) ∧
  (∀ a, (k0_off461 v4) a + S1.size a ≤ S32.size a) ∧
  (∀ a, (k0_off463 v4) a + S1.size a ≤ S32.size a) ∧
  (∀ a, (k0_off465 v4) a + S1.size a ≤ S32.size a) ∧
  (∀ a, (k0_off467 v4) a + S1.size a ≤ S32.size a) ∧
  (∀ a, (k0_off469 v4) a + S1.size a ≤ S32.size a) ∧
  (∀ a, (k0_off471 v4) a + S1.size a ≤ S32.size a) ∧
  (∀ a, (k0_off473 v4) a + S1.size a ≤ S32.size a) ∧
  (∀ a, (k0_off475 v4) a + S1.size a ≤ S32.size a) ∧
  (∀ a, (k0_off477 v4) a + S1.size a ≤ S32.size a) ∧
  (∀ a, (k0_off479 v4) a + S1.size a ≤ S32.size a) ∧
  (∀ a, (k0_off481 v4) a + S1.size a ≤ S32.size a) ∧
  (∀ a, (k0_off483 v4) a + S1.size a ≤ S32.size a) ∧
  (∀ a, (k0_off485 v4) a + S1.size a ≤ S32.size a) ∧
  (∀ a, (k0_off487 v4) a + S1.size a ≤ S32.size a) ∧
  (∀ a, (k0_off489 v4) a + S1.size a ≤ S32.size a) ∧
  (∀ a, (k0_off491 v4) a + S1.size a ≤ S32.size a) ∧
  (∀ a, (k0_off493 v4) a + S1.size a ≤ S32.size a) ∧
  (∀ a, (k0_off495 v4) a + S1.size a ≤ S32.size a) ∧
  (∀ a, (k0_off497 v4) a + S1.size a ≤ S32.size a) ∧
  (∀ a, (k0_off499 v4) a + S1.size a ≤ S32.size a) ∧
  (∀ a, (k0_off501 v4) a + S1.size a ≤ S32.size a) ∧
  (∀ a, (k0_off503 v4) a + S1.size a ≤ S32.size a) ∧
  (∀ a, (k0_off505 v4) a + S1.size a ≤ S32.size a) ∧
  (∀ a, (k0_off507 v4) a + S1.size a ≤ S32.size a) ∧
  (∀ a, (k0_off509 v4) a + S1.size a ≤ S32.size a) ∧
  (∀ a, (k0_off511 v4) a + S1.size a ≤ S32.size a)
def k0_chk1_8 (v4 : BitVec 32) : Prop :=
  (∀ a, (k0_off513 v4) a + S1.size a ≤ S32.size a) ∧
  (∀ a, (k0_off515 v4) a + S1.size a ≤ S32.size a) ∧
  (∀ a, (k0_off517 v4) a + S1.size a ≤ S32.size a) ∧
  (∀ a, (k0_off519 v4) a + S1.size a ≤ S32.size a) ∧
  (∀ a, (k0_off521 v4) a + S1.size a ≤ S32.size a) ∧
  (∀ a, (k0_off523 v4) a + S1.size a ≤ S32.size a) ∧
  (∀ a, (k0_off525 v4) a + S1.size a ≤ S32.size a) ∧
  (∀ a, (k0_off527 v4) a + S1.size a ≤ S32.size a) ∧
  (∀ a, (k0_off529 v4) a + S1.size a ≤ S32.size a) ∧
  (∀ a, (k0_off531 v4) a + S1.size a ≤ S32.size a) ∧
  (∀ a, (k0_off533 v4) a + S1.size a ≤ S32.size a) ∧
  (∀ a, (k0_off535 v4) a + S1.size a ≤ S32.size a) ∧
  (∀ a, (k0_off537 v4) a + S1.size a ≤ S32.size a) ∧
  (∀ a, (k0_off539 v4) a + S1.size a ≤ S32.size a) ∧
  (∀ a, (k0_off541 v4) a + S1.size a ≤ S32.size a) ∧
  (∀ a, (k0_off543 v4) a + S1.size a ≤ S32.size a) ∧
  (∀ a, (k0_off545 v4) a + S1.size a ≤ S32.size a) ∧
  (∀ a, (k0_off547 v4) a + S1.size a ≤ S32.size a) ∧
  (∀ a, (k0_off549 v4) a + S1.size a ≤ S32.size a) ∧
  (∀ a, (k0_off551 v4) a + S1.size a ≤ S32.size a) ∧
  (∀ a, (k0_off553 v4) a + S1.size a ≤ S32.size a) ∧
  (∀ a, (k0_off555 v4) a + S1.size a ≤ S32.size a) ∧
  (∀ a, (k0_off557 v4) a + S1.size a ≤ S32.size a) ∧
  (∀ a, (k0_off559 v4) a + S1.size a ≤ S32.size a) ∧
  (∀ a, (k0_off561 v4) a + S1.size a ≤ S32.size a) ∧
  (∀ a, (k0_off563 v4) a + S1.size a ≤ S32.size a) ∧
  (∀ a, (k0_off565 v4) a + S1.size a ≤ S32.size a) ∧
  (∀ a, (k0_off567 v4) a + S1.size a ≤ S32.size a) ∧
  (∀ a, (k0_off569 v4) a + S1.size a ≤ S32.size a) ∧
  (∀ a, (k0_off571 v4) a + S1.size a ≤ S32.size a) ∧
  (∀ a, (k0_off573 v4) a + S1.size a ≤ S32.size a) ∧
  (∀ a, (k0_off575 v4) a + S1.size a ≤ S32.size a)
def k0_chk1_9 (v4 : BitVec 32) : Prop :=
  (∀ a, (k0_off577 v4) a + S1.size a ≤ S32.size a) ∧
  (∀ a, (k0_off579 v4) a + S1.size a ≤ S32.size a) ∧
  (∀ a, (k0_off581 v4) a + S1.size a ≤ S32.size a) ∧
  (∀ a, (k0_off583 v4) a + S1.size a ≤ S32.size a) ∧
  (∀ a, (k0_off585 v4) a + S1.size a ≤ S32.size a) ∧
  (∀ a, (k0_off587 v4) a + S1.size a ≤ S32.size a) ∧
  (∀ a, (k0_off589 v4) a + S1.size a ≤ S32.size a) ∧
  (∀ a, (k0_off591 v4) a + S1.size a ≤ S32.size a) ∧
  (∀ a, (k0_off593 v4) a + S1.size a ≤ S32.size a) ∧
  (∀ a, (k0_off595 v4) a + S1.size a ≤ S32.size a) ∧
  (∀ a, (k0_off597 v4) a + S1.size a ≤ S32.size a) ∧
  (∀ a, (k0_off599 v4) a + S1.size a ≤ S32.size a) ∧
  (∀ a, (k0_off601 v4) a + S1.size a ≤ S32.size a) ∧
  (∀ a, (k0_off603 v4) a + S1.size a ≤ S32.size a) ∧
  (∀ a, (k0_off605 v4) a + S1.size a ≤ S32.size a) ∧
  (∀ a, (k0_off607 v4) a + S1.size a ≤ S32.size a) ∧
  (∀ a, (k0_off609 v4) a + S1.size a ≤ S32.size a) ∧
  (∀ a, (k0_off611 v4) a + S1.size a ≤ S32.size a) ∧
  (∀ a, (k0_off613 v4) a + S1.size a ≤ S32.size a) ∧
  (∀ a, (k0_off615 v4) a + S1.size a ≤ S32.size a) ∧
  (∀ a, (k0_off617 v4) a + S1.size a ≤ S32.size a) ∧
  (∀ a, (k0_off619 v4) a + S1.size a ≤ S32.size a) ∧
  (∀ a, (k0_off621 v4) a + S1.size a ≤ S32.size a) ∧
  (∀ a, (k0_off623 v4) a + S1.size a ≤ S32.size a) ∧
  (∀ a, (k0_off625 v4) a + S1.size a ≤ S32.size a) ∧
  (∀ a, (k0_off627 v4) a + S1.size a ≤ S32.size a) ∧
  (∀ a, (k0_off629 v4) a + S1.size a ≤ S32.size a) ∧
  (∀ a, (k0_off631 v4) a + S1.size a ≤ S32.size a) ∧
  (∀ a, (k0_off633 v4) a + S1.size a ≤ S32.size a) ∧
  (∀ a, (k0_off635 v4) a + S1.size a ≤ S32.size a) ∧
  (∀ a, (k0_off637 v4) a + S1.size a ≤ S32.size a) ∧
  (∀ a, (k0_off639 v4) a + S1.size a ≤ S32.size a)
def k0_chk1_10 (v4 : BitVec 32) : Prop :=
  (∀ a, (k0_off641 v4) a + S1.size a ≤ S32.size a) ∧
  (∀ a, (k0_off643 v4) a + S1.size a ≤ S32.size a) ∧
  (∀ a, (k0_off645 v4) a + S1.size a ≤ S32.size a) ∧
  (∀ a, (k0_off647 v4) a + S1.size a ≤ S32.size a) ∧
  (∀ a, (k0_off649 v4) a + S1.size a ≤ S32.size a) ∧
  (∀ a, (k0_off651 v4) a + S1.size a ≤ S32.size a) ∧
  (∀ a, (k0_off653 v4) a + S1.size a ≤ S32.size a) ∧
  (∀ a, (k0_off655 v4) a + S1.size a ≤ S32.size a) ∧
  (∀ a, (k0_off657 v4) a + S1.size a ≤ S32.size a) ∧
  (∀ a, (k0_off659 v4) a + S1.size a ≤ S32.size a) ∧
  (∀ a, (k0_off661 v4) a + S1.size a ≤ S32.size a) ∧
  (∀ a, (k0_off663 v4) a + S1.size a ≤ S32.size a) ∧
  (∀ a, (k0_off665 v4) a + S1.size a ≤ S32.size a) ∧
  (∀ a, (k0_off667 v4) a + S1.size a ≤ S32.size a) ∧
  (∀ a, (k0_off669 v4) a + S1.size a ≤ S32.size a) ∧
  (∀ a, (k0_off671 v4) a + S1.size a ≤ S32.size a) ∧
  (∀ a, (k0_off673 v4) a + S1.size a ≤ S32.size a) ∧
  (∀ a, (k0_off675 v4) a + S1.size a ≤ S32.size a) ∧
  (∀ a, (k0_off677 v4) a + S1.size a ≤ S32.size a) ∧
  (∀ a, (k0_off679 v4) a + S1.size a ≤ S32.size a) ∧
  (∀ a, (k0_off681 v4) a + S1.size a ≤ S32.size a) ∧
  (∀ a, (k0_off683 v4) a + S1.size a ≤ S32.size a) ∧
  (∀ a, (k0_off685 v4) a + S1.size a ≤ S32.size a) ∧
  (∀ a, (k0_off687 v4) a + S1.size a ≤ S32.size a) ∧
  (∀ a, (k0_off689 v4) a + S1.size a ≤ S32.size a) ∧
  (∀ a, (k0_off691 v4) a + S1.size a ≤ S32.size a) ∧
  (∀ a, (k0_off693 v4) a + S1.size a ≤ S32.size a) ∧
  (∀ a, (k0_off695 v4) a + S1.size a ≤ S32.size a) ∧
  (∀ a, (k0_off697 v4) a + S1.size a ≤ S32.size a) ∧
  (∀ a, (k0_off699 v4) a + S1.size a ≤ S32.size a) ∧
  (∀ a, (k0_off701 v4) a + S1.size a ≤ S32.size a) ∧
  (∀ a, (k0_off703 v4) a + S1.size a ≤ S32.size a)
def k0_chk1_11 (v4 : BitVec 32) : Prop :=
  (∀ a, (k0_off705 v4) a + S1.size a ≤ S32.size a) ∧
  (∀ a, (k0_off707 v4) a + S1.size a ≤ S32.size a) ∧
  (∀ a, (k0_off709 v4) a + S1.size a ≤ S32.size a) ∧
  (∀ a, (k0_off711 v4) a + S1.size a ≤ S32.size a) ∧
  (∀ a, (k0_off713 v4) a + S1.size a ≤ S32.size a) ∧
  (∀ a, (k0_off715 v4) a + S1.size a ≤ S32.size a) ∧
  (∀ a, (k0_off717 v4) a + S1.size a ≤ S32.size a) ∧
  (∀ a, (k0_off719 v4) a + S1.size a ≤ S32.size a) ∧
  (∀ a, (k0_off721 v4) a + S1.size a ≤ S32.size a) ∧
  (∀ a, (k0_off723 v4) a + S1.size a ≤ S32.size a) ∧
  (∀ a, (k0_off725 v4) a + S1.size a ≤ S32.size a) ∧
  (∀ a, (k0_off727 v4) a + S1.size a ≤ S32.size a) ∧
  (∀ a, (k0_off729 v4) a + S1.size a ≤ S32.size a) ∧
  (∀ a, (k0_off731 v4) a + S1.size a ≤ S32.size a) ∧
  (∀ a, (k0_off733 v4) a + S1.size a ≤ S32.size a) ∧
  (∀ a, (k0_off735 v4) a + S1.size a ≤ S32.size a) ∧
  (∀ a, (k0_off737 v4) a + S1.size a ≤ S32.size a) ∧
  (∀ a, (k0_off739 v4) a + S1.size a ≤ S32.size a) ∧
  (∀ a, (k0_off741 v4) a + S1.size a ≤ S32.size a) ∧
  (∀ a, (k0_off743 v4) a + S1.size a ≤ S32.size a) ∧
  (∀ a, (k0_off745 v4) a + S1.size a ≤ S32.size a) ∧
  (∀ a, (k0_off747 v4) a + S1.size a ≤ S32.size a)
def k0_chk1 (v4 : BitVec 32) : Prop :=
  k0_chk1_0 v4 ∧
  k0_chk1_1 v4 ∧
  k0_chk1_2 v4 ∧
  k0_chk1_3 v4 ∧
  k0_chk1_4 v4 ∧
  k0_chk1_5 v4 ∧
  k0_chk1_6 v4 ∧
  k0_chk1_7 v4 ∧
  k0_chk1_8 v4 ∧
  k0_chk1_9 v4 ∧
  k0_chk1_10 v4 ∧
  k0_chk1_11 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off11_inb : ∀ (v4 : BitVec 32) (k0_hw1 : k0_chk1 v4), ∀ a, (k0_off11 v4) a + S1.size a ≤ S32.size a := fun v4 k0_hw1 => k0_hw1.1.2.2.2.2.2.1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off23_inb : ∀ (v4 : BitVec 32) (k0_hw1 : k0_chk1 v4), ∀ a, (k0_off23 v4) a + S1.size a ≤ S32.size a := fun v4 k0_hw1 => k0_hw1.1.2.2.2.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.2.2.2.1
theorem k0_off27_inb : ∀ (v4 : BitVec 32) (k0_hw1 : k0_chk1 v4), ∀ a, (k0_off27 v4) a + S1.size a ≤ S32.size a := fun v4 k0_hw1 => k0_hw1.1.2.2.2.2.2.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.2.2.2.2.1
theorem k0_off35_inb : ∀ (v4 : BitVec 32) (k0_hw1 : k0_chk1 v4), ∀ a, (k0_off35 v4) a + S1.size a ≤ S32.size a := fun v4 k0_hw1 => k0_hw1.1.2.2.2.2.2.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.2.2.2.2.2.1
theorem k0_off39_inb : ∀ (v4 : BitVec 32) (k0_hw1 : k0_chk1 v4), ∀ a, (k0_off39 v4) a + S1.size a ≤ S32.size a := fun v4 k0_hw1 => k0_hw1.1.2.2.2.2.2.2.2.2.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.1.2.2.2.2.2.2.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.2.2.2.2.2.2.1
theorem k0_off47_inb : ∀ (v4 : BitVec 32) (k0_hw1 : k0_chk1 v4), ∀ a, (k0_off47 v4) a + S1.size a ≤ S32.size a := fun v4 k0_hw1 => k0_hw1.1.2.2.2.2.2.2.2.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.1.2.2.2.2.2.2.2.2.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.2.2.2.2.2.2.2.2.1
theorem k0_off59_inb : ∀ (v4 : BitVec 32) (k0_hw1 : k0_chk1 v4), ∀ a, (k0_off59 v4) a + S1.size a ≤ S32.size a := fun v4 k0_hw1 => k0_hw1.1.2.2.2.2.2.2.2.2.2.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.2.2.2.2.2.2.2.2.2.1
theorem k0_off63_inb : ∀ (v4 : BitVec 32) (k0_hw1 : k0_chk1 v4), ∀ a, (k0_off63 v4) a + S1.size a ≤ S32.size a := fun v4 k0_hw1 => k0_hw1.1.2.2.2.2.2.2.2.2.2.2.2.2.2.2.2.2.2.2.2.2.2.2.2.2.2.2.2.2.2.2.2
theorem k0_off65_inb : ∀ (v4 : BitVec 32) (k0_hw1 : k0_chk1 v4), ∀ a, (k0_off65 v4) a + S1.size a ≤ S32.size a := fun v4 k0_hw1 => k0_hw1.2.1.1
theorem k0_off67_inb : ∀ (v4 : BitVec 32) (k0_hw1 : k0_chk1 v4), ∀ a, (k0_off67 v4) a + S1.size a ≤ S32.size a := fun v4 k0_hw1 => k0_hw1.2.1.2.1
theorem k0_off69_inb : ∀ (v4 : BitVec 32) (k0_hw1 : k0_chk1 v4), ∀ a, (k0_off69 v4) a + S1.size a ≤ S32.size a := fun v4 k0_hw1 => k0_hw1.2.1.2.2.1
theorem k0_off71_inb : ∀ (v4 : BitVec 32) (k0_hw1 : k0_chk1 v4), ∀ a, (k0_off71 v4) a + S1.size a ≤ S32.size a := fun v4 k0_hw1 => k0_hw1.2.1.2.2.2.1
theorem k0_off73_inb : ∀ (v4 : BitVec 32) (k0_hw1 : k0_chk1 v4), ∀ a, (k0_off73 v4) a + S1.size a ≤ S32.size a := fun v4 k0_hw1 => k0_hw1.2.1.2.2.2.2.1
theorem k0_off75_inb : ∀ (v4 : BitVec 32) (k0_hw1 : k0_chk1 v4), ∀ a, (k0_off75 v4) a + S1.size a ≤ S32.size a := fun v4 k0_hw1 => k0_hw1.2.1.2.2.2.2.2.1
theorem k0_off77_inb : ∀ (v4 : BitVec 32) (k0_hw1 : k0_chk1 v4), ∀ a, (k0_off77 v4) a + S1.size a ≤ S32.size a := fun v4 k0_hw1 => k0_hw1.2.1.2.2.2.2.2.2.1
theorem k0_off79_inb : ∀ (v4 : BitVec 32) (k0_hw1 : k0_chk1 v4), ∀ a, (k0_off79 v4) a + S1.size a ≤ S32.size a := fun v4 k0_hw1 => k0_hw1.2.1.2.2.2.2.2.2.2.1
theorem k0_off81_inb : ∀ (v4 : BitVec 32) (k0_hw1 : k0_chk1 v4), ∀ a, (k0_off81 v4) a + S1.size a ≤ S32.size a := fun v4 k0_hw1 => k0_hw1.2.1.2.2.2.2.2.2.2.2.1
theorem k0_off83_inb : ∀ (v4 : BitVec 32) (k0_hw1 : k0_chk1 v4), ∀ a, (k0_off83 v4) a + S1.size a ≤ S32.size a := fun v4 k0_hw1 => k0_hw1.2.1.2.2.2.2.2.2.2.2.2.1
theorem k0_off85_inb : ∀ (v4 : BitVec 32) (k0_hw1 : k0_chk1 v4), ∀ a, (k0_off85 v4) a + S1.size a ≤ S32.size a := fun v4 k0_hw1 => k0_hw1.2.1.2.2.2.2.2.2.2.2.2.2.1
theorem k0_off87_inb : ∀ (v4 : BitVec 32) (k0_hw1 : k0_chk1 v4), ∀ a, (k0_off87 v4) a + S1.size a ≤ S32.size a := fun v4 k0_hw1 => k0_hw1.2.1.2.2.2.2.2.2.2.2.2.2.2.1
theorem k0_off89_inb : ∀ (v4 : BitVec 32) (k0_hw1 : k0_chk1 v4), ∀ a, (k0_off89 v4) a + S1.size a ≤ S32.size a := fun v4 k0_hw1 => k0_hw1.2.1.2.2.2.2.2.2.2.2.2.2.2.2.1
theorem k0_off91_inb : ∀ (v4 : BitVec 32) (k0_hw1 : k0_chk1 v4), ∀ a, (k0_off91 v4) a + S1.size a ≤ S32.size a := fun v4 k0_hw1 => k0_hw1.2.1.2.2.2.2.2.2.2.2.2.2.2.2.2.1
theorem k0_off93_inb : ∀ (v4 : BitVec 32) (k0_hw1 : k0_chk1 v4), ∀ a, (k0_off93 v4) a + S1.size a ≤ S32.size a := fun v4 k0_hw1 => k0_hw1.2.1.2.2.2.2.2.2.2.2.2.2.2.2.2.2.1
theorem k0_off95_inb : ∀ (v4 : BitVec 32) (k0_hw1 : k0_chk1 v4), ∀ a, (k0_off95 v4) a + S1.size a ≤ S32.size a := fun v4 k0_hw1 => k0_hw1.2.1.2.2.2.2.2.2.2.2.2.2.2.2.2.2.2.1
theorem k0_off97_inb : ∀ (v4 : BitVec 32) (k0_hw1 : k0_chk1 v4), ∀ a, (k0_off97 v4) a + S1.size a ≤ S32.size a := fun v4 k0_hw1 => k0_hw1.2.1.2.2.2.2.2.2.2.2.2.2.2.2.2.2.2.2.1
theorem k0_off99_inb : ∀ (v4 : BitVec 32) (k0_hw1 : k0_chk1 v4), ∀ a, (k0_off99 v4) a + S1.size a ≤ S32.size a := fun v4 k0_hw1 => k0_hw1.2.1.2.2.2.2.2.2.2.2.2.2.2.2.2.2.2.2.2.1
theorem k0_off101_inb : ∀ (v4 : BitVec 32) (k0_hw1 : k0_chk1 v4), ∀ a, (k0_off101 v4) a + S1.size a ≤ S32.size a := fun v4 k0_hw1 => k0_hw1.2.1.2.2.2.2.2.2.2.2.2.2.2.2.2.2.2.2.2.2.1
theorem k0_off103_inb : ∀ (v4 : BitVec 32) (k0_hw1 : k0_chk1 v4), ∀ a, (k0_off103 v4) a + S1.size a ≤ S32.size a := fun v4 k0_hw1 => k0_hw1.2.1.2.2.2.2.2.2.2.2.2.2.2.2.2.2.2.2.2.2.2.1
theorem k0_off105_inb : ∀ (v4 : BitVec 32) (k0_hw1 : k0_chk1 v4), ∀ a, (k0_off105 v4) a + S1.size a ≤ S32.size a := fun v4 k0_hw1 => k0_hw1.2.1.2.2.2.2.2.2.2.2.2.2.2.2.2.2.2.2.2.2.2.2.1
theorem k0_off107_inb : ∀ (v4 : BitVec 32) (k0_hw1 : k0_chk1 v4), ∀ a, (k0_off107 v4) a + S1.size a ≤ S32.size a := fun v4 k0_hw1 => k0_hw1.2.1.2.2.2.2.2.2.2.2.2.2.2.2.2.2.2.2.2.2.2.2.2.1
theorem k0_off109_inb : ∀ (v4 : BitVec 32) (k0_hw1 : k0_chk1 v4), ∀ a, (k0_off109 v4) a + S1.size a ≤ S32.size a := fun v4 k0_hw1 => k0_hw1.2.1.2.2.2.2.2.2.2.2.2.2.2.2.2.2.2.2.2.2.2.2.2.2.1
theorem k0_off111_inb : ∀ (v4 : BitVec 32) (k0_hw1 : k0_chk1 v4), ∀ a, (k0_off111 v4) a + S1.size a ≤ S32.size a := fun v4 k0_hw1 => k0_hw1.2.1.2.2.2.2.2.2.2.2.2.2.2.2.2.2.2.2.2.2.2.2.2.2.2.1
theorem k0_off113_inb : ∀ (v4 : BitVec 32) (k0_hw1 : k0_chk1 v4), ∀ a, (k0_off113 v4) a + S1.size a ≤ S32.size a := fun v4 k0_hw1 => k0_hw1.2.1.2.2.2.2.2.2.2.2.2.2.2.2.2.2.2.2.2.2.2.2.2.2.2.2.1
theorem k0_off115_inb : ∀ (v4 : BitVec 32) (k0_hw1 : k0_chk1 v4), ∀ a, (k0_off115 v4) a + S1.size a ≤ S32.size a := fun v4 k0_hw1 => k0_hw1.2.1.2.2.2.2.2.2.2.2.2.2.2.2.2.2.2.2.2.2.2.2.2.2.2.2.2.1
theorem k0_off117_inb : ∀ (v4 : BitVec 32) (k0_hw1 : k0_chk1 v4), ∀ a, (k0_off117 v4) a + S1.size a ≤ S32.size a := fun v4 k0_hw1 => k0_hw1.2.1.2.2.2.2.2.2.2.2.2.2.2.2.2.2.2.2.2.2.2.2.2.2.2.2.2.2.1
theorem k0_off119_inb : ∀ (v4 : BitVec 32) (k0_hw1 : k0_chk1 v4), ∀ a, (k0_off119 v4) a + S1.size a ≤ S32.size a := fun v4 k0_hw1 => k0_hw1.2.1.2.2.2.2.2.2.2.2.2.2.2.2.2.2.2.2.2.2.2.2.2.2.2.2.2.2.2.1
theorem k0_off121_inb : ∀ (v4 : BitVec 32) (k0_hw1 : k0_chk1 v4), ∀ a, (k0_off121 v4) a + S1.size a ≤ S32.size a := fun v4 k0_hw1 => k0_hw1.2.1.2.2.2.2.2.2.2.2.2.2.2.2.2.2.2.2.2.2.2.2.2.2.2.2.2.2.2.2.1
theorem k0_off123_inb : ∀ (v4 : BitVec 32) (k0_hw1 : k0_chk1 v4), ∀ a, (k0_off123 v4) a + S1.size a ≤ S32.size a := fun v4 k0_hw1 => k0_hw1.2.1.2.2.2.2.2.2.2.2.2.2.2.2.2.2.2.2.2.2.2.2.2.2.2.2.2.2.2.2.2.1
theorem k0_off125_inb : ∀ (v4 : BitVec 32) (k0_hw1 : k0_chk1 v4), ∀ a, (k0_off125 v4) a + S1.size a ≤ S32.size a := fun v4 k0_hw1 => k0_hw1.2.1.2.2.2.2.2.2.2.2.2.2.2.2.2.2.2.2.2.2.2.2.2.2.2.2.2.2.2.2.2.2.1
theorem k0_off127_inb : ∀ (v4 : BitVec 32) (k0_hw1 : k0_chk1 v4), ∀ a, (k0_off127 v4) a + S1.size a ≤ S32.size a := fun v4 k0_hw1 => k0_hw1.2.1.2.2.2.2.2.2.2.2.2.2.2.2.2.2.2.2.2.2.2.2.2.2.2.2.2.2.2.2.2.2.2
theorem k0_off129_inb : ∀ (v4 : BitVec 32) (k0_hw1 : k0_chk1 v4), ∀ a, (k0_off129 v4) a + S1.size a ≤ S32.size a := fun v4 k0_hw1 => k0_hw1.2.2.1.1
theorem k0_off131_inb : ∀ (v4 : BitVec 32) (k0_hw1 : k0_chk1 v4), ∀ a, (k0_off131 v4) a + S1.size a ≤ S32.size a := fun v4 k0_hw1 => k0_hw1.2.2.1.2.1
theorem k0_off133_inb : ∀ (v4 : BitVec 32) (k0_hw1 : k0_chk1 v4), ∀ a, (k0_off133 v4) a + S1.size a ≤ S32.size a := fun v4 k0_hw1 => k0_hw1.2.2.1.2.2.1
theorem k0_off135_inb : ∀ (v4 : BitVec 32) (k0_hw1 : k0_chk1 v4), ∀ a, (k0_off135 v4) a + S1.size a ≤ S32.size a := fun v4 k0_hw1 => k0_hw1.2.2.1.2.2.2.1
theorem k0_off137_inb : ∀ (v4 : BitVec 32) (k0_hw1 : k0_chk1 v4), ∀ a, (k0_off137 v4) a + S1.size a ≤ S32.size a := fun v4 k0_hw1 => k0_hw1.2.2.1.2.2.2.2.1
theorem k0_off139_inb : ∀ (v4 : BitVec 32) (k0_hw1 : k0_chk1 v4), ∀ a, (k0_off139 v4) a + S1.size a ≤ S32.size a := fun v4 k0_hw1 => k0_hw1.2.2.1.2.2.2.2.2.1
theorem k0_off141_inb : ∀ (v4 : BitVec 32) (k0_hw1 : k0_chk1 v4), ∀ a, (k0_off141 v4) a + S1.size a ≤ S32.size a := fun v4 k0_hw1 => k0_hw1.2.2.1.2.2.2.2.2.2.1
theorem k0_off143_inb : ∀ (v4 : BitVec 32) (k0_hw1 : k0_chk1 v4), ∀ a, (k0_off143 v4) a + S1.size a ≤ S32.size a := fun v4 k0_hw1 => k0_hw1.2.2.1.2.2.2.2.2.2.2.1
theorem k0_off145_inb : ∀ (v4 : BitVec 32) (k0_hw1 : k0_chk1 v4), ∀ a, (k0_off145 v4) a + S1.size a ≤ S32.size a := fun v4 k0_hw1 => k0_hw1.2.2.1.2.2.2.2.2.2.2.2.1
theorem k0_off147_inb : ∀ (v4 : BitVec 32) (k0_hw1 : k0_chk1 v4), ∀ a, (k0_off147 v4) a + S1.size a ≤ S32.size a := fun v4 k0_hw1 => k0_hw1.2.2.1.2.2.2.2.2.2.2.2.2.1
theorem k0_off149_inb : ∀ (v4 : BitVec 32) (k0_hw1 : k0_chk1 v4), ∀ a, (k0_off149 v4) a + S1.size a ≤ S32.size a := fun v4 k0_hw1 => k0_hw1.2.2.1.2.2.2.2.2.2.2.2.2.2.1
theorem k0_off151_inb : ∀ (v4 : BitVec 32) (k0_hw1 : k0_chk1 v4), ∀ a, (k0_off151 v4) a + S1.size a ≤ S32.size a := fun v4 k0_hw1 => k0_hw1.2.2.1.2.2.2.2.2.2.2.2.2.2.2.1
theorem k0_off153_inb : ∀ (v4 : BitVec 32) (k0_hw1 : k0_chk1 v4), ∀ a, (k0_off153 v4) a + S1.size a ≤ S32.size a := fun v4 k0_hw1 => k0_hw1.2.2.1.2.2.2.2.2.2.2.2.2.2.2.2.1
theorem k0_off155_inb : ∀ (v4 : BitVec 32) (k0_hw1 : k0_chk1 v4), ∀ a, (k0_off155 v4) a + S1.size a ≤ S32.size a := fun v4 k0_hw1 => k0_hw1.2.2.1.2.2.2.2.2.2.2.2.2.2.2.2.2.1
theorem k0_off157_inb : ∀ (v4 : BitVec 32) (k0_hw1 : k0_chk1 v4), ∀ a, (k0_off157 v4) a + S1.size a ≤ S32.size a := fun v4 k0_hw1 => k0_hw1.2.2.1.2.2.2.2.2.2.2.2.2.2.2.2.2.2.1
theorem k0_off159_inb : ∀ (v4 : BitVec 32) (k0_hw1 : k0_chk1 v4), ∀ a, (k0_off159 v4) a + S1.size a ≤ S32.size a := fun v4 k0_hw1 => k0_hw1.2.2.1.2.2.2.2.2.2.2.2.2.2.2.2.2.2.2.1
theorem k0_off161_inb : ∀ (v4 : BitVec 32) (k0_hw1 : k0_chk1 v4), ∀ a, (k0_off161 v4) a + S1.size a ≤ S32.size a := fun v4 k0_hw1 => k0_hw1.2.2.1.2.2.2.2.2.2.2.2.2.2.2.2.2.2.2.2.1
theorem k0_off163_inb : ∀ (v4 : BitVec 32) (k0_hw1 : k0_chk1 v4), ∀ a, (k0_off163 v4) a + S1.size a ≤ S32.size a := fun v4 k0_hw1 => k0_hw1.2.2.1.2.2.2.2.2.2.2.2.2.2.2.2.2.2.2.2.2.1
theorem k0_off165_inb : ∀ (v4 : BitVec 32) (k0_hw1 : k0_chk1 v4), ∀ a, (k0_off165 v4) a + S1.size a ≤ S32.size a := fun v4 k0_hw1 => k0_hw1.2.2.1.2.2.2.2.2.2.2.2.2.2.2.2.2.2.2.2.2.2.1
theorem k0_off167_inb : ∀ (v4 : BitVec 32) (k0_hw1 : k0_chk1 v4), ∀ a, (k0_off167 v4) a + S1.size a ≤ S32.size a := fun v4 k0_hw1 => k0_hw1.2.2.1.2.2.2.2.2.2.2.2.2.2.2.2.2.2.2.2.2.2.2.1
theorem k0_off169_inb : ∀ (v4 : BitVec 32) (k0_hw1 : k0_chk1 v4), ∀ a, (k0_off169 v4) a + S1.size a ≤ S32.size a := fun v4 k0_hw1 => k0_hw1.2.2.1.2.2.2.2.2.2.2.2.2.2.2.2.2.2.2.2.2.2.2.2.1
theorem k0_off171_inb : ∀ (v4 : BitVec 32) (k0_hw1 : k0_chk1 v4), ∀ a, (k0_off171 v4) a + S1.size a ≤ S32.size a := fun v4 k0_hw1 => k0_hw1.2.2.1.2.2.2.2.2.2.2.2.2.2.2.2.2.2.2.2.2.2.2.2.2.1
theorem k0_off173_inb : ∀ (v4 : BitVec 32) (k0_hw1 : k0_chk1 v4), ∀ a, (k0_off173 v4) a + S1.size a ≤ S32.size a := fun v4 k0_hw1 => k0_hw1.2.2.1.2.2.2.2.2.2.2.2.2.2.2.2.2.2.2.2.2.2.2.2.2.2.1
theorem k0_off175_inb : ∀ (v4 : BitVec 32) (k0_hw1 : k0_chk1 v4), ∀ a, (k0_off175 v4) a + S1.size a ≤ S32.size a := fun v4 k0_hw1 => k0_hw1.2.2.1.2.2.2.2.2.2.2.2.2.2.2.2.2.2.2.2.2.2.2.2.2.2.2.1
theorem k0_off177_inb : ∀ (v4 : BitVec 32) (k0_hw1 : k0_chk1 v4), ∀ a, (k0_off177 v4) a + S1.size a ≤ S32.size a := fun v4 k0_hw1 => k0_hw1.2.2.1.2.2.2.2.2.2.2.2.2.2.2.2.2.2.2.2.2.2.2.2.2.2.2.2.1
theorem k0_off179_inb : ∀ (v4 : BitVec 32) (k0_hw1 : k0_chk1 v4), ∀ a, (k0_off179 v4) a + S1.size a ≤ S32.size a := fun v4 k0_hw1 => k0_hw1.2.2.1.2.2.2.2.2.2.2.2.2.2.2.2.2.2.2.2.2.2.2.2.2.2.2.2.2.1
theorem k0_off181_inb : ∀ (v4 : BitVec 32) (k0_hw1 : k0_chk1 v4), ∀ a, (k0_off181 v4) a + S1.size a ≤ S32.size a := fun v4 k0_hw1 => k0_hw1.2.2.1.2.2.2.2.2.2.2.2.2.2.2.2.2.2.2.2.2.2.2.2.2.2.2.2.2.2.1
theorem k0_off183_inb : ∀ (v4 : BitVec 32) (k0_hw1 : k0_chk1 v4), ∀ a, (k0_off183 v4) a + S1.size a ≤ S32.size a := fun v4 k0_hw1 => k0_hw1.2.2.1.2.2.2.2.2.2.2.2.2.2.2.2.2.2.2.2.2.2.2.2.2.2.2.2.2.2.2.1
theorem k0_off185_inb : ∀ (v4 : BitVec 32) (k0_hw1 : k0_chk1 v4), ∀ a, (k0_off185 v4) a + S1.size a ≤ S32.size a := fun v4 k0_hw1 => k0_hw1.2.2.1.2.2.2.2.2.2.2.2.2.2.2.2.2.2.2.2.2.2.2.2.2.2.2.2.2.2.2.2.1
theorem k0_off187_inb : ∀ (v4 : BitVec 32) (k0_hw1 : k0_chk1 v4), ∀ a, (k0_off187 v4) a + S1.size a ≤ S32.size a := fun v4 k0_hw1 => k0_hw1.2.2.1.2.2.2.2.2.2.2.2.2.2.2.2.2.2.2.2.2.2.2.2.2.2.2.2.2.2.2.2.2.1
theorem k0_off189_inb : ∀ (v4 : BitVec 32) (k0_hw1 : k0_chk1 v4), ∀ a, (k0_off189 v4) a + S1.size a ≤ S32.size a := fun v4 k0_hw1 => k0_hw1.2.2.1.2.2.2.2.2.2.2.2.2.2.2.2.2.2.2.2.2.2.2.2.2.2.2.2.2.2.2.2.2.2.1
theorem k0_off191_inb : ∀ (v4 : BitVec 32) (k0_hw1 : k0_chk1 v4), ∀ a, (k0_off191 v4) a + S1.size a ≤ S32.size a := fun v4 k0_hw1 => k0_hw1.2.2.1.2.2.2.2.2.2.2.2.2.2.2.2.2.2.2.2.2.2.2.2.2.2.2.2.2.2.2.2.2.2.2
theorem k0_off193_inb : ∀ (v4 : BitVec 32) (k0_hw1 : k0_chk1 v4), ∀ a, (k0_off193 v4) a + S1.size a ≤ S32.size a := fun v4 k0_hw1 => k0_hw1.2.2.2.1.1
theorem k0_off195_inb : ∀ (v4 : BitVec 32) (k0_hw1 : k0_chk1 v4), ∀ a, (k0_off195 v4) a + S1.size a ≤ S32.size a := fun v4 k0_hw1 => k0_hw1.2.2.2.1.2.1
theorem k0_off197_inb : ∀ (v4 : BitVec 32) (k0_hw1 : k0_chk1 v4), ∀ a, (k0_off197 v4) a + S1.size a ≤ S32.size a := fun v4 k0_hw1 => k0_hw1.2.2.2.1.2.2.1
theorem k0_off199_inb : ∀ (v4 : BitVec 32) (k0_hw1 : k0_chk1 v4), ∀ a, (k0_off199 v4) a + S1.size a ≤ S32.size a := fun v4 k0_hw1 => k0_hw1.2.2.2.1.2.2.2.1
theorem k0_off201_inb : ∀ (v4 : BitVec 32) (k0_hw1 : k0_chk1 v4), ∀ a, (k0_off201 v4) a + S1.size a ≤ S32.size a := fun v4 k0_hw1 => k0_hw1.2.2.2.1.2.2.2.2.1
theorem k0_off203_inb : ∀ (v4 : BitVec 32) (k0_hw1 : k0_chk1 v4), ∀ a, (k0_off203 v4) a + S1.size a ≤ S32.size a := fun v4 k0_hw1 => k0_hw1.2.2.2.1.2.2.2.2.2.1
theorem k0_off205_inb : ∀ (v4 : BitVec 32) (k0_hw1 : k0_chk1 v4), ∀ a, (k0_off205 v4) a + S1.size a ≤ S32.size a := fun v4 k0_hw1 => k0_hw1.2.2.2.1.2.2.2.2.2.2.1
theorem k0_off207_inb : ∀ (v4 : BitVec 32) (k0_hw1 : k0_chk1 v4), ∀ a, (k0_off207 v4) a + S1.size a ≤ S32.size a := fun v4 k0_hw1 => k0_hw1.2.2.2.1.2.2.2.2.2.2.2.1
theorem k0_off209_inb : ∀ (v4 : BitVec 32) (k0_hw1 : k0_chk1 v4), ∀ a, (k0_off209 v4) a + S1.size a ≤ S32.size a := fun v4 k0_hw1 => k0_hw1.2.2.2.1.2.2.2.2.2.2.2.2.1
theorem k0_off211_inb : ∀ (v4 : BitVec 32) (k0_hw1 : k0_chk1 v4), ∀ a, (k0_off211 v4) a + S1.size a ≤ S32.size a := fun v4 k0_hw1 => k0_hw1.2.2.2.1.2.2.2.2.2.2.2.2.2.1
theorem k0_off213_inb : ∀ (v4 : BitVec 32) (k0_hw1 : k0_chk1 v4), ∀ a, (k0_off213 v4) a + S1.size a ≤ S32.size a := fun v4 k0_hw1 => k0_hw1.2.2.2.1.2.2.2.2.2.2.2.2.2.2.1
theorem k0_off215_inb : ∀ (v4 : BitVec 32) (k0_hw1 : k0_chk1 v4), ∀ a, (k0_off215 v4) a + S1.size a ≤ S32.size a := fun v4 k0_hw1 => k0_hw1.2.2.2.1.2.2.2.2.2.2.2.2.2.2.2.1
theorem k0_off217_inb : ∀ (v4 : BitVec 32) (k0_hw1 : k0_chk1 v4), ∀ a, (k0_off217 v4) a + S1.size a ≤ S32.size a := fun v4 k0_hw1 => k0_hw1.2.2.2.1.2.2.2.2.2.2.2.2.2.2.2.2.1
theorem k0_off219_inb : ∀ (v4 : BitVec 32) (k0_hw1 : k0_chk1 v4), ∀ a, (k0_off219 v4) a + S1.size a ≤ S32.size a := fun v4 k0_hw1 => k0_hw1.2.2.2.1.2.2.2.2.2.2.2.2.2.2.2.2.2.1
theorem k0_off221_inb : ∀ (v4 : BitVec 32) (k0_hw1 : k0_chk1 v4), ∀ a, (k0_off221 v4) a + S1.size a ≤ S32.size a := fun v4 k0_hw1 => k0_hw1.2.2.2.1.2.2.2.2.2.2.2.2.2.2.2.2.2.2.1
theorem k0_off223_inb : ∀ (v4 : BitVec 32) (k0_hw1 : k0_chk1 v4), ∀ a, (k0_off223 v4) a + S1.size a ≤ S32.size a := fun v4 k0_hw1 => k0_hw1.2.2.2.1.2.2.2.2.2.2.2.2.2.2.2.2.2.2.2.1
theorem k0_off225_inb : ∀ (v4 : BitVec 32) (k0_hw1 : k0_chk1 v4), ∀ a, (k0_off225 v4) a + S1.size a ≤ S32.size a := fun v4 k0_hw1 => k0_hw1.2.2.2.1.2.2.2.2.2.2.2.2.2.2.2.2.2.2.2.2.1
theorem k0_off227_inb : ∀ (v4 : BitVec 32) (k0_hw1 : k0_chk1 v4), ∀ a, (k0_off227 v4) a + S1.size a ≤ S32.size a := fun v4 k0_hw1 => k0_hw1.2.2.2.1.2.2.2.2.2.2.2.2.2.2.2.2.2.2.2.2.2.1
theorem k0_off229_inb : ∀ (v4 : BitVec 32) (k0_hw1 : k0_chk1 v4), ∀ a, (k0_off229 v4) a + S1.size a ≤ S32.size a := fun v4 k0_hw1 => k0_hw1.2.2.2.1.2.2.2.2.2.2.2.2.2.2.2.2.2.2.2.2.2.2.1
theorem k0_off231_inb : ∀ (v4 : BitVec 32) (k0_hw1 : k0_chk1 v4), ∀ a, (k0_off231 v4) a + S1.size a ≤ S32.size a := fun v4 k0_hw1 => k0_hw1.2.2.2.1.2.2.2.2.2.2.2.2.2.2.2.2.2.2.2.2.2.2.2.1
theorem k0_off233_inb : ∀ (v4 : BitVec 32) (k0_hw1 : k0_chk1 v4), ∀ a, (k0_off233 v4) a + S1.size a ≤ S32.size a := fun v4 k0_hw1 => k0_hw1.2.2.2.1.2.2.2.2.2.2.2.2.2.2.2.2.2.2.2.2.2.2.2.2.1
theorem k0_off235_inb : ∀ (v4 : BitVec 32) (k0_hw1 : k0_chk1 v4), ∀ a, (k0_off235 v4) a + S1.size a ≤ S32.size a := fun v4 k0_hw1 => k0_hw1.2.2.2.1.2.2.2.2.2.2.2.2.2.2.2.2.2.2.2.2.2.2.2.2.2.1
theorem k0_off237_inb : ∀ (v4 : BitVec 32) (k0_hw1 : k0_chk1 v4), ∀ a, (k0_off237 v4) a + S1.size a ≤ S32.size a := fun v4 k0_hw1 => k0_hw1.2.2.2.1.2.2.2.2.2.2.2.2.2.2.2.2.2.2.2.2.2.2.2.2.2.2.1
theorem k0_off239_inb : ∀ (v4 : BitVec 32) (k0_hw1 : k0_chk1 v4), ∀ a, (k0_off239 v4) a + S1.size a ≤ S32.size a := fun v4 k0_hw1 => k0_hw1.2.2.2.1.2.2.2.2.2.2.2.2.2.2.2.2.2.2.2.2.2.2.2.2.2.2.2.1
theorem k0_off241_inb : ∀ (v4 : BitVec 32) (k0_hw1 : k0_chk1 v4), ∀ a, (k0_off241 v4) a + S1.size a ≤ S32.size a := fun v4 k0_hw1 => k0_hw1.2.2.2.1.2.2.2.2.2.2.2.2.2.2.2.2.2.2.2.2.2.2.2.2.2.2.2.2.1
theorem k0_off243_inb : ∀ (v4 : BitVec 32) (k0_hw1 : k0_chk1 v4), ∀ a, (k0_off243 v4) a + S1.size a ≤ S32.size a := fun v4 k0_hw1 => k0_hw1.2.2.2.1.2.2.2.2.2.2.2.2.2.2.2.2.2.2.2.2.2.2.2.2.2.2.2.2.2.1
theorem k0_off245_inb : ∀ (v4 : BitVec 32) (k0_hw1 : k0_chk1 v4), ∀ a, (k0_off245 v4) a + S1.size a ≤ S32.size a := fun v4 k0_hw1 => k0_hw1.2.2.2.1.2.2.2.2.2.2.2.2.2.2.2.2.2.2.2.2.2.2.2.2.2.2.2.2.2.2.1
theorem k0_off247_inb : ∀ (v4 : BitVec 32) (k0_hw1 : k0_chk1 v4), ∀ a, (k0_off247 v4) a + S1.size a ≤ S32.size a := fun v4 k0_hw1 => k0_hw1.2.2.2.1.2.2.2.2.2.2.2.2.2.2.2.2.2.2.2.2.2.2.2.2.2.2.2.2.2.2.2.1
theorem k0_off249_inb : ∀ (v4 : BitVec 32) (k0_hw1 : k0_chk1 v4), ∀ a, (k0_off249 v4) a + S1.size a ≤ S32.size a := fun v4 k0_hw1 => k0_hw1.2.2.2.1.2.2.2.2.2.2.2.2.2.2.2.2.2.2.2.2.2.2.2.2.2.2.2.2.2.2.2.2.1
theorem k0_off251_inb : ∀ (v4 : BitVec 32) (k0_hw1 : k0_chk1 v4), ∀ a, (k0_off251 v4) a + S1.size a ≤ S32.size a := fun v4 k0_hw1 => k0_hw1.2.2.2.1.2.2.2.2.2.2.2.2.2.2.2.2.2.2.2.2.2.2.2.2.2.2.2.2.2.2.2.2.2.1
theorem k0_off253_inb : ∀ (v4 : BitVec 32) (k0_hw1 : k0_chk1 v4), ∀ a, (k0_off253 v4) a + S1.size a ≤ S32.size a := fun v4 k0_hw1 => k0_hw1.2.2.2.1.2.2.2.2.2.2.2.2.2.2.2.2.2.2.2.2.2.2.2.2.2.2.2.2.2.2.2.2.2.2.1
theorem k0_off255_inb : ∀ (v4 : BitVec 32) (k0_hw1 : k0_chk1 v4), ∀ a, (k0_off255 v4) a + S1.size a ≤ S32.size a := fun v4 k0_hw1 => k0_hw1.2.2.2.1.2.2.2.2.2.2.2.2.2.2.2.2.2.2.2.2.2.2.2.2.2.2.2.2.2.2.2.2.2.2.2
theorem k0_off257_inb : ∀ (v4 : BitVec 32) (k0_hw1 : k0_chk1 v4), ∀ a, (k0_off257 v4) a + S1.size a ≤ S32.size a := fun v4 k0_hw1 => k0_hw1.2.2.2.2.1.1
theorem k0_off259_inb : ∀ (v4 : BitVec 32) (k0_hw1 : k0_chk1 v4), ∀ a, (k0_off259 v4) a + S1.size a ≤ S32.size a := fun v4 k0_hw1 => k0_hw1.2.2.2.2.1.2.1
theorem k0_off261_inb : ∀ (v4 : BitVec 32) (k0_hw1 : k0_chk1 v4), ∀ a, (k0_off261 v4) a + S1.size a ≤ S32.size a := fun v4 k0_hw1 => k0_hw1.2.2.2.2.1.2.2.1
theorem k0_off263_inb : ∀ (v4 : BitVec 32) (k0_hw1 : k0_chk1 v4), ∀ a, (k0_off263 v4) a + S1.size a ≤ S32.size a := fun v4 k0_hw1 => k0_hw1.2.2.2.2.1.2.2.2.1
theorem k0_off265_inb : ∀ (v4 : BitVec 32) (k0_hw1 : k0_chk1 v4), ∀ a, (k0_off265 v4) a + S1.size a ≤ S32.size a := fun v4 k0_hw1 => k0_hw1.2.2.2.2.1.2.2.2.2.1
theorem k0_off267_inb : ∀ (v4 : BitVec 32) (k0_hw1 : k0_chk1 v4), ∀ a, (k0_off267 v4) a + S1.size a ≤ S32.size a := fun v4 k0_hw1 => k0_hw1.2.2.2.2.1.2.2.2.2.2.1
theorem k0_off269_inb : ∀ (v4 : BitVec 32) (k0_hw1 : k0_chk1 v4), ∀ a, (k0_off269 v4) a + S1.size a ≤ S32.size a := fun v4 k0_hw1 => k0_hw1.2.2.2.2.1.2.2.2.2.2.2.1
theorem k0_off271_inb : ∀ (v4 : BitVec 32) (k0_hw1 : k0_chk1 v4), ∀ a, (k0_off271 v4) a + S1.size a ≤ S32.size a := fun v4 k0_hw1 => k0_hw1.2.2.2.2.1.2.2.2.2.2.2.2.1
theorem k0_off273_inb : ∀ (v4 : BitVec 32) (k0_hw1 : k0_chk1 v4), ∀ a, (k0_off273 v4) a + S1.size a ≤ S32.size a := fun v4 k0_hw1 => k0_hw1.2.2.2.2.1.2.2.2.2.2.2.2.2.1
theorem k0_off275_inb : ∀ (v4 : BitVec 32) (k0_hw1 : k0_chk1 v4), ∀ a, (k0_off275 v4) a + S1.size a ≤ S32.size a := fun v4 k0_hw1 => k0_hw1.2.2.2.2.1.2.2.2.2.2.2.2.2.2.1
theorem k0_off277_inb : ∀ (v4 : BitVec 32) (k0_hw1 : k0_chk1 v4), ∀ a, (k0_off277 v4) a + S1.size a ≤ S32.size a := fun v4 k0_hw1 => k0_hw1.2.2.2.2.1.2.2.2.2.2.2.2.2.2.2.1
theorem k0_off279_inb : ∀ (v4 : BitVec 32) (k0_hw1 : k0_chk1 v4), ∀ a, (k0_off279 v4) a + S1.size a ≤ S32.size a := fun v4 k0_hw1 => k0_hw1.2.2.2.2.1.2.2.2.2.2.2.2.2.2.2.2.1
theorem k0_off281_inb : ∀ (v4 : BitVec 32) (k0_hw1 : k0_chk1 v4), ∀ a, (k0_off281 v4) a + S1.size a ≤ S32.size a := fun v4 k0_hw1 => k0_hw1.2.2.2.2.1.2.2.2.2.2.2.2.2.2.2.2.2.1
theorem k0_off283_inb : ∀ (v4 : BitVec 32) (k0_hw1 : k0_chk1 v4), ∀ a, (k0_off283 v4) a + S1.size a ≤ S32.size a := fun v4 k0_hw1 => k0_hw1.2.2.2.2.1.2.2.2.2.2.2.2.2.2.2.2.2.2.1
theorem k0_off285_inb : ∀ (v4 : BitVec 32) (k0_hw1 : k0_chk1 v4), ∀ a, (k0_off285 v4) a + S1.size a ≤ S32.size a := fun v4 k0_hw1 => k0_hw1.2.2.2.2.1.2.2.2.2.2.2.2.2.2.2.2.2.2.2.1
theorem k0_off287_inb : ∀ (v4 : BitVec 32) (k0_hw1 : k0_chk1 v4), ∀ a, (k0_off287 v4) a + S1.size a ≤ S32.size a := fun v4 k0_hw1 => k0_hw1.2.2.2.2.1.2.2.2.2.2.2.2.2.2.2.2.2.2.2.2.1
theorem k0_off289_inb : ∀ (v4 : BitVec 32) (k0_hw1 : k0_chk1 v4), ∀ a, (k0_off289 v4) a + S1.size a ≤ S32.size a := fun v4 k0_hw1 => k0_hw1.2.2.2.2.1.2.2.2.2.2.2.2.2.2.2.2.2.2.2.2.2.1
theorem k0_off291_inb : ∀ (v4 : BitVec 32) (k0_hw1 : k0_chk1 v4), ∀ a, (k0_off291 v4) a + S1.size a ≤ S32.size a := fun v4 k0_hw1 => k0_hw1.2.2.2.2.1.2.2.2.2.2.2.2.2.2.2.2.2.2.2.2.2.2.1
theorem k0_off293_inb : ∀ (v4 : BitVec 32) (k0_hw1 : k0_chk1 v4), ∀ a, (k0_off293 v4) a + S1.size a ≤ S32.size a := fun v4 k0_hw1 => k0_hw1.2.2.2.2.1.2.2.2.2.2.2.2.2.2.2.2.2.2.2.2.2.2.2.1
theorem k0_off295_inb : ∀ (v4 : BitVec 32) (k0_hw1 : k0_chk1 v4), ∀ a, (k0_off295 v4) a + S1.size a ≤ S32.size a := fun v4 k0_hw1 => k0_hw1.2.2.2.2.1.2.2.2.2.2.2.2.2.2.2.2.2.2.2.2.2.2.2.2.1
theorem k0_off297_inb : ∀ (v4 : BitVec 32) (k0_hw1 : k0_chk1 v4), ∀ a, (k0_off297 v4) a + S1.size a ≤ S32.size a := fun v4 k0_hw1 => k0_hw1.2.2.2.2.1.2.2.2.2.2.2.2.2.2.2.2.2.2.2.2.2.2.2.2.2.1
theorem k0_off299_inb : ∀ (v4 : BitVec 32) (k0_hw1 : k0_chk1 v4), ∀ a, (k0_off299 v4) a + S1.size a ≤ S32.size a := fun v4 k0_hw1 => k0_hw1.2.2.2.2.1.2.2.2.2.2.2.2.2.2.2.2.2.2.2.2.2.2.2.2.2.2.1
theorem k0_off301_inb : ∀ (v4 : BitVec 32) (k0_hw1 : k0_chk1 v4), ∀ a, (k0_off301 v4) a + S1.size a ≤ S32.size a := fun v4 k0_hw1 => k0_hw1.2.2.2.2.1.2.2.2.2.2.2.2.2.2.2.2.2.2.2.2.2.2.2.2.2.2.2.1
theorem k0_off303_inb : ∀ (v4 : BitVec 32) (k0_hw1 : k0_chk1 v4), ∀ a, (k0_off303 v4) a + S1.size a ≤ S32.size a := fun v4 k0_hw1 => k0_hw1.2.2.2.2.1.2.2.2.2.2.2.2.2.2.2.2.2.2.2.2.2.2.2.2.2.2.2.2.1
theorem k0_off305_inb : ∀ (v4 : BitVec 32) (k0_hw1 : k0_chk1 v4), ∀ a, (k0_off305 v4) a + S1.size a ≤ S32.size a := fun v4 k0_hw1 => k0_hw1.2.2.2.2.1.2.2.2.2.2.2.2.2.2.2.2.2.2.2.2.2.2.2.2.2.2.2.2.2.1
theorem k0_off307_inb : ∀ (v4 : BitVec 32) (k0_hw1 : k0_chk1 v4), ∀ a, (k0_off307 v4) a + S1.size a ≤ S32.size a := fun v4 k0_hw1 => k0_hw1.2.2.2.2.1.2.2.2.2.2.2.2.2.2.2.2.2.2.2.2.2.2.2.2.2.2.2.2.2.2.1
theorem k0_off309_inb : ∀ (v4 : BitVec 32) (k0_hw1 : k0_chk1 v4), ∀ a, (k0_off309 v4) a + S1.size a ≤ S32.size a := fun v4 k0_hw1 => k0_hw1.2.2.2.2.1.2.2.2.2.2.2.2.2.2.2.2.2.2.2.2.2.2.2.2.2.2.2.2.2.2.2.1
theorem k0_off311_inb : ∀ (v4 : BitVec 32) (k0_hw1 : k0_chk1 v4), ∀ a, (k0_off311 v4) a + S1.size a ≤ S32.size a := fun v4 k0_hw1 => k0_hw1.2.2.2.2.1.2.2.2.2.2.2.2.2.2.2.2.2.2.2.2.2.2.2.2.2.2.2.2.2.2.2.2.1
theorem k0_off313_inb : ∀ (v4 : BitVec 32) (k0_hw1 : k0_chk1 v4), ∀ a, (k0_off313 v4) a + S1.size a ≤ S32.size a := fun v4 k0_hw1 => k0_hw1.2.2.2.2.1.2.2.2.2.2.2.2.2.2.2.2.2.2.2.2.2.2.2.2.2.2.2.2.2.2.2.2.2.1
theorem k0_off315_inb : ∀ (v4 : BitVec 32) (k0_hw1 : k0_chk1 v4), ∀ a, (k0_off315 v4) a + S1.size a ≤ S32.size a := fun v4 k0_hw1 => k0_hw1.2.2.2.2.1.2.2.2.2.2.2.2.2.2.2.2.2.2.2.2.2.2.2.2.2.2.2.2.2.2.2.2.2.2.1
theorem k0_off317_inb : ∀ (v4 : BitVec 32) (k0_hw1 : k0_chk1 v4), ∀ a, (k0_off317 v4) a + S1.size a ≤ S32.size a := fun v4 k0_hw1 => k0_hw1.2.2.2.2.1.2.2.2.2.2.2.2.2.2.2.2.2.2.2.2.2.2.2.2.2.2.2.2.2.2.2.2.2.2.2.1
theorem k0_off319_inb : ∀ (v4 : BitVec 32) (k0_hw1 : k0_chk1 v4), ∀ a, (k0_off319 v4) a + S1.size a ≤ S32.size a := fun v4 k0_hw1 => k0_hw1.2.2.2.2.1.2.2.2.2.2.2.2.2.2.2.2.2.2.2.2.2.2.2.2.2.2.2.2.2.2.2.2.2.2.2.2
theorem k0_off321_inb : ∀ (v4 : BitVec 32) (k0_hw1 : k0_chk1 v4), ∀ a, (k0_off321 v4) a + S1.size a ≤ S32.size a := fun v4 k0_hw1 => k0_hw1.2.2.2.2.2.1.1
theorem k0_off323_inb : ∀ (v4 : BitVec 32) (k0_hw1 : k0_chk1 v4), ∀ a, (k0_off323 v4) a + S1.size a ≤ S32.size a := fun v4 k0_hw1 => k0_hw1.2.2.2.2.2.1.2.1
theorem k0_off325_inb : ∀ (v4 : BitVec 32) (k0_hw1 : k0_chk1 v4), ∀ a, (k0_off325 v4) a + S1.size a ≤ S32.size a := fun v4 k0_hw1 => k0_hw1.2.2.2.2.2.1.2.2.1
theorem k0_off327_inb : ∀ (v4 : BitVec 32) (k0_hw1 : k0_chk1 v4), ∀ a, (k0_off327 v4) a + S1.size a ≤ S32.size a := fun v4 k0_hw1 => k0_hw1.2.2.2.2.2.1.2.2.2.1
theorem k0_off329_inb : ∀ (v4 : BitVec 32) (k0_hw1 : k0_chk1 v4), ∀ a, (k0_off329 v4) a + S1.size a ≤ S32.size a := fun v4 k0_hw1 => k0_hw1.2.2.2.2.2.1.2.2.2.2.1
theorem k0_off331_inb : ∀ (v4 : BitVec 32) (k0_hw1 : k0_chk1 v4), ∀ a, (k0_off331 v4) a + S1.size a ≤ S32.size a := fun v4 k0_hw1 => k0_hw1.2.2.2.2.2.1.2.2.2.2.2.1
theorem k0_off333_inb : ∀ (v4 : BitVec 32) (k0_hw1 : k0_chk1 v4), ∀ a, (k0_off333 v4) a + S1.size a ≤ S32.size a := fun v4 k0_hw1 => k0_hw1.2.2.2.2.2.1.2.2.2.2.2.2.1
theorem k0_off335_inb : ∀ (v4 : BitVec 32) (k0_hw1 : k0_chk1 v4), ∀ a, (k0_off335 v4) a + S1.size a ≤ S32.size a := fun v4 k0_hw1 => k0_hw1.2.2.2.2.2.1.2.2.2.2.2.2.2.1
theorem k0_off337_inb : ∀ (v4 : BitVec 32) (k0_hw1 : k0_chk1 v4), ∀ a, (k0_off337 v4) a + S1.size a ≤ S32.size a := fun v4 k0_hw1 => k0_hw1.2.2.2.2.2.1.2.2.2.2.2.2.2.2.1
theorem k0_off339_inb : ∀ (v4 : BitVec 32) (k0_hw1 : k0_chk1 v4), ∀ a, (k0_off339 v4) a + S1.size a ≤ S32.size a := fun v4 k0_hw1 => k0_hw1.2.2.2.2.2.1.2.2.2.2.2.2.2.2.2.1
theorem k0_off341_inb : ∀ (v4 : BitVec 32) (k0_hw1 : k0_chk1 v4), ∀ a, (k0_off341 v4) a + S1.size a ≤ S32.size a := fun v4 k0_hw1 => k0_hw1.2.2.2.2.2.1.2.2.2.2.2.2.2.2.2.2.1
theorem k0_off343_inb : ∀ (v4 : BitVec 32) (k0_hw1 : k0_chk1 v4), ∀ a, (k0_off343 v4) a + S1.size a ≤ S32.size a := fun v4 k0_hw1 => k0_hw1.2.2.2.2.2.1.2.2.2.2.2.2.2.2.2.2.2.1
theorem k0_off345_inb : ∀ (v4 : BitVec 32) (k0_hw1 : k0_chk1 v4), ∀ a, (k0_off345 v4) a + S1.size a ≤ S32.size a := fun v4 k0_hw1 => k0_hw1.2.2.2.2.2.1.2.2.2.2.2.2.2.2.2.2.2.2.1
theorem k0_off347_inb : ∀ (v4 : BitVec 32) (k0_hw1 : k0_chk1 v4), ∀ a, (k0_off347 v4) a + S1.size a ≤ S32.size a := fun v4 k0_hw1 => k0_hw1.2.2.2.2.2.1.2.2.2.2.2.2.2.2.2.2.2.2.2.1
theorem k0_off349_inb : ∀ (v4 : BitVec 32) (k0_hw1 : k0_chk1 v4), ∀ a, (k0_off349 v4) a + S1.size a ≤ S32.size a := fun v4 k0_hw1 => k0_hw1.2.2.2.2.2.1.2.2.2.2.2.2.2.2.2.2.2.2.2.2.1
theorem k0_off351_inb : ∀ (v4 : BitVec 32) (k0_hw1 : k0_chk1 v4), ∀ a, (k0_off351 v4) a + S1.size a ≤ S32.size a := fun v4 k0_hw1 => k0_hw1.2.2.2.2.2.1.2.2.2.2.2.2.2.2.2.2.2.2.2.2.2.1
theorem k0_off353_inb : ∀ (v4 : BitVec 32) (k0_hw1 : k0_chk1 v4), ∀ a, (k0_off353 v4) a + S1.size a ≤ S32.size a := fun v4 k0_hw1 => k0_hw1.2.2.2.2.2.1.2.2.2.2.2.2.2.2.2.2.2.2.2.2.2.2.1
theorem k0_off355_inb : ∀ (v4 : BitVec 32) (k0_hw1 : k0_chk1 v4), ∀ a, (k0_off355 v4) a + S1.size a ≤ S32.size a := fun v4 k0_hw1 => k0_hw1.2.2.2.2.2.1.2.2.2.2.2.2.2.2.2.2.2.2.2.2.2.2.2.1
theorem k0_off357_inb : ∀ (v4 : BitVec 32) (k0_hw1 : k0_chk1 v4), ∀ a, (k0_off357 v4) a + S1.size a ≤ S32.size a := fun v4 k0_hw1 => k0_hw1.2.2.2.2.2.1.2.2.2.2.2.2.2.2.2.2.2.2.2.2.2.2.2.2.1
theorem k0_off359_inb : ∀ (v4 : BitVec 32) (k0_hw1 : k0_chk1 v4), ∀ a, (k0_off359 v4) a + S1.size a ≤ S32.size a := fun v4 k0_hw1 => k0_hw1.2.2.2.2.2.1.2.2.2.2.2.2.2.2.2.2.2.2.2.2.2.2.2.2.2.1
theorem k0_off361_inb : ∀ (v4 : BitVec 32) (k0_hw1 : k0_chk1 v4), ∀ a, (k0_off361 v4) a + S1.size a ≤ S32.size a := fun v4 k0_hw1 => k0_hw1.2.2.2.2.2.1.2.2.2.2.2.2.2.2.2.2.2.2.2.2.2.2.2.2.2.2.1
theorem k0_off363_inb : ∀ (v4 : BitVec 32) (k0_hw1 : k0_chk1 v4), ∀ a, (k0_off363 v4) a + S1.size a ≤ S32.size a := fun v4 k0_hw1 => k0_hw1.2.2.2.2.2.1.2.2.2.2.2.2.2.2.2.2.2.2.2.2.2.2.2.2.2.2.2.1
theorem k0_off365_inb : ∀ (v4 : BitVec 32) (k0_hw1 : k0_chk1 v4), ∀ a, (k0_off365 v4) a + S1.size a ≤ S32.size a := fun v4 k0_hw1 => k0_hw1.2.2.2.2.2.1.2.2.2.2.2.2.2.2.2.2.2.2.2.2.2.2.2.2.2.2.2.2.1
theorem k0_off367_inb : ∀ (v4 : BitVec 32) (k0_hw1 : k0_chk1 v4), ∀ a, (k0_off367 v4) a + S1.size a ≤ S32.size a := fun v4 k0_hw1 => k0_hw1.2.2.2.2.2.1.2.2.2.2.2.2.2.2.2.2.2.2.2.2.2.2.2.2.2.2.2.2.2.1
theorem k0_off369_inb : ∀ (v4 : BitVec 32) (k0_hw1 : k0_chk1 v4), ∀ a, (k0_off369 v4) a + S1.size a ≤ S32.size a := fun v4 k0_hw1 => k0_hw1.2.2.2.2.2.1.2.2.2.2.2.2.2.2.2.2.2.2.2.2.2.2.2.2.2.2.2.2.2.2.1
theorem k0_off371_inb : ∀ (v4 : BitVec 32) (k0_hw1 : k0_chk1 v4), ∀ a, (k0_off371 v4) a + S1.size a ≤ S32.size a := fun v4 k0_hw1 => k0_hw1.2.2.2.2.2.1.2.2.2.2.2.2.2.2.2.2.2.2.2.2.2.2.2.2.2.2.2.2.2.2.2.1
theorem k0_off373_inb : ∀ (v4 : BitVec 32) (k0_hw1 : k0_chk1 v4), ∀ a, (k0_off373 v4) a + S1.size a ≤ S32.size a := fun v4 k0_hw1 => k0_hw1.2.2.2.2.2.1.2.2.2.2.2.2.2.2.2.2.2.2.2.2.2.2.2.2.2.2.2.2.2.2.2.2.1
theorem k0_off375_inb : ∀ (v4 : BitVec 32) (k0_hw1 : k0_chk1 v4), ∀ a, (k0_off375 v4) a + S1.size a ≤ S32.size a := fun v4 k0_hw1 => k0_hw1.2.2.2.2.2.1.2.2.2.2.2.2.2.2.2.2.2.2.2.2.2.2.2.2.2.2.2.2.2.2.2.2.2.1
theorem k0_off377_inb : ∀ (v4 : BitVec 32) (k0_hw1 : k0_chk1 v4), ∀ a, (k0_off377 v4) a + S1.size a ≤ S32.size a := fun v4 k0_hw1 => k0_hw1.2.2.2.2.2.1.2.2.2.2.2.2.2.2.2.2.2.2.2.2.2.2.2.2.2.2.2.2.2.2.2.2.2.2.1
theorem k0_off379_inb : ∀ (v4 : BitVec 32) (k0_hw1 : k0_chk1 v4), ∀ a, (k0_off379 v4) a + S1.size a ≤ S32.size a := fun v4 k0_hw1 => k0_hw1.2.2.2.2.2.1.2.2.2.2.2.2.2.2.2.2.2.2.2.2.2.2.2.2.2.2.2.2.2.2.2.2.2.2.2.1
theorem k0_off381_inb : ∀ (v4 : BitVec 32) (k0_hw1 : k0_chk1 v4), ∀ a, (k0_off381 v4) a + S1.size a ≤ S32.size a := fun v4 k0_hw1 => k0_hw1.2.2.2.2.2.1.2.2.2.2.2.2.2.2.2.2.2.2.2.2.2.2.2.2.2.2.2.2.2.2.2.2.2.2.2.2.1
theorem k0_off383_inb : ∀ (v4 : BitVec 32) (k0_hw1 : k0_chk1 v4), ∀ a, (k0_off383 v4) a + S1.size a ≤ S32.size a := fun v4 k0_hw1 => k0_hw1.2.2.2.2.2.1.2.2.2.2.2.2.2.2.2.2.2.2.2.2.2.2.2.2.2.2.2.2.2.2.2.2.2.2.2.2.2
theorem k0_off385_inb : ∀ (v4 : BitVec 32) (k0_hw1 : k0_chk1 v4), ∀ a, (k0_off385 v4) a + S1.size a ≤ S32.size a := fun v4 k0_hw1 => k0_hw1.2.2.2.2.2.2.1.1
theorem k0_off387_inb : ∀ (v4 : BitVec 32) (k0_hw1 : k0_chk1 v4), ∀ a, (k0_off387 v4) a + S1.size a ≤ S32.size a := fun v4 k0_hw1 => k0_hw1.2.2.2.2.2.2.1.2.1
theorem k0_off389_inb : ∀ (v4 : BitVec 32) (k0_hw1 : k0_chk1 v4), ∀ a, (k0_off389 v4) a + S1.size a ≤ S32.size a := fun v4 k0_hw1 => k0_hw1.2.2.2.2.2.2.1.2.2.1
theorem k0_off391_inb : ∀ (v4 : BitVec 32) (k0_hw1 : k0_chk1 v4), ∀ a, (k0_off391 v4) a + S1.size a ≤ S32.size a := fun v4 k0_hw1 => k0_hw1.2.2.2.2.2.2.1.2.2.2.1
theorem k0_off393_inb : ∀ (v4 : BitVec 32) (k0_hw1 : k0_chk1 v4), ∀ a, (k0_off393 v4) a + S1.size a ≤ S32.size a := fun v4 k0_hw1 => k0_hw1.2.2.2.2.2.2.1.2.2.2.2.1
theorem k0_off395_inb : ∀ (v4 : BitVec 32) (k0_hw1 : k0_chk1 v4), ∀ a, (k0_off395 v4) a + S1.size a ≤ S32.size a := fun v4 k0_hw1 => k0_hw1.2.2.2.2.2.2.1.2.2.2.2.2.1
theorem k0_off397_inb : ∀ (v4 : BitVec 32) (k0_hw1 : k0_chk1 v4), ∀ a, (k0_off397 v4) a + S1.size a ≤ S32.size a := fun v4 k0_hw1 => k0_hw1.2.2.2.2.2.2.1.2.2.2.2.2.2.1
theorem k0_off399_inb : ∀ (v4 : BitVec 32) (k0_hw1 : k0_chk1 v4), ∀ a, (k0_off399 v4) a + S1.size a ≤ S32.size a := fun v4 k0_hw1 => k0_hw1.2.2.2.2.2.2.1.2.2.2.2.2.2.2.1
theorem k0_off401_inb : ∀ (v4 : BitVec 32) (k0_hw1 : k0_chk1 v4), ∀ a, (k0_off401 v4) a + S1.size a ≤ S32.size a := fun v4 k0_hw1 => k0_hw1.2.2.2.2.2.2.1.2.2.2.2.2.2.2.2.1
theorem k0_off403_inb : ∀ (v4 : BitVec 32) (k0_hw1 : k0_chk1 v4), ∀ a, (k0_off403 v4) a + S1.size a ≤ S32.size a := fun v4 k0_hw1 => k0_hw1.2.2.2.2.2.2.1.2.2.2.2.2.2.2.2.2.1
theorem k0_off405_inb : ∀ (v4 : BitVec 32) (k0_hw1 : k0_chk1 v4), ∀ a, (k0_off405 v4) a + S1.size a ≤ S32.size a := fun v4 k0_hw1 => k0_hw1.2.2.2.2.2.2.1.2.2.2.2.2.2.2.2.2.2.1
theorem k0_off407_inb : ∀ (v4 : BitVec 32) (k0_hw1 : k0_chk1 v4), ∀ a, (k0_off407 v4) a + S1.size a ≤ S32.size a := fun v4 k0_hw1 => k0_hw1.2.2.2.2.2.2.1.2.2.2.2.2.2.2.2.2.2.2.1
theorem k0_off409_inb : ∀ (v4 : BitVec 32) (k0_hw1 : k0_chk1 v4), ∀ a, (k0_off409 v4) a + S1.size a ≤ S32.size a := fun v4 k0_hw1 => k0_hw1.2.2.2.2.2.2.1.2.2.2.2.2.2.2.2.2.2.2.2.1
theorem k0_off411_inb : ∀ (v4 : BitVec 32) (k0_hw1 : k0_chk1 v4), ∀ a, (k0_off411 v4) a + S1.size a ≤ S32.size a := fun v4 k0_hw1 => k0_hw1.2.2.2.2.2.2.1.2.2.2.2.2.2.2.2.2.2.2.2.2.1
theorem k0_off413_inb : ∀ (v4 : BitVec 32) (k0_hw1 : k0_chk1 v4), ∀ a, (k0_off413 v4) a + S1.size a ≤ S32.size a := fun v4 k0_hw1 => k0_hw1.2.2.2.2.2.2.1.2.2.2.2.2.2.2.2.2.2.2.2.2.2.1
theorem k0_off415_inb : ∀ (v4 : BitVec 32) (k0_hw1 : k0_chk1 v4), ∀ a, (k0_off415 v4) a + S1.size a ≤ S32.size a := fun v4 k0_hw1 => k0_hw1.2.2.2.2.2.2.1.2.2.2.2.2.2.2.2.2.2.2.2.2.2.2.1
theorem k0_off417_inb : ∀ (v4 : BitVec 32) (k0_hw1 : k0_chk1 v4), ∀ a, (k0_off417 v4) a + S1.size a ≤ S32.size a := fun v4 k0_hw1 => k0_hw1.2.2.2.2.2.2.1.2.2.2.2.2.2.2.2.2.2.2.2.2.2.2.2.1
theorem k0_off419_inb : ∀ (v4 : BitVec 32) (k0_hw1 : k0_chk1 v4), ∀ a, (k0_off419 v4) a + S1.size a ≤ S32.size a := fun v4 k0_hw1 => k0_hw1.2.2.2.2.2.2.1.2.2.2.2.2.2.2.2.2.2.2.2.2.2.2.2.2.1
theorem k0_off421_inb : ∀ (v4 : BitVec 32) (k0_hw1 : k0_chk1 v4), ∀ a, (k0_off421 v4) a + S1.size a ≤ S32.size a := fun v4 k0_hw1 => k0_hw1.2.2.2.2.2.2.1.2.2.2.2.2.2.2.2.2.2.2.2.2.2.2.2.2.2.1
theorem k0_off423_inb : ∀ (v4 : BitVec 32) (k0_hw1 : k0_chk1 v4), ∀ a, (k0_off423 v4) a + S1.size a ≤ S32.size a := fun v4 k0_hw1 => k0_hw1.2.2.2.2.2.2.1.2.2.2.2.2.2.2.2.2.2.2.2.2.2.2.2.2.2.2.1
theorem k0_off425_inb : ∀ (v4 : BitVec 32) (k0_hw1 : k0_chk1 v4), ∀ a, (k0_off425 v4) a + S1.size a ≤ S32.size a := fun v4 k0_hw1 => k0_hw1.2.2.2.2.2.2.1.2.2.2.2.2.2.2.2.2.2.2.2.2.2.2.2.2.2.2.2.1
theorem k0_off427_inb : ∀ (v4 : BitVec 32) (k0_hw1 : k0_chk1 v4), ∀ a, (k0_off427 v4) a + S1.size a ≤ S32.size a := fun v4 k0_hw1 => k0_hw1.2.2.2.2.2.2.1.2.2.2.2.2.2.2.2.2.2.2.2.2.2.2.2.2.2.2.2.2.1
theorem k0_off429_inb : ∀ (v4 : BitVec 32) (k0_hw1 : k0_chk1 v4), ∀ a, (k0_off429 v4) a + S1.size a ≤ S32.size a := fun v4 k0_hw1 => k0_hw1.2.2.2.2.2.2.1.2.2.2.2.2.2.2.2.2.2.2.2.2.2.2.2.2.2.2.2.2.2.1
theorem k0_off431_inb : ∀ (v4 : BitVec 32) (k0_hw1 : k0_chk1 v4), ∀ a, (k0_off431 v4) a + S1.size a ≤ S32.size a := fun v4 k0_hw1 => k0_hw1.2.2.2.2.2.2.1.2.2.2.2.2.2.2.2.2.2.2.2.2.2.2.2.2.2.2.2.2.2.2.1
theorem k0_off433_inb : ∀ (v4 : BitVec 32) (k0_hw1 : k0_chk1 v4), ∀ a, (k0_off433 v4) a + S1.size a ≤ S32.size a := fun v4 k0_hw1 => k0_hw1.2.2.2.2.2.2.1.2.2.2.2.2.2.2.2.2.2.2.2.2.2.2.2.2.2.2.2.2.2.2.2.1
theorem k0_off435_inb : ∀ (v4 : BitVec 32) (k0_hw1 : k0_chk1 v4), ∀ a, (k0_off435 v4) a + S1.size a ≤ S32.size a := fun v4 k0_hw1 => k0_hw1.2.2.2.2.2.2.1.2.2.2.2.2.2.2.2.2.2.2.2.2.2.2.2.2.2.2.2.2.2.2.2.2.1
theorem k0_off437_inb : ∀ (v4 : BitVec 32) (k0_hw1 : k0_chk1 v4), ∀ a, (k0_off437 v4) a + S1.size a ≤ S32.size a := fun v4 k0_hw1 => k0_hw1.2.2.2.2.2.2.1.2.2.2.2.2.2.2.2.2.2.2.2.2.2.2.2.2.2.2.2.2.2.2.2.2.2.1
theorem k0_off439_inb : ∀ (v4 : BitVec 32) (k0_hw1 : k0_chk1 v4), ∀ a, (k0_off439 v4) a + S1.size a ≤ S32.size a := fun v4 k0_hw1 => k0_hw1.2.2.2.2.2.2.1.2.2.2.2.2.2.2.2.2.2.2.2.2.2.2.2.2.2.2.2.2.2.2.2.2.2.2.1
theorem k0_off441_inb : ∀ (v4 : BitVec 32) (k0_hw1 : k0_chk1 v4), ∀ a, (k0_off441 v4) a + S1.size a ≤ S32.size a := fun v4 k0_hw1 => k0_hw1.2.2.2.2.2.2.1.2.2.2.2.2.2.2.2.2.2.2.2.2.2.2.2.2.2.2.2.2.2.2.2.2.2.2.2.1
theorem k0_off443_inb : ∀ (v4 : BitVec 32) (k0_hw1 : k0_chk1 v4), ∀ a, (k0_off443 v4) a + S1.size a ≤ S32.size a := fun v4 k0_hw1 => k0_hw1.2.2.2.2.2.2.1.2.2.2.2.2.2.2.2.2.2.2.2.2.2.2.2.2.2.2.2.2.2.2.2.2.2.2.2.2.1
theorem k0_off445_inb : ∀ (v4 : BitVec 32) (k0_hw1 : k0_chk1 v4), ∀ a, (k0_off445 v4) a + S1.size a ≤ S32.size a := fun v4 k0_hw1 => k0_hw1.2.2.2.2.2.2.1.2.2.2.2.2.2.2.2.2.2.2.2.2.2.2.2.2.2.2.2.2.2.2.2.2.2.2.2.2.2.1
theorem k0_off447_inb : ∀ (v4 : BitVec 32) (k0_hw1 : k0_chk1 v4), ∀ a, (k0_off447 v4) a + S1.size a ≤ S32.size a := fun v4 k0_hw1 => k0_hw1.2.2.2.2.2.2.1.2.2.2.2.2.2.2.2.2.2.2.2.2.2.2.2.2.2.2.2.2.2.2.2.2.2.2.2.2.2.2
theorem k0_off449_inb : ∀ (v4 : BitVec 32) (k0_hw1 : k0_chk1 v4), ∀ a, (k0_off449 v4) a + S1.size a ≤ S32.size a := fun v4 k0_hw1 => k0_hw1.2.2.2.2.2.2.2.1.1
theorem k0_off451_inb : ∀ (v4 : BitVec 32) (k0_hw1 : k0_chk1 v4), ∀ a, (k0_off451 v4) a + S1.size a ≤ S32.size a := fun v4 k0_hw1 => k0_hw1.2.2.2.2.2.2.2.1.2.1
theorem k0_off453_inb : ∀ (v4 : BitVec 32) (k0_hw1 : k0_chk1 v4), ∀ a, (k0_off453 v4) a + S1.size a ≤ S32.size a := fun v4 k0_hw1 => k0_hw1.2.2.2.2.2.2.2.1.2.2.1
theorem k0_off455_inb : ∀ (v4 : BitVec 32) (k0_hw1 : k0_chk1 v4), ∀ a, (k0_off455 v4) a + S1.size a ≤ S32.size a := fun v4 k0_hw1 => k0_hw1.2.2.2.2.2.2.2.1.2.2.2.1
theorem k0_off457_inb : ∀ (v4 : BitVec 32) (k0_hw1 : k0_chk1 v4), ∀ a, (k0_off457 v4) a + S1.size a ≤ S32.size a := fun v4 k0_hw1 => k0_hw1.2.2.2.2.2.2.2.1.2.2.2.2.1
theorem k0_off459_inb : ∀ (v4 : BitVec 32) (k0_hw1 : k0_chk1 v4), ∀ a, (k0_off459 v4) a + S1.size a ≤ S32.size a := fun v4 k0_hw1 => k0_hw1.2.2.2.2.2.2.2.1.2.2.2.2.2.1
theorem k0_off461_inb : ∀ (v4 : BitVec 32) (k0_hw1 : k0_chk1 v4), ∀ a, (k0_off461 v4) a + S1.size a ≤ S32.size a := fun v4 k0_hw1 => k0_hw1.2.2.2.2.2.2.2.1.2.2.2.2.2.2.1
theorem k0_off463_inb : ∀ (v4 : BitVec 32) (k0_hw1 : k0_chk1 v4), ∀ a, (k0_off463 v4) a + S1.size a ≤ S32.size a := fun v4 k0_hw1 => k0_hw1.2.2.2.2.2.2.2.1.2.2.2.2.2.2.2.1
theorem k0_off465_inb : ∀ (v4 : BitVec 32) (k0_hw1 : k0_chk1 v4), ∀ a, (k0_off465 v4) a + S1.size a ≤ S32.size a := fun v4 k0_hw1 => k0_hw1.2.2.2.2.2.2.2.1.2.2.2.2.2.2.2.2.1
theorem k0_off467_inb : ∀ (v4 : BitVec 32) (k0_hw1 : k0_chk1 v4), ∀ a, (k0_off467 v4) a + S1.size a ≤ S32.size a := fun v4 k0_hw1 => k0_hw1.2.2.2.2.2.2.2.1.2.2.2.2.2.2.2.2.2.1
theorem k0_off469_inb : ∀ (v4 : BitVec 32) (k0_hw1 : k0_chk1 v4), ∀ a, (k0_off469 v4) a + S1.size a ≤ S32.size a := fun v4 k0_hw1 => k0_hw1.2.2.2.2.2.2.2.1.2.2.2.2.2.2.2.2.2.2.1
theorem k0_off471_inb : ∀ (v4 : BitVec 32) (k0_hw1 : k0_chk1 v4), ∀ a, (k0_off471 v4) a + S1.size a ≤ S32.size a := fun v4 k0_hw1 => k0_hw1.2.2.2.2.2.2.2.1.2.2.2.2.2.2.2.2.2.2.2.1
theorem k0_off473_inb : ∀ (v4 : BitVec 32) (k0_hw1 : k0_chk1 v4), ∀ a, (k0_off473 v4) a + S1.size a ≤ S32.size a := fun v4 k0_hw1 => k0_hw1.2.2.2.2.2.2.2.1.2.2.2.2.2.2.2.2.2.2.2.2.1
theorem k0_off475_inb : ∀ (v4 : BitVec 32) (k0_hw1 : k0_chk1 v4), ∀ a, (k0_off475 v4) a + S1.size a ≤ S32.size a := fun v4 k0_hw1 => k0_hw1.2.2.2.2.2.2.2.1.2.2.2.2.2.2.2.2.2.2.2.2.2.1
theorem k0_off477_inb : ∀ (v4 : BitVec 32) (k0_hw1 : k0_chk1 v4), ∀ a, (k0_off477 v4) a + S1.size a ≤ S32.size a := fun v4 k0_hw1 => k0_hw1.2.2.2.2.2.2.2.1.2.2.2.2.2.2.2.2.2.2.2.2.2.2.1
theorem k0_off479_inb : ∀ (v4 : BitVec 32) (k0_hw1 : k0_chk1 v4), ∀ a, (k0_off479 v4) a + S1.size a ≤ S32.size a := fun v4 k0_hw1 => k0_hw1.2.2.2.2.2.2.2.1.2.2.2.2.2.2.2.2.2.2.2.2.2.2.2.1
theorem k0_off481_inb : ∀ (v4 : BitVec 32) (k0_hw1 : k0_chk1 v4), ∀ a, (k0_off481 v4) a + S1.size a ≤ S32.size a := fun v4 k0_hw1 => k0_hw1.2.2.2.2.2.2.2.1.2.2.2.2.2.2.2.2.2.2.2.2.2.2.2.2.1
theorem k0_off483_inb : ∀ (v4 : BitVec 32) (k0_hw1 : k0_chk1 v4), ∀ a, (k0_off483 v4) a + S1.size a ≤ S32.size a := fun v4 k0_hw1 => k0_hw1.2.2.2.2.2.2.2.1.2.2.2.2.2.2.2.2.2.2.2.2.2.2.2.2.2.1
theorem k0_off485_inb : ∀ (v4 : BitVec 32) (k0_hw1 : k0_chk1 v4), ∀ a, (k0_off485 v4) a + S1.size a ≤ S32.size a := fun v4 k0_hw1 => k0_hw1.2.2.2.2.2.2.2.1.2.2.2.2.2.2.2.2.2.2.2.2.2.2.2.2.2.2.1
theorem k0_off487_inb : ∀ (v4 : BitVec 32) (k0_hw1 : k0_chk1 v4), ∀ a, (k0_off487 v4) a + S1.size a ≤ S32.size a := fun v4 k0_hw1 => k0_hw1.2.2.2.2.2.2.2.1.2.2.2.2.2.2.2.2.2.2.2.2.2.2.2.2.2.2.2.1
theorem k0_off489_inb : ∀ (v4 : BitVec 32) (k0_hw1 : k0_chk1 v4), ∀ a, (k0_off489 v4) a + S1.size a ≤ S32.size a := fun v4 k0_hw1 => k0_hw1.2.2.2.2.2.2.2.1.2.2.2.2.2.2.2.2.2.2.2.2.2.2.2.2.2.2.2.2.1
theorem k0_off491_inb : ∀ (v4 : BitVec 32) (k0_hw1 : k0_chk1 v4), ∀ a, (k0_off491 v4) a + S1.size a ≤ S32.size a := fun v4 k0_hw1 => k0_hw1.2.2.2.2.2.2.2.1.2.2.2.2.2.2.2.2.2.2.2.2.2.2.2.2.2.2.2.2.2.1
theorem k0_off493_inb : ∀ (v4 : BitVec 32) (k0_hw1 : k0_chk1 v4), ∀ a, (k0_off493 v4) a + S1.size a ≤ S32.size a := fun v4 k0_hw1 => k0_hw1.2.2.2.2.2.2.2.1.2.2.2.2.2.2.2.2.2.2.2.2.2.2.2.2.2.2.2.2.2.2.1
theorem k0_off495_inb : ∀ (v4 : BitVec 32) (k0_hw1 : k0_chk1 v4), ∀ a, (k0_off495 v4) a + S1.size a ≤ S32.size a := fun v4 k0_hw1 => k0_hw1.2.2.2.2.2.2.2.1.2.2.2.2.2.2.2.2.2.2.2.2.2.2.2.2.2.2.2.2.2.2.2.1
theorem k0_off497_inb : ∀ (v4 : BitVec 32) (k0_hw1 : k0_chk1 v4), ∀ a, (k0_off497 v4) a + S1.size a ≤ S32.size a := fun v4 k0_hw1 => k0_hw1.2.2.2.2.2.2.2.1.2.2.2.2.2.2.2.2.2.2.2.2.2.2.2.2.2.2.2.2.2.2.2.2.1
theorem k0_off499_inb : ∀ (v4 : BitVec 32) (k0_hw1 : k0_chk1 v4), ∀ a, (k0_off499 v4) a + S1.size a ≤ S32.size a := fun v4 k0_hw1 => k0_hw1.2.2.2.2.2.2.2.1.2.2.2.2.2.2.2.2.2.2.2.2.2.2.2.2.2.2.2.2.2.2.2.2.2.1
theorem k0_off501_inb : ∀ (v4 : BitVec 32) (k0_hw1 : k0_chk1 v4), ∀ a, (k0_off501 v4) a + S1.size a ≤ S32.size a := fun v4 k0_hw1 => k0_hw1.2.2.2.2.2.2.2.1.2.2.2.2.2.2.2.2.2.2.2.2.2.2.2.2.2.2.2.2.2.2.2.2.2.2.1
theorem k0_off503_inb : ∀ (v4 : BitVec 32) (k0_hw1 : k0_chk1 v4), ∀ a, (k0_off503 v4) a + S1.size a ≤ S32.size a := fun v4 k0_hw1 => k0_hw1.2.2.2.2.2.2.2.1.2.2.2.2.2.2.2.2.2.2.2.2.2.2.2.2.2.2.2.2.2.2.2.2.2.2.2.1
theorem k0_off505_inb : ∀ (v4 : BitVec 32) (k0_hw1 : k0_chk1 v4), ∀ a, (k0_off505 v4) a + S1.size a ≤ S32.size a := fun v4 k0_hw1 => k0_hw1.2.2.2.2.2.2.2.1.2.2.2.2.2.2.2.2.2.2.2.2.2.2.2.2.2.2.2.2.2.2.2.2.2.2.2.2.1
theorem k0_off507_inb : ∀ (v4 : BitVec 32) (k0_hw1 : k0_chk1 v4), ∀ a, (k0_off507 v4) a + S1.size a ≤ S32.size a := fun v4 k0_hw1 => k0_hw1.2.2.2.2.2.2.2.1.2.2.2.2.2.2.2.2.2.2.2.2.2.2.2.2.2.2.2.2.2.2.2.2.2.2.2.2.2.1
theorem k0_off509_inb : ∀ (v4 : BitVec 32) (k0_hw1 : k0_chk1 v4), ∀ a, (k0_off509 v4) a + S1.size a ≤ S32.size a := fun v4 k0_hw1 => k0_hw1.2.2.2.2.2.2.2.1.2.2.2.2.2.2.2.2.2.2.2.2.2.2.2.2.2.2.2.2.2.2.2.2.2.2.2.2.2.2.1
theorem k0_off511_inb : ∀ (v4 : BitVec 32) (k0_hw1 : k0_chk1 v4), ∀ a, (k0_off511 v4) a + S1.size a ≤ S32.size a := fun v4 k0_hw1 => k0_hw1.2.2.2.2.2.2.2.1.2.2.2.2.2.2.2.2.2.2.2.2.2.2.2.2.2.2.2.2.2.2.2.2.2.2.2.2.2.2.2
theorem k0_off513_inb : ∀ (v4 : BitVec 32) (k0_hw1 : k0_chk1 v4), ∀ a, (k0_off513 v4) a + S1.size a ≤ S32.size a := fun v4 k0_hw1 => k0_hw1.2.2.2.2.2.2.2.2.1.1
theorem k0_off515_inb : ∀ (v4 : BitVec 32) (k0_hw1 : k0_chk1 v4), ∀ a, (k0_off515 v4) a + S1.size a ≤ S32.size a := fun v4 k0_hw1 => k0_hw1.2.2.2.2.2.2.2.2.1.2.1
theorem k0_off517_inb : ∀ (v4 : BitVec 32) (k0_hw1 : k0_chk1 v4), ∀ a, (k0_off517 v4) a + S1.size a ≤ S32.size a := fun v4 k0_hw1 => k0_hw1.2.2.2.2.2.2.2.2.1.2.2.1
theorem k0_off519_inb : ∀ (v4 : BitVec 32) (k0_hw1 : k0_chk1 v4), ∀ a, (k0_off519 v4) a + S1.size a ≤ S32.size a := fun v4 k0_hw1 => k0_hw1.2.2.2.2.2.2.2.2.1.2.2.2.1
theorem k0_off521_inb : ∀ (v4 : BitVec 32) (k0_hw1 : k0_chk1 v4), ∀ a, (k0_off521 v4) a + S1.size a ≤ S32.size a := fun v4 k0_hw1 => k0_hw1.2.2.2.2.2.2.2.2.1.2.2.2.2.1
theorem k0_off523_inb : ∀ (v4 : BitVec 32) (k0_hw1 : k0_chk1 v4), ∀ a, (k0_off523 v4) a + S1.size a ≤ S32.size a := fun v4 k0_hw1 => k0_hw1.2.2.2.2.2.2.2.2.1.2.2.2.2.2.1
theorem k0_off525_inb : ∀ (v4 : BitVec 32) (k0_hw1 : k0_chk1 v4), ∀ a, (k0_off525 v4) a + S1.size a ≤ S32.size a := fun v4 k0_hw1 => k0_hw1.2.2.2.2.2.2.2.2.1.2.2.2.2.2.2.1
theorem k0_off527_inb : ∀ (v4 : BitVec 32) (k0_hw1 : k0_chk1 v4), ∀ a, (k0_off527 v4) a + S1.size a ≤ S32.size a := fun v4 k0_hw1 => k0_hw1.2.2.2.2.2.2.2.2.1.2.2.2.2.2.2.2.1
theorem k0_off529_inb : ∀ (v4 : BitVec 32) (k0_hw1 : k0_chk1 v4), ∀ a, (k0_off529 v4) a + S1.size a ≤ S32.size a := fun v4 k0_hw1 => k0_hw1.2.2.2.2.2.2.2.2.1.2.2.2.2.2.2.2.2.1
theorem k0_off531_inb : ∀ (v4 : BitVec 32) (k0_hw1 : k0_chk1 v4), ∀ a, (k0_off531 v4) a + S1.size a ≤ S32.size a := fun v4 k0_hw1 => k0_hw1.2.2.2.2.2.2.2.2.1.2.2.2.2.2.2.2.2.2.1
theorem k0_off533_inb : ∀ (v4 : BitVec 32) (k0_hw1 : k0_chk1 v4), ∀ a, (k0_off533 v4) a + S1.size a ≤ S32.size a := fun v4 k0_hw1 => k0_hw1.2.2.2.2.2.2.2.2.1.2.2.2.2.2.2.2.2.2.2.1
theorem k0_off535_inb : ∀ (v4 : BitVec 32) (k0_hw1 : k0_chk1 v4), ∀ a, (k0_off535 v4) a + S1.size a ≤ S32.size a := fun v4 k0_hw1 => k0_hw1.2.2.2.2.2.2.2.2.1.2.2.2.2.2.2.2.2.2.2.2.1
theorem k0_off537_inb : ∀ (v4 : BitVec 32) (k0_hw1 : k0_chk1 v4), ∀ a, (k0_off537 v4) a + S1.size a ≤ S32.size a := fun v4 k0_hw1 => k0_hw1.2.2.2.2.2.2.2.2.1.2.2.2.2.2.2.2.2.2.2.2.2.1
theorem k0_off539_inb : ∀ (v4 : BitVec 32) (k0_hw1 : k0_chk1 v4), ∀ a, (k0_off539 v4) a + S1.size a ≤ S32.size a := fun v4 k0_hw1 => k0_hw1.2.2.2.2.2.2.2.2.1.2.2.2.2.2.2.2.2.2.2.2.2.2.1
theorem k0_off541_inb : ∀ (v4 : BitVec 32) (k0_hw1 : k0_chk1 v4), ∀ a, (k0_off541 v4) a + S1.size a ≤ S32.size a := fun v4 k0_hw1 => k0_hw1.2.2.2.2.2.2.2.2.1.2.2.2.2.2.2.2.2.2.2.2.2.2.2.1
theorem k0_off543_inb : ∀ (v4 : BitVec 32) (k0_hw1 : k0_chk1 v4), ∀ a, (k0_off543 v4) a + S1.size a ≤ S32.size a := fun v4 k0_hw1 => k0_hw1.2.2.2.2.2.2.2.2.1.2.2.2.2.2.2.2.2.2.2.2.2.2.2.2.1
theorem k0_off545_inb : ∀ (v4 : BitVec 32) (k0_hw1 : k0_chk1 v4), ∀ a, (k0_off545 v4) a + S1.size a ≤ S32.size a := fun v4 k0_hw1 => k0_hw1.2.2.2.2.2.2.2.2.1.2.2.2.2.2.2.2.2.2.2.2.2.2.2.2.2.1
theorem k0_off547_inb : ∀ (v4 : BitVec 32) (k0_hw1 : k0_chk1 v4), ∀ a, (k0_off547 v4) a + S1.size a ≤ S32.size a := fun v4 k0_hw1 => k0_hw1.2.2.2.2.2.2.2.2.1.2.2.2.2.2.2.2.2.2.2.2.2.2.2.2.2.2.1
theorem k0_off549_inb : ∀ (v4 : BitVec 32) (k0_hw1 : k0_chk1 v4), ∀ a, (k0_off549 v4) a + S1.size a ≤ S32.size a := fun v4 k0_hw1 => k0_hw1.2.2.2.2.2.2.2.2.1.2.2.2.2.2.2.2.2.2.2.2.2.2.2.2.2.2.2.1
theorem k0_off551_inb : ∀ (v4 : BitVec 32) (k0_hw1 : k0_chk1 v4), ∀ a, (k0_off551 v4) a + S1.size a ≤ S32.size a := fun v4 k0_hw1 => k0_hw1.2.2.2.2.2.2.2.2.1.2.2.2.2.2.2.2.2.2.2.2.2.2.2.2.2.2.2.2.1
theorem k0_off553_inb : ∀ (v4 : BitVec 32) (k0_hw1 : k0_chk1 v4), ∀ a, (k0_off553 v4) a + S1.size a ≤ S32.size a := fun v4 k0_hw1 => k0_hw1.2.2.2.2.2.2.2.2.1.2.2.2.2.2.2.2.2.2.2.2.2.2.2.2.2.2.2.2.2.1
theorem k0_off555_inb : ∀ (v4 : BitVec 32) (k0_hw1 : k0_chk1 v4), ∀ a, (k0_off555 v4) a + S1.size a ≤ S32.size a := fun v4 k0_hw1 => k0_hw1.2.2.2.2.2.2.2.2.1.2.2.2.2.2.2.2.2.2.2.2.2.2.2.2.2.2.2.2.2.2.1
theorem k0_off557_inb : ∀ (v4 : BitVec 32) (k0_hw1 : k0_chk1 v4), ∀ a, (k0_off557 v4) a + S1.size a ≤ S32.size a := fun v4 k0_hw1 => k0_hw1.2.2.2.2.2.2.2.2.1.2.2.2.2.2.2.2.2.2.2.2.2.2.2.2.2.2.2.2.2.2.2.1
theorem k0_off559_inb : ∀ (v4 : BitVec 32) (k0_hw1 : k0_chk1 v4), ∀ a, (k0_off559 v4) a + S1.size a ≤ S32.size a := fun v4 k0_hw1 => k0_hw1.2.2.2.2.2.2.2.2.1.2.2.2.2.2.2.2.2.2.2.2.2.2.2.2.2.2.2.2.2.2.2.2.1
theorem k0_off561_inb : ∀ (v4 : BitVec 32) (k0_hw1 : k0_chk1 v4), ∀ a, (k0_off561 v4) a + S1.size a ≤ S32.size a := fun v4 k0_hw1 => k0_hw1.2.2.2.2.2.2.2.2.1.2.2.2.2.2.2.2.2.2.2.2.2.2.2.2.2.2.2.2.2.2.2.2.2.1
theorem k0_off563_inb : ∀ (v4 : BitVec 32) (k0_hw1 : k0_chk1 v4), ∀ a, (k0_off563 v4) a + S1.size a ≤ S32.size a := fun v4 k0_hw1 => k0_hw1.2.2.2.2.2.2.2.2.1.2.2.2.2.2.2.2.2.2.2.2.2.2.2.2.2.2.2.2.2.2.2.2.2.2.1
theorem k0_off565_inb : ∀ (v4 : BitVec 32) (k0_hw1 : k0_chk1 v4), ∀ a, (k0_off565 v4) a + S1.size a ≤ S32.size a := fun v4 k0_hw1 => k0_hw1.2.2.2.2.2.2.2.2.1.2.2.2.2.2.2.2.2.2.2.2.2.2.2.2.2.2.2.2.2.2.2.2.2.2.2.1
theorem k0_off567_inb : ∀ (v4 : BitVec 32) (k0_hw1 : k0_chk1 v4), ∀ a, (k0_off567 v4) a + S1.size a ≤ S32.size a := fun v4 k0_hw1 => k0_hw1.2.2.2.2.2.2.2.2.1.2.2.2.2.2.2.2.2.2.2.2.2.2.2.2.2.2.2.2.2.2.2.2.2.2.2.2.1
theorem k0_off569_inb : ∀ (v4 : BitVec 32) (k0_hw1 : k0_chk1 v4), ∀ a, (k0_off569 v4) a + S1.size a ≤ S32.size a := fun v4 k0_hw1 => k0_hw1.2.2.2.2.2.2.2.2.1.2.2.2.2.2.2.2.2.2.2.2.2.2.2.2.2.2.2.2.2.2.2.2.2.2.2.2.2.1
theorem k0_off571_inb : ∀ (v4 : BitVec 32) (k0_hw1 : k0_chk1 v4), ∀ a, (k0_off571 v4) a + S1.size a ≤ S32.size a := fun v4 k0_hw1 => k0_hw1.2.2.2.2.2.2.2.2.1.2.2.2.2.2.2.2.2.2.2.2.2.2.2.2.2.2.2.2.2.2.2.2.2.2.2.2.2.2.1
theorem k0_off573_inb : ∀ (v4 : BitVec 32) (k0_hw1 : k0_chk1 v4), ∀ a, (k0_off573 v4) a + S1.size a ≤ S32.size a := fun v4 k0_hw1 => k0_hw1.2.2.2.2.2.2.2.2.1.2.2.2.2.2.2.2.2.2.2.2.2.2.2.2.2.2.2.2.2.2.2.2.2.2.2.2.2.2.2.1
theorem k0_off575_inb : ∀ (v4 : BitVec 32) (k0_hw1 : k0_chk1 v4), ∀ a, (k0_off575 v4) a + S1.size a ≤ S32.size a := fun v4 k0_hw1 => k0_hw1.2.2.2.2.2.2.2.2.1.2.2.2.2.2.2.2.2.2.2.2.2.2.2.2.2.2.2.2.2.2.2.2.2.2.2.2.2.2.2.2
theorem k0_off577_inb : ∀ (v4 : BitVec 32) (k0_hw1 : k0_chk1 v4), ∀ a, (k0_off577 v4) a + S1.size a ≤ S32.size a := fun v4 k0_hw1 => k0_hw1.2.2.2.2.2.2.2.2.2.1.1
theorem k0_off579_inb : ∀ (v4 : BitVec 32) (k0_hw1 : k0_chk1 v4), ∀ a, (k0_off579 v4) a + S1.size a ≤ S32.size a := fun v4 k0_hw1 => k0_hw1.2.2.2.2.2.2.2.2.2.1.2.1
theorem k0_off581_inb : ∀ (v4 : BitVec 32) (k0_hw1 : k0_chk1 v4), ∀ a, (k0_off581 v4) a + S1.size a ≤ S32.size a := fun v4 k0_hw1 => k0_hw1.2.2.2.2.2.2.2.2.2.1.2.2.1
theorem k0_off583_inb : ∀ (v4 : BitVec 32) (k0_hw1 : k0_chk1 v4), ∀ a, (k0_off583 v4) a + S1.size a ≤ S32.size a := fun v4 k0_hw1 => k0_hw1.2.2.2.2.2.2.2.2.2.1.2.2.2.1
theorem k0_off585_inb : ∀ (v4 : BitVec 32) (k0_hw1 : k0_chk1 v4), ∀ a, (k0_off585 v4) a + S1.size a ≤ S32.size a := fun v4 k0_hw1 => k0_hw1.2.2.2.2.2.2.2.2.2.1.2.2.2.2.1
theorem k0_off587_inb : ∀ (v4 : BitVec 32) (k0_hw1 : k0_chk1 v4), ∀ a, (k0_off587 v4) a + S1.size a ≤ S32.size a := fun v4 k0_hw1 => k0_hw1.2.2.2.2.2.2.2.2.2.1.2.2.2.2.2.1
theorem k0_off589_inb : ∀ (v4 : BitVec 32) (k0_hw1 : k0_chk1 v4), ∀ a, (k0_off589 v4) a + S1.size a ≤ S32.size a := fun v4 k0_hw1 => k0_hw1.2.2.2.2.2.2.2.2.2.1.2.2.2.2.2.2.1
theorem k0_off591_inb : ∀ (v4 : BitVec 32) (k0_hw1 : k0_chk1 v4), ∀ a, (k0_off591 v4) a + S1.size a ≤ S32.size a := fun v4 k0_hw1 => k0_hw1.2.2.2.2.2.2.2.2.2.1.2.2.2.2.2.2.2.1
theorem k0_off593_inb : ∀ (v4 : BitVec 32) (k0_hw1 : k0_chk1 v4), ∀ a, (k0_off593 v4) a + S1.size a ≤ S32.size a := fun v4 k0_hw1 => k0_hw1.2.2.2.2.2.2.2.2.2.1.2.2.2.2.2.2.2.2.1
theorem k0_off595_inb : ∀ (v4 : BitVec 32) (k0_hw1 : k0_chk1 v4), ∀ a, (k0_off595 v4) a + S1.size a ≤ S32.size a := fun v4 k0_hw1 => k0_hw1.2.2.2.2.2.2.2.2.2.1.2.2.2.2.2.2.2.2.2.1
theorem k0_off597_inb : ∀ (v4 : BitVec 32) (k0_hw1 : k0_chk1 v4), ∀ a, (k0_off597 v4) a + S1.size a ≤ S32.size a := fun v4 k0_hw1 => k0_hw1.2.2.2.2.2.2.2.2.2.1.2.2.2.2.2.2.2.2.2.2.1
theorem k0_off599_inb : ∀ (v4 : BitVec 32) (k0_hw1 : k0_chk1 v4), ∀ a, (k0_off599 v4) a + S1.size a ≤ S32.size a := fun v4 k0_hw1 => k0_hw1.2.2.2.2.2.2.2.2.2.1.2.2.2.2.2.2.2.2.2.2.2.1
theorem k0_off601_inb : ∀ (v4 : BitVec 32) (k0_hw1 : k0_chk1 v4), ∀ a, (k0_off601 v4) a + S1.size a ≤ S32.size a := fun v4 k0_hw1 => k0_hw1.2.2.2.2.2.2.2.2.2.1.2.2.2.2.2.2.2.2.2.2.2.2.1
theorem k0_off603_inb : ∀ (v4 : BitVec 32) (k0_hw1 : k0_chk1 v4), ∀ a, (k0_off603 v4) a + S1.size a ≤ S32.size a := fun v4 k0_hw1 => k0_hw1.2.2.2.2.2.2.2.2.2.1.2.2.2.2.2.2.2.2.2.2.2.2.2.1
theorem k0_off605_inb : ∀ (v4 : BitVec 32) (k0_hw1 : k0_chk1 v4), ∀ a, (k0_off605 v4) a + S1.size a ≤ S32.size a := fun v4 k0_hw1 => k0_hw1.2.2.2.2.2.2.2.2.2.1.2.2.2.2.2.2.2.2.2.2.2.2.2.2.1
theorem k0_off607_inb : ∀ (v4 : BitVec 32) (k0_hw1 : k0_chk1 v4), ∀ a, (k0_off607 v4) a + S1.size a ≤ S32.size a := fun v4 k0_hw1 => k0_hw1.2.2.2.2.2.2.2.2.2.1.2.2.2.2.2.2.2.2.2.2.2.2.2.2.2.1
theorem k0_off609_inb : ∀ (v4 : BitVec 32) (k0_hw1 : k0_chk1 v4), ∀ a, (k0_off609 v4) a + S1.size a ≤ S32.size a := fun v4 k0_hw1 => k0_hw1.2.2.2.2.2.2.2.2.2.1.2.2.2.2.2.2.2.2.2.2.2.2.2.2.2.2.1
theorem k0_off611_inb : ∀ (v4 : BitVec 32) (k0_hw1 : k0_chk1 v4), ∀ a, (k0_off611 v4) a + S1.size a ≤ S32.size a := fun v4 k0_hw1 => k0_hw1.2.2.2.2.2.2.2.2.2.1.2.2.2.2.2.2.2.2.2.2.2.2.2.2.2.2.2.1
theorem k0_off613_inb : ∀ (v4 : BitVec 32) (k0_hw1 : k0_chk1 v4), ∀ a, (k0_off613 v4) a + S1.size a ≤ S32.size a := fun v4 k0_hw1 => k0_hw1.2.2.2.2.2.2.2.2.2.1.2.2.2.2.2.2.2.2.2.2.2.2.2.2.2.2.2.2.1
theorem k0_off615_inb : ∀ (v4 : BitVec 32) (k0_hw1 : k0_chk1 v4), ∀ a, (k0_off615 v4) a + S1.size a ≤ S32.size a := fun v4 k0_hw1 => k0_hw1.2.2.2.2.2.2.2.2.2.1.2.2.2.2.2.2.2.2.2.2.2.2.2.2.2.2.2.2.2.1
theorem k0_off617_inb : ∀ (v4 : BitVec 32) (k0_hw1 : k0_chk1 v4), ∀ a, (k0_off617 v4) a + S1.size a ≤ S32.size a := fun v4 k0_hw1 => k0_hw1.2.2.2.2.2.2.2.2.2.1.2.2.2.2.2.2.2.2.2.2.2.2.2.2.2.2.2.2.2.2.1
theorem k0_off619_inb : ∀ (v4 : BitVec 32) (k0_hw1 : k0_chk1 v4), ∀ a, (k0_off619 v4) a + S1.size a ≤ S32.size a := fun v4 k0_hw1 => k0_hw1.2.2.2.2.2.2.2.2.2.1.2.2.2.2.2.2.2.2.2.2.2.2.2.2.2.2.2.2.2.2.2.1
theorem k0_off621_inb : ∀ (v4 : BitVec 32) (k0_hw1 : k0_chk1 v4), ∀ a, (k0_off621 v4) a + S1.size a ≤ S32.size a := fun v4 k0_hw1 => k0_hw1.2.2.2.2.2.2.2.2.2.1.2.2.2.2.2.2.2.2.2.2.2.2.2.2.2.2.2.2.2.2.2.2.1
theorem k0_off623_inb : ∀ (v4 : BitVec 32) (k0_hw1 : k0_chk1 v4), ∀ a, (k0_off623 v4) a + S1.size a ≤ S32.size a := fun v4 k0_hw1 => k0_hw1.2.2.2.2.2.2.2.2.2.1.2.2.2.2.2.2.2.2.2.2.2.2.2.2.2.2.2.2.2.2.2.2.2.1
theorem k0_off625_inb : ∀ (v4 : BitVec 32) (k0_hw1 : k0_chk1 v4), ∀ a, (k0_off625 v4) a + S1.size a ≤ S32.size a := fun v4 k0_hw1 => k0_hw1.2.2.2.2.2.2.2.2.2.1.2.2.2.2.2.2.2.2.2.2.2.2.2.2.2.2.2.2.2.2.2.2.2.2.1
theorem k0_off627_inb : ∀ (v4 : BitVec 32) (k0_hw1 : k0_chk1 v4), ∀ a, (k0_off627 v4) a + S1.size a ≤ S32.size a := fun v4 k0_hw1 => k0_hw1.2.2.2.2.2.2.2.2.2.1.2.2.2.2.2.2.2.2.2.2.2.2.2.2.2.2.2.2.2.2.2.2.2.2.2.1
theorem k0_off629_inb : ∀ (v4 : BitVec 32) (k0_hw1 : k0_chk1 v4), ∀ a, (k0_off629 v4) a + S1.size a ≤ S32.size a := fun v4 k0_hw1 => k0_hw1.2.2.2.2.2.2.2.2.2.1.2.2.2.2.2.2.2.2.2.2.2.2.2.2.2.2.2.2.2.2.2.2.2.2.2.2.1
theorem k0_off631_inb : ∀ (v4 : BitVec 32) (k0_hw1 : k0_chk1 v4), ∀ a, (k0_off631 v4) a + S1.size a ≤ S32.size a := fun v4 k0_hw1 => k0_hw1.2.2.2.2.2.2.2.2.2.1.2.2.2.2.2.2.2.2.2.2.2.2.2.2.2.2.2.2.2.2.2.2.2.2.2.2.2.1
theorem k0_off633_inb : ∀ (v4 : BitVec 32) (k0_hw1 : k0_chk1 v4), ∀ a, (k0_off633 v4) a + S1.size a ≤ S32.size a := fun v4 k0_hw1 => k0_hw1.2.2.2.2.2.2.2.2.2.1.2.2.2.2.2.2.2.2.2.2.2.2.2.2.2.2.2.2.2.2.2.2.2.2.2.2.2.2.1
theorem k0_off635_inb : ∀ (v4 : BitVec 32) (k0_hw1 : k0_chk1 v4), ∀ a, (k0_off635 v4) a + S1.size a ≤ S32.size a := fun v4 k0_hw1 => k0_hw1.2.2.2.2.2.2.2.2.2.1.2.2.2.2.2.2.2.2.2.2.2.2.2.2.2.2.2.2.2.2.2.2.2.2.2.2.2.2.2.1
theorem k0_off637_inb : ∀ (v4 : BitVec 32) (k0_hw1 : k0_chk1 v4), ∀ a, (k0_off637 v4) a + S1.size a ≤ S32.size a := fun v4 k0_hw1 => k0_hw1.2.2.2.2.2.2.2.2.2.1.2.2.2.2.2.2.2.2.2.2.2.2.2.2.2.2.2.2.2.2.2.2.2.2.2.2.2.2.2.2.1
theorem k0_off639_inb : ∀ (v4 : BitVec 32) (k0_hw1 : k0_chk1 v4), ∀ a, (k0_off639 v4) a + S1.size a ≤ S32.size a := fun v4 k0_hw1 => k0_hw1.2.2.2.2.2.2.2.2.2.1.2.2.2.2.2.2.2.2.2.2.2.2.2.2.2.2.2.2.2.2.2.2.2.2.2.2.2.2.2.2.2
theorem k0_off641_inb : ∀ (v4 : BitVec 32) (k0_hw1 : k0_chk1 v4), ∀ a, (k0_off641 v4) a + S1.size a ≤ S32.size a := fun v4 k0_hw1 => k0_hw1.2.2.2.2.2.2.2.2.2.2.1.1
theorem k0_off643_inb : ∀ (v4 : BitVec 32) (k0_hw1 : k0_chk1 v4), ∀ a, (k0_off643 v4) a + S1.size a ≤ S32.size a := fun v4 k0_hw1 => k0_hw1.2.2.2.2.2.2.2.2.2.2.1.2.1
theorem k0_off645_inb : ∀ (v4 : BitVec 32) (k0_hw1 : k0_chk1 v4), ∀ a, (k0_off645 v4) a + S1.size a ≤ S32.size a := fun v4 k0_hw1 => k0_hw1.2.2.2.2.2.2.2.2.2.2.1.2.2.1
theorem k0_off647_inb : ∀ (v4 : BitVec 32) (k0_hw1 : k0_chk1 v4), ∀ a, (k0_off647 v4) a + S1.size a ≤ S32.size a := fun v4 k0_hw1 => k0_hw1.2.2.2.2.2.2.2.2.2.2.1.2.2.2.1
theorem k0_off649_inb : ∀ (v4 : BitVec 32) (k0_hw1 : k0_chk1 v4), ∀ a, (k0_off649 v4) a + S1.size a ≤ S32.size a := fun v4 k0_hw1 => k0_hw1.2.2.2.2.2.2.2.2.2.2.1.2.2.2.2.1
theorem k0_off651_inb : ∀ (v4 : BitVec 32) (k0_hw1 : k0_chk1 v4), ∀ a, (k0_off651 v4) a + S1.size a ≤ S32.size a := fun v4 k0_hw1 => k0_hw1.2.2.2.2.2.2.2.2.2.2.1.2.2.2.2.2.1
theorem k0_off653_inb : ∀ (v4 : BitVec 32) (k0_hw1 : k0_chk1 v4), ∀ a, (k0_off653 v4) a + S1.size a ≤ S32.size a := fun v4 k0_hw1 => k0_hw1.2.2.2.2.2.2.2.2.2.2.1.2.2.2.2.2.2.1
theorem k0_off655_inb : ∀ (v4 : BitVec 32) (k0_hw1 : k0_chk1 v4), ∀ a, (k0_off655 v4) a + S1.size a ≤ S32.size a := fun v4 k0_hw1 => k0_hw1.2.2.2.2.2.2.2.2.2.2.1.2.2.2.2.2.2.2.1
theorem k0_off657_inb : ∀ (v4 : BitVec 32) (k0_hw1 : k0_chk1 v4), ∀ a, (k0_off657 v4) a + S1.size a ≤ S32.size a := fun v4 k0_hw1 => k0_hw1.2.2.2.2.2.2.2.2.2.2.1.2.2.2.2.2.2.2.2.1
theorem k0_off659_inb : ∀ (v4 : BitVec 32) (k0_hw1 : k0_chk1 v4), ∀ a, (k0_off659 v4) a + S1.size a ≤ S32.size a := fun v4 k0_hw1 => k0_hw1.2.2.2.2.2.2.2.2.2.2.1.2.2.2.2.2.2.2.2.2.1
theorem k0_off661_inb : ∀ (v4 : BitVec 32) (k0_hw1 : k0_chk1 v4), ∀ a, (k0_off661 v4) a + S1.size a ≤ S32.size a := fun v4 k0_hw1 => k0_hw1.2.2.2.2.2.2.2.2.2.2.1.2.2.2.2.2.2.2.2.2.2.1
theorem k0_off663_inb : ∀ (v4 : BitVec 32) (k0_hw1 : k0_chk1 v4), ∀ a, (k0_off663 v4) a + S1.size a ≤ S32.size a := fun v4 k0_hw1 => k0_hw1.2.2.2.2.2.2.2.2.2.2.1.2.2.2.2.2.2.2.2.2.2.2.1
theorem k0_off665_inb : ∀ (v4 : BitVec 32) (k0_hw1 : k0_chk1 v4), ∀ a, (k0_off665 v4) a + S1.size a ≤ S32.size a := fun v4 k0_hw1 => k0_hw1.2.2.2.2.2.2.2.2.2.2.1.2.2.2.2.2.2.2.2.2.2.2.2.1
theorem k0_off667_inb : ∀ (v4 : BitVec 32) (k0_hw1 : k0_chk1 v4), ∀ a, (k0_off667 v4) a + S1.size a ≤ S32.size a := fun v4 k0_hw1 => k0_hw1.2.2.2.2.2.2.2.2.2.2.1.2.2.2.2.2.2.2.2.2.2.2.2.2.1
theorem k0_off669_inb : ∀ (v4 : BitVec 32) (k0_hw1 : k0_chk1 v4), ∀ a, (k0_off669 v4) a + S1.size a ≤ S32.size a := fun v4 k0_hw1 => k0_hw1.2.2.2.2.2.2.2.2.2.2.1.2.2.2.2.2.2.2.2.2.2.2.2.2.2.1
theorem k0_off671_inb : ∀ (v4 : BitVec 32) (k0_hw1 : k0_chk1 v4), ∀ a, (k0_off671 v4) a + S1.size a ≤ S32.size a := fun v4 k0_hw1 => k0_hw1.2.2.2.2.2.2.2.2.2.2.1.2.2.2.2.2.2.2.2.2.2.2.2.2.2.2.1
theorem k0_off673_inb : ∀ (v4 : BitVec 32) (k0_hw1 : k0_chk1 v4), ∀ a, (k0_off673 v4) a + S1.size a ≤ S32.size a := fun v4 k0_hw1 => k0_hw1.2.2.2.2.2.2.2.2.2.2.1.2.2.2.2.2.2.2.2.2.2.2.2.2.2.2.2.1
theorem k0_off675_inb : ∀ (v4 : BitVec 32) (k0_hw1 : k0_chk1 v4), ∀ a, (k0_off675 v4) a + S1.size a ≤ S32.size a := fun v4 k0_hw1 => k0_hw1.2.2.2.2.2.2.2.2.2.2.1.2.2.2.2.2.2.2.2.2.2.2.2.2.2.2.2.2.1
theorem k0_off677_inb : ∀ (v4 : BitVec 32) (k0_hw1 : k0_chk1 v4), ∀ a, (k0_off677 v4) a + S1.size a ≤ S32.size a := fun v4 k0_hw1 => k0_hw1.2.2.2.2.2.2.2.2.2.2.1.2.2.2.2.2.2.2.2.2.2.2.2.2.2.2.2.2.2.1
theorem k0_off679_inb : ∀ (v4 : BitVec 32) (k0_hw1 : k0_chk1 v4), ∀ a, (k0_off679 v4) a + S1.size a ≤ S32.size a := fun v4 k0_hw1 => k0_hw1.2.2.2.2.2.2.2.2.2.2.1.2.2.2.2.2.2.2.2.2.2.2.2.2.2.2.2.2.2.2.1
theorem k0_off681_inb : ∀ (v4 : BitVec 32) (k0_hw1 : k0_chk1 v4), ∀ a, (k0_off681 v4) a + S1.size a ≤ S32.size a := fun v4 k0_hw1 => k0_hw1.2.2.2.2.2.2.2.2.2.2.1.2.2.2.2.2.2.2.2.2.2.2.2.2.2.2.2.2.2.2.2.1
theorem k0_off683_inb : ∀ (v4 : BitVec 32) (k0_hw1 : k0_chk1 v4), ∀ a, (k0_off683 v4) a + S1.size a ≤ S32.size a := fun v4 k0_hw1 => k0_hw1.2.2.2.2.2.2.2.2.2.2.1.2.2.2.2.2.2.2.2.2.2.2.2.2.2.2.2.2.2.2.2.2.1
theorem k0_off685_inb : ∀ (v4 : BitVec 32) (k0_hw1 : k0_chk1 v4), ∀ a, (k0_off685 v4) a + S1.size a ≤ S32.size a := fun v4 k0_hw1 => k0_hw1.2.2.2.2.2.2.2.2.2.2.1.2.2.2.2.2.2.2.2.2.2.2.2.2.2.2.2.2.2.2.2.2.2.1
theorem k0_off687_inb : ∀ (v4 : BitVec 32) (k0_hw1 : k0_chk1 v4), ∀ a, (k0_off687 v4) a + S1.size a ≤ S32.size a := fun v4 k0_hw1 => k0_hw1.2.2.2.2.2.2.2.2.2.2.1.2.2.2.2.2.2.2.2.2.2.2.2.2.2.2.2.2.2.2.2.2.2.2.1
theorem k0_off689_inb : ∀ (v4 : BitVec 32) (k0_hw1 : k0_chk1 v4), ∀ a, (k0_off689 v4) a + S1.size a ≤ S32.size a := fun v4 k0_hw1 => k0_hw1.2.2.2.2.2.2.2.2.2.2.1.2.2.2.2.2.2.2.2.2.2.2.2.2.2.2.2.2.2.2.2.2.2.2.2.1
theorem k0_off691_inb : ∀ (v4 : BitVec 32) (k0_hw1 : k0_chk1 v4), ∀ a, (k0_off691 v4) a + S1.size a ≤ S32.size a := fun v4 k0_hw1 => k0_hw1.2.2.2.2.2.2.2.2.2.2.1.2.2.2.2.2.2.2.2.2.2.2.2.2.2.2.2.2.2.2.2.2.2.2.2.2.1
theorem k0_off693_inb : ∀ (v4 : BitVec 32) (k0_hw1 : k0_chk1 v4), ∀ a, (k0_off693 v4) a + S1.size a ≤ S32.size a := fun v4 k0_hw1 => k0_hw1.2.2.2.2.2.2.2.2.2.2.1.2.2.2.2.2.2.2.2.2.2.2.2.2.2.2.2.2.2.2.2.2.2.2.2.2.2.1
theorem k0_off695_inb : ∀ (v4 : BitVec 32) (k0_hw1 : k0_chk1 v4), ∀ a, (k0_off695 v4) a + S1.size a ≤ S32.size a := fun v4 k0_hw1 => k0_hw1.2.2.2.2.2.2.2.2.2.2.1.2.2.2.2.2.2.2.2.2.2.2.2.2.2.2.2.2.2.2.2.2.2.2.2.2.2.2.1
theorem k0_off697_inb : ∀ (v4 : BitVec 32) (k0_hw1 : k0_chk1 v4), ∀ a, (k0_off697 v4) a + S1.size a ≤ S32.size a := fun v4 k0_hw1 => k0_hw1.2.2.2.2.2.2.2.2.2.2.1.2.2.2.2.2.2.2.2.2.2.2.2.2.2.2.2.2.2.2.2.2.2.2.2.2.2.2.2.1
theorem k0_off699_inb : ∀ (v4 : BitVec 32) (k0_hw1 : k0_chk1 v4), ∀ a, (k0_off699 v4) a + S1.size a ≤ S32.size a := fun v4 k0_hw1 => k0_hw1.2.2.2.2.2.2.2.2.2.2.1.2.2.2.2.2.2.2.2.2.2.2.2.2.2.2.2.2.2.2.2.2.2.2.2.2.2.2.2.2.1
theorem k0_off701_inb : ∀ (v4 : BitVec 32) (k0_hw1 : k0_chk1 v4), ∀ a, (k0_off701 v4) a + S1.size a ≤ S32.size a := fun v4 k0_hw1 => k0_hw1.2.2.2.2.2.2.2.2.2.2.1.2.2.2.2.2.2.2.2.2.2.2.2.2.2.2.2.2.2.2.2.2.2.2.2.2.2.2.2.2.2.1
theorem k0_off703_inb : ∀ (v4 : BitVec 32) (k0_hw1 : k0_chk1 v4), ∀ a, (k0_off703 v4) a + S1.size a ≤ S32.size a := fun v4 k0_hw1 => k0_hw1.2.2.2.2.2.2.2.2.2.2.1.2.2.2.2.2.2.2.2.2.2.2.2.2.2.2.2.2.2.2.2.2.2.2.2.2.2.2.2.2.2.2
theorem k0_off705_inb : ∀ (v4 : BitVec 32) (k0_hw1 : k0_chk1 v4), ∀ a, (k0_off705 v4) a + S1.size a ≤ S32.size a := fun v4 k0_hw1 => k0_hw1.2.2.2.2.2.2.2.2.2.2.2.1
theorem k0_off707_inb : ∀ (v4 : BitVec 32) (k0_hw1 : k0_chk1 v4), ∀ a, (k0_off707 v4) a + S1.size a ≤ S32.size a := fun v4 k0_hw1 => k0_hw1.2.2.2.2.2.2.2.2.2.2.2.2.1
theorem k0_off709_inb : ∀ (v4 : BitVec 32) (k0_hw1 : k0_chk1 v4), ∀ a, (k0_off709 v4) a + S1.size a ≤ S32.size a := fun v4 k0_hw1 => k0_hw1.2.2.2.2.2.2.2.2.2.2.2.2.2.1
theorem k0_off711_inb : ∀ (v4 : BitVec 32) (k0_hw1 : k0_chk1 v4), ∀ a, (k0_off711 v4) a + S1.size a ≤ S32.size a := fun v4 k0_hw1 => k0_hw1.2.2.2.2.2.2.2.2.2.2.2.2.2.2.1
theorem k0_off713_inb : ∀ (v4 : BitVec 32) (k0_hw1 : k0_chk1 v4), ∀ a, (k0_off713 v4) a + S1.size a ≤ S32.size a := fun v4 k0_hw1 => k0_hw1.2.2.2.2.2.2.2.2.2.2.2.2.2.2.2.1
theorem k0_off715_inb : ∀ (v4 : BitVec 32) (k0_hw1 : k0_chk1 v4), ∀ a, (k0_off715 v4) a + S1.size a ≤ S32.size a := fun v4 k0_hw1 => k0_hw1.2.2.2.2.2.2.2.2.2.2.2.2.2.2.2.2.1
theorem k0_off717_inb : ∀ (v4 : BitVec 32) (k0_hw1 : k0_chk1 v4), ∀ a, (k0_off717 v4) a + S1.size a ≤ S32.size a := fun v4 k0_hw1 => k0_hw1.2.2.2.2.2.2.2.2.2.2.2.2.2.2.2.2.2.1
theorem k0_off719_inb : ∀ (v4 : BitVec 32) (k0_hw1 : k0_chk1 v4), ∀ a, (k0_off719 v4) a + S1.size a ≤ S32.size a := fun v4 k0_hw1 => k0_hw1.2.2.2.2.2.2.2.2.2.2.2.2.2.2.2.2.2.2.1
theorem k0_off721_inb : ∀ (v4 : BitVec 32) (k0_hw1 : k0_chk1 v4), ∀ a, (k0_off721 v4) a + S1.size a ≤ S32.size a := fun v4 k0_hw1 => k0_hw1.2.2.2.2.2.2.2.2.2.2.2.2.2.2.2.2.2.2.2.1
theorem k0_off723_inb : ∀ (v4 : BitVec 32) (k0_hw1 : k0_chk1 v4), ∀ a, (k0_off723 v4) a + S1.size a ≤ S32.size a := fun v4 k0_hw1 => k0_hw1.2.2.2.2.2.2.2.2.2.2.2.2.2.2.2.2.2.2.2.2.1
theorem k0_off725_inb : ∀ (v4 : BitVec 32) (k0_hw1 : k0_chk1 v4), ∀ a, (k0_off725 v4) a + S1.size a ≤ S32.size a := fun v4 k0_hw1 => k0_hw1.2.2.2.2.2.2.2.2.2.2.2.2.2.2.2.2.2.2.2.2.2.1
theorem k0_off727_inb : ∀ (v4 : BitVec 32) (k0_hw1 : k0_chk1 v4), ∀ a, (k0_off727 v4) a + S1.size a ≤ S32.size a := fun v4 k0_hw1 => k0_hw1.2.2.2.2.2.2.2.2.2.2.2.2.2.2.2.2.2.2.2.2.2.2.1
theorem k0_off729_inb : ∀ (v4 : BitVec 32) (k0_hw1 : k0_chk1 v4), ∀ a, (k0_off729 v4) a + S1.size a ≤ S32.size a := fun v4 k0_hw1 => k0_hw1.2.2.2.2.2.2.2.2.2.2.2.2.2.2.2.2.2.2.2.2.2.2.2.1
theorem k0_off731_inb : ∀ (v4 : BitVec 32) (k0_hw1 : k0_chk1 v4), ∀ a, (k0_off731 v4) a + S1.size a ≤ S32.size a := fun v4 k0_hw1 => k0_hw1.2.2.2.2.2.2.2.2.2.2.2.2.2.2.2.2.2.2.2.2.2.2.2.2.1
theorem k0_off733_inb : ∀ (v4 : BitVec 32) (k0_hw1 : k0_chk1 v4), ∀ a, (k0_off733 v4) a + S1.size a ≤ S32.size a := fun v4 k0_hw1 => k0_hw1.2.2.2.2.2.2.2.2.2.2.2.2.2.2.2.2.2.2.2.2.2.2.2.2.2.1
theorem k0_off735_inb : ∀ (v4 : BitVec 32) (k0_hw1 : k0_chk1 v4), ∀ a, (k0_off735 v4) a + S1.size a ≤ S32.size a := fun v4 k0_hw1 => k0_hw1.2.2.2.2.2.2.2.2.2.2.2.2.2.2.2.2.2.2.2.2.2.2.2.2.2.2.1
theorem k0_off737_inb : ∀ (v4 : BitVec 32) (k0_hw1 : k0_chk1 v4), ∀ a, (k0_off737 v4) a + S1.size a ≤ S32.size a := fun v4 k0_hw1 => k0_hw1.2.2.2.2.2.2.2.2.2.2.2.2.2.2.2.2.2.2.2.2.2.2.2.2.2.2.2.1
theorem k0_off739_inb : ∀ (v4 : BitVec 32) (k0_hw1 : k0_chk1 v4), ∀ a, (k0_off739 v4) a + S1.size a ≤ S32.size a := fun v4 k0_hw1 => k0_hw1.2.2.2.2.2.2.2.2.2.2.2.2.2.2.2.2.2.2.2.2.2.2.2.2.2.2.2.2.1
theorem k0_off741_inb : ∀ (v4 : BitVec 32) (k0_hw1 : k0_chk1 v4), ∀ a, (k0_off741 v4) a + S1.size a ≤ S32.size a := fun v4 k0_hw1 => k0_hw1.2.2.2.2.2.2.2.2.2.2.2.2.2.2.2.2.2.2.2.2.2.2.2.2.2.2.2.2.2.1
theorem k0_off743_inb : ∀ (v4 : BitVec 32) (k0_hw1 : k0_chk1 v4), ∀ a, (k0_off743 v4) a + S1.size a ≤ S32.size a := fun v4 k0_hw1 => k0_hw1.2.2.2.2.2.2.2.2.2.2.2.2.2.2.2.2.2.2.2.2.2.2.2.2.2.2.2.2.2.2.1
theorem k0_off745_inb : ∀ (v4 : BitVec 32) (k0_hw1 : k0_chk1 v4), ∀ a, (k0_off745 v4) a + S1.size a ≤ S32.size a := fun v4 k0_hw1 => k0_hw1.2.2.2.2.2.2.2.2.2.2.2.2.2.2.2.2.2.2.2.2.2.2.2.2.2.2.2.2.2.2.2.1
theorem k0_off747_inb : ∀ (v4 : BitVec 32) (k0_hw1 : k0_chk1 v4), ∀ a, (k0_off747 v4) a + S1.size a ≤ S32.size a := fun v4 k0_hw1 => k0_hw1.2.2.2.2.2.2.2.2.2.2.2.2.2.2.2.2.2.2.2.2.2.2.2.2.2.2.2.2.2.2.2.2

def k0_off748 (v4667 : BitVec 32) : Fin 2 → Nat :=
  let c1024_i32_4513 : BitVec 32 := 1024#32
  let v4668 : BitVec 32 := Scalar.muli v4667 c1024_i32_4513
  let c768_i32_4514 : BitVec 32 := 768#32
  let v4669 : BitVec 32 := Scalar.addi v4668 c768_i32_4514
  let c0_i32_4520 : BitVec 32 := 0#32
  ![v4669.toNat, 0]

def k0_chk375 (v4667 : BitVec 32) : Prop :=
  (∀ a, (k0_off748 v4667) a + S256x512.size a ≤ S32768x512.size a) ∧
  (∀ (hinb : ∀ a, (k0_off748 v4667) a + S256x512.size a ≤ S32768x512.size a), (Rect.unit (s := S32768x512) (k0_off748 v4667) S256x512.size hinb).WholeWords (EltTy.packing .bf16))
theorem k0_off748_inb : ∀ (v4667 : BitVec 32) (k0_hw375 : k0_chk375 v4667), ∀ a, (k0_off748 v4667) a + S256x512.size a ≤ S32768x512.size a := fun v4667 k0_hw375 => k0_hw375.1
theorem k0_off748_wordsbf16 : ∀ (v4667 : BitVec 32) (k0_hw375 : k0_chk375 v4667), (Rect.unit (s := S32768x512) (k0_off748 v4667) S256x512.size (k0_off748_inb v4667 k0_hw375)).WholeWords (EltTy.packing .bf16) := fun v4667 k0_hw375 => k0_hw375.2 (k0_off748_inb v4667 k0_hw375)

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩

abbrev nBuf : Space → Nat
  | .hbm => 1
  | .vmem => 0
  | .smem => 0
  | _ => 0

abbrev bufTy : (tb : Table) → Fin (tcTables nBuf tb) → BufTy
  | .hbm, ⟨0, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ring.lean ====
/-
  The ring of the 32 devices and the timetable of one device's copies, as plain arithmetic.

  The kernel lays the devices out on a cycle given by two tables (`cyc`: position to device, `pos`: device to position),
  and passes each device's block around the cycle in both directions, cut in four sub-blocks. One remote copy is named by
  its direction (`true` = to the right neighbour), hop and sub-block. The second half gives, for every copy, at which
  place of the body's list of 372 transfer events it is started, its landing awaited, and its send awaited.
-/
module

public import proofs.«01_k».proof.Proof.Gen.KernelIdeal.Frame

@[expose] public section

set_option maxRecDepth 16384

noncomputable section

namespace Cert.KernelIdeal.AG

open Idealize.ShloMosaic Cert.KernelIdeal

/-! ## Positions on the cycle -/

/-- The device at a position of the cycle. -/
def cyc (i : Fin 32) : Fin 32 := ⟨(lit0 i).toNat % 32, Nat.mod_lt _ (by decide)⟩
/-- A device's position on the cycle. -/
def pos (c : Fin 32) : Fin 32 := ⟨(lit1 c).toNat % 32, Nat.mod_lt _ (by decide)⟩

theorem pos_cyc : ∀ i, pos (cyc i) = i := by decide +kernel
theorem cyc_pos : ∀ c, cyc (pos c) = c := by decide +kernel
/-- The table words are the positions and devices themselves. -/
theorem lit0_eq : ∀ i : Fin 32, lit0 i = BitVec.ofNat 32 (cyc i).val := by decide +kernel
theorem lit1_eq : ∀ c : Fin 32, lit1 c = BitVec.ofNat 32 (pos c).val := by decide +kernel

/-- `k` steps along the cycle from position `p`: backwards for copies to the right, forwards for copies to the left. -/
def step (d : Bool) (p : Fin 32) (k : ℕ) : Fin 32 := if d then p - Fin.ofNat 32 k else p + Fin.ofNat 32 k

/-- The neighbour device `c` sends to in direction `d`. -/
def peer (d : Bool) (c : Fin 32) : Fin 32 := cyc (step (!d) (pos c) 1)
/-- The block device `c` holds `k` hops into direction `d`. -/
def blk (d : Bool) (c : Fin 32) (k : ℕ) : Fin 32 := cyc (step d (pos c) k)

theorem peer_peer : ∀ d c, peer d (peer (!d) c) = c := by decide +kernel
theorem peer_peer' : ∀ d c, peer (!d) (peer d c) = c := by decide +kernel
theorem blk_zero : ∀ d c, blk d c 0 = c := by decide +kernel
/-- The block sent at hop `h` is the one the neighbour counts `h + 1` hops in. -/
theorem blk_peer : ∀ d c, ∀ h : Fin 16, blk d (peer d c) (h.val + 1) = blk d c h.val := by decide +kernel

/-- The neighbour in direction `d` as a permutation of the devices. -/
def ring (d : Bool) : Equiv.Perm (Fin 32) := ⟨peer d, peer (!d), fun c => by have := peer_peer' d c; simpa using this, fun c => peer_peer d c⟩

/-! ## Copies -/

/-- A remote copy: direction, hop, sub-block. -/
abbrev Copy : Type := Bool × Fin 16 × Fin 4
/-- A place a device holds a sub-block at: direction, hops travelled, sub-block. -/
abbrev Item : Type := Bool × Fin 17 × Fin 4

/-- The copies the kernel makes: at the last hop the two directions share the four sub-blocks. -/
def valid (κ : Copy) : Bool := decide (κ.2.1.val < 15) || (decide (κ.2.2.val < 2) == κ.1)

/-- The place a copy reads, and the place it fills on the neighbour. -/
def src (κ : Copy) : Item := (κ.1, κ.2.1.castSucc, κ.2.2)
def dst (κ : Copy) : Item := (κ.1, κ.2.1.succ, κ.2.2)

/-- When the copy is started, its landing here awaited, its send awaited. -/
def tS (κ : Copy) : ℕ :=
  if κ.2.1.val = 0 then κ.2.2.val + (if κ.1 then 0 else 4)
  else if κ.2.1.val < 15 then 8 + 16 * (κ.2.1.val - 1) + 4 * κ.2.2.val + (if κ.1 then 1 else 3)
  else 232 + 3 * κ.2.2.val + (if κ.1 then 1 else 2)
def tR (κ : Copy) : ℕ :=
  if κ.2.1.val < 14 then 8 + 16 * κ.2.1.val + 4 * κ.2.2.val + (if κ.1 then 0 else 2)
  else if κ.2.1.val = 14 then 232 + 3 * κ.2.2.val + (if κ.1 then 0 else if κ.2.2.val < 2 then 2 else 1)
  else 244 + κ.2.2.val
def tW (κ : Copy) : ℕ :=
  if κ.2.1.val < 15 then 248 + 8 * κ.2.1.val + (if κ.1 then 0 else 4) + κ.2.2.val else 368 + κ.2.2.val

/-- What the body does at a place of its event list. -/
inductive Ev where
  | start (κ : Copy)
  | recv (κ : Copy)
  | sent (κ : Copy)
  deriving DecidableEq

/-- When an event happens. -/
def Ev.time : Ev → ℕ
  | .start κ => tS κ
  | .recv κ => tR κ
  | .sent κ => tW κ
/-- The copy of an event is one the kernel makes. -/
def Ev.ok : Ev → Bool
  | .start κ => valid κ
  | .recv κ => valid κ
  | .sent κ => valid κ

/-- State of a copy's send cell before event `n`: `0` not started, `1` in flight or landed, `2` awaited. -/
def stS (n : ℕ) (κ : Copy) : ℕ := if valid κ = false then 2 else if n ≤ tS κ then 0 else if n ≤ tW κ then 1 else 2
/-- State of a copy's receive cell before event `n`: whether its landing is still to be awaited. -/
def stR (n : ℕ) (κ : Copy) : Bool := valid κ && decide (n ≤ tR κ)

/-- The copy that brought a place's contents, if one did; the copy that forwards them, if one does. -/
def bringer (i : Item) : Option Copy := if h : i.2.1.val = 0 then none else some (i.1, ⟨i.2.1.val - 1, by omega⟩, i.2.2)
def sender (i : Item) : Option Copy := if h : i.2.1.val < 16 then some (i.1, ⟨i.2.1.val, h⟩, i.2.2) else none

/-- Whether the device holds the place's elements before event `n`. -/
def held (n : ℕ) (i : Item) : Bool :=
  (match bringer i with
    | none => true
    | some κ => valid κ && decide (tR κ < n)) &&
  (match sender i with
    | none => true
    | some κ => !valid κ || decide (n ≤ tS κ) || decide (tW κ < n))

/-! ### What the timetable satisfies, checked over every copy -/

theorem start_send (κ : Copy) (h : valid κ = true) : stS (tS κ) κ = 0 ∧ stS (tS κ + 1) κ = 1 ∧ stR (tS κ + 1) κ = stR (tS κ) κ := by
  revert κ; decide +kernel
theorem start_other (κ : Copy) (h : valid κ = true) (κ' : Copy) (hne : κ' ≠ κ) :
    stS (tS κ + 1) κ' = stS (tS κ) κ' ∧ stR (tS κ + 1) κ' = stR (tS κ) κ' := by
  revert κ'; revert κ; decide +kernel
theorem start_item (κ : Copy) (h : valid κ = true) : held (tS κ) (src κ) = true ∧ held (tS κ + 1) (src κ) = false := by
  revert κ; decide +kernel
theorem start_item_other (κ : Copy) (h : valid κ = true) (i : Item) (hne : i ≠ src κ) : held (tS κ + 1) i = held (tS κ) i := by
  revert i; revert κ; decide +kernel

theorem recv_recv (κ : Copy) (h : valid κ = true) : stR (tR κ) κ = true ∧ stR (tR κ + 1) κ = false ∧ stS (tR κ + 1) κ = stS (tR κ) κ := by
  revert κ; decide +kernel
theorem recv_other (κ : Copy) (h : valid κ = true) (κ' : Copy) (hne : κ' ≠ κ) :
    stS (tR κ + 1) κ' = stS (tR κ) κ' ∧ stR (tR κ + 1) κ' = stR (tR κ) κ' := by
  revert κ'; revert κ; decide +kernel
theorem recv_item (κ : Copy) (h : valid κ = true) : held (tR κ) (dst κ) = false ∧ held (tR κ + 1) (dst κ) = true := by
  revert κ; decide +kernel
theorem recv_item_other (κ : Copy) (h : valid κ = true) (i : Item) (hne : i ≠ dst κ) : held (tR κ + 1) i = held (tR κ) i := by
  revert i; revert κ; decide +kernel
/-- What is still to be started when a landing is awaited is of a later hop. -/
theorem recv_level (κ : Copy) (h : valid κ = true) (κ' : Copy) (h' : stS (tR κ) κ' = 0) : κ.2.1.val < κ'.2.1.val := by
  revert κ'; revert κ; decide +kernel

theorem sent_send (κ : Copy) (h : valid κ = true) : stS (tW κ) κ = 1 ∧ stS (tW κ + 1) κ = 2 ∧ stR (tW κ + 1) κ = stR (tW κ) κ := by
  revert κ; decide +kernel
theorem sent_other (κ : Copy) (h : valid κ = true) (κ' : Copy) (hne : κ' ≠ κ) :
    stS (tW κ + 1) κ' = stS (tW κ) κ' ∧ stR (tW κ + 1) κ' = stR (tW κ) κ' := by
  revert κ'; revert κ; decide +kernel
theorem sent_item (κ : Copy) (h : valid κ = true) : held (tW κ) (src κ) = false ∧ held (tW κ + 1) (src κ) = true := by
  revert κ; decide +kernel
theorem sent_item_other (κ : Copy) (h : valid κ = true) (i : Item) (hne : i ≠ src κ) : held (tW κ + 1) i = held (tW κ) i := by
  revert i; revert κ; decide +kernel
/-- Once sends are awaited nothing is left to start. -/
theorem sent_none (κ : Copy) (h : valid κ = true) (κ' : Copy) : stS (tW κ) κ' ≠ 0 := by
  revert κ'; revert κ; decide +kernel

/-- Before the first event and after the last. -/
theorem stS_first (κ : Copy) : stS 0 κ = if valid κ then 0 else 2 := by revert κ; decide +kernel
theorem stR_first (κ : Copy) : stR 0 κ = valid κ := by revert κ; decide +kernel
theorem held_first (i : Item) : held 0 i = decide (i.2.1.val = 0) := by revert i; decide +kernel
theorem stS_last (κ : Copy) : stS 372 κ = 2 := by revert κ; decide +kernel
theorem stR_last (κ : Copy) : stR 372 κ = false := by revert κ; decide +kernel
/-- At the end the device holds its own sub-blocks and every one a copy brought. -/
theorem held_last (i : Item) : held 372 i = (match bringer i with | none => true | some κ => valid κ) := by revert i; decide +kernel

/-! ### The event list -/

/-- The 372 transfer events of the body, in the order it performs them: the first hop's starts; then landing by landing
    the wait and the start that forwards it; then the waits for the sends. -/
def evs : List Ev := [
  .start (true, 0, 0), .start (true, 0, 1), .start (true, 0, 2), .start (true, 0, 3), .start (false, 0, 0), .start (false, 0, 1),
  .start (false, 0, 2), .start (false, 0, 3), .recv (true, 0, 0), .start (true, 1, 0), .recv (false, 0, 0), .start (false, 1, 0),
  .recv (true, 0, 1), .start (true, 1, 1), .recv (false, 0, 1), .start (false, 1, 1), .recv (true, 0, 2), .start (true, 1, 2),
  .recv (false, 0, 2), .start (false, 1, 2), .recv (true, 0, 3), .start (true, 1, 3), .recv (false, 0, 3), .start (false, 1, 3),
  .recv (true, 1, 0), .start (true, 2, 0), .recv (false, 1, 0), .start (false, 2, 0), .recv (true, 1, 1), .start (true, 2, 1),
  .recv (false, 1, 1), .start (false, 2, 1), .recv (true, 1, 2), .start (true, 2, 2), .recv (false, 1, 2), .start (false, 2, 2),
  .recv (true, 1, 3), .start (true, 2, 3), .recv (false, 1, 3), .start (false, 2, 3), .recv (true, 2, 0), .start (true, 3, 0),
  .recv (false, 2, 0), .start (false, 3, 0), .recv (true, 2, 1), .start (true, 3, 1), .recv (false, 2, 1), .start (false, 3, 1),
  .recv (true, 2, 2), .start (true, 3, 2), .recv (false, 2, 2), .start (false, 3, 2), .recv (true, 2, 3), .start (true, 3, 3),
  .recv (false, 2, 3), .start (false, 3, 3), .recv (true, 3, 0), .start (true, 4, 0), .recv (false, 3, 0), .start (false, 4, 0),
  .recv (true, 3, 1), .start (true, 4, 1), .recv (false, 3, 1), .start (false, 4, 1), .recv (true, 3, 2), .start (true, 4, 2),
  .recv (false, 3, 2), .start (false, 4, 2), .recv (true, 3, 3), .start (true, 4, 3), .recv (false, 3, 3), .start (false, 4, 3),
  .recv (true, 4, 0), .start (true, 5, 0), .recv (false, 4, 0), .start (false, 5, 0), .recv (true, 4, 1), .start (true, 5, 1),
  .recv (false, 4, 1), .start (false, 5, 1), .recv (true, 4, 2), .start (true, 5, 2), .recv (false, 4, 2), .start (false, 5, 2),
  .recv (true, 4, 3), .start (true, 5, 3), .recv (false, 4, 3), .start (false, 5, 3), .recv (true, 5, 0), .start (true, 6, 0),
  .recv (false, 5, 0), .start (false, 6, 0), .recv (true, 5, 1), .start (true, 6, 1), .recv (false, 5, 1), .start (false, 6, 1),
  .recv (true, 5, 2), .start (true, 6, 2), .recv (false, 5, 2), .start (false, 6, 2), .recv (true, 5, 3), .start (true, 6, 3),
  .recv (false, 5, 3), .start (false, 6, 3), .recv (true, 6, 0), .start (true, 7, 0), .recv (false, 6, 0), .start (false, 7, 0),
  .recv (true, 6, 1), .start (true, 7, 1), .recv (false, 6, 1), .start (false, 7, 1), .recv (true, 6, 2), .start (true, 7, 2),
  .recv (false, 6, 2), .start (false, 7, 2), .recv (true, 6, 3), .start (true, 7, 3), .recv (false, 6, 3), .start (false, 7, 3),
  .recv (true, 7, 0), .start (true, 8, 0), .recv (false, 7, 0), .start (false, 8, 0), .recv (true, 7, 1), .start (true, 8, 1),
  .recv (false, 7, 1), .start (false, 8, 1), .recv (true, 7, 2), .start (true, 8, 2), .recv (false, 7, 2), .start (false, 8, 2),
  .recv (true, 7, 3), .start (true, 8, 3), .recv (false, 7, 3), .start (false, 8, 3), .recv (true, 8, 0), .start (true, 9, 0),
  .recv (false, 8, 0), .start (false, 9, 0), .recv (true, 8, 1), .start (true, 9, 1), .recv (false, 8, 1), .start (false, 9, 1),
  .recv (true, 8, 2), .start (true, 9, 2), .recv (false, 8, 2), .start (false, 9, 2), .recv (true, 8, 3), .start (true, 9, 3),
  .recv (false, 8, 3), .start (false, 9, 3), .recv (true, 9, 0), .start (true, 10, 0), .recv (false, 9, 0), .start (false, 10, 0),
  .recv (true, 9, 1), .start (true, 10, 1), .recv (false, 9, 1), .start (false, 10, 1), .recv (true, 9, 2), .start (true, 10, 2),
  .recv (false, 9, 2), .start (false, 10, 2), .recv (true, 9, 3), .start (true, 10, 3), .recv (false, 9, 3), .start (false, 10, 3),
  .recv (true, 10, 0), .start (true, 11, 0), .recv (false, 10, 0), .start (false, 11, 0), .recv (true, 10, 1), .start (true, 11, 1),
  .recv (false, 10, 1), .start (false, 11, 1), .recv (true, 10, 2), .start (true, 11, 2), .recv (false, 10, 2), .start (false, 11, 2),
  .recv (true, 10, 3), .start (true, 11, 3), .recv (false, 10, 3), .start (false, 11, 3), .recv (true, 11, 0), .start (true, 12, 0),
  .recv (false, 11, 0), .start (false, 12, 0), .recv (true, 11, 1), .start (true, 12, 1), .recv (false, 11, 1), .start (false, 12, 1),
  .recv (true, 11, 2), .start (true, 12, 2), .recv (false, 11, 2), .start (false, 12, 2), .recv (true, 11, 3), .start (true, 12, 3),
  .recv (false, 11, 3), .start (false, 12, 3), .recv (true, 12, 0), .start (true, 13, 0), .recv (false, 12, 0), .start (false, 13, 0),
  .recv (true, 12, 1), .start (true, 13, 1), .recv (false, 12, 1), .start (false, 13, 1), .recv (true, 12, 2), .start (true, 13, 2),
  .recv (false, 12, 2), .start (false, 13, 2), .recv (true, 12, 3), .start (true, 13, 3), .recv (false, 12, 3), .start (false, 13, 3),
  .recv (true, 13, 0), .start (true, 14, 0), .recv (false, 13, 0), .start (false, 14, 0), .recv (true, 13, 1), .start (true, 14, 1),
  .recv (false, 13, 1), .start (false, 14, 1), .recv (true, 13, 2), .start (true, 14, 2), .recv (false, 13, 2), .start (false, 14, 2),
  .recv (true, 13, 3), .start (true, 14, 3), .recv (false, 13, 3), .start (false, 14, 3), .recv (true, 14, 0), .start (true, 15, 0),
  .recv (false, 14, 0), .recv (true, 14, 1), .start (true, 15, 1), .recv (false, 14, 1), .recv (true, 14, 2), .recv (false, 14, 2),
  .start (false, 15, 2), .recv (true, 14, 3), .recv (false, 14, 3), .start (false, 15, 3), .recv (true, 15, 0), .recv (true, 15, 1),
  .recv (false, 15, 2), .recv (false, 15, 3), .sent (true, 0, 0), .sent (true, 0, 1), .sent (true, 0, 2), .sent (true, 0, 3),
  .sent (false, 0, 0), .sent (false, 0, 1), .sent (false, 0, 2), .sent (false, 0, 3), .sent (true, 1, 0), .sent (true, 1, 1),
  .sent (true, 1, 2), .sent (true, 1, 3), .sent (false, 1, 0), .sent (false, 1, 1), .sent (false, 1, 2), .sent (false, 1, 3),
  .sent (true, 2, 0), .sent (true, 2, 1), .sent (true, 2, 2), .sent (true, 2, 3), .sent (false, 2, 0), .sent (false, 2, 1),
  .sent (false, 2, 2), .sent (false, 2, 3), .sent (true, 3, 0), .sent (true, 3, 1), .sent (true, 3, 2), .sent (true, 3, 3),
  .sent (false, 3, 0), .sent (false, 3, 1), .sent (false, 3, 2), .sent (false, 3, 3), .sent (true, 4, 0), .sent (true, 4, 1),
  .sent (true, 4, 2), .sent (true, 4, 3), .sent (false, 4, 0), .sent (false, 4, 1), .sent (false, 4, 2), .sent (false, 4, 3),
  .sent (true, 5, 0), .sent (true, 5, 1), .sent (true, 5, 2), .sent (true, 5, 3), .sent (false, 5, 0), .sent (false, 5, 1),
  .sent (false, 5, 2), .sent (false, 5, 3), .sent (true, 6, 0), .sent (true, 6, 1), .sent (true, 6, 2), .sent (true, 6, 3),
  .sent (false, 6, 0), .sent (false, 6, 1), .sent (false, 6, 2), .sent (false, 6, 3), .sent (true, 7, 0), .sent (true, 7, 1),
  .sent (true, 7, 2), .sent (true, 7, 3), .sent (false, 7, 0), .sent (false, 7, 1), .sent (false, 7, 2), .sent (false, 7, 3),
  .sent (true, 8, 0), .sent (true, 8, 1), .sent (true, 8, 2), .sent (true, 8, 3), .sent (false, 8, 0), .sent (false, 8, 1),
  .sent (false, 8, 2), .sent (false, 8, 3), .sent (true, 9, 0), .sent (true, 9, 1), .sent (true, 9, 2), .sent (true, 9, 3),
  .sent (false, 9, 0), .sent (false, 9, 1), .sent (false, 9, 2), .sent (false, 9, 3), .sent (true, 10, 0), .sent (true, 10, 1),
  .sent (true, 10, 2), .sent (true, 10, 3), .sent (false, 10, 0), .sent (false, 10, 1), .sent (false, 10, 2), .sent (false, 10, 3),
  .sent (true, 11, 0), .sent (true, 11, 1), .sent (true, 11, 2), .sent (true, 11, 3), .sent (false, 11, 0), .sent (false, 11, 1),
  .sent (false, 11, 2), .sent (false, 11, 3), .sent (true, 12, 0), .sent (true, 12, 1), .sent (true, 12, 2), .sent (true, 12, 3),
  .sent (false, 12, 0), .sent (false, 12, 1), .sent (false, 12, 2), .sent (false, 12, 3), .sent (true, 13, 0), .sent (true, 13, 1),
  .sent (true, 13, 2), .sent (true, 13, 3), .sent (false, 13, 0), .sent (false, 13, 1), .sent (false, 13, 2), .sent (false, 13, 3),
  .sent (true, 14, 0), .sent (true, 14, 1), .sent (true, 14, 2), .sent (true, 14, 3), .sent (false, 14, 0), .sent (false, 14, 1),
  .sent (false, 14, 2), .sent (false, 14, 3), .sent (true, 15, 0), .sent (true, 15, 1), .sent (false, 15, 2), .sent (false, 15, 3)]

/-- The event at a place of the list. -/
def ev (n : ℕ) : Ev := evs.getD n (.start (true, 0, 0))

theorem ev_facts (n : Fin 372) : (ev n).time = n ∧ (ev n).ok = true := by revert n; decide +kernel

theorem of_start {n : ℕ} (hn : n < 372) {κ : Copy} (h : ev n = .start κ) : n = tS κ ∧ valid κ = true := by
  have := ev_facts ⟨n, hn⟩; simp only [h] at this; exact ⟨this.1.symm, this.2⟩
theorem of_recv {n : ℕ} (hn : n < 372) {κ : Copy} (h : ev n = .recv κ) : n = tR κ ∧ valid κ = true := by
  have := ev_facts ⟨n, hn⟩; simp only [h] at this; exact ⟨this.1.symm, this.2⟩
theorem of_sent {n : ℕ} (hn : n < 372) {κ : Copy} (h : ev n = .sent κ) : n = tW κ ∧ valid κ = true := by
  have := ev_facts ⟨n, hn⟩; simp only [h] at this; exact ⟨this.1.symm, this.2⟩

end Cert.KernelIdeal.AG

end
-- ==== Proof.Geom.lean ====
/-
  The buffers, offsets, words and semaphores of the body, named by device, sub-block and copy.

  The body addresses the gathered buffer by sub-blocks of 256 rows at offsets computed from table words, and its
  semaphores by slices of four arrays. Each such offset, device number, side condition and semaphore is computed here.
-/
module

public import proofs.«01_k».proof.Proof.Ring

@[expose] public section

set_option maxRecDepth 16384

noncomputable section

namespace Cert.KernelIdeal.AG

open Idealize.ShloMosaic Idealize.ShloMosaic.TcCoe Cert.KernelIdeal

/-! ## The staging buffers -/

/-- The cycle table, the position table, the device's block and the gathered result, as staged. -/
abbrev M0 : Memref sig .tc .smem S32 .i32 := Memref.whole cc0_stg0_0
abbrev M1 : Memref sig .tc .smem S32 .i32 := Memref.whole cc0_stg1_0
abbrev M2 : Memref sig .tc .vmem S1024x512 .bf16 := Memref.whole cc0_stg2_0
abbrev M3 : Memref sig .tc .vmem S32768x512 .bf16 := Memref.whole cc0_stg3_0

/-- The offsets of sub-block `s` of block `b`. -/
def subOff (b : Fin 32) (s : Fin 4) : Fin 2 → ℕ := ![1024 * b.val + 256 * s.val, 0]

theorem subOff_inb (b : Fin 32) (s : Fin 4) : ∀ a, subOff b s a + S256x512.size a ≤ S32768x512.size a := by
  intro a; fin_cases a
  · show 1024 * b.val + 256 * s.val + 256 ≤ 32768; omega
  · show 0 + 512 ≤ 512; omega

/-- Sub-block `s` of block `b` of the gathered buffer. -/
abbrev sub (b : Fin 32) (s : Fin 4) : Memref sig .tc .vmem S256x512 .bf16 :=
  M3.slice (Rect.unit (s := S32768x512) (subOff b s) S256x512.size (subOff_inb b s)) (fun _ => rfl)

/-- A slice at the offsets of a sub-block is that sub-block. -/
theorem slice_eq {off : Fin 2 → ℕ} {b : Fin 32} {s : Fin 4} (h : off = subOff b s)
    (inb : ∀ a, off a + S256x512.size a ≤ S32768x512.size a) :
    (M3.slice (Rect.unit (s := S32768x512) off S256x512.size inb) (fun _ => rfl) : Memref sig .tc .vmem S256x512 .bf16) = sub b s := by
  subst h; rfl

/-- An element lies in a sub-block when its row does. -/
theorem mem_sub (b : Fin 32) (s : Fin 4) (i : S32768x512.Idx) :
    i ∈ (sub b s).view.set ↔ (i 0).val / 256 = 4 * b.val + s.val := by
  rw [show (sub b s).view.set = (Rect.unit (s := S32768x512) (subOff b s) S256x512.size (subOff_inb b s)).set from View.set_slice_whole _ _,
    Rect.mem_set_unit]
  constructor
  · intro h
    have := h 0
    have e1 : (subOff b s) 0 = 1024 * b.val + 256 * s.val := rfl
    have e2 : S256x512.size 0 = 256 := rfl
    rw [e1, e2] at this; omega
  · intro h a
    fin_cases a
    · have e1 : (subOff b s) 0 = 1024 * b.val + 256 * s.val := rfl
      have e2 : S256x512.size 0 = 256 := rfl
      show (subOff b s) 0 ≤ (i 0).val ∧ (i 0).val < (subOff b s) 0 + S256x512.size 0
      rw [e1, e2]; omega
    · have := (i 1).isLt
      have e2 : S32768x512.size 1 = 512 := rfl
      show 0 ≤ (i 1).val ∧ (i 1).val < 0 + 512
      omega

/-- A copy's credit: a sub-block's, the same for all. -/
def N : ℕ := (sub 0 0).view.dmaCredit
theorem N_pos : 0 < N := View.dmaCredit_pos _ (by decide)

/-! ## Words -/

/-- A number below 32 as the word the tables and the device id hold. -/
abbrev W (b : Fin 32) : BitVec 32 := BitVec.ofNat 32 b.val

/-- A table offset. -/
abbrev tOff (i : Fin 32) : Fin 1 → ℕ := ![i.val]

theorem idx_self : ∀ c : Fin 32, (Scalar.indexCast (Scalar.remsi (Scalar.divsi (W c) 1#32) 32#32)).toNat = c.val := by decide +kernel
theorem idx_sub_aux : ∀ p k : Fin 32, (Scalar.indexCast (Scalar.remsi (Scalar.addi (Scalar.subi (W p) (W k)) 32#32) 32#32)).toNat = (step true p k.val).val := by decide +kernel
theorem idx_add_aux : ∀ p k : Fin 32, (Scalar.indexCast (Scalar.remsi (Scalar.addi (W p) (W k)) 32#32)).toNat = (step false p k.val).val := by decide +kernel
theorem idx_pre_aux : ∀ p k : Fin 32, (Scalar.indexCast (Scalar.remsi (Scalar.subi (Scalar.addi (W p) 32#32) (W k)) 32#32)).toNat = (step true p k.val).val := by decide +kernel
theorem row_self : ∀ c : Fin 32, (Scalar.indexCast (Scalar.muli (Scalar.remsi (Scalar.divsi (W c) 1#32) 32#32) 1024#32)).toNat = 1024 * c.val := by decide +kernel
theorem row_aux : ∀ b : Fin 32, ∀ s : Fin 4, (Scalar.addi (Scalar.muli (W b) 1024#32) (BitVec.ofNat 32 (256 * s.val))).toNat = 1024 * b.val + 256 * s.val := by decide +kernel
theorem dev_aux : ∀ b : Fin 32, (Scalar.addi 0#32 (Scalar.muli (W b) 1#32)).toNat = b.val := by decide +kernel

/-- The table offset `k` steps back (blocks that came from the left). -/
theorem idx_sub (p : Fin 32) (k : ℕ) (hk : k < 32) :
    ![(Scalar.indexCast (Scalar.remsi (Scalar.addi (Scalar.subi (W p) (BitVec.ofNat 32 k)) 32#32) 32#32)).toNat] = tOff (step true p k) := by
  rw [show BitVec.ofNat 32 k = W ⟨k, hk⟩ from rfl, idx_sub_aux p ⟨k, hk⟩]
/-- The table offset `k` steps on. -/
theorem idx_add (p : Fin 32) (k : ℕ) (hk : k < 32) :
    ![(Scalar.indexCast (Scalar.remsi (Scalar.addi (W p) (BitVec.ofNat 32 k)) 32#32)).toNat] = tOff (step false p k) := by
  rw [show BitVec.ofNat 32 k = W ⟨k, hk⟩ from rfl, idx_add_aux p ⟨k, hk⟩]
/-- The table offset `k` steps back, as the left neighbour's is written. -/
theorem idx_pre (p : Fin 32) (k : ℕ) (hk : k < 32) :
    ![(Scalar.indexCast (Scalar.remsi (Scalar.subi (Scalar.addi (W p) 32#32) (BitVec.ofNat 32 k)) 32#32)).toNat] = tOff (step true p k) := by
  rw [show BitVec.ofNat 32 k = W ⟨k, hk⟩ from rfl, idx_pre_aux p ⟨k, hk⟩]

theorem tOff_inb (i : Fin 32) : ∀ a, tOff i a + S1.size a ≤ S32.size a := by
  intro a; fin_cases a; show i.val + 1 ≤ 32; omega

theorem inb_sub (p : Fin 32) (k : ℕ) (hk : k < 32) : ∀ a,
    (![(Scalar.indexCast (Scalar.remsi (Scalar.addi (Scalar.subi (W p) (BitVec.ofNat 32 k)) 32#32) 32#32)).toNat] : Fin 1 → ℕ) a + S1.size a ≤ S32.size a := by
  rw [idx_sub p k hk]; exact tOff_inb _
theorem inb_add (p : Fin 32) (k : ℕ) (hk : k < 32) : ∀ a,
    (![(Scalar.indexCast (Scalar.remsi (Scalar.addi (W p) (BitVec.ofNat 32 k)) 32#32)).toNat] : Fin 1 → ℕ) a + S1.size a ≤ S32.size a := by
  rw [idx_add p k hk]; exact tOff_inb _
theorem inb_pre (p : Fin 32) (k : ℕ) (hk : k < 32) : ∀ a,
    (![(Scalar.indexCast (Scalar.remsi (Scalar.subi (Scalar.addi (W p) 32#32) (BitVec.ofNat 32 k)) 32#32)).toNat] : Fin 1 → ℕ) a + S1.size a ≤ S32.size a := by
  rw [idx_pre p k hk]; exact tOff_inb _

/-- The offsets of a sub-block, from its block's word. -/
theorem off_sub (b : Fin 32) (a : ℕ) (s : Fin 4) (h : a = 256 * s.val) :
    ![(Scalar.addi (Scalar.muli (W b) 1024#32) (BitVec.ofNat 32 a)).toNat, 0] = subOff b s := by
  subst h; rw [row_aux]; rfl

/-- A device number computed from a word. -/
theorem dev_eq (b : Fin 32) (h : (Scalar.addi 0#32 (Scalar.muli (W b) 1#32)).toNat < nD) :
    (⟨(Scalar.addi 0#32 (Scalar.muli (W b) 1#32)).toNat, h⟩ : Dev nD) = b := Fin.ext (dev_aux b)
theorem dev_lt (b : Fin 32) : (Scalar.addi 0#32 (Scalar.muli (W b) 1#32)).toNat < nD := by rw [dev_aux]; exact b.isLt

theorem sub_words (b : Fin 32) (s : Fin 4) (inb : ∀ a, subOff b s a + S256x512.size a ≤ S32768x512.size a) :
    (Rect.unit (s := S32768x512) (subOff b s) S256x512.size inb).WholeWords (EltTy.packing .bf16) := by
  revert s b; decide +kernel

/-- What the body assumes of a word naming a block, for the sub-block at row `a`. -/
theorem chk_ok (b : Fin 32) (a : ℕ) (s : Fin 4) (h : a = 256 * s.val) :
    (∀ x, (![(Scalar.addi (Scalar.muli (W b) 1024#32) (BitVec.ofNat 32 a)).toNat, 0] : Fin 2 → ℕ) x + S256x512.size x ≤ S32768x512.size x) ∧
    (∀ hinb : ∀ x, (![(Scalar.addi (Scalar.muli (W b) 1024#32) (BitVec.ofNat 32 a)).toNat, 0] : Fin 2 → ℕ) x + S256x512.size x ≤ S32768x512.size x,
      (Rect.unit (s := S32768x512) ![(Scalar.addi (Scalar.muli (W b) 1024#32) (BitVec.ofNat 32 a)).toNat, 0] S256x512.size hinb).WholeWords (EltTy.packing .bf16)) := by
  rw [off_sub b a s h]; exact ⟨subOff_inb b s, sub_words b s⟩

attribute [local irreducible] Scalar.addi Scalar.subi Scalar.muli Scalar.remsi Scalar.divsi Scalar.indexCast

set_option maxHeartbeats 4000000 in
theorem chk1_ok (p : Fin 32) : k0_chk1 (W p) := by
  repeat' apply And.intro
  all_goals first
    | exact inb_sub p _ (by decide)
    | exact inb_add p _ (by decide)
    | exact inb_pre p _ (by decide)

theorem chk2_ok (b : Fin 32) : k0_chk2 (W b) := by
  repeat' apply And.intro
  all_goals exact dev_lt b

theorem chk3_ok (b : Fin 32) : k0_chk3 (W b) := by
  repeat' apply And.intro
  all_goals exact dev_lt b

/-! ## Semaphores -/

/-- The semaphore of copy `κ` on its sender (`true`) or its receiver (`false`). -/
def semOf (snd : Bool) (κ : Copy) : DmaSem sig :=
  ⟨(if κ.1 then (if snd then 4 else 68) else (if snd then 132 else 196)) + (4 * κ.2.1.val + κ.2.2.val), by
    have h1 := κ.2.1.isLt; have h2 := κ.2.2.isLt
    show _ < 260
    split <;> split <;> omega⟩

theorem row_at : ∀ i : S16x4.Idx, (S16x4.rowMajor i).val = 4 * (i 0).val + (i 1).val := by decide +kernel

theorem sem_at (base : ℕ) (hb : base + S16x4.numel ≤ 260) (h : Fin 16) (s : Fin 4)
    (inb : ∀ a, (![h.val, s.val] : Fin 2 → ℕ) a + S1x1.size a ≤ S16x4.size a) :
    ((((SemArray.consecutive base S16x4 hb : SemArray (Fin 260) S16x4).slice (Rect.unit (s := S16x4) ![h.val, s.val] S1x1.size inb)).squeeze S_ Facts₀.squeezes_S1x1_S_).sem).val
      = base + (4 * h.val + s.val) := by
  have hz : ∀ j : S1x1.Idx, ∀ a, (j a).val = 0 := by decide +kernel
  have hr : ∀ j : S1x1.Idx, (S16x4.rowMajor ((Rect.unit (s := S16x4) ![h.val, s.val] S1x1.size inb).emb j)).val = 4 * h.val + s.val := by
    intro j
    rw [row_at]
    have e0 : (((Rect.unit (s := S16x4) ![h.val, s.val] S1x1.size inb).emb j) 0).val = h.val + 1 * (j 0).val := rfl
    have e1 : (((Rect.unit (s := S16x4) ![h.val, s.val] S1x1.size inb).emb j) 1).val = s.val + 1 * (j 1).val := rfl
    rw [e0, e1, hz, hz]; omega
  exact congrArg (base + ·) (hr _)

/-- The body's slices of the four semaphore arrays name the copies' semaphores. -/
theorem sem0_eq (x y : ℕ) (h : Fin 16) (s : Fin 4) (inb : ∀ a, (![x, y] : Fin 2 → ℕ) a + S1x1.size a ≤ S16x4.size a) (hx : x = h.val) (hy : y = s.val) :
    ((cc0_scratch0.slice (Rect.unit (s := S16x4) ![x, y] S1x1.size inb)).squeeze S_ Facts₀.squeezes_S1x1_S_).sem = semOf true (true, h, s) := by
  subst hx; subst hy; exact Fin.ext (sem_at _ _ h s inb)
theorem sem1_eq (x y : ℕ) (h : Fin 16) (s : Fin 4) (inb : ∀ a, (![x, y] : Fin 2 → ℕ) a + S1x1.size a ≤ S16x4.size a) (hx : x = h.val) (hy : y = s.val) :
    ((cc0_scratch1.slice (Rect.unit (s := S16x4) ![x, y] S1x1.size inb)).squeeze S_ Facts₀.squeezes_S1x1_S_).sem = semOf false (true, h, s) := by
  subst hx; subst hy; exact Fin.ext (sem_at _ _ h s inb)
theorem sem2_eq (x y : ℕ) (h : Fin 16) (s : Fin 4) (inb : ∀ a, (![x, y] : Fin 2 → ℕ) a + S1x1.size a ≤ S16x4.size a) (hx : x = h.val) (hy : y = s.val) :
    ((cc0_scratch2.slice (Rect.unit (s := S16x4) ![x, y] S1x1.size inb)).squeeze S_ Facts₀.squeezes_S1x1_S_).sem = semOf true (false, h, s) := by
  subst hx; subst hy; exact Fin.ext (sem_at _ _ h s inb)
theorem sem3_eq (x y : ℕ) (h : Fin 16) (s : Fin 4) (inb : ∀ a, (![x, y] : Fin 2 → ℕ) a + S1x1.size a ≤ S16x4.size a) (hx : x = h.val) (hy : y = s.val) :
    ((cc0_scratch3.slice (Rect.unit (s := S16x4) ![x, y] S1x1.size inb)).squeeze S_ Facts₀.squeezes_S1x1_S_).sem = semOf false (false, h, s) := by
  subst hx; subst hy; exact Fin.ext (sem_at _ _ h s inb)

end Cert.KernelIdeal.AG

end
-- ==== Proof.Base.lean ====
/-
  What a device's body is said to do, operation by operation.

  `Tr P p a Q`: from `P` the program `p` returns `a` and leaves `Q`. `Steps c S` says what each kind of operation of the body
  does to the state `S r` a device is in when `r` transfer events are still to come.
-/
module

public import proofs.«01_k».proof.Proof.Geom

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

/-- The ghost state: the pipeline's, and one rounds library over every semaphore, its duties named by a truth value. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- From `P` the program returns `a` and leaves `Q`. -/
def Tr (c : Dev nD) {α : Type} (P : sProp 𝕄) (p : Prog (TpuEff nD τ sig (Elt F) Λ₀ .tc) α) (a : α) (Q : sProp 𝕄) : Prop :=
  ∀ Φ : α → sProp 𝕄, (Q ⊢ Φ a) → P ⊢ wp frame (wpE (defs₀ (F := F)) 𝒱₀ (c : Thread nD τ) none) Set.univ p Φ

section Rules

theorem tr_bind {c : Dev nD} {α β : Type} {P Q R : sProp 𝕄} {a : α} {b : β} {p : Prog (TpuEff nD τ sig (Elt F) Λ₀ .tc) α} {k : α → Prog (TpuEff nD τ sig (Elt F) Λ₀ .tc) β}
    (h₁ : Tr c P p a Q) (h₂ : Tr c Q (k a) b R) : Tr c P (p >>= k) b R := by
  intro Φ hΦ
  rw [wp_bind]
  exact h₁ _ (h₂ Φ hΦ)

theorem tr_ret {c : Dev nD} {α : Type} {P : sProp 𝕄} {a : α} : Tr c P (pure a : Prog (TpuEff nD τ sig (Elt F) Λ₀ .tc) α) a P := by
  intro Φ hΦ
  rw [Prog.pure_eq_ret, wp_ret]
  exact hΦ.trans (fupd_intro (PROP := sProp 𝕄))

theorem tr_assume {c : Dev nD} {P : sProp 𝕄} {A : Prop} {d : Decidable A} (h : A) :
    Tr c P (Prog.lift (TpuEff.assume A d) : Prog (TpuEff nD τ sig (Elt F) Λ₀ .tc) (PLift A)) (PLift.up h) P := by
  intro Φ hΦ
  unfold Prog.lift
  rw [wp_assume_of 𝒱₀ (c : Thread nD τ) none Set.univ h, wp_ret]
  exact hΦ.trans (fupd_intro (PROP := sProp 𝕄))

end Rules

/-- What the operations of the body do to the state `S r` of device `c`, `r` events from the end: a table word is read and
    nothing changes; the event whose turn it is happens. -/
structure Steps (c : Dev nD) (S : ℕ → sProp 𝕄) : Prop where
  table : ∀ (r : ℕ) (i : Fin 32) (off : Fin 1 → ℕ) (inb : ∀ a, off a + S1.size a ≤ S32.size a) (h1) (hp), off = tOff i →
    Tr c (S r) (smemLoad M0 (Rect.unit (s := S32) off S1.size inb) h1 hp) (W (cyc i)) (S r)
  start : ∀ (r : ℕ) (κ : Copy), ev (371 - r) = .start κ → ∀ (off off' : Fin 2 → ℕ)
    (inb : ∀ a, off a + S256x512.size a ≤ S32768x512.size a) (inb' : ∀ a, off' a + S256x512.size a ≤ S32768x512.size a)
    (dv : Dev nD) (sS sR : DmaSem sig) (h4) (h1) (h2) (h3), off = subOff (blk κ.1 c κ.2.1.val) κ.2.2 → off' = subOff (blk κ.1 c κ.2.1.val) κ.2.2 →
    dv = peer κ.1 c → sS = semOf true κ → sR = semOf false κ →
    Tr c (S (r + 1)) (Prog.lift (.enqueueDma (M3.slice (Rect.unit (s := S32768x512) off S256x512.size inb) (fun _ => rfl) : Memref sig .tc .vmem S256x512 .bf16)
      (.remote (Dev.tc dv) (M3.slice (Rect.unit (s := S32768x512) off' S256x512.size inb') (fun _ => rfl) : Memref sig .tc .vmem S256x512 .bf16) (.dma sS) h4) (.dma sR) h1 h2 h3)) ⟨⟩ (S r)
  recv : ∀ (r : ℕ) (κ : Copy), ev (371 - r) = .recv κ → ∀ (off off' : Fin 2 → ℕ)
    (inb : ∀ a, off a + S256x512.size a ≤ S32768x512.size a) (inb' : ∀ a, off' a + S256x512.size a ≤ S32768x512.size a)
    (sR : DmaSem sig) (h1) (h2), sR = semOf false κ →
    Tr c (S (r + 1)) (Prog.lift (.waitDma2 sR (M3.slice (Rect.unit (s := S32768x512) off S256x512.size inb) (fun _ => rfl) : Memref sig .tc .vmem S256x512 .bf16)
      (M3.slice (Rect.unit (s := S32768x512) off' S256x512.size inb') (fun _ => rfl) : Memref sig .tc .vmem S256x512 .bf16) h1 h2)) ⟨⟩ (S r)
  sent : ∀ (r : ℕ) (κ : Copy), ev (371 - r) = .sent κ → ∀ (off off' : Fin 2 → ℕ)
    (inb : ∀ a, off a + S256x512.size a ≤ S32768x512.size a) (inb' : ∀ a, off' a + S256x512.size a ≤ S32768x512.size a)
    (sS : DmaSem sig) (h1) (h2), sS = semOf true κ →
    Tr c (S (r + 1)) (Prog.lift (.waitDma2 sS (M3.slice (Rect.unit (s := S32768x512) off S256x512.size inb) (fun _ => rfl) : Memref sig .tc .vmem S256x512 .bf16)
      (M3.slice (Rect.unit (s := S32768x512) off' S256x512.size inb') (fun _ => rfl) : Memref sig .tc .vmem S256x512 .bf16) h1 h2)) ⟨⟩ (S r)

end Cert.KernelIdeal.AG

end
-- ==== Proof.Sched.lean ====
/-
  The protocol of the two rings: cells, contents, duties, levels, debts.

  Every device has one barrier cell and, for each copy, a send cell (on the device the copy leaves) and a receive cell (on the
  device it reaches). A device's barrier cell is paid by its two neighbours, each of which hands over the places of its
  gathered buffer the device's copies in that direction will fill. A copy pays the receive cell with the place filled and the
  send cell with its source back.
-/
module

public import proofs.«01_k».proof.Proof.Base
public import Idealize.ShloMosaic.Lib.Rounds.Family

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

/-! ## Cells -/

/-- A copy's semaphore: on its sender (`true`) or its receiver. -/
abbrev Key : Type := Bool × Copy

abbrev osem (k : Key) : SemLoc sig := .dma (semOf k.1 k.2)
abbrev barS : Sem sig := (SemArray.scalar (sig.barrier 0 rfl) : Sems sig S_).sem

abbrev keyCell (k : Key) (c : Dev nD) : GSem nD τ sig := ((c : Thread nD τ), osem k)
abbrev sendCell (κ : Copy) (c : Dev nD) : GSem nD τ sig := keyCell (true, κ) c
abbrev recvCell (κ : Copy) (c : Dev nD) : GSem nD τ sig := keyCell (false, κ) c
abbrev barCell (c : Dev nD) : GSem nD τ sig := ((c : Thread nD τ), .reg barS)

/-- Which copy a DMA semaphore belongs to: the first four serve the staging. -/
def keyAt (i : Fin 260) : Option Key :=
  if i.val < 4 then none
  else
    let j := i.val - 4
    some ((j / 64) % 2 == 0, (decide (j < 128), Fin.ofNat 16 (j % 64 / 4), Fin.ofNat 4 (j % 4)))

theorem keyAt_semOf : ∀ k : Key, keyAt (semOf k.1 k.2) = some k := by decide +kernel

theorem osem_inj : Function.Injective (osem : Key → SemLoc sig) := fun a b h => by
  have h' : semOf a.1 a.2 = semOf b.1 b.2 := by injection h
  have := (keyAt_semOf a).symm.trans ((congrArg keyAt h').trans (keyAt_semOf b))
  exact Option.some.inj this

/-! ## Contents -/

/-- The gathered buffer's contents. -/
abbrev Con (F : FTy → Type) : Type := (cc0_stg3_0 : Ref sig .tc).ty.Contents (Elt F)

/-- Sub-block `s` of block `b` of device `c`'s gathered buffer, at share `q` and contents `f`. -/
def reg (q : PosShare TreeShare) (c : Dev nD) (b : Fin 32) (s : Fin 4) (f : Con F) : sProp 𝕄 :=
  (sub b s).view.loc (c : Thread nD τ) ↦[(sub b s).view.set]{q} f

instance reg_storable (q : PosShare TreeShare) (c : Dev nD) (b : Fin 32) (s : Fin 4) (f : Con F) :
    BI.Storable (upEmb : UEmb _ 𝕄) (reg q c b s f) := by unfold reg; infer_instance

/-- The share of a place: the device's own block feeds both directions, a half to each. -/
def shareOf (i : Item) : PosShare TreeShare := if i.2.1.val = 0 then (if i.1 then fullShare.left else fullShare.right) else fullShare

variable (G : Con F)

/-- A place of device `c`'s buffer holding what the result has there. -/
def piece (c : Dev nD) (i : Item) : sProp 𝕄 := reg (shareOf i) c (blk i.1 c i.2.1.val) i.2.2 G

instance piece_storable (c : Dev nD) (i : Item) : BI.Storable (upEmb : UEmb _ 𝕄) (piece G c i) := by unfold piece; infer_instance

/-- What a copy needs of the neighbour it goes to: the place it fills there, at any contents, and its receive cell open. -/
def landing (κ : Copy) (c : Dev nD) : sProp 𝕄 :=
  iprop((∃ f : Con F, reg fullShare (peer κ.1 c) (blk κ.1 c κ.2.1.val) κ.2.2 f) ∗ reached ER (recvCell κ (peer κ.1 c)) 0)

/-- What a neighbour's signal hands over: all landings of the copies towards it. -/
def barPay (d : Bool) (c : Dev nD) : sProp 𝕄 :=
  bigSep Finset.univ fun κ : Copy => if valid κ = true ∧ κ.1 = d then landing (F := F) κ c else iprop(emp)

instance landing_storable (κ : Copy) (c : Dev nD) : BI.Storable (upEmb : UEmb _ 𝕄) (landing (F := F) κ c) := by
  unfold landing; infer_instance
instance barPay_storable (d : Bool) (c : Dev nD) : BI.Storable (upEmb : UEmb _ 𝕄) (barPay (F := F) d c) := by
  have : ∀ κ : Copy, BI.Storable (upEmb : UEmb _ 𝕄) (if valid κ = true ∧ κ.1 = d then landing (F := F) κ c else iprop(emp)) := fun κ => by
    split <;> infer_instance
  unfold barPay; infer_instance

/-! ## The schedule -/

/-- The duties of a copy's cells: one when the kernel makes the copy. -/
def dutyOf (κ : Copy) : Finset Bool := if valid κ then {false} else ∅

/-- One round: two duties on a barrier cell, named by direction, one on each cell of a copy made. -/
def agRd : Rounds.Schedule (GSem nD τ sig) Bool 𝕄 where
  duties g r := if r = 0 ∧ g.1.2 = .tc then
      (match g.2 with
        | .reg _ => Finset.univ
        | .dma i => match keyAt i with
          | some k => dutyOf k.2
          | none => ∅)
    else ∅
  unitless _ := False
  amount g _ _ := match g.2 with
    | .reg _ => 1
    | .dma _ => N
  payload g _ d := match g.2 with
    | .reg _ => barPay d g.1.1
    | .dma i => match keyAt i with
      | some (true, κ) => piece G g.1.1 (src κ)
      | some (false, κ) => piece G g.1.1 (dst κ)
      | none => iprop(emp)
  amount_pos g _ _ _ := by
    split
    · exact Nat.one_pos
    · exact N_pos

instance agRd_storable (g : GSem nD τ sig) (r : ℕ) (d : Bool) : BI.Storable (upEmb : UEmb _ 𝕄) ((agRd G).payload g r d) := by
  dsimp only [agRd]
  (repeat' split) <;> infer_instance

section Sched

variable (c : Dev nD) (κ : Copy)

theorem duties_bar : (agRd G).duties (barCell c) 0 = Finset.univ := by dsimp only [agRd]; exact if_pos ⟨rfl, rfl⟩
theorem duties_key (k : Key) : (agRd G).duties (keyCell k c) 0 = dutyOf k.2 := by
  dsimp only [agRd]; rw [if_pos ⟨rfl, rfl⟩, keyAt_semOf]
theorem duties_later (g : GSem nD τ sig) : ∀ r, 1 ≤ r → (agRd G).duties g r = ∅ := fun r hr => by
  dsimp only [agRd]; exact if_neg fun h => by omega
theorem duties_idle (k : Key) (h : valid k.2 = false) : ∀ r, 0 ≤ r → (agRd G).duties (keyCell k c) r = ∅ := fun r _ => by
  cases r with
  | zero => rw [duties_key, dutyOf, h]; rfl
  | succ r => exact duties_later G _ _ (by omega)

theorem amount_bar (d : Bool) : (agRd G).amount (barCell c) 0 d = 1 := rfl
theorem amount_key (k : Key) (d : Bool) : (agRd G).amount (keyCell k c) 0 d = N := rfl

theorem expect_bar : (agRd G).expect (barCell c) 0 = 2 := by
  unfold Schedule.expect Schedule.amountOf; rw [duties_bar, Finset.sum_congr rfl fun d _ => amount_bar G c d]; rfl
theorem expect_key (k : Key) (h : valid k.2 = true) : (agRd G).expect (keyCell k c) 0 = N := by
  unfold Schedule.expect Schedule.amountOf; rw [duties_key, dutyOf, h, if_pos rfl, Finset.sum_singleton, amount_key]

theorem payload_bar (d : Bool) : (agRd G).payload (barCell c) 0 d = barPay d c := rfl
theorem payload_send (d : Bool) : (agRd G).payload (sendCell κ c) 0 d = piece G c (src κ) := by
  dsimp only [agRd]; rw [keyAt_semOf (true, κ)]
theorem payload_recv (d : Bool) : (agRd G).payload (recvCell κ c) 0 d = piece G c (dst κ) := by
  dsimp only [agRd]; rw [keyAt_semOf (false, κ)]

theorem rest_bar : bigSep ((agRd G).duties (barCell c) 0 \ ∅) (fun u => (agRd G).payload (barCell c) 0 u)
    = iprop(barPay (F := F) true c ∗ barPay (F := F) false c) := by
  rw [Finset.sdiff_empty, duties_bar, show (Finset.univ : Finset Bool) = insert true {false} from rfl,
    bigSep_insert (by decide), bigSep_singleton, payload_bar, payload_bar]
  rfl
theorem rest_send (h : valid κ = true) : bigSep ((agRd G).duties (sendCell κ c) 0 \ ∅) (fun u => (agRd G).payload (sendCell κ c) 0 u) = piece G c (src κ) := by
  rw [Finset.sdiff_empty, duties_key, dutyOf, h, if_pos rfl, bigSep_singleton, payload_send]
theorem rest_recv (h : valid κ = true) : bigSep ((agRd G).duties (recvCell κ c) 0 \ ∅) (fun u => (agRd G).payload (recvCell κ c) 0 u) = piece G c (dst κ) := by
  rw [Finset.sdiff_empty, duties_key, dutyOf, h, if_pos rfl, bigSep_singleton, payload_recv]
theorem duty_mem (k : Key) (h : valid k.2 = true) : false ∈ (agRd G).duties (keyCell k c) 0 := by
  rw [duties_key, dutyOf, h]; exact Finset.mem_singleton_self _

end Sched

/-! ## Levels and debts -/

def L (g : GSem nD τ sig) : Finset Unit := if g.1.2 = .tc then {()} else ∅
/-- Barrier cells at 1, the receive cells of hop `h` at `2 + h`, the rest at 0. -/
def lv (g : GSem nD τ sig) (_ : Unit) : ℕ := match g.2 with
  | .reg _ => 1
  | .dma i => match keyAt i with
    | some (false, κ) => 2 + κ.2.1.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (κ : Copy) (c : Dev nD) (u : Unit) : lv (recvCell κ c) u = 2 + κ.2.1.val := by dsimp only [lv]; rw [keyAt_semOf (false, κ)]
theorem lv_send (κ : Copy) (c : Dev nD) (u : Unit) : lv (sendCell κ c) u = 0 := by dsimp only [lv]; rw [keyAt_semOf (true, κ)]

/-- What a device owes the receive cells of its neighbours: each copy of `S`. -/
def debts (S : Finset Copy) (c : Dev nD) : CellTallies nD τ sig Unit := ∑ κ ∈ S, tallyAt (recvCell κ (peer κ.1 c)) () N

theorem debts_mem (S : Finset Copy) (c : Dev nD) (g : GSem nD τ sig) (u : Unit) (h : 0 < debts S c g u) :
    ∃ κ ∈ S, g = recvCell κ (peer κ.1 c) := by
  unfold debts at h
  rw [Finset.sum_apply, Finsupp.finset_sum_apply] at h
  obtain ⟨κ, hκ, h0⟩ := Finset.exists_ne_zero_of_sum_ne_zero (Nat.pos_iff_ne_zero.mp h)
  refine ⟨κ, hκ, ?_⟩
  rw [tallyAt_apply] at h0
  by_contra hg
  exact h0 (if_neg fun hh => hg hh.1)

/-- The copies still to be started before event `n`. -/
def unstarted (n : ℕ) : Finset Copy := Finset.univ.filter fun κ => stS n κ = 0

theorem mayWait_debts (S : Finset Copy) (c : Dev nD) (sm : SemLoc sig) (b : ℕ) (hb : lv ((c : Thread nD τ), sm) () ≤ b)
    (hS : ∀ κ ∈ S, b < 2 + κ.2.1.val) :
    (levAts L lv : sProp 𝕄) ⊢ MayWait (c : Thread nD τ) sm () (debts S c) :=
  MayOwe.of_cut (L := L) (lev := lv) b (fun p hp => by rw [Finset.mem_singleton.mp hp, L_tc]; exact Finset.mem_singleton_self _)
    (fun g u hg => by
      obtain ⟨κ, -, rfl⟩ := debts_mem S c g u hg
      rw [L_tc]; exact Finset.mem_singleton_self _)
    (fun p hp => by rw [Finset.mem_singleton.mp hp]; exact hb)
    (fun g u hg => by
      obtain ⟨κ, hκ, rfl⟩ := debts_mem S c g u hg
      rw [lv_recv]; exact hS κ hκ)

/-- Starting a copy pays its receive cell. -/
theorem debts_start (κ : Copy) (h : valid κ = true) (c : Dev nD) :
    debts (unstarted (tS κ)) c = debts (unstarted (tS κ + 1)) c + tallyAt (recvCell κ (peer κ.1 c)) () N := by
  have hs := start_send κ h
  have : unstarted (tS κ) = insert κ (unstarted (tS κ + 1)) := by
    ext κ'
    unfold unstarted
    rw [Finset.mem_insert, Finset.mem_filter, Finset.mem_filter]
    by_cases e : κ' = κ
    · subst e; simp [hs.1]
    · simp only [Finset.mem_univ, true_and, e, false_or]; rw [(start_other κ h κ' e).1]
  unfold debts
  rw [this, Finset.sum_insert, add_comm]
  unfold unstarted; rw [Finset.mem_filter, hs.2.1]; simp

/-- Other events leave the debts alone. -/
theorem unstarted_congr (n : ℕ) (h : ∀ κ, stS (n + 1) κ = 0 ↔ stS n κ = 0) : unstarted (n + 1) = unstarted n := by
  unfold unstarted; ext κ; simp [h κ]

end Cert.KernelIdeal.AG

end
-- ==== Proof.State.lean ====
/-
  The state of a device between two transfer events, and what each event does to it.

  `St n`: before event `n` a device holds, for every copy, its part of the two cells as the timetable has them, and every place
  of the gathered buffer that is filled and not on loan to a copy in flight. The operations of the body move this state on.
-/
module

public import proofs.«01_k».proof.Proof.Sched

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (G : Con F) (K : GSem nD τ sig → ℕ) (c : Dev nD)

/-! ## The invariants -/

/-- Every cell of the protocol, of every device, is kept by its invariant. -/
def invs : sProp 𝕄 :=
  iprop((bigSep Finset.univ fun c' : Dev nD => cellInv ER (agRd G) (K (barCell c')) (barCell c'))
    ∗ bigSep Finset.univ fun ck : Dev nD × Key => cellInv ER (agRd G) (K (keyCell ck.2 ck.1)) (keyCell ck.2 ck.1))

instance invs_persistent : BI.Persistent (invs G K) := by unfold invs; infer_instance

theorem invs_bar (c' : Dev nD) : invs G K ⊢ cellInv ER (agRd G) (K (barCell c')) (barCell c') := by
  unfold invs; rw [bigSep_univ_at _ c']
  iintro ⟨⟨H, -⟩, -⟩; iexact H
theorem invs_key (k : Key) (c' : Dev nD) : invs G K ⊢ cellInv ER (agRd G) (K (keyCell k c')) (keyCell k c') := by
  unfold invs; rw [bigSep_univ_at (fun ck : Dev nD × Key => cellInv ER (agRd G) (K (keyCell ck.2 ck.1)) (keyCell ck.2 ck.1)) (c', k)]
  iintro ⟨-, H, -⟩; iexact H

/-! ## The state -/

/-- The round a copy's cells end at. -/
def posN (κ : Copy) : ℕ := if valid κ then 1 else 0

/-- A copy's send side: before it is started, while it is in flight, after its send is awaited. -/
def sendAt (v : ℕ) (κ : Copy) : sProp 𝕄 :=
  match v with
  | 0 => iprop(dutyTok ER (sendCell κ c) 0 false ∗ dutyTok ER (recvCell κ (peer κ.1 c)) 0 false ∗ landing (F := F) κ c
      ∗ atPos ER (sendCell κ c) 0 ∅ 0 ∗ reached ER (sendCell κ c) 0)
  | 1 => iprop(cred (tallyAt (sendCell κ c) () N) ∗ atPos ER (sendCell κ c) 0 ∅ 0)
  | _ => atPos ER (sendCell κ c) (posN κ) ∅ 0

theorem sendAt_0 (κ : Copy) : sendAt (F := F) c 0 κ = iprop(dutyTok ER (sendCell κ c) 0 false ∗ dutyTok ER (recvCell κ (peer κ.1 c)) 0 false ∗ landing (F := F) κ c
      ∗ atPos ER (sendCell κ c) 0 ∅ 0 ∗ reached ER (sendCell κ c) 0) := rfl
theorem sendAt_1 (κ : Copy) : sendAt (F := F) c 1 κ = iprop(cred (tallyAt (sendCell κ c) () N) ∗ atPos ER (sendCell κ c) 0 ∅ 0) := rfl
theorem sendAt_2 (κ : Copy) : sendAt (F := F) c 2 κ = atPos ER (sendCell κ c) (posN κ) ∅ 0 := rfl

/-- A copy's receive side: before its landing is awaited and after. -/
def recvAt (v : Bool) (κ : Copy) : sProp 𝕄 :=
  match v with
  | true => iprop(cred (tallyAt (recvCell κ c) () N) ∗ atPos ER (recvCell κ c) 0 ∅ 0)
  | false => atPos ER (recvCell κ c) (posN κ) ∅ 0

/-- A place: in hand or not. -/
def itemAt (v : Bool) (i : Item) : sProp 𝕄 := match v with
  | true => piece G c i
  | false => iprop(emp)

def cells (n : ℕ) : sProp 𝕄 := bigSep Finset.univ fun κ : Copy => iprop(sendAt (F := F) c (stS n κ) κ ∗ recvAt (F := F) c (stR n κ) κ)
def items (n : ℕ) : sProp 𝕄 := bigSep Finset.univ fun i : Item => itemAt G c (held n i) i
def cellsBut (n : ℕ) (κ : Copy) : sProp 𝕄 :=
  bigSep (Finset.univ.erase κ) fun κ : Copy => iprop(sendAt (F := F) c (stS n κ) κ ∗ recvAt (F := F) c (stR n κ) κ)
def itemsBut (n : ℕ) (i : Item) : sProp 𝕄 := bigSep (Finset.univ.erase i) fun i : Item => itemAt G c (held n i) i

theorem cells_at (n : ℕ) (κ : Copy) : cells (F := F) c n = iprop((sendAt (F := F) c (stS n κ) κ ∗ recvAt (F := F) c (stR n κ) κ) ∗ cellsBut (F := F) c n κ) := by
  unfold cells cellsBut; rw [bigSep_univ_at _ κ]
theorem items_at (n : ℕ) (i : Item) : items G c n = iprop(itemAt G c (held n i) i ∗ itemsBut G c n i) := by
  unfold items itemsBut; rw [bigSep_univ_at _ i]
theorem cellsBut_next (n : ℕ) (κ : Copy) (h : ∀ κ', κ' ≠ κ → stS (n + 1) κ' = stS n κ' ∧ stR (n + 1) κ' = stR n κ') :
    cellsBut (F := F) c (n + 1) κ = cellsBut (F := F) c n κ := by
  unfold cellsBut
  exact bigSep_congr fun κ' hκ' => by
    have := h κ' (Finset.ne_of_mem_erase hκ'); rw [this.1, this.2]
theorem itemsBut_next (n : ℕ) (i : Item) (h : ∀ i', i' ≠ i → held (n + 1) i' = held n i') :
    itemsBut G c (n + 1) i = itemsBut G c n i := by
  unfold itemsBut
  exact bigSep_congr fun i' hi' => by rw [h i' (Finset.ne_of_mem_erase hi')]

/-- The cycle table as staged, and the device's hold on it. -/
def tab : (cc0_stg0_0 : Ref sig .tc).ty.Contents (Elt F) := fun i => W (cyc (i 0))
def tabPts : sProp 𝕄 := M0.view.loc (c : Thread nD τ) ↦{fullShare} (tab (F := F))

variable (R : sProp (MT nD τ sig Unit (Elt F) ℕ UU ℕ))

/-- The state before event `n`; `R` is what else the device holds. -/
def St (n : ℕ) : sProp 𝕄 :=
  iprop(R ∗ invs G K ∗ levAts L lv ∗ tabPts (F := F) c ∗ (∃ Wt, owes (c : Thread nD τ) (debts (unstarted n) c) Wt)
    ∗ cells (F := F) c n ∗ items G c n)

/-- The state with `r` events to come. -/
def Sr (r : ℕ) : sProp 𝕄 := if r ≤ 372 then St G K c R (372 - r) else iprop(⌜False⌝)

/-- An event of the timetable carries the state with `r + 1` events to come to that with `r`. -/
theorem tr_event {p : Prog (TpuEff nD τ sig (Elt F) Λ₀ .tc) PUnit} (r : ℕ)
    (h : 371 - r < 372 → Tr c (St G K c R (371 - r)) p ⟨⟩ (St G K c R (371 - r + 1))) : Tr c (Sr G K c R (r + 1)) p ⟨⟩ (Sr G K c R r) := by
  by_cases hr : r + 1 ≤ 372
  · unfold Sr
    rw [if_pos hr, if_pos (by omega), show 372 - (r + 1) = 371 - r by omega, show 372 - r = 371 - r + 1 by omega]
    exact h (by omega)
  · intro Φ hΦ
    unfold Sr
    rw [if_neg hr]
    iintro %hf
    exact hf.elim

/-! ## The operations -/

/-- A word of the cycle table is read. -/
theorem step_table (r : ℕ) (i : Fin 32) (off : Fin 1 → ℕ) (inb : ∀ a, off a + S1.size a ≤ S32.size a) (h1) (hp) (ho : off = tOff i) :
    Tr c (Sr G K c R r) (smemLoad M0 (Rect.unit (s := S32) off S1.size inb) h1 hp) (W (cyc i)) (Sr G K c R r) := by
  subst ho
  intro Φ hΦ
  by_cases hr : r ≤ 372
  · unfold Sr at hΦ ⊢
    rw [if_pos hr] at hΦ ⊢
    unfold smemLoad smemLoadElt
    have hv : ((M0.access (Rect.unit (s := S32) (tOff i) S1.size inb)).read (Elt F) (tab (F := F))) (Shape.Idx.first (h1.symm ▸ Nat.one_pos)) = W (cyc i) := by
      show W (cyc _) = W (cyc i)
      congr 2
    unfold St at hΦ ⊢
    iintro ⟨HR, HI, HL, Ht, Hrest⟩
    unfold tabPts at hΦ ⊢
    iapply (wp_load_rect 𝒱₀ (c : Thread nD τ) none Set.univ (m := M0) (r := Rect.unit (s := S32) (tOff i) S1.size inb) (Finset.subset_univ _)) $$ Ht
    iintro Ht
    rw [hv, wp_ret]
    imodintro
    iapply hΦ
    isplitl [HR]; · iexact HR
    isplitl [HI]; · iexact HI
    isplitl [HL]; · iexact HL
    isplitl [Ht]; · iexact Ht
    iexact Hrest
  · unfold Sr at hΦ ⊢
    rw [if_neg hr]
    iintro %hf
    exact hf.elim

/-- A sub-block rewritten with what the source reads of the result holds the result. -/
theorem reg_landed (q : PosShare TreeShare) (c' : Dev nD) (b : Fin 32) (s : Fin 4) (f : Con F) :
    ((sub b s).view.loc (c' : Thread nD τ) ↦[(sub b s).view.set]{q} ((sub b s).view.write (Elt F) f ((sub b s).view.read (Elt F) G) Finset.univ) : sProp 𝕄)
      = reg q c' b s G := by
  unfold reg
  refine pointsTo_congr fun i hi => ?_
  obtain ⟨j, -, rfl⟩ := Finset.mem_map.mp hi
  rw [View.write_emb_of_mem _ _ (Finset.mem_univ _), View.read_apply]
  rfl

/-- A copy is started. -/
theorem step_start (n : ℕ) (hn : n < 372) (κ : Copy) (hev : ev n = .start κ) (h4) (h1) (h2) (h3) :
    Tr c (St G K c R n) (Prog.lift (.enqueueDma (sub (blk κ.1 c κ.2.1.val) κ.2.2)
      (.remote (Dev.tc (peer κ.1 c)) (sub (blk κ.1 c κ.2.1.val) κ.2.2) (.dma (semOf true κ)) h4) (.dma (semOf false κ)) h1 h2 h3)) ⟨⟩ (St G K c R (n + 1)) := by
  obtain ⟨rfl, hv⟩ := of_start hn hev
  intro Φ hΦ
  have e := start_send κ hv
  have ei := start_item κ hv
  unfold Prog.lift
  unfold St at hΦ ⊢
  rw [cells_at c (tS κ + 1) κ, items_at G c (tS κ + 1) (src κ), cellsBut_next c (tS κ) κ (start_other κ hv),
    itemsBut_next G c (tS κ) (src κ) (start_item_other κ hv), e.2.1, e.2.2, ei.2] at hΦ
  rw [cells_at c (tS κ) κ, items_at G c (tS κ) (src κ), e.1, ei.1]
  rw [sendAt_1] at hΦ
  rw [sendAt_0]
  dsimp only [itemAt] at hΦ ⊢
  unfold landing
  iintro ⟨HR, #HI, #HL, Ht, ⟨%Wt, HO⟩, ⟨⟨⟨HtS, HtR, ⟨⟨%f, Hdst⟩, #HrR⟩, HatS, #HrS⟩, Hrv⟩, Hcs⟩, ⟨Hit, His⟩⟩
  ihave #HIs := (invs_key G K (true, κ) c) $$ HI
  ihave #HIr := (invs_key G K (false, κ) (peer κ.1 c)) $$ HI
  unfold piece reg
  iapply (Rounds.wp_send_pointsTo 𝒱₀ ER (agRd G) (c : Thread nD τ) none (c' := (peer κ.1 c : Thread nD τ)) (src := sub (blk κ.1 c κ.2.1.val) κ.2.2)
      (dst := sub (blk κ.1 c κ.2.1.val) κ.2.2) (sS := .dma (semOf true κ)) (sem := .dma (semOf false κ)) (q := shareOf (src κ)) (fs := G)
      (κ₁ := K (sendCell κ c)) (κ₂ := K (recvCell κ (peer κ.1 c))) (r₁ := 0) (r₂ := 0) (d₁ := false) (d₂ := false) (fd := f)
      (duty_mem G c (true, κ) hv) (duty_mem G (peer κ.1 c) (false, κ) hv) () () N rfl (amount_key G c (true, κ) false) (amount_key G (peer κ.1 c) (false, κ) false)
      (debts (unstarted (tS κ + 1)) c) (debts_start κ hv c) (W := Wt)
      (by rw [payload_send]; exact BI.Entails.refl _)
      (by
        rw [payload_recv, reg_landed]
        unfold piece
        rw [show (dst κ).2.1.val = κ.2.1.val + 1 from rfl, show (dst κ).1 = κ.1 from rfl, blk_peer κ.1 c κ.2.1]
        rw [show shareOf (dst κ) = fullShare from if_neg (Nat.succ_ne_zero _)]
        exact BI.Entails.refl _)) $$ [HO HtS HtR Hdst Hit]
  · isplitr; · iexact HIs
    isplitr; · iexact HIr
    isplitl [Hit]; · iexact Hit
    isplitl [Hdst]; · iexact Hdst
    isplitl [HO]; · iexact HO
    isplitl [HtS]; · iexact HtS
    isplitr; · iexact HrS
    isplitl [HtR]; · iexact HtR
    iexact HrR
  iintro ⟨HcS, HO⟩
  rw [wp_ret]
  imodintro
  iapply hΦ
  isplitl [HR]; · iexact HR
  isplitr; · iexact HI
  isplitr; · iexact HL
  isplitl [Ht]; · iexact Ht
  isplitl [HO]; · iexists Wt; iexact HO
  isplitl [HcS HatS Hrv Hcs]
  · isplitr [Hcs]
    · isplitr [Hrv]
      · isplitl [HcS]; · iexact HcS
        iexact HatS
      iexact Hrv
    iexact Hcs
  isplitr [His]; · iempintro
  iexact His

/-- A landing here is awaited. -/
theorem step_recv (n : ℕ) (hn : n < 372) (κ : Copy) (hev : ev n = .recv κ) (sM dM : Memref sig .tc .vmem S256x512 .bf16) (hN : dM.view.dmaCredit = N) (h1) (h2) :
    Tr c (St G K c R n) (Prog.lift (.waitDma2 (semOf false κ) sM dM h1 h2)) ⟨⟩ (St G K c R (n + 1)) := by
  obtain ⟨rfl, hv⟩ := of_recv hn hev
  intro Φ hΦ
  have e := recv_recv κ hv
  have ei := recv_item κ hv
  have eu : unstarted (tR κ + 1) = unstarted (tR κ) := unstarted_congr _ fun κ' => by
    by_cases h : κ' = κ
    · rw [h, e.2.2]
    · rw [(recv_other κ hv κ' h).1]
  unfold Prog.lift
  unfold St at hΦ ⊢
  rw [cells_at c (tR κ + 1) κ, items_at G c (tR κ + 1) (dst κ), cellsBut_next c (tR κ) κ (recv_other κ hv),
    itemsBut_next G c (tR κ) (dst κ) (recv_item_other κ hv), e.2.1, e.2.2, ei.2, eu] at hΦ
  rw [cells_at c (tR κ) κ, items_at G c (tR κ) (dst κ), e.1, ei.1]
  dsimp only [recvAt, itemAt] at hΦ ⊢
  rw [show posN κ = 0 + 1 by unfold posN; rw [hv]; rfl] at hΦ
  iintro ⟨HR, #HI, #HL, Ht, ⟨%Wt, HO⟩, ⟨⟨Hsd, Hc, Hat⟩, Hcs⟩, ⟨-, His⟩⟩
  ihave #HIr := (invs_key G K (false, κ) c) $$ HI
  iapply (Rounds.wp_wait_rest_token 𝒱₀ ER (agRd G) (c : Thread nD τ) none (κ := K (recvCell κ c))
      (wpE_waitDma2_eq (src := sM) (dst := dM) 𝒱₀ (c : Thread nD τ) none Set.univ) (Set.mem_univ _) () (O := debts (unstarted (tR κ)) c) (W := Wt)
      (R := 0) (m := 0) (T := ∅) ((Nat.zero_add _).trans (hN.trans (expect_key G c (false, κ) hv).symm))) $$ [HO Hc Hat]
  · isplitr; · iexact HIr
    isplitl [Hc]; · rw [hN]; iexact Hc
    isplitl [HO]; · iexact HO
    isplitr
    · iapply (mayWait_debts (unstarted (tR κ)) c (osem (false, κ)) (2 + κ.2.1.val) (le_of_eq (lv_recv κ c ())) (fun κ' hκ' => by
        have := recv_level κ hv κ' (Finset.mem_filter.mp hκ').2; omega))
      iexact HL
    iexact Hat
  iintro ⟨HO, Hat, -, Hpay⟩
  ihave Hit := (Entails.of_eq (rest_recv G c κ hv)) $$ Hpay
  rw [wp_ret]
  imodintro
  iapply hΦ
  isplitl [HR]; · iexact HR
  isplitr; · iexact HI
  isplitr; · iexact HL
  isplitl [Ht]; · iexact Ht
  isplitl [HO]; · iexists _; iexact HO
  isplitl [Hsd Hat Hcs]
  · isplitr [Hcs]
    · isplitl [Hsd]; · iexact Hsd
      iexact Hat
    iexact Hcs
  isplitl [Hit]; · iexact Hit
  iexact His

/-- A copy's send is awaited. -/
theorem step_sent (n : ℕ) (hn : n < 372) (κ : Copy) (hev : ev n = .sent κ) (sM dM : Memref sig .tc .vmem S256x512 .bf16) (hN : dM.view.dmaCredit = N) (h1) (h2) :
    Tr c (St G K c R n) (Prog.lift (.waitDma2 (semOf true κ) sM dM h1 h2)) ⟨⟩ (St G K c R (n + 1)) := by
  obtain ⟨rfl, hv⟩ := of_sent hn hev
  intro Φ hΦ
  have e := sent_send κ hv
  have ei := sent_item κ hv
  have eu : unstarted (tW κ + 1) = unstarted (tW κ) := unstarted_congr _ fun κ' => by
    by_cases h : κ' = κ
    · rw [h, e.1, e.2.1]; decide
    · rw [(sent_other κ hv κ' h).1]
  unfold Prog.lift
  unfold St at hΦ ⊢
  rw [cells_at c (tW κ + 1) κ, items_at G c (tW κ + 1) (src κ), cellsBut_next c (tW κ) κ (sent_other κ hv),
    itemsBut_next G c (tW κ) (src κ) (sent_item_other κ hv), e.2.1, e.2.2, ei.2, eu] at hΦ
  rw [cells_at c (tW κ) κ, items_at G c (tW κ) (src κ), e.1, ei.1]
  rw [sendAt_2] at hΦ
  rw [sendAt_1]
  dsimp only [itemAt] at hΦ ⊢
  rw [show posN κ = 0 + 1 by unfold posN; rw [hv]; rfl] at hΦ
  iintro ⟨HR, #HI, #HL, Ht, ⟨%Wt, HO⟩, ⟨⟨⟨Hc, Hat⟩, Hrv⟩, Hcs⟩, ⟨-, His⟩⟩
  ihave #HIr := (invs_key G K (true, κ) c) $$ HI
  iapply (Rounds.wp_wait_rest_token 𝒱₀ ER (agRd G) (c : Thread nD τ) none (κ := K (sendCell κ c))
      (wpE_waitDma2_eq (src := sM) (dst := dM) 𝒱₀ (c : Thread nD τ) none Set.univ) (Set.mem_univ _) () (O := debts (unstarted (tW κ)) c) (W := Wt)
      (R := 0) (m := 0) (T := ∅) ((Nat.zero_add _).trans (hN.trans (expect_key G c (true, κ) hv).symm))) $$ [HO Hc Hat]
  · isplitr; · iexact HIr
    isplitl [Hc]; · rw [hN]; iexact Hc
    isplitl [HO]; · iexact HO
    isplitr
    · iapply (mayWait_debts (unstarted (tW κ)) c (osem (true, κ)) 0 (le_of_eq (lv_send κ c ())) (fun κ' _ => by omega))
      iexact HL
    iexact Hat
  iintro ⟨HO, Hat, -, Hpay⟩
  ihave Hit := (Entails.of_eq (rest_send G c κ hv)) $$ Hpay
  rw [wp_ret]
  imodintro
  iapply hΦ
  isplitl [HR]; · iexact HR
  isplitr; · iexact HI
  isplitr; · iexact HL
  isplitl [Ht]; · iexact Ht
  isplitl [HO]; · iexists _; iexact HO
  isplitl [Hrv Hat Hcs]
  · isplitr [Hcs]
    · isplitl [Hat]; · iexact Hat
      iexact Hrv
    iexact Hcs
  isplitl [Hit]; · iexact Hit
  iexact His

/-- The body's operations move the state along the timetable. -/
theorem steps : Steps c (Sr G K c R) where
  table := step_table G K c R
  start r κ hev off off' inb inb' dv sS sR h4 h1 h2 h3 e1 e2 e3 e4 e5 := by
    subst e1; subst e2; subst e3; subst e4; subst e5
    exact tr_event G K c R r fun hn => step_start G K c R _ hn κ hev h4 h1 h2 h3
  recv r κ hev off off' inb inb' sR h1 h2 e := by
    subst e
    exact tr_event G K c R r fun hn => step_recv G K c R _ hn κ hev _ (M3.slice (Rect.unit (s := S32768x512) off' S256x512.size inb') (fun _ => rfl)) rfl h1 h2
  sent r κ hev off off' inb inb' sS h1 h2 e := by
    subst e
    exact tr_event G K c R r fun hn => step_sent G K c R _ hn κ hev _ (M3.slice (Rect.unit (s := S32768x512) off' S256x512.size inb') (fun _ => rfl)) rfl h1 h2

end Cert.KernelIdeal.AG

end
-- ==== Proof.Split.lean ====
/-
  The gathered buffer cut into places, and what the two ends of the timetable hold.

  Every sub-block of the buffer is either the device's own or filled by exactly one of the copies towards the device. So the
  buffer is its own block and one place per copy made; a half of the own block feeds each direction.
-/
module

public import proofs.«01_k».proof.Proof.State

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

/-! ## Which copy fills a sub-block -/

abbrev Sub : Type := Fin 32 × Fin 4

/-- The sub-block of device `c` that copy `κ` towards `c` fills. -/
def fills (c : Fin 32) (κ : Copy) : Sub := (blk κ.1 c (κ.2.1.val + 1), κ.2.2)

/-- The copy that fills a sub-block of device `c`, if it is not its own. -/
def filler (c : Fin 32) (t : Sub) : Option Copy :=
  let q := (pos t.1 - pos c).val
  if q = 0 then none
  else if q < 16 then some (false, Fin.ofNat 16 (q - 1), t.2)
  else if q = 16 then some (decide (t.2.val < 2), 15, t.2)
  else some (true, Fin.ofNat 16 (31 - q), t.2)

/-- The filler of what a copy made fills is that copy. -/
theorem filler_fills : ∀ c : Fin 32, ∀ κ : Copy, valid κ = true → filler c (fills c κ) = some κ := by decide +kernel
/-- A sub-block of another device's block is filled by a copy made. -/
theorem fills_filler : ∀ c : Fin 32, ∀ t : Sub, t.1 ≠ c →
    (match filler c t with | none => false | some κ => valid κ && decide (fills c κ = t)) = true := by decide +kernel
theorem fills_ne : ∀ c : Fin 32, ∀ κ : Copy, valid κ = true → (fills c κ).1 ≠ c := by decide +kernel

/-- Entailment term by term. -/
theorem sum_mono {I : Type} [Fintype I] {Φ Ψ : I → sProp 𝕄} (h : ∀ i, Φ i ⊢ Ψ i) : bigSep Finset.univ Φ ⊢ bigSep Finset.univ Ψ :=
  bigSep_mono fun i _ => h i

/-- A sum over all sub-blocks is one over the own block and one over the copies made. -/
theorem sum_subs {M : Type} [URA M] (c : Fin 32) (Φ : Sub → sProp M) :
    bigSep Finset.univ Φ = iprop((bigSep Finset.univ fun s : Fin 4 => Φ (c, s))
      ∗ bigSep Finset.univ fun κ : Copy => if valid κ = true then Φ (fills c κ) else iprop(emp)) := by
  rw [bigSep_filter_split Finset.univ (fun t : Sub => t.1 = c)]
  refine congrArg₂ BI.sep ?_ ?_
  · rw [show (Finset.univ.filter fun t : Sub => t.1 = c) = Finset.univ.image fun s : Fin 4 => (c, s) by
      ext ⟨b, s⟩; simp [eq_comm],
      bigSep_image_of_injOn (fun a _ b _ h => (Prod.ext_iff.mp h).2)]
  · rw [show (Finset.univ.filter fun t : Sub => ¬ t.1 = c) = (Finset.univ.filter fun κ : Copy => valid κ = true).image (fills c) by
      ext t
      simp only [Finset.mem_filter, Finset.mem_univ, true_and, Finset.mem_image]
      constructor
      · intro h
        have := fills_filler c t h
        cases hf : filler c t with
        | none => rw [hf] at this; exact absurd this Bool.false_ne_true
        | some κ => rw [hf] at this; simp at this; exact ⟨κ, this⟩
      · rintro ⟨κ, hκ, rfl⟩; exact fills_ne c κ hκ,
      bigSep_image_of_injOn (fun a ha b hb h => by
        have h1 := filler_fills c a (Finset.mem_filter.mp ha).2
        have h2 := filler_fills c b (Finset.mem_filter.mp hb).2
        rw [show fills c a = fills c b from h] at h1
        exact Option.some.inj (h1.symm.trans h2)),
      bigSep_filter]
    rfl

/-- A sum over all places is one over the device's own block, twice, and one over the copies. -/
theorem sum_items {M : Type} [URA M] (Φ : Item → sProp M) :
    bigSep Finset.univ Φ = iprop((bigSep Finset.univ fun s : Fin 4 => iprop(Φ (true, 0, s) ∗ Φ (false, 0, s)))
      ∗ bigSep Finset.univ fun κ : Copy => Φ (dst κ)) := by
  rw [bigSep_filter_split Finset.univ (fun i : Item => i.2.1 = 0)]
  refine congrArg₂ BI.sep ?_ ?_
  · rw [show (Finset.univ.filter fun i : Item => i.2.1 = 0)
        = (Finset.univ.image fun s : Fin 4 => ((true, 0, s) : Item)) ∪ Finset.univ.image fun s : Fin 4 => ((false, 0, s) : Item) from by decide,
      bigSep_union (by decide),
      bigSep_image_of_injOn (fun a _ b _ h => (Prod.ext_iff.mp (Prod.ext_iff.mp h).2).2),
      bigSep_image_of_injOn (fun a _ b _ h => (Prod.ext_iff.mp (Prod.ext_iff.mp h).2).2)]
    exact (bigSep_sep' _ _ _).symm
  · rw [show (Finset.univ.filter fun i : Item => ¬ i.2.1 = 0) = Finset.univ.image dst by
      ext ⟨d, h, s⟩
      simp only [Finset.mem_filter, Finset.mem_univ, true_and, Finset.mem_image]
      constructor
      · intro hh
        obtain ⟨k, rfl⟩ := Fin.exists_succ_eq.mpr hh
        exact ⟨(d, k, s), rfl⟩
      · rintro ⟨κ, hκ⟩
        have : κ.2.1.succ = h := (Prod.ext_iff.mp (Prod.ext_iff.mp hκ).2).1
        rw [← this]; exact Fin.succ_ne_zero _,
      bigSep_image_of_injOn (fun a _ b _ h => by
        obtain ⟨d, k, s⟩ := a; obtain ⟨d', k', s'⟩ := b
        have h' : (d, k.succ, s) = (d', k'.succ, s') := h
        simp only [Prod.mk.injEq, Fin.succ_inj] at h'
        rw [h'.1, h'.2.1, h'.2.2])]

/-! ## The buffer by places -/

variable (c : Dev nD)

theorem sub_disjoint (t t' : Sub) (h : t ≠ t') : Disjoint (sub t.1 t.2).view.set (sub t'.1 t'.2).view.set := by
  rw [Finset.disjoint_left]
  intro i h1 h2
  have e1 := (mem_sub t.1 t.2 i).mp h1
  have e2 := (mem_sub t'.1 t'.2 i).mp h2
  apply h
  obtain ⟨b, s⟩ := t; obtain ⟨b', s'⟩ := t'
  dsimp only at e1 e2
  have := s.isLt; have := s'.isLt
  rw [show b = b' from Fin.ext (by omega), show s = s' from Fin.ext (by omega)]

/-- The whole gathered buffer of a device. -/
def whole (f : Con F) : sProp 𝕄 := M3.view.loc (c : Thread nD τ) ↦{fullShare} f

/-- A sub-block's elements, as elements of device `c`'s gathered buffer. -/
def subSet (t : Sub) : Finset (Idx (M3.view.loc (c : Thread nD τ))) := (sub t.1 t.2).view.set
theorem mem_subSet (t : Sub) (i : S32768x512.Idx) : i ∈ (subSet c t : Finset S32768x512.Idx) ↔ (i 0).val / 256 = 4 * t.1.val + t.2.val := mem_sub t.1 t.2 i
theorem subSet_disjoint (t t' : Sub) (h : t ≠ t') : Disjoint (subSet c t) (subSet c t') := sub_disjoint t t' h

/-- The rows of one block. -/
def ownSet : Finset (Idx (M3.view.loc (c : Thread nD τ))) := Finset.univ.biUnion fun s : Fin 4 => subSet c (c, s)
/-- The device's own block. -/
def own (f : Con F) : sProp 𝕄 := M3.view.loc (c : Thread nD τ) ↦[ownSet c]{fullShare} f

theorem own_eq (f : Con F) : own (F := F) c f = bigSep Finset.univ fun s : Fin 4 => reg fullShare c c s f :=
  pointsTo_biUnion (ℓ := M3.view.loc (c : Thread nD τ)) Finset.univ (fun s : Fin 4 => subSet c (c, s))
    fun s _ s' _ h => subSet_disjoint c (c, s) (c, s') fun e => h (Prod.ext_iff.mp e).2

theorem subs_univ : (Finset.univ : Finset (Idx (M3.view.loc (c : Thread nD τ)))) = (Finset.univ : Finset Sub).biUnion (subSet c) := by
  refine (Finset.eq_univ_iff_forall.mpr fun i => Finset.mem_biUnion.mpr ?_).symm
  have hi : ((show S32768x512.Idx from i) 0).val < 32768 := ((show S32768x512.Idx from i) 0).isLt
  refine ⟨(⟨((show S32768x512.Idx from i) 0).val / 1024, by omega⟩, ⟨((show S32768x512.Idx from i) 0).val / 256 % 4, by omega⟩), Finset.mem_univ _, (mem_subSet c _ i).mpr ?_⟩
  show ((show S32768x512.Idx from i) 0).val / 256 = 4 * (((show S32768x512.Idx from i) 0).val / 1024) + ((show S32768x512.Idx from i) 0).val / 256 % 4
  omega

theorem whole_subs (f : Con F) : whole (F := F) c f = bigSep Finset.univ fun t : Sub => reg fullShare c t.1 t.2 f := by
  unfold whole
  rw [subs_univ]
  exact pointsTo_biUnion (ℓ := M3.view.loc (c : Thread nD τ)) Finset.univ (subSet c) fun t _ t' _ h => subSet_disjoint c t t' h

/-- The places the copies towards the device fill. -/
def filled (f : Con F) : sProp 𝕄 :=
  bigSep Finset.univ fun κ : Copy => if valid κ = true then reg fullShare c (blk κ.1 c (κ.2.1.val + 1)) κ.2.2 f else iprop(emp)

/-- The buffer is the own block and the places the copies fill. -/
theorem whole_eq (f : Con F) : whole (F := F) c f = iprop(own (F := F) c f ∗ filled (F := F) c f) := by
  rw [whole_subs, own_eq, sum_subs c]; rfl

/-! ## The first state and the last -/

variable (G : Con F)

theorem own_share (s : Fin 4) :
    (reg fullShare c c s G : sProp 𝕄) = iprop(piece G c (true, 0, s) ∗ piece G c (false, 0, s)) := by
  unfold piece
  rw [show shareOf (true, 0, s) = fullShare.left from rfl, show shareOf (false, 0, s) = fullShare.right from rfl]
  show reg fullShare c c s G = iprop(reg fullShare.left c (blk true c 0) s G ∗ reg fullShare.right c (blk false c 0) s G)
  rw [blk_zero, blk_zero]
  exact BI.Entails.antisymm (pointsTo_share (PosShare.mem_left_op_right fullShare)).1 (pointsTo_share (PosShare.mem_left_op_right fullShare)).2

theorem items_first : items G c 0 = own (F := F) c G := by
  unfold items
  rw [sum_items, own_eq, bigSep_congr (fun κ _ => show itemAt G c (held 0 (dst κ)) (dst κ) = BI.emp by
    rw [held_first, show decide ((dst κ).2.1.val = 0) = false from decide_eq_false (Nat.succ_ne_zero _)]; rfl), bigSep_emp_const]
  rw [bigSep_congr (fun s _ => own_share c G s)]
  rw [bigSep_congr (fun s _ => show iprop(itemAt G c (held 0 (true, 0, s)) (true, 0, s) ∗ itemAt G c (held 0 (false, 0, s)) (false, 0, s))
    = iprop(piece G c (true, 0, s) ∗ piece G c (false, 0, s)) by rw [held_first, held_first]; rfl)]
  exact BI.Entails.antisymm (sep_emp (PROP := sProp 𝕄)).1 (sep_emp (PROP := sProp 𝕄)).2

theorem items_last : items G c 372 = whole (F := F) c G := by
  rw [whole_eq]
  unfold items filled
  rw [sum_items, own_eq]
  refine congrArg₂ BI.sep ?_ ?_
  · exact bigSep_congr fun s _ => by rw [own_share, held_last, held_last]; rfl
  · exact bigSep_congr fun κ _ => by
      rw [held_last, show bringer (dst κ) = some κ from rfl]
      dsimp only
      cases h : valid κ
      · rfl
      · show piece G c (dst κ) = _
        rw [if_pos rfl]
        unfold piece
        rw [show shareOf (dst κ) = fullShare from if_neg (Nat.succ_ne_zero _)]; rfl

/-- All cells at the round they end at. -/
def closing : sProp 𝕄 := bigSep Finset.univ fun κ : Copy => iprop(atPos ER (sendCell κ c) (posN κ) ∅ 0 ∗ atPos ER (recvCell κ c) (posN κ) ∅ 0)

theorem cells_last : cells (F := F) c 372 = closing (F := F) c := by
  unfold cells closing
  exact bigSep_congr fun κ _ => by rw [stS_last, stR_last, sendAt_2]; rfl

/-- What a device holds of a copy's two cells when the body starts. -/
def preCell (κ : Copy) : sProp 𝕄 :=
  iprop((if valid κ = true then iprop(dutyTok ER (sendCell κ c) 0 false ∗ dutyTok ER (recvCell κ (peer κ.1 c)) 0 false ∗ cred (tallyAt (recvCell κ c) () N)) else iprop(emp))
    ∗ (atPos ER (sendCell κ c) 0 ∅ 0 ∗ reached ER (sendCell κ c) 0) ∗ (atPos ER (recvCell κ c) 0 ∅ 0 ∗ reached ER (recvCell κ c) 0))
def preCells : sProp 𝕄 := bigSep Finset.univ fun κ : Copy => preCell (F := F) c κ

/-- The receive cells of a device are open. -/
def opens : sProp 𝕄 := bigSep Finset.univ fun κ : Copy => reached ER (recvCell κ c) 0

theorem preCells_opens : preCells (F := F) c ⊢ iprop(preCells (F := F) c ∗ opens (F := F) c) := by
  unfold preCells opens
  rw [← bigSep_sep']
  refine sum_mono fun κ => ?_
  unfold preCell
  iintro ⟨H, H1, H2, #H3⟩
  isplitl [H H1 H2]
  · isplitl [H]; · iexact H
    isplitl [H1]; · iexact H1
    isplitl [H2]; · iexact H2
    iexact H3
  iexact H3

/-- What the two neighbours' signals bring: the landings of all copies made. -/
theorem pays_landings : iprop(barPay (F := F) true c ∗ barPay (F := F) false c)
    ⊢ bigSep Finset.univ fun κ : Copy => if valid κ = true then landing (F := F) κ c else iprop(emp) := by
  unfold barPay
  rw [← bigSep_sep']
  refine sum_mono fun κ => ?_
  obtain ⟨d, h, s⟩ := κ
  by_cases hv : valid (d, h, s) = true
  · rw [if_pos hv]
    cases d
    · rw [if_neg (fun hh => by simp at hh), if_pos ⟨hv, rfl⟩]
      iintro ⟨-, H⟩; iexact H
    · rw [if_pos ⟨hv, rfl⟩]
      iintro ⟨H, -⟩; iexact H
  · rw [if_neg hv]
    iintro -; iempintro

/-- What the device's own two signals take: the places the copies towards it fill, and its receive cells open. -/
theorem pays_make (f : Con F) : iprop(filled (F := F) c f ∗ opens (F := F) c)
    ⊢ iprop(barPay (F := F) true (peer false c) ∗ barPay (F := F) false (peer true c)) := by
  unfold barPay filled opens
  rw [← bigSep_sep', ← bigSep_sep']
  refine sum_mono fun κ => ?_
  obtain ⟨d, h, s⟩ := κ
  by_cases hv : valid (d, h, s) = true
  · rw [if_pos hv]
    have hb := blk_peer d (peer (!d) c) h
    rw [peer_peer] at hb
    have hl : iprop(reg fullShare c (blk d c (h.val + 1)) s f ∗ reached ER (recvCell (d, h, s) c) 0) ⊢ landing (F := F) (d, h, s) (peer (!d) c) := by
      unfold landing
      show _ ⊢ iprop((∃ f : Con F, reg fullShare (peer d (peer (!d) c)) (blk d (peer (!d) c) h.val) s f) ∗ reached ER (recvCell (d, h, s) (peer d (peer (!d) c))) 0)
      rw [peer_peer, ← hb]
      iintro ⟨H, Hr⟩
      isplitl [H]; · iexists f; iexact H
      iexact Hr
    cases d
    · rw [if_neg (fun hh => by simp at hh), if_pos ⟨hv, rfl⟩]
      iintro H
      isplitr; · iempintro
      iapply hl; iexact H
    · rw [if_pos ⟨hv, rfl⟩, if_neg (fun hh => by simp at hh)]
      iintro H
      isplitl [H]; · iapply hl; iexact H
      iempintro
  · rw [if_neg hv, if_neg (fun hh => hv hh.1), if_neg (fun hh => hv hh.1)]
    iintro -
    isplitr; · iempintro
    iempintro

/-- With the landings, the cells are as the timetable has them before its first event. -/
theorem cells_first : iprop(preCells (F := F) c ∗ bigSep Finset.univ fun κ : Copy => if valid κ = true then landing (F := F) κ c else iprop(emp))
    ⊢ cells (F := F) c 0 := by
  unfold preCells cells
  rw [← bigSep_sep']
  refine sum_mono fun κ => ?_
  unfold preCell
  rw [stS_first, stR_first]
  cases hv : valid κ
  · rw [if_neg (by decide), if_neg (by decide), if_neg (by decide), sendAt_2]
    dsimp only [recvAt]
    rw [show posN κ = 0 by unfold posN; rw [hv]; rfl]
    iintro ⟨⟨-, ⟨H1, -⟩, H2, -⟩, -⟩
    isplitl [H1] <;> iassumption
  · rw [if_pos rfl, if_pos rfl, if_pos rfl, sendAt_0]
    dsimp only [recvAt]
    iintro ⟨⟨⟨HtS, HtR, Hc⟩, ⟨HaS, HrS⟩, HaR, -⟩, Hl⟩
    isplitr [Hc HaR]
    · isplitl [HtS]; · iexact HtS
      isplitl [HtR]; · iexact HtR
      isplitl [Hl]; · iexact Hl
      isplitl [HaS]; · iexact HaS
      iexact HrS
    isplitl [Hc]; · iexact Hc
    iexact HaR

end Cert.KernelIdeal.AG

end
-- ==== Proof.Walk.lean ====
/-
  The body from its first started copy on, walked event by event: each operation is met with the place the timetable `ev`
  gives it.
-/
module

public import proofs.«01_k».proof.Proof.Base

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

attribute [local irreducible] Scalar.addi Scalar.subi Scalar.muli Scalar.remsi Scalar.divsi Scalar.indexCast Tr

/-- What the body's first part, up to the copies, returns: its table words and their side conditions. -/
abbrev headVal (c : Dev nD) : Σ' (v4 : Elt F .i32) (_ : k0_chk1 v4) (v8 : Elt F .i32) (_ : k0_chk3 v8) (v13 : Elt F .i32) (_ : k0_chk2 v13) (v28 : Elt F .i32), k0_chk4 v28 :=
  ⟨W (pos c), chk1_ok _, W (peer true c), chk3_ok _, W (peer false c), chk2_ok _, W (cyc (step true (pos c) 0)), chk_ok _ _ 0 rfl⟩

set_option maxHeartbeats 0 in
/-- The whole body, given its first part. -/
theorem walk_body (c : Dev nD) (S : ℕ → sProp 𝕄) (H : Steps c S) (P : sProp 𝕄)
    (head : Tr c P (k0_part1 (F := F) M0 (Memref.isWhole_whole _) M1 (Memref.isWhole_whole _) M2 (Memref.isWhole_whole _) M3 (Memref.isWhole_whole _)
      cc0_scratch0 cc0_scratch1 cc0_scratch2 cc0_scratch3) (headVal c) (S 372)) :
    Tr c P (cc0_body (F := F) M0 (Memref.isWhole_whole _) M1 (Memref.isWhole_whole _) M2 (Memref.isWhole_whole _) M3 (Memref.isWhole_whole _)
      cc0_scratch0 cc0_scratch1 cc0_scratch2 cc0_scratch3) ⟨⟩ (S 0) := by
  repeat first
    | exact head
    | apply tr_bind
    | apply tr_ret
    | (apply H.table; · exact idx_sub _ _ (by decide))
    | (apply H.table; · exact idx_add _ _ (by decide))
    | (apply tr_assume (h := _); · exact chk_ok _ _ 0 rfl)
    | (apply tr_assume (h := _); · exact chk_ok _ _ 1 rfl)
    | (apply tr_assume (h := _); · exact chk_ok _ _ 2 rfl)
    | (apply tr_assume (h := _); · exact chk_ok _ _ 3 rfl)
    | (apply H.start
       · exact rfl
       · exact off_sub _ _ _ rfl
       · exact off_sub _ _ _ rfl
       · exact dev_eq _ _
       · first | exact sem0_eq _ _ _ _ _ rfl rfl | exact sem2_eq _ _ _ _ _ rfl rfl
       · first | exact sem1_eq _ _ _ _ _ rfl rfl | exact sem3_eq _ _ _ _ _ rfl rfl)
    | (apply H.recv
       · exact rfl
       · first | exact sem1_eq _ _ _ _ _ rfl rfl | exact sem3_eq _ _ _ _ _ rfl rfl)
    | (apply H.sent
       · exact rfl
       · first | exact sem0_eq _ _ _ _ _ rfl rfl | exact sem2_eq _ _ _ _ _ rfl rfl)

end Cert.KernelIdeal.AG

end
-- ==== Proof.Head.lean ====
/-
  The body up to its first copy: the table words, the two barrier signals, the barrier wait, the store of the own block.

  A device first gives its neighbours the places of its buffer their copies fill, waits for theirs, and puts its own block in
  its place. After that it is in the state the timetable starts from; `body` is the whole body, from start to end.
-/
module

public import proofs.«01_k».proof.Proof.Split
public import proofs.«01_k».proof.Proof.Walk
public import Idealize.ShloMosaic.Lib.Pipeline.Value

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

/-! ## Rules -/

theorem tr_pre {c : Dev nD} {α : Type} {P P' Q : sProp 𝕄} {p : Prog (TpuEff nD τ sig (Elt F) Λ₀ .tc) α} {a : α}
    (h : P ⊢ P') (H : Tr c P' p a Q) : Tr c P p a Q := fun Φ hΦ => h.trans (H Φ hΦ)
theorem tr_post {c : Dev nD} {α : Type} {P Q Q' : sProp 𝕄} {p : Prog (TpuEff nD τ sig (Elt F) Λ₀ .tc) α} {a : α}
    (H : Tr c P p a Q) (h : Q ⊢ Q') : Tr c P p a Q' := fun Φ hΦ => H Φ (h.trans hΦ)
theorem tr_ex {c : Dev nD} {α β : Type} {P : β → sProp 𝕄} {Q : sProp 𝕄} {p : Prog (TpuEff nD τ sig (Elt F) Λ₀ .tc) α} {a : α}
    (H : ∀ b, Tr c (P b) p a Q) : Tr c iprop(∃ b, P b) p a Q := fun Φ hΦ => by
  iintro ⟨%b, H⟩
  iapply (H b Φ hΦ); iexact H
theorem tr_dev {c : Dev nD} {P : sProp 𝕄} : Tr c P (Prog.lift .deviceId : Prog (TpuEff nD τ sig (Elt F) Λ₀ .tc) (Dev nD)) c P := by
  intro Φ hΦ
  unfold Prog.lift
  rw [wp_deviceId, wp_ret]
  exact hΦ.trans (fupd_intro (PROP := sProp 𝕄))

/-! ## What stays in hand throughout -/

variable (G : Con F) (X : (cc0_stg2_0 : Ref sig .tc).ty.Contents (Elt F)) (K : GSem nD τ sig → ℕ) (c : Dev nD) (Y : sProp (MT nD τ sig Unit (Elt F) ℕ UU ℕ))

/-- The position table as staged, and the device's hold on it. -/
def ptab : (cc0_stg1_0 : Ref sig .tc).ty.Contents (Elt F) := fun i => W (pos (i 0))
def ptabPts : sProp 𝕄 := M1.view.loc (c : Thread nD τ) ↦{fullShare} (ptab (F := F))
/-- The device's own block as staged. -/
def blockPts : sProp 𝕄 := M2.view.loc (c : Thread nD τ) ↦{fullShare} X

/-- The invariants, the levels, the tables and the device's own block; `Y` is what else the device holds. -/
def Held : sProp 𝕄 := iprop(invs G K ∗ levAts L lv ∗ tabPts (F := F) c ∗ ptabPts (F := F) c ∗ blockPts (F := F) X c ∗ Y)

/-! ## The operations -/

theorem head_table (i : Fin 32) (off : Fin 1 → ℕ) (inb : ∀ a, off a + S1.size a ≤ S32.size a) (h1) (hp) (ho : off = tOff i) :
    Tr c (Held G X K c Y) (smemLoad M0 (Rect.unit (s := S32) off S1.size inb) h1 hp) (W (cyc i)) (Held G X K c Y) := by
  subst ho
  intro Φ hΦ
  unfold smemLoad smemLoadElt
  have hv : ((M0.access (Rect.unit (s := S32) (tOff i) S1.size inb)).read (Elt F) (tab (F := F))) (Shape.Idx.first (h1.symm ▸ Nat.one_pos)) = W (cyc i) := by
    show W (cyc _) = W (cyc i)
    congr 2
  unfold Held tabPts at hΦ ⊢
  iintro ⟨HI, HL, Ht, Hrest⟩
  iapply (wp_load_rect 𝒱₀ (c : Thread nD τ) none Set.univ (m := M0) (r := Rect.unit (s := S32) (tOff i) S1.size inb) (Finset.subset_univ _)) $$ Ht
  iintro Ht
  rw [hv, wp_ret]
  imodintro
  iapply hΦ
  isplitl [HI]; · iexact HI
  isplitl [HL]; · iexact HL
  isplitl [Ht]; · iexact Ht
  iexact Hrest

theorem head_pos (i : Fin 32) (off : Fin 1 → ℕ) (inb : ∀ a, off a + S1.size a ≤ S32.size a) (h1) (hp) (ho : off = tOff i) :
    Tr c (Held G X K c Y) (smemLoad M1 (Rect.unit (s := S32) off S1.size inb) h1 hp) (W (pos i)) (Held G X K c Y) := by
  subst ho
  intro Φ hΦ
  unfold smemLoad smemLoadElt
  have hv : ((M1.access (Rect.unit (s := S32) (tOff i) S1.size inb)).read (Elt F) (ptab (F := F))) (Shape.Idx.first (h1.symm ▸ Nat.one_pos)) = W (pos i) := by
    show W (pos _) = W (pos i)
    congr 2
  unfold Held ptabPts at hΦ ⊢
  iintro ⟨HI, HL, Htab, Ht, Hrest⟩
  iapply (wp_load_rect 𝒱₀ (c : Thread nD τ) none Set.univ (m := M1) (r := Rect.unit (s := S32) (tOff i) S1.size inb) (Finset.subset_univ _)) $$ Ht
  iintro Ht
  rw [hv, wp_ret]
  imodintro
  iapply hΦ
  isplitl [HI]; · iexact HI
  isplitl [HL]; · iexact HL
  isplitl [Htab]; · iexact Htab
  isplitl [Ht]; · iexact Ht
  iexact Hrest

/-- What a signal to the neighbour in direction `d` takes. -/
def sigTake (d : Bool) : sProp 𝕄 :=
  iprop(dutyTok ER (barCell (peer d c)) 0 (!d) ∗ barPay (F := F) (!d) (peer d c) ∗ reached ER (barCell (peer d c)) 0)
def owesAny (O : CellTallies nD τ sig Unit) : sProp 𝕄 := iprop(∃ Wt, owes (c : Thread nD τ) O Wt)

/-- A neighbour's barrier cell is signalled: the places its copies fill go with it. -/
theorem head_signal (d : Bool) (O : CellTallies nD τ sig Unit) (dv : Dev nD) (hd : dv = peer d c) :
    Tr c (Held G X K c iprop(owesAny (F := F) c (O + tallyAt (barCell (peer d c)) () 1) ∗ sigTake (F := F) c d ∗ Y)) (semSignalWord dv barS 1#32) ⟨⟩
      (Held G X K c iprop(owesAny (F := F) c O ∗ Y)) := by
  subst hd
  intro Φ hΦ
  unfold semSignalWord
  rw [show (1#32 : BitVec 32).toInt = ((1#32 : BitVec 32).toNat : Int) from rfl]
  unfold Held owesAny at hΦ ⊢
  unfold sigTake
  iintro ⟨#HI, HL, Htab, Hpt, Hb, ⟨%Wt, HO⟩, ⟨Htok, Hpay, Hr⟩, HY⟩
  ihave #HIb := (invs_bar G K (peer d c)) $$ HI
  iapply (Rounds.wp_signal 𝒱₀ ER (agRd G) (c : Thread nD τ) none (dst := (peer d c : Thread nD τ)) (κ := K (barCell (peer d c))) (r := 0) (d := !d)
      (by rw [duties_bar]; exact Finset.mem_univ _) (show (agRd G).amount (barCell (peer d c)) 0 (!d) = (1#32 : BitVec 32).toNat from rfl) ()
      (O₀ := O + tallyAt (barCell (peer d c)) () 1) O rfl (W := Wt)) $$ [HO Htok Hpay Hr]
  · isplitr; · iexact HIb
    isplitl [HO]; · iexact HO
    isplitl [Htok]; · iexact Htok
    isplitl [Hpay]; · rw [payload_bar]; iexact Hpay
    iexact Hr
  iintro HO
  rw [wp_ret]
  imodintro
  iapply hΦ
  isplitr; · iexact HI
  isplitl [HL]; · iexact HL
  isplitl [Htab]; · iexact Htab
  isplitl [Hpt]; · iexact Hpt
  isplitl [Hb]; · iexact Hb
  isplitl [HO]; · iexists Wt; iexact HO
  iexact HY

/-- The barrier wait: both neighbours' signals have come. -/
theorem head_wait (S : Finset Copy) :
    Tr c (Held G X K c iprop(owesAny (F := F) c (debts S c) ∗ cred (tallyAt (barCell c) () 2) ∗ atPos ER (barCell c) 0 ∅ 0 ∗ Y)) (semWaitWord barS 2#32) ⟨⟩
      (Held G X K c iprop(owesAny (F := F) c (debts S c) ∗ atPos ER (barCell c) 1 ∅ 0 ∗ (barPay (F := F) true c ∗ barPay (F := F) false c) ∗ Y)) := by
  intro Φ hΦ
  unfold semWaitWord
  rw [show (2#32 : BitVec 32).toInt = ((2#32 : BitVec 32).toNat : Int) from rfl]
  unfold Held owesAny at hΦ ⊢
  iintro ⟨#HI, #HL, Htab, Hpt, Hb, ⟨%Wt, HO⟩, Hc, Hat, HY⟩
  ihave #HIb := (invs_bar G K c) $$ HI
  iapply (Rounds.wp_wait_rest_token 𝒱₀ ER (agRd G) (c : Thread nD τ) none (κ := K (barCell c))
      (wpE_semWait_eq 𝒱₀ (c : Thread nD τ) none Set.univ) (Set.mem_univ _) () (O := debts S c) (W := Wt) (R := 0) (m := 0) (T := ∅)
      (by rw [expect_bar]; rfl)) $$ [HO Hc Hat]
  · isplitr; · iexact HIb
    isplitl [Hc]; · iexact Hc
    isplitl [HO]; · iexact HO
    isplitr
    · iapply (mayWait_debts S c (.reg barS) 1 (le_refl 1) (fun κ _ => by omega))
      iexact HL
    iexact Hat
  iintro ⟨HO, Hat, -, Hpay⟩
  ihave Hp := (Entails.of_eq (rest_bar G c)) $$ Hpay
  rw [wp_ret]
  imodintro
  iapply hΦ
  isplitr; · iexact HI
  isplitr; · iexact HL
  isplitl [Htab]; · iexact Htab
  isplitl [Hpt]; · iexact Hpt
  isplitl [Hb]; · iexact Hb
  isplitl [HO]; · iexists _; iexact HO
  isplitl [Hat]; · iexact Hat
  isplitl [Hp]; · iexact Hp
  iexact HY

theorem zero2 : (![0, 0] : Fin 2 → ℕ) = fun _ => 0 := funext fun a => by fin_cases a <;> rfl

/-- The device's own block is read. -/
theorem head_block (inb : ∀ a, (![0, 0] : Fin 2 → ℕ) a + S1024x512.size a ≤ S1024x512.size a) (h) :
    Tr c (Held G X K c Y) (Prog.lift (.load M2 (Rect.unit (s := S1024x512) ![0, 0] S1024x512.size inb).toLoadRect h)) X (Held G X K c Y) := by
  intro Φ hΦ
  unfold Prog.lift
  have hv : M2.view.readAt (Elt F) (Rect.unit (s := S1024x512) ![0, 0] S1024x512.size inb).toLoadRect X = X := Memref.readAt_unit_zero (Elt F) cc0_stg2_0 zero2 _ X
  unfold Held blockPts at hΦ ⊢
  iintro ⟨HI, HL, Htab, Hpt, Hb, HY⟩
  iapply (wp_load 𝒱₀ (c : Thread nD τ) none Set.univ (m := M2) (Finset.subset_univ _)) $$ Hb
  iintro Hb
  rw [hv, wp_ret]
  imodintro
  iapply hΦ
  isplitl [HI]; · iexact HI
  isplitl [HL]; · iexact HL
  isplitl [Htab]; · iexact Htab
  isplitl [Hpt]; · iexact Hpt
  isplitl [Hb]; · iexact Hb
  iexact HY

/-! ## The own block's place -/

/-- The offsets of the device's own block. -/
abbrev ownOff : Fin 2 → ℕ := ![1024 * c.val, 0]
theorem ownOff_inb : ∀ a, ownOff c a + S1024x512.size a ≤ S32768x512.size a := by
  intro a; fin_cases a
  · have : c.val < 32 := c.isLt
    show 1024 * c.val + 1024 ≤ 32768; omega
  · show 0 + 512 ≤ 512; omega
abbrev ownRect : Rect S32768x512 := Rect.unit (s := S32768x512) (ownOff c) S1024x512.size (ownOff_inb c)

theorem mem_ownSet (i : S32768x512.Idx) : i ∈ (ownSet c : Finset S32768x512.Idx) ↔ (i 0).val / 1024 = c.val := by
  have e : i ∈ (ownSet c : Finset S32768x512.Idx) ↔ ∃ s ∈ (Finset.univ : Finset (Fin 4)), i ∈ (subSet c (c, s) : Finset S32768x512.Idx) := Finset.mem_biUnion
  rw [e]
  constructor
  · rintro ⟨s, -, h⟩
    have := (mem_subSet c (c, s) i).mp h
    have := s.isLt
    dsimp only at *
    omega
  · intro h
    refine ⟨⟨(i 0).val / 256 % 4, by omega⟩, Finset.mem_univ _, (mem_subSet c _ i).mpr ?_⟩
    dsimp only
    omega

theorem mem_ownRect (i : S32768x512.Idx) : i ∈ (ownRect c).set ↔ (i 0).val / 1024 = c.val := by
  rw [Rect.mem_set_unit]
  constructor
  · intro h
    have := h 0
    have e1 : ownOff c 0 = 1024 * c.val := rfl
    have e2 : S1024x512.size 0 = 1024 := rfl
    rw [e1, e2] at this; omega
  · intro h a
    fin_cases a
    · have e1 : ownOff c 0 = 1024 * c.val := rfl
      have e2 : S1024x512.size 0 = 1024 := rfl
      show ownOff c 0 ≤ (i 0).val ∧ (i 0).val < ownOff c 0 + S1024x512.size 0
      rw [e1, e2]; omega
    · have := (i 1).isLt
      have e2 : S32768x512.size 1 = 512 := rfl
      show 0 ≤ (i 1).val ∧ (i 1).val < 0 + 512
      omega

theorem own_access : ((M3.access (ownRect c)).set : Finset S32768x512.Idx) = (ownSet c : Finset S32768x512.Idx) := by
  rw [show ((M3.access (ownRect c)).set : Finset S32768x512.Idx) = (ownRect c).set from View.set_slice_whole _ _]
  ext i
  rw [mem_ownRect, mem_ownSet]

/-- The own block's place is read; the value is not used. -/
theorem head_dead (f : Con F) (off : Fin 2 → ℕ) (ho : off = ownOff c) (inb : ∀ a, off a + S1024x512.size a ≤ S32768x512.size a) (h) :
    Tr c (Held G X K c iprop(own (F := F) c f ∗ Y)) (Prog.lift (.load M3 (Rect.unit (s := S32768x512) off S1024x512.size inb).toLoadRect h))
      ((M3.access (Rect.unit (s := S32768x512) off S1024x512.size inb)).read (Elt F) f) (Held G X K c iprop(own (F := F) c f ∗ Y)) := by
  subst ho
  intro Φ hΦ
  unfold Prog.lift
  unfold Held own at hΦ ⊢
  iintro ⟨HI, HL, Htab, Hpt, Hb, Ho, HY⟩
  iapply (wp_load_rect 𝒱₀ (c : Thread nD τ) none Set.univ (m := M3) (r := ownRect c) (S := ownSet c) (f := f) (subset_of_eq (own_access c))) $$ Ho
  iintro Ho
  rw [wp_ret]
  imodintro
  iapply hΦ
  isplitl [HI]; · iexact HI
  isplitl [HL]; · iexact HL
  isplitl [Htab]; · iexact Htab
  isplitl [Hpt]; · iexact Hpt
  isplitl [Hb]; · iexact Hb
  isplitl [Ho]; · iexact Ho
  iexact HY

/-- The own block is what the result has at its place. -/
def OwnBlock : Prop := ∀ j : S1024x512.Idx, X j = G ((ownRect c).emb j)

theorem own_stored (hX : OwnBlock G X c) (f : Con F) :
    ((M3.access (ownRect c)).loc (c : Thread nD τ) ↦[ownSet c]{fullShare} ((M3.access (ownRect c)).write (Elt F) f X Finset.univ) : sProp 𝕄) = own (F := F) c G := by
  unfold own
  refine pointsTo_congr fun i hi => ?_
  have hi' : i ∈ ((M3.access (ownRect c)).set : Finset S32768x512.Idx) := by rw [own_access]; exact hi
  obtain ⟨j, -, rfl⟩ := Finset.mem_map.mp hi'
  rw [View.write_emb_of_mem _ _ (Finset.mem_univ _)]
  exact hX j

/-- The own block is stored in its place. -/
theorem head_store (hX : OwnBlock G X c) (f : Con F) (off : Fin 2 → ℕ) (ho : off = ownOff c) (inb : ∀ a, off a + S1024x512.size a ≤ S32768x512.size a)
    (w : Vec F S1024x512 .bf16) (hw : w = X) (h1) (h2) :
    Tr c (Held G X K c iprop(own (F := F) c f ∗ Y)) (Prog.lift (.store M3 (Rect.unit (s := S32768x512) off S1024x512.size inb) w Finset.univ h1 h2)) ⟨⟩
      (Held G X K c iprop(own (F := F) c G ∗ Y)) := by
  subst ho; subst hw
  intro Φ hΦ
  unfold Prog.lift
  rw [← own_stored G w c hX f] at hΦ
  unfold Held own at *
  iintro ⟨HI, HL, Htab, Hpt, Hb, Ho, HY⟩
  iapply (wp_store 𝒱₀ (c : Thread nD τ) none Set.univ (m := M3) (r := ownRect c) (Mk := Finset.univ) (S := ownSet c) (f := f) (subset_of_eq (own_access c))) $$ Ho
  iintro Ho
  rw [wp_ret]
  imodintro
  iapply hΦ
  isplitl [HI]; · iexact HI
  isplitl [HL]; · iexact HL
  isplitl [Htab]; · iexact Htab
  isplitl [Hpt]; · iexact Hpt
  isplitl [Hb]; · iexact Hb
  isplitl [Ho]; · iexact Ho
  iexact HY

/-! ## The first part of the body -/

/-- What a device owes when the body starts: all its copies, and a signal to each neighbour. -/
def O₀ : CellTallies nD τ sig Unit := (debts (unstarted 0) c + tallyAt (barCell (peer true c)) () 1) + tallyAt (barCell (peer false c)) () 1

/-- What a device holds of its own barrier cell and of its neighbours'. -/
def preBar : sProp 𝕄 :=
  iprop(atPos ER (barCell c) 0 ∅ 0 ∗ cred (tallyAt (barCell c) () 2)
    ∗ (dutyTok ER (barCell (peer false c)) 0 true ∗ reached ER (barCell (peer false c)) 0)
    ∗ (dutyTok ER (barCell (peer true c)) 0 false ∗ reached ER (barCell (peer true c)) 0))

/-- What the rest of the body carries along. -/
def Rest : sProp 𝕄 := iprop(ptabPts (F := F) c ∗ blockPts (F := F) X c ∗ atPos ER (barCell c) 1 ∅ 0)

/-- What a device holds when the body starts. -/
def Pre : sProp 𝕄 :=
  iprop(∃ f : Con F, Held G X K c iprop(whole (F := F) c f ∗ owesAny (F := F) c (O₀ c) ∗ preBar (F := F) c ∗ preCells (F := F) c))

/-- The places the neighbours' copies fill are given out. -/
theorem pre_split (f : Con F) : Held G X K c iprop(whole (F := F) c f ∗ owesAny (F := F) c (O₀ c) ∗ preBar (F := F) c ∗ preCells (F := F) c)
    ⊢ Held G X K c iprop(owesAny (F := F) c (O₀ c) ∗ sigTake (F := F) c false ∗ sigTake (F := F) c true
      ∗ cred (tallyAt (barCell c) () 2) ∗ atPos ER (barCell c) 0 ∅ 0 ∗ own (F := F) c f ∗ preCells (F := F) c) := by
  rw [whole_eq]
  unfold Held preBar sigTake
  iintro ⟨HI, HL, Htab, Hpt, Hb, ⟨Hown, Hfill⟩, HO, ⟨Hat, Hc, ⟨Ht1, Hr1⟩, Ht2, Hr2⟩, Hcells⟩
  ihave ⟨Hcells, Hop⟩ := (preCells_opens (F := F) c) $$ Hcells
  ihave ⟨Hp1, Hp2⟩ := (pays_make (F := F) c f) $$ [Hfill Hop]
  · isplitl [Hfill] <;> iassumption
  isplitl [HI]; · iexact HI
  isplitl [HL]; · iexact HL
  isplitl [Htab]; · iexact Htab
  isplitl [Hpt]; · iexact Hpt
  isplitl [Hb]; · iexact Hb
  isplitl [HO]; · iexact HO
  isplitl [Ht1 Hp1 Hr1]
  · isplitl [Ht1]; · iexact Ht1
    isplitl [Hp1]; · iexact Hp1
    iexact Hr1
  isplitl [Ht2 Hp2 Hr2]
  · isplitl [Ht2]; · iexact Ht2
    isplitl [Hp2]; · iexact Hp2
    iexact Hr2
  isplitl [Hc]; · iexact Hc
  isplitl [Hat]; · iexact Hat
  isplitl [Hown]; · iexact Hown
  iexact Hcells

/-- After the barrier the own block's place stands first. -/
theorem wait_turn (f : Con F) (O : CellTallies nD τ sig Unit) :
    Held G X K c iprop(owesAny (F := F) c O ∗ atPos ER (barCell c) 1 ∅ 0 ∗ (barPay (F := F) true c ∗ barPay (F := F) false c) ∗ own (F := F) c f ∗ preCells (F := F) c)
    ⊢ Held G X K c iprop(own (F := F) c f ∗ owesAny (F := F) c O ∗ atPos ER (barCell c) 1 ∅ 0 ∗ (barPay (F := F) true c ∗ barPay (F := F) false c) ∗ preCells (F := F) c) := by
  unfold Held
  iintro ⟨HI, HL, Htab, Hpt, Hb, HO, Hat, Hp, Hown, Hcells⟩
  isplitl [HI]; · iexact HI
  isplitl [HL]; · iexact HL
  isplitl [Htab]; · iexact Htab
  isplitl [Hpt]; · iexact Hpt
  isplitl [Hb]; · iexact Hb
  isplitl [Hown]; · iexact Hown
  isplitl [HO]; · iexact HO
  isplitl [Hat]; · iexact Hat
  isplitl [Hp]; · iexact Hp
  iexact Hcells

/-- With the own block stored, the device is in the timetable's first state. -/
theorem first_state :
    Held G X K c iprop(own (F := F) c G ∗ owesAny (F := F) c (debts (unstarted 0) c) ∗ atPos ER (barCell c) 1 ∅ 0 ∗ (barPay (F := F) true c ∗ barPay (F := F) false c) ∗ preCells (F := F) c)
    ⊢ Sr G K c (Rest (F := F) X c) 372 := by
  unfold Sr
  rw [if_pos (le_refl _), show 372 - 372 = 0 from rfl]
  unfold Held St Rest owesAny
  rw [items_first]
  iintro ⟨HI, HL, Htab, Hpt, Hb, Hown, HO, Hat, Hp, Hcells⟩
  isplitl [Hpt Hb Hat]
  · isplitl [Hpt]; · iexact Hpt
    isplitl [Hb]; · iexact Hb
    iexact Hat
  isplitl [HI]; · iexact HI
  isplitl [HL]; · iexact HL
  isplitl [Htab]; · iexact Htab
  isplitl [HO]; · iexact HO
  isplitr [Hown]
  · iapply (cells_first (F := F) c)
    isplitl [Hcells]; · iexact Hcells
    iapply (pays_landings (F := F) c); iexact Hp
  iexact Hown

attribute [local irreducible] Scalar.addi Scalar.subi Scalar.muli Scalar.remsi Scalar.divsi Scalar.indexCast Tr

set_option maxHeartbeats 0 in
/-- The first part of the body: it returns its table words and leaves the timetable's first state. -/
theorem head (hX : OwnBlock G X c) :
    Tr c (Pre G X K c) (k0_part1 (F := F) M0 (Memref.isWhole_whole _) M1 (Memref.isWhole_whole _) M2 (Memref.isWhole_whole _) M3 (Memref.isWhole_whole _)
      cc0_scratch0 cc0_scratch1 cc0_scratch2 cc0_scratch3) (headVal c) (Sr G K c (Rest (F := F) X c) 372) := by
  refine tr_ex fun f => tr_pre (pre_split G X K c f) ?_
  unfold k0_part1
  refine tr_bind tr_dev ?_
  refine tr_bind (head_pos G X K c _ c _ _ _ _ (congrArg (fun n : ℕ => ![n]) (idx_self c))) ?_
  refine tr_bind (tr_assume (chk1_ok _)) ?_
  refine tr_bind (head_table G X K c _ _ _ _ _ _ (idx_add (pos c) 1 (by decide))) ?_
  refine tr_bind (tr_assume (chk3_ok (peer true c))) ?_
  refine tr_bind (head_table G X K c _ _ _ _ _ _ (idx_pre (pos c) 1 (by decide))) ?_
  refine tr_bind (tr_assume (chk2_ok (peer false c))) ?_
  refine tr_bind (head_signal G X K c _ false _ _ (dev_eq _ _)) ?_
  refine tr_bind (head_signal G X K c _ true _ _ (dev_eq _ _)) ?_
  refine tr_bind (tr_post (head_wait G X K c _ _) (wait_turn G X K c f _)) ?_
  refine tr_bind (head_block G X K c _ _ _) ?_
  refine tr_bind (head_dead G X K c _ f _ (congrArg (fun n : ℕ => ![n, 0]) (row_self c)) _ _) ?_
  refine tr_bind (tr_post (head_store G X K c _ hX f _ (congrArg (fun n : ℕ => ![n, 0]) (row_self c)) _ _ (shapeCast_self _ _) _ _) (first_state G X K c)) ?_
  refine tr_bind ((steps G K c _).table 372 _ _ _ _ _ (idx_sub (pos c) 0 (by decide))) ?_
  refine tr_bind (tr_assume (chk_ok _ _ 0 rfl)) ?_
  exact tr_ret

/-- What a device holds when the body ends. -/
def Post : sProp 𝕄 :=
  iprop(Rest (F := F) X c ∗ invs G K ∗ levAts L lv ∗ tabPts (F := F) c ∗ owesAny (F := F) c 0 ∗ closing (F := F) c ∗ whole (F := F) c G)

theorem debts_last : debts (unstarted 372) c = 0 := by
  rw [show unstarted 372 = ∅ from Finset.filter_eq_empty_iff.mpr fun κ _ => by rw [stS_last]; decide]
  rfl

theorem last_state : Sr G K c (Rest (F := F) X c) 0 ⊢ Post G X K c := by
  unfold Sr
  rw [if_pos (Nat.zero_le _), show 372 - 0 = 372 from rfl]
  unfold St Post owesAny
  rw [items_last, cells_last, debts_last]

/-- The whole body of a device: from the first hold to the last. -/
theorem body (hX : OwnBlock G X c) :
    Tr c (Pre G X K c) (cc0_body (F := F) M0 (Memref.isWhole_whole _) M1 (Memref.isWhole_whole _) M2 (Memref.isWhole_whole _) M3 (Memref.isWhole_whole _)
      cc0_scratch0 cc0_scratch1 cc0_scratch2 cc0_scratch3) ⟨⟩ (Post G X K c) :=
  tr_post (walk_body c (Sr G K c (Rest (F := F) X c)) (steps G K c _) (Pre G X K c) (head G X K c hX)) (last_state G X K c)

end Cert.KernelIdeal.AG

end
-- ==== Proof.Data.lean ====
/-
  The region's proof data: what each buffer holds when the kernel is entered and when it is left, and the body's obligation.

  `gath m` is the gathered array: block `d` of it is what device `d`'s argument held at launch.
-/
module

public import proofs.«01_k».proof.Proof.Head
public import proofs.«01_k».proof.Proof.Gen.KernelIdeal.Frame
public import Idealize.ShloMosaic.Lib.Pipeline.RegionTalk

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts
open Cert.KernelIdeal.Gen

variable {F : FTy → Type} [FloatOps F]

local notation "𝕄" => MT nD τ sig Unit (Elt F) ℕ UU ℕ

variable (m : (ℓ : Loc nD τ sig) → Buf (Elt F) ℓ)

/-! ## The contents -/

/-- Device `c`'s argument as launched. -/
def xv (c : Dev nD) : (main_arg0 : Ref sig .tc).ty.Contents (Elt F) := m ((c : Thread nD τ).loc main_arg0)

/-- Where index `i` of the gathered array lies in its block. -/
def srcIdx (i : S32768x512.Idx) : S1024x512.Idx :=
  fun | ⟨0, _⟩ => ⟨(i 0).val % 1024, Nat.mod_lt _ (by decide)⟩ | ⟨1, _⟩ => i 1

/-- The gathered array: the devices' arguments, one below the other. -/
def gath : Con F := fun i => xv m ⟨(i 0).val / 1024, Nat.div_lt_of_lt_mul (i 0).isLt⟩ (srcIdx i)

theorem own_block (c : Dev nD) : OwnBlock (gath m) (xv m c) c := by
  intro j
  have e0 : (((ownRect c).emb j) 0).val = 1024 * c.val + 1 * (j 0).val := rfl
  have e1 : (((ownRect c).emb j) 1).val = 0 + 1 * (j 1).val := rfl
  have hj : (j 0).val < 1024 := (j 0).isLt
  show xv m c j = xv m ⟨(((ownRect c).emb j) 0).val / 1024, _⟩ (srcIdx ((ownRect c).emb j))
  have hs : srcIdx ((ownRect c).emb j) = j := by
    funext a
    fin_cases a
    · exact Fin.ext (by show (((ownRect c).emb j) 0).val % 1024 = (j 0).val; rw [e0]; omega)
    · exact Fin.ext (by show (((ownRect c).emb j) 1).val = (j 1).val; rw [e1]; omega)
  rw [hs]
  congr 1
  exact Fin.ext (by show c.val = (((ownRect c).emb j) 0).val / 1024; rw [e0]; omega)

/-- Device `c`'s buffers at launch, when the region is entered, and when it is left. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v1) (gath m)

theorem rowMajor_one (i : S32.Idx) : S32.rowMajor i = i 0 := Fin.ext (Shape.rowMajor_val_one i)

theorem V₁_tab (c : Dev nD) : V₁ m c (Proc.devRef .tc main_c) = (tab (F := F)) := by
  unfold V₁
  after_results
  funext i
  show lit0 (S32.rowMajor i) = W (cyc (i 0))
  rw [rowMajor_one]
  exact lit0_eq (i 0)
theorem V₁_ptab (c : Dev nD) : V₁ m c (Proc.devRef .tc main_c_0) = (ptab (F := F)) := by
  unfold V₁
  after_results
  funext i
  show lit1 (S32.rowMajor i) = W (pos (i 0))
  rw [rowMajor_one]
  exact lit1_eq (i 0)
theorem V₁_arg (c : Dev nD) : V₁ m c (Proc.devRef .tc main_arg0) = xv m c := V_main_arg0 m c

theorem V₂_out (c : Dev nD) : V₂ m c (Proc.devRef .tc main_v1) = gath m := Function.update_self ..
theorem V₂_ne (c : Dev nD) (b : Ref sig .tc) (h : b ≠ main_v1) : V₂ m c (Proc.devRef .tc b) = V₁ m c (Proc.devRef .tc b) :=
  Function.update_of_ne (StableHlo.devRef_ne_of_ne h) ..

/-! ## The proof data -/

/-- What a device brings to the region besides its buffers, its counters opened. -/
def Xk (c : Dev nD) : sProp 𝕄 := iprop(∃ K, invs (gath m) K ∗ levAts L lv ∗ preBar (F := F) c ∗ preCells (F := F) c)
/-- What it takes from it: its barrier counter at zero. -/
def Yk (c : Dev nD) : sProp 𝕄 := semVal (barCell c) 0
/-- The copies' counters at zero. -/
def sems0 (c : Dev nD) : sProp 𝕄 := bigSep Finset.univ fun k : Key => semVal (keyCell k c) 0

/-- The region's proof data: the tables and the own block stay, the output window ends at the gathered array; the whole
    debt is owed at the start and none at the end. -/
def dat (c : Dev nD) : Dat τ (Elt F) Unit ℕ UU ℕ cfg0 c where
  A w := V₁ m c (Proc.devRef .tc (Pipeline.arrRef spec0 w))
  after w _ := match w with
    | ⟨0, _⟩ => tab
    | ⟨1, _⟩ => ptab
    | ⟨2, _⟩ => xv m c
    | ⟨3, _⟩ => gath m
  Φ t := if t.val = 0 then iprop(Xk m c ∗ ∃ r, prngReg c r) else iprop(Yk c ∗ sems0 c ∗ ∃ r, prngReg c r)
  q _ := fullShare
  owed t := if t.val = 0 then O₀ c else 0

theorem dat_first (c : Dev nD) : (dat m c).Φ 0 = iprop(Xk m c ∗ ∃ r, prngReg c r) := by
  show (if (0 : Fin (cfg0.N + 1)).val = 0 then iprop(Xk m c ∗ ∃ r, prngReg c r) else iprop(Yk c ∗ sems0 c ∗ ∃ r, prngReg c r)) = _
  exact if_pos rfl
theorem dat_last (c : Dev nD) : (dat m c).Φ (Fin.last _) = iprop(Yk c ∗ sems0 c ∗ ∃ r, prngReg c r) := by
  show (if (Fin.last cfg0.N).val = 0 then iprop(Xk m c ∗ ∃ r, prngReg c r) else iprop(Yk c ∗ sems0 c ∗ ∃ r, prngReg c r)) = _
  rw [Fin.val_last, if_neg (by rw [show cfg0.N = 1 from N_0]; decide)]
theorem owed_first (c : Dev nD) : (dat m c).owed 0 = O₀ c := by
  show (if (0 : Fin (cfg0.N + 1)).val = 0 then O₀ c else 0) = _
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem share_eq (c : Dev nD) (w : Fin cfg0.W) : (dat m c).share w = fullShare := by unfold Dat.share; split <;> rfl

/-! Each window's block is its whole array. -/

theorem blk_0 (f : (main_c : Ref sig .tc).ty.Contents (Elt F)) : ((cfg0.win 0).blk t0_0).view.read (Elt F) f = f :=
  funext fun y => congrArg f (funext fun a => Fin.ext (Window.rect_emb_val_of_index_zero (cfg0.win 0) t0_0 a rfl y))
theorem blk_1 (f : (main_c_0 : Ref sig .tc).ty.Contents (Elt F)) : ((cfg0.win 1).blk t0_0).view.read (Elt F) f = f :=
  funext fun y => congrArg f (funext fun a => Fin.ext (Window.rect_emb_val_of_index_zero (cfg0.win 1) t0_0 a rfl y))
theorem blk_2 (f : (main_arg0 : Ref sig .tc).ty.Contents (Elt F)) : ((cfg0.win 2).blk t0_0).view.read (Elt F) f = f :=
  funext fun y => congrArg f (funext fun a => Fin.ext (Window.rect_emb_val_of_index_zero (cfg0.win 2) t0_0 a rfl y))
theorem blk_3 (f : (main_v1 : Ref sig .tc).ty.Contents (Elt F)) : ((cfg0.win 3).blk t0_0).view.read (Elt F) f = f :=
  funext fun y => congrArg f (funext fun a => Fin.ext (Window.rect_emb_val_of_index_zero (cfg0.win 3) t0_0 a rfl y))

theorem before_0 (c : Dev nD) (d) : (dat m c).before 0 t0_0 d = (tab (F := F)) := by
  unfold Dat.before; rw [if_pos (fetch0_0 t0_0)]
  exact (blk_0 _).trans (V₁_tab m c)
theorem before_1 (c : Dev nD) (d) : (dat m c).before 1 t0_0 d = (ptab (F := F)) := by
  unfold Dat.before; rw [if_pos (fetch0_1 t0_0)]
  exact (blk_1 _).trans (V₁_ptab m c)
theorem before_2 (c : Dev nD) (d) : (dat m c).before 2 t0_0 d = xv m c := by
  unfold Dat.before; rw [if_pos (fetch0_2 t0_0)]
  exact (blk_2 _).trans (V₁_arg m c)

/-- The output array at the end of the region. -/
theorem arr_out (c : Dev nD) : (dat m c).arrAt 3 cfg0.N = gath m := by
  refine (dat m c).arrAt_eq_of_cover 3 (gath m) (fun t _ => ?_) fun i => ⟨t0_0, flush0_3 t0_0, ?_⟩
  · obtain rfl := fin_N0 t
    exact (blk_3 (gath m)).symm
  have h : ((cfg0.win 3).blk t0_0).view.emb i = i := by
    funext a
    refine Fin.ext ?_
    exact Window.rect_emb_val_of_index_zero (cfg0.win 3) t0_0 a rfl i
  have := ((cfg0.win 3).blk t0_0).view.emb_mem_set i
  rw [h] at this
  exact this

/-! ## The body's obligation -/

theorem owesAt_intro (c : Dev nD) (t : Fin (cfg0.N + 1)) (O : CellTallies nD τ sig Unit) (h : (dat m c).owed t = O) :
    owesAny (F := F) c O ⊢ (dat m c).owesAt () t := by
  unfold owesAny Dat.owesAt Pipeline.owesWithin Dat.bound
  rw [h, show (dat m c).recorded t = Set.univ from rfl]
  iintro ⟨%Wt, HO⟩
  iexists Wt
  isplitr; · ipureintro; exact fun _ _ => Or.inl trivial
  iexact HO
theorem owesAt_elim (c : Dev nD) (t : Fin (cfg0.N + 1)) (O : CellTallies nD τ sig Unit) (h : (dat m c).owed t = O) :
    (dat m c).owesAt () t ⊢ owesAny (F := F) c O := by
  unfold owesAny Dat.owesAt Pipeline.owesWithin
  rw [h]
  iintro ⟨%Wt, -, HO⟩
  iexists Wt; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

/-- A sum over the own semaphores, copy by copy. -/
theorem sum_keys {M : Type} [URA M] (Φ : Key → sProp M) :
    bigSep Finset.univ Φ = bigSep Finset.univ fun κ : Copy => iprop(Φ (true, κ) ∗ Φ (false, κ)) := by
  rw [bigSep_univ_prod, show (Finset.univ : Finset Bool) = {true, false} from rfl, bigSep_insert (by decide), bigSep_singleton]
  exact (bigSep_sep Finset.univ (fun κ : Copy => Φ (true, κ)) (fun κ : Copy => Φ (false, κ))).symm

/-- A persistent assertion goes to every term of a sum. -/
theorem sum_with {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ := bigSep_with_persistent fun i _ => h i

/-- At the end every cell is closed and gives its counter back, at zero. -/
theorem close_cells (G : Con F) (K : GSem nD τ sig → ℕ) (c : Dev nD) :
    iprop(invs G K ∗ closing (F := F) c ∗ atPos ER (barCell c) 1 ∅ 0) ⊢ (|={Set.univ}=> iprop(Yk c ∗ sems0 c) : sProp 𝕄) := by
  have hcells : iprop(invs G K ∗ closing (F := F) c)
      ⊢ bigSep Finset.univ fun k : Key => iprop(cellInv ER (agRd G) (K (keyCell k c)) (keyCell k c) ∗ atPos ER (keyCell k c) (posN k.2) ∅ 0) := by
    rw [sum_keys]
    exact sum_with fun κ => by
      iintro ⟨#HI, Hs, Hr⟩
      isplitl [Hs]
      · isplitr; · iapply (invs_key G K (true, κ) c); iexact HI
        iexact Hs
      · isplitr; · iapply (invs_key G K (false, κ) c); iexact HI
        iexact Hr
  have hdone (k : Key) (r : ℕ) (hr : posN k.2 ≤ r) : (agRd G).duties (keyCell k c) r = ∅ := by
    unfold posN at hr
    by_cases h : valid k.2 = true
    · rw [if_pos h] at hr; exact duties_later G _ r hr
    · exact duties_idle G c k (by simpa using h) r (Nat.zero_le r)
  iintro ⟨#HI, Hcl, Hbar⟩
  ihave #HIb := (invs_bar G K c) $$ HI
  imod (Rounds.cell_close ER (agRd G) (Set.mem_univ (K (barCell c))) id (duties_later G (barCell c))) $$ [Hbar] with Hb0
  · isplitr; · iexact HIb
    iexact Hbar
  imod (Rounds.cells_close ER (agRd G) Finset.univ (fun k : Key => keyCell k c) (fun k => K (keyCell k c)) (fun k _ => Set.mem_univ _)
      (fun k _ => id) (fun k => posN k.2) (fun k _ r hr => hdone k r hr)) $$ [Hcl] with Hs0
  · iapply hcells
    isplitr; · iexact HI
    iexact Hcl
  imodintro
  unfold Yk sems0
  isplitl [Hb0]; · iexact Hb0
  iexact Hs0

/-- What a device holds after the body, its counters read back. -/
def ran (c : Dev nD) : sProp 𝕄 :=
  iprop((Yk c ∗ sems0 c ∗ ∃ r, prngReg c r) ∗ owesAny (F := F) c 0 ∗ tabPts (F := F) c ∗ ptabPts (F := F) c ∗ blockPts (F := F) (xv m c) c
    ∗ whole (F := F) c (gath m))

/-- The run of the body on device `c`, its counters read back at the end. -/
theorem body_run (c : Dev nD) :
    iprop((Xk m c ∗ ∃ r, prngReg c r) ∗ owesAny (F := F) c (O₀ c) ∗ tabPts (F := F) c ∗ ptabPts (F := F) c ∗ blockPts (F := F) (xv m c) c ∗ (∃ f : Con F, whole (F := F) c f))
    ⊢ wp frame (wpE (defs₀ (F := F)) 𝒱₀ (c : Thread nD τ) none) Set.univ
        (cc0_body (F := F) M0 (Memref.isWhole_whole _) M1 (Memref.isWhole_whole _) M2 (Memref.isWhole_whole _) M3 (Memref.isWhole_whole _)
          cc0_scratch0 cc0_scratch1 cc0_scratch2 cc0_scratch3)
        (fun _ => ran m c) := by
  unfold ran
  unfold Xk
  iintro ⟨⟨⟨%K, HI, HL, Hbar, Hcells⟩, Hprng⟩, HO, Ht, Hp, Hb, ⟨%f, Hw⟩⟩
  iapply (wp_fupd frame (wpE (defs₀ (F := F)) 𝒱₀ (c : Thread nD τ) none) Set.univ)
  iapply (wp_mono frame (wpE (defs₀ (F := F)) 𝒱₀ (c : Thread nD τ) none) Set.univ
    (Q := fun _ => iprop(Post (gath m) (xv m c) K c ∗ ∃ r, prngReg c r)) (fun _ => ?close))
  case close =>
    unfold Post Rest
    iintro ⟨⟨⟨Hp, Hb, Hat⟩, HI, -, Ht, HO, Hcl, Hw⟩, Hprng⟩
    imod (close_cells (gath m) K c) $$ [HI Hcl Hat] with ⟨Hy, Hs⟩
    · isplitl [HI]; · iexact HI
      isplitl [Hcl] <;> iassumption
    imodintro
    isplitl [Hy Hs Hprng]
    · isplitl [Hy]; · iexact Hy
      isplitl [Hs] <;> iassumption
    isplitl [HO]; · iexact HO
    isplitl [Ht]; · iexact Ht
    isplitl [Hp]; · iexact Hp
    isplitl [Hb] <;> iassumption
  iapply (wp_frame_r frame (wpE (defs₀ (F := F)) 𝒱₀ (c : Thread nD τ) none) Set.univ)
  isplitr [Hprng]
  · iapply (body (gath m) (xv m c) K c (own_block m c) (fun _ => Post (gath m) (xv m c) K c) .rfl)
    unfold Pre Held
    iexists f
    isplitl [HI]; · iexact HI
    isplitl [HL]; · iexact HL
    isplitl [Ht]; · iexact Ht
    isplitl [Hp]; · iexact Hp
    isplitl [Hb]; · iexact Hb
    isplitl [Hw]; · iexact Hw
    isplitl [HO]; · iexact HO
    isplitl [Hbar] <;> iassumption
  iexact Hprng

/-- A whole buffer of device `c` at contents `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- What the region hands the body and what it takes back. -/
def given (c : Dev nD) : sProp 𝕄 :=
  iprop((dat m c).Φ t0_0.castSucc ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d)))
def taken (c : Dev nD) : sProp 𝕄 :=
  iprop((dat m c).Φ t0_0.succ ∗ (dat m c).owesAt () t0_0.succ
    ∗ stg c cc0_stg0_0 (tab (F := F)) ∗ stg c cc0_stg1_0 (ptab (F := F)) ∗ stg c cc0_stg2_0 (xv m c) ∗ stg c cc0_stg3_0 (gath m))

theorem stg_intro (c : Dev nD) (b : Ref sig .tc) (X : b.ty.Contents (Elt F)) : ((c : Thread nD τ).loc b ↦{fullShare} X : sProp 𝕄) ⊢ stg c b X := by
  unfold stg
  iintro H; iexists X
  isplitr; · ipureintro; rfl
  iexact H
theorem stg_elim (c : Dev nD) (b : Ref sig .tc) (X : b.ty.Contents (Elt F)) : stg c b X ⊢ ((c : Thread nD τ).loc b ↦{fullShare} X : sProp 𝕄) := by
  unfold stg
  iintro ⟨%f, %h, H⟩
  subst h
  iexact H

theorem last_eq : t0_0.succ = Fin.last cfg0.N := Fin.ext (by rw [Fin.val_last, show cfg0.N = 1 from N_0]; rfl)

theorem ran_taken (c : Dev nD) : ran m c ⊢ taken m c := by
  unfold ran taken tabPts ptabPts blockPts whole
  rw [last_eq, dat_last]
  iintro ⟨HY, HO, H0, H1, H2, H3⟩
  isplitl [HY]; · iexact HY
  isplitl [HO]; · iapply (owesAt_intro m c _ 0 (owed_last m c)); iexact HO
  isplitl [H0]; · iapply (stg_intro c cc0_stg0_0 (tab (F := F))); iexact H0
  isplitl [H1]; · iapply (stg_intro c cc0_stg1_0 (ptab (F := F))); iexact H1
  isplitl [H2]; · iapply (stg_intro c cc0_stg2_0 (xv m c)); iexact H2
  iapply (stg_intro c cc0_stg3_0 (gath m)); iexact H3

attribute [local irreducible] cc0_body

/-- The body's obligation on device `c`. -/
theorem body_obligation (c : Dev nD) : BodyObligation (dat m c) (defs₀ (F := F)) 𝒱₀ () Set.univ := fun t => by
  obtain rfl := fin_N0 t
  rw [bigSep_W0, bigSep_W0]
  simp only [owns_whole_eq]
  show given m c ⊢ wp frame (wpE (defs₀ (F := F)) 𝒱₀ (c : Thread nD τ) none) Set.univ
    (cc0_body (F := F) M0 (Memref.isWhole_whole _) M1 (Memref.isWhole_whole _) M2 (Memref.isWhole_whole _) M3 (Memref.isWhole_whole _)
      cc0_scratch0 cc0_scratch1 cc0_scratch2 cc0_scratch3) (fun _ => taken m c)
  have hfirst : t0_0.castSucc = (0 : Fin (cfg0.N + 1)) := rfl
  unfold given
  rw [hfirst, dat_first]
  iintro ⟨HX, HO, ⟨%d0, H0⟩, ⟨%d1, H1⟩, ⟨%d2, H2⟩, ⟨%d3, H3⟩⟩
  rw [before_0, before_1, before_2]
  iapply (wp_mono frame (wpE (defs₀ (F := F)) 𝒱₀ (c : Thread nD τ) none) Set.univ (Q := fun _ => ran m c) (fun _ => ran_taken m c))
  iapply (body_run m c)
  isplitl [HX]; · iexact HX
  isplitl [HO]; · iapply (owesAt_elim m c 0 (O₀ c) (owed_first m c)); iexact HO
  isplitl [H0]; · iapply (show stg c cc0_stg0_0 (tab (F := F)) ⊢ tabPts (F := F) c from stg_elim c _ _); iexact H0
  isplitl [H1]; · iapply (show stg c cc0_stg1_0 (ptab (F := F)) ⊢ ptabPts (F := F) c from stg_elim c _ _); iexact H1
  isplitl [H2]; · iapply (show stg c cc0_stg2_0 (xv m c) ⊢ blockPts (F := F) (xv m c) c from stg_elim c _ _); iexact H2
  iexists ((dat m c).before 3 t0_0 d3)
  iapply (show stg c cc0_stg3_0 ((dat m c).before 3 t0_0 d3) ⊢ whole (F := F) c ((dat m c).before 3 t0_0 d3) from stg_elim c _ _); iexact H3

end Cert.KernelIdeal.AG

end
-- ==== Proof.Region.lean ====
/-
  @main as its host operations and its one region, with what each takes and leaves.
-/
module

public import proofs.«01_k».proof.Proof.Data

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts
open Cert.KernelIdeal.Gen

variable {F : FTy → Type} [FloatOps F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := dat m c

/-! ## Opening the cells -/

/-- A device's share of the copies: the duties it pays and the credit it waits with. -/
def dues (c : Dev nD) : sProp 𝕄 := bigSep Finset.univ fun κ : Copy =>
  if valid κ = true then iprop(dutyTok ER (sendCell κ c) 0 false ∗ dutyTok ER (recvCell κ (peer κ.1 c)) 0 false ∗ cred (tallyAt (recvCell κ c) () N)) else iprop(emp)

/-- What a device brings to the region before its cells are opened. -/
def Tk (c : Dev nD) : sProp 𝕄 :=
  iprop(∃ K, invs (gath m) K ∗ preBar (F := F) c ∗ dues (F := F) c ∗ bigSep Finset.univ fun k : Key => openTok ER (keyCell k c))

theorem open_cells (c : Dev nD) : iprop(Tk m c ∗ Pipeline.ownSems0 osem c ∗ levAts L lv) ⊢ (|={Set.univ}=> Xk m c : sProp 𝕄) := by
  have hinv (K : GSem nD τ sig → ℕ) : iprop(invs (gath m) K ∗ bigSep Finset.univ fun k : Key => (openTok ER (keyCell k c) : sProp 𝕄))
      ⊢ bigSep Finset.univ fun k : Key => iprop(cellInv ER (agRd (gath m)) (K (keyCell k c)) (keyCell k c) ∗ openTok ER (keyCell k c)) :=
    sum_with fun k => by
      iintro ⟨#HI, Ho⟩
      isplitr; · iapply (invs_key (gath m) K k c); iexact HI
      iexact Ho
  have hpre : iprop(dues (F := F) c ∗ bigSep Finset.univ fun k : Key => iprop(atPos ER (keyCell k c) 0 ∅ 0 ∗ reached ER (keyCell k c) 0)) ⊢ preCells (F := F) c := by
    unfold dues preCells
    rw [sum_keys]
    refine (Entails.of_eq (bigSep_sep _ _ _).symm).trans (sum_mono fun κ => ?_)
    unfold preCell
    exact .rfl
  unfold Tk Xk
  iintro ⟨⟨%K, #HI, Hbar, Hd, Ho⟩, Hsem, HL⟩
  imod (Rounds.cells_open ER (agRd (gath m)) Finset.univ (fun k : Key => keyCell k c) (fun k => K (keyCell k c)) (fun k _ => Set.mem_univ _)) $$ [Ho Hsem] with Hcells
  · isplitl [Ho]
    · iapply (hinv K)
      isplitr; · iexact HI
      iexact Ho
    · unfold Pipeline.ownSems0; iexact Hsem
  imodintro
  iexists K
  isplitr; · iexact HI
  isplitl [HL]; · iexact HL
  isplitl [Hbar]; · iexact Hbar
  iapply hpre
  isplitl [Hd] <;> iassumption

/-! ## The region -/

theorem own_facts : Pipeline.OwnSemFacts spec0 (osem : Key → SemLoc sig) where
  isScoped := by decide +kernel
  inj := osem_inj
  disj := by decide +kernel

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (V : Valuation τ sig (Elt F)) : (StableHlo.held (c.tc : Thread nD τ) ∅ V : sProp 𝕄) = BI.emp := by
  unfold StableHlo.held; exact BI.bigSep_empty

theorem rin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ ∃ r, prngReg c r) from dat_first m c]
  iintro ⟨-, Hp, -, HX⟩
  isplitl [HX] <;> iassumption

theorem rout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Yk c ∗ sems0 c ∗ ∃ r, prngReg c r) from dat_last m c, held_none,
    show (Pipeline.scopedRest (Ix := Unit) (Name := ℕ) (U := UU) (Lvl := ℕ) (Val := Elt F) (Pipeline.pin (pcfgs (F := F)) adm 0).spec c : sProp 𝕄) = BI.emp from scopedRest0_eq c]
  unfold sems0 Pipeline.ownSems0
  iintro ⟨HY, Hs, Hp⟩
  isplitr; · iempintro
  isplitl [Hp]; · iexact Hp
  isplitr; · iempintro
  isplitl [Hs] <;> iassumption

theorem O₀_pos (c : Dev nD) (g : GSem nD τ sig) (u : Unit) (h : 0 < O₀ c g u) : u ∈ L g ∧ 0 < lv g u := by
  unfold O₀ at h
  rw [Pi.add_apply, Finsupp.add_apply, Pi.add_apply, Finsupp.add_apply] at h
  have hbar (c' : Dev nD) (h : 0 < tallyAt (barCell c') () 1 g u) : u ∈ L g ∧ 0 < lv g u := by
    rw [tallyAt_apply] at h
    split at h
    · next hg =>
      obtain ⟨rfl, -⟩ := hg
      exact ⟨by rw [L_tc]; exact Finset.mem_singleton_self _, Nat.one_pos⟩
    · exact absurd h (Nat.lt_irrefl 0)
  rcases Nat.add_pos_iff_pos_or_pos.mp h with h | h
  · rcases Nat.add_pos_iff_pos_or_pos.mp h with h | h
    · obtain ⟨κ, -, rfl⟩ := debts_mem _ c g u h
      exact ⟨by rw [L_tc]; exact Finset.mem_singleton_self _, by rw [lv_recv]; omega⟩
    · exact hbar _ h
  · exact hbar _ h

theorem owed_pos (c : Dev nD) (t : Fin ((Pipeline.pin (pcfgs (F := F)) adm 0).N + 1)) (g : GSem nD τ sig) (u : Unit) (h : 0 < (pdats m 0 c).owed t g u) :
    u ∈ L g ∧ 0 < lv g u := by
  have e : (pdats m 0 c).owed t = if t.val = 0 then O₀ c else 0 := rfl
  rw [e] at h
  split at h
  · exact O₀_pos c g u h
  · exact absurd h (Nat.lt_irrefl 0)

/-- The staging cells lie at the lowest level. -/
theorem lv_stage : ∀ (w : Fin 4) (s : Fin (spec0 w).nbuf), keyAt ((spec0 w).sem s) = none := by decide +kernel

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem arr_start (c : Dev nD) (w : Fin 4) : (pdats m 0 c).arrAt w 0 = V₁ m c (Proc.devRef .tc (Pipeline.arrRef (Pipeline.pin (pcfgs (F := F)) adm 0).spec w)) := rfl
theorem arr_end (c : Dev nD) : ∀ w : Fin 4, (pdats m 0 c).arrAt w (Pipeline.pin (pcfgs (F := F)) adm 0).N = V₂ m c (Proc.devRef .tc (Pipeline.arrRef (Pipeline.pin (pcfgs (F := F)) adm 0).spec w))
  | 0 => ((dat m c).arrAt_in 0 rfl _).trans (V₂_ne m c main_c (by decide)).symm
  | 1 => ((dat m c).arrAt_in 1 rfl _).trans (V₂_ne m c main_c_0 (by decide)).symm
  | 2 => ((dat m c).arrAt_in 2 rfl _).trans (V₂_ne m c main_arg0 (by decide)).symm
  | 3 => (arr_out m c).trans (V₂_out m c).symm

set_option backward.isDefEq.respectTransparency.types false in
/-- The kernel's region: entered with the whole debt, left with none. -/
def reg0 : ℝ𝕊 0 :=
  Pipeline.RegionSeg.ofTalk (pcfgs (F := F)) adm (pdats m) () defs₀ 𝒱₀ L lv 0 (osem : Key → SemLoc sig) own_facts
    ∅ ∅ (Finset.Subset.refl _) kitP rfl (fun c => (body_obligation m c).loose)
    (fun _ => 0) O₀ (fun c => (owed_first m c).trans (zero_add _).symm) (owed_last m) (fun _ => rfl) (fun c w => share_eq m c w)
    (V₁ m) (V₂ m) (fun _ b hb => absurd hb (by rw [Finset.sdiff_self]; exact Finset.notMem_empty b))
    (Tk m) Yk (Xk m) Yk (open_cells m) (rin m) (rout m)
    (fun c => by iintro H; imodintro; iexact H)
    (fun _ => 0)
    ⟨fun c w s => by rw [L_tc]; exact Finset.mem_singleton_self _,
      fun c w s => by show (match keyAt ((spec0 w).sem s) with | some (false, κ) => 2 + κ.2.1.val | _ => 0) ≤ 0; rw [lv_stage w s],
      fun c t g u h => owed_pos m c t g u h⟩
    (fun _ => iprop(emp))
    (arr_start m) (arr_end m)

end Cert.KernelIdeal.AG

end
-- ==== Proof.Launch.lean ====
/-
  The launch and the run: every cell's invariant made, every device's share dealt out, and what every run of @main ends with.
-/
module

public import proofs.«01_k».proof.Proof.Region
public import Idealize.ShloMosaic.Lib.Quiescent

@[expose] public section

set_option maxRecDepth 16384

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv

/-! ## The segments -/

/-- What rides along with the buffers up to the region. -/
def Ride (c : Dev nD) : sProp 𝕄 := iprop(Tk m c ∗ (∃ r, prngReg c r) ∗ owesAny (F := F) c (O₀ c))

/-- The host operations: the two tables are written. -/
def seg0 : ℍ := Pipeline.HostSeg.ofOps _ _ _ _ _ (Pipeline.ucRefs τ sig) hostOps0
  (fun op h => Pipeline.sub_ucRefs op (List.forall_iff_forall_mem.mp hostOps0_sub op h)) (fun op h => List.forall_iff_forall_mem.mp hostOps0_fresh op h) (V₀ m) (Ride m)

theorem refs_eq : (Pipeline.ucRefs τ sig) = Pipeline.arrRefs (τ := τ) spec0 := by decide +kernel

/-- The unscoped buffers are the four windows' arrays. -/
abbrev bufs (c : Dev nD) (V : Valuation τ sig (Elt F)) : sProp 𝕄 := StableHlo.held (c.tc : Thread nD τ) (Pipeline.ucRefs τ sig) V

theorem reg_pre (c : Dev nD) : iprop(bufs c (V₁ m c) ∗ Ride m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [zero_add, ← refs_eq, held_none]
  unfold Ride owesAny
  iintro ⟨Hh, HT, Hp, HO⟩
  isplitl [Hh]; · iexact Hh
  isplitl [Hp]; · iexact Hp
  isplitr; · isplitr <;> iempintro
  isplitl [HT] <;> iassumption

/-- What is left after the region. -/
abbrev Tₙ (c : Dev nD) : sProp 𝕄 := iprop(bufs c (V₂ m c) ∗ semVal (barCell c) 0)

theorem reg_post (c : Dev nD) : (reg0 m).post c ⊢ iprop(Tₙ m c ∗ ∃ Wd, owes (c : Thread nD τ) (0 : CellTallies nD τ sig Unit) Wd) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  rw [← refs_eq]
  unfold Yk
  iintro ⟨Hh, -, -, Hb, HO⟩
  isplitr [HO]
  · isplitl [Hh] <;> iassumption
  iexact HO

def segs : List (Pipeline.Seg (pcfgs (F := F)) adm (pdats m) () defs₀ 𝒱₀ L lv) := [.host (seg0 m), .region (reg0 m)]
theorem main_eq (c : Dev nD) : main (F := F) c = Pipeline.Seg.run (segs m) := main_segs adm (pdats m) () 𝒱₀ L lv (seg0 m) (reg0 m) rfl c

/-! ## The cells and the duties minted -/

def barEmb : Dev nD ↪ GSem nD τ sig := ⟨fun c => barCell c, fun _ _ h => congrArg (fun g : GSem nD τ sig => g.1.1) h⟩
theorem keyCell_inj {k k' : Key} {c c' : Dev nD} (h : keyCell k c = keyCell k' c') : c = c' ∧ k = k' :=
  ⟨congrArg (fun g : GSem nD τ sig => g.1.1) h, osem_inj (congrArg Prod.snd h)⟩
def keyEmb : Dev nD × Key ↪ GSem nD τ sig := ⟨fun ck => keyCell ck.2 ck.1, fun _ _ h => Prod.ext (keyCell_inj h).1 (keyCell_inj h).2⟩

abbrev barCells : Finset (GSem nD τ sig) := Finset.univ.map barEmb
abbrev keyCells : Finset (GSem nD τ sig) := Finset.univ.map keyEmb

theorem key_ne_bar (k : Key) (c c' : Dev nD) : keyCell k c ≠ barCell c' := fun h => nomatch congrArg Prod.snd h

theorem cells_disjoint : Disjoint (barCells : Finset (GSem nD τ sig)) keyCells := by
  rw [Finset.disjoint_left]
  rintro g h h'
  obtain ⟨c, -, rfl⟩ := Finset.mem_map.mp h
  obtain ⟨ck, -, h'⟩ := Finset.mem_map.mp h'
  exact key_ne_bar ck.2 ck.1 c h'

/-- A device's own duties: two at its barrier cell, one at each copy cell. -/
def dutyAt (x : Dev nD × (Bool ⊕ Key)) : GSem nD τ sig × ℕ × Bool := match x.2 with
  | .inl b => (barCell x.1, 0, b)
  | .inr k => (keyCell k x.1, 0, false)
theorem dutyAt_inj : Function.Injective dutyAt := by
  rintro ⟨c, x⟩ ⟨c', x'⟩ h
  rcases x with b | k <;> rcases x' with b' | k'
  · have h1 : c = c' := congrArg (fun t : GSem nD τ sig × ℕ × Bool => t.1.1.1) h
    have h2 : b = b' := congrArg (fun t : GSem nD τ sig × ℕ × Bool => t.2.2) h
    subst h1 h2; rfl
  · exact absurd (congrArg Prod.fst h).symm (key_ne_bar k' c' c)
  · exact absurd (congrArg Prod.fst h) (key_ne_bar k c c')
  · obtain ⟨h1, h2⟩ := keyCell_inj (congrArg Prod.fst h)
    subst h1 h2; rfl
def duties : Finset (GSem nD τ sig × ℕ × Bool) := Finset.univ.map ⟨dutyAt, dutyAt_inj⟩

/-- The launch element. -/
def u₀ : UU :=
  (initOf (Pipeline.cells (Pipeline.pin (pcfgs (F := F)) adm) cellOf_inj) (Pipeline.launchToks (Pipeline.pin (pcfgs (F := F)) adm) cellOf_inj),
    launchOf barCells keyCells duties)

/-- It is handed to the run on device 0. -/
def ghost0 (c : Dev nD) : sProp 𝕄 := if c = 0 then BI.own (ER (launchOf barCells keyCells duties)) else iprop(emp)
theorem ghost0_sum : bigSep Finset.univ (ghost0 (F := F)) = BI.own (ER (launchOf barCells keyCells duties)) := by
  rw [bigSep_univ_at _ (0 : Dev nD), bigSep_congr (s := Finset.univ.erase (0 : Dev nD)) (Ψ := fun _ => (BI.emp : sProp 𝕄))
      fun c hc => by unfold ghost0; rw [if_neg (Finset.ne_of_mem_erase hc)]; rfl, BI.bigSep_emp_const]
  unfold ghost0; rw [if_pos rfl]
  exact BI.equiv_iff.mp sep_emp

/-! ## Each duty's token goes to the device that pays it -/

/-- A device's own duties' tokens. -/
def minted (c : Dev nD) : sProp 𝕄 :=
  iprop((dutyTok ER (barCell c) 0 true ∗ dutyTok ER (barCell c) 0 false) ∗ bigSep Finset.univ fun κ : Copy => iprop(dutyTok ER (sendCell κ c) 0 false ∗ dutyTok ER (recvCell κ c) 0 false))
/-- The tokens of the duties a device pays. -/
def paid (c : Dev nD) : sProp 𝕄 :=
  iprop((dutyTok ER (barCell (peer false c)) 0 true ∗ dutyTok ER (barCell (peer true c)) 0 false)
    ∗ bigSep Finset.univ fun κ : Copy => iprop(dutyTok ER (sendCell κ c) 0 false ∗ dutyTok ER (recvCell κ (peer κ.1 c)) 0 false))

theorem duties_sum : bigSep duties (fun x => (dutyTok ER x.1 x.2.1 x.2.2 : sProp 𝕄)) = bigSep Finset.univ fun c : Dev nD => minted (F := F) c := by
  unfold duties
  rw [bigSep_map, bigSep_univ_prod]
  refine bigSep_congr fun c _ => ?_
  rw [bigSep_univ_sum, show (Finset.univ : Finset Bool) = {true, false} from rfl, bigSep_insert (by decide), bigSep_singleton, sum_keys]
  rfl

/-- A copy's sum over the devices may be taken at the devices it goes to. -/
theorem sum_around (Φ : Copy → Dev nD → sProp 𝕄) :
    (bigSep Finset.univ fun c : Dev nD => bigSep Finset.univ fun κ : Copy => Φ κ c) = bigSep Finset.univ fun c : Dev nD => bigSep Finset.univ fun κ : Copy => Φ κ (peer κ.1 c) := by
  let e : Dev nD × Copy ≃ Dev nD × Copy :=
    ⟨fun x => (peer x.2.1 x.1, x.2), fun x => (peer (!x.2.1) x.1, x.2), fun x => Prod.ext (peer_peer' x.2.1 x.1) rfl, fun x => Prod.ext (peer_peer x.2.1 x.1) rfl⟩
  rw [← bigSep_univ_prod (fun x : Dev nD × Copy => Φ x.2 x.1), bigSep_univ_equiv e, bigSep_univ_prod]
  rfl

theorem minted_paid : (bigSep Finset.univ fun c : Dev nD => minted (F := F) c) = bigSep Finset.univ fun c : Dev nD => paid (F := F) c := by
  unfold minted paid
  simp only [bigSep_sep']
  rw [bigSep_univ_equiv (ring false) (fun c : Dev nD => (dutyTok ER (barCell c) 0 true : sProp 𝕄)),
    bigSep_univ_equiv (ring true) (fun c : Dev nD => (dutyTok ER (barCell c) 0 false : sProp 𝕄)),
    sum_around (fun κ c => (dutyTok ER (recvCell κ c) 0 false : sProp 𝕄))]
  rfl

/-! ## The launch credit -/

theorem bar_apply (c c' : Dev nD) : (tallyAt (barCell c') () 1 : CellTallies nD τ sig Unit) (barCell c) () = if c = c' then 1 else 0 := by
  rw [tallyAt_apply]
  by_cases h : c = c'
  · subst h; rw [if_pos ⟨rfl, rfl⟩, if_pos rfl]
  · rw [if_neg (fun hh => h (congrArg (fun g : GSem nD τ sig => g.1.1) hh.1)), if_neg h]

theorem debts_bar (S : Finset Copy) (d c : Dev nD) : debts S d (barCell c) () = 0 := by
  by_contra h
  obtain ⟨κ, -, h⟩ := debts_mem S d (barCell c) () (Nat.pos_of_ne_zero h)
  exact key_ne_bar _ _ _ h.symm

theorem eq_peer (b : Bool) (c d : Dev nD) : (c = peer b d) = (d = peer (!b) c) := propext
  ⟨fun h => by rw [h, peer_peer'], fun h => by rw [h, peer_peer]⟩

theorem owed_bar (d c : Dev nD) : O₀ d (barCell c) () = (if d = peer false c then 1 else 0) + if d = peer true c then 1 else 0 := by
  unfold O₀
  rw [Pi.add_apply, Finsupp.add_apply, Pi.add_apply, Finsupp.add_apply, debts_bar, bar_apply, bar_apply, Nat.zero_add]
  simp only [eq_peer true c d, eq_peer false c d, Bool.not_true, Bool.not_false]

theorem debts_recv (κ : Copy) (h : valid κ = true) (d c : Dev nD) : debts (unstarted 0) d (recvCell κ c) () = if d = peer (!κ.1) c then N else 0 := by
  unfold debts
  rw [Finset.sum_apply, Finsupp.finset_sum_apply, Finset.sum_eq_single κ]
  · rw [tallyAt_apply]
    by_cases hc : c = peer κ.1 d
    · have hd : d = peer (!κ.1) c := (eq_peer κ.1 c d).mp hc
      rw [if_pos hd, if_pos ⟨congrArg (recvCell κ) hc, rfl⟩]
    · have hd : ¬d = peer (!κ.1) c := fun h => hc ((eq_peer κ.1 c d).mpr h)
      rw [if_neg hd, if_neg (fun hh => hc (keyCell_inj hh.1).1)]
  · intro κ' _ hne
    rw [tallyAt_apply, if_neg (fun hh => hne (congrArg Prod.snd (keyCell_inj hh.1).2).symm)]
  · intro hn
    refine absurd (Finset.mem_filter.mpr ⟨Finset.mem_univ κ, ?_⟩) hn
    rw [stS_first, if_pos h]

theorem bar_recv (κ : Copy) (c c' : Dev nD) : (tallyAt (barCell c') () 1 : CellTallies nD τ sig Unit) (recvCell κ c) () = 0 := by
  rw [tallyAt_apply, if_neg (fun hh => key_ne_bar _ _ _ hh.1)]

theorem owed_recv (κ : Copy) (h : valid κ = true) (d c : Dev nD) : O₀ d (recvCell κ c) () = if d = peer (!κ.1) c then N else 0 := by
  unfold O₀
  rw [Pi.add_apply, Finsupp.add_apply, Pi.add_apply, Finsupp.add_apply, debts_recv κ h, bar_recv, bar_recv]
  rfl

theorem launch_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_ite_eq' Finset.univ (peer false c) fun _ => 1,
    Finset.sum_ite_eq' Finset.univ (peer true c) fun _ => 1, if_pos (Finset.mem_univ _), if_pos (Finset.mem_univ _)]
theorem launch_recv (κ : Copy) (h : valid κ = true) (c : Dev nD) :
    tallyOn (recvCell κ c) (launchCredit (Pipeline.owing O₀) 0 (recvCell κ c)) = (tallyAt (recvCell κ c) () N : CellTallies nD τ sig Unit) := by
  unfold tallyAt; refine congrArg _ (Finsupp.ext fun u => ?_); cases u
  rw [Pipeline.launchCredit_owing, Finsupp.single_eq_same, Finset.sum_congr rfl fun d _ => owed_recv κ h d c, Finset.sum_ite_eq' Finset.univ (peer (!κ.1) c) fun _ => N,
    if_pos (Finset.mem_univ _)]

def recvEmb : Copy ↪ SemLoc sig := ⟨fun κ => osem (false, κ), fun _ _ h => congrArg Prod.snd (osem_inj h)⟩

/-- The credit a device waits with at its receive cells. -/
def income (c : Dev nD) : sProp 𝕄 := bigSep Finset.univ fun κ : Copy => if valid κ = true then cred (tallyAt (recvCell κ c) () N) else iprop(emp)

theorem credit (c : Dev nD) : (Pipeline.launchCred O₀ c : sProp 𝕄) ⊢ iprop(cred (tallyAt (barCell c) () 2) ∗ income (F := F) c) := by
  unfold Pipeline.launchCred income
  rw [bigSep_univ_at _ (SemLoc.reg barS), launch_bar]
  refine sep_mono_right ?_
  have hsub : Finset.univ.map recvEmb ⊆ Finset.univ.erase (SemLoc.reg barS : SemLoc sig) := fun sm hsm => by
    obtain ⟨κ, -, rfl⟩ := Finset.mem_map.mp hsm
    exact Finset.mem_erase.mpr ⟨(nomatch ·), Finset.mem_univ _⟩
  refine (bigSep_subset hsub).trans ?_
  rw [bigSep_map]
  refine sum_mono fun κ => ?_
  by_cases h : valid κ = true
  · rw [if_pos h, ← launch_recv κ h c]; exact .rfl
  · rw [if_neg h]; iintro -; iempintro

/-! ## What each device starts with -/

/-- Every cell's invariant, and that it stands at its first round. -/
def records (K : GSem nD τ sig → ℕ) : sProp 𝕄 := iprop((invs (gath m) K ∗ levAts L lv) ∗ bigSep Finset.univ fun c : Dev nD => reached ER (barCell c) 0)
instance records_persistent (K : GSem nD τ sig → ℕ) : Persistent (records m K) := by unfold records; infer_instance

/-- A device's own ghost state and credit. -/
def linear (c : Dev nD) : sProp 𝕄 :=
  iprop((atPos ER (barCell c) 0 ∅ 0 ∗ bigSep Finset.univ fun k : Key => openTok ER (keyCell k c)) ∗ paid (F := F) c ∗ cred (tallyAt (barCell c) () 2) ∗ income (F := F) c)
/-- A device's buffers, tally and random number register. -/
def bundle (c : Dev nD) : sProp 𝕄 := iprop(bufs c (V₀ m c) ∗ owes (c : Thread nD τ) (O₀ c) ∅ ∗ prngReg c (ρ c))
def T₀ (c : Dev nD) : sProp 𝕄 := iprop(bufs c (V₀ m c) ∗ Ride m c)

/-- The duties a device pays and the credit it waits with, the flows not run left out. -/
theorem dues_intro (c : Dev nD) :
    iprop((bigSep Finset.univ fun κ : Copy => iprop(dutyTok ER (sendCell κ c) 0 false ∗ dutyTok ER (recvCell κ (peer κ.1 c)) 0 false)) ∗ income (F := F) c) ⊢ dues (F := F) c := by
  unfold income dues
  rw [← bigSep_sep']
  refine sum_mono fun κ => ?_
  by_cases h : valid κ = true
  · rw [if_pos h, if_pos h]
    iintro ⟨⟨Hs, Hr⟩, Hc⟩
    isplitl [Hs]; · iexact Hs
    isplitl [Hr] <;> iassumption
  · rw [if_neg h, if_neg h]; iintro -; iempintro

theorem reached_at (c : Dev nD) : (bigSep Finset.univ fun c : Dev nD => (reached ER (barCell c) 0 : sProp 𝕄)) ⊢ reached ER (barCell c) 0 := bigSep_elim (Finset.mem_univ c)

theorem T₀_intro (K : GSem nD τ sig → ℕ) (c : Dev nD) : iprop(records m K ∗ (linear (F := F) c ∗ bundle m ρ c)) ⊢ T₀ m c := by
  unfold records linear bundle T₀ Ride Tk paid preBar owesAny
  iintro ⟨⟨⟨#Hinv, #HL⟩, #Hr⟩, ⟨⟨Hat, Hop⟩, ⟨⟨Hbt, Hbf⟩, Hd⟩, Hcb, Hin⟩, Hh, HO, Hp⟩
  isplitl [Hh]; · iexact Hh
  isplitr [Hp HO]
  · iexists K
    isplitr; · iexact Hinv
    isplitl [Hat Hcb Hbt Hbf]
    · isplitl [Hat]; · iexact Hat
      isplitl [Hcb]; · iexact Hcb
      isplitl [Hbt]
      · isplitl [Hbt]; · iexact Hbt
        iapply (reached_at (peer false c)) $$ Hr
      isplitl [Hbf]; · iexact Hbf
      iapply (reached_at (peer true c)) $$ Hr
    isplitl [Hd Hin]
    · iapply (dues_intro c)
      isplitl [Hd] <;> iassumption
    iexact Hop
  isplitl [Hp]
  · iexists ρ c; iexact Hp
  iexists ∅; iexact HO

/-- The barrier cell is the only unscoped one. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, bigSep_singleton]

theorem bar_sum (Φ : GSem nD τ sig → sProp 𝕄) : bigSep barCells Φ = bigSep Finset.univ fun c : Dev nD => Φ (barCell c) := bigSep_map ..
theorem key_sum (Φ : GSem nD τ sig → sProp 𝕄) : bigSep keyCells Φ = bigSep Finset.univ fun ck : Dev nD × Key => Φ (keyCell ck.2 ck.1) := bigSep_map ..
theorem cells_split (Φ : GSem nD τ sig → sProp 𝕄) : bigSep (barCells ∪ keyCells) Φ =
    iprop((bigSep Finset.univ fun c : Dev nD => Φ (barCell c)) ∗ bigSep Finset.univ fun ck : Dev nD × Key => Φ (keyCell ck.2 ck.1)) :=
  (bigSep_union cells_disjoint).trans (congrArg₂ BI.sep (bar_sum Φ) (key_sum Φ))
theorem start_bufs (c : Dev nD) : (unscopedBufs c (fun b => m ((c : Thread nD τ).loc b)) : sProp 𝕄) = bufs c (V₀ m c) := Pipeline.unscopedBufs_held c (V₀ m c)

theorem init :
    (iprop((bigSep Finset.univ fun c : Dev nD => iprop(unscopedBufs c (fun b => m ((c : Thread nD τ).loc b)) ∗ unscopedSems0 c ∗ owes (c : Thread nD τ) (O₀ c) ∅ ∗ Pipeline.launchCred O₀ c ∗ prngReg c (ρ c)
      ∗ ghost0 (F := F) c)) ∗ levAts L lv) : sProp 𝕄) ⊢ |={Set.univ}=> bigSep Finset.univ (T₀ m) := by
  simp only [bigSep_sep', ghost0_sum, unscopedSems0_eq, start_bufs]
  iintro ⟨⟨Hh, Hv, HO, Hc, Hp, Hu⟩, #HL⟩
  imod (Rounds.fund_launch ER (agRd (gath m)) cells_disjoint (fun g _ h => h) duties) $$ [Hv Hu] with ⟨%K, -, #Hinv, #Hr, Hat, Hop, Htok⟩
  · isplitl [Hv]
    · iapply (Entails.of_eq (bar_sum (fun g => (semVal g 0 : sProp 𝕄))).symm) $$ Hv
    · iexact Hu
  imodintro
  ihave #Hbk := (Entails.of_eq (cells_split (fun g => (cellInv ER (agRd (gath m)) (K g) g : sProp 𝕄)))) $$ Hinv
  ihave #Hr' := (Entails.of_eq (bar_sum (fun g => (reached ER g 0 : sProp 𝕄)))) $$ Hr
  ihave Hat' := (Entails.of_eq (bar_sum (fun g => (atPos ER g 0 ∅ 0 : sProp 𝕄)))) $$ Hat
  ihave Hop' := (Entails.of_eq ((key_sum (fun g => (openTok ER g : sProp 𝕄))).trans (bigSep_univ_prod _))) $$ Hop
  ihave Htok' := (Entails.of_eq ((duties_sum (F := F)).trans minted_paid)) $$ Htok
  iapply (show iprop(records m K ∗ bigSep Finset.univ fun c : Dev nD => iprop(linear (F := F) c ∗ bundle m ρ c)) ⊢ bigSep Finset.univ (T₀ m) from sum_with fun c => T₀_intro m ρ K c)
  isplitr
  · unfold records invs
    isplitr
    · isplitr; · iexact Hbk
      iexact HL
    iexact Hr'
  unfold linear bundle
  simp only [bigSep_sep']
  ihave Hc' := (sum_mono fun c => credit (F := F) c) $$ Hc
  simp only [bigSep_sep']
  icases Hc' with ⟨Hcb, Hin⟩
  isplitl [Hat' Hop' Htok' Hcb Hin]
  · isplitl [Hat' Hop']
    · isplitl [Hat'] <;> iassumption
    isplitl [Htok']; · iexact Htok'
    isplitl [Hcb] <;> iassumption
  isplitl [Hh]; · iexact Hh
  isplitl [HO] <;> iassumption

/-! ## The run -/

theorem unscoped_eq : ∀ sm : SemLoc sig, sm.isScoped .tc = false → sm = SemLoc.reg barS := by decide +kernel

/-- The four buffers left, one by one. -/
theorem bufs_eq (c : Dev nD) (W : Valuation τ sig (Elt F)) : bufs c W =
    iprop(((c : Thread nD τ).loc main_arg0 ↦{fullShare} W (Proc.devRef .tc main_arg0)) ∗ ((c : Thread nD τ).loc main_v1 ↦{fullShare} W (Proc.devRef .tc main_v1))
      ∗ ((c : Thread nD τ).loc main_c ↦{fullShare} W (Proc.devRef .tc main_c)) ∗ ((c : Thread nD τ).loc main_c_0 ↦{fullShare} W (Proc.devRef .tc main_c_0))) := by
  unfold bufs StableHlo.held
  rw [bigSep_eq_bigSepL_of_eq [Proc.devRef .tc main_arg0, Proc.devRef .tc main_v1, Proc.devRef .tc main_c, Proc.devRef .tc main_c_0] (by decide +kernel) (by decide +kernel)]
  rfl

/-- The two buffers the claims read. -/
theorem held_out (c : Dev nD) : bufs c (V₂ m c) ⊢
    iprop(((c : Thread nD τ).loc main_arg0 ↦{fullShare} xv m c) ∗ ((c : Thread nD τ).loc main_v1 ↦{fullShare} gath m)) := by
  rw [bufs_eq, V₂_out, V₂_ne m c main_arg0 (by decide +kernel), V₁_arg]
  iintro ⟨Hx, Hy, -⟩
  isplitl [Hx] <;> iassumption

set_option backward.isDefEq.respectTransparency.types false in
/-- Every run of @main on every mesh ends: every device's result is the gathered array, every argument and every cell is as it was. -/
theorem run_main : θ_run (defs (F := F)) (onTc (τ := τ) main) ⟨m, fun _ => 0, ρ⟩
    (fun r => (∀ c : Dev nD, r.2.mem ((c : Thread nD τ).loc main_arg0) = xv m c ∧ r.2.mem ((c : Thread nD τ).loc main_v1) = gath m) ∧ r.2.sem = fun _ => 0) := by
  refine Pipeline.θ_run_regions_kit_sems (pcfgs (F := F)) adm (pdats m) () cellOf_inj EP defs₀ 𝒱₀ L lv m ρ main (segs m) (fun c Q => by rw [main_eq m c])
    (by simp only [segs, Pipeline.Seg.pipes_host, Pipeline.Seg.pipes_region, Pipeline.Seg.pipes_nil]; decide) (O₀ := O₀) (hL := L_of_ne) (G := ghost0) (u₀ := u₀ (F := F)) (hu₀ := ?_)
    (T₀ := T₀ m) (Tₙ := Tₙ m) (hch := ⟨fun c => .rfl, fun c => reg_pre m c, fun c => reg_post m c⟩) (hinit := init m ρ)
    (QY := fun c s => (s.mem ((c : Thread nD τ).loc main_arg0) = xv m c ∧ s.mem ((c : Thread nD τ).loc main_v1) = gath m) ∧ s.sem (barCell c) = 0) (hfin := fun c s' => ?_)
    (hQ := fun s h hs => ⟨fun c => (h c).1, sem_eq_zero hs fun c sm hsm => by obtain rfl := unscoped_eq sm hsm; exact (h c).2⟩)
  · unfold u₀
    iintro Hu
    ihave H := (ownU_pair _ _) $$ Hu
    icases H with ⟨HP, HX⟩
    imodintro
    isplitl [HP]; · iexact HP
    rw [ghost0_sum]; iexact HX
  · refine (sep_mono_left (sep_mono_left (held_out m c))).trans ?_
    iintro ⟨⟨⟨Hx, Hy⟩, Hb0⟩, HSI⟩
    icombine HSI Hx gives %hx
    icombine HSI Hy gives %hy
    icombine HSI Hb0 gives %hb
    imodintro
    isplitr
    · ipureintro
      exact ⟨⟨Buf.eq_of_forall_mem_univ hx, Buf.eq_of_forall_mem_univ hy⟩, by simpa using hb⟩
    iexact HSI

end Cert.KernelIdeal.AG

end
-- ==== Proof.Same.lean ====
/-
  The kernel and its idealised form are one text: whatever is shown of the runs of the one, at the bit-level floats, holds of the
  other's.
-/
module

public import proofs.«01_k».proof.Defs
public import proofs.«01_k».proof.Proof.Gen.Kernel
public import proofs.«01_k».proof.Proof.Gen.KernelIdeal

@[expose] public section

set_option maxRecDepth 100000

noncomputable section

namespace Cert.Same

open Idealize.ShloMosaic
open Idealize.ShloMosaic.TcCoe
open Idealize.SL.Sem

set_option maxHeartbeats 0 in
/-- The two programs have one kernel body. -/
theorem body_eq : @Cert.Kernel.cc0_body Bits _ = @Cert.KernelIdeal.cc0_body Bits _ := rfl

attribute [local irreducible] Cert.KernelIdeal.cc0_body Cert.Kernel.cc0_body

/-- They have one table of kernel bodies. -/
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext ℓ x
  obtain rfl : ℓ = (0 : Fin 1) := Subsingleton.elim (α := Fin 1) _ _
  obtain ⟨t, s⟩ := x
  rfl

theorem defs_eq : Cert.Kernel.defs (F := Bits) = Cert.KernelIdeal.defs (F := Bits) := by
  unfold Cert.Kernel.defs Cert.KernelIdeal.defs
  rw [defs₀_eq]; rfl

/-- What every run of the idealised program does at the bit-level floats, every run of the kernel does. -/
theorem run_eq (s : MemSt Cert.KernelIdeal.nD Cert.KernelIdeal.τ Cert.KernelIdeal.sig (Elt Bits)) (Q)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  rw [defs_eq]
  exact h

end Cert.Same

end
-- ==== Proof.Value.lean ====
/-
  The value: cut into the devices' blocks and gathered again, an array is itself; and the reference's run.
-/
module

public import proofs.«01_k».proof.Proof.Data
public import proofs.«01_k».proof.Proof.Gen.ReferenceIdeal
public import Idealize.ShloMosaic.Lib.Layout
public import Idealize.ShloMosaic.Lib.StableHlo.Run
public import Idealize.ShloMosaic.Lib.Quiescent

@[expose] public section

noncomputable section

namespace Cert.KernelIdeal.AG

open Idealize.ShloMosaic Idealize.ShloMosaic.TcCoe Idealize.SL.Sem
open Cert.KernelIdeal Cert.KernelIdeal.Gen

/-- Where each device's argument is its block of `x`, the gathered array is `x`. -/
theorem gath_whole {F : FTy → Type} [FloatOps F] (m : (ℓ : Loc nD τ sig) → Buf (Elt F) ℓ) (x : Con F)
    (h : ∀ c : Dev nD, m ((c : Thread nD τ).loc main_arg0) = Layout.block ⟨2, ![1024, 512]⟩ ⟨2, ![32768, 512]⟩ 0 32 c x) : gath m = x := by
  funext i
  refine (congrFun (h ⟨(i 0).val / 1024, _⟩) (srcIdx i)).trans ?_
  refine congrArg x (funext fun b => Fin.ext ?_)
  fin_cases b
  · show (i 0).val / 1024 * 1024 + (i 0).val % 1024 = (i 0).val
    omega
  · rfl

/-- The reference has no operations: every run of it ends at once, nothing changed. -/
theorem ref_run {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl) (fun _ => trivial) m ρ)

end Cert.KernelIdeal.AG

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel ends with its arguments unchanged and every semaphore counter at zero: its body is the idealized kernel's, whose run is over any float values. -/
theorem frame_kernel : Cert.quiescent_Kernel := fun m g _ =>
  Cert.Same.run_eq _ _ ((θ_run (Cert.KernelIdeal.defs (F := Bits)) _ _).mono (fun _ h => ⟨fun c => (h.1 c).1, h.2⟩) (Cert.KernelIdeal.AG.run_main (F := Bits) m g))

/-- So does the idealized kernel. -/
theorem frame_kernelIdeal : Cert.quiescent_KernelIdeal := fun m g _ =>
  (θ_run (Cert.KernelIdeal.defs (F := Ideal)) _ _).mono (fun _ h => ⟨fun c => (h.1 c).1, h.2⟩) (Cert.KernelIdeal.AG.run_main (F := Ideal) m g)

/-- And the reference, which does nothing. -/
theorem frame_referenceIdeal : Cert.quiescent_ReferenceIdeal := fun m g _ => Cert.KernelIdeal.AG.ref_run m g

/-- Every device of the idealized kernel ends with the whole array, which is the reference's result. -/
theorem algebraic : Cert.algebraic_KernelIdeal_ReferenceIdeal := fun m g m' g' _ hm =>
  ⟨m' ((0 : Dev Cert.ReferenceIdeal.nD).tc.loc Cert.ReferenceIdeal.main_arg0),
    (θ_run (Cert.KernelIdeal.defs (F := Ideal)) _ _).mono (fun _ h c => ⟨(h.1 c).2.trans (Cert.KernelIdeal.AG.gath_whole m _ hm), (h.1 c).1⟩) (Cert.KernelIdeal.AG.run_main (F := Ideal) m g),
    (θ_run (Cert.ReferenceIdeal.defs (F := Ideal)) _ _).mono (fun _ h => ⟨h.1 0, h.1 0⟩) (Cert.KernelIdeal.AG.ref_run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
